-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2 = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite [hPre_finite : Cert.Pre_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).1 = (fun _ => 1#1)
    ∧ (Cert.Pre_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))).2 = (fun _ => 1#1)

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdIdeal_finite_memory [hPre_finite_memory : Cert.Pre_finite_memory.Facts] (m : (ℓ : Loc Cert.XattnFwdIdeal.nD Cert.XattnFwdIdeal.τ Cert.XattnFwdIdeal.sig) → Buf (Elt Ideal) ℓ) : Prop :=
  ∀ c : Dev Cert.XattnFwdIdeal.nD,
    (Cert.Pre_finite_memory.fn (F := Ideal) (m ((c.tc : Thread Cert.XattnFwdIdeal.nD Cert.XattnFwdIdeal.τ).loc Cert.XattnFwdIdeal.main_arg0)) (m ((c.tc : Thread Cert.XattnFwdIdeal.nD Cert.XattnFwdIdeal.τ).loc Cert.XattnFwdIdeal.main_arg1))).1 = (fun _ => 1#1)
    ∧ (Cert.Pre_finite_memory.fn (F := Ideal) (m ((c.tc : Thread Cert.XattnFwdIdeal.nD Cert.XattnFwdIdeal.τ).loc Cert.XattnFwdIdeal.main_arg0)) (m ((c.tc : Thread Cert.XattnFwdIdeal.nD Cert.XattnFwdIdeal.τ).loc Cert.XattnFwdIdeal.main_arg1))).2 = (fun _ => 1#1)

def Pre_XattnFwdRefIdeal (m : (ℓ : Loc Cert.XattnFwdRefIdeal.nD Cert.XattnFwdRefIdeal.τ Cert.XattnFwdRefIdeal.sig) → Buf (Elt Ideal) ℓ) : Prop :=
  True

def Pre_XattnFwdRefIdeal_finite_memory [hPre_finite_memory : Cert.Pre_finite_memory.Facts] (m : (ℓ : Loc Cert.XattnFwdRefIdeal.nD Cert.XattnFwdRefIdeal.τ Cert.XattnFwdRefIdeal.sig) → Buf (Elt Ideal) ℓ) : Prop :=
  ∀ c : Dev Cert.XattnFwdRefIdeal.nD,
    (Cert.Pre_finite_memory.fn (F := Ideal) (m ((c.tc : Thread Cert.XattnFwdRefIdeal.nD Cert.XattnFwdRefIdeal.τ).loc Cert.XattnFwdRefIdeal.main_arg0)) (m ((c.tc : Thread Cert.XattnFwdRefIdeal.nD Cert.XattnFwdRefIdeal.τ).loc Cert.XattnFwdRefIdeal.main_arg1))).1 = (fun _ => 1#1)
    ∧ (Cert.Pre_finite_memory.fn (F := Ideal) (m ((c.tc : Thread Cert.XattnFwdRefIdeal.nD Cert.XattnFwdRefIdeal.τ).loc Cert.XattnFwdRefIdeal.main_arg0)) (m ((c.tc : Thread Cert.XattnFwdRefIdeal.nD Cert.XattnFwdRefIdeal.τ).loc Cert.XattnFwdRefIdeal.main_arg1))).2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwXkv (m : (ℓ : Loc Cert.DwXkv.nD Cert.DwXkv.τ Cert.DwXkv.sig) → Buf (Elt Bits) ℓ) : Prop :=
  True

def Pre_DwXkvIdeal (m : (ℓ : Loc Cert.DwXkvIdeal.nD Cert.DwXkvIdeal.τ Cert.DwXkvIdeal.sig) → Buf (Elt Ideal) ℓ) : Prop :=
  True

def Pre_DwXkvRefIdeal (m : (ℓ : Loc Cert.DwXkvRefIdeal.nD Cert.DwXkvRefIdeal.τ Cert.DwXkvRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_XqBwd (m : (ℓ : Loc Cert.XqBwd.nD Cert.XqBwd.τ Cert.XqBwd.sig) → Buf (Elt Bits) ℓ) : Prop :=
  True

def Pre_XqBwdIdeal (m : (ℓ : Loc Cert.XqBwdIdeal.nD Cert.XqBwdIdeal.τ Cert.XqBwdIdeal.sig) → Buf (Elt Ideal) ℓ) : Prop :=
  True

def Pre_XqBwdRefIdeal (m : (ℓ : Loc Cert.XqBwdRefIdeal.nD Cert.XqBwdRefIdeal.τ Cert.XqBwdRefIdeal.sig) → Buf (Elt Ideal) ℓ) : Prop :=
  True

def Pre_XkvBwd (m : (ℓ : Loc Cert.XkvBwd.nD Cert.XkvBwd.τ Cert.XkvBwd.sig) → Buf (Elt Bits) ℓ) : Prop :=
  True

def Pre_XkvBwdIdeal (m : (ℓ : Loc Cert.XkvBwdIdeal.nD Cert.XkvBwdIdeal.τ Cert.XkvBwdIdeal.sig) → Buf (Elt Ideal) ℓ) : Prop :=
  True

def Pre_XkvBwdRefIdeal (m : (ℓ : Loc Cert.XkvBwdRefIdeal.nD Cert.XkvBwdRefIdeal.τ Cert.XkvBwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_SquareBwd (m : (ℓ : Loc Cert.SquareBwd.nD Cert.SquareBwd.τ Cert.SquareBwd.sig) → Buf (Elt Bits) ℓ) : Prop :=
  True

def Pre_SquareBwdIdeal (m : (ℓ : Loc Cert.SquareBwdIdeal.nD Cert.SquareBwdIdeal.τ Cert.SquareBwdIdeal.sig) → Buf (Elt Ideal) ℓ) : Prop :=
  True

def Pre_SquareBwdRefIdeal (m : (ℓ : Loc Cert.SquareBwdRefIdeal.nD Cert.SquareBwdRefIdeal.τ Cert.SquareBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRefIdeal (m : (ℓ : Loc Cert.UpProjRefIdeal.nD Cert.UpProjRefIdeal.τ Cert.UpProjRefIdeal.sig) → Buf (Elt Ideal) ℓ) : Prop :=
  True

def Pre_XqProj (m : (ℓ : Loc Cert.XqProj.nD Cert.XqProj.τ Cert.XqProj.sig) → Buf (Elt Bits) ℓ) : Prop :=
  True

def Pre_XqProjIdeal (m : (ℓ : Loc Cert.XqProjIdeal.nD Cert.XqProjIdeal.τ Cert.XqProjIdeal.sig) → Buf (Elt Ideal) ℓ) : Prop :=
  True

def Pre_XqProjRefIdeal (m : (ℓ : Loc Cert.XqProjRefIdeal.nD Cert.XqProjRefIdeal.τ Cert.XqProjRefIdeal.sig) → Buf (Elt Ideal) ℓ) : Prop :=
  True

def Pre_XkvProj (m : (ℓ : Loc Cert.XkvProj.nD Cert.XkvProj.τ Cert.XkvProj.sig) → Buf (Elt Bits) ℓ) : Prop :=
  True

def Pre_XkvProjIdeal (m : (ℓ : Loc Cert.XkvProjIdeal.nD Cert.XkvProjIdeal.τ Cert.XkvProjIdeal.sig) → Buf (Elt Ideal) ℓ) : Prop :=
  True

def Pre_XkvProjRefIdeal (m : (ℓ : Loc Cert.XkvProjRefIdeal.nD Cert.XkvProjRefIdeal.τ Cert.XkvProjRefIdeal.sig) → Buf (Elt Ideal) ℓ) : Prop :=
  True

def Pre_XoProj (m : (ℓ : Loc Cert.XoProj.nD Cert.XoProj.τ Cert.XoProj.sig) → Buf (Elt Bits) ℓ) : Prop :=
  True

def Pre_XoProjIdeal (m : (ℓ : Loc Cert.XoProjIdeal.nD Cert.XoProjIdeal.τ Cert.XoProjIdeal.sig) → Buf (Elt Ideal) ℓ) : Prop :=
  True

def Pre_XoProjRefIdeal (m : (ℓ : Loc Cert.XoProjRefIdeal.nD Cert.XoProjRefIdeal.τ Cert.XoProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_finite [hXattnRefIdeal : Cert.XattnRefIdeal.Facts] [hPre_finite : Cert.Pre_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdIdeal_pre_finite_memory [hXattnFwdIdeal : Cert.XattnFwdIdeal.Facts] [hPre_finite_memory : Cert.Pre_finite_memory.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal_finite_memory m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_XattnFwdRefIdeal_pre_finite_memory [hXattnFwdRefIdeal : Cert.XattnFwdRefIdeal.Facts] [hPre_finite_memory : Cert.Pre_finite_memory.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal_finite_memory m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwXkv [hDwXkv : Cert.DwXkv.Facts] : Prop :=
  ∀ (m : (ℓ : Loc Cert.DwXkv.nD Cert.DwXkv.τ Cert.DwXkv.sig) → Buf (Elt Bits) ℓ) (g : Dev Cert.DwXkv.nD → PrngReg), Pre_DwXkv m →
    θ_run (Cert.DwXkv.defs (F := Bits)) (onTc (τ := Cert.DwXkv.τ) (Cert.DwXkv.main (F := Bits))) ⟨m, fun _ => 0, g⟩ (fun r => (∀ c : Dev Cert.DwXkv.nD,
      r.2.mem ((c.tc : Thread Cert.DwXkv.nD Cert.DwXkv.τ).loc Cert.DwXkv.main_arg0) = m ((c.tc : Thread Cert.DwXkv.nD Cert.DwXkv.τ).loc Cert.DwXkv.main_arg0)
      ∧ r.2.mem ((c.tc : Thread Cert.DwXkv.nD Cert.DwXkv.τ).loc Cert.DwXkv.main_arg1) = m ((c.tc : Thread Cert.DwXkv.nD Cert.DwXkv.τ).loc Cert.DwXkv.main_arg1))
      ∧ r.2.sem = fun _ => 0)

def quiescent_DwXkvIdeal [hDwXkvIdeal : Cert.DwXkvIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg), Pre_DwXkvIdeal m →
    θ_run (Cert.DwXkvIdeal.defs (F := Ideal)) (onTc (τ := Cert.DwXkvIdeal.τ) (Cert.DwXkvIdeal.main (F := Ideal))) ⟨m, fun _ => 0, g⟩ (fun r => (∀ c : Dev Cert.DwXkvIdeal.nD,
      r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
      ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ r.2.sem = fun _ => 0)

def quiescent_DwXkvRefIdeal [hDwXkvRefIdeal : Cert.DwXkvRefIdeal.Facts] : Prop :=
  ∀ (m : (ℓ : Loc Cert.DwXkvRefIdeal.nD Cert.DwXkvRefIdeal.τ Cert.DwXkvRefIdeal.sig) → Buf (Elt Ideal) ℓ) (g : Dev Cert.DwXkvRefIdeal.nD → PrngReg), Pre_DwXkvRefIdeal m →
    θ_run (Cert.DwXkvRefIdeal.defs (F := Ideal)) (onTc (τ := Cert.DwXkvRefIdeal.τ) (Cert.DwXkvRefIdeal.main (F := Ideal))) ⟨m, fun _ => 0, g⟩ (fun r => (∀ c : Dev Cert.DwXkvRefIdeal.nD,
      r.2.mem ((c.tc : Thread Cert.DwXkvRefIdeal.nD Cert.DwXkvRefIdeal.τ).loc Cert.DwXkvRefIdeal.main_arg0) = m ((c.tc : Thread Cert.DwXkvRefIdeal.nD Cert.DwXkvRefIdeal.τ).loc Cert.DwXkvRefIdeal.main_arg0)
      ∧ r.2.mem ((c.tc : Thread Cert.DwXkvRefIdeal.nD Cert.DwXkvRefIdeal.τ).loc Cert.DwXkvRefIdeal.main_arg1) = m ((c.tc : Thread Cert.DwXkvRefIdeal.nD Cert.DwXkvRefIdeal.τ).loc Cert.DwXkvRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_XqBwd [hXqBwd : Cert.XqBwd.Facts] : Prop :=
  ∀ (m : (ℓ : Loc Cert.XqBwd.nD Cert.XqBwd.τ Cert.XqBwd.sig) → Buf (Elt Bits) ℓ) (g : Dev Cert.XqBwd.nD → PrngReg), Pre_XqBwd m →
    θ_run (Cert.XqBwd.defs (F := Bits)) (onTc (τ := Cert.XqBwd.τ) (Cert.XqBwd.main (F := Bits))) ⟨m, fun _ => 0, g⟩ (fun r => (∀ c : Dev Cert.XqBwd.nD,
      r.2.mem ((c.tc : Thread Cert.XqBwd.nD Cert.XqBwd.τ).loc Cert.XqBwd.main_arg0) = m ((c.tc : Thread Cert.XqBwd.nD Cert.XqBwd.τ).loc Cert.XqBwd.main_arg0)
      ∧ r.2.mem ((c.tc : Thread Cert.XqBwd.nD Cert.XqBwd.τ).loc Cert.XqBwd.main_arg1) = m ((c.tc : Thread Cert.XqBwd.nD Cert.XqBwd.τ).loc Cert.XqBwd.main_arg1)
      ∧ r.2.mem ((c.tc : Thread Cert.XqBwd.nD Cert.XqBwd.τ).loc Cert.XqBwd.main_arg2) = m ((c.tc : Thread Cert.XqBwd.nD Cert.XqBwd.τ).loc Cert.XqBwd.main_arg2)
      ∧ r.2.mem ((c.tc : Thread Cert.XqBwd.nD Cert.XqBwd.τ).loc Cert.XqBwd.main_arg3) = m ((c.tc : Thread Cert.XqBwd.nD Cert.XqBwd.τ).loc Cert.XqBwd.main_arg3)
      ∧ r.2.mem ((c.tc : Thread Cert.XqBwd.nD Cert.XqBwd.τ).loc Cert.XqBwd.main_arg4) = m ((c.tc : Thread Cert.XqBwd.nD Cert.XqBwd.τ).loc Cert.XqBwd.main_arg4))
      ∧ r.2.sem = fun _ => 0)

def quiescent_XqBwdIdeal [hXqBwdIdeal : Cert.XqBwdIdeal.Facts] : Prop :=
  ∀ (m : (ℓ : Loc Cert.XqBwdIdeal.nD Cert.XqBwdIdeal.τ Cert.XqBwdIdeal.sig) → Buf (Elt Ideal) ℓ) (g : Dev Cert.XqBwdIdeal.nD → PrngReg), Pre_XqBwdIdeal m →
    θ_run (Cert.XqBwdIdeal.defs (F := Ideal)) (onTc (τ := Cert.XqBwdIdeal.τ) (Cert.XqBwdIdeal.main (F := Ideal))) ⟨m, fun _ => 0, g⟩ (fun r => (∀ c : Dev Cert.XqBwdIdeal.nD,
      r.2.mem ((c.tc : Thread Cert.XqBwdIdeal.nD Cert.XqBwdIdeal.τ).loc Cert.XqBwdIdeal.main_arg0) = m ((c.tc : Thread Cert.XqBwdIdeal.nD Cert.XqBwdIdeal.τ).loc Cert.XqBwdIdeal.main_arg0)
      ∧ r.2.mem ((c.tc : Thread Cert.XqBwdIdeal.nD Cert.XqBwdIdeal.τ).loc Cert.XqBwdIdeal.main_arg1) = m ((c.tc : Thread Cert.XqBwdIdeal.nD Cert.XqBwdIdeal.τ).loc Cert.XqBwdIdeal.main_arg1)
      ∧ r.2.mem ((c.tc : Thread Cert.XqBwdIdeal.nD Cert.XqBwdIdeal.τ).loc Cert.XqBwdIdeal.main_arg2) = m ((c.tc : Thread Cert.XqBwdIdeal.nD Cert.XqBwdIdeal.τ).loc Cert.XqBwdIdeal.main_arg2)
      ∧ r.2.mem ((c.tc : Thread Cert.XqBwdIdeal.nD Cert.XqBwdIdeal.τ).loc Cert.XqBwdIdeal.main_arg3) = m ((c.tc : Thread Cert.XqBwdIdeal.nD Cert.XqBwdIdeal.τ).loc Cert.XqBwdIdeal.main_arg3)
      ∧ r.2.mem ((c.tc : Thread Cert.XqBwdIdeal.nD Cert.XqBwdIdeal.τ).loc Cert.XqBwdIdeal.main_arg4) = m ((c.tc : Thread Cert.XqBwdIdeal.nD Cert.XqBwdIdeal.τ).loc Cert.XqBwdIdeal.main_arg4))
      ∧ r.2.sem = fun _ => 0)

def quiescent_XqBwdRefIdeal [hXqBwdRefIdeal : Cert.XqBwdRefIdeal.Facts] : Prop :=
  ∀ (m : (ℓ : Loc Cert.XqBwdRefIdeal.nD Cert.XqBwdRefIdeal.τ Cert.XqBwdRefIdeal.sig) → Buf (Elt Ideal) ℓ) (g : Dev Cert.XqBwdRefIdeal.nD → PrngReg), Pre_XqBwdRefIdeal m →
    θ_run (Cert.XqBwdRefIdeal.defs (F := Ideal)) (onTc (τ := Cert.XqBwdRefIdeal.τ) (Cert.XqBwdRefIdeal.main (F := Ideal))) ⟨m, fun _ => 0, g⟩ (fun r => (∀ c : Dev Cert.XqBwdRefIdeal.nD,
      r.2.mem ((c.tc : Thread Cert.XqBwdRefIdeal.nD Cert.XqBwdRefIdeal.τ).loc Cert.XqBwdRefIdeal.main_arg0) = m ((c.tc : Thread Cert.XqBwdRefIdeal.nD Cert.XqBwdRefIdeal.τ).loc Cert.XqBwdRefIdeal.main_arg0)
      ∧ r.2.mem ((c.tc : Thread Cert.XqBwdRefIdeal.nD Cert.XqBwdRefIdeal.τ).loc Cert.XqBwdRefIdeal.main_arg1) = m ((c.tc : Thread Cert.XqBwdRefIdeal.nD Cert.XqBwdRefIdeal.τ).loc Cert.XqBwdRefIdeal.main_arg1)
      ∧ r.2.mem ((c.tc : Thread Cert.XqBwdRefIdeal.nD Cert.XqBwdRefIdeal.τ).loc Cert.XqBwdRefIdeal.main_arg2) = m ((c.tc : Thread Cert.XqBwdRefIdeal.nD Cert.XqBwdRefIdeal.τ).loc Cert.XqBwdRefIdeal.main_arg2)
      ∧ r.2.mem ((c.tc : Thread Cert.XqBwdRefIdeal.nD Cert.XqBwdRefIdeal.τ).loc Cert.XqBwdRefIdeal.main_arg3) = m ((c.tc : Thread Cert.XqBwdRefIdeal.nD Cert.XqBwdRefIdeal.τ).loc Cert.XqBwdRefIdeal.main_arg3)
      ∧ r.2.mem ((c.tc : Thread Cert.XqBwdRefIdeal.nD Cert.XqBwdRefIdeal.τ).loc Cert.XqBwdRefIdeal.main_arg4) = m ((c.tc : Thread Cert.XqBwdRefIdeal.nD Cert.XqBwdRefIdeal.τ).loc Cert.XqBwdRefIdeal.main_arg4))
      ∧ r.2.sem = fun _ => 0)

def quiescent_XkvBwd [hXkvBwd : Cert.XkvBwd.Facts] : Prop :=
  ∀ (m : (ℓ : Loc Cert.XkvBwd.nD Cert.XkvBwd.τ Cert.XkvBwd.sig) → Buf (Elt Bits) ℓ) (g : Dev Cert.XkvBwd.nD → PrngReg), Pre_XkvBwd m →
    θ_run (Cert.XkvBwd.defs (F := Bits)) (onTc (τ := Cert.XkvBwd.τ) (Cert.XkvBwd.main (F := Bits))) ⟨m, fun _ => 0, g⟩ (fun r => (∀ c : Dev Cert.XkvBwd.nD,
      r.2.mem ((c.tc : Thread Cert.XkvBwd.nD Cert.XkvBwd.τ).loc Cert.XkvBwd.main_arg0) = m ((c.tc : Thread Cert.XkvBwd.nD Cert.XkvBwd.τ).loc Cert.XkvBwd.main_arg0)
      ∧ r.2.mem ((c.tc : Thread Cert.XkvBwd.nD Cert.XkvBwd.τ).loc Cert.XkvBwd.main_arg1) = m ((c.tc : Thread Cert.XkvBwd.nD Cert.XkvBwd.τ).loc Cert.XkvBwd.main_arg1)
      ∧ r.2.mem ((c.tc : Thread Cert.XkvBwd.nD Cert.XkvBwd.τ).loc Cert.XkvBwd.main_arg2) = m ((c.tc : Thread Cert.XkvBwd.nD Cert.XkvBwd.τ).loc Cert.XkvBwd.main_arg2)
      ∧ r.2.mem ((c.tc : Thread Cert.XkvBwd.nD Cert.XkvBwd.τ).loc Cert.XkvBwd.main_arg3) = m ((c.tc : Thread Cert.XkvBwd.nD Cert.XkvBwd.τ).loc Cert.XkvBwd.main_arg3))
      ∧ r.2.sem = fun _ => 0)

def quiescent_XkvBwdIdeal [hXkvBwdIdeal : Cert.XkvBwdIdeal.Facts] : Prop :=
  ∀ (m : (ℓ : Loc Cert.XkvBwdIdeal.nD Cert.XkvBwdIdeal.τ Cert.XkvBwdIdeal.sig) → Buf (Elt Ideal) ℓ) (g : Dev Cert.XkvBwdIdeal.nD → PrngReg), Pre_XkvBwdIdeal m →
    θ_run (Cert.XkvBwdIdeal.defs (F := Ideal)) (onTc (τ := Cert.XkvBwdIdeal.τ) (Cert.XkvBwdIdeal.main (F := Ideal))) ⟨m, fun _ => 0, g⟩ (fun r => (∀ c : Dev Cert.XkvBwdIdeal.nD,
      r.2.mem ((c.tc : Thread Cert.XkvBwdIdeal.nD Cert.XkvBwdIdeal.τ).loc Cert.XkvBwdIdeal.main_arg0) = m ((c.tc : Thread Cert.XkvBwdIdeal.nD Cert.XkvBwdIdeal.τ).loc Cert.XkvBwdIdeal.main_arg0)
      ∧ r.2.mem ((c.tc : Thread Cert.XkvBwdIdeal.nD Cert.XkvBwdIdeal.τ).loc Cert.XkvBwdIdeal.main_arg1) = m ((c.tc : Thread Cert.XkvBwdIdeal.nD Cert.XkvBwdIdeal.τ).loc Cert.XkvBwdIdeal.main_arg1)
      ∧ r.2.mem ((c.tc : Thread Cert.XkvBwdIdeal.nD Cert.XkvBwdIdeal.τ).loc Cert.XkvBwdIdeal.main_arg2) = m ((c.tc : Thread Cert.XkvBwdIdeal.nD Cert.XkvBwdIdeal.τ).loc Cert.XkvBwdIdeal.main_arg2)
      ∧ r.2.mem ((c.tc : Thread Cert.XkvBwdIdeal.nD Cert.XkvBwdIdeal.τ).loc Cert.XkvBwdIdeal.main_arg3) = m ((c.tc : Thread Cert.XkvBwdIdeal.nD Cert.XkvBwdIdeal.τ).loc Cert.XkvBwdIdeal.main_arg3))
      ∧ r.2.sem = fun _ => 0)

def quiescent_XkvBwdRefIdeal [hXkvBwdRefIdeal : Cert.XkvBwdRefIdeal.Facts] : Prop :=
  ∀ (m : (ℓ : Loc Cert.XkvBwdRefIdeal.nD Cert.XkvBwdRefIdeal.τ Cert.XkvBwdRefIdeal.sig) → Buf (Elt Ideal) ℓ) (g : Dev Cert.XkvBwdRefIdeal.nD → PrngReg), Pre_XkvBwdRefIdeal m →
    θ_run (Cert.XkvBwdRefIdeal.defs (F := Ideal)) (onTc (τ := Cert.XkvBwdRefIdeal.τ) (Cert.XkvBwdRefIdeal.main (F := Ideal))) ⟨m, fun _ => 0, g⟩ (fun r => (∀ c : Dev Cert.XkvBwdRefIdeal.nD,
      r.2.mem ((c.tc : Thread Cert.XkvBwdRefIdeal.nD Cert.XkvBwdRefIdeal.τ).loc Cert.XkvBwdRefIdeal.main_arg0) = m ((c.tc : Thread Cert.XkvBwdRefIdeal.nD Cert.XkvBwdRefIdeal.τ).loc Cert.XkvBwdRefIdeal.main_arg0)
      ∧ r.2.mem ((c.tc : Thread Cert.XkvBwdRefIdeal.nD Cert.XkvBwdRefIdeal.τ).loc Cert.XkvBwdRefIdeal.main_arg1) = m ((c.tc : Thread Cert.XkvBwdRefIdeal.nD Cert.XkvBwdRefIdeal.τ).loc Cert.XkvBwdRefIdeal.main_arg1)
      ∧ r.2.mem ((c.tc : Thread Cert.XkvBwdRefIdeal.nD Cert.XkvBwdRefIdeal.τ).loc Cert.XkvBwdRefIdeal.main_arg2) = m ((c.tc : Thread Cert.XkvBwdRefIdeal.nD Cert.XkvBwdRefIdeal.τ).loc Cert.XkvBwdRefIdeal.main_arg2)
      ∧ r.2.mem ((c.tc : Thread Cert.XkvBwdRefIdeal.nD Cert.XkvBwdRefIdeal.τ).loc Cert.XkvBwdRefIdeal.main_arg3) = m ((c.tc : Thread Cert.XkvBwdRefIdeal.nD Cert.XkvBwdRefIdeal.τ).loc Cert.XkvBwdRefIdeal.main_arg3))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_SquareBwd [hSquareBwd : Cert.SquareBwd.Facts] : Prop :=
  ∀ (m : (ℓ : Loc Cert.SquareBwd.nD Cert.SquareBwd.τ Cert.SquareBwd.sig) → Buf (Elt Bits) ℓ) (g : Dev Cert.SquareBwd.nD → PrngReg), Pre_SquareBwd m →
    θ_run (Cert.SquareBwd.defs (F := Bits)) (onTc (τ := Cert.SquareBwd.τ) (Cert.SquareBwd.main (F := Bits))) ⟨m, fun _ => 0, g⟩ (fun r => (∀ c : Dev Cert.SquareBwd.nD,
      r.2.mem ((c.tc : Thread Cert.SquareBwd.nD Cert.SquareBwd.τ).loc Cert.SquareBwd.main_arg0) = m ((c.tc : Thread Cert.SquareBwd.nD Cert.SquareBwd.τ).loc Cert.SquareBwd.main_arg0)
      ∧ r.2.mem ((c.tc : Thread Cert.SquareBwd.nD Cert.SquareBwd.τ).loc Cert.SquareBwd.main_arg1) = m ((c.tc : Thread Cert.SquareBwd.nD Cert.SquareBwd.τ).loc Cert.SquareBwd.main_arg1)
      ∧ r.2.mem ((c.tc : Thread Cert.SquareBwd.nD Cert.SquareBwd.τ).loc Cert.SquareBwd.main_arg2) = m ((c.tc : Thread Cert.SquareBwd.nD Cert.SquareBwd.τ).loc Cert.SquareBwd.main_arg2)
      ∧ r.2.mem ((c.tc : Thread Cert.SquareBwd.nD Cert.SquareBwd.τ).loc Cert.SquareBwd.main_arg3) = m ((c.tc : Thread Cert.SquareBwd.nD Cert.SquareBwd.τ).loc Cert.SquareBwd.main_arg3))
      ∧ r.2.sem = fun _ => 0)

def quiescent_SquareBwdIdeal [hSquareBwdIdeal : Cert.SquareBwdIdeal.Facts] : Prop :=
  ∀ (m : (ℓ : Loc Cert.SquareBwdIdeal.nD Cert.SquareBwdIdeal.τ Cert.SquareBwdIdeal.sig) → Buf (Elt Ideal) ℓ) (g : Dev Cert.SquareBwdIdeal.nD → PrngReg), Pre_SquareBwdIdeal m →
    θ_run (Cert.SquareBwdIdeal.defs (F := Ideal)) (onTc (τ := Cert.SquareBwdIdeal.τ) (Cert.SquareBwdIdeal.main (F := Ideal))) ⟨m, fun _ => 0, g⟩ (fun r => (∀ c : Dev Cert.SquareBwdIdeal.nD,
      r.2.mem ((c.tc : Thread Cert.SquareBwdIdeal.nD Cert.SquareBwdIdeal.τ).loc Cert.SquareBwdIdeal.main_arg0) = m ((c.tc : Thread Cert.SquareBwdIdeal.nD Cert.SquareBwdIdeal.τ).loc Cert.SquareBwdIdeal.main_arg0)
      ∧ r.2.mem ((c.tc : Thread Cert.SquareBwdIdeal.nD Cert.SquareBwdIdeal.τ).loc Cert.SquareBwdIdeal.main_arg1) = m ((c.tc : Thread Cert.SquareBwdIdeal.nD Cert.SquareBwdIdeal.τ).loc Cert.SquareBwdIdeal.main_arg1)
      ∧ r.2.mem ((c.tc : Thread Cert.SquareBwdIdeal.nD Cert.SquareBwdIdeal.τ).loc Cert.SquareBwdIdeal.main_arg2) = m ((c.tc : Thread Cert.SquareBwdIdeal.nD Cert.SquareBwdIdeal.τ).loc Cert.SquareBwdIdeal.main_arg2)
      ∧ r.2.mem ((c.tc : Thread Cert.SquareBwdIdeal.nD Cert.SquareBwdIdeal.τ).loc Cert.SquareBwdIdeal.main_arg3) = m ((c.tc : Thread Cert.SquareBwdIdeal.nD Cert.SquareBwdIdeal.τ).loc Cert.SquareBwdIdeal.main_arg3))
      ∧ r.2.sem = fun _ => 0)

def quiescent_SquareBwdRefIdeal [hSquareBwdRefIdeal : Cert.SquareBwdRefIdeal.Facts] : Prop :=
  ∀ (m : (ℓ : Loc Cert.SquareBwdRefIdeal.nD Cert.SquareBwdRefIdeal.τ Cert.SquareBwdRefIdeal.sig) → Buf (Elt Ideal) ℓ) (g : Dev Cert.SquareBwdRefIdeal.nD → PrngReg), Pre_SquareBwdRefIdeal m →
    θ_run (Cert.SquareBwdRefIdeal.defs (F := Ideal)) (onTc (τ := Cert.SquareBwdRefIdeal.τ) (Cert.SquareBwdRefIdeal.main (F := Ideal))) ⟨m, fun _ => 0, g⟩ (fun r => (∀ c : Dev Cert.SquareBwdRefIdeal.nD,
      r.2.mem ((c.tc : Thread Cert.SquareBwdRefIdeal.nD Cert.SquareBwdRefIdeal.τ).loc Cert.SquareBwdRefIdeal.main_arg0) = m ((c.tc : Thread Cert.SquareBwdRefIdeal.nD Cert.SquareBwdRefIdeal.τ).loc Cert.SquareBwdRefIdeal.main_arg0)
      ∧ r.2.mem ((c.tc : Thread Cert.SquareBwdRefIdeal.nD Cert.SquareBwdRefIdeal.τ).loc Cert.SquareBwdRefIdeal.main_arg1) = m ((c.tc : Thread Cert.SquareBwdRefIdeal.nD Cert.SquareBwdRefIdeal.τ).loc Cert.SquareBwdRefIdeal.main_arg1)
      ∧ r.2.mem ((c.tc : Thread Cert.SquareBwdRefIdeal.nD Cert.SquareBwdRefIdeal.τ).loc Cert.SquareBwdRefIdeal.main_arg2) = m ((c.tc : Thread Cert.SquareBwdRefIdeal.nD Cert.SquareBwdRefIdeal.τ).loc Cert.SquareBwdRefIdeal.main_arg2)
      ∧ r.2.mem ((c.tc : Thread Cert.SquareBwdRefIdeal.nD Cert.SquareBwdRefIdeal.τ).loc Cert.SquareBwdRefIdeal.main_arg3) = m ((c.tc : Thread Cert.SquareBwdRefIdeal.nD Cert.SquareBwdRefIdeal.τ).loc Cert.SquareBwdRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2))
      ∧ r.2.sem = fun _ => 0)

def quiescent_XqProj [hXqProj : Cert.XqProj.Facts] : Prop :=
  ∀ (m : (ℓ : Loc Cert.XqProj.nD Cert.XqProj.τ Cert.XqProj.sig) → Buf (Elt Bits) ℓ) (g : Dev Cert.XqProj.nD → PrngReg), Pre_XqProj m →
    θ_run (Cert.XqProj.defs (F := Bits)) (onTc (τ := Cert.XqProj.τ) (Cert.XqProj.main (F := Bits))) ⟨m, fun _ => 0, g⟩ (fun r => (∀ c : Dev Cert.XqProj.nD,
      r.2.mem ((c.tc : Thread Cert.XqProj.nD Cert.XqProj.τ).loc Cert.XqProj.main_arg0) = m ((c.tc : Thread Cert.XqProj.nD Cert.XqProj.τ).loc Cert.XqProj.main_arg0)
      ∧ r.2.mem ((c.tc : Thread Cert.XqProj.nD Cert.XqProj.τ).loc Cert.XqProj.main_arg1) = m ((c.tc : Thread Cert.XqProj.nD Cert.XqProj.τ).loc Cert.XqProj.main_arg1)
      ∧ r.2.mem ((c.tc : Thread Cert.XqProj.nD Cert.XqProj.τ).loc Cert.XqProj.main_arg2) = m ((c.tc : Thread Cert.XqProj.nD Cert.XqProj.τ).loc Cert.XqProj.main_arg2))
      ∧ r.2.sem = fun _ => 0)

def quiescent_XqProjIdeal [hXqProjIdeal : Cert.XqProjIdeal.Facts] : Prop :=
  ∀ (m : (ℓ : Loc Cert.XqProjIdeal.nD Cert.XqProjIdeal.τ Cert.XqProjIdeal.sig) → Buf (Elt Ideal) ℓ) (g : Dev Cert.XqProjIdeal.nD → PrngReg), Pre_XqProjIdeal m →
    θ_run (Cert.XqProjIdeal.defs (F := Ideal)) (onTc (τ := Cert.XqProjIdeal.τ) (Cert.XqProjIdeal.main (F := Ideal))) ⟨m, fun _ => 0, g⟩ (fun r => (∀ c : Dev Cert.XqProjIdeal.nD,
      r.2.mem ((c.tc : Thread Cert.XqProjIdeal.nD Cert.XqProjIdeal.τ).loc Cert.XqProjIdeal.main_arg0) = m ((c.tc : Thread Cert.XqProjIdeal.nD Cert.XqProjIdeal.τ).loc Cert.XqProjIdeal.main_arg0)
      ∧ r.2.mem ((c.tc : Thread Cert.XqProjIdeal.nD Cert.XqProjIdeal.τ).loc Cert.XqProjIdeal.main_arg1) = m ((c.tc : Thread Cert.XqProjIdeal.nD Cert.XqProjIdeal.τ).loc Cert.XqProjIdeal.main_arg1)
      ∧ r.2.mem ((c.tc : Thread Cert.XqProjIdeal.nD Cert.XqProjIdeal.τ).loc Cert.XqProjIdeal.main_arg2) = m ((c.tc : Thread Cert.XqProjIdeal.nD Cert.XqProjIdeal.τ).loc Cert.XqProjIdeal.main_arg2))
      ∧ r.2.sem = fun _ => 0)

def quiescent_XqProjRefIdeal [hXqProjRefIdeal : Cert.XqProjRefIdeal.Facts] : Prop :=
  ∀ (m : (ℓ : Loc Cert.XqProjRefIdeal.nD Cert.XqProjRefIdeal.τ Cert.XqProjRefIdeal.sig) → Buf (Elt Ideal) ℓ) (g : Dev Cert.XqProjRefIdeal.nD → PrngReg), Pre_XqProjRefIdeal m →
    θ_run (Cert.XqProjRefIdeal.defs (F := Ideal)) (onTc (τ := Cert.XqProjRefIdeal.τ) (Cert.XqProjRefIdeal.main (F := Ideal))) ⟨m, fun _ => 0, g⟩ (fun r => (∀ c : Dev Cert.XqProjRefIdeal.nD,
      r.2.mem ((c.tc : Thread Cert.XqProjRefIdeal.nD Cert.XqProjRefIdeal.τ).loc Cert.XqProjRefIdeal.main_arg0) = m ((c.tc : Thread Cert.XqProjRefIdeal.nD Cert.XqProjRefIdeal.τ).loc Cert.XqProjRefIdeal.main_arg0)
      ∧ r.2.mem ((c.tc : Thread Cert.XqProjRefIdeal.nD Cert.XqProjRefIdeal.τ).loc Cert.XqProjRefIdeal.main_arg1) = m ((c.tc : Thread Cert.XqProjRefIdeal.nD Cert.XqProjRefIdeal.τ).loc Cert.XqProjRefIdeal.main_arg1)
      ∧ r.2.mem ((c.tc : Thread Cert.XqProjRefIdeal.nD Cert.XqProjRefIdeal.τ).loc Cert.XqProjRefIdeal.main_arg2) = m ((c.tc : Thread Cert.XqProjRefIdeal.nD Cert.XqProjRefIdeal.τ).loc Cert.XqProjRefIdeal.main_arg2))
      ∧ r.2.sem = fun _ => 0)

def quiescent_XkvProj [hXkvProj : Cert.XkvProj.Facts] : Prop :=
  ∀ (m : (ℓ : Loc Cert.XkvProj.nD Cert.XkvProj.τ Cert.XkvProj.sig) → Buf (Elt Bits) ℓ) (g : Dev Cert.XkvProj.nD → PrngReg), Pre_XkvProj m →
    θ_run (Cert.XkvProj.defs (F := Bits)) (onTc (τ := Cert.XkvProj.τ) (Cert.XkvProj.main (F := Bits))) ⟨m, fun _ => 0, g⟩ (fun r => (∀ c : Dev Cert.XkvProj.nD,
      r.2.mem ((c.tc : Thread Cert.XkvProj.nD Cert.XkvProj.τ).loc Cert.XkvProj.main_arg0) = m ((c.tc : Thread Cert.XkvProj.nD Cert.XkvProj.τ).loc Cert.XkvProj.main_arg0)
      ∧ r.2.mem ((c.tc : Thread Cert.XkvProj.nD Cert.XkvProj.τ).loc Cert.XkvProj.main_arg1) = m ((c.tc : Thread Cert.XkvProj.nD Cert.XkvProj.τ).loc Cert.XkvProj.main_arg1)
      ∧ r.2.mem ((c.tc : Thread Cert.XkvProj.nD Cert.XkvProj.τ).loc Cert.XkvProj.main_arg2) = m ((c.tc : Thread Cert.XkvProj.nD Cert.XkvProj.τ).loc Cert.XkvProj.main_arg2))
      ∧ r.2.sem = fun _ => 0)

def quiescent_XkvProjIdeal [hXkvProjIdeal : Cert.XkvProjIdeal.Facts] : Prop :=
  ∀ (m : (ℓ : Loc Cert.XkvProjIdeal.nD Cert.XkvProjIdeal.τ Cert.XkvProjIdeal.sig) → Buf (Elt Ideal) ℓ) (g : Dev Cert.XkvProjIdeal.nD → PrngReg), Pre_XkvProjIdeal m →
    θ_run (Cert.XkvProjIdeal.defs (F := Ideal)) (onTc (τ := Cert.XkvProjIdeal.τ) (Cert.XkvProjIdeal.main (F := Ideal))) ⟨m, fun _ => 0, g⟩ (fun r => (∀ c : Dev Cert.XkvProjIdeal.nD,
      r.2.mem ((c.tc : Thread Cert.XkvProjIdeal.nD Cert.XkvProjIdeal.τ).loc Cert.XkvProjIdeal.main_arg0) = m ((c.tc : Thread Cert.XkvProjIdeal.nD Cert.XkvProjIdeal.τ).loc Cert.XkvProjIdeal.main_arg0)
      ∧ r.2.mem ((c.tc : Thread Cert.XkvProjIdeal.nD Cert.XkvProjIdeal.τ).loc Cert.XkvProjIdeal.main_arg1) = m ((c.tc : Thread Cert.XkvProjIdeal.nD Cert.XkvProjIdeal.τ).loc Cert.XkvProjIdeal.main_arg1)
      ∧ r.2.mem ((c.tc : Thread Cert.XkvProjIdeal.nD Cert.XkvProjIdeal.τ).loc Cert.XkvProjIdeal.main_arg2) = m ((c.tc : Thread Cert.XkvProjIdeal.nD Cert.XkvProjIdeal.τ).loc Cert.XkvProjIdeal.main_arg2))
      ∧ r.2.sem = fun _ => 0)

def quiescent_XkvProjRefIdeal [hXkvProjRefIdeal : Cert.XkvProjRefIdeal.Facts] : Prop :=
  ∀ (m : (ℓ : Loc Cert.XkvProjRefIdeal.nD Cert.XkvProjRefIdeal.τ Cert.XkvProjRefIdeal.sig) → Buf (Elt Ideal) ℓ) (g : Dev Cert.XkvProjRefIdeal.nD → PrngReg), Pre_XkvProjRefIdeal m →
    θ_run (Cert.XkvProjRefIdeal.defs (F := Ideal)) (onTc (τ := Cert.XkvProjRefIdeal.τ) (Cert.XkvProjRefIdeal.main (F := Ideal))) ⟨m, fun _ => 0, g⟩ (fun r => (∀ c : Dev Cert.XkvProjRefIdeal.nD,
      r.2.mem ((c.tc : Thread Cert.XkvProjRefIdeal.nD Cert.XkvProjRefIdeal.τ).loc Cert.XkvProjRefIdeal.main_arg0) = m ((c.tc : Thread Cert.XkvProjRefIdeal.nD Cert.XkvProjRefIdeal.τ).loc Cert.XkvProjRefIdeal.main_arg0)
      ∧ r.2.mem ((c.tc : Thread Cert.XkvProjRefIdeal.nD Cert.XkvProjRefIdeal.τ).loc Cert.XkvProjRefIdeal.main_arg1) = m ((c.tc : Thread Cert.XkvProjRefIdeal.nD Cert.XkvProjRefIdeal.τ).loc Cert.XkvProjRefIdeal.main_arg1)
      ∧ r.2.mem ((c.tc : Thread Cert.XkvProjRefIdeal.nD Cert.XkvProjRefIdeal.τ).loc Cert.XkvProjRefIdeal.main_arg2) = m ((c.tc : Thread Cert.XkvProjRefIdeal.nD Cert.XkvProjRefIdeal.τ).loc Cert.XkvProjRefIdeal.main_arg2))
      ∧ r.2.sem = fun _ => 0)

def quiescent_XoProj [hXoProj : Cert.XoProj.Facts] : Prop :=
  ∀ (m : (ℓ : Loc Cert.XoProj.nD Cert.XoProj.τ Cert.XoProj.sig) → Buf (Elt Bits) ℓ) (g : Dev Cert.XoProj.nD → PrngReg), Pre_XoProj m →
    θ_run (Cert.XoProj.defs (F := Bits)) (onTc (τ := Cert.XoProj.τ) (Cert.XoProj.main (F := Bits))) ⟨m, fun _ => 0, g⟩ (fun r => (∀ c : Dev Cert.XoProj.nD,
      r.2.mem ((c.tc : Thread Cert.XoProj.nD Cert.XoProj.τ).loc Cert.XoProj.main_arg0) = m ((c.tc : Thread Cert.XoProj.nD Cert.XoProj.τ).loc Cert.XoProj.main_arg0)
      ∧ r.2.mem ((c.tc : Thread Cert.XoProj.nD Cert.XoProj.τ).loc Cert.XoProj.main_arg1) = m ((c.tc : Thread Cert.XoProj.nD Cert.XoProj.τ).loc Cert.XoProj.main_arg1)
      ∧ r.2.mem ((c.tc : Thread Cert.XoProj.nD Cert.XoProj.τ).loc Cert.XoProj.main_arg2) = m ((c.tc : Thread Cert.XoProj.nD Cert.XoProj.τ).loc Cert.XoProj.main_arg2)
      ∧ r.2.mem ((c.tc : Thread Cert.XoProj.nD Cert.XoProj.τ).loc Cert.XoProj.main_arg3) = m ((c.tc : Thread Cert.XoProj.nD Cert.XoProj.τ).loc Cert.XoProj.main_arg3))
      ∧ r.2.sem = fun _ => 0)

def quiescent_XoProjIdeal [hXoProjIdeal : Cert.XoProjIdeal.Facts] : Prop :=
  ∀ (m : (ℓ : Loc Cert.XoProjIdeal.nD Cert.XoProjIdeal.τ Cert.XoProjIdeal.sig) → Buf (Elt Ideal) ℓ) (g : Dev Cert.XoProjIdeal.nD → PrngReg), Pre_XoProjIdeal m →
    θ_run (Cert.XoProjIdeal.defs (F := Ideal)) (onTc (τ := Cert.XoProjIdeal.τ) (Cert.XoProjIdeal.main (F := Ideal))) ⟨m, fun _ => 0, g⟩ (fun r => (∀ c : Dev Cert.XoProjIdeal.nD,
      r.2.mem ((c.tc : Thread Cert.XoProjIdeal.nD Cert.XoProjIdeal.τ).loc Cert.XoProjIdeal.main_arg0) = m ((c.tc : Thread Cert.XoProjIdeal.nD Cert.XoProjIdeal.τ).loc Cert.XoProjIdeal.main_arg0)
      ∧ r.2.mem ((c.tc : Thread Cert.XoProjIdeal.nD Cert.XoProjIdeal.τ).loc Cert.XoProjIdeal.main_arg1) = m ((c.tc : Thread Cert.XoProjIdeal.nD Cert.XoProjIdeal.τ).loc Cert.XoProjIdeal.main_arg1)
      ∧ r.2.mem ((c.tc : Thread Cert.XoProjIdeal.nD Cert.XoProjIdeal.τ).loc Cert.XoProjIdeal.main_arg2) = m ((c.tc : Thread Cert.XoProjIdeal.nD Cert.XoProjIdeal.τ).loc Cert.XoProjIdeal.main_arg2)
      ∧ r.2.mem ((c.tc : Thread Cert.XoProjIdeal.nD Cert.XoProjIdeal.τ).loc Cert.XoProjIdeal.main_arg3) = m ((c.tc : Thread Cert.XoProjIdeal.nD Cert.XoProjIdeal.τ).loc Cert.XoProjIdeal.main_arg3))
      ∧ r.2.sem = fun _ => 0)

def quiescent_XoProjRefIdeal [hXoProjRefIdeal : Cert.XoProjRefIdeal.Facts] : Prop :=
  ∀ (m : (ℓ : Loc Cert.XoProjRefIdeal.nD Cert.XoProjRefIdeal.τ Cert.XoProjRefIdeal.sig) → Buf (Elt Ideal) ℓ) (g : Dev Cert.XoProjRefIdeal.nD → PrngReg), Pre_XoProjRefIdeal m →
    θ_run (Cert.XoProjRefIdeal.defs (F := Ideal)) (onTc (τ := Cert.XoProjRefIdeal.τ) (Cert.XoProjRefIdeal.main (F := Ideal))) ⟨m, fun _ => 0, g⟩ (fun r => (∀ c : Dev Cert.XoProjRefIdeal.nD,
      r.2.mem ((c.tc : Thread Cert.XoProjRefIdeal.nD Cert.XoProjRefIdeal.τ).loc Cert.XoProjRefIdeal.main_arg0) = m ((c.tc : Thread Cert.XoProjRefIdeal.nD Cert.XoProjRefIdeal.τ).loc Cert.XoProjRefIdeal.main_arg0)
      ∧ r.2.mem ((c.tc : Thread Cert.XoProjRefIdeal.nD Cert.XoProjRefIdeal.τ).loc Cert.XoProjRefIdeal.main_arg1) = m ((c.tc : Thread Cert.XoProjRefIdeal.nD Cert.XoProjRefIdeal.τ).loc Cert.XoProjRefIdeal.main_arg1)
      ∧ r.2.mem ((c.tc : Thread Cert.XoProjRefIdeal.nD Cert.XoProjRefIdeal.τ).loc Cert.XoProjRefIdeal.main_arg2) = m ((c.tc : Thread Cert.XoProjRefIdeal.nD Cert.XoProjRefIdeal.τ).loc Cert.XoProjRefIdeal.main_arg2)
      ∧ r.2.mem ((c.tc : Thread Cert.XoProjRefIdeal.nD Cert.XoProjRefIdeal.τ).loc Cert.XoProjRefIdeal.main_arg3) = m ((c.tc : Thread Cert.XoProjRefIdeal.nD Cert.XoProjRefIdeal.τ).loc Cert.XoProjRefIdeal.main_arg3))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3)
      ∧ r.2.mem ((c.tc : Thread Cert.DownProj.nD Cert.DownProj.τ).loc Cert.DownProj.main_arg4) = m ((c.tc : Thread Cert.DownProj.nD Cert.DownProj.τ).loc Cert.DownProj.main_arg4))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
      ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2)
      ∧ r.2.mem ((c.tc : Thread Cert.DownProjRefIdeal.nD Cert.DownProjRefIdeal.τ).loc Cert.DownProjRefIdeal.main_arg3) = m ((c.tc : Thread Cert.DownProjRefIdeal.nD Cert.DownProjRefIdeal.τ).loc Cert.DownProjRefIdeal.main_arg3)
      ∧ r.2.mem ((c.tc : Thread Cert.DownProjRefIdeal.nD Cert.DownProjRefIdeal.τ).loc Cert.DownProjRefIdeal.main_arg4) = m ((c.tc : Thread Cert.DownProjRefIdeal.nD Cert.DownProjRefIdeal.τ).loc Cert.DownProjRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def preserves_Xattn_XattnIdeal : Prop :=
  True

def algebraic_XattnIdeal_XattnRefIdeal_pre_finite [hXattnIdeal : Cert.XattnIdeal.Facts] [hXattnRefIdeal : Cert.XattnRefIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v0_0)) (v1 : (c : Dev Cert.XattnIdeal.nD) → Buf (Elt Ideal) ((c.tc : Thread Cert.XattnIdeal.nD Cert.XattnIdeal.τ).loc Cert.XattnIdeal.main_v0_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0_0) = v0 c
          ∧ r.2.mem ((c.tc : Thread Cert.XattnIdeal.nD Cert.XattnIdeal.τ).loc Cert.XattnIdeal.main_v0_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v67) = v0 c
          ∧ r.2.mem ((c.tc : Thread Cert.XattnRefIdeal.nD Cert.XattnRefIdeal.τ).loc Cert.XattnRefIdeal.main_v68) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_XattnFwd_XattnFwdIdeal : Prop :=
  True

def algebraic_XattnFwdIdeal_XattnFwdRefIdeal_pre_finite_memory [hXattnFwdIdeal : Cert.XattnFwdIdeal.Facts] [hXattnFwdRefIdeal : Cert.XattnFwdRefIdeal.Facts] [hPre_finite_memory : Cert.Pre_finite_memory.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal_finite_memory m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v23) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v46_0)) (v1 : (c : Dev Cert.AttnBwdIdeal.nD) → Buf (Elt Ideal) ((c.tc : Thread Cert.AttnBwdIdeal.nD Cert.AttnBwdIdeal.τ).loc Cert.AttnBwdIdeal.main_v46_1)) (v2 : (c : Dev Cert.AttnBwdIdeal.nD) → Buf (Elt Ideal) ((c.tc : Thread Cert.AttnBwdIdeal.nD Cert.AttnBwdIdeal.τ).loc Cert.AttnBwdIdeal.main_v46_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v46_0) = v0 c
          ∧ r.2.mem ((c.tc : Thread Cert.AttnBwdIdeal.nD Cert.AttnBwdIdeal.τ).loc Cert.AttnBwdIdeal.main_v46_1) = v1 c
          ∧ r.2.mem ((c.tc : Thread Cert.AttnBwdIdeal.nD Cert.AttnBwdIdeal.τ).loc Cert.AttnBwdIdeal.main_v46_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v64) = v0 c
          ∧ r.2.mem ((c.tc : Thread Cert.AttnBwdRefIdeal.nD Cert.AttnBwdRefIdeal.τ).loc Cert.AttnBwdRefIdeal.main_v63) = v1 c
          ∧ r.2.mem ((c.tc : Thread Cert.AttnBwdRefIdeal.nD Cert.AttnBwdRefIdeal.τ).loc Cert.AttnBwdRefIdeal.main_v44) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v8) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwXkv_DwXkvIdeal : Prop :=
  True

def algebraic_DwXkvIdeal_DwXkvRefIdeal [hDwXkvIdeal : Cert.DwXkvIdeal.Facts] [hDwXkvRefIdeal : Cert.DwXkvRefIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg)
    (m' : (ℓ : Loc Cert.DwXkvRefIdeal.nD Cert.DwXkvRefIdeal.τ Cert.DwXkvRefIdeal.sig) → Buf (Elt Ideal) ℓ) (g' : Dev Cert.DwXkvRefIdeal.nD → PrngReg), Pre_DwXkvIdeal m →
    (∀ c : Dev Cert.DwXkvIdeal.nD,
      m' ((c.tc : Thread Cert.DwXkvRefIdeal.nD Cert.DwXkvRefIdeal.τ).loc Cert.DwXkvRefIdeal.main_arg0) = m ((c.tc : Thread Cert.DwXkvIdeal.nD Cert.DwXkvIdeal.τ).loc Cert.DwXkvIdeal.main_arg0)
      ∧ m' ((c.tc : Thread Cert.DwXkvRefIdeal.nD Cert.DwXkvRefIdeal.τ).loc Cert.DwXkvRefIdeal.main_arg1) = m ((c.tc : Thread Cert.DwXkvIdeal.nD Cert.DwXkvIdeal.τ).loc Cert.DwXkvIdeal.main_arg1)) →
    ∃ (v0 : (c : Dev Cert.DwXkvIdeal.nD) → Buf (Elt Ideal) ((c.tc : Thread Cert.DwXkvIdeal.nD Cert.DwXkvIdeal.τ).loc Cert.DwXkvIdeal.main_v0)),
      θ_run (Cert.DwXkvIdeal.defs (F := Ideal)) (onTc (τ := Cert.DwXkvIdeal.τ) (Cert.DwXkvIdeal.main (F := Ideal))) ⟨m, fun _ => 0, g⟩ (fun r => ∀ c : Dev Cert.DwXkvIdeal.nD,
          r.2.mem ((c.tc : Thread Cert.DwXkvIdeal.nD Cert.DwXkvIdeal.τ).loc Cert.DwXkvIdeal.main_v0) = v0 c
          ∧ r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
          ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ θ_run (Cert.DwXkvRefIdeal.defs (F := Ideal)) (onTc (τ := Cert.DwXkvRefIdeal.τ) (Cert.DwXkvRefIdeal.main (F := Ideal))) ⟨m', fun _ => 0, g'⟩ (fun r => ∀ c : Dev Cert.DwXkvRefIdeal.nD,
          r.2.mem ((c.tc : Thread Cert.DwXkvRefIdeal.nD Cert.DwXkvRefIdeal.τ).loc Cert.DwXkvRefIdeal.main_v9) = v0 c
          ∧ r.2.mem ((c.tc : Thread Cert.DwXkvRefIdeal.nD Cert.DwXkvRefIdeal.τ).loc Cert.DwXkvRefIdeal.main_arg0) = m' ((c.tc : Thread Cert.DwXkvRefIdeal.nD Cert.DwXkvRefIdeal.τ).loc Cert.DwXkvRefIdeal.main_arg0)
          ∧ r.2.mem ((c.tc : Thread Cert.DwXkvRefIdeal.nD Cert.DwXkvRefIdeal.τ).loc Cert.DwXkvRefIdeal.main_arg1) = m' ((c.tc : Thread Cert.DwXkvRefIdeal.nD Cert.DwXkvRefIdeal.τ).loc Cert.DwXkvRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v10) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v40) = v0 c
          ∧ r.2.mem ((c.tc : Thread Cert.UpBwdRefIdeal.nD Cert.UpBwdRefIdeal.τ).loc Cert.UpBwdRefIdeal.main_v23) = v1 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v40) = v0 c
          ∧ r.2.mem ((c.tc : Thread Cert.InBwdRefIdeal.nD Cert.InBwdRefIdeal.τ).loc Cert.InBwdRefIdeal.main_v23) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_XqBwd_XqBwdIdeal : Prop :=
  True

def algebraic_XqBwdIdeal_XqBwdRefIdeal [hXqBwdIdeal : Cert.XqBwdIdeal.Facts] [hXqBwdRefIdeal : Cert.XqBwdRefIdeal.Facts] : Prop :=
  ∀ (m : (ℓ : Loc Cert.XqBwdIdeal.nD Cert.XqBwdIdeal.τ Cert.XqBwdIdeal.sig) → Buf (Elt Ideal) ℓ) (g : Dev Cert.XqBwdIdeal.nD → PrngReg)
    (m' : (ℓ : Loc Cert.XqBwdRefIdeal.nD Cert.XqBwdRefIdeal.τ Cert.XqBwdRefIdeal.sig) → Buf (Elt Ideal) ℓ) (g' : Dev Cert.XqBwdRefIdeal.nD → PrngReg), Pre_XqBwdIdeal m →
    (∀ c : Dev Cert.XqBwdIdeal.nD,
      m' ((c.tc : Thread Cert.XqBwdRefIdeal.nD Cert.XqBwdRefIdeal.τ).loc Cert.XqBwdRefIdeal.main_arg0) = m ((c.tc : Thread Cert.XqBwdIdeal.nD Cert.XqBwdIdeal.τ).loc Cert.XqBwdIdeal.main_arg0)
      ∧ m' ((c.tc : Thread Cert.XqBwdRefIdeal.nD Cert.XqBwdRefIdeal.τ).loc Cert.XqBwdRefIdeal.main_arg1) = m ((c.tc : Thread Cert.XqBwdIdeal.nD Cert.XqBwdIdeal.τ).loc Cert.XqBwdIdeal.main_arg1)
      ∧ m' ((c.tc : Thread Cert.XqBwdRefIdeal.nD Cert.XqBwdRefIdeal.τ).loc Cert.XqBwdRefIdeal.main_arg2) = m ((c.tc : Thread Cert.XqBwdIdeal.nD Cert.XqBwdIdeal.τ).loc Cert.XqBwdIdeal.main_arg2)
      ∧ m' ((c.tc : Thread Cert.XqBwdRefIdeal.nD Cert.XqBwdRefIdeal.τ).loc Cert.XqBwdRefIdeal.main_arg3) = m ((c.tc : Thread Cert.XqBwdIdeal.nD Cert.XqBwdIdeal.τ).loc Cert.XqBwdIdeal.main_arg3)
      ∧ m' ((c.tc : Thread Cert.XqBwdRefIdeal.nD Cert.XqBwdRefIdeal.τ).loc Cert.XqBwdRefIdeal.main_arg4) = m ((c.tc : Thread Cert.XqBwdIdeal.nD Cert.XqBwdIdeal.τ).loc Cert.XqBwdIdeal.main_arg4)) →
    ∃ (v0 : (c : Dev Cert.XqBwdIdeal.nD) → Buf (Elt Ideal) ((c.tc : Thread Cert.XqBwdIdeal.nD Cert.XqBwdIdeal.τ).loc Cert.XqBwdIdeal.main_v0_0)) (v1 : (c : Dev Cert.XqBwdIdeal.nD) → Buf (Elt Ideal) ((c.tc : Thread Cert.XqBwdIdeal.nD Cert.XqBwdIdeal.τ).loc Cert.XqBwdIdeal.main_v0_1)),
      θ_run (Cert.XqBwdIdeal.defs (F := Ideal)) (onTc (τ := Cert.XqBwdIdeal.τ) (Cert.XqBwdIdeal.main (F := Ideal))) ⟨m, fun _ => 0, g⟩ (fun r => ∀ c : Dev Cert.XqBwdIdeal.nD,
          r.2.mem ((c.tc : Thread Cert.XqBwdIdeal.nD Cert.XqBwdIdeal.τ).loc Cert.XqBwdIdeal.main_v0_0) = v0 c
          ∧ r.2.mem ((c.tc : Thread Cert.XqBwdIdeal.nD Cert.XqBwdIdeal.τ).loc Cert.XqBwdIdeal.main_v0_1) = v1 c
          ∧ r.2.mem ((c.tc : Thread Cert.XqBwdIdeal.nD Cert.XqBwdIdeal.τ).loc Cert.XqBwdIdeal.main_arg0) = m ((c.tc : Thread Cert.XqBwdIdeal.nD Cert.XqBwdIdeal.τ).loc Cert.XqBwdIdeal.main_arg0)
          ∧ r.2.mem ((c.tc : Thread Cert.XqBwdIdeal.nD Cert.XqBwdIdeal.τ).loc Cert.XqBwdIdeal.main_arg1) = m ((c.tc : Thread Cert.XqBwdIdeal.nD Cert.XqBwdIdeal.τ).loc Cert.XqBwdIdeal.main_arg1)
          ∧ r.2.mem ((c.tc : Thread Cert.XqBwdIdeal.nD Cert.XqBwdIdeal.τ).loc Cert.XqBwdIdeal.main_arg2) = m ((c.tc : Thread Cert.XqBwdIdeal.nD Cert.XqBwdIdeal.τ).loc Cert.XqBwdIdeal.main_arg2)
          ∧ r.2.mem ((c.tc : Thread Cert.XqBwdIdeal.nD Cert.XqBwdIdeal.τ).loc Cert.XqBwdIdeal.main_arg3) = m ((c.tc : Thread Cert.XqBwdIdeal.nD Cert.XqBwdIdeal.τ).loc Cert.XqBwdIdeal.main_arg3)
          ∧ r.2.mem ((c.tc : Thread Cert.XqBwdIdeal.nD Cert.XqBwdIdeal.τ).loc Cert.XqBwdIdeal.main_arg4) = m ((c.tc : Thread Cert.XqBwdIdeal.nD Cert.XqBwdIdeal.τ).loc Cert.XqBwdIdeal.main_arg4))
      ∧ θ_run (Cert.XqBwdRefIdeal.defs (F := Ideal)) (onTc (τ := Cert.XqBwdRefIdeal.τ) (Cert.XqBwdRefIdeal.main (F := Ideal))) ⟨m', fun _ => 0, g'⟩ (fun r => ∀ c : Dev Cert.XqBwdRefIdeal.nD,
          r.2.mem ((c.tc : Thread Cert.XqBwdRefIdeal.nD Cert.XqBwdRefIdeal.τ).loc Cert.XqBwdRefIdeal.main_v38) = v0 c
          ∧ r.2.mem ((c.tc : Thread Cert.XqBwdRefIdeal.nD Cert.XqBwdRefIdeal.τ).loc Cert.XqBwdRefIdeal.main_v21) = v1 c
          ∧ r.2.mem ((c.tc : Thread Cert.XqBwdRefIdeal.nD Cert.XqBwdRefIdeal.τ).loc Cert.XqBwdRefIdeal.main_arg0) = m' ((c.tc : Thread Cert.XqBwdRefIdeal.nD Cert.XqBwdRefIdeal.τ).loc Cert.XqBwdRefIdeal.main_arg0)
          ∧ r.2.mem ((c.tc : Thread Cert.XqBwdRefIdeal.nD Cert.XqBwdRefIdeal.τ).loc Cert.XqBwdRefIdeal.main_arg1) = m' ((c.tc : Thread Cert.XqBwdRefIdeal.nD Cert.XqBwdRefIdeal.τ).loc Cert.XqBwdRefIdeal.main_arg1)
          ∧ r.2.mem ((c.tc : Thread Cert.XqBwdRefIdeal.nD Cert.XqBwdRefIdeal.τ).loc Cert.XqBwdRefIdeal.main_arg2) = m' ((c.tc : Thread Cert.XqBwdRefIdeal.nD Cert.XqBwdRefIdeal.τ).loc Cert.XqBwdRefIdeal.main_arg2)
          ∧ r.2.mem ((c.tc : Thread Cert.XqBwdRefIdeal.nD Cert.XqBwdRefIdeal.τ).loc Cert.XqBwdRefIdeal.main_arg3) = m' ((c.tc : Thread Cert.XqBwdRefIdeal.nD Cert.XqBwdRefIdeal.τ).loc Cert.XqBwdRefIdeal.main_arg3)
          ∧ r.2.mem ((c.tc : Thread Cert.XqBwdRefIdeal.nD Cert.XqBwdRefIdeal.τ).loc Cert.XqBwdRefIdeal.main_arg4) = m' ((c.tc : Thread Cert.XqBwdRefIdeal.nD Cert.XqBwdRefIdeal.τ).loc Cert.XqBwdRefIdeal.main_arg4))

def preserves_XkvBwd_XkvBwdIdeal : Prop :=
  True

def algebraic_XkvBwdIdeal_XkvBwdRefIdeal [hXkvBwdIdeal : Cert.XkvBwdIdeal.Facts] [hXkvBwdRefIdeal : Cert.XkvBwdRefIdeal.Facts] : Prop :=
  ∀ (m : (ℓ : Loc Cert.XkvBwdIdeal.nD Cert.XkvBwdIdeal.τ Cert.XkvBwdIdeal.sig) → Buf (Elt Ideal) ℓ) (g : Dev Cert.XkvBwdIdeal.nD → PrngReg)
    (m' : (ℓ : Loc Cert.XkvBwdRefIdeal.nD Cert.XkvBwdRefIdeal.τ Cert.XkvBwdRefIdeal.sig) → Buf (Elt Ideal) ℓ) (g' : Dev Cert.XkvBwdRefIdeal.nD → PrngReg), Pre_XkvBwdIdeal m →
    (∀ c : Dev Cert.XkvBwdIdeal.nD,
      m' ((c.tc : Thread Cert.XkvBwdRefIdeal.nD Cert.XkvBwdRefIdeal.τ).loc Cert.XkvBwdRefIdeal.main_arg0) = m ((c.tc : Thread Cert.XkvBwdIdeal.nD Cert.XkvBwdIdeal.τ).loc Cert.XkvBwdIdeal.main_arg0)
      ∧ m' ((c.tc : Thread Cert.XkvBwdRefIdeal.nD Cert.XkvBwdRefIdeal.τ).loc Cert.XkvBwdRefIdeal.main_arg1) = m ((c.tc : Thread Cert.XkvBwdIdeal.nD Cert.XkvBwdIdeal.τ).loc Cert.XkvBwdIdeal.main_arg1)
      ∧ m' ((c.tc : Thread Cert.XkvBwdRefIdeal.nD Cert.XkvBwdRefIdeal.τ).loc Cert.XkvBwdRefIdeal.main_arg2) = m ((c.tc : Thread Cert.XkvBwdIdeal.nD Cert.XkvBwdIdeal.τ).loc Cert.XkvBwdIdeal.main_arg2)
      ∧ m' ((c.tc : Thread Cert.XkvBwdRefIdeal.nD Cert.XkvBwdRefIdeal.τ).loc Cert.XkvBwdRefIdeal.main_arg3) = m ((c.tc : Thread Cert.XkvBwdIdeal.nD Cert.XkvBwdIdeal.τ).loc Cert.XkvBwdIdeal.main_arg3)) →
    ∃ (v0 : (c : Dev Cert.XkvBwdIdeal.nD) → Buf (Elt Ideal) ((c.tc : Thread Cert.XkvBwdIdeal.nD Cert.XkvBwdIdeal.τ).loc Cert.XkvBwdIdeal.main_v1_1)),
      θ_run (Cert.XkvBwdIdeal.defs (F := Ideal)) (onTc (τ := Cert.XkvBwdIdeal.τ) (Cert.XkvBwdIdeal.main (F := Ideal))) ⟨m, fun _ => 0, g⟩ (fun r => ∀ c : Dev Cert.XkvBwdIdeal.nD,
          r.2.mem ((c.tc : Thread Cert.XkvBwdIdeal.nD Cert.XkvBwdIdeal.τ).loc Cert.XkvBwdIdeal.main_v1_1) = v0 c
          ∧ r.2.mem ((c.tc : Thread Cert.XkvBwdIdeal.nD Cert.XkvBwdIdeal.τ).loc Cert.XkvBwdIdeal.main_arg0) = m ((c.tc : Thread Cert.XkvBwdIdeal.nD Cert.XkvBwdIdeal.τ).loc Cert.XkvBwdIdeal.main_arg0)
          ∧ r.2.mem ((c.tc : Thread Cert.XkvBwdIdeal.nD Cert.XkvBwdIdeal.τ).loc Cert.XkvBwdIdeal.main_arg1) = m ((c.tc : Thread Cert.XkvBwdIdeal.nD Cert.XkvBwdIdeal.τ).loc Cert.XkvBwdIdeal.main_arg1)
          ∧ r.2.mem ((c.tc : Thread Cert.XkvBwdIdeal.nD Cert.XkvBwdIdeal.τ).loc Cert.XkvBwdIdeal.main_arg2) = m ((c.tc : Thread Cert.XkvBwdIdeal.nD Cert.XkvBwdIdeal.τ).loc Cert.XkvBwdIdeal.main_arg2)
          ∧ r.2.mem ((c.tc : Thread Cert.XkvBwdIdeal.nD Cert.XkvBwdIdeal.τ).loc Cert.XkvBwdIdeal.main_arg3) = m ((c.tc : Thread Cert.XkvBwdIdeal.nD Cert.XkvBwdIdeal.τ).loc Cert.XkvBwdIdeal.main_arg3))
      ∧ θ_run (Cert.XkvBwdRefIdeal.defs (F := Ideal)) (onTc (τ := Cert.XkvBwdRefIdeal.τ) (Cert.XkvBwdRefIdeal.main (F := Ideal))) ⟨m', fun _ => 0, g'⟩ (fun r => ∀ c : Dev Cert.XkvBwdRefIdeal.nD,
          r.2.mem ((c.tc : Thread Cert.XkvBwdRefIdeal.nD Cert.XkvBwdRefIdeal.τ).loc Cert.XkvBwdRefIdeal.main_v22) = v0 c
          ∧ r.2.mem ((c.tc : Thread Cert.XkvBwdRefIdeal.nD Cert.XkvBwdRefIdeal.τ).loc Cert.XkvBwdRefIdeal.main_arg0) = m' ((c.tc : Thread Cert.XkvBwdRefIdeal.nD Cert.XkvBwdRefIdeal.τ).loc Cert.XkvBwdRefIdeal.main_arg0)
          ∧ r.2.mem ((c.tc : Thread Cert.XkvBwdRefIdeal.nD Cert.XkvBwdRefIdeal.τ).loc Cert.XkvBwdRefIdeal.main_arg1) = m' ((c.tc : Thread Cert.XkvBwdRefIdeal.nD Cert.XkvBwdRefIdeal.τ).loc Cert.XkvBwdRefIdeal.main_arg1)
          ∧ r.2.mem ((c.tc : Thread Cert.XkvBwdRefIdeal.nD Cert.XkvBwdRefIdeal.τ).loc Cert.XkvBwdRefIdeal.main_arg2) = m' ((c.tc : Thread Cert.XkvBwdRefIdeal.nD Cert.XkvBwdRefIdeal.τ).loc Cert.XkvBwdRefIdeal.main_arg2)
          ∧ r.2.mem ((c.tc : Thread Cert.XkvBwdRefIdeal.nD Cert.XkvBwdRefIdeal.τ).loc Cert.XkvBwdRefIdeal.main_arg3) = m' ((c.tc : Thread Cert.XkvBwdRefIdeal.nD Cert.XkvBwdRefIdeal.τ).loc Cert.XkvBwdRefIdeal.main_arg3))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v4_0)) (v1 : (c : Dev Cert.DownBwdIdeal.nD) → Buf (Elt Ideal) ((c.tc : Thread Cert.DownBwdIdeal.nD Cert.DownBwdIdeal.τ).loc Cert.DownBwdIdeal.main_v4_1)) (v2 : (c : Dev Cert.DownBwdIdeal.nD) → Buf (Elt Ideal) ((c.tc : Thread Cert.DownBwdIdeal.nD Cert.DownBwdIdeal.τ).loc Cert.DownBwdIdeal.main_v4_2)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v4_0) = v0 c
          ∧ r.2.mem ((c.tc : Thread Cert.DownBwdIdeal.nD Cert.DownBwdIdeal.τ).loc Cert.DownBwdIdeal.main_v4_1) = v1 c
          ∧ r.2.mem ((c.tc : Thread Cert.DownBwdIdeal.nD Cert.DownBwdIdeal.τ).loc Cert.DownBwdIdeal.main_v4_2) = v2 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v37) = v0 c
          ∧ r.2.mem ((c.tc : Thread Cert.DownBwdRefIdeal.nD Cert.DownBwdRefIdeal.τ).loc Cert.DownBwdRefIdeal.main_v39) = v1 c
          ∧ r.2.mem ((c.tc : Thread Cert.DownBwdRefIdeal.nD Cert.DownBwdRefIdeal.τ).loc Cert.DownBwdRefIdeal.main_v20) = v2 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_SquareBwd_SquareBwdIdeal : Prop :=
  True

def algebraic_SquareBwdIdeal_SquareBwdRefIdeal [hSquareBwdIdeal : Cert.SquareBwdIdeal.Facts] [hSquareBwdRefIdeal : Cert.SquareBwdRefIdeal.Facts] : Prop :=
  ∀ (m : (ℓ : Loc Cert.SquareBwdIdeal.nD Cert.SquareBwdIdeal.τ Cert.SquareBwdIdeal.sig) → Buf (Elt Ideal) ℓ) (g : Dev Cert.SquareBwdIdeal.nD → PrngReg)
    (m' : (ℓ : Loc Cert.SquareBwdRefIdeal.nD Cert.SquareBwdRefIdeal.τ Cert.SquareBwdRefIdeal.sig) → Buf (Elt Ideal) ℓ) (g' : Dev Cert.SquareBwdRefIdeal.nD → PrngReg), Pre_SquareBwdIdeal m →
    (∀ c : Dev Cert.SquareBwdIdeal.nD,
      m' ((c.tc : Thread Cert.SquareBwdRefIdeal.nD Cert.SquareBwdRefIdeal.τ).loc Cert.SquareBwdRefIdeal.main_arg0) = m ((c.tc : Thread Cert.SquareBwdIdeal.nD Cert.SquareBwdIdeal.τ).loc Cert.SquareBwdIdeal.main_arg0)
      ∧ m' ((c.tc : Thread Cert.SquareBwdRefIdeal.nD Cert.SquareBwdRefIdeal.τ).loc Cert.SquareBwdRefIdeal.main_arg1) = m ((c.tc : Thread Cert.SquareBwdIdeal.nD Cert.SquareBwdIdeal.τ).loc Cert.SquareBwdIdeal.main_arg1)
      ∧ m' ((c.tc : Thread Cert.SquareBwdRefIdeal.nD Cert.SquareBwdRefIdeal.τ).loc Cert.SquareBwdRefIdeal.main_arg2) = m ((c.tc : Thread Cert.SquareBwdIdeal.nD Cert.SquareBwdIdeal.τ).loc Cert.SquareBwdIdeal.main_arg2)
      ∧ m' ((c.tc : Thread Cert.SquareBwdRefIdeal.nD Cert.SquareBwdRefIdeal.τ).loc Cert.SquareBwdRefIdeal.main_arg3) = m ((c.tc : Thread Cert.SquareBwdIdeal.nD Cert.SquareBwdIdeal.τ).loc Cert.SquareBwdIdeal.main_arg3)) →
    ∃ (v0 : (c : Dev Cert.SquareBwdIdeal.nD) → Buf (Elt Ideal) ((c.tc : Thread Cert.SquareBwdIdeal.nD Cert.SquareBwdIdeal.τ).loc Cert.SquareBwdIdeal.main_v4_0)) (v1 : (c : Dev Cert.SquareBwdIdeal.nD) → Buf (Elt Ideal) ((c.tc : Thread Cert.SquareBwdIdeal.nD Cert.SquareBwdIdeal.τ).loc Cert.SquareBwdIdeal.main_v4_1)) (v2 : (c : Dev Cert.SquareBwdIdeal.nD) → Buf (Elt Ideal) ((c.tc : Thread Cert.SquareBwdIdeal.nD Cert.SquareBwdIdeal.τ).loc Cert.SquareBwdIdeal.main_v4_2)),
      θ_run (Cert.SquareBwdIdeal.defs (F := Ideal)) (onTc (τ := Cert.SquareBwdIdeal.τ) (Cert.SquareBwdIdeal.main (F := Ideal))) ⟨m, fun _ => 0, g⟩ (fun r => ∀ c : Dev Cert.SquareBwdIdeal.nD,
          r.2.mem ((c.tc : Thread Cert.SquareBwdIdeal.nD Cert.SquareBwdIdeal.τ).loc Cert.SquareBwdIdeal.main_v4_0) = v0 c
          ∧ r.2.mem ((c.tc : Thread Cert.SquareBwdIdeal.nD Cert.SquareBwdIdeal.τ).loc Cert.SquareBwdIdeal.main_v4_1) = v1 c
          ∧ r.2.mem ((c.tc : Thread Cert.SquareBwdIdeal.nD Cert.SquareBwdIdeal.τ).loc Cert.SquareBwdIdeal.main_v4_2) = v2 c
          ∧ r.2.mem ((c.tc : Thread Cert.SquareBwdIdeal.nD Cert.SquareBwdIdeal.τ).loc Cert.SquareBwdIdeal.main_arg0) = m ((c.tc : Thread Cert.SquareBwdIdeal.nD Cert.SquareBwdIdeal.τ).loc Cert.SquareBwdIdeal.main_arg0)
          ∧ r.2.mem ((c.tc : Thread Cert.SquareBwdIdeal.nD Cert.SquareBwdIdeal.τ).loc Cert.SquareBwdIdeal.main_arg1) = m ((c.tc : Thread Cert.SquareBwdIdeal.nD Cert.SquareBwdIdeal.τ).loc Cert.SquareBwdIdeal.main_arg1)
          ∧ r.2.mem ((c.tc : Thread Cert.SquareBwdIdeal.nD Cert.SquareBwdIdeal.τ).loc Cert.SquareBwdIdeal.main_arg2) = m ((c.tc : Thread Cert.SquareBwdIdeal.nD Cert.SquareBwdIdeal.τ).loc Cert.SquareBwdIdeal.main_arg2)
          ∧ r.2.mem ((c.tc : Thread Cert.SquareBwdIdeal.nD Cert.SquareBwdIdeal.τ).loc Cert.SquareBwdIdeal.main_arg3) = m ((c.tc : Thread Cert.SquareBwdIdeal.nD Cert.SquareBwdIdeal.τ).loc Cert.SquareBwdIdeal.main_arg3))
      ∧ θ_run (Cert.SquareBwdRefIdeal.defs (F := Ideal)) (onTc (τ := Cert.SquareBwdRefIdeal.τ) (Cert.SquareBwdRefIdeal.main (F := Ideal))) ⟨m', fun _ => 0, g'⟩ (fun r => ∀ c : Dev Cert.SquareBwdRefIdeal.nD,
          r.2.mem ((c.tc : Thread Cert.SquareBwdRefIdeal.nD Cert.SquareBwdRefIdeal.τ).loc Cert.SquareBwdRefIdeal.main_v37) = v0 c
          ∧ r.2.mem ((c.tc : Thread Cert.SquareBwdRefIdeal.nD Cert.SquareBwdRefIdeal.τ).loc Cert.SquareBwdRefIdeal.main_v39) = v1 c
          ∧ r.2.mem ((c.tc : Thread Cert.SquareBwdRefIdeal.nD Cert.SquareBwdRefIdeal.τ).loc Cert.SquareBwdRefIdeal.main_v20) = v2 c
          ∧ r.2.mem ((c.tc : Thread Cert.SquareBwdRefIdeal.nD Cert.SquareBwdRefIdeal.τ).loc Cert.SquareBwdRefIdeal.main_arg0) = m' ((c.tc : Thread Cert.SquareBwdRefIdeal.nD Cert.SquareBwdRefIdeal.τ).loc Cert.SquareBwdRefIdeal.main_arg0)
          ∧ r.2.mem ((c.tc : Thread Cert.SquareBwdRefIdeal.nD Cert.SquareBwdRefIdeal.τ).loc Cert.SquareBwdRefIdeal.main_arg1) = m' ((c.tc : Thread Cert.SquareBwdRefIdeal.nD Cert.SquareBwdRefIdeal.τ).loc Cert.SquareBwdRefIdeal.main_arg1)
          ∧ r.2.mem ((c.tc : Thread Cert.SquareBwdRefIdeal.nD Cert.SquareBwdRefIdeal.τ).loc Cert.SquareBwdRefIdeal.main_arg2) = m' ((c.tc : Thread Cert.SquareBwdRefIdeal.nD Cert.SquareBwdRefIdeal.τ).loc Cert.SquareBwdRefIdeal.main_arg2)
          ∧ r.2.mem ((c.tc : Thread Cert.SquareBwdRefIdeal.nD Cert.SquareBwdRefIdeal.τ).loc Cert.SquareBwdRefIdeal.main_arg3) = m' ((c.tc : Thread Cert.SquareBwdRefIdeal.nD Cert.SquareBwdRefIdeal.τ).loc Cert.SquareBwdRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_UpProj_UpProjIdeal : Prop :=
  True

def algebraic_UpProjIdeal_UpProjRefIdeal [hUpProjIdeal : Cert.UpProjIdeal.Facts] [hUpProjRefIdeal : Cert.UpProjRefIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v13) = v0 c
          ∧ r.2.mem ((c.tc : Thread Cert.UpProjRefIdeal.nD Cert.UpProjRefIdeal.τ).loc Cert.UpProjRefIdeal.main_v28) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2))

def preserves_XqProj_XqProjIdeal : Prop :=
  True

def algebraic_XqProjIdeal_XqProjRefIdeal [hXqProjIdeal : Cert.XqProjIdeal.Facts] [hXqProjRefIdeal : Cert.XqProjRefIdeal.Facts] : Prop :=
  ∀ (m : (ℓ : Loc Cert.XqProjIdeal.nD Cert.XqProjIdeal.τ Cert.XqProjIdeal.sig) → Buf (Elt Ideal) ℓ) (g : Dev Cert.XqProjIdeal.nD → PrngReg)
    (m' : (ℓ : Loc Cert.XqProjRefIdeal.nD Cert.XqProjRefIdeal.τ Cert.XqProjRefIdeal.sig) → Buf (Elt Ideal) ℓ) (g' : Dev Cert.XqProjRefIdeal.nD → PrngReg), Pre_XqProjIdeal m →
    (∀ c : Dev Cert.XqProjIdeal.nD,
      m' ((c.tc : Thread Cert.XqProjRefIdeal.nD Cert.XqProjRefIdeal.τ).loc Cert.XqProjRefIdeal.main_arg0) = m ((c.tc : Thread Cert.XqProjIdeal.nD Cert.XqProjIdeal.τ).loc Cert.XqProjIdeal.main_arg0)
      ∧ m' ((c.tc : Thread Cert.XqProjRefIdeal.nD Cert.XqProjRefIdeal.τ).loc Cert.XqProjRefIdeal.main_arg1) = m ((c.tc : Thread Cert.XqProjIdeal.nD Cert.XqProjIdeal.τ).loc Cert.XqProjIdeal.main_arg1)
      ∧ m' ((c.tc : Thread Cert.XqProjRefIdeal.nD Cert.XqProjRefIdeal.τ).loc Cert.XqProjRefIdeal.main_arg2) = m ((c.tc : Thread Cert.XqProjIdeal.nD Cert.XqProjIdeal.τ).loc Cert.XqProjIdeal.main_arg2)) →
    ∃ (v0 : (c : Dev Cert.XqProjIdeal.nD) → Buf (Elt Ideal) ((c.tc : Thread Cert.XqProjIdeal.nD Cert.XqProjIdeal.τ).loc Cert.XqProjIdeal.main_v0_0)) (v1 : (c : Dev Cert.XqProjIdeal.nD) → Buf (Elt Ideal) ((c.tc : Thread Cert.XqProjIdeal.nD Cert.XqProjIdeal.τ).loc Cert.XqProjIdeal.main_v0_1)),
      θ_run (Cert.XqProjIdeal.defs (F := Ideal)) (onTc (τ := Cert.XqProjIdeal.τ) (Cert.XqProjIdeal.main (F := Ideal))) ⟨m, fun _ => 0, g⟩ (fun r => ∀ c : Dev Cert.XqProjIdeal.nD,
          r.2.mem ((c.tc : Thread Cert.XqProjIdeal.nD Cert.XqProjIdeal.τ).loc Cert.XqProjIdeal.main_v0_0) = v0 c
          ∧ r.2.mem ((c.tc : Thread Cert.XqProjIdeal.nD Cert.XqProjIdeal.τ).loc Cert.XqProjIdeal.main_v0_1) = v1 c
          ∧ r.2.mem ((c.tc : Thread Cert.XqProjIdeal.nD Cert.XqProjIdeal.τ).loc Cert.XqProjIdeal.main_arg0) = m ((c.tc : Thread Cert.XqProjIdeal.nD Cert.XqProjIdeal.τ).loc Cert.XqProjIdeal.main_arg0)
          ∧ r.2.mem ((c.tc : Thread Cert.XqProjIdeal.nD Cert.XqProjIdeal.τ).loc Cert.XqProjIdeal.main_arg1) = m ((c.tc : Thread Cert.XqProjIdeal.nD Cert.XqProjIdeal.τ).loc Cert.XqProjIdeal.main_arg1)
          ∧ r.2.mem ((c.tc : Thread Cert.XqProjIdeal.nD Cert.XqProjIdeal.τ).loc Cert.XqProjIdeal.main_arg2) = m ((c.tc : Thread Cert.XqProjIdeal.nD Cert.XqProjIdeal.τ).loc Cert.XqProjIdeal.main_arg2))
      ∧ θ_run (Cert.XqProjRefIdeal.defs (F := Ideal)) (onTc (τ := Cert.XqProjRefIdeal.τ) (Cert.XqProjRefIdeal.main (F := Ideal))) ⟨m', fun _ => 0, g'⟩ (fun r => ∀ c : Dev Cert.XqProjRefIdeal.nD,
          r.2.mem ((c.tc : Thread Cert.XqProjRefIdeal.nD Cert.XqProjRefIdeal.τ).loc Cert.XqProjRefIdeal.main_v12) = v0 c
          ∧ r.2.mem ((c.tc : Thread Cert.XqProjRefIdeal.nD Cert.XqProjRefIdeal.τ).loc Cert.XqProjRefIdeal.main_v27) = v1 c
          ∧ r.2.mem ((c.tc : Thread Cert.XqProjRefIdeal.nD Cert.XqProjRefIdeal.τ).loc Cert.XqProjRefIdeal.main_arg0) = m' ((c.tc : Thread Cert.XqProjRefIdeal.nD Cert.XqProjRefIdeal.τ).loc Cert.XqProjRefIdeal.main_arg0)
          ∧ r.2.mem ((c.tc : Thread Cert.XqProjRefIdeal.nD Cert.XqProjRefIdeal.τ).loc Cert.XqProjRefIdeal.main_arg1) = m' ((c.tc : Thread Cert.XqProjRefIdeal.nD Cert.XqProjRefIdeal.τ).loc Cert.XqProjRefIdeal.main_arg1)
          ∧ r.2.mem ((c.tc : Thread Cert.XqProjRefIdeal.nD Cert.XqProjRefIdeal.τ).loc Cert.XqProjRefIdeal.main_arg2) = m' ((c.tc : Thread Cert.XqProjRefIdeal.nD Cert.XqProjRefIdeal.τ).loc Cert.XqProjRefIdeal.main_arg2))

def preserves_XkvProj_XkvProjIdeal : Prop :=
  True

def algebraic_XkvProjIdeal_XkvProjRefIdeal [hXkvProjIdeal : Cert.XkvProjIdeal.Facts] [hXkvProjRefIdeal : Cert.XkvProjRefIdeal.Facts] : Prop :=
  ∀ (m : (ℓ : Loc Cert.XkvProjIdeal.nD Cert.XkvProjIdeal.τ Cert.XkvProjIdeal.sig) → Buf (Elt Ideal) ℓ) (g : Dev Cert.XkvProjIdeal.nD → PrngReg)
    (m' : (ℓ : Loc Cert.XkvProjRefIdeal.nD Cert.XkvProjRefIdeal.τ Cert.XkvProjRefIdeal.sig) → Buf (Elt Ideal) ℓ) (g' : Dev Cert.XkvProjRefIdeal.nD → PrngReg), Pre_XkvProjIdeal m →
    (∀ c : Dev Cert.XkvProjIdeal.nD,
      m' ((c.tc : Thread Cert.XkvProjRefIdeal.nD Cert.XkvProjRefIdeal.τ).loc Cert.XkvProjRefIdeal.main_arg0) = m ((c.tc : Thread Cert.XkvProjIdeal.nD Cert.XkvProjIdeal.τ).loc Cert.XkvProjIdeal.main_arg0)
      ∧ m' ((c.tc : Thread Cert.XkvProjRefIdeal.nD Cert.XkvProjRefIdeal.τ).loc Cert.XkvProjRefIdeal.main_arg1) = m ((c.tc : Thread Cert.XkvProjIdeal.nD Cert.XkvProjIdeal.τ).loc Cert.XkvProjIdeal.main_arg1)
      ∧ m' ((c.tc : Thread Cert.XkvProjRefIdeal.nD Cert.XkvProjRefIdeal.τ).loc Cert.XkvProjRefIdeal.main_arg2) = m ((c.tc : Thread Cert.XkvProjIdeal.nD Cert.XkvProjIdeal.τ).loc Cert.XkvProjIdeal.main_arg2)) →
    ∃ (v0 : (c : Dev Cert.XkvProjIdeal.nD) → Buf (Elt Ideal) ((c.tc : Thread Cert.XkvProjIdeal.nD Cert.XkvProjIdeal.τ).loc Cert.XkvProjIdeal.main_v0_0)) (v1 : (c : Dev Cert.XkvProjIdeal.nD) → Buf (Elt Ideal) ((c.tc : Thread Cert.XkvProjIdeal.nD Cert.XkvProjIdeal.τ).loc Cert.XkvProjIdeal.main_v0_1)),
      θ_run (Cert.XkvProjIdeal.defs (F := Ideal)) (onTc (τ := Cert.XkvProjIdeal.τ) (Cert.XkvProjIdeal.main (F := Ideal))) ⟨m, fun _ => 0, g⟩ (fun r => ∀ c : Dev Cert.XkvProjIdeal.nD,
          r.2.mem ((c.tc : Thread Cert.XkvProjIdeal.nD Cert.XkvProjIdeal.τ).loc Cert.XkvProjIdeal.main_v0_0) = v0 c
          ∧ r.2.mem ((c.tc : Thread Cert.XkvProjIdeal.nD Cert.XkvProjIdeal.τ).loc Cert.XkvProjIdeal.main_v0_1) = v1 c
          ∧ r.2.mem ((c.tc : Thread Cert.XkvProjIdeal.nD Cert.XkvProjIdeal.τ).loc Cert.XkvProjIdeal.main_arg0) = m ((c.tc : Thread Cert.XkvProjIdeal.nD Cert.XkvProjIdeal.τ).loc Cert.XkvProjIdeal.main_arg0)
          ∧ r.2.mem ((c.tc : Thread Cert.XkvProjIdeal.nD Cert.XkvProjIdeal.τ).loc Cert.XkvProjIdeal.main_arg1) = m ((c.tc : Thread Cert.XkvProjIdeal.nD Cert.XkvProjIdeal.τ).loc Cert.XkvProjIdeal.main_arg1)
          ∧ r.2.mem ((c.tc : Thread Cert.XkvProjIdeal.nD Cert.XkvProjIdeal.τ).loc Cert.XkvProjIdeal.main_arg2) = m ((c.tc : Thread Cert.XkvProjIdeal.nD Cert.XkvProjIdeal.τ).loc Cert.XkvProjIdeal.main_arg2))
      ∧ θ_run (Cert.XkvProjRefIdeal.defs (F := Ideal)) (onTc (τ := Cert.XkvProjRefIdeal.τ) (Cert.XkvProjRefIdeal.main (F := Ideal))) ⟨m', fun _ => 0, g'⟩ (fun r => ∀ c : Dev Cert.XkvProjRefIdeal.nD,
          r.2.mem ((c.tc : Thread Cert.XkvProjRefIdeal.nD Cert.XkvProjRefIdeal.τ).loc Cert.XkvProjRefIdeal.main_v13) = v0 c
          ∧ r.2.mem ((c.tc : Thread Cert.XkvProjRefIdeal.nD Cert.XkvProjRefIdeal.τ).loc Cert.XkvProjRefIdeal.main_v27) = v1 c
          ∧ r.2.mem ((c.tc : Thread Cert.XkvProjRefIdeal.nD Cert.XkvProjRefIdeal.τ).loc Cert.XkvProjRefIdeal.main_arg0) = m' ((c.tc : Thread Cert.XkvProjRefIdeal.nD Cert.XkvProjRefIdeal.τ).loc Cert.XkvProjRefIdeal.main_arg0)
          ∧ r.2.mem ((c.tc : Thread Cert.XkvProjRefIdeal.nD Cert.XkvProjRefIdeal.τ).loc Cert.XkvProjRefIdeal.main_arg1) = m' ((c.tc : Thread Cert.XkvProjRefIdeal.nD Cert.XkvProjRefIdeal.τ).loc Cert.XkvProjRefIdeal.main_arg1)
          ∧ r.2.mem ((c.tc : Thread Cert.XkvProjRefIdeal.nD Cert.XkvProjRefIdeal.τ).loc Cert.XkvProjRefIdeal.main_arg2) = m' ((c.tc : Thread Cert.XkvProjRefIdeal.nD Cert.XkvProjRefIdeal.τ).loc Cert.XkvProjRefIdeal.main_arg2))

def preserves_XoProj_XoProjIdeal : Prop :=
  True

def algebraic_XoProjIdeal_XoProjRefIdeal [hXoProjIdeal : Cert.XoProjIdeal.Facts] [hXoProjRefIdeal : Cert.XoProjRefIdeal.Facts] : Prop :=
  ∀ (m : (ℓ : Loc Cert.XoProjIdeal.nD Cert.XoProjIdeal.τ Cert.XoProjIdeal.sig) → Buf (Elt Ideal) ℓ) (g : Dev Cert.XoProjIdeal.nD → PrngReg)
    (m' : (ℓ : Loc Cert.XoProjRefIdeal.nD Cert.XoProjRefIdeal.τ Cert.XoProjRefIdeal.sig) → Buf (Elt Ideal) ℓ) (g' : Dev Cert.XoProjRefIdeal.nD → PrngReg), Pre_XoProjIdeal m →
    (∀ c : Dev Cert.XoProjIdeal.nD,
      m' ((c.tc : Thread Cert.XoProjRefIdeal.nD Cert.XoProjRefIdeal.τ).loc Cert.XoProjRefIdeal.main_arg0) = m ((c.tc : Thread Cert.XoProjIdeal.nD Cert.XoProjIdeal.τ).loc Cert.XoProjIdeal.main_arg0)
      ∧ m' ((c.tc : Thread Cert.XoProjRefIdeal.nD Cert.XoProjRefIdeal.τ).loc Cert.XoProjRefIdeal.main_arg1) = m ((c.tc : Thread Cert.XoProjIdeal.nD Cert.XoProjIdeal.τ).loc Cert.XoProjIdeal.main_arg1)
      ∧ m' ((c.tc : Thread Cert.XoProjRefIdeal.nD Cert.XoProjRefIdeal.τ).loc Cert.XoProjRefIdeal.main_arg2) = m ((c.tc : Thread Cert.XoProjIdeal.nD Cert.XoProjIdeal.τ).loc Cert.XoProjIdeal.main_arg2)
      ∧ m' ((c.tc : Thread Cert.XoProjRefIdeal.nD Cert.XoProjRefIdeal.τ).loc Cert.XoProjRefIdeal.main_arg3) = m ((c.tc : Thread Cert.XoProjIdeal.nD Cert.XoProjIdeal.τ).loc Cert.XoProjIdeal.main_arg3)) →
    ∃ (v0 : (c : Dev Cert.XoProjIdeal.nD) → Buf (Elt Ideal) ((c.tc : Thread Cert.XoProjIdeal.nD Cert.XoProjIdeal.τ).loc Cert.XoProjIdeal.main_v0_0)) (v1 : (c : Dev Cert.XoProjIdeal.nD) → Buf (Elt Ideal) ((c.tc : Thread Cert.XoProjIdeal.nD Cert.XoProjIdeal.τ).loc Cert.XoProjIdeal.main_v0_1)),
      θ_run (Cert.XoProjIdeal.defs (F := Ideal)) (onTc (τ := Cert.XoProjIdeal.τ) (Cert.XoProjIdeal.main (F := Ideal))) ⟨m, fun _ => 0, g⟩ (fun r => ∀ c : Dev Cert.XoProjIdeal.nD,
          r.2.mem ((c.tc : Thread Cert.XoProjIdeal.nD Cert.XoProjIdeal.τ).loc Cert.XoProjIdeal.main_v0_0) = v0 c
          ∧ r.2.mem ((c.tc : Thread Cert.XoProjIdeal.nD Cert.XoProjIdeal.τ).loc Cert.XoProjIdeal.main_v0_1) = v1 c
          ∧ r.2.mem ((c.tc : Thread Cert.XoProjIdeal.nD Cert.XoProjIdeal.τ).loc Cert.XoProjIdeal.main_arg0) = m ((c.tc : Thread Cert.XoProjIdeal.nD Cert.XoProjIdeal.τ).loc Cert.XoProjIdeal.main_arg0)
          ∧ r.2.mem ((c.tc : Thread Cert.XoProjIdeal.nD Cert.XoProjIdeal.τ).loc Cert.XoProjIdeal.main_arg1) = m ((c.tc : Thread Cert.XoProjIdeal.nD Cert.XoProjIdeal.τ).loc Cert.XoProjIdeal.main_arg1)
          ∧ r.2.mem ((c.tc : Thread Cert.XoProjIdeal.nD Cert.XoProjIdeal.τ).loc Cert.XoProjIdeal.main_arg2) = m ((c.tc : Thread Cert.XoProjIdeal.nD Cert.XoProjIdeal.τ).loc Cert.XoProjIdeal.main_arg2)
          ∧ r.2.mem ((c.tc : Thread Cert.XoProjIdeal.nD Cert.XoProjIdeal.τ).loc Cert.XoProjIdeal.main_arg3) = m ((c.tc : Thread Cert.XoProjIdeal.nD Cert.XoProjIdeal.τ).loc Cert.XoProjIdeal.main_arg3))
      ∧ θ_run (Cert.XoProjRefIdeal.defs (F := Ideal)) (onTc (τ := Cert.XoProjRefIdeal.τ) (Cert.XoProjRefIdeal.main (F := Ideal))) ⟨m', fun _ => 0, g'⟩ (fun r => ∀ c : Dev Cert.XoProjRefIdeal.nD,
          r.2.mem ((c.tc : Thread Cert.XoProjRefIdeal.nD Cert.XoProjRefIdeal.τ).loc Cert.XoProjRefIdeal.main_v3) = v0 c
          ∧ r.2.mem ((c.tc : Thread Cert.XoProjRefIdeal.nD Cert.XoProjRefIdeal.τ).loc Cert.XoProjRefIdeal.main_v16) = v1 c
          ∧ r.2.mem ((c.tc : Thread Cert.XoProjRefIdeal.nD Cert.XoProjRefIdeal.τ).loc Cert.XoProjRefIdeal.main_arg0) = m' ((c.tc : Thread Cert.XoProjRefIdeal.nD Cert.XoProjRefIdeal.τ).loc Cert.XoProjRefIdeal.main_arg0)
          ∧ r.2.mem ((c.tc : Thread Cert.XoProjRefIdeal.nD Cert.XoProjRefIdeal.τ).loc Cert.XoProjRefIdeal.main_arg1) = m' ((c.tc : Thread Cert.XoProjRefIdeal.nD Cert.XoProjRefIdeal.τ).loc Cert.XoProjRefIdeal.main_arg1)
          ∧ r.2.mem ((c.tc : Thread Cert.XoProjRefIdeal.nD Cert.XoProjRefIdeal.τ).loc Cert.XoProjRefIdeal.main_arg2) = m' ((c.tc : Thread Cert.XoProjRefIdeal.nD Cert.XoProjRefIdeal.τ).loc Cert.XoProjRefIdeal.main_arg2)
          ∧ r.2.mem ((c.tc : Thread Cert.XoProjRefIdeal.nD Cert.XoProjRefIdeal.τ).loc Cert.XoProjRefIdeal.main_arg3) = m' ((c.tc : Thread Cert.XoProjRefIdeal.nD Cert.XoProjRefIdeal.τ).loc Cert.XoProjRefIdeal.main_arg3))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)
      ∧ m' ((c.tc : Thread Cert.DownProjRefIdeal.nD Cert.DownProjRefIdeal.τ).loc Cert.DownProjRefIdeal.main_arg3) = m ((c.tc : Thread Cert.DownProjIdeal.nD Cert.DownProjIdeal.τ).loc Cert.DownProjIdeal.main_arg3)
      ∧ m' ((c.tc : Thread Cert.DownProjRefIdeal.nD Cert.DownProjRefIdeal.τ).loc Cert.DownProjRefIdeal.main_arg4) = m ((c.tc : Thread Cert.DownProjIdeal.nD Cert.DownProjIdeal.τ).loc Cert.DownProjIdeal.main_arg4)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)) (v2 : (c : Dev Cert.DownProjIdeal.nD) → Buf (Elt Ideal) ((c.tc : Thread Cert.DownProjIdeal.nD Cert.DownProjIdeal.τ).loc Cert.DownProjIdeal.main_v0_2)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_v0_2) = v2 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3)
          ∧ r.2.mem ((c.tc : Thread Cert.DownProjIdeal.nD Cert.DownProjIdeal.τ).loc Cert.DownProjIdeal.main_arg4) = m ((c.tc : Thread Cert.DownProjIdeal.nD Cert.DownProjIdeal.τ).loc Cert.DownProjIdeal.main_arg4))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v31) = v0 c
          ∧ r.2.mem ((c.tc : Thread Cert.DownProjRefIdeal.nD Cert.DownProjRefIdeal.τ).loc Cert.DownProjRefIdeal.main_v30) = v1 c
          ∧ r.2.mem ((c.tc : Thread Cert.DownProjRefIdeal.nD Cert.DownProjRefIdeal.τ).loc Cert.DownProjRefIdeal.main_v32) = v2 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2)
          ∧ r.2.mem ((c.tc : Thread Cert.DownProjRefIdeal.nD Cert.DownProjRefIdeal.τ).loc Cert.DownProjRefIdeal.main_arg3) = m' ((c.tc : Thread Cert.DownProjRefIdeal.nD Cert.DownProjRefIdeal.τ).loc Cert.DownProjRefIdeal.main_arg3)
          ∧ r.2.mem ((c.tc : Thread Cert.DownProjRefIdeal.nD Cert.DownProjRefIdeal.τ).loc Cert.DownProjRefIdeal.main_arg4) = m' ((c.tc : Thread Cert.DownProjRefIdeal.nD Cert.DownProjRefIdeal.τ).loc Cert.DownProjRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v24) = v0 c
          ∧ r.2.mem ((c.tc : Thread Cert.MixOutRefIdeal.nD Cert.MixOutRefIdeal.τ).loc Cert.MixOutRefIdeal.main_v25) = v1 c
          ∧ r.2.mem ((c.tc : Thread Cert.MixOutRefIdeal.nD Cert.MixOutRefIdeal.τ).loc Cert.MixOutRefIdeal.main_v38) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def Claim : Prop :=
  ∃ (hXattn : Cert.Xattn.Facts) (hXattnIdeal : Cert.XattnIdeal.Facts) (hXattnRefIdeal : Cert.XattnRefIdeal.Facts) (hXattnFwd : Cert.XattnFwd.Facts) (hXattnFwdIdeal : Cert.XattnFwdIdeal.Facts) (hXattnFwdRefIdeal : Cert.XattnFwdRefIdeal.Facts) (hAttnBwd : Cert.AttnBwd.Facts) (hAttnBwdIdeal : Cert.AttnBwdIdeal.Facts) (hAttnBwdRefIdeal : Cert.AttnBwdRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwSquare : Cert.DwSquare.Facts) (hDwSquareIdeal : Cert.DwSquareIdeal.Facts) (hDwSquareRefIdeal : Cert.DwSquareRefIdeal.Facts) (hDwXkv : Cert.DwXkv.Facts) (hDwXkvIdeal : Cert.DwXkvIdeal.Facts) (hDwXkvRefIdeal : Cert.DwXkvRefIdeal.Facts) (hDwIn : Cert.DwIn.Facts) (hDwInIdeal : Cert.DwInIdeal.Facts) (hDwInRefIdeal : Cert.DwInRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hXqBwd : Cert.XqBwd.Facts) (hXqBwdIdeal : Cert.XqBwdIdeal.Facts) (hXqBwdRefIdeal : Cert.XqBwdRefIdeal.Facts) (hXkvBwd : Cert.XkvBwd.Facts) (hXkvBwdIdeal : Cert.XkvBwdIdeal.Facts) (hXkvBwdRefIdeal : Cert.XkvBwdRefIdeal.Facts) (hDownBwd : Cert.DownBwd.Facts) (hDownBwdIdeal : Cert.DownBwdIdeal.Facts) (hDownBwdRefIdeal : Cert.DownBwdRefIdeal.Facts) (hSquareBwd : Cert.SquareBwd.Facts) (hSquareBwdIdeal : Cert.SquareBwdIdeal.Facts) (hSquareBwdRefIdeal : Cert.SquareBwdRefIdeal.Facts) (hInProj : Cert.InProj.Facts) (hInProjIdeal : Cert.InProjIdeal.Facts) (hInProjRefIdeal : Cert.InProjRefIdeal.Facts) (hUpProj : Cert.UpProj.Facts) (hUpProjIdeal : Cert.UpProjIdeal.Facts) (hUpProjRefIdeal : Cert.UpProjRefIdeal.Facts) (hXqProj : Cert.XqProj.Facts) (hXqProjIdeal : Cert.XqProjIdeal.Facts) (hXqProjRefIdeal : Cert.XqProjRefIdeal.Facts) (hXkvProj : Cert.XkvProj.Facts) (hXkvProjIdeal : Cert.XkvProjIdeal.Facts) (hXkvProjRefIdeal : Cert.XkvProjRefIdeal.Facts) (hXoProj : Cert.XoProj.Facts) (hXoProjIdeal : Cert.XoProjIdeal.Facts) (hXoProjRefIdeal : Cert.XoProjRefIdeal.Facts) (hDownProj : Cert.DownProj.Facts) (hDownProjIdeal : Cert.DownProjIdeal.Facts) (hDownProjRefIdeal : Cert.DownProjRefIdeal.Facts) (hMixOut : Cert.MixOut.Facts) (hMixOutIdeal : Cert.MixOutIdeal.Facts) (hMixOutRefIdeal : Cert.MixOutRefIdeal.Facts) (hPre_finite : Cert.Pre_finite.Facts) (hPre_finite_memory : Cert.Pre_finite_memory.Facts) (hPre_finite_attn : Cert.Pre_finite_attn.Facts),
    quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnRefIdeal (hXattnRefIdeal := hXattnRefIdeal)
    ∧ quiescent_XattnRefIdeal_pre_finite (hXattnRefIdeal := hXattnRefIdeal) (hPre_finite := hPre_finite)
    ∧ quiescent_XattnFwd (hXattnFwd := hXattnFwd)
    ∧ quiescent_XattnFwdIdeal (hXattnFwdIdeal := hXattnFwdIdeal)
    ∧ quiescent_XattnFwdIdeal_pre_finite_memory (hXattnFwdIdeal := hXattnFwdIdeal) (hPre_finite_memory := hPre_finite_memory)
    ∧ quiescent_XattnFwdRefIdeal (hXattnFwdRefIdeal := hXattnFwdRefIdeal)
    ∧ quiescent_XattnFwdRefIdeal_pre_finite_memory (hXattnFwdRefIdeal := hXattnFwdRefIdeal) (hPre_finite_memory := hPre_finite_memory)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwXkv (hDwXkv := hDwXkv)
    ∧ quiescent_DwXkvIdeal (hDwXkvIdeal := hDwXkvIdeal)
    ∧ quiescent_DwXkvRefIdeal (hDwXkvRefIdeal := hDwXkvRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_XqBwd (hXqBwd := hXqBwd)
    ∧ quiescent_XqBwdIdeal (hXqBwdIdeal := hXqBwdIdeal)
    ∧ quiescent_XqBwdRefIdeal (hXqBwdRefIdeal := hXqBwdRefIdeal)
    ∧ quiescent_XkvBwd (hXkvBwd := hXkvBwd)
    ∧ quiescent_XkvBwdIdeal (hXkvBwdIdeal := hXkvBwdIdeal)
    ∧ quiescent_XkvBwdRefIdeal (hXkvBwdRefIdeal := hXkvBwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_SquareBwd (hSquareBwd := hSquareBwd)
    ∧ quiescent_SquareBwdIdeal (hSquareBwdIdeal := hSquareBwdIdeal)
    ∧ quiescent_SquareBwdRefIdeal (hSquareBwdRefIdeal := hSquareBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_UpProj (hUpProj := hUpProj)
    ∧ quiescent_UpProjIdeal (hUpProjIdeal := hUpProjIdeal)
    ∧ quiescent_UpProjRefIdeal (hUpProjRefIdeal := hUpProjRefIdeal)
    ∧ quiescent_XqProj (hXqProj := hXqProj)
    ∧ quiescent_XqProjIdeal (hXqProjIdeal := hXqProjIdeal)
    ∧ quiescent_XqProjRefIdeal (hXqProjRefIdeal := hXqProjRefIdeal)
    ∧ quiescent_XkvProj (hXkvProj := hXkvProj)
    ∧ quiescent_XkvProjIdeal (hXkvProjIdeal := hXkvProjIdeal)
    ∧ quiescent_XkvProjRefIdeal (hXkvProjRefIdeal := hXkvProjRefIdeal)
    ∧ quiescent_XoProj (hXoProj := hXoProj)
    ∧ quiescent_XoProjIdeal (hXoProjIdeal := hXoProjIdeal)
    ∧ quiescent_XoProjRefIdeal (hXoProjRefIdeal := hXoProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Xattn_XattnIdeal
    ∧ algebraic_XattnIdeal_XattnRefIdeal_pre_finite (hXattnIdeal := hXattnIdeal) (hXattnRefIdeal := hXattnRefIdeal) (hPre_finite := hPre_finite)
    ∧ preserves_XattnFwd_XattnFwdIdeal
    ∧ algebraic_XattnFwdIdeal_XattnFwdRefIdeal_pre_finite_memory (hXattnFwdIdeal := hXattnFwdIdeal) (hXattnFwdRefIdeal := hXattnFwdRefIdeal) (hPre_finite_memory := hPre_finite_memory)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwXkv_DwXkvIdeal
    ∧ algebraic_DwXkvIdeal_DwXkvRefIdeal (hDwXkvIdeal := hDwXkvIdeal) (hDwXkvRefIdeal := hDwXkvRefIdeal)
    ∧ preserves_DwIn_DwInIdeal
    ∧ algebraic_DwInIdeal_DwInRefIdeal (hDwInIdeal := hDwInIdeal) (hDwInRefIdeal := hDwInRefIdeal)
    ∧ preserves_UpBwd_UpBwdIdeal
    ∧ algebraic_UpBwdIdeal_UpBwdRefIdeal (hUpBwdIdeal := hUpBwdIdeal) (hUpBwdRefIdeal := hUpBwdRefIdeal)
    ∧ preserves_InBwd_InBwdIdeal
    ∧ algebraic_InBwdIdeal_InBwdRefIdeal (hInBwdIdeal := hInBwdIdeal) (hInBwdRefIdeal := hInBwdRefIdeal)
    ∧ preserves_XqBwd_XqBwdIdeal
    ∧ algebraic_XqBwdIdeal_XqBwdRefIdeal (hXqBwdIdeal := hXqBwdIdeal) (hXqBwdRefIdeal := hXqBwdRefIdeal)
    ∧ preserves_XkvBwd_XkvBwdIdeal
    ∧ algebraic_XkvBwdIdeal_XkvBwdRefIdeal (hXkvBwdIdeal := hXkvBwdIdeal) (hXkvBwdRefIdeal := hXkvBwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_SquareBwd_SquareBwdIdeal
    ∧ algebraic_SquareBwdIdeal_SquareBwdRefIdeal (hSquareBwdIdeal := hSquareBwdIdeal) (hSquareBwdRefIdeal := hSquareBwdRefIdeal)
    ∧ preserves_InProj_InProjIdeal
    ∧ algebraic_InProjIdeal_InProjRefIdeal (hInProjIdeal := hInProjIdeal) (hInProjRefIdeal := hInProjRefIdeal)
    ∧ preserves_UpProj_UpProjIdeal
    ∧ algebraic_UpProjIdeal_UpProjRefIdeal (hUpProjIdeal := hUpProjIdeal) (hUpProjRefIdeal := hUpProjRefIdeal)
    ∧ preserves_XqProj_XqProjIdeal
    ∧ algebraic_XqProjIdeal_XqProjRefIdeal (hXqProjIdeal := hXqProjIdeal) (hXqProjRefIdeal := hXqProjRefIdeal)
    ∧ preserves_XkvProj_XkvProjIdeal
    ∧ algebraic_XkvProjIdeal_XkvProjRefIdeal (hXkvProjIdeal := hXkvProjIdeal) (hXkvProjRefIdeal := hXkvProjRefIdeal)
    ∧ preserves_XoProj_XoProjIdeal
    ∧ algebraic_XoProjIdeal_XoProjRefIdeal (hXoProjIdeal := hXoProjIdeal) (hXoProjRefIdeal := hXoProjRefIdeal)
    ∧ preserves_DownProj_DownProjIdeal
    ∧ algebraic_DownProjIdeal_DownProjRefIdeal (hDownProjIdeal := hDownProjIdeal) (hDownProjRefIdeal := hDownProjRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x2048 : S_.BroadcastsInDim S256x2048 (![] : Fin 0 → Fin S256x2048.rank)

variable [Facts]

def fn {F : FTy → Type} [FloatOps F] (main_arg0 : FVec F S2048x1024 .bf16) (main_arg1 : FVec F S256x2048 .f32) (main_arg2 : FVec F S2048x1024 .bf16) : IVec S2048x1024 1 × IVec S256x2048 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  (main_v3, main_v6)
-- ==== Pre_finite_attn.lean ====
abbrev S2048x512 : Shape := ⟨2, ![2048, 512]⟩
abbrev S2048x128 : Shape := ⟨2, ![2048, 128]⟩
abbrev S2048x3328 : Shape := ⟨2, ![2048, 3328]⟩
abbrev S2048x1024 : Shape := ⟨2, ![2048, 1024]⟩
abbrev S_ : Shape := ⟨0, ![]⟩

class Facts : Prop where
  slices_S2048x3328_S2048x128_0_640 : S2048x3328.Slices ![0, 640] S2048x128
  slices_S2048x1024_S2048x512_0_0 : S2048x1024.Slices ![0, 0] S2048x512
  bitsLt_bf16_f32 : FTy.bits .bf16 < FTy.bits .f32
  bcast_S_S2048x512 : S_.BroadcastsInDim S2048x512 (![] : Fin 0 → Fin S2048x512.rank)
  bcast_S_S2048x128 : S_.BroadcastsInDim S2048x128 (![] : Fin 0 → Fin S2048x128.rank)

variable [Facts]

def fn {F : FTy → Type} [FloatOps F] (main_arg0 : FVec F S2048x512 .bf16) (main_arg1 : FVec F S2048x128 .bf16) (main_arg2 : FVec F S2048x3328 .bf16) (main_arg3 : FVec F S2048x1024 .bf16) : IVec S2048x512 1 × IVec S2048x128 1 × IVec S2048x128 1 × IVec S2048x512 1 :=
  let main_v0 : FVec F S2048x128 .bf16 := (extractStridedSlice S2048x128 ![0, 640] · slices_S2048x3328_S2048x128_0_640) main_arg2
  let main_v1 : FVec F S2048x512 .bf16 := (extractStridedSlice S2048x512 ![0, 0] · slices_S2048x1024_S2048x512_0_0) main_arg3
  let main_v2 : FVec F S2048x512 .f32 := (extf .f32 · bitsLt_bf16_f32) main_arg0
  let main_v3 : FVec F S2048x512 .f32 := Host.absf main_v2
  let main_cst : FVec F S_ .f32 := constant S_ .f32 0x7F800000#32
  let main_v4 : FVec F S2048x512 .f32 := broadcastInDim S2048x512 ![] bcast_S_S2048x512 main_cst
  let main_v5 : IVec S2048x512 1 := cmpf .olt main_v3 main_v4
  let main_v6 : FVec F S2048x128 .f32 := (extf .f32 · bitsLt_bf16_f32) main_arg1
  let main_v7 : FVec F S2048x128 .f32 := Host.absf main_v6
  let main_cst_0 : FVec F S_ .f32 := constant S_ .f32 0x7F800000#32
  let main_v8 : FVec F S2048x128 .f32 := broadcastInDim S2048x128 ![] bcast_S_S2048x128 main_cst_0
  let main_v9 : IVec S2048x128 1 := cmpf .olt main_v7 main_v8
  let main_v10 : FVec F S2048x128 .f32 := (extf .f32 · bitsLt_bf16_f32) main_v0
  let main_v11 : FVec F S2048x128 .f32 := Host.absf main_v10
  let main_cst_1 : FVec F S_ .f32 := constant S_ .f32 0x7F800000#32
  let main_v12 : FVec F S2048x128 .f32 := broadcastInDim S2048x128 ![] bcast_S_S2048x128 main_cst_1
  let main_v13 : IVec S2048x128 1 := cmpf .olt main_v11 main_v12
  let main_v14 : FVec F S2048x512 .f32 := (extf .f32 · bitsLt_bf16_f32) main_v1
  let main_v15 : FVec F S2048x512 .f32 := Host.absf main_v14
  let main_cst_2 : FVec F S_ .f32 := constant S_ .f32 0x7F800000#32
  let main_v16 : FVec F S2048x512 .f32 := broadcastInDim S2048x512 ![] bcast_S_S2048x512 main_cst_2
  let main_v17 : IVec S2048x512 1 := cmpf .olt main_v15 main_v16
  (main_v5, main_v9, main_v13, main_v17)
-- ==== Pre_finite_memory.lean ====
abbrev S2048x1024 : Shape := ⟨2, ![2048, 1024]⟩
abbrev S256x2048 : Shape := ⟨2, ![256, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S256x2048 : S_.BroadcastsInDim S256x2048 (![] : Fin 0 → Fin S256x2048.rank)

variable [Facts]

def fn {F : FTy → Type} [FloatOps F] (main_arg0 : FVec F S2048x1024 .bf16) (main_arg1 : FVec F S256x2048 .f32) : IVec S2048x1024 1 × IVec S256x2048 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  (main_v3, main_v6)
-- ==== Xattn.lean ====
abbrev S2048x1024 : Shape := ⟨2, ![2048, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .f32⟩
  | .hbm, ⟨2, _⟩ => ⟨S2048x1024, .bf16⟩
  | .hbm, ⟨3, _⟩ => ⟨S2048x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattnRefIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .f32⟩
  | .hbm, ⟨2, _⟩ => ⟨S2048x1024, .bf16⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S2048x4x256, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S4x2048x256, .f32⟩
  | .hbm, ⟨17, _⟩ => ⟨S4x2048x256, .i1⟩
  | .hbm, ⟨18, _⟩ => ⟨S4x2048x256, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .i1⟩
  | .hbm, ⟨27, _⟩ => ⟨S_, .f32⟩
  | .hbm, ⟨28, _⟩ => ⟨S4x2048, .f32⟩
  | .hbm, ⟨29, _⟩ => ⟨S4x2048, .i1⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | .hbm, ⟨37, _⟩ => ⟨S4x2048, .f32⟩
  | .hbm, ⟨38, _⟩ => ⟨S4x2048x1, .f32⟩
  | .hbm, ⟨39, _⟩ => ⟨S4x2048x256, .f32⟩
  | .hbm, ⟨40, _⟩ => ⟨S4x2048x256, .f32⟩
  | .hbm, ⟨41, _⟩ => ⟨S4x2048x256, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S4x2048x256, .f32⟩
  | .hbm, ⟨46, _⟩ => ⟨S4x2048x256, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x256x2048, .f32⟩
  | .hbm, ⟨52, _⟩ => ⟨S2048x4x256, .f32⟩
  | .hbm, ⟨53, _⟩ => ⟨S2048x1024, .f32⟩
  | .hbm, ⟨54, _⟩ => ⟨S2048x1024, .f32⟩
  | .hbm, ⟨55, _⟩ => ⟨S2048x4x256, .f32⟩
  | .hbm, ⟨56, _⟩ => ⟨S4x256x2048, .f32⟩
  | .hbm, ⟨57, _⟩ => ⟨S4x2048x256, .f32⟩
  | .hbm, ⟨58, _⟩ => ⟨S4x256x256, .f32⟩
  | .hbm, ⟨59, _⟩ => ⟨S256x4x256, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1, .f32⟩
  | .hbm, ⟨67, _⟩ => ⟨S4x2048x256, .f32⟩
  | .hbm, ⟨68, _⟩ => ⟨S4x2048x256, .f32⟩
  | .hbm, ⟨69, _⟩ => ⟨S_, .f32⟩
  | .hbm, ⟨70, _⟩ => ⟨S4x2048, .f32⟩
  | .hbm, ⟨71, _⟩ => ⟨S4x2048x256, .f32⟩
  | .hbm, ⟨72, _⟩ => ⟨S4x2048x256, .f32⟩
  | .hbm, ⟨73, _⟩ => ⟨S4x2048x256, .f32⟩
  | .hbm, ⟨74, _⟩ => ⟨S_, .f32⟩
  | .hbm, ⟨75, _⟩ => ⟨S4x2048x256, .f32⟩
  | .hbm, ⟨76, _⟩ => ⟨S4x2048x256, .f32⟩
  | .hbm, ⟨77, _⟩ => ⟨S4x256x256, .f32⟩
  | .hbm, ⟨78, _⟩ => ⟨S256x4x256, .f32⟩
  | .hbm, ⟨79, _⟩ => ⟨S4x2048x256, .f32⟩
  | .hbm, ⟨80, _⟩ => ⟨S2048x4x256, .f32⟩
  | .hbm, ⟨81, _⟩ => ⟨S256x1024, .f32⟩
  | .hbm, ⟨82, _⟩ => ⟨S256x1024, .f32⟩
  | .hbm, ⟨83, _⟩ => ⟨S2048x1024, .f32⟩
  | .hbm, ⟨84, _⟩ => ⟨S2048x1024, .bf16⟩
  | .hbm, ⟨85, _⟩ => ⟨S256x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== XattnFwd.lean ====
abbrev S2048x1024 : Shape := ⟨2, ![2048, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x2048, .f32⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .f32⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnFwdRefIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .f32⟩
  | .hbm, ⟨2, _⟩ => ⟨S256x1024, .f32⟩
  | .hbm, ⟨3, _⟩ => ⟨S256x1024, .f32⟩
  | .hbm, ⟨4, _⟩ => ⟨S2048x1024, .f32⟩
  | .hbm, ⟨5, _⟩ => ⟨S2048x4x256, .f32⟩
  | .hbm, ⟨6, _⟩ => ⟨S256x4x256, .f32⟩
  | .hbm, ⟨7, _⟩ => ⟨S256x4x256, .f32⟩
  | .hbm, ⟨8, _⟩ => ⟨S4x2048x256, .f32⟩
  | .hbm, ⟨9, _⟩ => ⟨S_, .f32⟩
  | .hbm, ⟨10, _⟩ => ⟨S4x2048x256, .f32⟩
  | .hbm, ⟨11, _⟩ => ⟨S4x2048x256, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .f32⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x256, .f32⟩
  | .hbm, ⟨25, _⟩ => ⟨S4x2048x256, .f32⟩
  | .hbm, ⟨26, _⟩ => ⟨S4x256x2048, .f32⟩
  | .hbm, ⟨27, _⟩ => ⟨S2048x4x256, .f32⟩
  | .hbm, ⟨28, _⟩ => ⟨S2048x1024, .f32⟩
  | .hbm, ⟨29, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== AttnBwd.lean ====
abbrev S2048x512 : Shape := ⟨2, ![2048, 512]⟩
abbrev S2048x128 : Shape := ⟨2, ![2048, 128]⟩
abbrev S2048x3328 : Shape := ⟨2, ![2048, 3328]⟩
abbrev S2048x1024 : Shape := ⟨2, ![2048, 1024]⟩
abbrev S2048x8x64 : Shape := ⟨3, ![2048, 8, 64]⟩
abbrev S_ : Shape := ⟨0, ![]⟩
abbrev S2048x4x64 : Shape := ⟨3, ![2048, 4, 64]⟩
abbrev S2048x4x128 : Shape := ⟨3, ![2048, 4, 128]⟩
abbrev S2048x8x128 : Shape := ⟨3, ![2048, 8, 128]⟩
abbrev S2048x1x128 : Shape := ⟨3, ![2048, 1, 128]⟩
abbrev S8x2048x2048 : Shape := ⟨3, ![8, 2048, 2048]⟩
abbrev S8x2048 : Shape := ⟨2, ![8, 2048]⟩
abbrev S8x2048x1 : Shape := ⟨3, ![8, 2048, 1]⟩
abbrev S2048x2x1x64 : Shape := ⟨4, ![2048, 2, 1, 64]⟩
abbrev S2048x2x4x64 : Shape := ⟨4, ![2048, 2, 4, 64]⟩
abbrev S8x64x2048 : Shape := ⟨3, ![8, 64, 2048]⟩
abbrev S256x1024 : Shape := ⟨2, ![256, 1024]⟩
abbrev S256x512 : Shape := ⟨2, ![256, 512]⟩
abbrev S8x256x1 : Shape := ⟨3, ![8, 256, 1]⟩
abbrev S256x128 : Shape := ⟨2, ![256, 128]⟩
abbrev S256 : Shape := ⟨1, ![256]⟩
abbrev S256x1 : Shape := ⟨2, ![256, 1]⟩
abbrev S256x2048 : Shape := ⟨2, ![256, 2048]⟩
abbrev S1x256x1 : Shape := ⟨3, ![1, 256, 1]⟩

abbrev nBuf : Space → Nat
  | .hbm => 59
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S2048x128, .bf16⟩
  | .hbm, ⟨2, _⟩ => ⟨S2048x3328, .bf16⟩
  | .hbm, ⟨3, _⟩ => ⟨S2048x1024, .bf16⟩
  | .hbm, ⟨4, _⟩ => ⟨S2048x128, .bf16⟩
  | .hbm, ⟨5, _⟩ => ⟨S2048x128, .f32⟩
  | .hbm, ⟨6, _⟩ => ⟨S2048x512, .f32⟩
  | .hbm, ⟨7, _⟩ => ⟨S2048x8x64, .f32⟩
  | .hbm, ⟨8, _⟩ => ⟨S_, .f32⟩
  | .hbm, ⟨9, _⟩ => ⟨S2048x8x64, .f32⟩
  | .hbm, ⟨10, _⟩ => ⟨S2048x8x64, .f32⟩
  | .hbm, ⟨11, _⟩ => ⟨S_, .f32⟩
  | .hbm, ⟨12, _⟩ => ⟨S2048x4x64, .f32⟩
  | .hbm, ⟨13, _⟩ => ⟨S2048x4x64, .f32⟩
  | .hbm, ⟨14, _⟩ => ⟨S2048x4x128, .f32⟩
  | .hbm, ⟨15, _⟩ => ⟨S2048x4x64, .f32⟩
  | .hbm, ⟨16, _⟩ => ⟨S2048x4x128, .f32⟩
  | .hbm, ⟨17, _⟩ => ⟨S2048x8x128, .f32⟩
  | .hbm, ⟨18, _⟩ => ⟨S2048x128, .f32⟩
  | .hbm, ⟨19, _⟩ => ⟨S2048x1x128, .f32⟩
  | .hbm, ⟨20, _⟩ => ⟨S2048x8x128, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S2048x128, .f32⟩
  | .hbm, ⟨34, _⟩ => ⟨S2048x1x128, .f32⟩
  | .hbm, ⟨35, _⟩ => ⟨S2048x8x128, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S2048x2x1x64, .f32⟩
  | .hbm, ⟨49, _⟩ => ⟨S2048x2x4x64, .f32⟩
  | .hbm, ⟨50, _⟩ => ⟨S2048x8x64, .f32⟩
  | .hbm, ⟨51, _⟩ => ⟨S8x64x2048, .f32⟩
  | .hbm, ⟨52, _⟩ => ⟨S2048x8x64, .f32⟩
  | .hbm, ⟨53, _⟩ => ⟨S2048x512, .f32⟩
  | .hbm, ⟨54, _⟩ => ⟨S2048x1024, .f32⟩
  | .hbm, ⟨55, _⟩ => ⟨S2048x1024, .bf16⟩
  | .hbm, ⟨56, _⟩ => ⟨S2048x1024, .f32⟩
  | .hbm, ⟨57, _⟩ => ⟨S2048x128, .f32⟩
  | .hbm, ⟨58, _⟩ => ⟨S2048x128, .f32⟩
  | .local _ .vmem, ⟨0, _⟩ => ⟨S256x1024, .bf16⟩
  | .local _ .vmem, ⟨1, _⟩ => ⟨S256x1024, .bf16⟩
  | .local _ .vmem, ⟨2, _⟩ => ⟨S2048x128, .bf16⟩
  | .local _ .vmem, ⟨3, _⟩ => ⟨S2048x128, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S8x256x1, .f32⟩
  | .local _ .vmem, ⟨9, _⟩ => ⟨S8x256x1, .f32⟩
  | .local _ .vmem, ⟨10, _⟩ => ⟨S256x1024, .f32⟩
  | .local _ .vmem, ⟨11, _⟩ => ⟨S256x1024, .f32⟩
  | .local _ .vmem, ⟨12, _⟩ => ⟨S2048x128, .f32⟩
  | .local _ .vmem, ⟨13, _⟩ => ⟨S2048x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnBwdRefIdeal.lean ====
abbrev S2048x512 : Shape := ⟨2, ![2048, 512]⟩
abbrev S2048x128 : Shape := ⟨2, ![2048, 128]⟩
abbrev S2048x3328 : Shape := ⟨2, ![2048, 3328]⟩
abbrev S2048x1024 : Shape := ⟨2, ![2048, 1024]⟩
abbrev S2048x8x64 : Shape := ⟨3, ![2048, 8, 64]⟩
abbrev S_ : Shape := ⟨0, ![]⟩
abbrev S2048x4x64 : Shape := ⟨3, ![2048, 4, 64]⟩
abbrev S2048x4x128 : Shape := ⟨3, ![2048, 4, 128]⟩
abbrev S2048x8x128 : Shape := ⟨3, ![2048, 8, 128]⟩
abbrev S2048x1x128 : Shape := ⟨3, ![2048, 1, 128]⟩
abbrev S8x2048x2048 : Shape := ⟨3, ![8, 2048, 2048]⟩
abbrev S8x2048 : Shape := ⟨2, ![8, 2048]⟩
abbrev S8x2048x1 : Shape := ⟨3, ![8, 2048, 1]⟩
abbrev S2048x2x1x64 : Shape := ⟨4, ![2048, 2, 1, 64]⟩
abbrev S2048x2x4x64 : Shape := ⟨4, ![2048, 2, 4, 64]⟩
abbrev S8x64x2048 : Shape := ⟨3, ![8, 64, 2048]⟩
abbrev S2048x2x64 : Shape := ⟨3, ![2048, 2, 64]⟩
abbrev S8x2048x128 : Shape := ⟨3, ![8, 2048, 128]⟩

abbrev nBuf : Space → Nat
  | .hbm => 78
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x128, .bf16⟩
  | .hbm, ⟨2, _⟩ => ⟨S2048x3328, .bf16⟩
  | .hbm, ⟨3, _⟩ => ⟨S2048x1024, .bf16⟩
  | .hbm, ⟨4, _⟩ => ⟨S2048x128, .bf16⟩
  | .hbm, ⟨5, _⟩ => ⟨S2048x128, .f32⟩
  | .hbm, ⟨6, _⟩ => ⟨S2048x512, .f32⟩
  | .hbm, ⟨7, _⟩ => ⟨S2048x8x64, .f32⟩
  | .hbm, ⟨8, _⟩ => ⟨S_, .f32⟩
  | .hbm, ⟨9, _⟩ => ⟨S2048x8x64, .f32⟩
  | .hbm, ⟨10, _⟩ => ⟨S2048x8x64, .f32⟩
  | .hbm, ⟨11, _⟩ => ⟨S_, .f32⟩
  | .hbm, ⟨12, _⟩ => ⟨S2048x4x64, .f32⟩
  | .hbm, ⟨13, _⟩ => ⟨S2048x4x64, .f32⟩
  | .hbm, ⟨14, _⟩ => ⟨S2048x4x128, .f32⟩
  | .hbm, ⟨15, _⟩ => ⟨S2048x4x64, .f32⟩
  | .hbm, ⟨16, _⟩ => ⟨S2048x4x128, .f32⟩
  | .hbm, ⟨17, _⟩ => ⟨S2048x8x128, .f32⟩
  | .hbm, ⟨18, _⟩ => ⟨S2048x128, .f32⟩
  | .hbm, ⟨19, _⟩ => ⟨S2048x1x128, .f32⟩
  | .hbm, ⟨20, _⟩ => ⟨S2048x8x128, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S2048x2x1x64, .f32⟩
  | .hbm, ⟨38, _⟩ => ⟨S2048x2x4x64, .f32⟩
  | .hbm, ⟨39, _⟩ => ⟨S2048x8x64, .f32⟩
  | .hbm, ⟨40, _⟩ => ⟨S8x64x2048, .f32⟩
  | .hbm, ⟨41, _⟩ => ⟨S2048x8x64, .f32⟩
  | .hbm, ⟨42, _⟩ => ⟨S2048x512, .f32⟩
  | .hbm, ⟨43, _⟩ => ⟨S2048x512, .bf16⟩
  | .hbm, ⟨44, _⟩ => ⟨S2048x512, .f32⟩
  | .hbm, ⟨45, _⟩ => ⟨S2048x8x64, .f32⟩
  | .hbm, ⟨46, _⟩ => ⟨S8x64x2048, .f32⟩
  | .hbm, ⟨47, _⟩ => ⟨S8x2048x2048, .f32⟩
  | .hbm, ⟨48, _⟩ => ⟨S8x64x2048, .f32⟩
  | .hbm, ⟨49, _⟩ => ⟨S2048x8x64, .f32⟩
  | .hbm, ⟨50, _⟩ => ⟨S2048x2x4x64, .f32⟩
  | .hbm, ⟨51, _⟩ => ⟨S_, .f32⟩
  | .hbm, ⟨52, _⟩ => ⟨S2048x2x64, .f32⟩
  | .hbm, ⟨53, _⟩ => ⟨S2048x2x1x64, .f32⟩
  | .hbm, ⟨54, _⟩ => ⟨S2048x128, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x1, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x128, .f32⟩
  | .hbm, ⟨70, _⟩ => ⟨S2048x8x128, .f32⟩
  | .hbm, ⟨71, _⟩ => ⟨S8x2048x128, .f32⟩
  | .hbm, ⟨72, _⟩ => ⟨S2048x8x128, .f32⟩
  | .hbm, ⟨73, _⟩ => ⟨S_, .f32⟩
  | .hbm, ⟨74, _⟩ => ⟨S2048x128, .f32⟩
  | .hbm, ⟨75, _⟩ => ⟨S2048x1x128, .f32⟩
  | .hbm, ⟨76, _⟩ => ⟨S2048x128, .f32⟩
  | .hbm, ⟨77, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== DwDown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwDownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .bf16⟩
  | .hbm, ⟨3, _⟩ => ⟨S2816x1024, .bf16⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwUp.lean ====
abbrev S2048x2816 : Shape := ⟨2, ![2048, 2816]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwUpRefIdeal.lean ====
abbrev S2048x2816 : Shape := ⟨2, ![2048, 2816]⟩
abbrev S2048x1024 : Shape := ⟨2, ![2048, 1024]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S_, .bf16⟩
  | .hbm, ⟨4, _⟩ => ⟨S1024x5632, .bf16⟩
  | .hbm, ⟨5, _⟩ => ⟨S2048x5632, .bf16⟩
  | .hbm, ⟨6, _⟩ => ⟨S2048x1024, .f32⟩
  | .hbm, ⟨7, _⟩ => ⟨S1024x5632, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S5632x1024, .f32⟩
  | .hbm, ⟨12, _⟩ => ⟨S1024x5632, .f32⟩
  | .hbm, ⟨13, _⟩ => ⟨S1024x5632, .bf16⟩
  | .hbm, ⟨14, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwSquare.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwSquareRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .bf16⟩
  | .hbm, ⟨3, _⟩ => ⟨S1024x1024, .bf16⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwXkv.lean ====
abbrev S256x2048 : Shape := ⟨2, ![256, 2048]⟩
abbrev S256x1024 : Shape := ⟨2, ![256, 1024]⟩
abbrev S2048x1024 : Shape := ⟨2, ![2048, 1024]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .bf16⟩
  | .local _ .vmem, ⟨0, _⟩ => ⟨S256x256, .bf16⟩
  | .local _ .vmem, ⟨1, _⟩ => ⟨S256x256, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwXkvRefIdeal.lean ====
abbrev S256x2048 : Shape := ⟨2, ![256, 2048]⟩
abbrev S256x1024 : Shape := ⟨2, ![256, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S_, .bf16⟩
  | .hbm, ⟨3, _⟩ => ⟨S1024x2048, .bf16⟩
  | .hbm, ⟨4, _⟩ => ⟨S256x1024, .f32⟩
  | .hbm, ⟨5, _⟩ => ⟨S1024x2048, .f32⟩
  | .hbm, ⟨6, _⟩ => ⟨S256x2048, .f32⟩
  | .hbm, ⟨7, _⟩ => ⟨S256x2048, .bf16⟩
  | .hbm, ⟨8, _⟩ => ⟨S256x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | .hbm, ⟨12, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwIn.lean ====
abbrev S2048x768 : Shape := ⟨2, ![2048, 768]⟩
abbrev S2048x512 : Shape := ⟨2, ![2048, 512]⟩
abbrev S2048x1024 : Shape := ⟨2, ![2048, 1024]⟩
abbrev S3328x1024 : Shape := ⟨2, ![3328, 1024]⟩
abbrev S2048x256 : Shape := ⟨2, ![2048, 256]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2048x768, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .bf16⟩
  | .hbm, ⟨7, _⟩ => ⟨S3328x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x1024, .bf16⟩
  | .local _ .vmem, ⟨13, _⟩ => ⟨S256x1024, .bf16⟩
  | .local _ .vmem, ⟨14, _⟩ => ⟨S256x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c5_i32 : BitVec 32 := 5#32
  let v6 : BitVec 1 := Scalar.cmpi .slt arg0 c5_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c5_i32_3 : BitVec 32 := 5#32
  let v10 : BitVec 1 := Scalar.cmpi .sge arg0 c5_i32_3
  let c7_i32 : BitVec 32 := 7#32
  let v11 : BitVec 1 := Scalar.cmpi .slt arg0 c7_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c7_i32_5 : BitVec 32 := 7#32
  let v15 : BitVec 1 := Scalar.cmpi .sge arg0 c7_i32_5
  let c9_i32 : BitVec 32 := 9#32
  let v16 : BitVec 1 := Scalar.cmpi .slt arg0 c9_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c9_i32_7 : BitVec 32 := 9#32
  let v20 : BitVec 1 := Scalar.cmpi .sge arg0 c9_i32_7
  let c11_i32 : BitVec 32 := 11#32
  let v21 : BitVec 1 := Scalar.cmpi .slt arg0 c11_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c11_i32_9 : BitVec 32 := 11#32
  let v25 : BitVec 1 := Scalar.cmpi .sge arg0 c11_i32_9
  let c13_i32 : BitVec 32 := 13#32
  let v26 : BitVec 1 := Scalar.cmpi .slt arg0 c13_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DwInRefIdeal.lean ====
abbrev S2048x768 : Shape := ⟨2, ![2048, 768]⟩
abbrev S2048x512 : Shape := ⟨2, ![2048, 512]⟩
abbrev S2048x1024 : Shape := ⟨2, ![2048, 1024]⟩
abbrev S_ : Shape := ⟨0, ![]⟩
abbrev S1024x3328 : Shape := ⟨2, ![1024, 3328]⟩
abbrev S2048x3328 : Shape := ⟨2, ![2048, 3328]⟩
abbrev S3328x1024 : Shape := ⟨2, ![3328, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x1024, .bf16⟩
  | .hbm, ⟨7, _⟩ => ⟨S_, .bf16⟩
  | .hbm, ⟨8, _⟩ => ⟨S1024x3328, .bf16⟩
  | .hbm, ⟨9, _⟩ => ⟨S2048x3328, .bf16⟩
  | .hbm, ⟨10, _⟩ => ⟨S2048x1024, .f32⟩
  | .hbm, ⟨11, _⟩ => ⟨S1024x3328, .f32⟩
  | .hbm, ⟨12, _⟩ => ⟨S2048x3328, .f32⟩
  | .hbm, ⟨13, _⟩ => ⟨S2048x3328, .bf16⟩
  | .hbm, ⟨14, _⟩ => ⟨S2048x3328, .f32⟩
  | .hbm, ⟨15, _⟩ => ⟨S3328x1024, .f32⟩
  | .hbm, ⟨16, _⟩ => ⟨S1024x3328, .f32⟩
  | .hbm, ⟨17, _⟩ => ⟨S1024x3328, .bf16⟩
  | .hbm, ⟨18, _⟩ => ⟨S3328x1024, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== UpBwd.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpBwdRefIdeal.lean ====
abbrev S2048x2816 : Shape := ⟨2, ![2048, 2816]⟩
abbrev S5632x1024 : Shape := ⟨2, ![5632, 1024]⟩
abbrev S2048x1024 : Shape := ⟨2, ![2048, 1024]⟩
abbrev S1x1024 : Shape := ⟨2, ![1, 1024]⟩
abbrev S2048x5632 : Shape := ⟨2, ![2048, 5632]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x5632, .bf16⟩
  | .hbm, ⟨7, _⟩ => ⟨S1024x5632, .bf16⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x5632, .f32⟩
  | .hbm, ⟨28, _⟩ => ⟨S2048x5632, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InBwd.lean ====
abbrev S2048x768 : Shape := ⟨2, ![2048, 768]⟩
abbrev S2048x512 : Shape := ⟨2, ![2048, 512]⟩
abbrev S3328x1024 : Shape := ⟨2, ![3328, 1024]⟩
abbrev S2048x1024 : Shape := ⟨2, ![2048, 1024]⟩
abbrev S1x1024 : Shape := ⟨2, ![1, 1024]⟩
abbrev S512x768 : Shape := ⟨2, ![512, 768]⟩
abbrev S512x512 : Shape := ⟨2, ![512, 512]⟩
abbrev S512x1024 : Shape := ⟨2, ![512, 1024]⟩
abbrev S768x1024 : Shape := ⟨2, ![768, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S2048x768, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S3328x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S3328x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3328x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InBwdRefIdeal.lean ====
abbrev S2048x768 : Shape := ⟨2, ![2048, 768]⟩
abbrev S2048x512 : Shape := ⟨2, ![2048, 512]⟩
abbrev S3328x1024 : Shape := ⟨2, ![3328, 1024]⟩
abbrev S2048x1024 : Shape := ⟨2, ![2048, 1024]⟩
abbrev S1x1024 : Shape := ⟨2, ![1, 1024]⟩
abbrev S2048x3328 : Shape := ⟨2, ![2048, 3328]⟩
abbrev S1024x3328 : Shape := ⟨2, ![1024, 3328]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S3328x1024, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x3328, .bf16⟩
  | .hbm, ⟨11, _⟩ => ⟨S1024x3328, .bf16⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1024x3328, .f32⟩
  | .hbm, ⟨32, _⟩ => ⟨S2048x3328, .f32⟩
  | .hbm, ⟨33, _⟩ => ⟨S2048x3328, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== XqBwd.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XqBwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== XkvBwd.lean ====
abbrev S256x2048 : Shape := ⟨2, ![256, 2048]⟩
abbrev S2048x1024 : Shape := ⟨2, ![2048, 1024]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S1x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XkvBwdRefIdeal.lean ====
abbrev S256x2048 : Shape := ⟨2, ![256, 2048]⟩
abbrev S2048x1024 : Shape := ⟨2, ![2048, 1024]⟩
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S1x1024, .f32⟩
  | .hbm, ⟨4, _⟩ => ⟨S1024x2048, .bf16⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S1024x2048, .f32⟩
  | .hbm, ⟨25, _⟩ => ⟨S256x2048, .f32⟩
  | .hbm, ⟨26, _⟩ => ⟨S256x2048, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x1024, .f32⟩
  | .hbm, ⟨39, _⟩ => ⟨S256x1024, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== DownBwd.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S1x1024, .f32⟩
  | .hbm, ⟨3, _⟩ => ⟨S2048x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x2816, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2816x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DownBwdRefIdeal.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S1x1024, .f32⟩
  | .hbm, ⟨3, _⟩ => ⟨S2048x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S2048x2816, .f32⟩
  | .hbm, ⟨51, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== SquareBwd.lean ====
abbrev S2048x1024 : Shape := ⟨2, ![2048, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SquareBwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S2048x1024, .f32⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S3328x1024 : Shape := ⟨2, ![3328, 1024]⟩
abbrev S2048x3328 : Shape := ⟨2, ![2048, 3328]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3328x1024, .bf16⟩
  | .hbm, ⟨3, _⟩ => ⟨S2048x1024, .bf16⟩
  | .hbm, ⟨4, _⟩ => ⟨S2048x3328, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3328, .bf16⟩
  | .local _ .vmem, ⟨7, _⟩ => ⟨S512x3328, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S2048x1024 : Shape := ⟨2, ![2048, 1024]⟩
abbrev S1x1024 : Shape := ⟨2, ![1, 1024]⟩
abbrev S3328x1024 : Shape := ⟨2, ![3328, 1024]⟩
abbrev S1024x3328 : Shape := ⟨2, ![1024, 3328]⟩
abbrev S_ : Shape := ⟨0, ![]⟩
abbrev S2048 : Shape := ⟨1, ![2048]⟩
abbrev S2048x1 : Shape := ⟨2, ![2048, 1]⟩
abbrev S2048x3328 : Shape := ⟨2, ![2048, 3328]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3328x1024, .bf16⟩
  | .hbm, ⟨3, _⟩ => ⟨S1024x3328, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1024x3328, .f32⟩
  | .hbm, ⟨36, _⟩ => ⟨S2048x3328, .f32⟩
  | .hbm, ⟨37, _⟩ => ⟨S2048x3328, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== UpProj.lean ====
abbrev S2048x1024 : Shape := ⟨2, ![2048, 1024]⟩
abbrev S1x1024 : Shape := ⟨2, ![1, 1024]⟩
abbrev S5632x1024 : Shape := ⟨2, ![5632, 1024]⟩
abbrev S2048x5632 : Shape := ⟨2, ![2048, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S5632x1024, .bf16⟩
  | .hbm, ⟨3, _⟩ => ⟨S2048x1024, .bf16⟩
  | .hbm, ⟨4, _⟩ => ⟨S2048x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S256x1024, .bf16⟩
  | .local _ .vmem, ⟨5, _⟩ => ⟨S256x1024, .bf16⟩
  | .local _ .vmem, ⟨6, _⟩ => ⟨S256x5632, .bf16⟩
  | .local _ .vmem, ⟨7, _⟩ => ⟨S256x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpProjRefIdeal.lean ====
abbrev S2048x1024 : Shape := ⟨2, ![2048, 1024]⟩
abbrev S1x1024 : Shape := ⟨2, ![1, 1024]⟩
abbrev S5632x1024 : Shape := ⟨2, ![5632, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S5632x1024, .bf16⟩
  | .hbm, ⟨3, _⟩ => ⟨S1024x5632, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1024x5632, .f32⟩
  | .hbm, ⟨36, _⟩ => ⟨S2048x5632, .f32⟩
  | .hbm, ⟨37, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== XqProj.lean ====
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x1024, .bf16⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XqProjRefIdeal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x1024, .f32⟩
  | .hbm, ⟨35, _⟩ => ⟨S2048x1024, .f32⟩
  | .hbm, ⟨36, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== XkvProj.lean ====
abbrev S256x1024 : Shape := ⟨2, ![256, 1024]⟩
abbrev S1x1024 : Shape := ⟨2, ![1, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S2048x1024, .bf16⟩
  | .hbm, ⟨3, _⟩ => ⟨S256x1024, .bf16⟩
  | .hbm, ⟨4, _⟩ => ⟨S256x2048, .f32⟩
  | .local _ .vmem, ⟨0, _⟩ => ⟨S256x1024, .f32⟩
  | .local _ .vmem, ⟨1, _⟩ => ⟨S1x1024, .f32⟩
  | .local _ .vmem, ⟨2, _⟩ => ⟨S2048x1024, .bf16⟩
  | .local _ .vmem, ⟨3, _⟩ => ⟨S256x1024, .bf16⟩
  | .local _ .vmem, ⟨4, _⟩ => ⟨S256x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== XkvProjRefIdeal.lean ====
abbrev S256x1024 : Shape := ⟨2, ![256, 1024]⟩
abbrev S1x1024 : Shape := ⟨2, ![1, 1024]⟩
abbrev S2048x1024 : Shape := ⟨2, ![2048, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S2048x1024, .bf16⟩
  | .hbm, ⟨3, _⟩ => ⟨S1024x2048, .bf16⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S1024x2048, .f32⟩
  | .hbm, ⟨36, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== XoProj.lean ====
abbrev S2048x1024 : Shape := ⟨2, ![2048, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== XoProjRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DownProj.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S1x1, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x1, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownProjRefIdeal.lean ====
abbrev S2048x2816 : Shape := ⟨2, ![2048, 2816]⟩
abbrev S2816x1024 : Shape := ⟨2, ![2816, 1024]⟩
abbrev S1x1024 : Shape := ⟨2, ![1, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .bf16⟩
  | .hbm, ⟨48, _⟩ => ⟨S1x1, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== MixOut.lean ====
abbrev S2048x512 : Shape := ⟨2, ![2048, 512]⟩
abbrev S2048x3328 : Shape := ⟨2, ![2048, 3328]⟩
abbrev S1x128 : Shape := ⟨2, ![1, 128]⟩
abbrev S1024x1024 : Shape := ⟨2, ![1024, 1024]⟩
abbrev S1x1024 : Shape := ⟨2, ![1, 1024]⟩
abbrev S2048x1024 : Shape := ⟨2, ![2048, 1024]⟩
abbrev S256x512 : Shape := ⟨2, ![256, 512]⟩
abbrev S256x256 : Shape := ⟨2, ![256, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 21
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S2048x512, .f32⟩
  | .hbm, ⟨3, _⟩ => ⟨S2048x3328, .bf16⟩
  | .hbm, ⟨4, _⟩ => ⟨S1x128, .f32⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S2048x1024, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x128, .f32⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutRefIdeal.lean ====
abbrev S2048x512 : Shape := ⟨2, ![2048, 512]⟩
abbrev S2048x3328 : Shape := ⟨2, ![2048, 3328]⟩
abbrev S1x128 : Shape := ⟨2, ![1, 128]⟩
abbrev S1024x1024 : Shape := ⟨2, ![1024, 1024]⟩
abbrev S1x1024 : Shape := ⟨2, ![1, 1024]⟩
abbrev S2048x1024 : Shape := ⟨2, ![2048, 1024]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S2048x512, .f32⟩
  | .hbm, ⟨3, _⟩ => ⟨S2048x3328, .bf16⟩
  | .hbm, ⟨4, _⟩ => ⟨S1x128, .f32⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x512, .f32⟩
  | .hbm, ⟨9, _⟩ => ⟨S2048x4x128, .f32⟩
  | .hbm, ⟨10, _⟩ => ⟨S2048x4x128, .f32⟩
  | .hbm, ⟨11, _⟩ => ⟨S_, .f32⟩
  | .hbm, ⟨12, _⟩ => ⟨S2048x4, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S2048x4x128, .f32⟩
  | .hbm, ⟨22, _⟩ => ⟨S2048x4x128, .f32⟩
  | .hbm, ⟨23, _⟩ => ⟨S1x1x128, .f32⟩
  | .hbm, ⟨24, _⟩ => ⟨S2048x4x128, .f32⟩
  | .hbm, ⟨25, _⟩ => ⟨S2048x4x128, .f32⟩
  | .hbm, ⟨26, _⟩ => ⟨S2048x512, .f32⟩
  | .hbm, ⟨27, _⟩ => ⟨S2048x512, .bf16⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x1024, .f32⟩
  | .hbm, ⟨41, _⟩ => ⟨S1024x1024, .f32⟩
  | .hbm, ⟨42, _⟩ => ⟨S2048x1024, .f32⟩
  | .hbm, ⟨43, _⟩ => ⟨S2048x1024, .bf16⟩
  | .hbm, ⟨44, _⟩ => ⟨S2048x1024, .bf16⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Panels.lean ====
/- Column panels of a matrix: the columns `[o, o + w)` of an `m`-by-`n` array as a rectangle. What a load of a panel
   reads, and what the last of several panel stores leaves, at one element. -/
module

public import Idealize.ShloMosaic.Lib.Pipeline.Value
public import Idealize.ShloMosaic.Lib.Pointwise
public import Idealize.ShloMosaic.Lib.WholeRead

@[expose] public section

noncomputable section

namespace Cert.Panels

open Idealize.ShloMosaic Idealize.ShloMosaic.TcCoe Idealize.SL.Sem

variable {m n w o : ℕ} {Val : EltTy → Type} {e : EltTy}

/-- The panel's element `(r, x)` is the array's element `(r, o + x)`. -/
theorem emb_panel (inb : ∀ a, (![0, o] : Fin 2 → ℕ) a + (![m, w] : Fin 2 → ℕ) a ≤ (⟨2, ![m, n]⟩ : Shape).size a)
    (r : Fin m) (x : Fin w) (c : Fin n) (hc : c.val = o + x.val) :
    (Rect.unit (s := ⟨2, ![m, n]⟩) ![0, o] ![m, w] inb).emb (ix2 r x) = ix2 r c := by
  funext a
  apply Fin.ext
  rw [Rect.emb_apply]
  fin_cases a
  · show 0 + 1 * r.val = r.val
    omega
  · show o + 1 * x.val = c.val
    omega

/-- An element in a column outside the panel is not the panel's. -/
theorem not_mem_panel (inb : ∀ a, (![0, o] : Fin 2 → ℕ) a + (![m, w] : Fin 2 → ℕ) a ≤ (⟨2, ![m, n]⟩ : Shape).size a)
    (r : Fin m) (c : Fin n) (hc : c.val < o ∨ o + w ≤ c.val) :
    ix2 r c ∉ (Rect.unit (s := ⟨2, ![m, n]⟩) ![0, o] ![m, w] inb).set := by
  rw [Rect.mem_set_unit]
  intro h
  have h1 : o ≤ c.val ∧ c.val < o + w := h 1
  omega

/-- A load of a panel reads the array's columns from `o` on. -/
theorem load_panel {sig : RefSig} {κ : Kind} {sp : Space} {M : Memref sig κ sp (⟨2, ![m, n]⟩ : Shape) e} (hM : M.IsWhole)
    (X : (⟨2, ![m, n]⟩ : Shape).Idx → Val e)
    (inb : ∀ a, (![0, o] : Fin 2 → ℕ) a + (![m, w] : Fin 2 → ℕ) a ≤ (⟨2, ![m, n]⟩ : Shape).size a)
    (r : Fin m) (x : Fin w) (c : Fin n) (hc : c.val = o + x.val) :
    View.readAt Val M.view (Rect.unit (s := ⟨2, ![m, n]⟩) ![0, o] ![m, w] inb).toLoadRect (hM.unread X) (ix2 r x)
      = X (ix2 r c) := by
  rw [Memref.IsWhole.readAt_unread]
  exact congrArg X (emb_panel inb r x c hc)

variable [∀ e, Nonempty (Val e)]

/-- After a store into a panel, an element of the panel is what was stored. -/
theorem canon_hit (inb : ∀ a, (![0, o] : Fin 2 → ℕ) a + (![m, w] : Fin 2 → ℕ) a ≤ (⟨2, ![m, n]⟩ : Shape).size a)
    (X : (⟨2, ![m, w]⟩ : Shape).Idx → Val e) (L : List (View.Piece Val (⟨2, ![m, n]⟩ : Shape) e))
    (r : Fin m) (x : Fin w) (c : Fin n) (hc : c.val = o + x.val) :
    View.canon (⟨Rect.unit (s := ⟨2, ![m, n]⟩) ![0, o] ![m, w] inb, X⟩ :: L) (ix2 r c) = X (ix2 r x) := by
  rw [← emb_panel inb r x c hc, View.canon_cons_emb]

/-- After a store into a panel, an element outside of it is what it was. -/
theorem canon_miss (inb : ∀ a, (![0, o] : Fin 2 → ℕ) a + (![m, w] : Fin 2 → ℕ) a ≤ (⟨2, ![m, n]⟩ : Shape).size a)
    (X : (⟨2, ![m, w]⟩ : Shape).Idx → Val e) (L : List (View.Piece Val (⟨2, ![m, n]⟩ : Shape) e))
    (r : Fin m) (c : Fin n) (hc : c.val < o ∨ o + w ≤ c.val) :
    View.canon (⟨Rect.unit (s := ⟨2, ![m, n]⟩) ![0, o] ![m, w] inb, X⟩ :: L) (ix2 r c) = View.canon L (ix2 r c) :=
  View.canon_cons_of_not_mem _ L (not_mem_panel inb r c hc)

/-- A load of a panel after stores reads what the stores left in the array's columns from `o` on. -/
theorem reload_panel {sig : RefSig} {κ : Kind} {sp : Space} (v : View sig κ sp (⟨2, ![m, n]⟩ : Shape) e)
    (inb : ∀ a, (![0, o] : Fin 2 → ℕ) a + (![m, w] : Fin 2 → ℕ) a ≤ (⟨2, ![m, n]⟩ : Shape).size a)
    (L : List (View.Piece Val (⟨2, ![m, n]⟩ : Shape) e)) (r : Fin m) (x : Fin w) (c : Fin n) (hc : c.val = o + x.val) :
    v.readCov L (Rect.unit (s := ⟨2, ![m, n]⟩) ![0, o] ![m, w] inb).toLoadRect (ix2 r x) = View.canon L (ix2 r c) := by
  rw [View.readCov_eq_canon']
  exact congrArg (View.canon L) (emb_panel inb r x c hc)

end Cert.Panels

end
-- ==== Proof.Softmax.lean ====
/- The softmax of a row of scores and its gradient, over the extended reals, as the attention kernels compute them: the
   scores' maximum is subtracted, and the exponentials are multiplied by the reciprocal of their sum. -/
module

public import Idealize.ShloMosaic.PureOps.Ideal
public import Idealize.ShloMosaic.Lib.Pointwise

@[expose] public section

noncomputable section

namespace Cert.Softmax

open Idealize.ShloMosaic

variable {n d : ℕ}

/-- The value a running maximum starts from. -/
abbrev start : EReal := Ideal.ofBits FTy.f32 4286578688#32

/-- The scale the scores are multiplied by. -/
abbrev scale : EReal := Ideal.ofBits FTy.f32 1031798784#32

/-- The scores of one query `q` against the keys `k`. -/
def score (q : Fin d → EReal) (k : Fin n → Fin d → EReal) (j : Fin n) : EReal := (∑ x, q x * k j x) * scale

/-- The largest of a row of scores. -/
def peak (s : Fin n → EReal) : EReal := Finset.fold max start s Finset.univ

/-- The exponential of a score less the largest one. -/
def weight (s : Fin n → EReal) (j : Fin n) : EReal := Ideal.exp (s j - peak s)

/-- The sum of a row's exponentials. -/
def total (s : Fin n → EReal) : EReal := ∑ i, weight s i

/-- A row's softmax: the exponential times the reciprocal of the sum. -/
def prob (s : Fin n → EReal) (j : Fin n) : EReal := weight s j * Ideal.div 1 (total s)

/-- The gradient of the scaled scores: `p (dp - ∑ p dp) c`. -/
def grad (s dp : Fin n → EReal) (j : Fin n) : EReal := prob s j * (dp j - ∑ i, prob s i * dp i) * scale

/-- The products of one row `g` with the rows of `v`. -/
def against (g : Fin d → EReal) (v : Fin n → Fin d → EReal) (j : Fin n) : EReal := ∑ x, g x * v j x

end Cert.Softmax

end
-- ==== Proof.XattnBlock.lean ====
/- What one grid point of the cross attention's gradient computes: a head's block of the queries' gradient, and what it
   adds to the keys' and the values' gradient, each element a closed form of the point's inputs. -/
module

public import proofs.«01_k».proof.Proof.Gen.XattnIdeal.Value
public import proofs.«01_k».proof.Proof.Panels
public import proofs.«01_k».proof.Proof.Softmax

@[expose] public section

set_option maxRecDepth 16384

noncomputable section

namespace Cert.XattnIdeal.Hand

open Cert.XattnIdeal Cert.XattnIdeal.Gen Idealize.ShloMosaic Idealize.ShloMosaic.TcCoe Idealize.SL.Sem
open Cert.Softmax Cert.Panels

/-! ## The four heads run the same text -/

section Heads
variable {F : FTy → Type} [FloatOps F]
variable (q : Vec F S512x256 .bf16) (k v : Vec F S256x256 .f32) (g : Vec F S512x256 .bf16) (a : Vec F S256x256 .f32)

theorem dq1 : k0_pay14 (k0_pay9 k) (k0_pay10 q k) (k0_pay11 v g) (k0_pay12 q k v g) = k0_pay6 q k v g := rfl
theorem dk1 : k0_pay15 q (k0_pay10 q k) (k0_pay11 v g) (k0_pay12 q k v g) a = k0_pay7 q (k0_pay5 q k v g) a := rfl
theorem dv1 : k0_pay16 g (k0_pay10 q k) a = k0_pay8 g (k0_pay4 q k) a := rfl
theorem dq2 : k0_pay23 (k0_pay17 k) (k0_pay18 v) g (k0_pay19 q k) (k0_pay20 q k) = k0_pay6 q k v g := rfl
theorem dk2 : k0_pay24 q (k0_pay18 v) g (k0_pay19 q k) (k0_pay20 q k) a = k0_pay7 q (k0_pay5 q k v g) a := rfl
theorem dv2 : k0_pay25 g (k0_pay19 q k) (k0_pay20 q k) a = k0_pay8 g (k0_pay4 q k) a := rfl
theorem dq3 : k0_pay29 q k v g = k0_pay6 q k v g := rfl
theorem dk3 : k0_pay30 q k v g a = k0_pay7 q (k0_pay5 q k v g) a := rfl
theorem dv3 : k0_pay1 g (k0_pay27 q k) a = k0_pay8 g (k0_pay4 q k) a := rfl
end Heads

/-! ## One head's values at an element -/

section Values
variable {q : Vec Ideal S512x256 .bf16} {k v : Vec Ideal S256x256 .f32} {g : Vec Ideal S512x256 .bf16}
variable {r : Fin 512} {Q G : Fin 256 → EReal} {K V : Fin 256 → Fin 256 → EReal}

theorem prob_apply (hq : ∀ x, q (ix2 r x) = Q x) (hk : ∀ j x, k (ix2 j x) = K j x) (j : Fin 256) :
    k0_pay4 q k (ix2 r j) = prob (score Q K) j := by
  pointwise [k0_pay4, k0_pay3, dot_S512x256_S256x256_S512x256_1_1_0_0_n_n]
  simp only [hq, hk]
  rfl

theorem grad_apply (hq : ∀ x, q (ix2 r x) = Q x) (hk : ∀ j x, k (ix2 j x) = K j x) (hv : ∀ j x, v (ix2 j x) = V j x)
    (hg : ∀ x, g (ix2 r x) = G x) (j : Fin 256) :
    k0_pay5 q k v g (ix2 r j) = grad (score Q K) (against G V) j := by
  pointwise [k0_pay5, dot_S512x256_S256x256_S512x256_1_1_0_0_n_n]
  simp only [hg, hv, prob_apply hq hk]
  rfl

theorem dq_apply (hq : ∀ x, q (ix2 r x) = Q x) (hk : ∀ j x, k (ix2 j x) = K j x) (hv : ∀ j x, v (ix2 j x) = V j x)
    (hg : ∀ x, g (ix2 r x) = G x) (d : Fin 256) :
    k0_pay6 q k v g (ix2 r d) = ∑ j, grad (score Q K) (against G V) j * K j d := by
  pointwise [k0_pay6, k0_pay3, dot_S512x256_S256x256_S512x256_1_0_0_1_n_n]
  simp only [grad_apply hq hk hv hg, hk]

end Values

section Sums
variable {q : Vec Ideal S512x256 .bf16} {k v : Vec Ideal S256x256 .f32} {g : Vec Ideal S512x256 .bf16}
variable {Q G : Fin 512 → Fin 256 → EReal} {K V : Fin 256 → Fin 256 → EReal}

theorem dk_apply (hq : ∀ r x, q (ix2 r x) = Q r x) (hk : ∀ j x, k (ix2 j x) = K j x) (hv : ∀ j x, v (ix2 j x) = V j x)
    (hg : ∀ r x, g (ix2 r x) = G r x) (a : Vec Ideal S256x256 .f32) (j d : Fin 256) :
    k0_pay7 q (k0_pay5 q k v g) a (ix2 j d)
      = a (ix2 j d) + ∑ r, grad (score (Q r) K) (against (G r) V) j * Q r d := by
  pointwise [k0_pay7, dot_S512x256_S512x256_S256x256_0_0_1_1_n_n]
  simp only [grad_apply (hq _) hk hv (hg _), hq]

theorem dv_apply (hq : ∀ r x, q (ix2 r x) = Q r x) (hk : ∀ j x, k (ix2 j x) = K j x)
    (hg : ∀ r x, g (ix2 r x) = G r x) (a : Vec Ideal S256x256 .f32) (j d : Fin 256) :
    k0_pay8 g (k0_pay4 q k) a (ix2 j d) = a (ix2 j d) + ∑ r, prob (score (Q r) K) j * G r d := by
  pointwise [k0_pay8, dot_S512x256_S512x256_S256x256_0_0_1_1_n_n]
  simp only [prob_apply (hq _) hk, hg]

theorem zero_apply (i : S256x2048.Idx) : (k0_pay2 : FVec Ideal S256x2048 .f32) i = 0 := by
  pointwise [k0_pay2]

end Sums

end Cert.XattnIdeal.Hand

end
-- ==== Proof.XattnOut.lean ====
/- What one grid point of the cross attention's gradient leaves in its two output blocks, head by head: the block of the
   queries' gradient, and the gradient of the memory's keys (the first 1024 columns) and values (the last 1024). -/
module

public import proofs.«01_k».proof.Proof.XattnBlock

@[expose] public section

set_option maxRecDepth 16384

noncomputable section

namespace Cert.XattnIdeal.Hand

open Cert.XattnIdeal Cert.XattnIdeal.Gen Idealize.ShloMosaic Idealize.ShloMosaic.TcCoe Idealize.SL.Sem
open Cert.Softmax Cert.Panels

/-! ## Columns of a head -/

/-- Column `x` of head `h` among the queries. -/
def hcol (h : Fin 4) (x : Fin 256) : Fin 1024 := ⟨256 * h.val + x.val, by omega⟩
/-- Column `x` of head `h`'s keys in the memory. -/
def kcol (h : Fin 4) (x : Fin 256) : Fin 2048 := ⟨256 * h.val + x.val, by omega⟩
/-- Column `x` of head `h`'s values in the memory. -/
def vcol (h : Fin 4) (x : Fin 256) : Fin 2048 := ⟨1024 + 256 * h.val + x.val, by omega⟩

section Spec
variable {N : ℕ} (X G : (⟨2, ![N, 1024]⟩ : Shape).Idx → EReal) (M : (⟨2, ![256, 2048]⟩ : Shape).Idx → EReal)

/-- Head `h` of row `r`. -/
def head (h : Fin 4) (r : Fin N) (x : Fin 256) : EReal := X (ix2 r (hcol h x))
/-- The memory's keys of head `h`. -/
def keys (h : Fin 4) (j x : Fin 256) : EReal := M (ix2 j (kcol h x))
/-- The memory's values of head `h`. -/
def vals (h : Fin 4) (j x : Fin 256) : EReal := M (ix2 j (vcol h x))
/-- The scores of row `r` against the memory, head `h`. -/
def scores (h : Fin 4) (r : Fin N) : Fin 256 → EReal := score (head X h r) (keys M h)
/-- The gradient of head `h`'s probabilities in row `r`. -/
def dprob (h : Fin 4) (r : Fin N) : Fin 256 → EReal := against (head G h r) (vals M h)
/-- The gradient of the queries at row `r`, head `h`, column `d`. -/
def dqSpec (h : Fin 4) (r : Fin N) (d : Fin 256) : EReal :=
  ∑ j, grad (scores X M h r) (dprob G M h r) j * keys M h j d
/-- Row `r`'s part of the gradient of the keys at `j`, head `h`, column `d`. -/
def dkRow (h : Fin 4) (j d : Fin 256) (r : Fin N) : EReal :=
  grad (scores X M h r) (dprob G M h r) j * head X h r d
/-- Row `r`'s part of the gradient of the values at `j`, head `h`, column `d`. -/
def dvRow (h : Fin 4) (j d : Fin 256) (r : Fin N) : EReal := prob (scores X M h r) j * head G h r d
end Spec

/-! ## The blocks -/

theorem dq_A (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : cond0_0 i)
    (x0 : Vec Ideal S512x1024 .bf16) (x1 : Vec Ideal S256x2048 .f32) (x2 : Vec Ideal S512x1024 .bf16) (h : Fin 4) (r : Fin 512) (d : Fin 256) :
    out0_A_3 c i arg1 harg1 arg2 harg2 arg3 harg3 arg4 harg4 arg5 harg5 hc0 x0 x1 x2 (ix2 r (hcol h d)) = dqSpec x0 x2 x1 h r d := by
  unfold out0_A_3
  rw [View.read_writes_junk_eq_canon]
  unfold kernelRun0_A
  dsimp only
  sl_unfold_words
  fin_cases h
  · refine (canon_miss _ _ _ r _ (by simp [hcol] <;> omega)).trans ?_
    refine (canon_miss _ _ _ r _ (by simp [hcol] <;> omega)).trans ?_
    refine (canon_miss _ _ _ r _ (by simp [hcol] <;> omega)).trans ?_
    refine (canon_hit _ _ _ r d (hcol 0 d) rfl).trans ?_
    exact (dq_apply (fun x => load_panel harg1 x0 _ r x (hcol 0 x) rfl)
      (fun j x => load_panel harg2 x1 _ j x (kcol 0 x) rfl)
      (fun j x => load_panel harg2 x1 _ j x (vcol 0 x) rfl)
      (fun x => load_panel harg3 x2 _ r x (hcol 0 x) rfl) d)
  · refine (canon_miss _ _ _ r _ (by simp [hcol] <;> omega)).trans ?_
    refine (canon_miss _ _ _ r _ (by simp [hcol] <;> omega)).trans ?_
    refine (canon_hit _ _ _ r d (hcol 1 d) rfl).trans ?_
    exact (congrFun (dq1 ..) _).trans (dq_apply (fun x => load_panel harg1 x0 _ r x (hcol 1 x) rfl)
      (fun j x => load_panel harg2 x1 _ j x (kcol 1 x) rfl)
      (fun j x => load_panel harg2 x1 _ j x (vcol 1 x) rfl)
      (fun x => load_panel harg3 x2 _ r x (hcol 1 x) rfl) d)
  · refine (canon_miss _ _ _ r _ (by simp [hcol] <;> omega)).trans ?_
    refine (canon_hit _ _ _ r d (hcol 2 d) rfl).trans ?_
    exact (congrFun (dq2 ..) _).trans (dq_apply (fun x => load_panel harg1 x0 _ r x (hcol 2 x) rfl)
      (fun j x => load_panel harg2 x1 _ j x (kcol 2 x) rfl)
      (fun j x => load_panel harg2 x1 _ j x (vcol 2 x) rfl)
      (fun x => load_panel harg3 x2 _ r x (hcol 2 x) rfl) d)
  · refine (canon_hit _ _ _ r d (hcol 3 d) rfl).trans ?_
    exact (congrFun (dq3 ..) _).trans (dq_apply (fun x => load_panel harg1 x0 _ r x (hcol 3 x) rfl)
      (fun j x => load_panel harg2 x1 _ j x (kcol 3 x) rfl)
      (fun j x => load_panel harg2 x1 _ j x (vcol 3 x) rfl)
      (fun x => load_panel harg3 x2 _ r x (hcol 3 x) rfl) d)

theorem dq_B (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : ¬cond0_0 i)
    (x0 : Vec Ideal S512x1024 .bf16) (x1 : Vec Ideal S256x2048 .f32) (x2 : Vec Ideal S512x1024 .bf16) (xo4 : Vec Ideal S256x2048 .f32) (h : Fin 4) (r : Fin 512) (d : Fin 256) :
    out0_B_3 c i arg1 harg1 arg2 harg2 arg3 harg3 arg4 harg4 arg5 harg5 hc0 x0 x1 x2 xo4 (ix2 r (hcol h d)) = dqSpec x0 x2 x1 h r d := by
  unfold out0_B_3
  rw [View.read_writes_junk_eq_canon]
  unfold kernelRun0_B
  dsimp only
  sl_unfold_words
  fin_cases h
  · refine (canon_miss _ _ _ r _ (by simp [hcol] <;> omega)).trans ?_
    refine (canon_miss _ _ _ r _ (by simp [hcol] <;> omega)).trans ?_
    refine (canon_miss _ _ _ r _ (by simp [hcol] <;> omega)).trans ?_
    refine (canon_hit _ _ _ r d (hcol 0 d) rfl).trans ?_
    exact (dq_apply (fun x => load_panel harg1 x0 _ r x (hcol 0 x) rfl)
      (fun j x => load_panel harg2 x1 _ j x (kcol 0 x) rfl)
      (fun j x => load_panel harg2 x1 _ j x (vcol 0 x) rfl)
      (fun x => load_panel harg3 x2 _ r x (hcol 0 x) rfl) d)
  · refine (canon_miss _ _ _ r _ (by simp [hcol] <;> omega)).trans ?_
    refine (canon_miss _ _ _ r _ (by simp [hcol] <;> omega)).trans ?_
    refine (canon_hit _ _ _ r d (hcol 1 d) rfl).trans ?_
    exact (congrFun (dq1 ..) _).trans (dq_apply (fun x => load_panel harg1 x0 _ r x (hcol 1 x) rfl)
      (fun j x => load_panel harg2 x1 _ j x (kcol 1 x) rfl)
      (fun j x => load_panel harg2 x1 _ j x (vcol 1 x) rfl)
      (fun x => load_panel harg3 x2 _ r x (hcol 1 x) rfl) d)
  · refine (canon_miss _ _ _ r _ (by simp [hcol] <;> omega)).trans ?_
    refine (canon_hit _ _ _ r d (hcol 2 d) rfl).trans ?_
    exact (congrFun (dq2 ..) _).trans (dq_apply (fun x => load_panel harg1 x0 _ r x (hcol 2 x) rfl)
      (fun j x => load_panel harg2 x1 _ j x (kcol 2 x) rfl)
      (fun j x => load_panel harg2 x1 _ j x (vcol 2 x) rfl)
      (fun x => load_panel harg3 x2 _ r x (hcol 2 x) rfl) d)
  · refine (canon_hit _ _ _ r d (hcol 3 d) rfl).trans ?_
    exact (congrFun (dq3 ..) _).trans (dq_apply (fun x => load_panel harg1 x0 _ r x (hcol 3 x) rfl)
      (fun j x => load_panel harg2 x1 _ j x (kcol 3 x) rfl)
      (fun j x => load_panel harg2 x1 _ j x (vcol 3 x) rfl)
      (fun x => load_panel harg3 x2 _ r x (hcol 3 x) rfl) d)

theorem dk_A (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : cond0_0 i)
    (x0 : Vec Ideal S512x1024 .bf16) (x1 : Vec Ideal S256x2048 .f32) (x2 : Vec Ideal S512x1024 .bf16) (h : Fin 4) (j d : Fin 256) :
    out0_A_4 c i arg1 harg1 arg2 harg2 arg3 harg3 arg4 harg4 arg5 harg5 hc0 x0 x1 x2 (ix2 j (kcol h d)) = ∑ r, dkRow x0 x2  x1 h j d r := by
  unfold out0_A_4
  rw [View.read_writes_junk_eq_canon]
  unfold kernelRun0_A
  dsimp only
  sl_unfold_words
  fin_cases h
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 0 d) rfl).trans ?_
    refine ((dk_apply (fun r x => load_panel harg1 x0 _ r x (hcol 0 x) rfl)
      (fun j x => load_panel harg2 x1 _ j x (kcol 0 x) rfl)
      (fun j x => load_panel harg2 x1 _ j x (vcol 0 x) rfl)
      (fun r x => load_panel harg3 x2 _ r x (hcol 0 x) rfl) _ j d)).trans ?_
    refine (congrArg (· + _) ((reload_panel _ _ _ j d (kcol 0 d) rfl).trans ?_)).trans (zero_add _)
    rw [View.canon_unit_zero (by ext a; fin_cases a <;> rfl)]
    exact zero_apply _
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 1 d) rfl).trans ?_
    refine ((congrFun (dk1 ..) _).trans (dk_apply (fun r x => load_panel harg1 x0 _ r x (hcol 1 x) rfl)
      (fun j x => load_panel harg2 x1 _ j x (kcol 1 x) rfl)
      (fun j x => load_panel harg2 x1 _ j x (vcol 1 x) rfl)
      (fun r x => load_panel harg3 x2 _ r x (hcol 1 x) rfl) _ j d)).trans ?_
    refine (congrArg (· + _) ((reload_panel _ _ _ j d (kcol 1 d) rfl).trans ?_)).trans (zero_add _)
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 2 d) rfl).trans ?_
    refine ((congrFun (dk2 ..) _).trans (dk_apply (fun r x => load_panel harg1 x0 _ r x (hcol 2 x) rfl)
      (fun j x => load_panel harg2 x1 _ j x (kcol 2 x) rfl)
      (fun j x => load_panel harg2 x1 _ j x (vcol 2 x) rfl)
      (fun r x => load_panel harg3 x2 _ r x (hcol 2 x) rfl) _ j d)).trans ?_
    refine (congrArg (· + _) ((reload_panel _ _ _ j d (kcol 2 d) rfl).trans ?_)).trans (zero_add _)
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _
  · refine (canon_miss _ _ _ j _ (by simp [kcol, vcol] <;> omega)).trans ?_
    refine (canon_hit _ _ _ j d (kcol 3 d) rfl).trans ?_
    refine ((congrFun (dk3 ..) _).trans (dk_apply (fun r x => load_panel harg1 x0 _ r x (hcol 3 x) rfl)
      (fun j x => load_panel harg2 x1 _ j x (kcol 3 x) rfl)
      (fun j x => load_panel harg2 x1 _ j x (vcol 3 x) rfl)
      (fun r x => load_panel harg3 x2 _ r x (hcol 3 x) rfl) _ j d)).trans ?_
    refine (congrArg (· + _) ((reload_panel _ _ _ j d (kcol 3 d) rfl).trans ?_)).trans (zero_add _)
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _

theorem dv_A (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : cond0_0 i)
    (x0 : Vec Ideal S512x1024 .bf16) (x1 : Vec Ideal S256x2048 .f32) (x2 : Vec Ideal S512x1024 .bf16) (h : Fin 4) (j d : Fin 256) :
    out0_A_4 c i arg1 harg1 arg2 harg2 arg3 harg3 arg4 harg4 arg5 harg5 hc0 x0 x1 x2 (ix2 j (vcol h d)) = ∑ r, dvRow x0 x2  x1 h j d r := by
  unfold out0_A_4
  rw [View.read_writes_junk_eq_canon]
  unfold kernelRun0_A
  dsimp only
  sl_unfold_words
  fin_cases h
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (vcol 0 d) rfl).trans ?_
    refine ((dv_apply (fun r x => load_panel harg1 x0 _ r x (hcol 0 x) rfl)
      (fun j x => load_panel harg2 x1 _ j x (kcol 0 x) rfl)
      (fun r x => load_panel harg3 x2 _ r x (hcol 0 x) rfl) _ j d)).trans ?_
    refine (congrArg (· + _) ((reload_panel _ _ _ j d (vcol 0 d) rfl).trans ?_)).trans (zero_add _)
    refine (canon_miss _ _ _ j _ (by simp [kcol, vcol] <;> omega)).trans ?_
    rw [View.canon_unit_zero (by ext a; fin_cases a <;> rfl)]
    exact zero_apply _
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (vcol 1 d) rfl).trans ?_
    refine ((congrFun (dv1 ..) _).trans (dv_apply (fun r x => load_panel harg1 x0 _ r x (hcol 1 x) rfl)
      (fun j x => load_panel harg2 x1 _ j x (kcol 1 x) rfl)
      (fun r x => load_panel harg3 x2 _ r x (hcol 1 x) rfl) _ j d)).trans ?_
    refine (congrArg (· + _) ((reload_panel _ _ _ j d (vcol 1 d) rfl).trans ?_)).trans (zero_add _)
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _
  · refine (canon_miss _ _ _ j _ (by simp [kcol, vcol] <;> omega)).trans ?_
    refine (canon_miss _ _ _ j _ (by simp [kcol, vcol] <;> omega)).trans ?_
    refine (canon_hit _ _ _ j d (vcol 2 d) rfl).trans ?_
    refine ((congrFun (dv2 ..) _).trans (dv_apply (fun r x => load_panel harg1 x0 _ r x (hcol 2 x) rfl)
      (fun j x => load_panel harg2 x1 _ j x (kcol 2 x) rfl)
      (fun r x => load_panel harg3 x2 _ r x (hcol 2 x) rfl) _ j d)).trans ?_
    refine (congrArg (· + _) ((reload_panel _ _ _ j d (vcol 2 d) rfl).trans ?_)).trans (zero_add _)
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _
  · refine (canon_hit _ _ _ j d (vcol 3 d) rfl).trans ?_
    refine ((congrFun (dv3 ..) _).trans (dv_apply (fun r x => load_panel harg1 x0 _ r x (hcol 3 x) rfl)
      (fun j x => load_panel harg2 x1 _ j x (kcol 3 x) rfl)
      (fun r x => load_panel harg3 x2 _ r x (hcol 3 x) rfl) _ j d)).trans ?_
    refine (congrArg (· + _) ((reload_panel _ _ _ j d (vcol 3 d) rfl).trans ?_)).trans (zero_add _)
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    rw [View.canon_unit_zero (by ext a; fin_cases a <;> rfl)]
    exact zero_apply _

theorem dk_B (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : ¬cond0_0 i)
    (x0 : Vec Ideal S512x1024 .bf16) (x1 : Vec Ideal S256x2048 .f32) (x2 : Vec Ideal S512x1024 .bf16) (xo4 : Vec Ideal S256x2048 .f32) (h : Fin 4) (j d : Fin 256) :
    out0_B_4 c i arg1 harg1 arg2 harg2 arg3 harg3 arg4 harg4 arg5 harg5 hc0 x0 x1 x2 xo4 (ix2 j (kcol h d)) = xo4 (ix2 j (kcol h d)) + ∑ r, dkRow x0 x2  x1 h j d r := by
  unfold out0_B_4
  rw [View.read_writes_junk_eq_canon]
  unfold kernelRun0_B
  dsimp only
  sl_unfold_words
  fin_cases h
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 0 d) rfl).trans ?_
    refine ((dk_apply (fun r x => load_panel harg1 x0 _ r x (hcol 0 x) rfl)
      (fun j x => load_panel harg2 x1 _ j x (kcol 0 x) rfl)
      (fun j x => load_panel harg2 x1 _ j x (vcol 0 x) rfl)
      (fun r x => load_panel harg3 x2 _ r x (hcol 0 x) rfl) _ j d)).trans ?_
    exact congrArg (· + _) (load_panel harg5 xo4 _ j d (kcol 0 d) rfl)
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 1 d) rfl).trans ?_
    refine ((congrFun (dk1 ..) _).trans (dk_apply (fun r x => load_panel harg1 x0 _ r x (hcol 1 x) rfl)
      (fun j x => load_panel harg2 x1 _ j x (kcol 1 x) rfl)
      (fun j x => load_panel harg2 x1 _ j x (vcol 1 x) rfl)
      (fun r x => load_panel harg3 x2 _ r x (hcol 1 x) rfl) _ j d)).trans ?_
    exact congrArg (· + _) (load_panel harg5 xo4 _ j d (kcol 1 d) rfl)
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (kcol 2 d) rfl).trans ?_
    refine ((congrFun (dk2 ..) _).trans (dk_apply (fun r x => load_panel harg1 x0 _ r x (hcol 2 x) rfl)
      (fun j x => load_panel harg2 x1 _ j x (kcol 2 x) rfl)
      (fun j x => load_panel harg2 x1 _ j x (vcol 2 x) rfl)
      (fun r x => load_panel harg3 x2 _ r x (hcol 2 x) rfl) _ j d)).trans ?_
    exact congrArg (· + _) (load_panel harg5 xo4 _ j d (kcol 2 d) rfl)
  · refine (canon_miss _ _ _ j _ (by simp [kcol, vcol] <;> omega)).trans ?_
    refine (canon_hit _ _ _ j d (kcol 3 d) rfl).trans ?_
    refine ((congrFun (dk3 ..) _).trans (dk_apply (fun r x => load_panel harg1 x0 _ r x (hcol 3 x) rfl)
      (fun j x => load_panel harg2 x1 _ j x (kcol 3 x) rfl)
      (fun j x => load_panel harg2 x1 _ j x (vcol 3 x) rfl)
      (fun r x => load_panel harg3 x2 _ r x (hcol 3 x) rfl) _ j d)).trans ?_
    exact congrArg (· + _) (load_panel harg5 xo4 _ j d (kcol 3 d) rfl)

theorem dv_B (c : Dev nD) (i : grid0.Coords) (arg1 : Memref sig .tc .vmem S512x1024 .bf16) (harg1 : arg1.IsWhole) (arg2 : Memref sig .tc .vmem S256x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (hc0 : ¬cond0_0 i)
    (x0 : Vec Ideal S512x1024 .bf16) (x1 : Vec Ideal S256x2048 .f32) (x2 : Vec Ideal S512x1024 .bf16) (xo4 : Vec Ideal S256x2048 .f32) (h : Fin 4) (j d : Fin 256) :
    out0_B_4 c i arg1 harg1 arg2 harg2 arg3 harg3 arg4 harg4 arg5 harg5 hc0 x0 x1 x2 xo4 (ix2 j (vcol h d)) = xo4 (ix2 j (vcol h d)) + ∑ r, dvRow x0 x2  x1 h j d r := by
  unfold out0_B_4
  rw [View.read_writes_junk_eq_canon]
  unfold kernelRun0_B
  dsimp only
  sl_unfold_words
  fin_cases h
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (vcol 0 d) rfl).trans ?_
    refine ((dv_apply (fun r x => load_panel harg1 x0 _ r x (hcol 0 x) rfl)
      (fun j x => load_panel harg2 x1 _ j x (kcol 0 x) rfl)
      (fun r x => load_panel harg3 x2 _ r x (hcol 0 x) rfl) _ j d)).trans ?_
    exact congrArg (· + _) (load_panel harg5 xo4 _ j d (vcol 0 d) rfl)
  · refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_miss _ _ _ j _ (by simp [kcol, vcol] <;> omega)).trans ?_
    refine (canon_hit _ _ _ j d (vcol 1 d) rfl).trans ?_
    refine ((congrFun (dv1 ..) _).trans (dv_apply (fun r x => load_panel harg1 x0 _ r x (hcol 1 x) rfl)
      (fun j x => load_panel harg2 x1 _ j x (kcol 1 x) rfl)
      (fun r x => load_panel harg3 x2 _ r x (hcol 1 x) rfl) _ j d)).trans ?_
    exact congrArg (· + _) (load_panel harg5 xo4 _ j d (vcol 1 d) rfl)
  · refine (canon_miss _ _ _ j _ (by simp [kcol, vcol] <;> omega)).trans ?_
    refine (canon_miss _ _ _ j _ (by simp [kcol, vcol] <;> omega)).trans ?_
    refine (canon_hit _ _ _ j d (vcol 2 d) rfl).trans ?_
    refine ((congrFun (dv2 ..) _).trans (dv_apply (fun r x => load_panel harg1 x0 _ r x (hcol 2 x) rfl)
      (fun j x => load_panel harg2 x1 _ j x (kcol 2 x) rfl)
      (fun r x => load_panel harg3 x2 _ r x (hcol 2 x) rfl) _ j d)).trans ?_
    exact congrArg (· + _) (load_panel harg5 xo4 _ j d (vcol 2 d) rfl)
  · refine (canon_hit _ _ _ j d (vcol 3 d) rfl).trans ?_
    refine ((congrFun (dv3 ..) _).trans (dv_apply (fun r x => load_panel harg1 x0 _ r x (hcol 3 x) rfl)
      (fun j x => load_panel harg2 x1 _ j x (kcol 3 x) rfl)
      (fun r x => load_panel harg3 x2 _ r x (hcol 3 x) rfl) _ j d)).trans ?_
    exact congrArg (· + _) (load_panel harg5 xo4 _ j d (vcol 3 d) rfl)

end Cert.XattnIdeal.Hand

end
-- ==== Proof.Blocks.lean ====
/- Sums over the rows of an array cut into blocks of rows. -/
module

public import Mathlib.Algebra.BigOperators.Fin
public import Mathlib.Logic.Equiv.Fin.Basic

@[expose] public section

noncomputable section

namespace Cert.Blocks

/-- Row `r` of block `t`, the blocks `b` rows each. -/
def row {a b N : ℕ} (hN : N = a * b) (t : Fin a) (r : Fin b) : Fin N :=
  ⟨b * t.val + r.val, by
    have h1 : b * (t.val + 1) ≤ b * a := Nat.mul_le_mul_left b t.isLt
    have h2 := r.isLt
    rw [Nat.mul_add, Nat.mul_one] at h1
    rw [hN, Nat.mul_comm a b]
    omega⟩

/-- A sum over all rows is the sum over the blocks of the sums over their rows. -/
theorem sum_rows {β : Type*} [AddCommMonoid β] {a b N : ℕ} (hN : N = a * b) (f : Fin N → β) :
    ∑ n, f n = ∑ t : Fin a, ∑ r : Fin b, f (row hN t r) := by
  subst hN
  rw [← Equiv.sum_comp finProdFinEquiv f, Fintype.sum_prod_type]
  refine Finset.sum_congr rfl fun t _ => Finset.sum_congr rfl fun r _ => congrArg f (Fin.ext ?_)
  show r.val + b * t.val = b * t.val + r.val
  omega

/-- Every row is a row of one of the blocks. -/
theorem exists_row {a b N : ℕ} (hN : N = a * b) (hb : 0 < b) (n : Fin N) : ∃ t r, n = row hN (a := a) (b := b) t r :=
  ⟨⟨n.val / b, Nat.div_lt_of_lt_mul (by rw [Nat.mul_comm, ← hN]; exact n.isLt)⟩, ⟨n.val % b, Nat.mod_lt _ hb⟩,
    Fin.ext (Nat.div_add_mod n.val b).symm⟩

end Cert.Blocks

end
-- ==== Proof.XattnArray.lean ====
/- What the cross attention's gradient leaves in its two result arrays, from the grid points' blocks: the queries'
   gradient row by row, and the memory's gradient summed over all rows. -/
module

public import proofs.«01_k».proof.Proof.XattnOut
public import proofs.«01_k».proof.Proof.Blocks

@[expose] public section

set_option maxRecDepth 16384

noncomputable section

namespace Cert.XattnIdeal.Hand

open Cert.XattnIdeal Cert.XattnIdeal.Gen Idealize.ShloMosaic Idealize.ShloMosaic.TcCoe Idealize.SL.Sem
open Cert.Softmax Cert.Panels Cert.Blocks
open Idealize.ShloMosaic.Pipeline (Dat)

variable (m : (ℓ : Loc nD τ sig) → Buf (Elt Ideal) ℓ) (c : Dev nD)

/-- The queries. -/
abbrev argQ : S2048x1024.Idx → EReal := m ((c : Thread nD τ).loc main_arg0)
/-- The memory's keys and values. -/
abbrev argM : S256x2048.Idx → EReal := m ((c : Thread nD τ).loc main_arg1)
/-- The gradient of the attention's result. -/
abbrev argG : S2048x1024.Idx → EReal := m ((c : Thread nD τ).loc main_arg2)

/-- Row `r` of grid point `t`'s block. -/
abbrev brow (t : Fin cfg0.N) (r : Fin 512) : Fin 2048 := row (a := 4) (b := 512) rfl (t.cast N_0) r

theorem lt4 {n : ℕ} (h : n < 4) : n < cfg0.N := lt_of_lt_of_eq h N_0.symm

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel

theorem emb0 (t : Fin cfg0.N) (r : Fin 512) (x : Fin 1024) : (win0_0.rect t).emb (ix2 r x) = ix2 (brow t r) x := by
  funext a
  apply Fin.ext
  have h := win0_0.rect_emb_val t (ix2 r x) a
  refine h.trans ?_
  fin_cases a
  · show win0_0.index t 0 * 512 + r.val = 512 * t.val + r.val
    rw [(index0 t).1]; omega
  · show win0_0.index t 1 * 1024 + x.val = x.val
    rw [(index0 t).2]; omega

theorem emb1 (t : Fin cfg0.N) (j : Fin 256) (x : Fin 2048) : (win0_1.rect t).emb (ix2 j x) = ix2 j x := by
  funext a
  apply Fin.ext
  refine (win0_1.rect_emb_val t (ix2 j x) a).trans ?_
  fin_cases a
  · show win0_1.index t 0 * 256 + j.val = j.val
    rw [(index1 t).1]; omega
  · show win0_1.index t 1 * 2048 + x.val = x.val
    rw [(index1 t).2]; omega

theorem emb2 (t : Fin cfg0.N) (r : Fin 512) (x : Fin 1024) : (win0_2.rect t).emb (ix2 r x) = ix2 (brow t r) x := by
  funext a
  apply Fin.ext
  refine (win0_2.rect_emb_val t (ix2 r x) a).trans ?_
  fin_cases a
  · show win0_2.index t 0 * 512 + r.val = 512 * t.val + r.val
    rw [(index2 t).1]; omega
  · show win0_2.index t 1 * 1024 + x.val = x.val
    rw [(index2 t).2]; omega

theorem emb3 (t : Fin cfg0.N) (r : Fin 512) (x : Fin 1024) : (win0_3.rect t).emb (ix2 r x) = ix2 (brow t r) x := by
  funext a
  apply Fin.ext
  refine (win0_3.rect_emb_val t (ix2 r x) a).trans ?_
  fin_cases a
  · show win0_3.index t 0 * 512 + r.val = 512 * t.val + r.val
    rw [(index3 t).1]; omega
  · show win0_3.index t 1 * 1024 + x.val = x.val
    rw [(index3 t).2]; omega

theorem emb4 (t : Fin cfg0.N) (y : S256x2048.Idx) : (win0_4.rect t).emb y = y := by
  funext a
  apply Fin.ext
  refine (win0_4.rect_emb_val t y a).trans ?_
  fin_cases a
  · show win0_4.index t 0 * 256 + (y 0).val = (y 0).val
    rw [(index4 t).1]; omega
  · show win0_4.index t 1 * 2048 + (y 1).val = (y 1).val
    rw [(index4 t).2]; omega

/-! ## The blocks the body reads -/

theorem iblk0_apply (t : Fin cfg0.N) (r : Fin 512) (x : Fin 1024) :
    iblk m c 0 t (ix2 r x) = argQ m c (ix2 (brow t r) x) := by
  show V m c main_arg0 ((win0_0.rect t).emb (ix2 r x)) = _
  rw [emb0, V_main_arg0]

theorem iblk2_apply (t : Fin cfg0.N) (r : Fin 512) (x : Fin 1024) :
    iblk m c 2 t (ix2 r x) = argG m c (ix2 (brow t r) x) := by
  show V m c main_arg2 ((win0_2.rect t).emb (ix2 r x)) = _
  rw [emb2, V_main_arg2]

theorem iblk1_eq (t : Fin cfg0.N) : iblk m c 1 t = argM m c := by
  funext y
  obtain ⟨j, x, rfl⟩ : ∃ (j : Fin 256) (x : Fin 2048), y = ix2 j x := ⟨y 0, y 1, eq_ix2 y⟩
  show V m c main_arg1 ((win0_1.rect t).emb (ix2 j x)) = _
  rw [emb1, V_main_arg1]

/-- The point's block of the queries. -/
def blk0 (t : Fin cfg0.N) : Vec Ideal S512x1024 .bf16 := iblk m c 0 t
/-- The memory, as the point reads it. -/
def blk1 (t : Fin cfg0.N) : Vec Ideal S256x2048 .f32 := iblk m c 1 t
/-- The point's block of the result's gradient. -/
def blk2 (t : Fin cfg0.N) : Vec Ideal S512x1024 .bf16 := iblk m c 2 t

theorem head0 (h : Fin 4) (t : Fin cfg0.N) (r : Fin 512) : head (blk0 m c t) h r = head (argQ m c) h (brow t r) :=
  funext fun _ => iblk0_apply m c t r _

theorem head2 (h : Fin 4) (t : Fin cfg0.N) (r : Fin 512) : head (blk2 m c t) h r = head (argG m c) h (brow t r) :=
  funext fun _ => iblk2_apply m c t r _

theorem blk1_eq (t : Fin cfg0.N) : blk1 m c t = argM m c := iblk1_eq m c t

theorem dqSpec_blk (t : Fin cfg0.N) (h : Fin 4) (r : Fin 512) (d : Fin 256) :
    dqSpec (blk0 m c t) (blk2 m c t) (blk1 m c t) h r d = dqSpec (argQ m c) (argG m c) (argM m c) h (brow t r) d := by
  unfold dqSpec scores dprob
  rw [blk1_eq, head0, head2]

theorem dkRow_blk (t : Fin cfg0.N) (h : Fin 4) (j d : Fin 256) (r : Fin 512) :
    dkRow (blk0 m c t) (blk2 m c t) (blk1 m c t) h j d r = dkRow (argQ m c) (argG m c) (argM m c) h j d (brow t r) := by
  unfold dkRow scores dprob
  rw [blk1_eq, head0, head2]

theorem dvRow_blk (t : Fin cfg0.N) (h : Fin 4) (j d : Fin 256) (r : Fin 512) :
    dvRow (blk0 m c t) (blk2 m c t) (blk1 m c t) h j d r = dvRow (argQ m c) (argG m c) (argM m c) h j d (brow t r) := by
  unfold dvRow scores
  rw [blk1_eq, head0, head2]

/-! ## What a point leaves, by the case that runs there -/

theorem outs_A (t : Fin cfg0.N) (h0 : t.val % 4 = 0) : outsAt0 m c t.val t.isLt =
    (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (blk0 m c t) (blk1 m c t) (blk2 m c t)) :=
  outsAt0_A m c t h0

theorem outs_B (t : Fin cfg0.N) (h0 : ¬t.val % 4 = 0) : outsAt0 m c t.val t.isLt =
    (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
      (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (blk0 m c t) (blk1 m c t) (blk2 m c t)
      (outsAt0 m c (t.val - 1) (Nat.lt_of_le_of_lt (Nat.sub_le _ _) t.isLt)).2) :=
  outsAt0_B m c t h0

/-! ## The queries' gradient -/

theorem outs1 (t : Fin cfg0.N) (h : Fin 4) (r : Fin 512) (d : Fin 256) :
    (outsAt0 m c t.val t.isLt).1 (ix2 r (hcol h d)) = dqSpec (argQ m c) (argG m c) (argM m c) h (brow t r) d := by
  rw [← dqSpec_blk]
  by_cases h0 : t.val % 4 = 0
  · rw [outs_A m c t h0]; dsimp only; exact dq_A ..
  · rw [outs_B m c t h0]; dsimp only; exact dq_B ..

/-- The queries' gradient after the run. -/
theorem final_dq (h : Fin 4) (n : Fin 2048) (d : Fin 256) :
    (dats m 0 c).arrAt 3 cfg0.N (ix2 n (hcol h d)) = dqSpec (argQ m c) (argG m c) (argM m c) h n d := by
  obtain ⟨t, r, rfl⟩ := exists_row (a := 4) (b := 512) (N := 2048) rfl (by decide) n
  have hb := congrFun (Value.blocks3 m c (t.cast N_0.symm) (flush0_3 _)) (ix2 r (hcol h d))
  rw [Value.flushed3] at hb
  have he := emb3 (t.cast N_0.symm) r (hcol h d)
  refine Eq.trans ?_ (hb.trans (outs1 m c (t.cast N_0.symm) h r d))
  exact congrArg ((dats m 0 c).arrAt 3 cfg0.N) he.symm

/-! ## The memory's gradient -/

theorem outs2 (K : Fin cfg0.N → EReal) (y : S256x2048.Idx)
    (hA : ∀ (t : Fin cfg0.N) (h0 : t.val % 4 = 0), (outsAt0 m c t.val t.isLt).2 y = K t)
    (hB : ∀ (t : Fin cfg0.N) (h0 : ¬t.val % 4 = 0), (outsAt0 m c t.val t.isLt).2 y
      = (outsAt0 m c (t.val - 1) (Nat.lt_of_le_of_lt (Nat.sub_le _ _) t.isLt)).2 y + K t) :
    (outsAt0 m c 3 (lt4 (by decide))).2 y = ∑ t : Fin 4, K (t.cast N_0.symm) := by
  have h0 := hA ⟨0, lt4 (by decide)⟩ rfl
  have h1 := hB ⟨1, lt4 (by decide)⟩ (by decide)
  have h2 := hB ⟨2, lt4 (by decide)⟩ (by decide)
  have h3 := hB ⟨3, lt4 (by decide)⟩ (by decide)
  dsimp only [Nat.add_one_sub_one, Nat.reduceSub] at h0 h1 h2 h3
  rw [Fin.sum_univ_four, h3, h2, h1, h0]
  rfl

theorem cover4 (i : main_v0_1.ty.Idx) : ∃ t : Fin cfg0.N, (cfg0.win 4).flush t = true ∧ i ∈ ((cfg0.win 4).blk t).view.set := by
  refine ⟨⟨3, lt4 (by decide)⟩, (flush0_4 _).mpr rfl, ?_⟩
  have h := ((cfg0.win 4).blk ⟨3, lt4 (by decide)⟩).view.emb_mem_set i
  exact (emb4 ⟨3, lt4 (by decide)⟩ i) ▸ h

theorem final_block (y : S256x2048.Idx) :
    (dats m 0 c).arrAt 4 cfg0.N y = (outsAt0 m c 3 (lt4 (by decide))).2 y := by
  have hN : cfg0.N = 4 := N_0
  refine congrFun ((dats m 0 c).arrAt_eq_of_cover 4 (outsAt0 m c 3 (lt4 (by decide))).2 (fun t hf => ?_) fun i => cover4 i) y
  · have h3 : t.val = 3 := by have := (flush0_4 t).mp hf; have := t.isLt; omega
    obtain rfl : t = ⟨3, lt4 (by decide)⟩ := Fin.ext h3
    rw [Value.flushed4]
    funext z
    exact (congrArg (outsAt0 m c 3 (lt4 (by decide))).2 (emb4 ⟨3, lt4 (by decide)⟩ z)).symm
/-- The keys' gradient after the run. -/
theorem final_dk (h : Fin 4) (j d : Fin 256) :
    (dats m 0 c).arrAt 4 cfg0.N (ix2 j (kcol h d)) = ∑ n, dkRow (argQ m c) (argG m c) (argM m c) h j d n := by
  rw [final_block, sum_rows (a := 4) (b := 512) rfl]
  refine (outs2 m c (fun t => ∑ r, dkRow (argQ m c) (argG m c) (argM m c) h j d (brow t r)) _ (fun t h0 => ?_) fun t h0 => ?_).trans rfl
  · simp only [← dkRow_blk]
    rw [outs_A m c t h0]; dsimp only; exact dk_A ..
  · simp only [← dkRow_blk]
    rw [outs_B m c t h0]; dsimp only; exact dk_B ..

/-- The values' gradient after the run. -/
theorem final_dv (h : Fin 4) (j d : Fin 256) :
    (dats m 0 c).arrAt 4 cfg0.N (ix2 j (vcol h d)) = ∑ n, dvRow (argQ m c) (argG m c) (argM m c) h j d n := by
  rw [final_block, sum_rows (a := 4) (b := 512) rfl]
  refine (outs2 m c (fun t => ∑ r, dvRow (argQ m c) (argG m c) (argM m c) h j d (brow t r)) _ (fun t h0 => ?_) fun t h0 => ?_).trans rfl
  · simp only [← dvRow_blk]
    rw [outs_A m c t h0]; dsimp only; exact dv_A ..
  · simp only [← dvRow_blk]
    rw [outs_B m c t h0]; dsimp only; exact dv_B ..

end Cert.XattnIdeal.Hand

end
-- ==== Proof.SoftmaxGrad.lean ====
/- The softmax of a row and its gradient, two ways: multiplied by the reciprocal of the exponentials' sum, as the kernels
   do, or divided by it, with the gradient of the quotient, as differentiating the plain softmax gives. For real scores
   the two agree, whatever the gradient of the probabilities. -/
module

public import proofs.«01_k».proof.Proof.Softmax

@[expose] public section

noncomputable section

namespace Cert.Softmax

open Idealize.ShloMosaic

variable {n d : ℕ}

/-! ## Literals -/

theorem start_eq : start = ⊥ := by simp [start, Ideal.ofBits, Ideal.ieee]

theorem scale_eq : scale = ((1 / 16 : ℝ) : EReal) := by
  simp [scale, Ideal.ofBits, Ideal.ieee, -EReal.coe_mul]; norm_num

/-! ## Real numbers among the extended ones -/

/-- A finite extended real. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.sum {ι : Type*} {f : ι → EReal} (t : Finset ι) (h : ∀ i ∈ t, IsReal (f i)) : IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

theorem coe_sum {ι : Type*} (f : ι → ℝ) (t : Finset ι) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real factor that is not negative goes into a sum. -/
theorem mul_sum_real {ι : Type*} {c : ℝ} (hc : 0 ≤ c) (f : ι → EReal) (t : Finset ι) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-! ## Real scores -/

theorem score_real {q : Fin d → EReal} {k : Fin n → Fin d → EReal} (hq : ∀ x, IsReal (q x)) (hk : ∀ j x, IsReal (k j x))
    (j : Fin n) : IsReal (score q k j) :=
  (IsReal.sum _ fun x _ => (hq x).mul (hk j x)).mul ⟨_, scale_eq⟩

theorem peak_real {s : Fin n → EReal} (hs : ∀ j, IsReal (s j)) (hn : 0 < n) : IsReal (peak s) := by
  have h : ∀ t : Finset (Fin n), Finset.fold max start s t = ⊥ ∨ IsReal (Finset.fold max start s t) := by
    classical
    intro t
    induction t using Finset.induction_on with
    | empty => exact Or.inl (by rw [Finset.fold_empty, start_eq])
    | insert a t ha ih =>
      rw [Finset.fold_insert ha]
      rcases ih with ih | ih
      · rw [ih]; exact Or.inr (by rw [max_eq_left bot_le]; exact hs a)
      · rcases max_choice (s a) (Finset.fold max start s t) with e | e <;> rw [e]
        · exact Or.inr (hs a)
        · exact Or.inr ih
  rcases h Finset.univ with h | h
  · exfalso
    obtain ⟨r, hr⟩ := hs ⟨0, hn⟩
    have hle : s ⟨0, hn⟩ ≤ Finset.fold max start s Finset.univ :=
      (Finset.le_fold_max _).mpr (Or.inr ⟨_, Finset.mem_univ _, le_refl _⟩)
    rw [h, hr] at hle
    exact absurd hle (not_le.mpr (EReal.bot_lt_coe r))
  · exact h

/-- Real scores have positive real exponentials, and a positive real sum of them. -/
theorem weights_real {s : Fin n → EReal} (hs : ∀ j, IsReal (s j)) (hn : 0 < n) :
    ∃ (E : Fin n → ℝ) (L : ℝ), (∀ j, 0 < E j) ∧ 0 < L ∧ (∀ j, weight s j = (E j : EReal)) ∧ total s = (L : EReal) := by
  obtain ⟨p, hp⟩ := peak_real hs hn
  choose S hS using hs
  refine ⟨fun j => Real.exp (S j - p), ∑ j, Real.exp (S j - p), fun j => Real.exp_pos _,
    Finset.sum_pos (fun j _ => Real.exp_pos _) ⟨⟨0, hn⟩, Finset.mem_univ _⟩, fun j => ?_, ?_⟩
  · rw [weight, hp, hS, ← EReal.coe_sub, Ideal.exp_coe]
  · rw [total, coe_sum]
    refine Finset.sum_congr rfl fun j _ => ?_
    rw [weight, hp, hS, ← EReal.coe_sub, Ideal.exp_coe]

theorem prob_eq_div {s : Fin n → EReal} (hs : ∀ j, IsReal (s j)) (j : Fin n) :
    Ideal.div (weight s j) (total s) = prob s j := by
  obtain ⟨E, L, hE, hL, hw, ht⟩ := weights_real hs (lt_of_le_of_lt (Nat.zero_le _) j.isLt)
  rw [prob, ht, Ideal.div_coe hL.ne', Ideal.div_coe hL.ne', one_mul]

/-- The gradient of the quotient is the gradient the kernels compute. -/
theorem grad_eq_quotient {s : Fin n → EReal} (hs : ∀ j, IsReal (s j)) (dp : Fin n → EReal) (j : Fin n) :
    (Ideal.div (dp j) (total s) + -∑ i, dp i * Ideal.div 1 (total s * total s) * weight s i) * weight s j * scale
      = grad s dp j := by
  obtain ⟨E, L, hE, hL, hw, ht⟩ := weights_real hs (lt_of_le_of_lt (Nat.zero_le _) j.isLt)
  have hc : (0 : ℝ) ≤ 1 / L := by positivity
  have hp : ∀ i, prob s i = ((E i * (1 / L) : ℝ) : EReal) := fun i => by
    rw [prob, ht, hw, Ideal.div_coe hL.ne', one_mul, ← EReal.coe_mul]
  have hsum : ∑ i, dp i * Ideal.div 1 (total s * total s) * weight s i = ((1 / L : ℝ) : EReal) * ∑ i, prob s i * dp i := by
    rw [mul_sum_real hc]
    refine Finset.sum_congr rfl fun i _ => ?_
    rw [hp, hw, ht, ← EReal.coe_mul, Ideal.div_coe (mul_pos hL hL).ne', one_mul, mul_assoc, ← EReal.coe_mul, mul_comm,
      ← mul_assoc, ← EReal.coe_mul]
    congr 2
    field_simp
  rw [hsum, ht, Ideal.div_coe hL.ne', mul_comm (dp j), ← mul_neg,
    ← EReal.left_distrib_of_nonneg_of_ne_top (EReal.coe_nonneg.mpr hc) (EReal.coe_ne_top _), grad, hp, hw, mul_comm _ (E j : EReal),
    ← mul_assoc, ← EReal.coe_mul]
  rfl

end Cert.Softmax

end
-- ==== Proof.XattnRef.lean ====
/- What the reference of the cross attention's gradient computes, element by element: differentiating the plain softmax
   attention gives the same three sums, once the scores are real. -/
module

public import proofs.«01_k».proof.Proof.Gen.XattnRefIdeal.Read
public import proofs.«01_k».proof.Proof.XattnOut
public import proofs.«01_k».proof.Proof.SoftmaxGrad

@[expose] public section

set_option maxRecDepth 16384

noncomputable section

namespace Cert.XattnRefIdeal.Hand

open Cert.XattnRefIdeal Cert.XattnRefIdeal.Read Idealize.ShloMosaic Idealize.ShloMosaic.TcCoe Idealize.SL.Sem
open Cert.Softmax Cert.XattnIdeal.Hand

variable (Q G : S2048x1024.Idx → EReal) (M : S256x2048.Idx → EReal)

/-! ## The heads -/

theorem q_at (h : Fin 4) (n : Fin 2048) (x : Fin 256) : val_main_v3 (F := Ideal) Q (ix3 n h x) = head Q h n x := by
  pointwise [val_main_v3, val_main_v2]
  exact congrArg Q (congrArg (ix2 n) (Fin.ext (by simp [hcol]; omega)))

theorem g_at (h : Fin 4) (n : Fin 2048) (x : Fin 256) : val_main_v42 (F := Ideal) G (ix3 h x n) = head G h n x := by
  pointwise [val_main_v42, val_main_v40, val_main_v41]
  exact congrArg G (congrArg (ix2 n) (Fin.ext (by simp [hcol]; omega)))

theorem k_at (h : Fin 4) (j x : Fin 256) : val_main_v4 (F := Ideal) M (ix3 j h x) = keys M h j x := by
  pointwise [val_main_v4, val_main_v0]
  exact congrArg M (congrArg (ix2 j) (Fin.ext (by simp [kcol]; omega)))

theorem v_at (h : Fin 4) (j x : Fin 256) : val_main_v5 (F := Ideal) M (ix3 j h x) = vals M h j x := by
  pointwise [val_main_v5, val_main_v1]
  exact congrArg M (congrArg (ix2 j) (Fin.ext (by simp [vcol]; omega)))

/-! ## The forward pass -/

theorem score_at (h : Fin 4) (n : Fin 2048) (j : Fin 256) : val_main_v8 (F := Ideal) Q M (ix3 h n j) = scores Q M h n j := by
  pointwise [val_main_v8, val_main_v7, val_main_v6, val_main_cst]
  simp only [q_at, k_at]
  rfl

theorem peak_at (h : Fin 4) (n : Fin 2048) : val_main_v9 (F := Ideal) Q M (ix2 h n) = peak (scores Q M h n) := by
  pointwise [val_main_v9, val_main_cst_0]
  simp only [score_at]
  rfl

theorem weight_at (h : Fin 4) (n : Fin 2048) (j : Fin 256) :
    val_main_v29 (F := Ideal) Q M (ix3 h n j) = weight (scores Q M h n) j := by
  pointwise [val_main_v29, val_main_v28, val_main_v27, val_main_v26, val_main_v16, val_main_v15, val_main_cst_2]
  rw [score_at, peak_at]
  show Ideal.exp (_ - max start _) = _
  rw [start_eq, max_eq_right bot_le]
  rfl

theorem total_at (h : Fin 4) (n : Fin 2048) : val_main_v31 (F := Ideal) Q M (ix3 h n 0) = total (scores Q M h n) := by
  pointwise [val_main_v31, val_main_v30, val_main_cst_8]
  simp only [weight_at]
  rfl

theorem prob_at (h : Fin 4) (n : Fin 2048) (j : Fin 256) (hs : ∀ j, IsReal (scores Q M h n j)) :
    val_main_v33 (F := Ideal) Q M (ix3 h n j) = prob (scores Q M h n) j := by
  pointwise [val_main_v33, val_main_v32]
  rw [weight_at, total_at, prob_eq_div hs]

/-! ## The backward pass -/

theorem dprob_at (h : Fin 4) (n : Fin 2048) (j : Fin 256) : val_main_v43 (F := Ideal) M G (ix3 h n j) = dprob G M h n j := by
  pointwise [val_main_v43]
  simp only [g_at, v_at]
  rfl

theorem inner_at (h : Fin 4) (n : Fin 2048) : val_main_v51 (F := Ideal) Q M G (ix3 h n 0)
    = -∑ i, dprob G M h n i * Ideal.div 1 (total (scores Q M h n) * total (scores Q M h n)) * weight (scores Q M h n) i := by
  pointwise [val_main_v51, val_main_v50, val_main_v49, val_main_v48, val_main_v47, val_main_v46, val_main_v36, val_main_v35, val_main_v34, val_main_cst_9, val_main_cst_10]
  simp only [dprob_at, total_at, weight_at]

theorem grad_at (h : Fin 4) (n : Fin 2048) (j : Fin 256) (hs : ∀ j, IsReal (scores Q M h n j)) :
    val_main_v59 (F := Ideal) Q M G (ix3 h n j) = grad (scores Q M h n) (dprob G M h n) j := by
  rw [← grad_eq_quotient hs]
  pointwise [val_main_v59, val_main_v58, val_main_v57, val_main_v56, val_main_v55, val_main_v54, val_main_v53, val_main_v52, val_main_cst_11, val_main_cst_12]
  simp only [Fin.sum_univ_one, Finset.univ_unique, Finset.sum_singleton, Fin.default_eq_zero, inner_at, dprob_at, total_at, weight_at]

/-! ## The results -/

section Results
variable (hs : ∀ h n j, IsReal (scores Q M h n j))
include hs

theorem dq_at (h : Fin 4) (n : Fin 2048) (d : Fin 256) : val_main_v67 (F := Ideal) Q M G (ix2 n (hcol h d)) = dqSpec Q G M h n d := by
  have e1 : ((hcol h d).val / 256) = h.val := by simp [hcol]; omega
  have e2 : ((hcol h d).val % 256) = d.val := by simp [hcol]
  pointwise [val_main_v67, val_main_v66, val_main_v63, val_main_v62]
  simp only [e1, e2, Fin.eta, grad_at Q G M _ _ _ (hs _ _), k_at]
  rfl

theorem dk_at (h : Fin 4) (j d : Fin 256) : val_main_v68 (F := Ideal) Q M G (ix2 j (kcol h d)) = ∑ n, dkRow Q G M h j d n := by
  have e0 : (kcol h d).val < 1024 := by simp [kcol]; omega
  have e1 : ((kcol h d).val / 256) = h.val := by simp [kcol]; omega
  have e2 : ((kcol h d).val % 256) = d.val := by simp [kcol]
  pointwise [val_main_v68, val_main_v65, val_main_v61, val_main_v60]
  rw [dif_pos e0]
  simp only [e1, e2, Fin.eta, grad_at Q G M _ _ _ (hs _ _), q_at]
  rfl

theorem dv_at (h : Fin 4) (j d : Fin 256) : val_main_v68 (F := Ideal) Q M G (ix2 j (vcol h d)) = ∑ n, dvRow Q G M h j d n := by
  have e0 : ¬(vcol h d).val < 1024 := by simp [vcol]; omega
  have e1 : (((vcol h d).val - 1024) / 256) = h.val := by simp [vcol]; omega
  have e2 : (((vcol h d).val - 1024) % 256) = d.val := by simp [vcol]; omega
  pointwise [val_main_v68, val_main_v64, val_main_v45, val_main_v44]
  rw [dif_neg e0]
  simp only [e1, e2, Fin.eta, prob_at Q M _ _ _ (hs _ _), g_at]
  exact Finset.sum_congr rfl fun n _ => mul_comm _ _

end Results

end Cert.XattnRefIdeal.Hand

end
-- ==== Proof.Finite.lean ====
/- What the preconditions say: an element whose absolute value is below infinity is a real number. -/
module

public import proofs.«01_k».proof.Proof.SoftmaxGrad

@[expose] public section

noncomputable section

namespace Cert.Softmax

open Idealize.ShloMosaic

theorem inf_eq : Ideal.ofBits .f32 0x7F800000#32 = ⊤ := by simp [Ideal.ofBits, Ideal.ieee]

theorem IsReal.of_abs_lt {x : EReal} (h : Ideal.cmp .olt (max x (-x)) (Ideal.ofBits .f32 0x7F800000#32) = 1#1) : IsReal x := by
  rw [inf_eq] at h
  have h' : max x (-x) < ⊤ := by
    by_contra hn
    simp [Ideal.cmp, hn] at h
  induction x using EReal.rec with
  | bot => simp at h'
  | top => simp at h'
  | coe r => exact ⟨r, rfl⟩

end Cert.Softmax

end
-- ==== Proof.XattnClaim.lean ====
/- The cross attention's gradient: the kernel's run and the reference's run leave equal arrays. -/
module

public import proofs.«01_k».proof.Defs
public import proofs.«01_k».proof.Proof.Gen.Pre_finite
public import proofs.«01_k».proof.Proof.XattnArray
public import proofs.«01_k».proof.Proof.XattnRef
public import proofs.«01_k».proof.Proof.Finite

@[expose] public section

set_option maxRecDepth 16384

noncomputable section

namespace Cert.XattnIdeal.Hand

open Cert.XattnIdeal Idealize.ShloMosaic Idealize.ShloMosaic.TcCoe Idealize.SL.Sem Cert.Softmax

/-! ## The columns -/

theorem exists_hcol (k : Fin 1024) : ∃ h d, k = hcol h d :=
  ⟨⟨k.val / 256, by omega⟩, ⟨k.val % 256, by omega⟩, Fin.ext (by simp [hcol]; omega)⟩

theorem exists_kcol_or_vcol (k : Fin 2048) : (∃ h d, k = kcol h d) ∨ ∃ h d, k = vcol h d := by
  by_cases hk : k.val < 1024
  · exact Or.inl ⟨⟨k.val / 256, by omega⟩, ⟨k.val % 256, by omega⟩, Fin.ext (by simp [kcol]; omega)⟩
  · exact Or.inr ⟨⟨(k.val - 1024) / 256, by omega⟩, ⟨(k.val - 1024) % 256, by omega⟩, Fin.ext (by simp [vcol]; omega)⟩

/-! ## The precondition -/

section Pre
variable (Q G : S2048x1024.Idx → EReal) (M : S256x2048.Idx → EReal)
  (h1 : (Cert.Pre_finite.fn (F := Ideal) Q M G).1 = fun _ => 1#1) (h2 : (Cert.Pre_finite.fn (F := Ideal) Q M G).2 = fun _ => 1#1)
include h1 h2

theorem scores_real (h : Fin 4) (n : Fin 2048) (j : Fin 256) : IsReal (scores Q M h n j) :=
  score_real (fun x => IsReal.of_abs_lt (congrFun h1 (ix2 n (hcol h x))))
    (fun j x => IsReal.of_abs_lt (congrFun h2 (ix2 j (kcol h x)))) j

end Pre

/-! ## The results -/

variable (m : (ℓ : Loc nD τ sig) → Buf (Elt Ideal) ℓ) (c : Dev nD)
  (hs : ∀ h n j, IsReal (scores (argQ m c) (argM m c) h n j))
include hs

theorem first_eq : (Gen.dats m 0 c).arrAt 3 cfg0.N = Cert.XattnRefIdeal.Read.val_main_v67 (F := Ideal) (argQ m c) (argM m c) (argG m c) := by
  funext i
  obtain ⟨n, k, rfl⟩ : ∃ a b, i = ix2 a b := ⟨i 0, i 1, eq_ix2 i⟩
  obtain ⟨h, d, rfl⟩ := exists_hcol k
  exact (final_dq m c h n d).trans (Cert.XattnRefIdeal.Hand.dq_at _ _ _ hs h n d).symm

theorem second_eq : (Gen.dats m 0 c).arrAt 4 cfg0.N = Cert.XattnRefIdeal.Read.val_main_v68 (F := Ideal) (argQ m c) (argM m c) (argG m c) := by
  funext i
  obtain ⟨j, k, rfl⟩ : ∃ a b, i = ix2 a b := ⟨i 0, i 1, eq_ix2 i⟩
  rcases exists_kcol_or_vcol k with ⟨h, d, rfl⟩ | ⟨h, d, rfl⟩
  · exact (final_dk m c h j d).trans (Cert.XattnRefIdeal.Hand.dk_at _ _ _ hs h j d).symm
  · exact (final_dv m c h j d).trans (Cert.XattnRefIdeal.Hand.dv_at _ _ _ hs h j d).symm

omit hs in
theorem algebraic : Cert.algebraic_XattnIdeal_XattnRefIdeal_pre_finite := by
  intro m g m' g' hpre hagree
  have hs : ∀ c h n j, IsReal (scores (argQ m c) (argM m c) h n j) := fun c => scores_real _ _ _ (hpre c).1 (hpre c).2
  refine ⟨fun c => (Gen.dats m 0 c).arrAt 3 cfg0.N, fun c => (Gen.dats m 0 c).arrAt 4 cfg0.N, Value.run_blocks m g, ?_⟩
  refine (θ_run _ _ _).mono (fun r h c => ?_) (Cert.XattnRefIdeal.Value.run (F := Ideal) m' g')
  obtain ⟨e0, e1, ea⟩ := h c
  obtain ⟨a0, a1, a2⟩ := hagree c
  refine ⟨e0.trans ?_, e1.trans ?_, ea⟩
  · rw [Cert.XattnRefIdeal.Read.val_main_v67_eq, a0, a1, a2]; exact (first_eq m c (hs c)).symm
  · rw [Cert.XattnRefIdeal.Read.val_main_v68_eq, a0, a1, a2]; exact (second_eq m c (hs c)).symm

end Cert.XattnIdeal.Hand

end
-- ==== Proof.DwDown.lean ====
/- The gradient of the down projection's weight, as the kernel leaves it: each block of rows is the product over the tokens of
   one part's columns with the other factor, and the blocks together are the reference's product. -/
module

public import proofs.«01_k».proof.Defs
public import proofs.«01_k».proof.Proof.Gen.DwDownIdeal.Value
public import proofs.«01_k».proof.Proof.Gen.DwDownRefIdeal.Read
public import proofs.«01_k».proof.Proof.Blocks
public import proofs.«01_k».proof.Proof.Panels

@[expose] public section

set_option maxRecDepth 16384

noncomputable section

namespace Cert.DwDownIdeal.Hand

open Cert.DwDownIdeal Cert.DwDownIdeal.Gen Idealize.ShloMosaic Idealize.ShloMosaic.TcCoe Idealize.SL.Sem
open Cert.Blocks

theorem zeros : (![0, 0] : Fin 2 → ℕ) = fun _ => 0 := by funext a; fin_cases a <;> rfl

/-- The product over the tokens that a point in part 0 leaves. -/
theorem out_A (c : Dev nD) (i : grid0.Coords) (arg1 : Memref sig .tc .vmem S2048x1408 .bf16) (harg1 : arg1.IsWhole) (arg2 : Memref sig .tc .vmem S2048x1024 .bf16) (harg2 : arg2.IsWhole) (arg3 : Memref sig .tc .vmem S1408x1024 .bf16) (harg3 : arg3.IsWhole) (hc0 : cond0_0 i)
    (x0 : Vec Ideal S2048x1408 .bf16) (x1 : Vec Ideal S2048x1024 .bf16) (p : Fin 1408) (q : Fin 1024) :
    out0_A_2 c i arg1 harg1 arg2 harg2 arg3 harg3 hc0 x0 x1 (ix2 p q) = ∑ n, x0 (ix2 n p) * x1 (ix2 n q) := by
  unfold out0_A_2
  rw [View.read_writes_junk_eq_canon]
  unfold kernelRun0_A
  dsimp only
  sl_unfold_words
  rw [View.canon_unit_zero zeros]
  simp only [View.readAt_eq_ld, harg1.read_unread, harg2.read_unread]
  rw [View.ld_unit_zero (S := S2048x1408) zeros, View.ld_unit_zero (S := S2048x1024) zeros]
  pointwise [k0_pay1, dot_S2048x1408_S2048x1024_S1408x1024_0_0_1_1_n_n]

variable (m : (ℓ : Loc nD τ sig) → Buf (Elt Ideal) ℓ) (c : Dev nD)

/-- Part 0 of the gradient that comes in. -/
abbrev part0 : S2048x2816.Idx → EReal := m ((c : Thread nD τ).loc main_arg0)
/-- The other factor. -/
abbrev other : S2048x1024.Idx → EReal := m ((c : Thread nD τ).loc main_arg1)

/-- Row `r` of grid point `t`'s block. -/
abbrev brow (t : Fin cfg0.N) (r : Fin 1408) : Fin 2816 := row (a := 2) (b := 1408) rfl (t.cast N_0) r

theorem index0 : ∀ t : Fin grid0.N, win0_0.index t 0 = 0 ∧ win0_0.index t 1 = t.val - 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The columns of part 0 that a point reads. -/
abbrev pcol0 (t : Fin cfg0.N) (p : Fin 1408) : Fin 2816 :=
  ⟨1408 * (t.val - 0) + p.val, by have h := t.isLt; have h' := N_0; have h'' : t.val < 2 := lt_of_lt_of_eq h h'; have := p.isLt; omega⟩

theorem emb0 (t : Fin cfg0.N) (x : Fin 2048) (p : Fin 1408) : (win0_0.rect t).emb (ix2 x p) = ix2 x (pcol0 t p ) := by
  funext a
  apply Fin.ext
  refine (win0_0.rect_emb_val t (ix2 x p) a).trans ?_
  fin_cases a
  · show win0_0.index t 0 * 2048 + x.val = x.val
    rw [(index0 t ).1]; omega
  · show win0_0.index t 1 * 1408 + p.val = 1408 * (t.val - 0) + p.val
    rw [(index0 t ).2]; omega

theorem emb1 (t : Fin cfg0.N) (x : Fin 2048) (q : Fin 1024) : (win0_1.rect t).emb (ix2 x q) = ix2 x q := by
  funext a
  apply Fin.ext
  refine (win0_1.rect_emb_val t (ix2 x q) a).trans ?_
  fin_cases a
  · show win0_1.index t 0 * 2048 + x.val = x.val
    rw [(index1 t).1]; omega
  · show win0_1.index t 1 * 1024 + q.val = q.val
    rw [(index1 t).2]; omega

theorem emb2 (t : Fin cfg0.N) (r : Fin 1408) (q : Fin 1024) : (win0_2.rect t).emb (ix2 r q) = ix2 (brow t r) q := by
  funext a
  apply Fin.ext
  refine (win0_2.rect_emb_val t (ix2 r q) a).trans ?_
  fin_cases a
  · show win0_2.index t 0 * 1408 + r.val = 1408 * t.val + r.val
    rw [(index2 t).1]; omega
  · show win0_2.index t 1 * 1024 + q.val = q.val
    rw [(index2 t).2]; omega

/-- The block of part 0 that a point reads. -/
def blk0 (t : Fin cfg0.N) : Vec Ideal S2048x1408 .bf16 := iblk m c 0 t
/-- The other factor, as a point reads it. -/
def blk1 (t : Fin cfg0.N) : Vec Ideal S2048x1024 .bf16 := iblk m c 1 t

theorem blk0_apply (t : Fin cfg0.N) (x : Fin 2048) (p : Fin 1408) :
    blk0 m c t (ix2 x p) = part0 m c (ix2 x (pcol0 t p )) := by
  show V m c main_arg0 ((win0_0.rect t).emb (ix2 x p)) = _
  rw [emb0 t x p , V_main_arg0]

theorem blk1_apply (t : Fin cfg0.N) (x : Fin 2048) (q : Fin 1024) : blk1 m c t (ix2 x q) = other m c (ix2 x q) := by
  show V m c main_arg1 ((win0_1.rect t).emb (ix2 x q)) = _
  rw [emb1, V_main_arg1]

theorem cut_apply (t : Fin cfg0.N) (X : Vec Ideal S1408x1024 .bf16) (r : Fin 1408) (q : Fin 1024) :
    (cfg0.win 2).cut (grid0.coords t) X (ix2 r q) = X (ix2 r q) := rfl

theorem read_apply (t : Fin cfg0.N) (X : S2816x1024.Idx → EReal) (r : Fin 1408) (q : Fin 1024) :
    ((cfg0.win 2).blk t).view.read (Elt Ideal) X (ix2 r q) = X (ix2 (brow t r) q) :=
  congrArg X (emb2 t r q)

theorem flushed_A (t : Fin cfg0.N) :
    (Gen.dats m 0 c).flushed 2 t = (cfg0.win 2).cut (grid0.coords t) (out0_A_2 c (grid0.coords t) (ms0_0 t) (hs0_0 t) (ms0_1 t) (hs0_1 t) (ms0_2 t) (hs0_2 t) (hcond0_0 t) (blk0 m c t) (blk1 m c t)) :=
  Value.flushed2_A m c t

theorem at_A (t : Fin cfg0.N) (r : Fin 1408) (q : Fin 1024) :
    (Gen.dats m 0 c).arrAt 2 cfg0.N (ix2 (brow t r) q)
      = ∑ n, part0 m c (ix2 n (pcol0 t r )) * other m c (ix2 n q) := by
  have hT : t.val < 2 := lt_of_lt_of_eq t.isLt N_0
  have hb := congrFun (Value.blocks2 m c t (flush0_2 t)) (ix2 r q)
  rw [read_apply, flushed_A m c t , cut_apply, out_A] at hb
  refine hb.trans (Finset.sum_congr (M := EReal) rfl fun n _ => ?_)
  rw [blk0_apply m c t n r , blk1_apply]

theorem final_0 (i : Fin 2816) (q : Fin 1024) (lo : 0 ≤ i.val) (hi : i.val < 2816) :
    (Gen.dats m 0 c).arrAt 2 cfg0.N (ix2 i q)
      = ∑ n, part0 m c (ix2 n ⟨i.val - 0, by omega⟩) * other m c (ix2 n q) := by
  obtain ⟨t, r, rfl⟩ := exists_row (a := 2) (b := 1408) (N := 2816) rfl (by decide) i
  have hr := r.isLt
  have hv : (row (a := 2) (b := 1408) (N := 2816) rfl t r).val = 1408 * t.val + r.val := rfl
  rw [hv] at lo hi
  have hp : pcol0 (t.cast N_0.symm) r
      = ⟨1408 * t.val + r.val - 0, by omega⟩ := Fin.ext (by
    show 1408 * (t.val - 0) + r.val = 1408 * t.val + r.val - 0
    omega)
  have h := at_A m c (t.cast N_0.symm) r q
  rw [hp] at h
  exact h

theorem ref_0 (x0 : (⟨S2048x2816, .bf16⟩ : BufTy).Contents (Elt Ideal)) (x1 : (⟨S2048x1024, .bf16⟩ : BufTy).Contents (Elt Ideal)) (i : Fin 2816) (q : Fin 1024)
    (lo : 0 ≤ i.val) (hi : i.val < 2816) :
    Cert.DwDownRefIdeal.Read.val_main_v8 (F := Ideal) x0 x1 (ix2 i q) = ∑ n, x0 (ix2 n ⟨i.val - 0, by omega⟩) * x1 (ix2 n q) := by
  pointwise [Cert.DwDownRefIdeal.Read.val_main_v8, Cert.DwDownRefIdeal.Read.val_main_v7, Cert.DwDownRefIdeal.Read.val_main_v6, Cert.DwDownRefIdeal.Read.val_main_v5, Cert.DwDownRefIdeal.Read.val_main_v1]
  exact Finset.sum_congr rfl fun n _ => mul_comm _ _

/-- The array the kernel leaves is the reference's. -/
theorem final_eq : (Gen.dats m 0 c).arrAt 2 cfg0.N = Cert.DwDownRefIdeal.Read.val_main_v8 (F := Ideal) (part0 m c) (other m c) := by
  funext y
  obtain ⟨i, q, rfl⟩ : ∃ (i : Fin 2816) (q : Fin 1024), y = ix2 i q := ⟨y 0, y 1, eq_ix2 y⟩
  exact (final_0 m c i q (by omega) (by have := i.isLt; omega)).trans (ref_0 _ _ i q (by omega) (by have := i.isLt; omega)).symm

/-- The kernel's run and the reference's run leave equal arrays. -/
theorem algebraic : Cert.algebraic_DwDownIdeal_DwDownRefIdeal := by
  intro m g m' g' _ hagree
  refine ⟨fun c => (Gen.dats m 0 c).arrAt 2 cfg0.N, Value.run_blocks m g, ?_⟩
  refine (θ_run _ _ _).mono (fun r h c => ?_) (Cert.DwDownRefIdeal.Value.run (F := Ideal) m' g')
  obtain ⟨e0, ea⟩ := h c
  obtain ⟨a0, a1⟩ := hagree c
  refine ⟨e0.trans ?_, ea⟩
  rw [Cert.DwDownRefIdeal.Read.val_main_v8_eq, a0, a1]
  exact (final_eq m c).symm

end Cert.DwDownIdeal.Hand

end
-- ==== Proof.DwUp.lean ====
/- The gradient of the up projection's weight, as the kernel leaves it: each block of rows is the product over the tokens of
   one part's columns with the other factor, and the blocks together are the reference's product. -/
module

public import proofs.«01_k».proof.Defs
public import proofs.«01_k».proof.Proof.Gen.DwUpIdeal.Value
public import proofs.«01_k».proof.Proof.Gen.DwUpRefIdeal.Read
public import proofs.«01_k».proof.Proof.Blocks
public import proofs.«01_k».proof.Proof.Panels

@[expose] public section

set_option maxRecDepth 16384

noncomputable section

namespace Cert.DwUpIdeal.Hand

open Cert.DwUpIdeal Cert.DwUpIdeal.Gen Idealize.ShloMosaic Idealize.ShloMosaic.TcCoe Idealize.SL.Sem
open Cert.Blocks

theorem zeros : (![0, 0] : Fin 2 → ℕ) = fun _ => 0 := by funext a; fin_cases a <;> rfl

/-- The product over the tokens that a point in part 0 leaves. -/
theorem out_A (c : Dev nD) (i : grid0.Coords) (arg1 : Memref sig .tc .vmem S2048x1408 .bf16) (harg1 : arg1.IsWhole) (arg2 : Memref sig .tc .vmem S2048x1408 .bf16) (harg2 : arg2.IsWhole) (arg3 : Memref sig .tc .vmem S2048x1024 .bf16) (harg3 : arg3.IsWhole) (arg4 : Memref sig .tc .vmem S1408x1024 .bf16) (harg4 : arg4.IsWhole) (hc0 : cond0_0 i) (hc1 : ¬cond0_1 i)
    (x0 : Vec Ideal S2048x1408 .bf16) (x1 : Vec Ideal S2048x1408 .bf16) (x2 : Vec Ideal S2048x1024 .bf16) (p : Fin 1408) (q : Fin 1024) :
    out0_A_3 c i arg1 harg1 arg2 harg2 arg3 harg3 arg4 harg4 hc0 hc1 x0 x1 x2 (ix2 p q) = ∑ n, x0 (ix2 n p) * x2 (ix2 n q) := by
  unfold out0_A_3
  rw [View.read_writes_junk_eq_canon]
  unfold kernelRun0_A
  dsimp only
  sl_unfold_words
  rw [View.canon_unit_zero zeros]
  simp only [View.readAt_eq_ld, harg1.read_unread, harg3.read_unread]
  rw [View.ld_unit_zero (S := S2048x1408) zeros, View.ld_unit_zero (S := S2048x1024) zeros]
  pointwise [k0_pay1, dot_S2048x1408_S2048x1024_S1408x1024_0_0_1_1_n_n]

/-- The product over the tokens that a point in part 1 leaves. -/
theorem out_B (c : Dev nD) (i : grid0.Coords) (arg1 : Memref sig .tc .vmem S2048x1408 .bf16) (harg1 : arg1.IsWhole) (arg2 : Memref sig .tc .vmem S2048x1408 .bf16) (harg2 : arg2.IsWhole) (arg3 : Memref sig .tc .vmem S2048x1024 .bf16) (harg3 : arg3.IsWhole) (arg4 : Memref sig .tc .vmem S1408x1024 .bf16) (harg4 : arg4.IsWhole) (hc0 : ¬cond0_0 i) (hc1 : cond0_1 i)
    (x0 : Vec Ideal S2048x1408 .bf16) (x1 : Vec Ideal S2048x1408 .bf16) (x2 : Vec Ideal S2048x1024 .bf16) (p : Fin 1408) (q : Fin 1024) :
    out0_B_3 c i arg1 harg1 arg2 harg2 arg3 harg3 arg4 harg4 hc0 hc1 x0 x1 x2 (ix2 p q) = ∑ n, x1 (ix2 n p) * x2 (ix2 n q) := by
  unfold out0_B_3
  rw [View.read_writes_junk_eq_canon]
  unfold kernelRun0_B
  dsimp only
  sl_unfold_words
  rw [View.canon_unit_zero zeros]
  simp only [View.readAt_eq_ld, harg2.read_unread, harg3.read_unread]
  rw [View.ld_unit_zero (S := S2048x1408) zeros, View.ld_unit_zero (S := S2048x1024) zeros]
  pointwise [k0_pay2, dot_S2048x1408_S2048x1024_S1408x1024_0_0_1_1_n_n]

variable (m : (ℓ : Loc nD τ sig) → Buf (Elt Ideal) ℓ) (c : Dev nD)

/-- Part 0 of the gradient that comes in. -/
abbrev part0 : S2048x2816.Idx → EReal := m ((c : Thread nD τ).loc main_arg0)
/-- Part 1 of the gradient that comes in. -/
abbrev part1 : S2048x2816.Idx → EReal := m ((c : Thread nD τ).loc main_arg1)
/-- The other factor. -/
abbrev other : S2048x1024.Idx → EReal := m ((c : Thread nD τ).loc main_arg2)

/-- Row `r` of grid point `t`'s block. -/
abbrev brow (t : Fin cfg0.N) (r : Fin 1408) : Fin 5632 := row (a := 4) (b := 1408) rfl (t.cast N_0) r

theorem index0 : ∀ t : Fin grid0.N, t.val < 2 → win0_0.index t 0 = 0 ∧ win0_0.index t 1 = t.val - 0 := by decide +kernel
theorem index1 : ∀ t : Fin grid0.N, 2 ≤ t.val → win0_1.index t 0 = 0 ∧ win0_1.index t 1 = t.val - 2 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

/-- The columns of part 0 that a point reads. -/
abbrev pcol0 (t : Fin cfg0.N) (p : Fin 1408) (g0 : t.val < 2) : Fin 2816 :=
  ⟨1408 * (t.val - 0) + p.val, by have h := t.isLt; have h' := N_0; have h'' : t.val < 4 := lt_of_lt_of_eq h h'; have := p.isLt; omega⟩

theorem emb0 (t : Fin cfg0.N) (x : Fin 2048) (p : Fin 1408) (g0 : t.val < 2) : (win0_0.rect t).emb (ix2 x p) = ix2 x (pcol0 t p g0) := by
  funext a
  apply Fin.ext
  refine (win0_0.rect_emb_val t (ix2 x p) a).trans ?_
  fin_cases a
  · show win0_0.index t 0 * 2048 + x.val = x.val
    rw [(index0 t g0).1]; omega
  · show win0_0.index t 1 * 1408 + p.val = 1408 * (t.val - 0) + p.val
    rw [(index0 t g0).2]; omega

/-- The columns of part 1 that a point reads. -/
abbrev pcol1 (t : Fin cfg0.N) (p : Fin 1408) (g0 : 2 ≤ t.val) : Fin 2816 :=
  ⟨1408 * (t.val - 2) + p.val, by have h := t.isLt; have h' := N_0; have h'' : t.val < 4 := lt_of_lt_of_eq h h'; have := p.isLt; omega⟩

theorem emb1 (t : Fin cfg0.N) (x : Fin 2048) (p : Fin 1408) (g0 : 2 ≤ t.val) : (win0_1.rect t).emb (ix2 x p) = ix2 x (pcol1 t p g0) := by
  funext a
  apply Fin.ext
  refine (win0_1.rect_emb_val t (ix2 x p) a).trans ?_
  fin_cases a
  · show win0_1.index t 0 * 2048 + x.val = x.val
    rw [(index1 t g0).1]; omega
  · show win0_1.index t 1 * 1408 + p.val = 1408 * (t.val - 2) + p.val
    rw [(index1 t g0).2]; omega

theorem emb2 (t : Fin cfg0.N) (x : Fin 2048) (q : Fin 1024) : (win0_2.rect t).emb (ix2 x q) = ix2 x q := by
  funext a
  apply Fin.ext
  refine (win0_2.rect_emb_val t (ix2 x q) a).trans ?_
  fin_cases a
  · show win0_2.index t 0 * 2048 + x.val = x.val
    rw [(index2 t).1]; omega
  · show win0_2.index t 1 * 1024 + q.val = q.val
    rw [(index2 t).2]; omega

theorem emb3 (t : Fin cfg0.N) (r : Fin 1408) (q : Fin 1024) : (win0_3.rect t).emb (ix2 r q) = ix2 (brow t r) q := by
  funext a
  apply Fin.ext
  refine (win0_3.rect_emb_val t (ix2 r q) a).trans ?_
  fin_cases a
  · show win0_3.index t 0 * 1408 + r.val = 1408 * t.val + r.val
    rw [(index3 t).1]; omega
  · show win0_3.index t 1 * 1024 + q.val = q.val
    rw [(index3 t).2]; omega

/-- The block of part 0 that a point reads. -/
def blk0 (t : Fin cfg0.N) : Vec Ideal S2048x1408 .bf16 := iblk m c 0 t
/-- The block of part 1 that a point reads. -/
def blk1 (t : Fin cfg0.N) : Vec Ideal S2048x1408 .bf16 := iblk m c 1 t
/-- The other factor, as a point reads it. -/
def blk2 (t : Fin cfg0.N) : Vec Ideal S2048x1024 .bf16 := iblk m c 2 t

theorem blk0_apply (t : Fin cfg0.N) (x : Fin 2048) (p : Fin 1408) (g0 : t.val < 2) :
    blk0 m c t (ix2 x p) = part0 m c (ix2 x (pcol0 t p g0)) := by
  show V m c main_arg0 ((win0_0.rect t).emb (ix2 x p)) = _
  rw [emb0 t x p g0, V_main_arg0]

theorem blk1_apply (t : Fin cfg0.N) (x : Fin 2048) (p : Fin 1408) (g0 : 2 ≤ t.val) :
    blk1 m c t (ix2 x p) = part1 m c (ix2 x (pcol1 t p g0)) := by
  show V m c main_arg1 ((win0_1.rect t).emb (ix2 x p)) = _
  rw [emb1 t x p g0, V_main_arg1]

theorem blk2_apply (t : Fin cfg0.N) (x : Fin 2048) (q : Fin 1024) : blk2 m c t (ix2 x q) = other m c (ix2 x q) := by
  show V m c main_arg2 ((win0_2.rect t).emb (ix2 x q)) = _
  rw [emb2, V_main_arg2]

theorem cut_apply (t : Fin cfg0.N) (X : Vec Ideal S1408x1024 .bf16) (r : Fin 1408) (q : Fin 1024) :
    (cfg0.win 3).cut (grid0.coords t) X (ix2 r q) = X (ix2 r q) := rfl

theorem read_apply (t : Fin cfg0.N) (X : S5632x1024.Idx → EReal) (r : Fin 1408) (q : Fin 1024) :
    ((cfg0.win 3).blk t).view.read (Elt Ideal) X (ix2 r q) = X (ix2 (brow t r) q) :=
  congrArg X (emb3 t r q)

theorem flushed_A (t : Fin cfg0.N) (h0 : t.val < 2) (h1 : ¬2 ≤ t.val) :
    (Gen.dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (blk0 m c t) (blk1 m c t) (blk2 m c t)) :=
  Value.flushed3_A m c t h0 h1

theorem at_A (t : Fin cfg0.N) (r : Fin 1408) (q : Fin 1024) (g0 : t.val < 2) :
    (Gen.dats m 0 c).arrAt 3 cfg0.N (ix2 (brow t r) q)
      = ∑ n, part0 m c (ix2 n (pcol0 t r g0)) * other m c (ix2 n q) := by
  have hT : t.val < 4 := lt_of_lt_of_eq t.isLt N_0
  have hb := congrFun (Value.blocks3 m c t (flush0_3 t)) (ix2 r q)
  rw [read_apply, flushed_A m c t (by omega) (by omega), cut_apply, out_A] at hb
  refine hb.trans (Finset.sum_congr (M := EReal) rfl fun n _ => ?_)
  rw [blk0_apply m c t n r g0, blk2_apply]

theorem final_0 (i : Fin 5632) (q : Fin 1024) (lo : 0 ≤ i.val) (hi : i.val < 2816) :
    (Gen.dats m 0 c).arrAt 3 cfg0.N (ix2 i q)
      = ∑ n, part0 m c (ix2 n ⟨i.val - 0, by omega⟩) * other m c (ix2 n q) := by
  obtain ⟨t, r, rfl⟩ := exists_row (a := 4) (b := 1408) (N := 5632) rfl (by decide) i
  have hr := r.isLt
  have hv : (row (a := 4) (b := 1408) (N := 5632) rfl t r).val = 1408 * t.val + r.val := rfl
  rw [hv] at lo hi
  have hp : pcol0 (t.cast N_0.symm) r (by simp only [Fin.val_cast]; omega)
      = ⟨1408 * t.val + r.val - 0, by omega⟩ := Fin.ext (by
    show 1408 * (t.val - 0) + r.val = 1408 * t.val + r.val - 0
    omega)
  have h := at_A m c (t.cast N_0.symm) r q (by simp only [Fin.val_cast]; omega)
  rw [hp] at h
  exact h

theorem flushed_B (t : Fin cfg0.N) (h0 : ¬t.val < 2) (h1 : 2 ≤ t.val) :
    (Gen.dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (blk0 m c t) (blk1 m c t) (blk2 m c t)) :=
  Value.flushed3_B m c t h0 h1

theorem at_B (t : Fin cfg0.N) (r : Fin 1408) (q : Fin 1024) (g0 : 2 ≤ t.val) :
    (Gen.dats m 0 c).arrAt 3 cfg0.N (ix2 (brow t r) q)
      = ∑ n, part1 m c (ix2 n (pcol1 t r g0)) * other m c (ix2 n q) := by
  have hT : t.val < 4 := lt_of_lt_of_eq t.isLt N_0
  have hb := congrFun (Value.blocks3 m c t (flush0_3 t)) (ix2 r q)
  rw [read_apply, flushed_B m c t (by omega) (by omega), cut_apply, out_B] at hb
  refine hb.trans (Finset.sum_congr (M := EReal) rfl fun n _ => ?_)
  rw [blk1_apply m c t n r g0, blk2_apply]

theorem final_1 (i : Fin 5632) (q : Fin 1024) (lo : 2816 ≤ i.val) (hi : i.val < 5632) :
    (Gen.dats m 0 c).arrAt 3 cfg0.N (ix2 i q)
      = ∑ n, part1 m c (ix2 n ⟨i.val - 2816, by omega⟩) * other m c (ix2 n q) := by
  obtain ⟨t, r, rfl⟩ := exists_row (a := 4) (b := 1408) (N := 5632) rfl (by decide) i
  have hr := r.isLt
  have hv : (row (a := 4) (b := 1408) (N := 5632) rfl t r).val = 1408 * t.val + r.val := rfl
  rw [hv] at lo hi
  have hp : pcol1 (t.cast N_0.symm) r (by simp only [Fin.val_cast]; omega)
      = ⟨1408 * t.val + r.val - 2816, by omega⟩ := Fin.ext (by
    show 1408 * (t.val - 2) + r.val = 1408 * t.val + r.val - 2816
    omega)
  have h := at_B m c (t.cast N_0.symm) r q (by simp only [Fin.val_cast]; omega)
  rw [hp] at h
  exact h

theorem ref_0 (x0 x1 : (⟨S2048x2816, .bf16⟩ : BufTy).Contents (Elt Ideal)) (x2 : (⟨S2048x1024, .bf16⟩ : BufTy).Contents (Elt Ideal)) (i : Fin 5632) (q : Fin 1024)
    (lo : 0 ≤ i.val) (hi : i.val < 2816) :
    Cert.DwUpRefIdeal.Read.val_main_v10 (F := Ideal) x0 x1 x2 (ix2 i q) = ∑ n, x0 (ix2 n ⟨i.val - 0, by omega⟩) * x2 (ix2 n q) := by
  pointwise [Cert.DwUpRefIdeal.Read.val_main_v10, Cert.DwUpRefIdeal.Read.val_main_v9, Cert.DwUpRefIdeal.Read.val_main_v8, Cert.DwUpRefIdeal.Read.val_main_v7, Cert.DwUpRefIdeal.Read.val_main_v6, Cert.DwUpRefIdeal.Read.val_main_v2, Cert.DwUpRefIdeal.Read.val_main_v1]
  refine Finset.sum_congr rfl fun n _ => ?_

  rw [dif_pos (show i.val < 2816 by omega)]

theorem ref_1 (x0 x1 : (⟨S2048x2816, .bf16⟩ : BufTy).Contents (Elt Ideal)) (x2 : (⟨S2048x1024, .bf16⟩ : BufTy).Contents (Elt Ideal)) (i : Fin 5632) (q : Fin 1024)
    (lo : 2816 ≤ i.val) (hi : i.val < 5632) :
    Cert.DwUpRefIdeal.Read.val_main_v10 (F := Ideal) x0 x1 x2 (ix2 i q) = ∑ n, x1 (ix2 n ⟨i.val - 2816, by omega⟩) * x2 (ix2 n q) := by
  pointwise [Cert.DwUpRefIdeal.Read.val_main_v10, Cert.DwUpRefIdeal.Read.val_main_v9, Cert.DwUpRefIdeal.Read.val_main_v8, Cert.DwUpRefIdeal.Read.val_main_v7, Cert.DwUpRefIdeal.Read.val_main_v6, Cert.DwUpRefIdeal.Read.val_main_v2, Cert.DwUpRefIdeal.Read.val_main_v1]
  refine Finset.sum_congr rfl fun n _ => ?_
  rw [dif_neg (show ¬ i.val < 2816 by omega)]

/-- The array the kernel leaves is the reference's. -/
theorem final_eq : (Gen.dats m 0 c).arrAt 3 cfg0.N = Cert.DwUpRefIdeal.Read.val_main_v10 (F := Ideal) (part0 m c) (part1 m c) (other m c) := by
  funext y
  obtain ⟨i, q, rfl⟩ : ∃ (i : Fin 5632) (q : Fin 1024), y = ix2 i q := ⟨y 0, y 1, eq_ix2 y⟩
  have hi := i.isLt
  by_cases g0 : i.val < 2816
  · exact (final_0 m c i q (by omega) (by omega)).trans (ref_0 _ _ _ i q (by omega) (by omega)).symm
  exact (final_1 m c i q (by omega) (by omega)).trans (ref_1 _ _ _ i q (by omega) (by omega)).symm

/-- The kernel's run and the reference's run leave equal arrays. -/
theorem algebraic : Cert.algebraic_DwUpIdeal_DwUpRefIdeal := by
  intro m g m' g' _ hagree
  refine ⟨fun c => (Gen.dats m 0 c).arrAt 3 cfg0.N, Value.run_blocks m g, ?_⟩
  refine (θ_run _ _ _).mono (fun r h c => ?_) (Cert.DwUpRefIdeal.Value.run (F := Ideal) m' g')
  obtain ⟨e0, ea⟩ := h c
  obtain ⟨a0, a1, a2⟩ := hagree c
  refine ⟨e0.trans ?_, ea⟩
  rw [Cert.DwUpRefIdeal.Read.val_main_v10_eq, a0, a1, a2]
  exact (final_eq m c).symm

end Cert.DwUpIdeal.Hand

end
-- ==== Proof.DwSquare.lean ====
/- The gradient of a square projection's weight, as the kernel leaves it: each block of rows is the product over the tokens of
   one part's columns with the other factor, and the blocks together are the reference's product. -/
module

public import proofs.«01_k».proof.Defs
public import proofs.«01_k».proof.Proof.Gen.DwSquareIdeal.Value
public import proofs.«01_k».proof.Proof.Gen.DwSquareRefIdeal.Read
public import proofs.«01_k».proof.Proof.Blocks
public import proofs.«01_k».proof.Proof.Panels

@[expose] public section

set_option maxRecDepth 16384

noncomputable section

namespace Cert.DwSquareIdeal.Hand

open Cert.DwSquareIdeal Cert.DwSquareIdeal.Gen Idealize.ShloMosaic Idealize.ShloMosaic.TcCoe Idealize.SL.Sem
open Cert.Blocks

theorem zeros : (![0, 0] : Fin 2 → ℕ) = fun _ => 0 := by funext a; fin_cases a <;> rfl

/-- The product over the tokens that a point in part 0 leaves. -/
theorem out_A (c : Dev nD) (i : grid0.Coords) (arg1 : Memref sig .tc .vmem S2048x512 .bf16) (harg1 : arg1.IsWhole) (arg2 : Memref sig .tc .vmem S2048x1024 .bf16) (harg2 : arg2.IsWhole) (arg3 : Memref sig .tc .vmem S512x1024 .bf16) (harg3 : arg3.IsWhole) (hc0 : cond0_0 i)
    (x0 : Vec Ideal S2048x512 .bf16) (x1 : Vec Ideal S2048x1024 .bf16) (p : Fin 512) (q : Fin 1024) :
    out0_A_2 c i arg1 harg1 arg2 harg2 arg3 harg3 hc0 x0 x1 (ix2 p q) = ∑ n, x0 (ix2 n p) * x1 (ix2 n q) := by
  unfold out0_A_2
  rw [View.read_writes_junk_eq_canon]
  unfold kernelRun0_A
  dsimp only
  sl_unfold_words
  rw [View.canon_unit_zero zeros]
  simp only [View.readAt_eq_ld, harg1.read_unread, harg2.read_unread]
  rw [View.ld_unit_zero (S := S2048x512) zeros, View.ld_unit_zero (S := S2048x1024) zeros]
  pointwise [k0_pay1, dot_S2048x512_S2048x1024_S512x1024_0_0_1_1_n_n]

variable (m : (ℓ : Loc nD τ sig) → Buf (Elt Ideal) ℓ) (c : Dev nD)

/-- Part 0 of the gradient that comes in. -/
abbrev part0 : S2048x1024.Idx → EReal := m ((c : Thread nD τ).loc main_arg0)
/-- The other factor. -/
abbrev other : S2048x1024.Idx → EReal := m ((c : Thread nD τ).loc main_arg1)

/-- Row `r` of grid point `t`'s block. -/
abbrev brow (t : Fin cfg0.N) (r : Fin 512) : Fin 1024 := row (a := 2) (b := 512) rfl (t.cast N_0) r

theorem index0 : ∀ t : Fin grid0.N, win0_0.index t 0 = 0 ∧ win0_0.index t 1 = t.val - 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The columns of part 0 that a point reads. -/
abbrev pcol0 (t : Fin cfg0.N) (p : Fin 512) : Fin 1024 :=
  ⟨512 * (t.val - 0) + p.val, by have h := t.isLt; have h' := N_0; have h'' : t.val < 2 := lt_of_lt_of_eq h h'; have := p.isLt; omega⟩

theorem emb0 (t : Fin cfg0.N) (x : Fin 2048) (p : Fin 512) : (win0_0.rect t).emb (ix2 x p) = ix2 x (pcol0 t p ) := by
  funext a
  apply Fin.ext
  refine (win0_0.rect_emb_val t (ix2 x p) a).trans ?_
  fin_cases a
  · show win0_0.index t 0 * 2048 + x.val = x.val
    rw [(index0 t ).1]; omega
  · show win0_0.index t 1 * 512 + p.val = 512 * (t.val - 0) + p.val
    rw [(index0 t ).2]; omega

theorem emb1 (t : Fin cfg0.N) (x : Fin 2048) (q : Fin 1024) : (win0_1.rect t).emb (ix2 x q) = ix2 x q := by
  funext a
  apply Fin.ext
  refine (win0_1.rect_emb_val t (ix2 x q) a).trans ?_
  fin_cases a
  · show win0_1.index t 0 * 2048 + x.val = x.val
    rw [(index1 t).1]; omega
  · show win0_1.index t 1 * 1024 + q.val = q.val
    rw [(index1 t).2]; omega

theorem emb2 (t : Fin cfg0.N) (r : Fin 512) (q : Fin 1024) : (win0_2.rect t).emb (ix2 r q) = ix2 (brow t r) q := by
  funext a
  apply Fin.ext
  refine (win0_2.rect_emb_val t (ix2 r q) a).trans ?_
  fin_cases a
  · show win0_2.index t 0 * 512 + r.val = 512 * t.val + r.val
    rw [(index2 t).1]; omega
  · show win0_2.index t 1 * 1024 + q.val = q.val
    rw [(index2 t).2]; omega

/-- The block of part 0 that a point reads. -/
def blk0 (t : Fin cfg0.N) : Vec Ideal S2048x512 .bf16 := iblk m c 0 t
/-- The other factor, as a point reads it. -/
def blk1 (t : Fin cfg0.N) : Vec Ideal S2048x1024 .bf16 := iblk m c 1 t

theorem blk0_apply (t : Fin cfg0.N) (x : Fin 2048) (p : Fin 512) :
    blk0 m c t (ix2 x p) = part0 m c (ix2 x (pcol0 t p )) := by
  show V m c main_arg0 ((win0_0.rect t).emb (ix2 x p)) = _
  rw [emb0 t x p , V_main_arg0]

theorem blk1_apply (t : Fin cfg0.N) (x : Fin 2048) (q : Fin 1024) : blk1 m c t (ix2 x q) = other m c (ix2 x q) := by
  show V m c main_arg1 ((win0_1.rect t).emb (ix2 x q)) = _
  rw [emb1, V_main_arg1]

theorem cut_apply (t : Fin cfg0.N) (X : Vec Ideal S512x1024 .bf16) (r : Fin 512) (q : Fin 1024) :
    (cfg0.win 2).cut (grid0.coords t) X (ix2 r q) = X (ix2 r q) := rfl

theorem read_apply (t : Fin cfg0.N) (X : S1024x1024.Idx → EReal) (r : Fin 512) (q : Fin 1024) :
    ((cfg0.win 2).blk t).view.read (Elt Ideal) X (ix2 r q) = X (ix2 (brow t r) q) :=
  congrArg X (emb2 t r q)

theorem flushed_A (t : Fin cfg0.N) :
    (Gen.dats m 0 c).flushed 2 t = (cfg0.win 2).cut (grid0.coords t) (out0_A_2 c (grid0.coords t) (ms0_0 t) (hs0_0 t) (ms0_1 t) (hs0_1 t) (ms0_2 t) (hs0_2 t) (hcond0_0 t) (blk0 m c t) (blk1 m c t)) :=
  Value.flushed2_A m c t

theorem at_A (t : Fin cfg0.N) (r : Fin 512) (q : Fin 1024) :
    (Gen.dats m 0 c).arrAt 2 cfg0.N (ix2 (brow t r) q)
      = ∑ n, part0 m c (ix2 n (pcol0 t r )) * other m c (ix2 n q) := by
  have hT : t.val < 2 := lt_of_lt_of_eq t.isLt N_0
  have hb := congrFun (Value.blocks2 m c t (flush0_2 t)) (ix2 r q)
  rw [read_apply, flushed_A m c t , cut_apply, out_A] at hb
  refine hb.trans (Finset.sum_congr (M := EReal) rfl fun n _ => ?_)
  rw [blk0_apply m c t n r , blk1_apply]

theorem final_0 (i : Fin 1024) (q : Fin 1024) (lo : 0 ≤ i.val) (hi : i.val < 1024) :
    (Gen.dats m 0 c).arrAt 2 cfg0.N (ix2 i q)
      = ∑ n, part0 m c (ix2 n ⟨i.val - 0, by omega⟩) * other m c (ix2 n q) := by
  obtain ⟨t, r, rfl⟩ := exists_row (a := 2) (b := 512) (N := 1024) rfl (by decide) i
  have hr := r.isLt
  have hv : (row (a := 2) (b := 512) (N := 1024) rfl t r).val = 512 * t.val + r.val := rfl
  rw [hv] at lo hi
  have hp : pcol0 (t.cast N_0.symm) r
      = ⟨512 * t.val + r.val - 0, by omega⟩ := Fin.ext (by
    show 512 * (t.val - 0) + r.val = 512 * t.val + r.val - 0
    omega)
  have h := at_A m c (t.cast N_0.symm) r q
  rw [hp] at h
  exact h

theorem ref_0 (x0 x1 : (⟨S2048x1024, .bf16⟩ : BufTy).Contents (Elt Ideal)) (i : Fin 1024) (q : Fin 1024)
    (lo : 0 ≤ i.val) (hi : i.val < 1024) :
    Cert.DwSquareRefIdeal.Read.val_main_v8 (F := Ideal) x0 x1 (ix2 i q) = ∑ n, x0 (ix2 n ⟨i.val - 0, by omega⟩) * x1 (ix2 n q) := by
  pointwise [Cert.DwSquareRefIdeal.Read.val_main_v8, Cert.DwSquareRefIdeal.Read.val_main_v7, Cert.DwSquareRefIdeal.Read.val_main_v6, Cert.DwSquareRefIdeal.Read.val_main_v5, Cert.DwSquareRefIdeal.Read.val_main_v1]
  exact Finset.sum_congr rfl fun n _ => mul_comm _ _

/-- The array the kernel leaves is the reference's. -/
theorem final_eq : (Gen.dats m 0 c).arrAt 2 cfg0.N = Cert.DwSquareRefIdeal.Read.val_main_v8 (F := Ideal) (part0 m c) (other m c) := by
  funext y
  obtain ⟨i, q, rfl⟩ : ∃ (i : Fin 1024) (q : Fin 1024), y = ix2 i q := ⟨y 0, y 1, eq_ix2 y⟩
  exact (final_0 m c i q (by omega) (by have := i.isLt; omega)).trans (ref_0 _ _ i q (by omega) (by have := i.isLt; omega)).symm

/-- The kernel's run and the reference's run leave equal arrays. -/
theorem algebraic : Cert.algebraic_DwSquareIdeal_DwSquareRefIdeal := by
  intro m g m' g' _ hagree
  refine ⟨fun c => (Gen.dats m 0 c).arrAt 2 cfg0.N, Value.run_blocks m g, ?_⟩
  refine (θ_run _ _ _).mono (fun r h c => ?_) (Cert.DwSquareRefIdeal.Value.run (F := Ideal) m' g')
  obtain ⟨e0, ea⟩ := h c
  obtain ⟨a0, a1⟩ := hagree c
  refine ⟨e0.trans ?_, ea⟩
  rw [Cert.DwSquareRefIdeal.Read.val_main_v8_eq, a0, a1]
  exact (final_eq m c).symm

end Cert.DwSquareIdeal.Hand

end
-- ==== Proof.DwXkv.lean ====
/- The gradient of the memory's projection's weight, as the kernel leaves it: each block of rows is the product over the tokens of
   one part's columns with the other factor, and the blocks together are the reference's product. -/
module

public import proofs.«01_k».proof.Defs
public import proofs.«01_k».proof.Proof.Gen.DwXkvIdeal.Value
public import proofs.«01_k».proof.Proof.Gen.DwXkvRefIdeal.Read
public import proofs.«01_k».proof.Proof.Blocks
public import proofs.«01_k».proof.Proof.Panels

@[expose] public section

set_option maxRecDepth 16384

noncomputable section

namespace Cert.DwXkvIdeal.Hand

open Cert.DwXkvIdeal Cert.DwXkvIdeal.Gen Idealize.ShloMosaic Idealize.ShloMosaic.TcCoe Idealize.SL.Sem
open Cert.Blocks

theorem zeros : (![0, 0] : Fin 2 → ℕ) = fun _ => 0 := by funext a; fin_cases a <;> rfl

/-- The product over the tokens that a point in part 0 leaves. -/
theorem out_A (c : Dev nD) (i : grid0.Coords) (arg1 : Memref sig .tc .vmem S256x256 .bf16) (harg1 : arg1.IsWhole) (arg2 : Memref sig .tc .vmem S256x1024 .bf16) (harg2 : arg2.IsWhole) (arg3 : Memref sig .tc .vmem S256x1024 .bf16) (harg3 : arg3.IsWhole) (hc0 : cond0_0 i)
    (x0 : Vec Ideal S256x256 .bf16) (x1 : Vec Ideal S256x1024 .bf16) (p : Fin 256) (q : Fin 1024) :
    out0_A_2 c i arg1 harg1 arg2 harg2 arg3 harg3 hc0 x0 x1 (ix2 p q) = ∑ n, x0 (ix2 n p) * x1 (ix2 n q) := by
  unfold out0_A_2
  rw [View.read_writes_junk_eq_canon]
  unfold kernelRun0_A
  dsimp only
  sl_unfold_words
  rw [View.canon_unit_zero zeros]
  simp only [View.readAt_eq_ld, harg1.read_unread, harg2.read_unread]
  rw [View.ld_unit_zero (S := S256x256) zeros, View.ld_unit_zero (S := S256x1024) zeros]
  pointwise [k0_pay1, dot_S256x256_S256x1024_S256x1024_0_0_1_1_n_n]

variable (m : (ℓ : Loc nD τ sig) → Buf (Elt Ideal) ℓ) (c : Dev nD)

/-- Part 0 of the gradient that comes in. -/
abbrev part0 : S256x2048.Idx → EReal := m ((c : Thread nD τ).loc main_arg0)
/-- The other factor. -/
abbrev other : S256x1024.Idx → EReal := m ((c : Thread nD τ).loc main_arg1)

/-- Row `r` of grid point `t`'s block. -/
abbrev brow (t : Fin cfg0.N) (r : Fin 256) : Fin 2048 := row (a := 8) (b := 256) rfl (t.cast N_0) r

theorem index0 : ∀ t : Fin grid0.N, win0_0.index t 0 = 0 ∧ win0_0.index t 1 = t.val - 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The columns of part 0 that a point reads. -/
abbrev pcol0 (t : Fin cfg0.N) (p : Fin 256) : Fin 2048 :=
  ⟨256 * (t.val - 0) + p.val, by have h := t.isLt; have h' := N_0; have h'' : t.val < 8 := lt_of_lt_of_eq h h'; have := p.isLt; omega⟩

theorem emb0 (t : Fin cfg0.N) (x : Fin 256) (p : Fin 256) : (win0_0.rect t).emb (ix2 x p) = ix2 x (pcol0 t p ) := by
  funext a
  apply Fin.ext
  refine (win0_0.rect_emb_val t (ix2 x p) a).trans ?_
  fin_cases a
  · show win0_0.index t 0 * 256 + x.val = x.val
    rw [(index0 t ).1]; omega
  · show win0_0.index t 1 * 256 + p.val = 256 * (t.val - 0) + p.val
    rw [(index0 t ).2]; omega

theorem emb1 (t : Fin cfg0.N) (x : Fin 256) (q : Fin 1024) : (win0_1.rect t).emb (ix2 x q) = ix2 x q := by
  funext a
  apply Fin.ext
  refine (win0_1.rect_emb_val t (ix2 x q) a).trans ?_
  fin_cases a
  · show win0_1.index t 0 * 256 + x.val = x.val
    rw [(index1 t).1]; omega
  · show win0_1.index t 1 * 1024 + q.val = q.val
    rw [(index1 t).2]; omega

theorem emb2 (t : Fin cfg0.N) (r : Fin 256) (q : Fin 1024) : (win0_2.rect t).emb (ix2 r q) = ix2 (brow t r) q := by
  funext a
  apply Fin.ext
  refine (win0_2.rect_emb_val t (ix2 r q) a).trans ?_
  fin_cases a
  · show win0_2.index t 0 * 256 + r.val = 256 * t.val + r.val
    rw [(index2 t).1]; omega
  · show win0_2.index t 1 * 1024 + q.val = q.val
    rw [(index2 t).2]; omega

/-- The block of part 0 that a point reads. -/
def blk0 (t : Fin cfg0.N) : Vec Ideal S256x256 .bf16 := iblk m c 0 t
/-- The other factor, as a point reads it. -/
def blk1 (t : Fin cfg0.N) : Vec Ideal S256x1024 .bf16 := iblk m c 1 t

theorem blk0_apply (t : Fin cfg0.N) (x : Fin 256) (p : Fin 256) :
    blk0 m c t (ix2 x p) = part0 m c (ix2 x (pcol0 t p )) := by
  show V m c main_arg0 ((win0_0.rect t).emb (ix2 x p)) = _
  rw [emb0 t x p , V_main_arg0]

theorem blk1_apply (t : Fin cfg0.N) (x : Fin 256) (q : Fin 1024) : blk1 m c t (ix2 x q) = other m c (ix2 x q) := by
  show V m c main_arg1 ((win0_1.rect t).emb (ix2 x q)) = _
  rw [emb1, V_main_arg1]

theorem cut_apply (t : Fin cfg0.N) (X : Vec Ideal S256x1024 .bf16) (r : Fin 256) (q : Fin 1024) :
    (cfg0.win 2).cut (grid0.coords t) X (ix2 r q) = X (ix2 r q) := rfl

theorem read_apply (t : Fin cfg0.N) (X : S2048x1024.Idx → EReal) (r : Fin 256) (q : Fin 1024) :
    ((cfg0.win 2).blk t).view.read (Elt Ideal) X (ix2 r q) = X (ix2 (brow t r) q) :=
  congrArg X (emb2 t r q)

theorem flushed_A (t : Fin cfg0.N) :
    (Gen.dats m 0 c).flushed 2 t = (cfg0.win 2).cut (grid0.coords t) (out0_A_2 c (grid0.coords t) (ms0_0 t) (hs0_0 t) (ms0_1 t) (hs0_1 t) (ms0_2 t) (hs0_2 t) (hcond0_0 t) (blk0 m c t) (blk1 m c t)) :=
  Value.flushed2_A m c t

theorem at_A (t : Fin cfg0.N) (r : Fin 256) (q : Fin 1024) :
    (Gen.dats m 0 c).arrAt 2 cfg0.N (ix2 (brow t r) q)
      = ∑ n, part0 m c (ix2 n (pcol0 t r )) * other m c (ix2 n q) := by
  have hT : t.val < 8 := lt_of_lt_of_eq t.isLt N_0
  have hb := congrFun (Value.blocks2 m c t (flush0_2 t)) (ix2 r q)
  rw [read_apply, flushed_A m c t , cut_apply, out_A] at hb
  refine hb.trans (Finset.sum_congr (M := EReal) rfl fun n _ => ?_)
  rw [blk0_apply m c t n r , blk1_apply]

theorem final_0 (i : Fin 2048) (q : Fin 1024) (lo : 0 ≤ i.val) (hi : i.val < 2048) :
    (Gen.dats m 0 c).arrAt 2 cfg0.N (ix2 i q)
      = ∑ n, part0 m c (ix2 n ⟨i.val - 0, by omega⟩) * other m c (ix2 n q) := by
  obtain ⟨t, r, rfl⟩ := exists_row (a := 8) (b := 256) (N := 2048) rfl (by decide) i
  have hr := r.isLt
  have hv : (row (a := 8) (b := 256) (N := 2048) rfl t r).val = 256 * t.val + r.val := rfl
  rw [hv] at lo hi
  have hp : pcol0 (t.cast N_0.symm) r
      = ⟨256 * t.val + r.val - 0, by omega⟩ := Fin.ext (by
    show 256 * (t.val - 0) + r.val = 256 * t.val + r.val - 0
    omega)
  have h := at_A m c (t.cast N_0.symm) r q
  rw [hp] at h
  exact h

theorem ref_0 (x0 : (⟨S256x2048, .bf16⟩ : BufTy).Contents (Elt Ideal)) (x1 : (⟨S256x1024, .bf16⟩ : BufTy).Contents (Elt Ideal)) (i : Fin 2048) (q : Fin 1024)
    (lo : 0 ≤ i.val) (hi : i.val < 2048) :
    Cert.DwXkvRefIdeal.Read.val_main_v9 (F := Ideal) x0 x1 (ix2 i q) = ∑ n, x0 (ix2 n ⟨i.val - 0, by omega⟩) * x1 (ix2 n q) := by
  pointwise [Cert.DwXkvRefIdeal.Read.val_main_v9, Cert.DwXkvRefIdeal.Read.val_main_v8, Cert.DwXkvRefIdeal.Read.val_main_v7, Cert.DwXkvRefIdeal.Read.val_main_v6, Cert.DwXkvRefIdeal.Read.val_main_v5, Cert.DwXkvRefIdeal.Read.val_main_v1]

/-- The array the kernel leaves is the reference's. -/
theorem final_eq : (Gen.dats m 0 c).arrAt 2 cfg0.N = Cert.DwXkvRefIdeal.Read.val_main_v9 (F := Ideal) (part0 m c) (other m c) := by
  funext y
  obtain ⟨i, q, rfl⟩ : ∃ (i : Fin 2048) (q : Fin 1024), y = ix2 i q := ⟨y 0, y 1, eq_ix2 y⟩
  exact (final_0 m c i q (by omega) (by have := i.isLt; omega)).trans (ref_0 _ _ i q (by omega) (by have := i.isLt; omega)).symm

/-- The kernel's run and the reference's run leave equal arrays. -/
theorem algebraic : Cert.algebraic_DwXkvIdeal_DwXkvRefIdeal := by
  intro m g m' g' _ hagree
  refine ⟨fun c => (Gen.dats m 0 c).arrAt 2 cfg0.N, Value.run_blocks m g, ?_⟩
  refine (θ_run _ _ _).mono (fun r h c => ?_) (Cert.DwXkvRefIdeal.Value.run (F := Ideal) m' g')
  obtain ⟨e0, ea⟩ := h c
  obtain ⟨a0, a1⟩ := hagree c
  refine ⟨e0.trans ?_, ea⟩
  rw [Cert.DwXkvRefIdeal.Read.val_main_v9_eq, a0, a1]
  exact (final_eq m c).symm

end Cert.DwXkvIdeal.Hand

end
-- ==== Proof.DwIn.lean ====
/- The gradient of the input projection's weight, as the kernel leaves it: each block of rows is the product over the tokens of
   one part's columns with the other factor, and the blocks together are the reference's product. -/
module

public import proofs.«01_k».proof.Defs
public import proofs.«01_k».proof.Proof.Gen.DwInIdeal.Value
public import proofs.«01_k».proof.Proof.Gen.DwInRefIdeal.Read
public import proofs.«01_k».proof.Proof.Blocks
public import proofs.«01_k».proof.Proof.Panels

@[expose] public section

set_option maxRecDepth 16384

noncomputable section

namespace Cert.DwInIdeal.Hand

open Cert.DwInIdeal Cert.DwInIdeal.Gen Idealize.ShloMosaic Idealize.ShloMosaic.TcCoe Idealize.SL.Sem
open Cert.Blocks

theorem zeros : (![0, 0] : Fin 2 → ℕ) = fun _ => 0 := by funext a; fin_cases a <;> rfl

/-- The product over the tokens that a point in part 0 leaves. -/
theorem out_A (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : cond0_0 i) (hc1 : ¬cond0_1 i) (hc2 : ¬cond0_2 i) (hc3 : ¬cond0_3 i) (hc4 : ¬cond0_4 i) (hc5 : ¬cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_A_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x0 (ix2 n p) * x6 (ix2 n q) := by
  unfold out0_A_7
  rw [View.read_writes_junk_eq_canon]
  unfold kernelRun0_A
  dsimp only
  sl_unfold_words
  rw [View.canon_unit_zero zeros]
  simp only [View.readAt_eq_ld, harg1.read_unread, harg7.read_unread]
  rw [View.ld_unit_zero (S := S2048x256) zeros, View.ld_unit_zero (S := S2048x1024) zeros]
  pointwise [k0_pay1, dot_S2048x256_S2048x1024_S256x1024_0_0_1_1_n_n]

/-- The product over the tokens that a point in part 1 leaves. -/
theorem out_B (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : ¬cond0_0 i) (hc1 : cond0_1 i) (hc2 : ¬cond0_2 i) (hc3 : ¬cond0_3 i) (hc4 : ¬cond0_4 i) (hc5 : ¬cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_B_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x1 (ix2 n p) * x6 (ix2 n q) := by
  unfold out0_B_7
  rw [View.read_writes_junk_eq_canon]
  unfold kernelRun0_B
  dsimp only
  sl_unfold_words
  rw [View.canon_unit_zero zeros]
  simp only [View.readAt_eq_ld, harg2.read_unread, harg7.read_unread]
  rw [View.ld_unit_zero (S := S2048x256) zeros, View.ld_unit_zero (S := S2048x1024) zeros]
  pointwise [k0_pay2, dot_S2048x256_S2048x1024_S256x1024_0_0_1_1_n_n]

/-- The product over the tokens that a point in part 2 leaves. -/
theorem out_C (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : ¬cond0_0 i) (hc1 : ¬cond0_1 i) (hc2 : cond0_2 i) (hc3 : ¬cond0_3 i) (hc4 : ¬cond0_4 i) (hc5 : ¬cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_C_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x2 (ix2 n p) * x6 (ix2 n q) := by
  unfold out0_C_7
  rw [View.read_writes_junk_eq_canon]
  unfold kernelRun0_C
  dsimp only
  sl_unfold_words
  rw [View.canon_unit_zero zeros]
  simp only [View.readAt_eq_ld, harg3.read_unread, harg7.read_unread]
  rw [View.ld_unit_zero (S := S2048x256) zeros, View.ld_unit_zero (S := S2048x1024) zeros]
  pointwise [k0_pay3, dot_S2048x256_S2048x1024_S256x1024_0_0_1_1_n_n]

/-- The product over the tokens that a point in part 3 leaves. -/
theorem out_D (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : ¬cond0_0 i) (hc1 : ¬cond0_1 i) (hc2 : ¬cond0_2 i) (hc3 : cond0_3 i) (hc4 : ¬cond0_4 i) (hc5 : ¬cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_D_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x3 (ix2 n p) * x6 (ix2 n q) := by
  unfold out0_D_7
  rw [View.read_writes_junk_eq_canon]
  unfold kernelRun0_D
  dsimp only
  sl_unfold_words
  rw [View.canon_unit_zero zeros]
  simp only [View.readAt_eq_ld, harg4.read_unread, harg7.read_unread]
  rw [View.ld_unit_zero (S := S2048x256) zeros, View.ld_unit_zero (S := S2048x1024) zeros]
  pointwise [k0_pay4, dot_S2048x256_S2048x1024_S256x1024_0_0_1_1_n_n]

/-- The product over the tokens that a point in part 4 leaves. -/
theorem out_E (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : ¬cond0_0 i) (hc1 : ¬cond0_1 i) (hc2 : ¬cond0_2 i) (hc3 : ¬cond0_3 i) (hc4 : cond0_4 i) (hc5 : ¬cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_E_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x4 (ix2 n p) * x6 (ix2 n q) := by
  unfold out0_E_7
  rw [View.read_writes_junk_eq_canon]
  unfold kernelRun0_E
  dsimp only
  sl_unfold_words
  rw [View.canon_unit_zero zeros]
  simp only [View.readAt_eq_ld, harg5.read_unread, harg7.read_unread]
  rw [View.ld_unit_zero (S := S2048x256) zeros, View.ld_unit_zero (S := S2048x1024) zeros]
  pointwise [k0_pay5, dot_S2048x256_S2048x1024_S256x1024_0_0_1_1_n_n]

/-- The product over the tokens that a point in part 5 leaves. -/
theorem out_F (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x1024 .bf16) (harg7 : arg7.IsWhole) (arg8 : Memref sig .tc .vmem S256x1024 .bf16) (harg8 : arg8.IsWhole) (hc0 : ¬cond0_0 i) (hc1 : ¬cond0_1 i) (hc2 : ¬cond0_2 i) (hc3 : ¬cond0_3 i) (hc4 : ¬cond0_4 i) (hc5 : cond0_5 i)
    (x0 : Vec Ideal S2048x256 .bf16) (x1 : Vec Ideal S2048x256 .bf16) (x2 : Vec Ideal S2048x256 .bf16) (x3 : Vec Ideal S2048x256 .bf16) (x4 : Vec Ideal S2048x256 .bf16) (x5 : Vec Ideal S2048x256 .bf16) (x6 : Vec Ideal S2048x1024 .bf16) (p : Fin 256) (q : Fin 1024) :
    out0_F_7 c i arg1 harg1 arg2 harg2 arg3 harg3 arg4 harg4 arg5 harg5 arg6 harg6 arg7 harg7 arg8 harg8 hc0 hc1 hc2 hc3 hc4 hc5 x0 x1 x2 x3 x4 x5 x6 (ix2 p q) = ∑ n, x5 (ix2 n p) * x6 (ix2 n q) := by
  unfold out0_F_7
  rw [View.read_writes_junk_eq_canon]
  unfold kernelRun0_F
  dsimp only
  sl_unfold_words
  rw [View.canon_unit_zero zeros]
  simp only [View.readAt_eq_ld, harg6.read_unread, harg7.read_unread]
  rw [View.ld_unit_zero (S := S2048x256) zeros, View.ld_unit_zero (S := S2048x1024) zeros]
  pointwise [k0_pay6, dot_S2048x256_S2048x1024_S256x1024_0_0_1_1_n_n]

variable (m : (ℓ : Loc nD τ sig) → Buf (Elt Ideal) ℓ) (c : Dev nD)

/-- Part 0 of the gradient that comes in. -/
abbrev part0 : S2048x768.Idx → EReal := m ((c : Thread nD τ).loc main_arg0)
/-- Part 1 of the gradient that comes in. -/
abbrev part1 : S2048x512.Idx → EReal := m ((c : Thread nD τ).loc main_arg1)
/-- Part 2 of the gradient that comes in. -/
abbrev part2 : S2048x512.Idx → EReal := m ((c : Thread nD τ).loc main_arg2)
/-- Part 3 of the gradient that comes in. -/
abbrev part3 : S2048x512.Idx → EReal := m ((c : Thread nD τ).loc main_arg3)
/-- Part 4 of the gradient that comes in. -/
abbrev part4 : S2048x512.Idx → EReal := m ((c : Thread nD τ).loc main_arg4)
/-- Part 5 of the gradient that comes in. -/
abbrev part5 : S2048x512.Idx → EReal := m ((c : Thread nD τ).loc main_arg5)
/-- The other factor. -/
abbrev other : S2048x1024.Idx → EReal := m ((c : Thread nD τ).loc main_arg6)

/-- Row `r` of grid point `t`'s block. -/
abbrev brow (t : Fin cfg0.N) (r : Fin 256) : Fin 3328 := row (a := 13) (b := 256) rfl (t.cast N_0) r

theorem index0 : ∀ t : Fin grid0.N, t.val < 3 → win0_0.index t 0 = 0 ∧ win0_0.index t 1 = t.val - 0 := by decide +kernel
theorem index1 : ∀ t : Fin grid0.N, 3 ≤ t.val → t.val < 5 → win0_1.index t 0 = 0 ∧ win0_1.index t 1 = t.val - 3 := by decide +kernel
theorem index2 : ∀ t : Fin grid0.N, 5 ≤ t.val → t.val < 7 → win0_2.index t 0 = 0 ∧ win0_2.index t 1 = t.val - 5 := by decide +kernel
theorem index3 : ∀ t : Fin grid0.N, 7 ≤ t.val → t.val < 9 → win0_3.index t 0 = 0 ∧ win0_3.index t 1 = t.val - 7 := by decide +kernel
theorem index4 : ∀ t : Fin grid0.N, 9 ≤ t.val → t.val < 11 → win0_4.index t 0 = 0 ∧ win0_4.index t 1 = t.val - 9 := by decide +kernel
theorem index5 : ∀ t : Fin grid0.N, 11 ≤ t.val → win0_5.index t 0 = 0 ∧ win0_5.index t 1 = t.val - 11 := by decide +kernel
theorem index6 : ∀ t : Fin grid0.N, win0_6.index t 0 = 0 ∧ win0_6.index t 1 = 0 := by decide +kernel
theorem index7 : ∀ t : Fin grid0.N, win0_7.index t 0 = t.val ∧ win0_7.index t 1 = 0 := by decide +kernel

/-- The columns of part 0 that a point reads. -/
abbrev pcol0 (t : Fin cfg0.N) (p : Fin 256) (g0 : t.val < 3) : Fin 768 :=
  ⟨256 * (t.val - 0) + p.val, by have h := t.isLt; have h' := N_0; have h'' : t.val < 13 := lt_of_lt_of_eq h h'; have := p.isLt; omega⟩

theorem emb0 (t : Fin cfg0.N) (x : Fin 2048) (p : Fin 256) (g0 : t.val < 3) : (win0_0.rect t).emb (ix2 x p) = ix2 x (pcol0 t p g0) := by
  funext a
  apply Fin.ext
  refine (win0_0.rect_emb_val t (ix2 x p) a).trans ?_
  fin_cases a
  · show win0_0.index t 0 * 2048 + x.val = x.val
    rw [(index0 t g0).1]; omega
  · show win0_0.index t 1 * 256 + p.val = 256 * (t.val - 0) + p.val
    rw [(index0 t g0).2]; omega

/-- The columns of part 1 that a point reads. -/
abbrev pcol1 (t : Fin cfg0.N) (p : Fin 256) (g0 : 3 ≤ t.val) (g1 : t.val < 5) : Fin 512 :=
  ⟨256 * (t.val - 3) + p.val, by have h := t.isLt; have h' := N_0; have h'' : t.val < 13 := lt_of_lt_of_eq h h'; have := p.isLt; omega⟩

theorem emb1 (t : Fin cfg0.N) (x : Fin 2048) (p : Fin 256) (g0 : 3 ≤ t.val) (g1 : t.val < 5) : (win0_1.rect t).emb (ix2 x p) = ix2 x (pcol1 t p g0 g1) := by
  funext a
  apply Fin.ext
  refine (win0_1.rect_emb_val t (ix2 x p) a).trans ?_
  fin_cases a
  · show win0_1.index t 0 * 2048 + x.val = x.val
    rw [(index1 t g0 g1).1]; omega
  · show win0_1.index t 1 * 256 + p.val = 256 * (t.val - 3) + p.val
    rw [(index1 t g0 g1).2]; omega

/-- The columns of part 2 that a point reads. -/
abbrev pcol2 (t : Fin cfg0.N) (p : Fin 256) (g0 : 5 ≤ t.val) (g1 : t.val < 7) : Fin 512 :=
  ⟨256 * (t.val - 5) + p.val, by have h := t.isLt; have h' := N_0; have h'' : t.val < 13 := lt_of_lt_of_eq h h'; have := p.isLt; omega⟩

theorem emb2 (t : Fin cfg0.N) (x : Fin 2048) (p : Fin 256) (g0 : 5 ≤ t.val) (g1 : t.val < 7) : (win0_2.rect t).emb (ix2 x p) = ix2 x (pcol2 t p g0 g1) := by
  funext a
  apply Fin.ext
  refine (win0_2.rect_emb_val t (ix2 x p) a).trans ?_
  fin_cases a
  · show win0_2.index t 0 * 2048 + x.val = x.val
    rw [(index2 t g0 g1).1]; omega
  · show win0_2.index t 1 * 256 + p.val = 256 * (t.val - 5) + p.val
    rw [(index2 t g0 g1).2]; omega

/-- The columns of part 3 that a point reads. -/
abbrev pcol3 (t : Fin cfg0.N) (p : Fin 256) (g0 : 7 ≤ t.val) (g1 : t.val < 9) : Fin 512 :=
  ⟨256 * (t.val - 7) + p.val, by have h := t.isLt; have h' := N_0; have h'' : t.val < 13 := lt_of_lt_of_eq h h'; have := p.isLt; omega⟩

theorem emb3 (t : Fin cfg0.N) (x : Fin 2048) (p : Fin 256) (g0 : 7 ≤ t.val) (g1 : t.val < 9) : (win0_3.rect t).emb (ix2 x p) = ix2 x (pcol3 t p g0 g1) := by
  funext a
  apply Fin.ext
  refine (win0_3.rect_emb_val t (ix2 x p) a).trans ?_
  fin_cases a
  · show win0_3.index t 0 * 2048 + x.val = x.val
    rw [(index3 t g0 g1).1]; omega
  · show win0_3.index t 1 * 256 + p.val = 256 * (t.val - 7) + p.val
    rw [(index3 t g0 g1).2]; omega

/-- The columns of part 4 that a point reads. -/
abbrev pcol4 (t : Fin cfg0.N) (p : Fin 256) (g0 : 9 ≤ t.val) (g1 : t.val < 11) : Fin 512 :=
  ⟨256 * (t.val - 9) + p.val, by have h := t.isLt; have h' := N_0; have h'' : t.val < 13 := lt_of_lt_of_eq h h'; have := p.isLt; omega⟩

theorem emb4 (t : Fin cfg0.N) (x : Fin 2048) (p : Fin 256) (g0 : 9 ≤ t.val) (g1 : t.val < 11) : (win0_4.rect t).emb (ix2 x p) = ix2 x (pcol4 t p g0 g1) := by
  funext a
  apply Fin.ext
  refine (win0_4.rect_emb_val t (ix2 x p) a).trans ?_
  fin_cases a
  · show win0_4.index t 0 * 2048 + x.val = x.val
    rw [(index4 t g0 g1).1]; omega
  · show win0_4.index t 1 * 256 + p.val = 256 * (t.val - 9) + p.val
    rw [(index4 t g0 g1).2]; omega

/-- The columns of part 5 that a point reads. -/
abbrev pcol5 (t : Fin cfg0.N) (p : Fin 256) (g0 : 11 ≤ t.val) : Fin 512 :=
  ⟨256 * (t.val - 11) + p.val, by have h := t.isLt; have h' := N_0; have h'' : t.val < 13 := lt_of_lt_of_eq h h'; have := p.isLt; omega⟩

theorem emb5 (t : Fin cfg0.N) (x : Fin 2048) (p : Fin 256) (g0 : 11 ≤ t.val) : (win0_5.rect t).emb (ix2 x p) = ix2 x (pcol5 t p g0) := by
  funext a
  apply Fin.ext
  refine (win0_5.rect_emb_val t (ix2 x p) a).trans ?_
  fin_cases a
  · show win0_5.index t 0 * 2048 + x.val = x.val
    rw [(index5 t g0).1]; omega
  · show win0_5.index t 1 * 256 + p.val = 256 * (t.val - 11) + p.val
    rw [(index5 t g0).2]; omega

theorem emb6 (t : Fin cfg0.N) (x : Fin 2048) (q : Fin 1024) : (win0_6.rect t).emb (ix2 x q) = ix2 x q := by
  funext a
  apply Fin.ext
  refine (win0_6.rect_emb_val t (ix2 x q) a).trans ?_
  fin_cases a
  · show win0_6.index t 0 * 2048 + x.val = x.val
    rw [(index6 t).1]; omega
  · show win0_6.index t 1 * 1024 + q.val = q.val
    rw [(index6 t).2]; omega

theorem emb7 (t : Fin cfg0.N) (r : Fin 256) (q : Fin 1024) : (win0_7.rect t).emb (ix2 r q) = ix2 (brow t r) q := by
  funext a
  apply Fin.ext
  refine (win0_7.rect_emb_val t (ix2 r q) a).trans ?_
  fin_cases a
  · show win0_7.index t 0 * 256 + r.val = 256 * t.val + r.val
    rw [(index7 t).1]; omega
  · show win0_7.index t 1 * 1024 + q.val = q.val
    rw [(index7 t).2]; omega

/-- The block of part 0 that a point reads. -/
def blk0 (t : Fin cfg0.N) : Vec Ideal S2048x256 .bf16 := iblk m c 0 t
/-- The block of part 1 that a point reads. -/
def blk1 (t : Fin cfg0.N) : Vec Ideal S2048x256 .bf16 := iblk m c 1 t
/-- The block of part 2 that a point reads. -/
def blk2 (t : Fin cfg0.N) : Vec Ideal S2048x256 .bf16 := iblk m c 2 t
/-- The block of part 3 that a point reads. -/
def blk3 (t : Fin cfg0.N) : Vec Ideal S2048x256 .bf16 := iblk m c 3 t
/-- The block of part 4 that a point reads. -/
def blk4 (t : Fin cfg0.N) : Vec Ideal S2048x256 .bf16 := iblk m c 4 t
/-- The block of part 5 that a point reads. -/
def blk5 (t : Fin cfg0.N) : Vec Ideal S2048x256 .bf16 := iblk m c 5 t
/-- The other factor, as a point reads it. -/
def blk6 (t : Fin cfg0.N) : Vec Ideal S2048x1024 .bf16 := iblk m c 6 t

theorem blk0_apply (t : Fin cfg0.N) (x : Fin 2048) (p : Fin 256) (g0 : t.val < 3) :
    blk0 m c t (ix2 x p) = part0 m c (ix2 x (pcol0 t p g0)) := by
  show V m c main_arg0 ((win0_0.rect t).emb (ix2 x p)) = _
  rw [emb0 t x p g0, V_main_arg0]

theorem blk1_apply (t : Fin cfg0.N) (x : Fin 2048) (p : Fin 256) (g0 : 3 ≤ t.val) (g1 : t.val < 5) :
    blk1 m c t (ix2 x p) = part1 m c (ix2 x (pcol1 t p g0 g1)) := by
  show V m c main_arg1 ((win0_1.rect t).emb (ix2 x p)) = _
  rw [emb1 t x p g0 g1, V_main_arg1]

theorem blk2_apply (t : Fin cfg0.N) (x : Fin 2048) (p : Fin 256) (g0 : 5 ≤ t.val) (g1 : t.val < 7) :
    blk2 m c t (ix2 x p) = part2 m c (ix2 x (pcol2 t p g0 g1)) := by
  show V m c main_arg2 ((win0_2.rect t).emb (ix2 x p)) = _
  rw [emb2 t x p g0 g1, V_main_arg2]

theorem blk3_apply (t : Fin cfg0.N) (x : Fin 2048) (p : Fin 256) (g0 : 7 ≤ t.val) (g1 : t.val < 9) :
    blk3 m c t (ix2 x p) = part3 m c (ix2 x (pcol3 t p g0 g1)) := by
  show V m c main_arg3 ((win0_3.rect t).emb (ix2 x p)) = _
  rw [emb3 t x p g0 g1, V_main_arg3]

theorem blk4_apply (t : Fin cfg0.N) (x : Fin 2048) (p : Fin 256) (g0 : 9 ≤ t.val) (g1 : t.val < 11) :
    blk4 m c t (ix2 x p) = part4 m c (ix2 x (pcol4 t p g0 g1)) := by
  show V m c main_arg4 ((win0_4.rect t).emb (ix2 x p)) = _
  rw [emb4 t x p g0 g1, V_main_arg4]

theorem blk5_apply (t : Fin cfg0.N) (x : Fin 2048) (p : Fin 256) (g0 : 11 ≤ t.val) :
    blk5 m c t (ix2 x p) = part5 m c (ix2 x (pcol5 t p g0)) := by
  show V m c main_arg5 ((win0_5.rect t).emb (ix2 x p)) = _
  rw [emb5 t x p g0, V_main_arg5]

theorem blk6_apply (t : Fin cfg0.N) (x : Fin 2048) (q : Fin 1024) : blk6 m c t (ix2 x q) = other m c (ix2 x q) := by
  show V m c main_arg6 ((win0_6.rect t).emb (ix2 x q)) = _
  rw [emb6, V_main_arg6]

theorem cut_apply (t : Fin cfg0.N) (X : Vec Ideal S256x1024 .bf16) (r : Fin 256) (q : Fin 1024) :
    (cfg0.win 7).cut (grid0.coords t) X (ix2 r q) = X (ix2 r q) := rfl

theorem read_apply (t : Fin cfg0.N) (X : S3328x1024.Idx → EReal) (r : Fin 256) (q : Fin 1024) :
    ((cfg0.win 7).blk t).view.read (Elt Ideal) X (ix2 r q) = X (ix2 (brow t r) q) :=
  congrArg X (emb7 t r q)

theorem flushed_A (t : Fin cfg0.N) (h0 : t.val < 3) (h1 : ¬(3 ≤ t.val % 13 ∧ t.val % 13 ≤ 4)) (h2 : ¬(5 ≤ t.val % 13 ∧ t.val % 13 ≤ 6)) (h3 : ¬(7 ≤ t.val % 13 ∧ t.val % 13 ≤ 8)) (h4 : ¬(9 ≤ t.val % 13 ∧ t.val % 13 ≤ 10)) (h5 : ¬11 ≤ t.val) :
    (Gen.dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (blk0 m c t) (blk1 m c t) (blk2 m c t) (blk3 m c t) (blk4 m c t) (blk5 m c t) (blk6 m c t)) :=
  Value.flushed7_A m c t h0 h1 h2 h3 h4 h5

theorem at_A (t : Fin cfg0.N) (r : Fin 256) (q : Fin 1024) (g0 : t.val < 3) :
    (Gen.dats m 0 c).arrAt 7 cfg0.N (ix2 (brow t r) q)
      = ∑ n, part0 m c (ix2 n (pcol0 t r g0)) * other m c (ix2 n q) := by
  have hT : t.val < 13 := lt_of_lt_of_eq t.isLt N_0
  have hb := congrFun (Value.blocks7 m c t (flush0_7 t)) (ix2 r q)
  rw [read_apply, flushed_A m c t (by omega) (by omega) (by omega) (by omega) (by omega) (by omega), cut_apply, out_A] at hb
  refine hb.trans (Finset.sum_congr (M := EReal) rfl fun n _ => ?_)
  rw [blk0_apply m c t n r g0, blk6_apply]

theorem final_0 (i : Fin 3328) (q : Fin 1024) (lo : 0 ≤ i.val) (hi : i.val < 768) :
    (Gen.dats m 0 c).arrAt 7 cfg0.N (ix2 i q)
      = ∑ n, part0 m c (ix2 n ⟨i.val - 0, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol0 (t.cast N_0.symm) r (by simp only [Fin.val_cast]; omega)
      = ⟨256 * t.val + r.val - 0, by omega⟩ := Fin.ext (by
    show 256 * (t.val - 0) + r.val = 256 * t.val + r.val - 0
    omega)
  have h := at_A m c (t.cast N_0.symm) r q (by simp only [Fin.val_cast]; omega)
  rw [hp] at h
  exact h

theorem flushed_B (t : Fin cfg0.N) (h0 : ¬t.val < 3) (h1 : (3 ≤ t.val % 13 ∧ t.val % 13 ≤ 4)) (h2 : ¬(5 ≤ t.val % 13 ∧ t.val % 13 ≤ 6)) (h3 : ¬(7 ≤ t.val % 13 ∧ t.val % 13 ≤ 8)) (h4 : ¬(9 ≤ t.val % 13 ∧ t.val % 13 ≤ 10)) (h5 : ¬11 ≤ t.val) :
    (Gen.dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (blk0 m c t) (blk1 m c t) (blk2 m c t) (blk3 m c t) (blk4 m c t) (blk5 m c t) (blk6 m c t)) :=
  Value.flushed7_B m c t h0 h1 h2 h3 h4 h5

theorem at_B (t : Fin cfg0.N) (r : Fin 256) (q : Fin 1024) (g0 : 3 ≤ t.val) (g1 : t.val < 5) :
    (Gen.dats m 0 c).arrAt 7 cfg0.N (ix2 (brow t r) q)
      = ∑ n, part1 m c (ix2 n (pcol1 t r g0 g1)) * other m c (ix2 n q) := by
  have hT : t.val < 13 := lt_of_lt_of_eq t.isLt N_0
  have hb := congrFun (Value.blocks7 m c t (flush0_7 t)) (ix2 r q)
  rw [read_apply, flushed_B m c t (by omega) (by omega) (by omega) (by omega) (by omega) (by omega), cut_apply, out_B] at hb
  refine hb.trans (Finset.sum_congr (M := EReal) rfl fun n _ => ?_)
  rw [blk1_apply m c t n r g0 g1, blk6_apply]

theorem final_1 (i : Fin 3328) (q : Fin 1024) (lo : 768 ≤ i.val) (hi : i.val < 1280) :
    (Gen.dats m 0 c).arrAt 7 cfg0.N (ix2 i q)
      = ∑ n, part1 m c (ix2 n ⟨i.val - 768, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol1 (t.cast N_0.symm) r (by simp only [Fin.val_cast]; omega) (by simp only [Fin.val_cast]; omega)
      = ⟨256 * t.val + r.val - 768, by omega⟩ := Fin.ext (by
    show 256 * (t.val - 3) + r.val = 256 * t.val + r.val - 768
    omega)
  have h := at_B m c (t.cast N_0.symm) r q (by simp only [Fin.val_cast]; omega) (by simp only [Fin.val_cast]; omega)
  rw [hp] at h
  exact h

theorem flushed_C (t : Fin cfg0.N) (h0 : ¬t.val < 3) (h1 : ¬(3 ≤ t.val % 13 ∧ t.val % 13 ≤ 4)) (h2 : (5 ≤ t.val % 13 ∧ t.val % 13 ≤ 6)) (h3 : ¬(7 ≤ t.val % 13 ∧ t.val % 13 ≤ 8)) (h4 : ¬(9 ≤ t.val % 13 ∧ t.val % 13 ≤ 10)) (h5 : ¬11 ≤ t.val) :
    (Gen.dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (blk0 m c t) (blk1 m c t) (blk2 m c t) (blk3 m c t) (blk4 m c t) (blk5 m c t) (blk6 m c t)) :=
  Value.flushed7_C m c t h0 h1 h2 h3 h4 h5

theorem at_C (t : Fin cfg0.N) (r : Fin 256) (q : Fin 1024) (g0 : 5 ≤ t.val) (g1 : t.val < 7) :
    (Gen.dats m 0 c).arrAt 7 cfg0.N (ix2 (brow t r) q)
      = ∑ n, part2 m c (ix2 n (pcol2 t r g0 g1)) * other m c (ix2 n q) := by
  have hT : t.val < 13 := lt_of_lt_of_eq t.isLt N_0
  have hb := congrFun (Value.blocks7 m c t (flush0_7 t)) (ix2 r q)
  rw [read_apply, flushed_C m c t (by omega) (by omega) (by omega) (by omega) (by omega) (by omega), cut_apply, out_C] at hb
  refine hb.trans (Finset.sum_congr (M := EReal) rfl fun n _ => ?_)
  rw [blk2_apply m c t n r g0 g1, blk6_apply]

theorem final_2 (i : Fin 3328) (q : Fin 1024) (lo : 1280 ≤ i.val) (hi : i.val < 1792) :
    (Gen.dats m 0 c).arrAt 7 cfg0.N (ix2 i q)
      = ∑ n, part2 m c (ix2 n ⟨i.val - 1280, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol2 (t.cast N_0.symm) r (by simp only [Fin.val_cast]; omega) (by simp only [Fin.val_cast]; omega)
      = ⟨256 * t.val + r.val - 1280, by omega⟩ := Fin.ext (by
    show 256 * (t.val - 5) + r.val = 256 * t.val + r.val - 1280
    omega)
  have h := at_C m c (t.cast N_0.symm) r q (by simp only [Fin.val_cast]; omega) (by simp only [Fin.val_cast]; omega)
  rw [hp] at h
  exact h

theorem flushed_D (t : Fin cfg0.N) (h0 : ¬t.val < 3) (h1 : ¬(3 ≤ t.val % 13 ∧ t.val % 13 ≤ 4)) (h2 : ¬(5 ≤ t.val % 13 ∧ t.val % 13 ≤ 6)) (h3 : (7 ≤ t.val % 13 ∧ t.val % 13 ≤ 8)) (h4 : ¬(9 ≤ t.val % 13 ∧ t.val % 13 ≤ 10)) (h5 : ¬11 ≤ t.val) :
    (Gen.dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (blk0 m c t) (blk1 m c t) (blk2 m c t) (blk3 m c t) (blk4 m c t) (blk5 m c t) (blk6 m c t)) :=
  Value.flushed7_D m c t h0 h1 h2 h3 h4 h5

theorem at_D (t : Fin cfg0.N) (r : Fin 256) (q : Fin 1024) (g0 : 7 ≤ t.val) (g1 : t.val < 9) :
    (Gen.dats m 0 c).arrAt 7 cfg0.N (ix2 (brow t r) q)
      = ∑ n, part3 m c (ix2 n (pcol3 t r g0 g1)) * other m c (ix2 n q) := by
  have hT : t.val < 13 := lt_of_lt_of_eq t.isLt N_0
  have hb := congrFun (Value.blocks7 m c t (flush0_7 t)) (ix2 r q)
  rw [read_apply, flushed_D m c t (by omega) (by omega) (by omega) (by omega) (by omega) (by omega), cut_apply, out_D] at hb
  refine hb.trans (Finset.sum_congr (M := EReal) rfl fun n _ => ?_)
  rw [blk3_apply m c t n r g0 g1, blk6_apply]

theorem final_3 (i : Fin 3328) (q : Fin 1024) (lo : 1792 ≤ i.val) (hi : i.val < 2304) :
    (Gen.dats m 0 c).arrAt 7 cfg0.N (ix2 i q)
      = ∑ n, part3 m c (ix2 n ⟨i.val - 1792, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol3 (t.cast N_0.symm) r (by simp only [Fin.val_cast]; omega) (by simp only [Fin.val_cast]; omega)
      = ⟨256 * t.val + r.val - 1792, by omega⟩ := Fin.ext (by
    show 256 * (t.val - 7) + r.val = 256 * t.val + r.val - 1792
    omega)
  have h := at_D m c (t.cast N_0.symm) r q (by simp only [Fin.val_cast]; omega) (by simp only [Fin.val_cast]; omega)
  rw [hp] at h
  exact h

theorem flushed_E (t : Fin cfg0.N) (h0 : ¬t.val < 3) (h1 : ¬(3 ≤ t.val % 13 ∧ t.val % 13 ≤ 4)) (h2 : ¬(5 ≤ t.val % 13 ∧ t.val % 13 ≤ 6)) (h3 : ¬(7 ≤ t.val % 13 ∧ t.val % 13 ≤ 8)) (h4 : (9 ≤ t.val % 13 ∧ t.val % 13 ≤ 10)) (h5 : ¬11 ≤ t.val) :
    (Gen.dats m 0 c).flushed 7 t = (cfg0.win 7).cut (grid0.coords t) (out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (blk0 m c t) (blk1 m c t) (blk2 m c t) (blk3 m c t) (blk4 m c t) (blk5 m c t) (blk6 m c t)) :=
  Value.flushed7_E m c t h0 h1 h2 h3 h4 h5

theorem at_E (t : Fin cfg0.N) (r : Fin 256) (q : Fin 1024) (g0 : 9 ≤ t.val) (g1 : t.val < 11) :
    (Gen.dats m 0 c).arrAt 7 cfg0.N (ix2 (brow t r) q)
      = ∑ n, part4 m c (ix2 n (pcol4 t r g0 g1)) * other m c (ix2 n q) := by
  have hT : t.val < 13 := lt_of_lt_of_eq t.isLt N_0
  have hb := congrFun (Value.blocks7 m c t (flush0_7 t)) (ix2 r q)
  rw [read_apply, flushed_E m c t (by omega) (by omega) (by omega) (by omega) (by omega) (by omega), cut_apply, out_E] at hb
  refine hb.trans (Finset.sum_congr (M := EReal) rfl fun n _ => ?_)
  rw [blk4_apply m c t n r g0 g1, blk6_apply]

theorem final_4 (i : Fin 3328) (q : Fin 1024) (lo : 2304 ≤ i.val) (hi : i.val < 2816) :
    (Gen.dats m 0 c).arrAt 7 cfg0.N (ix2 i q)
      = ∑ n, part4 m c (ix2 n ⟨i.val - 2304, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol4 (t.cast N_0.symm) r (by simp only [Fin.val_cast]; omega) (by simp only [Fin.val_cast]; omega)
      = ⟨256 * t.val + r.val - 2304, by omega⟩ := Fin.ext (by
    show 256 * (t.val - 9) + r.val = 256 * t.val + r.val - 2304
    omega)
  have h := at_E m c (t.cast N_0.symm) r q (by simp only [Fin.val_cast]; omega) (by simp only [Fin.val_cast]; omega)
  rw [hp] at h
  exact h

theorem flushed_F (t : Fin cfg0.N) (h0 : ¬t.val < 3) (h1 : ¬(3 ≤ t.val % 13 ∧ t.val % 13 ≤ 4)) (h2 : ¬(5 ≤ t.val % 13 ∧ t.val % 13 ≤ 6)) (h3 : ¬(7 ≤ t.val % 13 ∧ t.val % 13 ≤ 8)) (h4 : ¬(9 ≤ t.val % 13 ∧ t.val % 13 ≤ 10)) (h5 : 11 ≤ t.val) :
    (Gen.dats m 0 c).flushed 7 t = (cfg0.win 7).cut (grid0.coords t) (out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (blk0 m c t) (blk1 m c t) (blk2 m c t) (blk3 m c t) (blk4 m c t) (blk5 m c t) (blk6 m c t)) :=
  Value.flushed7_F m c t h0 h1 h2 h3 h4 h5

theorem at_F (t : Fin cfg0.N) (r : Fin 256) (q : Fin 1024) (g0 : 11 ≤ t.val) :
    (Gen.dats m 0 c).arrAt 7 cfg0.N (ix2 (brow t r) q)
      = ∑ n, part5 m c (ix2 n (pcol5 t r g0)) * other m c (ix2 n q) := by
  have hT : t.val < 13 := lt_of_lt_of_eq t.isLt N_0
  have hb := congrFun (Value.blocks7 m c t (flush0_7 t)) (ix2 r q)
  rw [read_apply, flushed_F m c t (by omega) (by omega) (by omega) (by omega) (by omega) (by omega), cut_apply, out_F] at hb
  refine hb.trans (Finset.sum_congr (M := EReal) rfl fun n _ => ?_)
  rw [blk5_apply m c t n r g0, blk6_apply]

theorem final_5 (i : Fin 3328) (q : Fin 1024) (lo : 2816 ≤ i.val) (hi : i.val < 3328) :
    (Gen.dats m 0 c).arrAt 7 cfg0.N (ix2 i q)
      = ∑ n, part5 m c (ix2 n ⟨i.val - 2816, by omega⟩) * other m c (ix2 n q) := by
  obtain ⟨t, r, rfl⟩ := exists_row (a := 13) (b := 256) (N := 3328) rfl (by decide) i
  have hr := r.isLt
  have hv : (row (a := 13) (b := 256) (N := 3328) rfl t r).val = 256 * t.val + r.val := rfl
  rw [hv] at lo hi
  have hp : pcol5 (t.cast N_0.symm) r (by simp only [Fin.val_cast]; omega)
      = ⟨256 * t.val + r.val - 2816, by omega⟩ := Fin.ext (by
    show 256 * (t.val - 11) + r.val = 256 * t.val + r.val - 2816
    omega)
  have h := at_F m c (t.cast N_0.symm) r q (by simp only [Fin.val_cast]; omega)
  rw [hp] at h
  exact h

theorem ref_0 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 0 ≤ i.val) (hi : i.val < 768) :
    Cert.DwInRefIdeal.Read.val_main_v10 (F := Ideal) x0 x1 x2 x3 x4 x5 x6 (ix2 i q) = ∑ n, x0 (ix2 n ⟨i.val - 0, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_

  rw [dif_pos (show i.val < 768 by omega)]

theorem ref_1 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 768 ≤ i.val) (hi : i.val < 1280) :
    Cert.DwInRefIdeal.Read.val_main_v10 (F := Ideal) x0 x1 x2 x3 x4 x5 x6 (ix2 i q) = ∑ n, x1 (ix2 n ⟨i.val - 768, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_
  rw [dif_neg (show ¬ i.val < 768 by omega)]
  rw [dif_pos (show i.val - 768 < 512 by omega)]

theorem ref_2 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 1280 ≤ i.val) (hi : i.val < 1792) :
    Cert.DwInRefIdeal.Read.val_main_v10 (F := Ideal) x0 x1 x2 x3 x4 x5 x6 (ix2 i q) = ∑ n, x2 (ix2 n ⟨i.val - 1280, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_
  rw [dif_neg (show ¬ i.val < 768 by omega)]
  rw [dif_neg (show ¬ i.val - 768 < 512 by omega)]
  rw [dif_pos (show i.val - 768 - 512 < 512 by omega)]
  exact congrArg (fun j : Fin 512 => x2 (ix2 n j) * x6 (ix2 n q)) (Fin.ext (by dsimp only; omega))

theorem ref_3 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 1792 ≤ i.val) (hi : i.val < 2304) :
    Cert.DwInRefIdeal.Read.val_main_v10 (F := Ideal) x0 x1 x2 x3 x4 x5 x6 (ix2 i q) = ∑ n, x3 (ix2 n ⟨i.val - 1792, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_
  rw [dif_neg (show ¬ i.val < 768 by omega)]
  rw [dif_neg (show ¬ i.val - 768 < 512 by omega)]
  rw [dif_neg (show ¬ i.val - 768 - 512 < 512 by omega)]
  rw [dif_pos (show i.val - 768 - 512 - 512 < 512 by omega)]
  exact congrArg (fun j : Fin 512 => x3 (ix2 n j) * x6 (ix2 n q)) (Fin.ext (by dsimp only; omega))

theorem ref_4 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 2304 ≤ i.val) (hi : i.val < 2816) :
    Cert.DwInRefIdeal.Read.val_main_v10 (F := Ideal) x0 x1 x2 x3 x4 x5 x6 (ix2 i q) = ∑ n, x4 (ix2 n ⟨i.val - 2304, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_
  rw [dif_neg (show ¬ i.val < 768 by omega)]
  rw [dif_neg (show ¬ i.val - 768 < 512 by omega)]
  rw [dif_neg (show ¬ i.val - 768 - 512 < 512 by omega)]
  rw [dif_neg (show ¬ i.val - 768 - 512 - 512 < 512 by omega)]
  rw [dif_pos (show i.val - 768 - 512 - 512 - 512 < 512 by omega)]
  exact congrArg (fun j : Fin 512 => x4 (ix2 n j) * x6 (ix2 n q)) (Fin.ext (by dsimp only; omega))

theorem ref_5 (x0 : (⟨S2048x768, .bf16⟩ : BufTy).Contents (Elt Ideal)) (x1 x2 x3 x4 x5 : (⟨S2048x512, .bf16⟩ : BufTy).Contents (Elt Ideal)) (x6 : (⟨S2048x1024, .bf16⟩ : BufTy).Contents (Elt Ideal)) (i : Fin 3328) (q : Fin 1024)
    (lo : 2816 ≤ i.val) (hi : i.val < 3328) :
    Cert.DwInRefIdeal.Read.val_main_v10 (F := Ideal) x0 x1 x2 x3 x4 x5 x6 (ix2 i q) = ∑ n, x5 (ix2 n ⟨i.val - 2816, by omega⟩) * x6 (ix2 n q) := by
  pointwise [Cert.DwInRefIdeal.Read.val_main_v10, Cert.DwInRefIdeal.Read.val_main_v9, Cert.DwInRefIdeal.Read.val_main_v8, Cert.DwInRefIdeal.Read.val_main_v7, Cert.DwInRefIdeal.Read.val_main_v6, Cert.DwInRefIdeal.Read.val_main_v2, Cert.DwInRefIdeal.Read.val_main_v1]
  refine Finset.sum_congr rfl fun n _ => ?_
  rw [dif_neg (show ¬ i.val < 768 by omega)]
  rw [dif_neg (show ¬ i.val - 768 < 512 by omega)]
  rw [dif_neg (show ¬ i.val - 768 - 512 < 512 by omega)]
  rw [dif_neg (show ¬ i.val - 768 - 512 - 512 < 512 by omega)]
  rw [dif_neg (show ¬ i.val - 768 - 512 - 512 - 512 < 512 by omega)]
  exact congrArg (fun j : Fin 512 => x5 (ix2 n j) * x6 (ix2 n q)) (Fin.ext (by dsimp only; omega))

/-- The array the kernel leaves is the reference's. -/
theorem final_eq : (Gen.dats m 0 c).arrAt 7 cfg0.N = Cert.DwInRefIdeal.Read.val_main_v10 (F := Ideal) (part0 m c) (part1 m c) (part2 m c) (part3 m c) (part4 m c) (part5 m c) (other m c) := by
  funext y
  obtain ⟨i, q, rfl⟩ : ∃ (i : Fin 3328) (q : Fin 1024), y = ix2 i q := ⟨y 0, y 1, eq_ix2 y⟩
  have hi := i.isLt
  by_cases g0 : i.val < 768
  · exact (final_0 m c i q (by omega) (by omega)).trans (ref_0 _ _ _ _ _ _ _ i q (by omega) (by omega)).symm
  by_cases g1 : i.val < 1280
  · exact (final_1 m c i q (by omega) (by omega)).trans (ref_1 _ _ _ _ _ _ _ i q (by omega) (by omega)).symm
  by_cases g2 : i.val < 1792
  · exact (final_2 m c i q (by omega) (by omega)).trans (ref_2 _ _ _ _ _ _ _ i q (by omega) (by omega)).symm
  by_cases g3 : i.val < 2304
  · exact (final_3 m c i q (by omega) (by omega)).trans (ref_3 _ _ _ _ _ _ _ i q (by omega) (by omega)).symm
  by_cases g4 : i.val < 2816
  · exact (final_4 m c i q (by omega) (by omega)).trans (ref_4 _ _ _ _ _ _ _ i q (by omega) (by omega)).symm
  exact (final_5 m c i q (by omega) (by omega)).trans (ref_5 _ _ _ _ _ _ _ i q (by omega) (by omega)).symm

/-- The kernel's run and the reference's run leave equal arrays. -/
theorem algebraic : Cert.algebraic_DwInIdeal_DwInRefIdeal := by
  intro m g m' g' _ hagree
  refine ⟨fun c => (Gen.dats m 0 c).arrAt 7 cfg0.N, Value.run_blocks m g, ?_⟩
  refine (θ_run _ _ _).mono (fun r h c => ?_) (Cert.DwInRefIdeal.Value.run (F := Ideal) m' g')
  obtain ⟨e0, ea⟩ := h c
  obtain ⟨a0, a1, a2, a3, a4, a5, a6⟩ := hagree c
  refine ⟨e0.trans ?_, ea⟩
  rw [Cert.DwInRefIdeal.Read.val_main_v10_eq, a0, a1, a2, a3, a4, a5, a6]
  exact (final_eq m c).symm

end Cert.DwInIdeal.Hand

end
-- ==== Proof.Accumulate.lean ====
/- What an array that every grid point adds to holds after the last one: the sum of what the points added. -/
module

public import Mathlib.Algebra.BigOperators.Fin

@[expose] public section

noncomputable section

namespace Cert.Blocks

/-- Point 0 leaves its own term, every later point adds its own to what the point before left: point `n`
    leaves the sum of the terms up to `n`. -/
theorem sum_upto {β : Type*} [AddCommMonoid β] {N : ℕ} (o : ∀ n, n < N → β) (K : Fin N → β)
    (h0 : ∀ h, o 0 h = K ⟨0, h⟩)
    (hs : ∀ n (h : n + 1 < N), o (n + 1) h = o n (Nat.lt_of_succ_lt h) + K ⟨n + 1, h⟩) :
    ∀ n (h : n < N), o n h = ∑ t : Fin (n + 1), K ⟨t.val, Nat.lt_of_lt_of_le t.isLt h⟩
  | 0, h => by rw [h0, Fin.sum_univ_one]; rfl
  | n + 1, h => by
    rw [hs, sum_upto o K h0 hs n]
    exact (Fin.sum_univ_castSucc fun t : Fin (n + 1 + 1) => K ⟨t.val, Nat.lt_of_lt_of_le t.isLt h⟩).symm

end Cert.Blocks

end
-- ==== Proof.NormGrad.lean ====
/- The gradient of a root-mean-square norm over a row of 1024 entries, over the extended reals: the closed
   form `normGrad`, which keeps the normed row, and the chain rule's own `chainGrad`, which differentiates
   the reciprocal root. Where the row is real the two are equal, whatever the gradient `t` that arrives. -/
module

public import Idealize.ShloMosaic.PureOps
public import Idealize.ShloMosaic.Lib.Pointwise
public import proofs.«01_k».proof.Proof.SoftmaxGrad

@[expose] public section

noncomputable section

namespace Cert.Norm

open Idealize.ShloMosaic Cert.Softmax

/-- The row's length. -/
def width : EReal := Ideal.ofBits .f32 0x44800000#32
/-- What is added to the mean square. -/
def eps : EReal := Ideal.ofBits .f32 0x358637BD#32
/-- Minus one half. -/
def mhalf : EReal := Ideal.ofBits .f32 0xBF000000#32

theorem width_eq : width = ((1024 : ℝ) : EReal) := by
  simp [width, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  norm_num

/-- The row's mean square, `eps` added. -/
def meanSq (x : Fin 1024 → EReal) : EReal := Ideal.div (∑ k, x k * x k) width + eps
/-- Its reciprocal root. -/
def root (x : Fin 1024 → EReal) : EReal := Ideal.rsqrt (meanSq x)
/-- The row's gradient, `t` being the normed row's, by the closed form. -/
def normGrad (t x : Fin 1024 → EReal) (j : Fin 1024) : EReal :=
  root x * (t j - x j * root x * Ideal.div (∑ k, t k * (x k * root x)) width)
/-- The mean square's gradient over the row's length. -/
def meanGrad (t x : Fin 1024 → EReal) : EReal :=
  Ideal.div ((∑ k, x k * t k) * (mhalf * Ideal.div (root x) (meanSq x))) width
/-- The row's gradient by the chain rule. -/
def chainGrad (t x : Fin 1024 → EReal) (j : Fin 1024) : EReal :=
  t j * root x + x j * meanGrad t x + meanGrad t x * x j

/-- The mean square of a real row is a positive real, and so is its reciprocal root. -/
theorem root_real {x : Fin 1024 → EReal} (hx : ∀ k, IsReal (x k)) :
    ∃ m r : ℝ, 0 < m ∧ 0 < r ∧ r * r * m = 1 ∧ meanSq x = (m : EReal) ∧ root x = (r : EReal) := by
  choose X hX using hx
  obtain ⟨e, he, hE⟩ := eps_pos
  have hm : meanSq x = ((((∑ k, X k * X k) * (1 / 1024) + e : ℝ)) : EReal) := by
    have h : ∀ k, x k * x k = ((X k * X k : ℝ) : EReal) := fun k => by rw [hX k, EReal.coe_mul]
    rw [meanSq, hE, width_eq, Ideal.div_coe (by norm_num), Finset.sum_congr rfl fun k _ => h k, ← coe_sum,
      ← EReal.coe_mul, ← EReal.coe_add]
  have hpos : 0 < (∑ k, X k * X k) * (1 / 1024) + e :=
    add_pos_of_nonneg_of_pos (mul_nonneg (Finset.sum_nonneg fun k _ => mul_self_nonneg _) (by norm_num)) he
  generalize (∑ k, X k * X k) * (1 / 1024) + e = m at hm hpos
  refine ⟨m, (Real.sqrt m)⁻¹, hpos, inv_pos.mpr (Real.sqrt_pos.mpr hpos), ?_, hm, ?_⟩
  · have h := Real.mul_self_sqrt hpos.le
    have h' := (Real.sqrt_pos.mpr hpos).ne'
    field_simp
    rw [sq, h]
  · rw [root, hm, Ideal.rsqrt_coe, if_neg hpos.le.not_gt, if_neg hpos.ne']

/-- A positive real factor passes into a difference. -/
theorem mul_sub_real {r : ℝ} (hr : 0 ≤ r) (a b : EReal) : (r : EReal) * (a - b) = r * a + -(r * b) := by
  rw [sub_eq_add_neg, EReal.left_distrib_of_nonneg_of_ne_top (EReal.coe_nonneg.mpr hr) (EReal.coe_ne_top r), mul_neg]

/-- Twice a real multiple of an extended real. -/
theorem twice (c : ℝ) (S : EReal) : (c : EReal) * S + c * S = ((c + c : ℝ) : EReal) * S := by
  induction S with
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | coe s => rw [← EReal.coe_mul, ← EReal.coe_mul, ← EReal.coe_add, add_mul]
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl

/-- The two gradients of a real row are equal. -/
theorem normGrad_real {x : Fin 1024 → EReal} (hx : ∀ k, IsReal (x k)) (t : Fin 1024 → EReal) (j : Fin 1024) :
    normGrad t x j = chainGrad t x j := by
  obtain ⟨m, r, hm, hr, hrm, hM, hR⟩ := root_real hx
  obtain ⟨X, hX⟩ := hx j
  have hs : ∑ k, t k * (x k * (r : EReal)) = (r : EReal) * ∑ k, x k * t k := by
    rw [mul_sum_real hr.le]
    exact Finset.sum_congr rfl fun k _ => by rw [mul_comm (t k), mul_comm (x k), mul_assoc]
  rw [normGrad, chainGrad, meanGrad, hM, hR, hs, width_eq, mhalf_eq, hX, Ideal.div_coe (by norm_num),
    Ideal.div_coe (by norm_num), Ideal.div_coe hm.ne', mul_sub_real hr.le]
  generalize (∑ k, x k * t k) = S
  have hl : (r : EReal) * ((X : EReal) * r * ((r : EReal) * S * ((1 / 1024 : ℝ) : EReal)))
      = ((r * (X * r * (r * (1 / 1024))) : ℝ) : EReal) * S := by
    simp only [EReal.coe_mul]; ac_rfl
  have hc : (X : EReal) * (S * (((-(1 / 2) : ℝ) : EReal) * ((r : EReal) * ((1 / m : ℝ) : EReal))) * ((1 / 1024 : ℝ) : EReal))
      = ((X * (-(1 / 2) * (r * (1 / m)) * (1 / 1024)) : ℝ) : EReal) * S := by
    simp only [EReal.coe_mul]; ac_rfl
  rw [mul_comm _ (X : EReal), hc, hl, add_assoc, twice, mul_comm (t j), ← EReal.neg_mul, ← EReal.coe_neg]
  congr 3
  have : 1 / m = r * r := by field_simp; linarith
  rw [this]; ring

/-- A square is not negative. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- A row with an infinite element has the infinite mean square. -/
theorem meanSq_top {x : Fin 1024 → EReal} {k : Fin 1024} (h : ¬IsReal (x k)) : meanSq x = ⊤ := by
  have hk : x k * x k = ⊤ := by
    rcases hx : x k with _ | _ | r
    · rfl
    · rfl
    · exact absurd ⟨r, hx⟩ h
  have hs : ∑ k, x k * x k = ⊤ := top_le_iff.mp (hk ▸ Finset.single_le_sum (f := fun k => x k * x k) (fun k _ => square_nonneg (x k)) (Finset.mem_univ k))
  obtain ⟨e, he, hE⟩ := eps_pos
  rw [meanSq, hs, width_eq, Ideal.div_coe (by norm_num), hE, EReal.top_mul_coe_of_pos (by norm_num)]
  rfl

/-- The two gradients are equal: of a row with an infinite element both are zero, the reciprocal root being zero. -/
theorem normGrad_eq (t x : Fin 1024 → EReal) (j : Fin 1024) : normGrad t x j = chainGrad t x j := by
  by_cases hx : ∀ k, IsReal (x k)
  · exact normGrad_real hx t j
  obtain ⟨k, hk⟩ := not_forall.mp hx
  have hm := meanSq_top hk
  have hr : root x = 0 := by rw [root, hm, Ideal.rsqrt_top]
  have hd : Ideal.div 0 ⊤ = 0 := by simp [Ideal.div]
  have hw : Ideal.div 0 width = 0 := by rw [width_eq, Ideal.div_coe (by norm_num), zero_mul]
  rw [normGrad, chainGrad, meanGrad, hm, hr, hd]
  simp only [mul_zero, zero_mul, hw, add_zero]

end Cert.Norm

end
-- ==== Proof.UpBwd.lean ====
/- The gradients of the norm before the up projection, as the kernel leaves them: the gradient of the normed rows is the
   product of the projection's gradient with its weight, the rows' gradient is `normGrad` of it added to the
   residual's, and the scale's gradient is its sum over the rows, one block of rows per grid point. -/
module

public import proofs.«01_k».proof.Defs
public import proofs.«01_k».proof.Proof.Gen.UpBwdIdeal.Value
public import proofs.«01_k».proof.Proof.Gen.UpBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the normed rows: the product of the projection's gradient with its weight. -/
def dh {M : ℕ} (x0 : (⟨2, ![M, 2816]⟩ : Shape).Idx → EReal) (x1 : (⟨2, ![M, 2816]⟩ : Shape).Idx → EReal) (x2 : S5632x1024.Idx → EReal) (p : Fin M) (k : Fin 1024) : EReal :=
  (∑ n : Fin 2816, x0 (ix2 p n) * x2 (ix2 ⟨0 + n.val, by have := n.isLt; omega⟩ k)) + (∑ n : Fin 2816, x1 (ix2 p n) * x2 (ix2 ⟨2816 + n.val, by have := n.isLt; omega⟩ k))

/-- The rows' gradient. -/
def dxAt {M : ℕ} (d : Fin M → Fin 1024 → EReal) (x : (⟨2, ![M, 1024]⟩ : Shape).Idx → EReal) (g : S1x1024.Idx → EReal) (p : Fin M) (q : Fin 1024) : EReal :=
  normGrad (fun k => d p k * g (ix2 0 k)) (fun k => x (ix2 p k)) q

/-- A row's part of the scale's gradient. -/
def dgAt {M : ℕ} (d : Fin M → Fin 1024 → EReal) (x : (⟨2, ![M, 1024]⟩ : Shape).Idx → EReal) (p : Fin M) (q : Fin 1024) : EReal :=
  d p q * (x (ix2 p q) * root (fun k => x (ix2 p k)))

theorem dx_A (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S5632x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (hc0 : cond0_0 i)
    (x0 : Vec Ideal S256x2816 .bf16) (x1 : Vec Ideal S256x2816 .bf16) (x2 : Vec Ideal S5632x1024 .bf16) (x3 : Vec Ideal S256x1024 .f32) (x4 : Vec Ideal S1x1024 .f32) (x5 : Vec Ideal S256x1024 .f32) (p : Fin 256) (q : Fin 1024) :
    out0_A_6 c i arg1 harg1 arg2 harg2 arg3 harg3 arg4 harg4 arg5 harg5 arg6 harg6 arg7 harg7 arg8 harg8 hc0 x0 x1 x2 x3 x4 x5 (ix2 p q) = x5 (ix2 p q) + dxAt (dh x0 x1 x2) x3 x4 p q := by
  unfold out0_A_6
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros]
  unfold dxAt normGrad root meanSq width eps dh
  pointwise [k0_pay1, k0_pay2, k0_pay3, k0_pay4, k0_pay5, k0_pay6, k0_pay7, k0_pay8, k0_pay9, dot_S256x2816_S2816x1024_S256x1024_1_0_0_1_n_n]

theorem dg_A (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S5632x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (hc0 : cond0_0 i)
    (x0 : Vec Ideal S256x2816 .bf16) (x1 : Vec Ideal S256x2816 .bf16) (x2 : Vec Ideal S5632x1024 .bf16) (x3 : Vec Ideal S256x1024 .f32) (x4 : Vec Ideal S1x1024 .f32) (x5 : Vec Ideal S256x1024 .f32) (u : Fin 1) (q : Fin 1024) :
    out0_A_7 c i arg1 harg1 arg2 harg2 arg3 harg3 arg4 harg4 arg5 harg5 arg6 harg6 arg7 harg7 arg8 harg8 hc0 x0 x1 x2 x3 x4 x5 (ix2 u q) = ∑ p, dgAt (dh x0 x1 x2) x3 p q := by
  unfold out0_A_7
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros]
  unfold dgAt root meanSq width eps dh
  pointwise [k0_pay1, k0_pay2, k0_pay3, k0_pay4, k0_pay5, k0_pay6, k0_pay7, k0_pay8, k0_pay9, dot_S256x2816_S2816x1024_S256x1024_1_0_0_1_n_n]

theorem dx_B (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S5632x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (hc0 : ¬cond0_0 i)
    (x0 : Vec Ideal S256x2816 .bf16) (x1 : Vec Ideal S256x2816 .bf16) (x2 : Vec Ideal S5632x1024 .bf16) (x3 : Vec Ideal S256x1024 .f32) (x4 : Vec Ideal S1x1024 .f32) (x5 : Vec Ideal S256x1024 .f32) (xo7 : Vec Ideal S1x1024 .f32) (p : Fin 256) (q : Fin 1024) :
    out0_B_6 c i arg1 harg1 arg2 harg2 arg3 harg3 arg4 harg4 arg5 harg5 arg6 harg6 arg7 harg7 arg8 harg8 hc0 x0 x1 x2 x3 x4 x5 xo7 (ix2 p q) = x5 (ix2 p q) + dxAt (dh x0 x1 x2) x3 x4 p q := by
  unfold out0_B_6
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros]
  unfold dxAt normGrad root meanSq width eps dh
  pointwise [k0_pay1, k0_pay2, k0_pay3, k0_pay4, k0_pay5, k0_pay6, k0_pay7, k0_pay8, k0_pay9, dot_S256x2816_S2816x1024_S256x1024_1_0_0_1_n_n]

theorem dg_B (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S5632x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (hc0 : ¬cond0_0 i)
    (x0 : Vec Ideal S256x2816 .bf16) (x1 : Vec Ideal S256x2816 .bf16) (x2 : Vec Ideal S5632x1024 .bf16) (x3 : Vec Ideal S256x1024 .f32) (x4 : Vec Ideal S1x1024 .f32) (x5 : Vec Ideal S256x1024 .f32) (xo7 : Vec Ideal S1x1024 .f32) (u : Fin 1) (q : Fin 1024) :
    out0_B_7 c i arg1 harg1 arg2 harg2 arg3 harg3 arg4 harg4 arg5 harg5 arg6 harg6 arg7 harg7 arg8 harg8 hc0 x0 x1 x2 x3 x4 x5 xo7 (ix2 u q) = xo7 (ix2 u q) + ∑ p, dgAt (dh x0 x1 x2) x3 p q := by
  unfold out0_B_7
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros]
  unfold dgAt root meanSq width eps dh
  pointwise [k0_pay1, k0_pay2, k0_pay3, k0_pay4, k0_pay5, k0_pay6, k0_pay7, k0_pay8, k0_pay9, dot_S256x2816_S2816x1024_S256x1024_1_0_0_1_n_n]

/-! ## The arrays -/

variable (m : (ℓ : Loc nD τ sig) → Buf (Elt Ideal) ℓ) (c : Dev nD)

/-- Part 0 of the projection's gradient. -/
abbrev arr0 : S2048x2816.Idx → EReal := m ((c : Thread nD τ).loc main_arg0)
/-- Part 1 of the projection's gradient. -/
abbrev arr1 : S2048x2816.Idx → EReal := m ((c : Thread nD τ).loc main_arg1)
/-- The weight. -/
abbrev arr2 : S5632x1024.Idx → EReal := m ((c : Thread nD τ).loc main_arg2)
/-- The rows. -/
abbrev arr3 : S2048x1024.Idx → EReal := m ((c : Thread nD τ).loc main_arg3)
/-- The scale. -/
abbrev arr4 : S1x1024.Idx → EReal := m ((c : Thread nD τ).loc main_arg4)
/-- The residual's gradient. -/
abbrev arr5 : S2048x1024.Idx → EReal := m ((c : Thread nD τ).loc main_arg5)

/-- Row `r` of grid point `t`'s block. -/
abbrev brow (t : Fin cfg0.N) (r : Fin 256) : Fin 2048 := row (a := 8) (b := 256) rfl (t.cast N_0) r

/-- The gradient of all normed rows. -/
abbrev dhArr : Fin 2048 → Fin 1024 → EReal := dh (arr0 m c) (arr1 m c) (arr2 m c)

theorem index0 : ∀ t : Fin grid0.N, win0_0.index t 0 = t.val ∧ win0_0.index t 1 = 0 := by decide +kernel

theorem emb0 (t : Fin cfg0.N) (r : Fin 256) (q : Fin 2816) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 2816 + q.val = q.val
    rw [(index0 t).2]; omega

/-- The block of window 0 that a point reads. -/
def blk0 (t : Fin cfg0.N) : Vec Ideal S256x2816 .bf16 := iblk m c 0 t

theorem blk0_apply (t : Fin cfg0.N) (r : Fin 256) (q : Fin 2816) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = t.val ∧ win0_1.index t 1 = 0 := by decide +kernel

theorem emb1 (t : Fin cfg0.N) (r : Fin 256) (q : Fin 2816) : (win0_1.rect t).emb (ix2 r q) = ix2 (brow t r) q := by
  funext a
  apply Fin.ext
  refine (win0_1.rect_emb_val t (ix2 r q) a).trans ?_
  fin_cases a
  · show win0_1.index t 0 * 256 + r.val = 256 * t.val + r.val
    rw [(index1 t).1]; omega
  · show win0_1.index t 1 * 2816 + q.val = q.val
    rw [(index1 t).2]; omega

/-- The block of window 1 that a point reads. -/
def blk1 (t : Fin cfg0.N) : Vec Ideal S256x2816 .bf16 := iblk m c 1 t

theorem blk1_apply (t : Fin cfg0.N) (r : Fin 256) (q : Fin 2816) : blk1 m c t (ix2 r q) = arr1 m c (ix2 (brow t r) q) := by
  show V m c main_arg1 ((win0_1.rect t).emb (ix2 r q)) = _
  rw [emb1, V_main_arg1]

theorem index2 : ∀ t : Fin grid0.N, win0_2.index t 0 = 0 ∧ win0_2.index t 1 = 0 := by decide +kernel

theorem emb2 (t : Fin cfg0.N) (y : S5632x1024.Idx) : (win0_2.rect t).emb y = y := by
  funext a
  apply Fin.ext
  refine (win0_2.rect_emb_val t y a).trans ?_
  fin_cases a
  · show win0_2.index t 0 * 5632 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S5632x1024 .bf16 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 256) (q : Fin 1024) : (win0_3.rect t).emb (ix2 r q) = ix2 (brow t r) q := by
  funext a
  apply Fin.ext
  refine (win0_3.rect_emb_val t (ix2 r q) a).trans ?_
  fin_cases a
  · show win0_3.index t 0 * 256 + r.val = 256 * t.val + r.val
    rw [(index3 t).1]; omega
  · show win0_3.index t 1 * 1024 + q.val = q.val
    rw [(index3 t).2]; omega

/-- The block of window 3 that a point reads. -/
def blk3 (t : Fin cfg0.N) : Vec Ideal S256x1024 .f32 := iblk m c 3 t

theorem blk3_apply (t : Fin cfg0.N) (r : Fin 256) (q : Fin 1024) : blk3 m c t (ix2 r q) = arr3 m c (ix2 (brow t r) q) := by
  show V m c main_arg3 ((win0_3.rect t).emb (ix2 r q)) = _
  rw [emb3, V_main_arg3]

theorem index4 : ∀ t : Fin grid0.N, win0_4.index t 0 = 0 ∧ win0_4.index t 1 = 0 := by decide +kernel

theorem emb4 (t : Fin cfg0.N) (y : S1x1024.Idx) : (win0_4.rect t).emb y = y := by
  funext a
  apply Fin.ext
  refine (win0_4.rect_emb_val t y a).trans ?_
  fin_cases a
  · show win0_4.index t 0 * 1 + (y 0).val = (y 0).val
    rw [(index4 t).1]; omega
  · show win0_4.index t 1 * 1024 + (y 1).val = (y 1).val
    rw [(index4 t).2]; omega

/-- The array of window 4, which every point reads whole. -/
def blk4 (t : Fin cfg0.N) : Vec Ideal S1x1024 .f32 := iblk m c 4 t

theorem blk4_eq (t : Fin cfg0.N) : blk4 m c t = arr4 m c := by
  funext y
  show V m c main_arg4 ((win0_4.rect t).emb y) = _
  rw [emb4, V_main_arg4]

theorem index5 : ∀ t : Fin grid0.N, win0_5.index t 0 = t.val ∧ win0_5.index t 1 = 0 := by decide +kernel

theorem emb5 (t : Fin cfg0.N) (r : Fin 256) (q : Fin 1024) : (win0_5.rect t).emb (ix2 r q) = ix2 (brow t r) q := by
  funext a
  apply Fin.ext
  refine (win0_5.rect_emb_val t (ix2 r q) a).trans ?_
  fin_cases a
  · show win0_5.index t 0 * 256 + r.val = 256 * t.val + r.val
    rw [(index5 t).1]; omega
  · show win0_5.index t 1 * 1024 + q.val = q.val
    rw [(index5 t).2]; omega

/-- The block of window 5 that a point reads. -/
def blk5 (t : Fin cfg0.N) : Vec Ideal S256x1024 .f32 := iblk m c 5 t

theorem blk5_apply (t : Fin cfg0.N) (r : Fin 256) (q : Fin 1024) : blk5 m c t (ix2 r q) = arr5 m c (ix2 (brow t r) q) := by
  show V m c main_arg5 ((win0_5.rect t).emb (ix2 r q)) = _
  rw [emb5, V_main_arg5]

theorem index6 : ∀ t : Fin grid0.N, win0_6.index t 0 = t.val ∧ win0_6.index t 1 = 0 := by decide +kernel

theorem emb6 (t : Fin cfg0.N) (r : Fin 256) (q : Fin 1024) : (win0_6.rect t).emb (ix2 r q) = ix2 (brow t r) q := by
  funext a
  apply Fin.ext
  refine (win0_6.rect_emb_val t (ix2 r q) a).trans ?_
  fin_cases a
  · show win0_6.index t 0 * 256 + r.val = 256 * t.val + r.val
    rw [(index6 t).1]; omega
  · show win0_6.index t 1 * 1024 + q.val = q.val
    rw [(index6 t).2]; omega

theorem index7 : ∀ t : Fin grid0.N, win0_7.index t 0 = 0 ∧ win0_7.index t 1 = 0 := by decide +kernel

theorem emb7 (t : Fin cfg0.N) (y : S1x1024.Idx) : (win0_7.rect t).emb y = y := by
  funext a
  apply Fin.ext
  refine (win0_7.rect_emb_val t y a).trans ?_
  fin_cases a
  · show win0_7.index t 0 * 1 + (y 0).val = (y 0).val
    rw [(index7 t).1]; omega
  · show win0_7.index t 1 * 1024 + (y 1).val = (y 1).val
    rw [(index7 t).2]; omega

theorem dh_blk (t : Fin cfg0.N) (r : Fin 256) (k : Fin 1024) : dh (blk0 m c t) (blk1 m c t) (blk2 m c t) r k = dhArr m c (brow t r) k := by
  unfold dhArr dh
  simp only [blk0_apply, blk1_apply, blk2_eq]

theorem dg_blk (t : Fin cfg0.N) (r : Fin 256) (q : Fin 1024) :
    dgAt (dh (blk0 m c t) (blk1 m c t) (blk2 m c t)) (blk3 m c t) r q = dgAt (dhArr m c) (arr3 m c) (brow t r) q := by
  unfold dgAt
  simp only [dh_blk, blk3_apply]

theorem dx_blk (t : Fin cfg0.N) (r : Fin 256) (q : Fin 1024) :
    dxAt (dh (blk0 m c t) (blk1 m c t) (blk2 m c t)) (blk3 m c t) (blk4 m c t) r q = dxAt (dhArr m c) (arr3 m c) (arr4 m c) (brow t r) q := by
  unfold dxAt
  simp only [dh_blk, blk3_apply, blk4_eq]

theorem outs_A (t : Fin cfg0.N) (h0 : t.val % 8 = 0) : outsAt0 m c t.val t.isLt =
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 m c t) (blk1 m c t) (blk2 m c t) (blk3 m c t) (blk4 m c t) (blk5 m c t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 m c t) (blk1 m c t) (blk2 m c t) (blk3 m c t) (blk4 m c t) (blk5 m c t)) :=
  outsAt0_A m c t h0

theorem outs_B (t : Fin cfg0.N) (h0 : ¬t.val % 8 = 0) : outsAt0 m c t.val t.isLt =
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 m c t) (blk1 m c t) (blk2 m c t) (blk3 m c t) (blk4 m c t) (blk5 m c t)
      (outsAt0 m c (t.val - 1) (Nat.lt_of_le_of_lt (Nat.sub_le _ _) t.isLt)).2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 m c t) (blk1 m c t) (blk2 m c t) (blk3 m c t) (blk4 m c t) (blk5 m c t)
      (outsAt0 m c (t.val - 1) (Nat.lt_of_le_of_lt (Nat.sub_le _ _) t.isLt)).2) :=
  outsAt0_B m c t h0

/-- The rows' gradient that a point leaves. -/
theorem outs_dx (t : Fin cfg0.N) (r : Fin 256) (q : Fin 1024) :
    (outsAt0 m c t.val t.isLt).1 (ix2 r q) = arr5 m c (ix2 (brow t r) q) + dxAt (dhArr m c) (arr3 m c) (arr4 m c) (brow t r) q := by
  rw [← dx_blk, ← blk5_apply]
  by_cases h0 : t.val % 8 = 0
  · rw [outs_A m c t h0]; dsimp only; exact dx_A ..
  · rw [outs_B m c t h0]; dsimp only; exact dx_B ..

/-- The rows' gradient after the run. -/
theorem final_dx (n : Fin 2048) (q : Fin 1024) :
    (Gen.dats m 0 c).arrAt 6 cfg0.N (ix2 n q) = arr5 m c (ix2 n q) + dxAt (dhArr m c) (arr3 m c) (arr4 m c) n q := by
  obtain ⟨t, r, rfl⟩ := exists_row (a := 8) (b := 256) (N := 2048) rfl (by decide) n
  have hb := congrFun (Value.blocks6 m c (t.cast N_0.symm) (flush0_6 _)) (ix2 r q)
  rw [Value.flushed6] at hb
  have he := emb6 (t.cast N_0.symm) r q
  refine Eq.trans ?_ (hb.trans (outs_dx m c (t.cast N_0.symm) r q))
  exact congrArg ((Gen.dats m 0 c).arrAt 6 cfg0.N) he.symm

theorem last_lt : 7 < cfg0.N := lt_of_lt_of_eq (by decide) N_0.symm

/-- The scale's gradient after the last point. -/
theorem outs_dg (u : Fin 1) (q : Fin 1024) :
    (outsAt0 m c 7 last_lt).2 (ix2 u q) = ∑ n, dgAt (dhArr m c) (arr3 m c) n q := by
  rw [sum_rows (a := 8) (b := 256) rfl]
  refine (sum_upto (fun n h => (outsAt0 m c n h).2 (ix2 u q))
    (fun t => ∑ r, dgAt (dhArr m c) (arr3 m c) (brow t r) q) (fun h => ?_) (fun n h => ?_) 7 last_lt).trans rfl
  · have e := outs_A m c ⟨0, h⟩ rfl
    dsimp only at e ⊢
    rw [e]
    simp only [← dg_blk]
    exact dg_A ..
  · have hn : n + 1 < 8 := lt_of_lt_of_eq h N_0
    have e := outs_B m c ⟨n + 1, h⟩ (by dsimp only; omega)
    dsimp only [Nat.add_sub_cancel] at e ⊢
    rw [e]
    simp only [← dg_blk]
    exact dg_B ..

theorem cover_dg (i : S1x1024.Idx) : ∃ t : Fin cfg0.N, (cfg0.win 7).flush t = true ∧ i ∈ ((cfg0.win 7).blk t).view.set := by
  refine ⟨⟨7, last_lt⟩, (flush0_7 _).mpr rfl, ?_⟩
  have h := ((cfg0.win 7).blk ⟨7, last_lt⟩).view.emb_mem_set i
  exact (emb7 ⟨7, last_lt⟩ i) ▸ h

/-- The scale's gradient after the run. -/
theorem final_dg (u : Fin 1) (q : Fin 1024) :
    (Gen.dats m 0 c).arrAt 7 cfg0.N (ix2 u q) = ∑ n, dgAt (dhArr m c) (arr3 m c) n q := by
  rw [← outs_dg m c u q]
  have hN : cfg0.N = 8 := N_0
  refine congrFun ((Gen.dats m 0 c).arrAt_eq_of_cover 7 (outsAt0 m c 7 last_lt).2 (fun t hf => ?_) fun i => cover_dg i) (ix2 u q)
  have h3 : t.val = 7 := by have := (flush0_7 t).mp hf; have := t.isLt; omega
  obtain rfl : t = ⟨7, last_lt⟩ := Fin.ext h3
  rw [Value.flushed7]
  funext z
  exact (congrArg (outsAt0 m c 7 last_lt).2 (emb7 ⟨7, last_lt⟩ z)).symm

/-! ## The reference -/

/-- The reference's gradient of the scale. -/
theorem ref_dg (x0 : (⟨Cert.UpBwdRefIdeal.S2048x2816, .bf16⟩ : BufTy).Contents (Elt Ideal)) (x1 : (⟨Cert.UpBwdRefIdeal.S2048x2816, .bf16⟩ : BufTy).Contents (Elt Ideal)) (x2 : (⟨Cert.UpBwdRefIdeal.S5632x1024, .bf16⟩ : BufTy).Contents (Elt Ideal)) (x3 : (⟨Cert.UpBwdRefIdeal.S2048x1024, .f32⟩ : BufTy).Contents (Elt Ideal)) (u : Fin 1) (q : Fin 1024) :
    Cert.UpBwdRefIdeal.Read.val_main_v23 (F := Ideal) x0 x1 x2 x3 (ix2 u q) = ∑ p, dgAt (dh x0 x1 x2) x3 p q := by
  unfold dgAt root meanSq width eps dh
  pointwise [Cert.UpBwdRefIdeal.Read.val_main_v23, Cert.UpBwdRefIdeal.Read.val_main_v22, Cert.UpBwdRefIdeal.Read.val_main_v21, Cert.UpBwdRefIdeal.Read.val_main_v20, Cert.UpBwdRefIdeal.Read.val_main_v17, Cert.UpBwdRefIdeal.Read.val_main_v1, Cert.UpBwdRefIdeal.Read.val_main_v19, Cert.UpBwdRefIdeal.Read.val_main_v0, Cert.UpBwdRefIdeal.Read.val_main_v14, Cert.UpBwdRefIdeal.Read.val_main_v13, Cert.UpBwdRefIdeal.Read.val_main_v9, Cert.UpBwdRefIdeal.Read.val_main_v8, Cert.UpBwdRefIdeal.Read.val_main_v7, Cert.UpBwdRefIdeal.Read.val_main_cst_1, Cert.UpBwdRefIdeal.Read.val_main_v6, Cert.UpBwdRefIdeal.Read.val_main_v5, Cert.UpBwdRefIdeal.Read.val_main_cst_0, Cert.UpBwdRefIdeal.Read.val_main_v4, Cert.UpBwdRefIdeal.Read.val_main_v3, Cert.UpBwdRefIdeal.Read.val_main_v2, Cert.UpBwdRefIdeal.Read.val_main_cst, Cert.UpBwdRefIdeal.Read.val_main_cst_3]
  exact Finset.sum_congr rfl fun p _ => mul_comm _ _

/-- The reference's gradient of the rows. -/
theorem ref_dx (x0 : (⟨Cert.UpBwdRefIdeal.S2048x2816, .bf16⟩ : BufTy).Contents (Elt Ideal)) (x1 : (⟨Cert.UpBwdRefIdeal.S2048x2816, .bf16⟩ : BufTy).Contents (Elt Ideal)) (x2 : (⟨Cert.UpBwdRefIdeal.S5632x1024, .bf16⟩ : BufTy).Contents (Elt Ideal)) (x3 : (⟨Cert.UpBwdRefIdeal.S2048x1024, .f32⟩ : BufTy).Contents (Elt Ideal)) (x4 : (⟨Cert.UpBwdRefIdeal.S1x1024, .f32⟩ : BufTy).Contents (Elt Ideal)) (x5 : (⟨Cert.UpBwdRefIdeal.S2048x1024, .f32⟩ : BufTy).Contents (Elt Ideal)) (p : Fin 2048) (q : Fin 1024) :
    Cert.UpBwdRefIdeal.Read.val_main_v40 (F := Ideal) x0 x1 x2 x3 x4 x5 (ix2 p q)
      = x5 (ix2 p q) + chainGrad (fun k => dh x0 x1 x2 p k * x4 (ix2 0 k)) (fun k => x3 (ix2 p k)) q := by
  unfold chainGrad meanGrad root meanSq width eps mhalf dh
  pointwise [Cert.UpBwdRefIdeal.Read.val_main_v40, Cert.UpBwdRefIdeal.Read.val_main_v39, Cert.UpBwdRefIdeal.Read.val_main_v38, Cert.UpBwdRefIdeal.Read.val_main_v35, Cert.UpBwdRefIdeal.Read.val_main_v34, Cert.UpBwdRefIdeal.Read.val_main_v33, Cert.UpBwdRefIdeal.Read.val_main_v32, Cert.UpBwdRefIdeal.Read.val_main_cst_5, Cert.UpBwdRefIdeal.Read.val_main_v31, Cert.UpBwdRefIdeal.Read.val_main_v12, Cert.UpBwdRefIdeal.Read.val_main_v10, Cert.UpBwdRefIdeal.Read.val_main_v8, Cert.UpBwdRefIdeal.Read.val_main_v7, Cert.UpBwdRefIdeal.Read.val_main_cst_1, Cert.UpBwdRefIdeal.Read.val_main_v6, Cert.UpBwdRefIdeal.Read.val_main_v5, Cert.UpBwdRefIdeal.Read.val_main_cst_0, Cert.UpBwdRefIdeal.Read.val_main_v4, Cert.UpBwdRefIdeal.Read.val_main_v3, Cert.UpBwdRefIdeal.Read.val_main_v2, Cert.UpBwdRefIdeal.Read.val_main_cst, Cert.UpBwdRefIdeal.Read.val_main_v9, Cert.UpBwdRefIdeal.Read.val_main_v11, Cert.UpBwdRefIdeal.Read.val_main_cst_2, Cert.UpBwdRefIdeal.Read.val_main_v28, Cert.UpBwdRefIdeal.Read.val_main_v27, Cert.UpBwdRefIdeal.Read.val_main_v26, Cert.UpBwdRefIdeal.Read.val_main_v25, Cert.UpBwdRefIdeal.Read.val_main_v24, Cert.UpBwdRefIdeal.Read.val_main_v20, Cert.UpBwdRefIdeal.Read.val_main_v17, Cert.UpBwdRefIdeal.Read.val_main_v1, Cert.UpBwdRefIdeal.Read.val_main_v19, Cert.UpBwdRefIdeal.Read.val_main_v0, Cert.UpBwdRefIdeal.Read.val_main_cst_4, Cert.UpBwdRefIdeal.Read.val_main_cst_6, Cert.UpBwdRefIdeal.Read.val_main_v37, Cert.UpBwdRefIdeal.Read.val_main_v36, Cert.UpBwdRefIdeal.Read.val_main_v30, Cert.UpBwdRefIdeal.Read.val_main_v29]
  simp only [Fin.sum_univ_one]

/-! ## The claim -/

theorem dg_eq : (Gen.dats m 0 c).arrAt 7 cfg0.N = Cert.UpBwdRefIdeal.Read.val_main_v23 (F := Ideal) (arr0 m c) (arr1 m c) (arr2 m c) (arr3 m c) := by
  funext y
  obtain ⟨u, q, rfl⟩ : ∃ (u : Fin 1) (q : Fin 1024), y = ix2 u q := ⟨y 0, y 1, eq_ix2 y⟩
  exact (final_dg m c u q).trans (ref_dg _ _ _ _ u q).symm

theorem dx_eq :
    (Gen.dats m 0 c).arrAt 6 cfg0.N = Cert.UpBwdRefIdeal.Read.val_main_v40 (F := Ideal) (arr0 m c) (arr1 m c) (arr2 m c) (arr3 m c) (arr4 m c) (arr5 m c) := by
  funext y
  obtain ⟨p, q, rfl⟩ : ∃ (p : Fin 2048) (q : Fin 1024), y = ix2 p q := ⟨y 0, y 1, eq_ix2 y⟩
  refine (final_dx m c p q).trans (Eq.trans ?_ (ref_dx _ _ _ _ _ _ p q).symm)
  exact congrArg _ (normGrad_eq _ _ q)

/-- The kernel's run and the reference's run leave equal arrays. -/
theorem algebraic : Cert.algebraic_UpBwdIdeal_UpBwdRefIdeal := by
  intro m g m' g' _ hagree
  refine ⟨fun c => (Gen.dats m 0 c).arrAt 6 cfg0.N, fun c => (Gen.dats m 0 c).arrAt 7 cfg0.N, Value.run_blocks m g, ?_⟩
  refine (θ_run _ _ _).mono (fun r h c => ?_) (Cert.UpBwdRefIdeal.Value.run (F := Ideal) m' g')
  obtain ⟨e0, e1, ea⟩ := h c
  obtain ⟨a0, a1, a2, a3, a4, a5⟩ := hagree c
  refine ⟨e0.trans ?_, e1.trans ?_, ea⟩
  · rw [Cert.UpBwdRefIdeal.Read.val_main_v40_eq, a0, a1, a2, a3, a4, a5]; exact (dx_eq m c).symm
  · rw [Cert.UpBwdRefIdeal.Read.val_main_v23_eq, a0, a1, a2, a3]; exact (dg_eq m c).symm

end Cert.UpBwdIdeal.Hand

end
-- ==== Proof.InBwd.lean ====
/- The gradients of the norm before the input projection, as the kernel leaves them: the gradient of the normed rows is the
   product of the projection's gradient with its weight, the rows' gradient is `normGrad` of it added to the
   residual's, and the scale's gradient is its sum over the rows, one block of rows per grid point. -/
module

public import proofs.«01_k».proof.Defs
public import proofs.«01_k».proof.Proof.Gen.InBwdIdeal.Value
public import proofs.«01_k».proof.Proof.Gen.InBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.InBwdIdeal.Hand

open Cert.InBwdIdeal Cert.InBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the normed rows: the product of the projection's gradient with its weight. -/
def dh {M : ℕ} (x0 : (⟨2, ![M, 768]⟩ : Shape).Idx → EReal) (x1 : (⟨2, ![M, 512]⟩ : Shape).Idx → EReal) (x2 : (⟨2, ![M, 512]⟩ : Shape).Idx → EReal) (x3 : (⟨2, ![M, 512]⟩ : Shape).Idx → EReal) (x4 : (⟨2, ![M, 512]⟩ : Shape).Idx → EReal) (x5 : (⟨2, ![M, 512]⟩ : Shape).Idx → EReal) (x6 : S3328x1024.Idx → EReal) (p : Fin M) (k : Fin 1024) : EReal :=
  (∑ n : Fin 768, x0 (ix2 p n) * x6 (ix2 ⟨0 + n.val, by have := n.isLt; omega⟩ k)) + (∑ n : Fin 512, x1 (ix2 p n) * x6 (ix2 ⟨768 + n.val, by have := n.isLt; omega⟩ k)) + (∑ n : Fin 512, x2 (ix2 p n) * x6 (ix2 ⟨1280 + n.val, by have := n.isLt; omega⟩ k)) + (∑ n : Fin 512, x3 (ix2 p n) * x6 (ix2 ⟨1792 + n.val, by have := n.isLt; omega⟩ k)) + (∑ n : Fin 512, x4 (ix2 p n) * x6 (ix2 ⟨2304 + n.val, by have := n.isLt; omega⟩ k)) + (∑ n : Fin 512, x5 (ix2 p n) * x6 (ix2 ⟨2816 + n.val, by have := n.isLt; omega⟩ k))

/-- The rows' gradient. -/
def dxAt {M : ℕ} (d : Fin M → Fin 1024 → EReal) (x : (⟨2, ![M, 1024]⟩ : Shape).Idx → EReal) (g : S1x1024.Idx → EReal) (p : Fin M) (q : Fin 1024) : EReal :=
  normGrad (fun k => d p k * g (ix2 0 k)) (fun k => x (ix2 p k)) q

/-- A row's part of the scale's gradient. -/
def dgAt {M : ℕ} (d : Fin M → Fin 1024 → EReal) (x : (⟨2, ![M, 1024]⟩ : Shape).Idx → EReal) (p : Fin M) (q : Fin 1024) : EReal :=
  d p q * (x (ix2 p q) * root (fun k => x (ix2 p k)))

theorem dx_A (c : Dev nD) (i : grid0.Coords) (arg1 : Memref sig .tc .vmem S512x768 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S3328x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (hc0 : cond0_0 i)
    (x0 : Vec Ideal S512x768 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S3328x1024 .bf16) (x7 : Vec Ideal S512x1024 .f32) (x8 : Vec Ideal S1x1024 .f32) (x9 : Vec Ideal S512x1024 .f32) (p : Fin 512) (q : Fin 1024) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 (ix2 p q) = x9 (ix2 p q) + dxAt (dh x0 x1 x2 x3 x4 x5 x6) x7 x8 p q := by
  unfold out0_A_10
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x768) zeros, View.ld_unit_zero (S := S512x512) zeros, View.ld_unit_zero (S := S512x1024) zeros, View.ld_unit_zero (S := S1x1024) zeros]
  unfold dxAt normGrad root meanSq width eps dh
  pointwise [k0_pay1, k0_pay2, k0_pay3, k0_pay4, k0_pay5, k0_pay6, dot_S512x768_S768x1024_S512x1024_1_0_0_1_n_n, dot_S512x512_S512x1024_S512x1024_1_0_0_1_n_n]

theorem dg_A (c : Dev nD) (i : grid0.Coords) (arg1 : Memref sig .tc .vmem S512x768 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S3328x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (hc0 : cond0_0 i)
    (x0 : Vec Ideal S512x768 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S3328x1024 .bf16) (x7 : Vec Ideal S512x1024 .f32) (x8 : Vec Ideal S1x1024 .f32) (x9 : Vec Ideal S512x1024 .f32) (u : Fin 1) (q : Fin 1024) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 (ix2 u q) = ∑ p, dgAt (dh x0 x1 x2 x3 x4 x5 x6) x7 p q := by
  unfold out0_A_11
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x768) zeros, View.ld_unit_zero (S := S512x512) zeros, View.ld_unit_zero (S := S512x1024) zeros, View.ld_unit_zero (S := S1x1024) zeros]
  unfold dgAt root meanSq width eps dh
  pointwise [k0_pay1, k0_pay2, k0_pay3, k0_pay4, k0_pay5, k0_pay6, dot_S512x768_S768x1024_S512x1024_1_0_0_1_n_n, dot_S512x512_S512x1024_S512x1024_1_0_0_1_n_n]

theorem dx_B (c : Dev nD) (i : grid0.Coords) (arg1 : Memref sig .tc .vmem S512x768 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S3328x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (hc0 : ¬cond0_0 i)
    (x0 : Vec Ideal S512x768 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S3328x1024 .bf16) (x7 : Vec Ideal S512x1024 .f32) (x8 : Vec Ideal S1x1024 .f32) (x9 : Vec Ideal S512x1024 .f32) (xo11 : Vec Ideal S1x1024 .f32) (p : Fin 512) (q : Fin 1024) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 (ix2 p q) = x9 (ix2 p q) + dxAt (dh x0 x1 x2 x3 x4 x5 x6) x7 x8 p q := by
  unfold out0_B_10
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x768) zeros, View.ld_unit_zero (S := S512x512) zeros, View.ld_unit_zero (S := S512x1024) zeros, View.ld_unit_zero (S := S1x1024) zeros]
  unfold dxAt normGrad root meanSq width eps dh
  pointwise [k0_pay1, k0_pay2, k0_pay3, k0_pay4, k0_pay5, k0_pay6, dot_S512x768_S768x1024_S512x1024_1_0_0_1_n_n, dot_S512x512_S512x1024_S512x1024_1_0_0_1_n_n]

theorem dg_B (c : Dev nD) (i : grid0.Coords) (arg1 : Memref sig .tc .vmem S512x768 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S3328x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (hc0 : ¬cond0_0 i)
    (x0 : Vec Ideal S512x768 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S3328x1024 .bf16) (x7 : Vec Ideal S512x1024 .f32) (x8 : Vec Ideal S1x1024 .f32) (x9 : Vec Ideal S512x1024 .f32) (xo11 : Vec Ideal S1x1024 .f32) (u : Fin 1) (q : Fin 1024) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 (ix2 u q) = xo11 (ix2 u q) + ∑ p, dgAt (dh x0 x1 x2 x3 x4 x5 x6) x7 p q := by
  unfold out0_B_11
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x768) zeros, View.ld_unit_zero (S := S512x512) zeros, View.ld_unit_zero (S := S512x1024) zeros, View.ld_unit_zero (S := S1x1024) zeros]
  unfold dgAt root meanSq width eps dh
  pointwise [k0_pay1, k0_pay2, k0_pay3, k0_pay4, k0_pay5, k0_pay6, dot_S512x768_S768x1024_S512x1024_1_0_0_1_n_n, dot_S512x512_S512x1024_S512x1024_1_0_0_1_n_n]

/-! ## The arrays -/

variable (m : (ℓ : Loc nD τ sig) → Buf (Elt Ideal) ℓ) (c : Dev nD)

/-- Part 0 of the projection's gradient. -/
abbrev arr0 : S2048x768.Idx → EReal := m ((c : Thread nD τ).loc main_arg0)
/-- Part 1 of the projection's gradient. -/
abbrev arr1 : S2048x512.Idx → EReal := m ((c : Thread nD τ).loc main_arg1)
/-- Part 2 of the projection's gradient. -/
abbrev arr2 : S2048x512.Idx → EReal := m ((c : Thread nD τ).loc main_arg2)
/-- Part 3 of the projection's gradient. -/
abbrev arr3 : S2048x512.Idx → EReal := m ((c : Thread nD τ).loc main_arg3)
/-- Part 4 of the projection's gradient. -/
abbrev arr4 : S2048x512.Idx → EReal := m ((c : Thread nD τ).loc main_arg4)
/-- Part 5 of the projection's gradient. -/
abbrev arr5 : S2048x512.Idx → EReal := m ((c : Thread nD τ).loc main_arg5)
/-- The weight. -/
abbrev arr6 : S3328x1024.Idx → EReal := m ((c : Thread nD τ).loc main_arg6)
/-- The rows. -/
abbrev arr7 : S2048x1024.Idx → EReal := m ((c : Thread nD τ).loc main_arg7)
/-- The scale. -/
abbrev arr8 : S1x1024.Idx → EReal := m ((c : Thread nD τ).loc main_arg8)
/-- The residual's gradient. -/
abbrev arr9 : S2048x1024.Idx → EReal := m ((c : Thread nD τ).loc main_arg9)

/-- Row `r` of grid point `t`'s block. -/
abbrev brow (t : Fin cfg0.N) (r : Fin 512) : Fin 2048 := row (a := 4) (b := 512) rfl (t.cast N_0) r

/-- The gradient of all normed rows. -/
abbrev dhArr : Fin 2048 → Fin 1024 → EReal := dh (arr0 m c) (arr1 m c) (arr2 m c) (arr3 m c) (arr4 m c) (arr5 m c) (arr6 m c)

theorem index0 : ∀ t : Fin grid0.N, win0_0.index t 0 = t.val ∧ win0_0.index t 1 = 0 := by decide +kernel

theorem emb0 (t : Fin cfg0.N) (r : Fin 512) (q : Fin 768) : (win0_0.rect t).emb (ix2 r q) = ix2 (brow t r) q := by
  funext a
  apply Fin.ext
  refine (win0_0.rect_emb_val t (ix2 r q) a).trans ?_
  fin_cases a
  · show win0_0.index t 0 * 512 + r.val = 512 * t.val + r.val
    rw [(index0 t).1]; omega
  · show win0_0.index t 1 * 768 + q.val = q.val
    rw [(index0 t).2]; omega

/-- The block of window 0 that a point reads. -/
def blk0 (t : Fin cfg0.N) : Vec Ideal S512x768 .bf16 := iblk m c 0 t

theorem blk0_apply (t : Fin cfg0.N) (r : Fin 512) (q : Fin 768) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = t.val ∧ win0_1.index t 1 = 0 := by decide +kernel

theorem emb1 (t : Fin cfg0.N) (r : Fin 512) (q : Fin 512) : (win0_1.rect t).emb (ix2 r q) = ix2 (brow t r) q := by
  funext a
  apply Fin.ext
  refine (win0_1.rect_emb_val t (ix2 r q) a).trans ?_
  fin_cases a
  · show win0_1.index t 0 * 512 + r.val = 512 * t.val + r.val
    rw [(index1 t).1]; omega
  · show win0_1.index t 1 * 512 + q.val = q.val
    rw [(index1 t).2]; omega

/-- The block of window 1 that a point reads. -/
def blk1 (t : Fin cfg0.N) : Vec Ideal S512x512 .bf16 := iblk m c 1 t

theorem blk1_apply (t : Fin cfg0.N) (r : Fin 512) (q : Fin 512) : blk1 m c t (ix2 r q) = arr1 m c (ix2 (brow t r) q) := by
  show V m c main_arg1 ((win0_1.rect t).emb (ix2 r q)) = _
  rw [emb1, V_main_arg1]

theorem index2 : ∀ t : Fin grid0.N, win0_2.index t 0 = t.val ∧ win0_2.index t 1 = 0 := by decide +kernel

theorem emb2 (t : Fin cfg0.N) (r : Fin 512) (q : Fin 512) : (win0_2.rect t).emb (ix2 r q) = ix2 (brow t r) q := by
  funext a
  apply Fin.ext
  refine (win0_2.rect_emb_val t (ix2 r q) a).trans ?_
  fin_cases a
  · show win0_2.index t 0 * 512 + r.val = 512 * t.val + r.val
    rw [(index2 t).1]; omega
  · show win0_2.index t 1 * 512 + q.val = q.val
    rw [(index2 t).2]; omega

/-- The block of window 2 that a point reads. -/
def blk2 (t : Fin cfg0.N) : Vec Ideal S512x512 .bf16 := iblk m c 2 t

theorem blk2_apply (t : Fin cfg0.N) (r : Fin 512) (q : Fin 512) : blk2 m c t (ix2 r q) = arr2 m c (ix2 (brow t r) q) := by
  show V m c main_arg2 ((win0_2.rect t).emb (ix2 r q)) = _
  rw [emb2, V_main_arg2]

theorem index3 : ∀ t : Fin grid0.N, win0_3.index t 0 = t.val ∧ win0_3.index t 1 = 0 := by decide +kernel

theorem emb3 (t : Fin cfg0.N) (r : Fin 512) (q : Fin 512) : (win0_3.rect t).emb (ix2 r q) = ix2 (brow t r) q := by
  funext a
  apply Fin.ext
  refine (win0_3.rect_emb_val t (ix2 r q) a).trans ?_
  fin_cases a
  · show win0_3.index t 0 * 512 + r.val = 512 * t.val + r.val
    rw [(index3 t).1]; omega
  · show win0_3.index t 1 * 512 + q.val = q.val
    rw [(index3 t).2]; omega

/-- The block of window 3 that a point reads. -/
def blk3 (t : Fin cfg0.N) : Vec Ideal S512x512 .bf16 := iblk m c 3 t

theorem blk3_apply (t : Fin cfg0.N) (r : Fin 512) (q : Fin 512) : blk3 m c t (ix2 r q) = arr3 m c (ix2 (brow t r) q) := by
  show V m c main_arg3 ((win0_3.rect t).emb (ix2 r q)) = _
  rw [emb3, V_main_arg3]

theorem index4 : ∀ t : Fin grid0.N, win0_4.index t 0 = t.val ∧ win0_4.index t 1 = 0 := by decide +kernel

theorem emb4 (t : Fin cfg0.N) (r : Fin 512) (q : Fin 512) : (win0_4.rect t).emb (ix2 r q) = ix2 (brow t r) q := by
  funext a
  apply Fin.ext
  refine (win0_4.rect_emb_val t (ix2 r q) a).trans ?_
  fin_cases a
  · show win0_4.index t 0 * 512 + r.val = 512 * t.val + r.val
    rw [(index4 t).1]; omega
  · show win0_4.index t 1 * 512 + q.val = q.val
    rw [(index4 t).2]; omega

/-- The block of window 4 that a point reads. -/
def blk4 (t : Fin cfg0.N) : Vec Ideal S512x512 .bf16 := iblk m c 4 t

theorem blk4_apply (t : Fin cfg0.N) (r : Fin 512) (q : Fin 512) : blk4 m c t (ix2 r q) = arr4 m c (ix2 (brow t r) q) := by
  show V m c main_arg4 ((win0_4.rect t).emb (ix2 r q)) = _
  rw [emb4, V_main_arg4]

theorem index5 : ∀ t : Fin grid0.N, win0_5.index t 0 = t.val ∧ win0_5.index t 1 = 0 := by decide +kernel

theorem emb5 (t : Fin cfg0.N) (r : Fin 512) (q : Fin 512) : (win0_5.rect t).emb (ix2 r q) = ix2 (brow t r) q := by
  funext a
  apply Fin.ext
  refine (win0_5.rect_emb_val t (ix2 r q) a).trans ?_
  fin_cases a
  · show win0_5.index t 0 * 512 + r.val = 512 * t.val + r.val
    rw [(index5 t).1]; omega
  · show win0_5.index t 1 * 512 + q.val = q.val
    rw [(index5 t).2]; omega

/-- The block of window 5 that a point reads. -/
def blk5 (t : Fin cfg0.N) : Vec Ideal S512x512 .bf16 := iblk m c 5 t

theorem blk5_apply (t : Fin cfg0.N) (r : Fin 512) (q : Fin 512) : blk5 m c t (ix2 r q) = arr5 m c (ix2 (brow t r) q) := by
  show V m c main_arg5 ((win0_5.rect t).emb (ix2 r q)) = _
  rw [emb5, V_main_arg5]

theorem index6 : ∀ t : Fin grid0.N, win0_6.index t 0 = 0 ∧ win0_6.index t 1 = 0 := by decide +kernel

theorem emb6 (t : Fin cfg0.N) (y : S3328x1024.Idx) : (win0_6.rect t).emb y = y := by
  funext a
  apply Fin.ext
  refine (win0_6.rect_emb_val t y a).trans ?_
  fin_cases a
  · show win0_6.index t 0 * 3328 + (y 0).val = (y 0).val
    rw [(index6 t).1]; omega
  · show win0_6.index t 1 * 1024 + (y 1).val = (y 1).val
    rw [(index6 t).2]; omega

/-- The array of window 6, which every point reads whole. -/
def blk6 (t : Fin cfg0.N) : Vec Ideal S3328x1024 .bf16 := iblk m c 6 t

theorem blk6_eq (t : Fin cfg0.N) : blk6 m c t = arr6 m c := by
  funext y
  show V m c main_arg6 ((win0_6.rect t).emb y) = _
  rw [emb6, V_main_arg6]

theorem index7 : ∀ t : Fin grid0.N, win0_7.index t 0 = t.val ∧ win0_7.index t 1 = 0 := by decide +kernel

theorem emb7 (t : Fin cfg0.N) (r : Fin 512) (q : Fin 1024) : (win0_7.rect t).emb (ix2 r q) = ix2 (brow t r) q := by
  funext a
  apply Fin.ext
  refine (win0_7.rect_emb_val t (ix2 r q) a).trans ?_
  fin_cases a
  · show win0_7.index t 0 * 512 + r.val = 512 * t.val + r.val
    rw [(index7 t).1]; omega
  · show win0_7.index t 1 * 1024 + q.val = q.val
    rw [(index7 t).2]; omega

/-- The block of window 7 that a point reads. -/
def blk7 (t : Fin cfg0.N) : Vec Ideal S512x1024 .f32 := iblk m c 7 t

theorem blk7_apply (t : Fin cfg0.N) (r : Fin 512) (q : Fin 1024) : blk7 m c t (ix2 r q) = arr7 m c (ix2 (brow t r) q) := by
  show V m c main_arg7 ((win0_7.rect t).emb (ix2 r q)) = _
  rw [emb7, V_main_arg7]

theorem index8 : ∀ t : Fin grid0.N, win0_8.index t 0 = 0 ∧ win0_8.index t 1 = 0 := by decide +kernel

theorem emb8 (t : Fin cfg0.N) (y : S1x1024.Idx) : (win0_8.rect t).emb y = y := by
  funext a
  apply Fin.ext
  refine (win0_8.rect_emb_val t y a).trans ?_
  fin_cases a
  · show win0_8.index t 0 * 1 + (y 0).val = (y 0).val
    rw [(index8 t).1]; omega
  · show win0_8.index t 1 * 1024 + (y 1).val = (y 1).val
    rw [(index8 t).2]; omega

/-- The array of window 8, which every point reads whole. -/
def blk8 (t : Fin cfg0.N) : Vec Ideal S1x1024 .f32 := iblk m c 8 t

theorem blk8_eq (t : Fin cfg0.N) : blk8 m c t = arr8 m c := by
  funext y
  show V m c main_arg8 ((win0_8.rect t).emb y) = _
  rw [emb8, V_main_arg8]

theorem index9 : ∀ t : Fin grid0.N, win0_9.index t 0 = t.val ∧ win0_9.index t 1 = 0 := by decide +kernel

theorem emb9 (t : Fin cfg0.N) (r : Fin 512) (q : Fin 1024) : (win0_9.rect t).emb (ix2 r q) = ix2 (brow t r) q := by
  funext a
  apply Fin.ext
  refine (win0_9.rect_emb_val t (ix2 r q) a).trans ?_
  fin_cases a
  · show win0_9.index t 0 * 512 + r.val = 512 * t.val + r.val
    rw [(index9 t).1]; omega
  · show win0_9.index t 1 * 1024 + q.val = q.val
    rw [(index9 t).2]; omega

/-- The block of window 9 that a point reads. -/
def blk9 (t : Fin cfg0.N) : Vec Ideal S512x1024 .f32 := iblk m c 9 t

theorem blk9_apply (t : Fin cfg0.N) (r : Fin 512) (q : Fin 1024) : blk9 m c t (ix2 r q) = arr9 m c (ix2 (brow t r) q) := by
  show V m c main_arg9 ((win0_9.rect t).emb (ix2 r q)) = _
  rw [emb9, V_main_arg9]

theorem index10 : ∀ t : Fin grid0.N, win0_10.index t 0 = t.val ∧ win0_10.index t 1 = 0 := by decide +kernel

theorem emb10 (t : Fin cfg0.N) (r : Fin 512) (q : Fin 1024) : (win0_10.rect t).emb (ix2 r q) = ix2 (brow t r) q := by
  funext a
  apply Fin.ext
  refine (win0_10.rect_emb_val t (ix2 r q) a).trans ?_
  fin_cases a
  · show win0_10.index t 0 * 512 + r.val = 512 * t.val + r.val
    rw [(index10 t).1]; omega
  · show win0_10.index t 1 * 1024 + q.val = q.val
    rw [(index10 t).2]; omega

theorem index11 : ∀ t : Fin grid0.N, win0_11.index t 0 = 0 ∧ win0_11.index t 1 = 0 := by decide +kernel

theorem emb11 (t : Fin cfg0.N) (y : S1x1024.Idx) : (win0_11.rect t).emb y = y := by
  funext a
  apply Fin.ext
  refine (win0_11.rect_emb_val t y a).trans ?_
  fin_cases a
  · show win0_11.index t 0 * 1 + (y 0).val = (y 0).val
    rw [(index11 t).1]; omega
  · show win0_11.index t 1 * 1024 + (y 1).val = (y 1).val
    rw [(index11 t).2]; omega

theorem dh_blk (t : Fin cfg0.N) (r : Fin 512) (k : Fin 1024) : dh (blk0 m c t) (blk1 m c t) (blk2 m c t) (blk3 m c t) (blk4 m c t) (blk5 m c t) (blk6 m c t) r k = dhArr m c (brow t r) k := by
  unfold dhArr dh
  simp only [blk0_apply, blk1_apply, blk2_apply, blk3_apply, blk4_apply, blk5_apply, blk6_eq]

theorem dg_blk (t : Fin cfg0.N) (r : Fin 512) (q : Fin 1024) :
    dgAt (dh (blk0 m c t) (blk1 m c t) (blk2 m c t) (blk3 m c t) (blk4 m c t) (blk5 m c t) (blk6 m c t)) (blk7 m c t) r q = dgAt (dhArr m c) (arr7 m c) (brow t r) q := by
  unfold dgAt
  simp only [dh_blk, blk7_apply]

theorem dx_blk (t : Fin cfg0.N) (r : Fin 512) (q : Fin 1024) :
    dxAt (dh (blk0 m c t) (blk1 m c t) (blk2 m c t) (blk3 m c t) (blk4 m c t) (blk5 m c t) (blk6 m c t)) (blk7 m c t) (blk8 m c t) r q = dxAt (dhArr m c) (arr7 m c) (arr8 m c) (brow t r) q := by
  unfold dxAt
  simp only [dh_blk, blk7_apply, blk8_eq]

theorem outs_A (t : Fin cfg0.N) (h0 : t.val % 4 = 0) : outsAt0 m c t.val t.isLt =
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 m c t) (blk1 m c t) (blk2 m c t) (blk3 m c t) (blk4 m c t) (blk5 m c t) (blk6 m c t) (blk7 m c t) (blk8 m c t) (blk9 m c t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (blk0 m c t) (blk1 m c t) (blk2 m c t) (blk3 m c t) (blk4 m c t) (blk5 m c t) (blk6 m c t) (blk7 m c t) (blk8 m c t) (blk9 m c t)) :=
  outsAt0_A m c t h0

theorem outs_B (t : Fin cfg0.N) (h0 : ¬t.val % 4 = 0) : outsAt0 m c t.val t.isLt =
    (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 m c t) (blk1 m c t) (blk2 m c t) (blk3 m c t) (blk4 m c t) (blk5 m c t) (blk6 m c t) (blk7 m c t) (blk8 m c t) (blk9 m c t)
      (outsAt0 m c (t.val - 1) (Nat.lt_of_le_of_lt (Nat.sub_le _ _) t.isLt)).2,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (blk0 m c t) (blk1 m c t) (blk2 m c t) (blk3 m c t) (blk4 m c t) (blk5 m c t) (blk6 m c t) (blk7 m c t) (blk8 m c t) (blk9 m c t)
      (outsAt0 m c (t.val - 1) (Nat.lt_of_le_of_lt (Nat.sub_le _ _) t.isLt)).2) :=
  outsAt0_B m c t h0

/-- The rows' gradient that a point leaves. -/
theorem outs_dx (t : Fin cfg0.N) (r : Fin 512) (q : Fin 1024) :
    (outsAt0 m c t.val t.isLt).1 (ix2 r q) = arr9 m c (ix2 (brow t r) q) + dxAt (dhArr m c) (arr7 m c) (arr8 m c) (brow t r) q := by
  rw [← dx_blk, ← blk9_apply]
  by_cases h0 : t.val % 4 = 0
  · rw [outs_A m c t h0]; dsimp only; exact dx_A ..
  · rw [outs_B m c t h0]; dsimp only; exact dx_B ..

/-- The rows' gradient after the run. -/
theorem final_dx (n : Fin 2048) (q : Fin 1024) :
    (Gen.dats m 0 c).arrAt 10 cfg0.N (ix2 n q) = arr9 m c (ix2 n q) + dxAt (dhArr m c) (arr7 m c) (arr8 m c) n q := by
  obtain ⟨t, r, rfl⟩ := exists_row (a := 4) (b := 512) (N := 2048) rfl (by decide) n
  have hb := congrFun (Value.blocks10 m c (t.cast N_0.symm) (flush0_10 _)) (ix2 r q)
  rw [Value.flushed10] at hb
  have he := emb10 (t.cast N_0.symm) r q
  refine Eq.trans ?_ (hb.trans (outs_dx m c (t.cast N_0.symm) r q))
  exact congrArg ((Gen.dats m 0 c).arrAt 10 cfg0.N) he.symm

theorem last_lt : 3 < cfg0.N := lt_of_lt_of_eq (by decide) N_0.symm

/-- The scale's gradient after the last point. -/
theorem outs_dg (u : Fin 1) (q : Fin 1024) :
    (outsAt0 m c 3 last_lt).2 (ix2 u q) = ∑ n, dgAt (dhArr m c) (arr7 m c) n q := by
  rw [sum_rows (a := 4) (b := 512) rfl]
  refine (sum_upto (fun n h => (outsAt0 m c n h).2 (ix2 u q))
    (fun t => ∑ r, dgAt (dhArr m c) (arr7 m c) (brow t r) q) (fun h => ?_) (fun n h => ?_) 3 last_lt).trans rfl
  · have e := outs_A m c ⟨0, h⟩ rfl
    dsimp only at e ⊢
    rw [e]
    simp only [← dg_blk]
    exact dg_A ..
  · have hn : n + 1 < 4 := lt_of_lt_of_eq h N_0
    have e := outs_B m c ⟨n + 1, h⟩ (by dsimp only; omega)
    dsimp only [Nat.add_sub_cancel] at e ⊢
    rw [e]
    simp only [← dg_blk]
    exact dg_B ..

theorem cover_dg (i : S1x1024.Idx) : ∃ t : Fin cfg0.N, (cfg0.win 11).flush t = true ∧ i ∈ ((cfg0.win 11).blk t).view.set := by
  refine ⟨⟨3, last_lt⟩, (flush0_11 _).mpr rfl, ?_⟩
  have h := ((cfg0.win 11).blk ⟨3, last_lt⟩).view.emb_mem_set i
  exact (emb11 ⟨3, last_lt⟩ i) ▸ h

/-- The scale's gradient after the run. -/
theorem final_dg (u : Fin 1) (q : Fin 1024) :
    (Gen.dats m 0 c).arrAt 11 cfg0.N (ix2 u q) = ∑ n, dgAt (dhArr m c) (arr7 m c) n q := by
  rw [← outs_dg m c u q]
  have hN : cfg0.N = 4 := N_0
  refine congrFun ((Gen.dats m 0 c).arrAt_eq_of_cover 11 (outsAt0 m c 3 last_lt).2 (fun t hf => ?_) fun i => cover_dg i) (ix2 u q)
  have h3 : t.val = 3 := by have := (flush0_11 t).mp hf; have := t.isLt; omega
  obtain rfl : t = ⟨3, last_lt⟩ := Fin.ext h3
  rw [Value.flushed11]
  funext z
  exact (congrArg (outsAt0 m c 3 last_lt).2 (emb11 ⟨3, last_lt⟩ z)).symm

/-! ## The reference -/

/-- A sum over the joined columns, one part at a time. -/
theorem sum_parts (f : Fin 3328 → EReal) : ∑ x, f x = (∑ n : Fin 768, f ⟨0 + n.val, by have := n.isLt; omega⟩) + (∑ n : Fin 512, f ⟨768 + n.val, by have := n.isLt; omega⟩) + (∑ n : Fin 512, f ⟨1280 + n.val, by have := n.isLt; omega⟩) + (∑ n : Fin 512, f ⟨1792 + n.val, by have := n.isLt; omega⟩) + (∑ n : Fin 512, f ⟨2304 + n.val, by have := n.isLt; omega⟩) + (∑ n : Fin 512, f ⟨2816 + n.val, by have := n.isLt; omega⟩) := by
  have h0 : (∑ n : Fin 768, f ⟨n.val, by have := n.isLt; omega⟩) = ∑ n : Fin 768, f ⟨0 + n.val, by have := n.isLt; omega⟩ :=
    Finset.sum_congr rfl fun n _ => congrArg f (Fin.ext (Nat.zero_add _).symm)
  rw [← h0]
  refine (Fin.sum_univ_add (a := 2816) (b := 512) f).trans (congrArg₂ (fun z w => z + w) ?_ rfl)
  refine (Fin.sum_univ_add (a := 2304) (b := 512) _).trans (congrArg₂ (fun z w => z + w) ?_ rfl)
  refine (Fin.sum_univ_add (a := 1792) (b := 512) _).trans (congrArg₂ (fun z w => z + w) ?_ rfl)
  refine (Fin.sum_univ_add (a := 1280) (b := 512) _).trans (congrArg₂ (fun z w => z + w) ?_ rfl)
  exact Fin.sum_univ_add (a := 768) (b := 512) _

/-- The product of the joined columns with the weight is `dh`. -/
theorem cat_dh {M : ℕ} (x0 : (⟨2, ![M, 768]⟩ : Shape).Idx → EReal) (x1 : (⟨2, ![M, 512]⟩ : Shape).Idx → EReal) (x2 : (⟨2, ![M, 512]⟩ : Shape).Idx → EReal) (x3 : (⟨2, ![M, 512]⟩ : Shape).Idx → EReal) (x4 : (⟨2, ![M, 512]⟩ : Shape).Idx → EReal) (x5 : (⟨2, ![M, 512]⟩ : Shape).Idx → EReal) (x6 : S3328x1024.Idx → EReal) (p : Fin M) (k : Fin 1024) :
    (∑ x : Fin 3328, (if h : x.val < 768 then x0 (ix2 p ⟨x.val, h⟩) else if h : x.val - 768 < 512 then x1 (ix2 p ⟨x.val - 768, h⟩) else if h : x.val - 768 - 512 < 512 then x2 (ix2 p ⟨x.val - 768 - 512, h⟩) else if h : x.val - 768 - 512 - 512 < 512 then x3 (ix2 p ⟨x.val - 768 - 512 - 512, h⟩) else if h : x.val - 768 - 512 - 512 - 512 < 512 then x4 (ix2 p ⟨x.val - 768 - 512 - 512 - 512, h⟩) else x5 (ix2 p ⟨x.val - 768 - 512 - 512 - 512 - 512, by omega⟩)) * x6 (ix2 x k)) = dh x0 x1 x2 x3 x4 x5 x6 p k := by
  rw [sum_parts]
  unfold dh
  refine congrArg₂ (fun z w => z + w) (congrArg₂ (fun z w => z + w) (congrArg₂ (fun z w => z + w) (congrArg₂ (fun z w => z + w) (congrArg₂ (fun z w => z + w) ?_ ?_) ?_) ?_) ?_) ?_
  · refine Finset.sum_congr rfl fun n _ => congrArg (fun z => z * _) ?_
    have := n.isLt
    dsimp only
    rw [dif_pos (by omega : 0 + n.val < 768)]
    exact congrArg (fun z => x0 (ix2 p z)) (Fin.ext (by show 0 + n.val = n.val; omega))
  · refine Finset.sum_congr rfl fun n _ => congrArg (fun z => z * _) ?_
    have := n.isLt
    dsimp only
    rw [dif_neg (by omega : ¬ 768 + n.val < 768)]
    rw [dif_pos (by omega : 768 + n.val - 768 < 512)]
    exact congrArg (fun z => x1 (ix2 p z)) (Fin.ext (by show 768 + n.val - 768 = n.val; omega))
  · refine Finset.sum_congr rfl fun n _ => congrArg (fun z => z * _) ?_
    have := n.isLt
    dsimp only
    rw [dif_neg (by omega : ¬ 1280 + n.val < 768)]
    rw [dif_neg (by omega : ¬ 1280 + n.val - 768 < 512)]
    rw [dif_pos (by omega : 1280 + n.val - 768 - 512 < 512)]
    exact congrArg (fun z => x2 (ix2 p z)) (Fin.ext (by show 1280 + n.val - 768 - 512 = n.val; omega))
  · refine Finset.sum_congr rfl fun n _ => congrArg (fun z => z * _) ?_
    have := n.isLt
    dsimp only
    rw [dif_neg (by omega : ¬ 1792 + n.val < 768)]
    rw [dif_neg (by omega : ¬ 1792 + n.val - 768 < 512)]
    rw [dif_neg (by omega : ¬ 1792 + n.val - 768 - 512 < 512)]
    rw [dif_pos (by omega : 1792 + n.val - 768 - 512 - 512 < 512)]
    exact congrArg (fun z => x3 (ix2 p z)) (Fin.ext (by show 1792 + n.val - 768 - 512 - 512 = n.val; omega))
  · refine Finset.sum_congr rfl fun n _ => congrArg (fun z => z * _) ?_
    have := n.isLt
    dsimp only
    rw [dif_neg (by omega : ¬ 2304 + n.val < 768)]
    rw [dif_neg (by omega : ¬ 2304 + n.val - 768 < 512)]
    rw [dif_neg (by omega : ¬ 2304 + n.val - 768 - 512 < 512)]
    rw [dif_neg (by omega : ¬ 2304 + n.val - 768 - 512 - 512 < 512)]
    rw [dif_pos (by omega : 2304 + n.val - 768 - 512 - 512 - 512 < 512)]
    exact congrArg (fun z => x4 (ix2 p z)) (Fin.ext (by show 2304 + n.val - 768 - 512 - 512 - 512 = n.val; omega))
  · refine Finset.sum_congr rfl fun n _ => congrArg (fun z => z * _) ?_
    have := n.isLt
    dsimp only
    rw [dif_neg (by omega : ¬ 2816 + n.val < 768)]
    rw [dif_neg (by omega : ¬ 2816 + n.val - 768 < 512)]
    rw [dif_neg (by omega : ¬ 2816 + n.val - 768 - 512 < 512)]
    rw [dif_neg (by omega : ¬ 2816 + n.val - 768 - 512 - 512 < 512)]
    rw [dif_neg (by omega : ¬ 2816 + n.val - 768 - 512 - 512 - 512 < 512)]
    exact congrArg (fun z => x5 (ix2 p z)) (Fin.ext (by show 2816 + n.val - 768 - 512 - 512 - 512 - 512 = n.val; omega))

/-- The reference's gradient of the scale. -/
theorem ref_dg (x0 : (⟨Cert.InBwdRefIdeal.S2048x768, .bf16⟩ : BufTy).Contents (Elt Ideal)) (x1 : (⟨Cert.InBwdRefIdeal.S2048x512, .bf16⟩ : BufTy).Contents (Elt Ideal)) (x2 : (⟨Cert.InBwdRefIdeal.S2048x512, .bf16⟩ : BufTy).Contents (Elt Ideal)) (x3 : (⟨Cert.InBwdRefIdeal.S2048x512, .bf16⟩ : BufTy).Contents (Elt Ideal)) (x4 : (⟨Cert.InBwdRefIdeal.S2048x512, .bf16⟩ : BufTy).Contents (Elt Ideal)) (x5 : (⟨Cert.InBwdRefIdeal.S2048x512, .bf16⟩ : BufTy).Contents (Elt Ideal)) (x6 : (⟨Cert.InBwdRefIdeal.S3328x1024, .bf16⟩ : BufTy).Contents (Elt Ideal)) (x7 : (⟨Cert.InBwdRefIdeal.S2048x1024, .f32⟩ : BufTy).Contents (Elt Ideal)) (u : Fin 1) (q : Fin 1024) :
    Cert.InBwdRefIdeal.Read.val_main_v23 (F := Ideal) x0 x1 x2 x3 x4 x5 x6 x7 (ix2 u q) = ∑ p, dgAt (dh x0 x1 x2 x3 x4 x5 x6) x7 p q := by
  unfold dgAt root meanSq width eps
  pointwise [Cert.InBwdRefIdeal.Read.val_main_v23, Cert.InBwdRefIdeal.Read.val_main_v22, Cert.InBwdRefIdeal.Read.val_main_v21, Cert.InBwdRefIdeal.Read.val_main_v20, Cert.InBwdRefIdeal.Read.val_main_v17, Cert.InBwdRefIdeal.Read.val_main_v1, Cert.InBwdRefIdeal.Read.val_main_v19, Cert.InBwdRefIdeal.Read.val_main_v0, Cert.InBwdRefIdeal.Read.val_main_v14, Cert.InBwdRefIdeal.Read.val_main_v13, Cert.InBwdRefIdeal.Read.val_main_v9, Cert.InBwdRefIdeal.Read.val_main_v8, Cert.InBwdRefIdeal.Read.val_main_v7, Cert.InBwdRefIdeal.Read.val_main_cst_1, Cert.InBwdRefIdeal.Read.val_main_v6, Cert.InBwdRefIdeal.Read.val_main_v5, Cert.InBwdRefIdeal.Read.val_main_cst_0, Cert.InBwdRefIdeal.Read.val_main_v4, Cert.InBwdRefIdeal.Read.val_main_v3, Cert.InBwdRefIdeal.Read.val_main_v2, Cert.InBwdRefIdeal.Read.val_main_cst, Cert.InBwdRefIdeal.Read.val_main_cst_3]
  simp only [cat_dh]
  exact Finset.sum_congr rfl fun p _ => mul_comm _ _

/-- The reference's gradient of the rows. -/
theorem ref_dx (x0 : (⟨Cert.InBwdRefIdeal.S2048x768, .bf16⟩ : BufTy).Contents (Elt Ideal)) (x1 : (⟨Cert.InBwdRefIdeal.S2048x512, .bf16⟩ : BufTy).Contents (Elt Ideal)) (x2 : (⟨Cert.InBwdRefIdeal.S2048x512, .bf16⟩ : BufTy).Contents (Elt Ideal)) (x3 : (⟨Cert.InBwdRefIdeal.S2048x512, .bf16⟩ : BufTy).Contents (Elt Ideal)) (x4 : (⟨Cert.InBwdRefIdeal.S2048x512, .bf16⟩ : BufTy).Contents (Elt Ideal)) (x5 : (⟨Cert.InBwdRefIdeal.S2048x512, .bf16⟩ : BufTy).Contents (Elt Ideal)) (x6 : (⟨Cert.InBwdRefIdeal.S3328x1024, .bf16⟩ : BufTy).Contents (Elt Ideal)) (x7 : (⟨Cert.InBwdRefIdeal.S2048x1024, .f32⟩ : BufTy).Contents (Elt Ideal)) (x8 : (⟨Cert.InBwdRefIdeal.S1x1024, .f32⟩ : BufTy).Contents (Elt Ideal)) (x9 : (⟨Cert.InBwdRefIdeal.S2048x1024, .f32⟩ : BufTy).Contents (Elt Ideal)) (p : Fin 2048) (q : Fin 1024) :
    Cert.InBwdRefIdeal.Read.val_main_v40 (F := Ideal) x0 x1 x2 x3 x4 x5 x6 x7 x8 x9 (ix2 p q)
      = x9 (ix2 p q) + chainGrad (fun k => dh x0 x1 x2 x3 x4 x5 x6 p k * x8 (ix2 0 k)) (fun k => x7 (ix2 p k)) q := by
  unfold chainGrad meanGrad root meanSq width eps mhalf
  pointwise [Cert.InBwdRefIdeal.Read.val_main_v40, Cert.InBwdRefIdeal.Read.val_main_v39, Cert.InBwdRefIdeal.Read.val_main_v38, Cert.InBwdRefIdeal.Read.val_main_v35, Cert.InBwdRefIdeal.Read.val_main_v34, Cert.InBwdRefIdeal.Read.val_main_v33, Cert.InBwdRefIdeal.Read.val_main_v32, Cert.InBwdRefIdeal.Read.val_main_cst_5, Cert.InBwdRefIdeal.Read.val_main_v31, Cert.InBwdRefIdeal.Read.val_main_v12, Cert.InBwdRefIdeal.Read.val_main_v10, Cert.InBwdRefIdeal.Read.val_main_v8, Cert.InBwdRefIdeal.Read.val_main_v7, Cert.InBwdRefIdeal.Read.val_main_cst_1, Cert.InBwdRefIdeal.Read.val_main_v6, Cert.InBwdRefIdeal.Read.val_main_v5, Cert.InBwdRefIdeal.Read.val_main_cst_0, Cert.InBwdRefIdeal.Read.val_main_v4, Cert.InBwdRefIdeal.Read.val_main_v3, Cert.InBwdRefIdeal.Read.val_main_v2, Cert.InBwdRefIdeal.Read.val_main_cst, Cert.InBwdRefIdeal.Read.val_main_v9, Cert.InBwdRefIdeal.Read.val_main_v11, Cert.InBwdRefIdeal.Read.val_main_cst_2, Cert.InBwdRefIdeal.Read.val_main_v28, Cert.InBwdRefIdeal.Read.val_main_v27, Cert.InBwdRefIdeal.Read.val_main_v26, Cert.InBwdRefIdeal.Read.val_main_v25, Cert.InBwdRefIdeal.Read.val_main_v24, Cert.InBwdRefIdeal.Read.val_main_v20, Cert.InBwdRefIdeal.Read.val_main_v17, Cert.InBwdRefIdeal.Read.val_main_v1, Cert.InBwdRefIdeal.Read.val_main_v19, Cert.InBwdRefIdeal.Read.val_main_v0, Cert.InBwdRefIdeal.Read.val_main_cst_4, Cert.InBwdRefIdeal.Read.val_main_cst_6, Cert.InBwdRefIdeal.Read.val_main_v37, Cert.InBwdRefIdeal.Read.val_main_v36, Cert.InBwdRefIdeal.Read.val_main_v30, Cert.InBwdRefIdeal.Read.val_main_v29]
  simp only [cat_dh, Fin.sum_univ_one]

/-! ## The claim -/

theorem dg_eq : (Gen.dats m 0 c).arrAt 11 cfg0.N = Cert.InBwdRefIdeal.Read.val_main_v23 (F := Ideal) (arr0 m c) (arr1 m c) (arr2 m c) (arr3 m c) (arr4 m c) (arr5 m c) (arr6 m c) (arr7 m c) := by
  funext y
  obtain ⟨u, q, rfl⟩ : ∃ (u : Fin 1) (q : Fin 1024), y = ix2 u q := ⟨y 0, y 1, eq_ix2 y⟩
  exact (final_dg m c u q).trans (ref_dg _ _ _ _ _ _ _ _ u q).symm

theorem dx_eq :
    (Gen.dats m 0 c).arrAt 10 cfg0.N = Cert.InBwdRefIdeal.Read.val_main_v40 (F := Ideal) (arr0 m c) (arr1 m c) (arr2 m c) (arr3 m c) (arr4 m c) (arr5 m c) (arr6 m c) (arr7 m c) (arr8 m c) (arr9 m c) := by
  funext y
  obtain ⟨p, q, rfl⟩ : ∃ (p : Fin 2048) (q : Fin 1024), y = ix2 p q := ⟨y 0, y 1, eq_ix2 y⟩
  refine (final_dx m c p q).trans (Eq.trans ?_ (ref_dx _ _ _ _ _ _ _ _ _ _ p q).symm)
  exact congrArg _ (normGrad_eq _ _ q)

/-- The kernel's run and the reference's run leave equal arrays. -/
theorem algebraic : Cert.algebraic_InBwdIdeal_InBwdRefIdeal := by
  intro m g m' g' _ hagree
  refine ⟨fun c => (Gen.dats m 0 c).arrAt 10 cfg0.N, fun c => (Gen.dats m 0 c).arrAt 11 cfg0.N, Value.run_blocks m g, ?_⟩
  refine (θ_run _ _ _).mono (fun r h c => ?_) (Cert.InBwdRefIdeal.Value.run (F := Ideal) m' g')
  obtain ⟨e0, e1, ea⟩ := h c
  obtain ⟨a0, a1, a2, a3, a4, a5, a6, a7, a8, a9⟩ := hagree c
  refine ⟨e0.trans ?_, e1.trans ?_, ea⟩
  · rw [Cert.InBwdRefIdeal.Read.val_main_v40_eq, a0, a1, a2, a3, a4, a5, a6, a7, a8, a9]; exact (dx_eq m c).symm
  · rw [Cert.InBwdRefIdeal.Read.val_main_v23_eq, a0, a1, a2, a3, a4, a5, a6, a7]; exact (dg_eq m c).symm

end Cert.InBwdIdeal.Hand

end
-- ==== Proof.XqBwd.lean ====
/- The gradients of the norm before the cross attention's query projection, as the kernel leaves them: the gradient of the normed rows is the
   product of the projection's gradient with its weight, the rows' gradient is `normGrad` of it added to the
   residual's, and the scale's gradient is its sum over the rows, one block of rows per grid point. -/
module

public import proofs.«01_k».proof.Defs
public import proofs.«01_k».proof.Proof.Gen.XqBwdIdeal.Value
public import proofs.«01_k».proof.Proof.Gen.XqBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.XqBwdIdeal.Hand

open Cert.XqBwdIdeal Cert.XqBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the normed rows: the product of the projection's gradient with its weight. -/
def dh {M : ℕ} (x0 : (⟨2, ![M, 1024]⟩ : Shape).Idx → EReal) (x1 : S1024x1024.Idx → EReal) (p : Fin M) (k : Fin 1024) : EReal :=
  (∑ n : Fin 1024, x0 (ix2 p n) * x1 (ix2 k n))

/-- The rows' gradient. -/
def dxAt {M : ℕ} (d : Fin M → Fin 1024 → EReal) (x : (⟨2, ![M, 1024]⟩ : Shape).Idx → EReal) (g : S1x1024.Idx → EReal) (p : Fin M) (q : Fin 1024) : EReal :=
  normGrad (fun k => d p k * g (ix2 0 k)) (fun k => x (ix2 p k)) q

/-- A row's part of the scale's gradient. -/
def dgAt {M : ℕ} (d : Fin M → Fin 1024 → EReal) (x : (⟨2, ![M, 1024]⟩ : Shape).Idx → EReal) (p : Fin M) (q : Fin 1024) : EReal :=
  d p q * (x (ix2 p q) * root (fun k => x (ix2 p k)))

theorem dx_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)
    (x0 : Vec Ideal S512x1024 .bf16) (x1 : Vec Ideal S1024x1024 .bf16) (x2 : Vec Ideal S512x1024 .f32) (x3 : Vec Ideal S1x1024 .f32) (x4 : Vec Ideal S512x1024 .f32) (p : Fin 512) (q : Fin 1024) :
    out0_A_5 c i arg1 harg1 arg2 harg2 arg3 harg3 arg4 harg4 arg5 harg5 arg6 harg6 arg7 harg7 hc0 x0 x1 x2 x3 x4 (ix2 p q) = x4 (ix2 p q) + dxAt (dh x0 x1) x2 x3 p q := by
  unfold out0_A_5
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S512x1024) zeros, View.ld_unit_zero (S := S1024x1024) zeros, View.ld_unit_zero (S := S1x1024) zeros]
  unfold dxAt normGrad root meanSq width eps dh
  pointwise [k0_pay1, k0_pay2, k0_pay3, k0_pay4, k0_pay5, k0_pay6, k0_pay7, dot_S512x1024_S1024x1024_S512x1024_1_1_0_0_n_n]

theorem dg_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : cond0_0 i)
    (x0 : Vec Ideal S512x1024 .bf16) (x1 : Vec Ideal S1024x1024 .bf16) (x2 : Vec Ideal S512x1024 .f32) (x3 : Vec Ideal S1x1024 .f32) (x4 : Vec Ideal S512x1024 .f32) (u : Fin 1) (q : Fin 1024) :
    out0_A_6 c i arg1 harg1 arg2 harg2 arg3 harg3 arg4 harg4 arg5 harg5 arg6 harg6 arg7 harg7 hc0 x0 x1 x2 x3 x4 (ix2 u q) = ∑ p, dgAt (dh x0 x1) x2 p q := by
  unfold out0_A_6
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, View.ld_unit_zero (S := S512x1024) zeros, View.ld_unit_zero (S := S1024x1024) zeros, View.ld_unit_zero (S := S1x1024) zeros]
  unfold dgAt root meanSq width eps dh
  pointwise [k0_pay1, k0_pay2, k0_pay3, k0_pay4, k0_pay5, k0_pay6, k0_pay7, dot_S512x1024_S1024x1024_S512x1024_1_1_0_0_n_n]

theorem dx_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i)
    (x0 : Vec Ideal S512x1024 .bf16) (x1 : Vec Ideal S1024x1024 .bf16) (x2 : Vec Ideal S512x1024 .f32) (x3 : Vec Ideal S1x1024 .f32) (x4 : Vec Ideal S512x1024 .f32) (xo6 : Vec Ideal S1x1024 .f32) (p : Fin 512) (q : Fin 1024) :
    out0_B_5 c i arg1 harg1 arg2 harg2 arg3 harg3 arg4 harg4 arg5 harg5 arg6 harg6 arg7 harg7 hc0 x0 x1 x2 x3 x4 xo6 (ix2 p q) = x4 (ix2 p q) + dxAt (dh x0 x1) x2 x3 p q := by
  unfold out0_B_5
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S512x1024) zeros, View.ld_unit_zero (S := S1024x1024) zeros, View.ld_unit_zero (S := S1x1024) zeros]
  unfold dxAt normGrad root meanSq width eps dh
  pointwise [k0_pay1, k0_pay2, k0_pay3, k0_pay4, k0_pay5, k0_pay6, k0_pay7, dot_S512x1024_S1024x1024_S512x1024_1_1_0_0_n_n]

theorem dg_B (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (hc0 : ¬cond0_0 i)
    (x0 : Vec Ideal S512x1024 .bf16) (x1 : Vec Ideal S1024x1024 .bf16) (x2 : Vec Ideal S512x1024 .f32) (x3 : Vec Ideal S1x1024 .f32) (x4 : Vec Ideal S512x1024 .f32) (xo6 : Vec Ideal S1x1024 .f32) (u : Fin 1) (q : Fin 1024) :
    out0_B_6 c i arg1 harg1 arg2 harg2 arg3 harg3 arg4 harg4 arg5 harg5 arg6 harg6 arg7 harg7 hc0 x0 x1 x2 x3 x4 xo6 (ix2 u q) = xo6 (ix2 u q) + ∑ p, dgAt (dh x0 x1) x2 p q := by
  unfold out0_B_6
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S512x1024) zeros, View.ld_unit_zero (S := S1024x1024) zeros, View.ld_unit_zero (S := S1x1024) zeros]
  unfold dgAt root meanSq width eps dh
  pointwise [k0_pay1, k0_pay2, k0_pay3, k0_pay4, k0_pay5, k0_pay6, k0_pay7, dot_S512x1024_S1024x1024_S512x1024_1_1_0_0_n_n]

/-! ## The arrays -/

variable (m : (ℓ : Loc nD τ sig) → Buf (Elt Ideal) ℓ) (c : Dev nD)

/-- Part 0 of the projection's gradient. -/
abbrev arr0 : S2048x1024.Idx → EReal := m ((c : Thread nD τ).loc main_arg0)
/-- The weight. -/
abbrev arr1 : S1024x1024.Idx → EReal := m ((c : Thread nD τ).loc main_arg1)
/-- The rows. -/
abbrev arr2 : S2048x1024.Idx → EReal := m ((c : Thread nD τ).loc main_arg2)
/-- The scale. -/
abbrev arr3 : S1x1024.Idx → EReal := m ((c : Thread nD τ).loc main_arg3)
/-- The residual's gradient. -/
abbrev arr4 : S2048x1024.Idx → EReal := m ((c : Thread nD τ).loc main_arg4)

/-- Row `r` of grid point `t`'s block. -/
abbrev brow (t : Fin cfg0.N) (r : Fin 512) : Fin 2048 := row (a := 4) (b := 512) rfl (t.cast N_0) r

/-- The gradient of all normed rows. -/
abbrev dhArr : Fin 2048 → Fin 1024 → EReal := dh (arr0 m c) (arr1 m c)

theorem index0 : ∀ t : Fin grid0.N, win0_0.index t 0 = t.val ∧ win0_0.index t 1 = 0 := by decide +kernel

theorem emb0 (t : Fin cfg0.N) (r : Fin 512) (q : Fin 1024) : (win0_0.rect t).emb (ix2 r q) = ix2 (brow t r) q := by
  funext a
  apply Fin.ext
  refine (win0_0.rect_emb_val t (ix2 r q) a).trans ?_
  fin_cases a
  · show win0_0.index t 0 * 512 + r.val = 512 * t.val + r.val
    rw [(index0 t).1]; omega
  · show win0_0.index t 1 * 1024 + q.val = q.val
    rw [(index0 t).2]; omega

/-- The block of window 0 that a point reads. -/
def blk0 (t : Fin cfg0.N) : Vec Ideal S512x1024 .bf16 := iblk m c 0 t

theorem blk0_apply (t : Fin cfg0.N) (r : Fin 512) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1024x1024.Idx) : (win0_1.rect t).emb y = y := by
  funext a
  apply Fin.ext
  refine (win0_1.rect_emb_val t y a).trans ?_
  fin_cases a
  · show win0_1.index t 0 * 1024 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1024x1024 .bf16 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = t.val ∧ win0_2.index t 1 = 0 := by decide +kernel

theorem emb2 (t : Fin cfg0.N) (r : Fin 512) (q : Fin 1024) : (win0_2.rect t).emb (ix2 r q) = ix2 (brow t r) q := by
  funext a
  apply Fin.ext
  refine (win0_2.rect_emb_val t (ix2 r q) a).trans ?_
  fin_cases a
  · show win0_2.index t 0 * 512 + r.val = 512 * t.val + r.val
    rw [(index2 t).1]; omega
  · show win0_2.index t 1 * 1024 + q.val = q.val
    rw [(index2 t).2]; omega

/-- The block of window 2 that a point reads. -/
def blk2 (t : Fin cfg0.N) : Vec Ideal S512x1024 .f32 := iblk m c 2 t

theorem blk2_apply (t : Fin cfg0.N) (r : Fin 512) (q : Fin 1024) : blk2 m c t (ix2 r q) = arr2 m c (ix2 (brow t r) q) := by
  show V m c main_arg2 ((win0_2.rect t).emb (ix2 r q)) = _
  rw [emb2, V_main_arg2]

theorem index3 : ∀ t : Fin grid0.N, win0_3.index t 0 = 0 ∧ win0_3.index t 1 = 0 := by decide +kernel

theorem emb3 (t : Fin cfg0.N) (y : S1x1024.Idx) : (win0_3.rect t).emb y = y := by
  funext a
  apply Fin.ext
  refine (win0_3.rect_emb_val t y a).trans ?_
  fin_cases a
  · show win0_3.index t 0 * 1 + (y 0).val = (y 0).val
    rw [(index3 t).1]; omega
  · show win0_3.index t 1 * 1024 + (y 1).val = (y 1).val
    rw [(index3 t).2]; omega

/-- The array of window 3, which every point reads whole. -/
def blk3 (t : Fin cfg0.N) : Vec Ideal S1x1024 .f32 := iblk m c 3 t

theorem blk3_eq (t : Fin cfg0.N) : blk3 m c t = arr3 m c := by
  funext y
  show V m c main_arg3 ((win0_3.rect t).emb y) = _
  rw [emb3, V_main_arg3]

theorem index4 : ∀ t : Fin grid0.N, win0_4.index t 0 = t.val ∧ win0_4.index t 1 = 0 := by decide +kernel

theorem emb4 (t : Fin cfg0.N) (r : Fin 512) (q : Fin 1024) : (win0_4.rect t).emb (ix2 r q) = ix2 (brow t r) q := by
  funext a
  apply Fin.ext
  refine (win0_4.rect_emb_val t (ix2 r q) a).trans ?_
  fin_cases a
  · show win0_4.index t 0 * 512 + r.val = 512 * t.val + r.val
    rw [(index4 t).1]; omega
  · show win0_4.index t 1 * 1024 + q.val = q.val
    rw [(index4 t).2]; omega

/-- The block of window 4 that a point reads. -/
def blk4 (t : Fin cfg0.N) : Vec Ideal S512x1024 .f32 := iblk m c 4 t

theorem blk4_apply (t : Fin cfg0.N) (r : Fin 512) (q : Fin 1024) : blk4 m c t (ix2 r q) = arr4 m c (ix2 (brow t r) q) := by
  show V m c main_arg4 ((win0_4.rect t).emb (ix2 r q)) = _
  rw [emb4, V_main_arg4]

theorem index5 : ∀ t : Fin grid0.N, win0_5.index t 0 = t.val ∧ win0_5.index t 1 = 0 := by decide +kernel

theorem emb5 (t : Fin cfg0.N) (r : Fin 512) (q : Fin 1024) : (win0_5.rect t).emb (ix2 r q) = ix2 (brow t r) q := by
  funext a
  apply Fin.ext
  refine (win0_5.rect_emb_val t (ix2 r q) a).trans ?_
  fin_cases a
  · show win0_5.index t 0 * 512 + r.val = 512 * t.val + r.val
    rw [(index5 t).1]; omega
  · show win0_5.index t 1 * 1024 + q.val = q.val
    rw [(index5 t).2]; omega

theorem index6 : ∀ t : Fin grid0.N, win0_6.index t 0 = 0 ∧ win0_6.index t 1 = 0 := by decide +kernel

theorem emb6 (t : Fin cfg0.N) (y : S1x1024.Idx) : (win0_6.rect t).emb y = y := by
  funext a
  apply Fin.ext
  refine (win0_6.rect_emb_val t y a).trans ?_
  fin_cases a
  · show win0_6.index t 0 * 1 + (y 0).val = (y 0).val
    rw [(index6 t).1]; omega
  · show win0_6.index t 1 * 1024 + (y 1).val = (y 1).val
    rw [(index6 t).2]; omega

theorem dh_blk (t : Fin cfg0.N) (r : Fin 512) (k : Fin 1024) : dh (blk0 m c t) (blk1 m c t) r k = dhArr m c (brow t r) k := by
  unfold dhArr dh
  simp only [blk0_apply, blk1_eq]

theorem dg_blk (t : Fin cfg0.N) (r : Fin 512) (q : Fin 1024) :
    dgAt (dh (blk0 m c t) (blk1 m c t)) (blk2 m c t) r q = dgAt (dhArr m c) (arr2 m c) (brow t r) q := by
  unfold dgAt
  simp only [dh_blk, blk2_apply]

theorem dx_blk (t : Fin cfg0.N) (r : Fin 512) (q : Fin 1024) :
    dxAt (dh (blk0 m c t) (blk1 m c t)) (blk2 m c t) (blk3 m c t) r q = dxAt (dhArr m c) (arr2 m c) (arr3 m c) (brow t r) q := by
  unfold dxAt
  simp only [dh_blk, blk2_apply, blk3_eq]

theorem outs_A (t : Fin cfg0.N) (h0 : t.val % 4 = 0) : outsAt0 m c t.val t.isLt =
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t) (blk4 m c t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t) (blk4 m c t)) :=
  outsAt0_A m c t h0

theorem outs_B (t : Fin cfg0.N) (h0 : ¬t.val % 4 = 0) : outsAt0 m c t.val t.isLt =
    (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).2) :=
  outsAt0_B m c t h0

/-- The rows' gradient that a point leaves. -/
theorem outs_dx (t : Fin cfg0.N) (r : Fin 512) (q : Fin 1024) :
    (outsAt0 m c t.val t.isLt).1 (ix2 r q) = arr4 m c (ix2 (brow t r) q) + dxAt (dhArr m c) (arr2 m c) (arr3 m c) (brow t r) q := by
  rw [← dx_blk, ← blk4_apply]
  by_cases h0 : t.val % 4 = 0
  · rw [outs_A m c t h0]; dsimp only; exact dx_A ..
  · rw [outs_B m c t h0]; dsimp only; exact dx_B ..

/-- The rows' gradient after the run. -/
theorem final_dx (n : Fin 2048) (q : Fin 1024) :
    (Gen.dats m 0 c).arrAt 5 cfg0.N (ix2 n q) = arr4 m c (ix2 n q) + dxAt (dhArr m c) (arr2 m c) (arr3 m c) n q := by
  obtain ⟨t, r, rfl⟩ := exists_row (a := 4) (b := 512) (N := 2048) rfl (by decide) n
  have hb := congrFun (Value.blocks5 m c (t.cast N_0.symm) (flush0_5 _)) (ix2 r q)
  rw [Value.flushed5] at hb
  have he := emb5 (t.cast N_0.symm) r q
  refine Eq.trans ?_ (hb.trans (outs_dx m c (t.cast N_0.symm) r q))
  exact congrArg ((Gen.dats m 0 c).arrAt 5 cfg0.N) he.symm

theorem last_lt : 3 < cfg0.N := lt_of_lt_of_eq (by decide) N_0.symm

/-- The scale's gradient after the last point. -/
theorem outs_dg (u : Fin 1) (q : Fin 1024) :
    (outsAt0 m c 3 last_lt).2 (ix2 u q) = ∑ n, dgAt (dhArr m c) (arr2 m c) n q := by
  rw [sum_rows (a := 4) (b := 512) rfl]
  refine (sum_upto (fun n h => (outsAt0 m c n h).2 (ix2 u q))
    (fun t => ∑ r, dgAt (dhArr m c) (arr2 m c) (brow t r) q) (fun h => ?_) (fun n h => ?_) 3 last_lt).trans rfl
  · have e := outs_A m c ⟨0, h⟩ rfl
    dsimp only at e ⊢
    rw [e]
    simp only [← dg_blk]
    exact dg_A ..
  · have hn : n + 1 < 4 := lt_of_lt_of_eq h N_0
    have e := outs_B m c ⟨n + 1, h⟩ (by dsimp only; omega)
    dsimp only [Nat.add_sub_cancel] at e ⊢
    rw [e]
    simp only [← dg_blk]
    exact dg_B ..

theorem cover_dg (i : S1x1024.Idx) : ∃ t : Fin cfg0.N, (cfg0.win 6).flush t = true ∧ i ∈ ((cfg0.win 6).blk t).view.set := by
  refine ⟨⟨3, last_lt⟩, (flush0_6 _).mpr rfl, ?_⟩
  have h := ((cfg0.win 6).blk ⟨3, last_lt⟩).view.emb_mem_set i
  exact (emb6 ⟨3, last_lt⟩ i) ▸ h

/-- The scale's gradient after the run. -/
theorem final_dg (u : Fin 1) (q : Fin 1024) :
    (Gen.dats m 0 c).arrAt 6 cfg0.N (ix2 u q) = ∑ n, dgAt (dhArr m c) (arr2 m c) n q := by
  rw [← outs_dg m c u q]
  have hN : cfg0.N = 4 := N_0
  refine congrFun ((Gen.dats m 0 c).arrAt_eq_of_cover 6 (outsAt0 m c 3 last_lt).2 (fun t hf => ?_) fun i => cover_dg i) (ix2 u q)
  have h3 : t.val = 3 := by have := (flush0_6 t).mp hf; have := t.isLt; omega
  obtain rfl : t = ⟨3, last_lt⟩ := Fin.ext h3
  rw [Value.flushed6]
  funext z
  exact (congrArg (outsAt0 m c 3 last_lt).2 (emb6 ⟨3, last_lt⟩ z)).symm

/-! ## The reference -/

/-- The reference's gradient of the scale. -/
theorem ref_dg (x0 : (⟨Cert.XqBwdRefIdeal.S2048x1024, .bf16⟩ : BufTy).Contents (Elt Ideal)) (x1 : (⟨Cert.XqBwdRefIdeal.S1024x1024, .bf16⟩ : BufTy).Contents (Elt Ideal)) (x2 : (⟨Cert.XqBwdRefIdeal.S2048x1024, .f32⟩ : BufTy).Contents (Elt Ideal)) (u : Fin 1) (q : Fin 1024) :
    Cert.XqBwdRefIdeal.Read.val_main_v21 (F := Ideal) x0 x1 x2 (ix2 u q) = ∑ p, dgAt (dh x0 x1) x2 p q := by
  unfold dgAt root meanSq width eps dh
  pointwise [Cert.XqBwdRefIdeal.Read.val_main_v21, Cert.XqBwdRefIdeal.Read.val_main_v20, Cert.XqBwdRefIdeal.Read.val_main_v19, Cert.XqBwdRefIdeal.Read.val_main_v18, Cert.XqBwdRefIdeal.Read.val_main_v15, Cert.XqBwdRefIdeal.Read.val_main_v17, Cert.XqBwdRefIdeal.Read.val_main_v12, Cert.XqBwdRefIdeal.Read.val_main_v11, Cert.XqBwdRefIdeal.Read.val_main_v7, Cert.XqBwdRefIdeal.Read.val_main_v6, Cert.XqBwdRefIdeal.Read.val_main_v5, Cert.XqBwdRefIdeal.Read.val_main_cst_1, Cert.XqBwdRefIdeal.Read.val_main_v4, Cert.XqBwdRefIdeal.Read.val_main_v3, Cert.XqBwdRefIdeal.Read.val_main_cst_0, Cert.XqBwdRefIdeal.Read.val_main_v2, Cert.XqBwdRefIdeal.Read.val_main_v1, Cert.XqBwdRefIdeal.Read.val_main_v0, Cert.XqBwdRefIdeal.Read.val_main_cst, Cert.XqBwdRefIdeal.Read.val_main_cst_3]
  exact Finset.sum_congr rfl fun p _ => mul_comm _ _

/-- The reference's gradient of the rows. -/
theorem ref_dx (x0 : (⟨Cert.XqBwdRefIdeal.S2048x1024, .bf16⟩ : BufTy).Contents (Elt Ideal)) (x1 : (⟨Cert.XqBwdRefIdeal.S1024x1024, .bf16⟩ : BufTy).Contents (Elt Ideal)) (x2 : (⟨Cert.XqBwdRefIdeal.S2048x1024, .f32⟩ : BufTy).Contents (Elt Ideal)) (x3 : (⟨Cert.XqBwdRefIdeal.S1x1024, .f32⟩ : BufTy).Contents (Elt Ideal)) (x4 : (⟨Cert.XqBwdRefIdeal.S2048x1024, .f32⟩ : BufTy).Contents (Elt Ideal)) (p : Fin 2048) (q : Fin 1024) :
    Cert.XqBwdRefIdeal.Read.val_main_v38 (F := Ideal) x0 x1 x2 x3 x4 (ix2 p q)
      = x4 (ix2 p q) + chainGrad (fun k => dh x0 x1 p k * x3 (ix2 0 k)) (fun k => x2 (ix2 p k)) q := by
  unfold chainGrad meanGrad root meanSq width eps mhalf dh
  pointwise [Cert.XqBwdRefIdeal.Read.val_main_v38, Cert.XqBwdRefIdeal.Read.val_main_v37, Cert.XqBwdRefIdeal.Read.val_main_v36, Cert.XqBwdRefIdeal.Read.val_main_v33, Cert.XqBwdRefIdeal.Read.val_main_v32, Cert.XqBwdRefIdeal.Read.val_main_v31, Cert.XqBwdRefIdeal.Read.val_main_v30, Cert.XqBwdRefIdeal.Read.val_main_cst_5, Cert.XqBwdRefIdeal.Read.val_main_v29, Cert.XqBwdRefIdeal.Read.val_main_v10, Cert.XqBwdRefIdeal.Read.val_main_v8, Cert.XqBwdRefIdeal.Read.val_main_v6, Cert.XqBwdRefIdeal.Read.val_main_v5, Cert.XqBwdRefIdeal.Read.val_main_cst_1, Cert.XqBwdRefIdeal.Read.val_main_v4, Cert.XqBwdRefIdeal.Read.val_main_v3, Cert.XqBwdRefIdeal.Read.val_main_cst_0, Cert.XqBwdRefIdeal.Read.val_main_v2, Cert.XqBwdRefIdeal.Read.val_main_v1, Cert.XqBwdRefIdeal.Read.val_main_v0, Cert.XqBwdRefIdeal.Read.val_main_cst, Cert.XqBwdRefIdeal.Read.val_main_v7, Cert.XqBwdRefIdeal.Read.val_main_v9, Cert.XqBwdRefIdeal.Read.val_main_cst_2, Cert.XqBwdRefIdeal.Read.val_main_v26, Cert.XqBwdRefIdeal.Read.val_main_v25, Cert.XqBwdRefIdeal.Read.val_main_v24, Cert.XqBwdRefIdeal.Read.val_main_v23, Cert.XqBwdRefIdeal.Read.val_main_v22, Cert.XqBwdRefIdeal.Read.val_main_v18, Cert.XqBwdRefIdeal.Read.val_main_v15, Cert.XqBwdRefIdeal.Read.val_main_v17, Cert.XqBwdRefIdeal.Read.val_main_cst_4, Cert.XqBwdRefIdeal.Read.val_main_cst_6, Cert.XqBwdRefIdeal.Read.val_main_v35, Cert.XqBwdRefIdeal.Read.val_main_v34, Cert.XqBwdRefIdeal.Read.val_main_v28, Cert.XqBwdRefIdeal.Read.val_main_v27]
  simp only [Fin.sum_univ_one]

/-! ## The claim -/

theorem dg_eq : (Gen.dats m 0 c).arrAt 6 cfg0.N = Cert.XqBwdRefIdeal.Read.val_main_v21 (F := Ideal) (arr0 m c) (arr1 m c) (arr2 m c) := by
  funext y
  obtain ⟨u, q, rfl⟩ : ∃ (u : Fin 1) (q : Fin 1024), y = ix2 u q := ⟨y 0, y 1, eq_ix2 y⟩
  exact (final_dg m c u q).trans (ref_dg _ _ _ u q).symm

theorem dx_eq :
    (Gen.dats m 0 c).arrAt 5 cfg0.N = Cert.XqBwdRefIdeal.Read.val_main_v38 (F := Ideal) (arr0 m c) (arr1 m c) (arr2 m c) (arr3 m c) (arr4 m c) := by
  funext y
  obtain ⟨p, q, rfl⟩ : ∃ (p : Fin 2048) (q : Fin 1024), y = ix2 p q := ⟨y 0, y 1, eq_ix2 y⟩
  refine (final_dx m c p q).trans (Eq.trans ?_ (ref_dx _ _ _ _ _ p q).symm)
  exact congrArg _ (normGrad_eq _ _ q)

/-- The kernel's run and the reference's run leave equal arrays. -/
theorem algebraic : Cert.algebraic_XqBwdIdeal_XqBwdRefIdeal := by
  intro m g m' g' _ hagree
  refine ⟨fun c => (Gen.dats m 0 c).arrAt 5 cfg0.N, fun c => (Gen.dats m 0 c).arrAt 6 cfg0.N, Value.run_blocks m g, ?_⟩
  refine (θ_run _ _ _).mono (fun r h c => ?_) (Cert.XqBwdRefIdeal.Value.run (F := Ideal) m' g')
  obtain ⟨e0, e1, ea⟩ := h c
  obtain ⟨a0, a1, a2, a3, a4⟩ := hagree c
  refine ⟨e0.trans ?_, e1.trans ?_, ea⟩
  · rw [Cert.XqBwdRefIdeal.Read.val_main_v38_eq, a0, a1, a2, a3, a4]; exact (dx_eq m c).symm
  · rw [Cert.XqBwdRefIdeal.Read.val_main_v21_eq, a0, a1, a2]; exact (dg_eq m c).symm

end Cert.XqBwdIdeal.Hand

end
-- ==== Proof.XkvBwd.lean ====
/- The gradients of the norm before the memory's projection, as the kernel leaves them: the gradient of the normed rows is the
   product of the projection's gradient with its weight, the rows' gradient is `normGrad` of it added to the
   residual's, and the scale's gradient is its sum over the rows, one block of rows per grid point. -/
module

public import proofs.«01_k».proof.Defs
public import proofs.«01_k».proof.Proof.Gen.XkvBwdIdeal.Value
public import proofs.«01_k».proof.Proof.Gen.XkvBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.XkvBwdIdeal.Hand

open Cert.XkvBwdIdeal Cert.XkvBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the normed rows: the product of the projection's gradient with its weight. -/
def dh {M : ℕ} (x0 : (⟨2, ![M, 2048]⟩ : Shape).Idx → EReal) (x1 : S2048x1024.Idx → EReal) (p : Fin M) (k : Fin 1024) : EReal :=
  (∑ n : Fin 2048, x0 (ix2 p n) * x1 (ix2 ⟨0 + n.val, by have := n.isLt; omega⟩ k))

/-- The rows' gradient. -/
def dxAt {M : ℕ} (d : Fin M → Fin 1024 → EReal) (x : (⟨2, ![M, 1024]⟩ : Shape).Idx → EReal) (g : S1x1024.Idx → EReal) (p : Fin M) (q : Fin 1024) : EReal :=
  normGrad (fun k => d p k * g (ix2 0 k)) (fun k => x (ix2 p k)) q

/-- A row's part of the scale's gradient. -/
def dgAt {M : ℕ} (d : Fin M → Fin 1024 → EReal) (x : (⟨2, ![M, 1024]⟩ : Shape).Idx → EReal) (p : Fin M) (q : Fin 1024) : EReal :=
  d p q * (x (ix2 p q) * root (fun k => x (ix2 p k)))

theorem dg_A (c : Dev nD) (i : grid0.Coords) (arg1 : Memref sig .tc .vmem S256x2048 .bf16) (harg1 : arg1.IsWhole) (arg2 : Memref sig .tc .vmem S2048x1024 .bf16) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (hc0 : cond0_0 i)
    (x0 : Vec Ideal S256x2048 .bf16) (x1 : Vec Ideal S2048x1024 .bf16) (x2 : Vec Ideal S256x1024 .f32) (x3 : Vec Ideal S1x1024 .f32) (x4 : Vec Ideal S256x1024 .f32) (u : Fin 1) (q : Fin 1024) :
    out0_A_6 c i arg1 harg1 arg2 harg2 arg3 harg3 arg4 harg4 arg5 harg5 arg6 harg6 arg7 harg7 hc0 x0 x1 x2 x3 x4 (ix2 u q) = ∑ p, dgAt (dh x0 x1) x2 p q := by
  unfold out0_A_6
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, View.ld_unit_zero (S := S256x2048) zeros, View.ld_unit_zero (S := S2048x1024) zeros, View.ld_unit_zero (S := S256x1024) zeros, View.ld_unit_zero (S := S1x1024) zeros]
  unfold dgAt root meanSq width eps dh
  pointwise [k0_pay1, k0_pay2, k0_pay3, k0_pay4, k0_pay5, k0_pay6, k0_pay7, dot_S256x2048_S2048x1024_S256x1024_1_0_0_1_n_n]

/-! ## The arrays -/

variable (m : (ℓ : Loc nD τ sig) → Buf (Elt Ideal) ℓ) (c : Dev nD)

/-- Part 0 of the projection's gradient. -/
abbrev arr0 : S256x2048.Idx → EReal := m ((c : Thread nD τ).loc main_arg0)
/-- The weight. -/
abbrev arr1 : S2048x1024.Idx → EReal := m ((c : Thread nD τ).loc main_arg1)
/-- The rows. -/
abbrev arr2 : S256x1024.Idx → EReal := m ((c : Thread nD τ).loc main_arg2)
/-- The scale. -/
abbrev arr3 : S1x1024.Idx → EReal := m ((c : Thread nD τ).loc main_arg3)

/-- Row `r` of grid point `t`'s block. -/
abbrev brow (t : Fin cfg0.N) (r : Fin 256) : Fin 256 := row (a := 1) (b := 256) rfl (t.cast N_0) r

/-- The gradient of all normed rows. -/
abbrev dhArr : Fin 256 → Fin 1024 → EReal := dh (arr0 m c) (arr1 m c)

theorem index0 : ∀ t : Fin grid0.N, win0_0.index t 0 = t.val ∧ win0_0.index t 1 = 0 := by decide +kernel

theorem emb0 (t : Fin cfg0.N) (r : Fin 256) (q : Fin 2048) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 2048 + q.val = q.val
    rw [(index0 t).2]; omega

/-- The block of window 0 that a point reads. -/
def blk0 (t : Fin cfg0.N) : Vec Ideal S256x2048 .bf16 := iblk m c 0 t

theorem blk0_apply (t : Fin cfg0.N) (r : Fin 256) (q : Fin 2048) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S2048x1024.Idx) : (win0_1.rect t).emb y = y := by
  funext a
  apply Fin.ext
  refine (win0_1.rect_emb_val t y a).trans ?_
  fin_cases a
  · show win0_1.index t 0 * 2048 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S2048x1024 .bf16 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = t.val ∧ win0_2.index t 1 = 0 := by decide +kernel

theorem emb2 (t : Fin cfg0.N) (r : Fin 256) (q : Fin 1024) : (win0_2.rect t).emb (ix2 r q) = ix2 (brow t r) q := by
  funext a
  apply Fin.ext
  refine (win0_2.rect_emb_val t (ix2 r q) a).trans ?_
  fin_cases a
  · show win0_2.index t 0 * 256 + r.val = 256 * t.val + r.val
    rw [(index2 t).1]; omega
  · show win0_2.index t 1 * 1024 + q.val = q.val
    rw [(index2 t).2]; omega

/-- The block of window 2 that a point reads. -/
def blk2 (t : Fin cfg0.N) : Vec Ideal S256x1024 .f32 := iblk m c 2 t

theorem blk2_apply (t : Fin cfg0.N) (r : Fin 256) (q : Fin 1024) : blk2 m c t (ix2 r q) = arr2 m c (ix2 (brow t r) q) := by
  show V m c main_arg2 ((win0_2.rect t).emb (ix2 r q)) = _
  rw [emb2, V_main_arg2]

theorem index3 : ∀ t : Fin grid0.N, win0_3.index t 0 = 0 ∧ win0_3.index t 1 = 0 := by decide +kernel

theorem emb3 (t : Fin cfg0.N) (y : S1x1024.Idx) : (win0_3.rect t).emb y = y := by
  funext a
  apply Fin.ext
  refine (win0_3.rect_emb_val t y a).trans ?_
  fin_cases a
  · show win0_3.index t 0 * 1 + (y 0).val = (y 0).val
    rw [(index3 t).1]; omega
  · show win0_3.index t 1 * 1024 + (y 1).val = (y 1).val
    rw [(index3 t).2]; omega

/-- The array of window 3, which every point reads whole. -/
def blk3 (t : Fin cfg0.N) : Vec Ideal S1x1024 .f32 := iblk m c 3 t

theorem blk3_eq (t : Fin cfg0.N) : blk3 m c t = arr3 m c := by
  funext y
  show V m c main_arg3 ((win0_3.rect t).emb y) = _
  rw [emb3, V_main_arg3]

theorem index6 : ∀ t : Fin grid0.N, win0_6.index t 0 = 0 ∧ win0_6.index t 1 = 0 := by decide +kernel

theorem emb6 (t : Fin cfg0.N) (y : S1x1024.Idx) : (win0_6.rect t).emb y = y := by
  funext a
  apply Fin.ext
  refine (win0_6.rect_emb_val t y a).trans ?_
  fin_cases a
  · show win0_6.index t 0 * 1 + (y 0).val = (y 0).val
    rw [(index6 t).1]; omega
  · show win0_6.index t 1 * 1024 + (y 1).val = (y 1).val
    rw [(index6 t).2]; omega

/-- The block of window 4. -/
def blk4 (t : Fin cfg0.N) : Vec Ideal S256x1024 .f32 := iblk m c 4 t

theorem dh_blk (t : Fin cfg0.N) (r : Fin 256) (k : Fin 1024) : dh (blk0 m c t) (blk1 m c t) r k = dhArr m c (brow t r) k := by
  unfold dhArr dh
  simp only [blk0_apply, blk1_eq]

theorem dg_blk (t : Fin cfg0.N) (r : Fin 256) (q : Fin 1024) :
    dgAt (dh (blk0 m c t) (blk1 m c t)) (blk2 m c t) r q = dgAt (dhArr m c) (arr2 m c) (brow t r) q := by
  unfold dgAt
  simp only [dh_blk, blk2_apply]

theorem cut_apply (t : Fin cfg0.N) (X : Vec Ideal S1x1024 .f32) (u : Fin 1) (q : Fin 1024) :
    (cfg0.win 6).cut (grid0.coords t) X (ix2 u q) = X (ix2 u q) := rfl

theorem read_apply (t : Fin cfg0.N) (X : S1x1024.Idx → EReal) (u : Fin 1) (q : Fin 1024) :
    ((cfg0.win 6).blk t).view.read (Elt Ideal) X (ix2 u q) = X (ix2 u q) :=
  congrArg X (emb6 t (ix2 u q))

theorem flushed_dg (t : Fin cfg0.N) : (Gen.dats m 0 c).flushed 6 t = (cfg0.win 6).cut (grid0.coords t)
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (hcond0_0 t) (blk0 m c t) (blk1 m c t) (blk2 m c t) (blk3 m c t) (blk4 m c t)) :=
  Value.flushed6_A m c t

/-- The scale's gradient after the run. -/
theorem final_dg (u : Fin 1) (q : Fin 1024) :
    (Gen.dats m 0 c).arrAt 6 cfg0.N (ix2 u q) = ∑ n, dgAt (dhArr m c) (arr2 m c) n q := by
  have hN : cfg0.N = 1 := N_0
  have hlt : 0 < cfg0.N := lt_of_lt_of_eq (by decide) N_0.symm
  have hr : ∀ r : Fin 256, brow ⟨0, hlt⟩ r = r := fun r => Fin.ext (by show 256 * 0 + r.val = r.val; omega)
  have hb := congrFun (Value.blocks6 m c ⟨0, hlt⟩ (flush0_6 _)) (ix2 u q)
  rw [read_apply, flushed_dg m c ⟨0, hlt⟩, cut_apply, dg_A] at hb
  simp only [dg_blk, hr] at hb
  exact hb

/-! ## The reference -/

/-- The reference's gradient of the scale. -/
theorem ref_dg (x0 : (⟨Cert.XkvBwdRefIdeal.S256x2048, .bf16⟩ : BufTy).Contents (Elt Ideal)) (x1 : (⟨Cert.XkvBwdRefIdeal.S2048x1024, .bf16⟩ : BufTy).Contents (Elt Ideal)) (x2 : (⟨Cert.XkvBwdRefIdeal.S256x1024, .f32⟩ : BufTy).Contents (Elt Ideal)) (u : Fin 1) (q : Fin 1024) :
    Cert.XkvBwdRefIdeal.Read.val_main_v22 (F := Ideal) x0 x1 x2 (ix2 u q) = ∑ p, dgAt (dh x0 x1) x2 p q := by
  unfold dgAt root meanSq width eps dh
  pointwise [Cert.XkvBwdRefIdeal.Read.val_main_v22, Cert.XkvBwdRefIdeal.Read.val_main_v21, Cert.XkvBwdRefIdeal.Read.val_main_v20, Cert.XkvBwdRefIdeal.Read.val_main_v19, Cert.XkvBwdRefIdeal.Read.val_main_v16, Cert.XkvBwdRefIdeal.Read.val_main_v0, Cert.XkvBwdRefIdeal.Read.val_main_v18, Cert.XkvBwdRefIdeal.Read.val_main_v13, Cert.XkvBwdRefIdeal.Read.val_main_v12, Cert.XkvBwdRefIdeal.Read.val_main_v8, Cert.XkvBwdRefIdeal.Read.val_main_v7, Cert.XkvBwdRefIdeal.Read.val_main_v6, Cert.XkvBwdRefIdeal.Read.val_main_cst_1, Cert.XkvBwdRefIdeal.Read.val_main_v5, Cert.XkvBwdRefIdeal.Read.val_main_v4, Cert.XkvBwdRefIdeal.Read.val_main_cst_0, Cert.XkvBwdRefIdeal.Read.val_main_v3, Cert.XkvBwdRefIdeal.Read.val_main_v2, Cert.XkvBwdRefIdeal.Read.val_main_v1, Cert.XkvBwdRefIdeal.Read.val_main_cst, Cert.XkvBwdRefIdeal.Read.val_main_cst_3]
  exact Finset.sum_congr rfl fun p _ => mul_comm _ _

/-! ## The claim -/

theorem dg_eq : (Gen.dats m 0 c).arrAt 6 cfg0.N = Cert.XkvBwdRefIdeal.Read.val_main_v22 (F := Ideal) (arr0 m c) (arr1 m c) (arr2 m c) := by
  funext y
  obtain ⟨u, q, rfl⟩ : ∃ (u : Fin 1) (q : Fin 1024), y = ix2 u q := ⟨y 0, y 1, eq_ix2 y⟩
  exact (final_dg m c u q).trans (ref_dg _ _ _ u q).symm

/-- The kernel's run and the reference's run leave equal arrays. -/
theorem algebraic : Cert.algebraic_XkvBwdIdeal_XkvBwdRefIdeal := by
  intro m g m' g' _ hagree
  refine ⟨fun c => (Gen.dats m 0 c).arrAt 6 cfg0.N, (θ_run _ _ _).mono (fun r h c => (h c).2) (Value.run_blocks m g), ?_⟩
  refine (θ_run _ _ _).mono (fun r h c => ?_) (Cert.XkvBwdRefIdeal.Value.run (F := Ideal) m' g')
  obtain ⟨e0, ea⟩ := h c
  obtain ⟨a0, a1, a2, a3⟩ := hagree c
  refine ⟨e0.trans ?_, ea⟩
  rw [Cert.XkvBwdRefIdeal.Read.val_main_v22_eq, a0, a1, a2]; exact (dg_eq m c).symm

end Cert.XkvBwdIdeal.Hand

end
-- ==== Proof.DownBwd.lean ====
/- The gradients of the norm after the down projection, as the kernel leaves them: the product's gradient is `normGrad` of
   the scaled output gradient, the input's gradient is its product with the weight, and the scale's gradient is the sum
   over the rows, one block of rows per grid point. The rows of the product come to the kernel from the lines before it. -/
module

public import proofs.«01_k».proof.Defs
public import proofs.«01_k».proof.Proof.Gen.DownBwdIdeal.Value
public import proofs.«01_k».proof.Proof.Gen.DownBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.DownBwdIdeal.Hand

open Cert.DownBwdIdeal Cert.DownBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the product's rows. -/
def dyAt {M : ℕ} (d y : (⟨2, ![M, 1024]⟩ : Shape).Idx → EReal) (g : S1x1024.Idx → EReal) (p : Fin M) (q : Fin 1024) : EReal :=
  normGrad (fun k => d (ix2 p k) * g (ix2 0 k)) (fun k => y (ix2 p k)) q

/-- The gradient of the product's left operand. -/
def daAt {M : ℕ} (d y : (⟨2, ![M, 1024]⟩ : Shape).Idx → EReal) (g : S1x1024.Idx → EReal) (w : S2816x1024.Idx → EReal) (p : Fin M) (j : Fin 2816) : EReal :=
  ∑ k : Fin 1024, dyAt d y g p k * w (ix2 j k)

/-- A row's part of the scale's gradient. -/
def dgAt {M : ℕ} (d y : (⟨2, ![M, 1024]⟩ : Shape).Idx → EReal) (p : Fin M) (q : Fin 1024) : EReal :=
  d (ix2 p q) * (y (ix2 p q) * root (fun k => y (ix2 p k)))

theorem dy_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S2816x1024 .bf16) (p : Fin 256) (q : Fin 1024) :
    out0_A_4 c i arg1 harg1 arg2 harg2 arg3 harg3 arg4 harg4 arg5 harg5 arg6 harg6 arg7 harg7 hc0 x0 x1 x2 x3 (ix2 p q) = dyAt x0 x1 x2 p q := by
  unfold out0_A_4
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold dyAt normGrad root meanSq width eps
  pointwise [k0_pay1, k0_pay2, k0_pay3, k0_pay4, k0_pay5, k0_pay6, k0_pay7, dot_S256x1024_S2816x1024_S256x2816_1_1_0_0_n_n]

theorem da_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S2816x1024 .bf16) (p : Fin 256) (q : Fin 2816) :
    out0_A_5 c i arg1 harg1 arg2 harg2 arg3 harg3 arg4 harg4 arg5 harg5 arg6 harg6 arg7 harg7 hc0 x0 x1 x2 x3 (ix2 p q) = daAt x0 x1 x2 x3 p q := by
  unfold out0_A_5
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold daAt dyAt normGrad root meanSq width eps
  pointwise [k0_pay1, k0_pay2, k0_pay3, k0_pay4, k0_pay5, k0_pay6, k0_pay7, dot_S256x1024_S2816x1024_S256x2816_1_1_0_0_n_n]

theorem dg_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S2816x1024 .bf16) (u : Fin 1) (q : Fin 1024) :
    out0_A_6 c i arg1 harg1 arg2 harg2 arg3 harg3 arg4 harg4 arg5 harg5 arg6 harg6 arg7 harg7 hc0 x0 x1 x2 x3 (ix2 u q) = ∑ p, dgAt x0 x1 p q := by
  unfold out0_A_6
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold dgAt root meanSq width eps
  pointwise [k0_pay1, k0_pay2, k0_pay3, k0_pay4, k0_pay5, k0_pay6, k0_pay7, dot_S256x1024_S2816x1024_S256x2816_1_1_0_0_n_n]

theorem dy_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S2816x1024 .bf16) (xo6 : Vec Ideal S1x1024 .f32) (p : Fin 256) (q : Fin 1024) :
    out0_B_4 c i arg1 harg1 arg2 harg2 arg3 harg3 arg4 harg4 arg5 harg5 arg6 harg6 arg7 harg7 hc0 x0 x1 x2 x3 xo6 (ix2 p q) = dyAt x0 x1 x2 p q := by
  unfold out0_B_4
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold dyAt normGrad root meanSq width eps
  pointwise [k0_pay1, k0_pay2, k0_pay3, k0_pay4, k0_pay5, k0_pay6, k0_pay7, dot_S256x1024_S2816x1024_S256x2816_1_1_0_0_n_n]

theorem da_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S2816x1024 .bf16) (xo6 : Vec Ideal S1x1024 .f32) (p : Fin 256) (q : Fin 2816) :
    out0_B_5 c i arg1 harg1 arg2 harg2 arg3 harg3 arg4 harg4 arg5 harg5 arg6 harg6 arg7 harg7 hc0 x0 x1 x2 x3 xo6 (ix2 p q) = daAt x0 x1 x2 x3 p q := by
  unfold out0_B_5
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold daAt dyAt normGrad root meanSq width eps
  pointwise [k0_pay1, k0_pay2, k0_pay3, k0_pay4, k0_pay5, k0_pay6, k0_pay7, dot_S256x1024_S2816x1024_S256x2816_1_1_0_0_n_n]

theorem dg_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S256x1024 .bf16) (harg5 : arg5.IsWhole) (arg6 : Memref sig .tc .vmem S256x2816 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S2816x1024 .bf16) (xo6 : Vec Ideal S1x1024 .f32) (u : Fin 1) (q : Fin 1024) :
    out0_B_6 c i arg1 harg1 arg2 harg2 arg3 harg3 arg4 harg4 arg5 harg5 arg6 harg6 arg7 harg7 hc0 x0 x1 x2 x3 xo6 (ix2 u q) = xo6 (ix2 u q) + ∑ p, dgAt x0 x1 p q := by
  unfold out0_B_6
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S2816x1024) zeros]
  unfold dgAt root meanSq width eps
  pointwise [k0_pay1, k0_pay2, k0_pay3, k0_pay4, k0_pay5, k0_pay6, k0_pay7, dot_S256x1024_S2816x1024_S256x2816_1_1_0_0_n_n]

/-! ## The arrays -/

variable (m : (ℓ : Loc nD τ sig) → Buf (Elt Ideal) ℓ) (c : Dev nD)

/-- The product's left operand. -/
abbrev arrA : S2048x2816.Idx → EReal := m ((c : Thread nD τ).loc main_arg0)
/-- The weight. -/
abbrev arrW : S2816x1024.Idx → EReal := m ((c : Thread nD τ).loc main_arg1)
/-- The scale. -/
abbrev arrG : S1x1024.Idx → EReal := m ((c : Thread nD τ).loc main_arg2)
/-- The output's gradient. -/
abbrev arrD : S2048x1024.Idx → EReal := m ((c : Thread nD τ).loc main_arg3)
/-- An operand times a weight. -/
def prod (x : S2048x2816.Idx → EReal) (w : S2816x1024.Idx → EReal) : S2048x1024.Idx → EReal :=
  fun i => ∑ n : Fin 2816, x (ix2 (i 0) n) * w (ix2 n (i 1))
/-- The product. -/
abbrev arrY : S2048x1024.Idx → EReal := prod (arrA m c) (arrW m c)

/-- The lines before the kernel compute the product. -/
theorem V_y (p : Fin 2048) (q : Fin 1024) : V m c main_v3 (ix2 p q) = arrY m c (ix2 p q) := by
  have e : V m c main_v3 = (truncf .bf16 (Host.dotGeneral (F := Ideal) dot_S2048x2816_S2816x1024_S2048x1024_1_0_0_1_n_n none
      (extf .f32 (arrA m c : FVec Ideal S2048x2816 .bf16) bitsLt_bf16_f32) (extf .f32 (arrW m c : FVec Ideal S2816x1024 .bf16) bitsLt_bf16_f32)) bitsLt_bf16_f32 : FVec Ideal S2048x1024 .bf16) := by
    unfold_abbrev_sides
    after_results
  rw [e]
  unfold arrY prod
  pointwise [dot_S2048x2816_S2816x1024_S2048x1024_1_0_0_1_n_n]

/-- Row `r` of grid point `t`'s block. -/
abbrev brow (t : Fin cfg0.N) (r : Fin 256) : Fin 2048 := row (a := 8) (b := 256) rfl (t.cast N_0) r

theorem index0 : ∀ t : Fin grid0.N, win0_0.index t 0 = t.val ∧ win0_0.index t 1 = 0 := by decide +kernel

theorem emb0 (t : Fin cfg0.N) (r : Fin 256) (q : Fin 1024) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 1024 + q.val = q.val
    rw [(index0 t).2]; omega

/-- The block of window 0 that a point reads. -/
def blk0 (t : Fin cfg0.N) : Vec Ideal S256x1024 .f32 := iblk m c 0 t

theorem blk0_apply (t : Fin cfg0.N) (r : Fin 256) (q : Fin 1024) : blk0 m c t (ix2 r q) = arrD m c (ix2 (brow t r) q) := by
  show V m c main_arg3 ((win0_0.rect t).emb (ix2 r q)) = _
  rw [emb0, V_main_arg3]

theorem index1 : ∀ t : Fin grid0.N, win0_1.index t 0 = t.val ∧ win0_1.index t 1 = 0 := by decide +kernel

theorem emb1 (t : Fin cfg0.N) (r : Fin 256) (q : Fin 1024) : (win0_1.rect t).emb (ix2 r q) = ix2 (brow t r) q := by
  funext a
  apply Fin.ext
  refine (win0_1.rect_emb_val t (ix2 r q) a).trans ?_
  fin_cases a
  · show win0_1.index t 0 * 256 + r.val = 256 * t.val + r.val
    rw [(index1 t).1]; omega
  · show win0_1.index t 1 * 1024 + q.val = q.val
    rw [(index1 t).2]; omega

/-- The block of window 1 that a point reads. -/
def blk1 (t : Fin cfg0.N) : Vec Ideal S256x1024 .bf16 := iblk m c 1 t

theorem blk1_apply (t : Fin cfg0.N) (r : Fin 256) (q : Fin 1024) : blk1 m c t (ix2 r q) = arrY m c (ix2 (brow t r) q) := by
  show V m c main_v3 ((win0_1.rect t).emb (ix2 r q)) = _
  rw [emb1, V_y]

theorem index4 : ∀ t : Fin grid0.N, win0_4.index t 0 = t.val ∧ win0_4.index t 1 = 0 := by decide +kernel

theorem emb4 (t : Fin cfg0.N) (r : Fin 256) (q : Fin 1024) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 1024 + q.val = q.val
    rw [(index4 t).2]; omega

theorem index5 : ∀ t : Fin grid0.N, win0_5.index t 0 = t.val ∧ win0_5.index t 1 = 0 := by decide +kernel

theorem emb5 (t : Fin cfg0.N) (r : Fin 256) (q : Fin 2816) : (win0_5.rect t).emb (ix2 r q) = ix2 (brow t r) q := by
  funext a
  apply Fin.ext
  refine (win0_5.rect_emb_val t (ix2 r q) a).trans ?_
  fin_cases a
  · show win0_5.index t 0 * 256 + r.val = 256 * t.val + r.val
    rw [(index5 t).1]; omega
  · show win0_5.index t 1 * 2816 + q.val = q.val
    rw [(index5 t).2]; omega

theorem index2 : ∀ t : Fin grid0.N, win0_2.index t 0 = 0 ∧ win0_2.index t 1 = 0 := by decide +kernel

theorem emb2 (t : Fin cfg0.N) (y : S1x1024.Idx) : (win0_2.rect t).emb y = y := by
  funext a
  apply Fin.ext
  refine (win0_2.rect_emb_val t y a).trans ?_
  fin_cases a
  · show win0_2.index t 0 * 1 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S1x1024 .f32 := iblk m c 2 t

theorem blk2_eq (t : Fin cfg0.N) : blk2 m c t = arrG m c := by
  funext y
  show V m c main_arg2 ((win0_2.rect t).emb y) = _
  rw [emb2, V_main_arg2]

theorem index3 : ∀ t : Fin grid0.N, win0_3.index t 0 = 0 ∧ win0_3.index t 1 = 0 := by decide +kernel

theorem emb3 (t : Fin cfg0.N) (y : S2816x1024.Idx) : (win0_3.rect t).emb y = y := by
  funext a
  apply Fin.ext
  refine (win0_3.rect_emb_val t y a).trans ?_
  fin_cases a
  · show win0_3.index t 0 * 2816 + (y 0).val = (y 0).val
    rw [(index3 t).1]; omega
  · show win0_3.index t 1 * 1024 + (y 1).val = (y 1).val
    rw [(index3 t).2]; omega

/-- The array of window 3, which every point reads whole. -/
def blk3 (t : Fin cfg0.N) : Vec Ideal S2816x1024 .bf16 := iblk m c 3 t

theorem blk3_eq (t : Fin cfg0.N) : blk3 m c t = arrW m c := by
  funext y
  show V m c main_arg1 ((win0_3.rect t).emb y) = _
  rw [emb3, V_main_arg1]

theorem index6 : ∀ t : Fin grid0.N, win0_6.index t 0 = 0 ∧ win0_6.index t 1 = 0 := by decide +kernel

theorem emb6 (t : Fin cfg0.N) (y : S1x1024.Idx) : (win0_6.rect t).emb y = y := by
  funext a
  apply Fin.ext
  refine (win0_6.rect_emb_val t y a).trans ?_
  fin_cases a
  · show win0_6.index t 0 * 1 + (y 0).val = (y 0).val
    rw [(index6 t).1]; omega
  · show win0_6.index t 1 * 1024 + (y 1).val = (y 1).val
    rw [(index6 t).2]; omega

theorem dy_blk (t : Fin cfg0.N) (r : Fin 256) (q : Fin 1024) :
    dyAt (blk0 m c t) (blk1 m c t) (blk2 m c t) r q = dyAt (arrD m c) (arrY m c) (arrG m c) (brow t r) q := by
  unfold dyAt
  simp only [blk0_apply, blk1_apply, blk2_eq]

theorem da_blk (t : Fin cfg0.N) (r : Fin 256) (j : Fin 2816) :
    daAt (blk0 m c t) (blk1 m c t) (blk2 m c t) (blk3 m c t) r j = daAt (arrD m c) (arrY m c) (arrG m c) (arrW m c) (brow t r) j := by
  unfold daAt
  simp only [dy_blk, blk3_eq]

theorem dg_blk (t : Fin cfg0.N) (r : Fin 256) (q : Fin 1024) :
    dgAt (blk0 m c t) (blk1 m c t) r q = dgAt (arrD m c) (arrY m c) (brow t r) q := by
  unfold dgAt
  simp only [blk0_apply, blk1_apply]

theorem outs_A (t : Fin cfg0.N) (h0 : t.val % 8 = 0) : outsAt0 m c t.val t.isLt =
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t)) :=
  outsAt0_A m c t h0

theorem outs_B (t : Fin cfg0.N) (h0 : ¬t.val % 8 = 0) : outsAt0 m c t.val t.isLt =
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2) :=
  outsAt0_B m c t h0

/-- The product's gradient that a point leaves. -/
theorem outs_dy (t : Fin cfg0.N) (r : Fin 256) (q : Fin 1024) :
    (outsAt0 m c t.val t.isLt).1 (ix2 r q) = dyAt (arrD m c) (arrY m c) (arrG m c) (brow t r) q := by
  rw [← dy_blk]
  by_cases h0 : t.val % 8 = 0
  · rw [outs_A m c t h0]; dsimp only; exact dy_A ..
  · rw [outs_B m c t h0]; dsimp only; exact dy_B ..

/-- The product's gradient after the run. -/
theorem final_dy (n : Fin 2048) (q : Fin 1024) :
    (Gen.dats m 0 c).arrAt 4 cfg0.N (ix2 n q) = dyAt (arrD m c) (arrY m c) (arrG m c) n q := by
  obtain ⟨t, r, rfl⟩ := exists_row (a := 8) (b := 256) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans (outs_dy m c (t.cast N_0.symm) r q))
  exact congrArg ((Gen.dats m 0 c).arrAt 4 cfg0.N) he.symm

/-- The left operand's gradient that a point leaves. -/
theorem outs_da (t : Fin cfg0.N) (r : Fin 256) (q : Fin 2816) :
    (outsAt0 m c t.val t.isLt).2.1 (ix2 r q) = daAt (arrD m c) (arrY m c) (arrG m c) (arrW m c) (brow t r) q := by
  rw [← da_blk]
  by_cases h0 : t.val % 8 = 0
  · rw [outs_A m c t h0]; dsimp only; exact da_A ..
  · rw [outs_B m c t h0]; dsimp only; exact da_B ..

/-- The left operand's gradient after the run. -/
theorem final_da (n : Fin 2048) (q : Fin 2816) :
    (Gen.dats m 0 c).arrAt 5 cfg0.N (ix2 n q) = daAt (arrD m c) (arrY m c) (arrG m c) (arrW m c) n q := by
  obtain ⟨t, r, rfl⟩ := exists_row (a := 8) (b := 256) (N := 2048) rfl (by decide) n
  have hb := congrFun (Value.blocks5 m c (t.cast N_0.symm) (flush0_5 _)) (ix2 r q)
  rw [Value.flushed5] at hb
  have he := emb5 (t.cast N_0.symm) r q
  refine Eq.trans ?_ (hb.trans (outs_da m c (t.cast N_0.symm) r q))
  exact congrArg ((Gen.dats m 0 c).arrAt 5 cfg0.N) he.symm

theorem last_lt : 7 < cfg0.N := lt_of_lt_of_eq (by decide) N_0.symm

/-- The scale's gradient after the last point. -/
theorem outs_dg (u : Fin 1) (q : Fin 1024) :
    (outsAt0 m c 7 last_lt).2.2 (ix2 u q) = ∑ n, dgAt (arrD m c) (arrY m c) n q := by
  rw [sum_rows (a := 8) (b := 256) rfl]
  refine (sum_upto (fun n h => (outsAt0 m c n h).2.2 (ix2 u q))
    (fun t => ∑ r, dgAt (arrD m c) (arrY m c) (brow t r) q) (fun h => ?_) (fun n h => ?_) 7 last_lt).trans rfl
  · have e := outs_A m c ⟨0, h⟩ rfl
    dsimp only at e ⊢
    rw [e]
    simp only [← dg_blk]
    exact dg_A ..
  · have hn : n + 1 < 8 := lt_of_lt_of_eq h N_0
    have e := outs_B m c ⟨n + 1, h⟩ (by dsimp only; omega)
    dsimp only [Nat.add_sub_cancel] at e ⊢
    rw [e]
    simp only [← dg_blk]
    exact dg_B ..

theorem cover_dg (i : S1x1024.Idx) : ∃ t : Fin cfg0.N, (cfg0.win 6).flush t = true ∧ i ∈ ((cfg0.win 6).blk t).view.set := by
  refine ⟨⟨7, last_lt⟩, (flush0_6 _).mpr rfl, ?_⟩
  have h := ((cfg0.win 6).blk ⟨7, last_lt⟩).view.emb_mem_set i
  exact (emb6 ⟨7, last_lt⟩ i) ▸ h

/-- The scale's gradient after the run. -/
theorem final_dg (u : Fin 1) (q : Fin 1024) :
    (Gen.dats m 0 c).arrAt 6 cfg0.N (ix2 u q) = ∑ n, dgAt (arrD m c) (arrY m c) n q := by
  rw [← outs_dg m c u q]
  have hN : cfg0.N = 8 := N_0
  refine congrFun ((Gen.dats m 0 c).arrAt_eq_of_cover 6 (outsAt0 m c 7 last_lt).2.2 (fun t hf => ?_) fun i => cover_dg i) (ix2 u q)
  have h3 : t.val = 7 := by have := (flush0_6 t).mp hf; have := t.isLt; omega
  obtain rfl : t = ⟨7, last_lt⟩ := Fin.ext h3
  rw [Value.flushed6]
  funext z
  exact (congrArg (outsAt0 m c 7 last_lt).2.2 (emb6 ⟨7, last_lt⟩ z)).symm

/-! ## The reference -/

/-- The reference's product. -/
theorem ref_y (x0 : (⟨Cert.DownBwdRefIdeal.S2048x2816, .bf16⟩ : BufTy).Contents (Elt Ideal)) (x1 : (⟨Cert.DownBwdRefIdeal.S2816x1024, .bf16⟩ : BufTy).Contents (Elt Ideal)) (p : Fin 2048) (q : Fin 1024) : Cert.DownBwdRefIdeal.Read.val_main_v2 (F := Ideal) x0 x1 (ix2 p q) = prod x0 x1 (ix2 p q) := by
  unfold prod
  pointwise [Cert.DownBwdRefIdeal.Read.val_main_v2, Cert.DownBwdRefIdeal.Read.val_main_v1, Cert.DownBwdRefIdeal.Read.val_main_v0]

/-- The reference's gradient of the scale. -/
theorem ref_dg (x0 : (⟨Cert.DownBwdRefIdeal.S2048x2816, .bf16⟩ : BufTy).Contents (Elt Ideal)) (x1 : (⟨Cert.DownBwdRefIdeal.S2816x1024, .bf16⟩ : BufTy).Contents (Elt Ideal)) (x3 : (⟨Cert.DownBwdRefIdeal.S2048x1024, .f32⟩ : BufTy).Contents (Elt Ideal)) (u : Fin 1) (q : Fin 1024) :
    Cert.DownBwdRefIdeal.Read.val_main_v20 (F := Ideal) x0 x1 x3 (ix2 u q) = ∑ p, dgAt x3 (prod x0 x1) p q := by
  unfold dgAt root meanSq width eps
  simp only [← ref_y]
  pointwise [Cert.DownBwdRefIdeal.Read.val_main_v20, Cert.DownBwdRefIdeal.Read.val_main_v19, Cert.DownBwdRefIdeal.Read.val_main_v18, Cert.DownBwdRefIdeal.Read.val_main_v15, Cert.DownBwdRefIdeal.Read.val_main_v14, Cert.DownBwdRefIdeal.Read.val_main_v10, Cert.DownBwdRefIdeal.Read.val_main_v9, Cert.DownBwdRefIdeal.Read.val_main_v8, Cert.DownBwdRefIdeal.Read.val_main_cst_1, Cert.DownBwdRefIdeal.Read.val_main_v7, Cert.DownBwdRefIdeal.Read.val_main_v6, Cert.DownBwdRefIdeal.Read.val_main_cst_0, Cert.DownBwdRefIdeal.Read.val_main_v5, Cert.DownBwdRefIdeal.Read.val_main_v4, Cert.DownBwdRefIdeal.Read.val_main_v3, Cert.DownBwdRefIdeal.Read.val_main_v1, Cert.DownBwdRefIdeal.Read.val_main_v0, Cert.DownBwdRefIdeal.Read.val_main_cst, Cert.DownBwdRefIdeal.Read.val_main_cst_3]
  exact Finset.sum_congr rfl fun p _ => mul_comm _ _

/-- The reference's gradient of the product. -/
theorem ref_dy (x0 : (⟨Cert.DownBwdRefIdeal.S2048x2816, .bf16⟩ : BufTy).Contents (Elt Ideal)) (x1 : (⟨Cert.DownBwdRefIdeal.S2816x1024, .bf16⟩ : BufTy).Contents (Elt Ideal)) (x2 : (⟨Cert.DownBwdRefIdeal.S1x1024, .f32⟩ : BufTy).Contents (Elt Ideal)) (x3 : (⟨Cert.DownBwdRefIdeal.S2048x1024, .f32⟩ : BufTy).Contents (Elt Ideal)) (p : Fin 2048) (q : Fin 1024) :
    Cert.DownBwdRefIdeal.Read.val_main_v36 (F := Ideal) x0 x1 x2 x3 (ix2 p q) = chainGrad (fun k => x3 (ix2 p k) * x2 (ix2 0 k)) (fun k => prod x0 x1 (ix2 p k)) q := by
  unfold chainGrad meanGrad root meanSq width eps mhalf
  simp only [← ref_y]
  pointwise [Cert.DownBwdRefIdeal.Read.val_main_v36, Cert.DownBwdRefIdeal.Read.val_main_v35, Cert.DownBwdRefIdeal.Read.val_main_v1, Cert.DownBwdRefIdeal.Read.val_main_v0, Cert.DownBwdRefIdeal.Read.val_main_v32, Cert.DownBwdRefIdeal.Read.val_main_v31, Cert.DownBwdRefIdeal.Read.val_main_v30, Cert.DownBwdRefIdeal.Read.val_main_v29, Cert.DownBwdRefIdeal.Read.val_main_cst_5, Cert.DownBwdRefIdeal.Read.val_main_v28, Cert.DownBwdRefIdeal.Read.val_main_v13, Cert.DownBwdRefIdeal.Read.val_main_v11, Cert.DownBwdRefIdeal.Read.val_main_v9, Cert.DownBwdRefIdeal.Read.val_main_v8, Cert.DownBwdRefIdeal.Read.val_main_cst_1, Cert.DownBwdRefIdeal.Read.val_main_v7, Cert.DownBwdRefIdeal.Read.val_main_v6, Cert.DownBwdRefIdeal.Read.val_main_cst_0, Cert.DownBwdRefIdeal.Read.val_main_v5, Cert.DownBwdRefIdeal.Read.val_main_v4, Cert.DownBwdRefIdeal.Read.val_main_v3, Cert.DownBwdRefIdeal.Read.val_main_cst, Cert.DownBwdRefIdeal.Read.val_main_v10, Cert.DownBwdRefIdeal.Read.val_main_v12, Cert.DownBwdRefIdeal.Read.val_main_cst_2, Cert.DownBwdRefIdeal.Read.val_main_v25, Cert.DownBwdRefIdeal.Read.val_main_v24, Cert.DownBwdRefIdeal.Read.val_main_v23, Cert.DownBwdRefIdeal.Read.val_main_v22, Cert.DownBwdRefIdeal.Read.val_main_v21, Cert.DownBwdRefIdeal.Read.val_main_cst_4, Cert.DownBwdRefIdeal.Read.val_main_cst_6, Cert.DownBwdRefIdeal.Read.val_main_v34, Cert.DownBwdRefIdeal.Read.val_main_v33, Cert.DownBwdRefIdeal.Read.val_main_v27, Cert.DownBwdRefIdeal.Read.val_main_v26]
  simp only [Fin.sum_univ_one]

/-- The same, by the closed form. -/
theorem ref_dy_closed (x0 : (⟨Cert.DownBwdRefIdeal.S2048x2816, .bf16⟩ : BufTy).Contents (Elt Ideal)) (x1 : (⟨Cert.DownBwdRefIdeal.S2816x1024, .bf16⟩ : BufTy).Contents (Elt Ideal)) (x2 : (⟨Cert.DownBwdRefIdeal.S1x1024, .f32⟩ : BufTy).Contents (Elt Ideal)) (x3 : (⟨Cert.DownBwdRefIdeal.S2048x1024, .f32⟩ : BufTy).Contents (Elt Ideal)) (p : Fin 2048) (q : Fin 1024) :
    Cert.DownBwdRefIdeal.Read.val_main_v36 (F := Ideal) x0 x1 x2 x3 (ix2 p q) = dyAt x3 (prod x0 x1) x2 p q :=
  (ref_dy x0 x1 x2 x3 p q).trans (normGrad_eq _ _ q).symm

/-- The reference's gradient of the left operand. -/
theorem ref_da (x0 : (⟨Cert.DownBwdRefIdeal.S2048x2816, .bf16⟩ : BufTy).Contents (Elt Ideal)) (x1 : (⟨Cert.DownBwdRefIdeal.S2816x1024, .bf16⟩ : BufTy).Contents (Elt Ideal)) (x2 : (⟨Cert.DownBwdRefIdeal.S1x1024, .f32⟩ : BufTy).Contents (Elt Ideal)) (x3 : (⟨Cert.DownBwdRefIdeal.S2048x1024, .f32⟩ : BufTy).Contents (Elt Ideal)) (p : Fin 2048) (q : Fin 2816) :
    Cert.DownBwdRefIdeal.Read.val_main_v39 (F := Ideal) x0 x1 x2 x3 (ix2 p q) = daAt x3 (prod x0 x1) x2 x1 p q := by
  unfold daAt
  simp only [← ref_dy_closed x0 x1 x2 x3]
  pointwise [Cert.DownBwdRefIdeal.Read.val_main_v39, Cert.DownBwdRefIdeal.Read.val_main_v38, Cert.DownBwdRefIdeal.Read.val_main_v1]

/-! ## The claim -/

theorem dg_eq : (Gen.dats m 0 c).arrAt 6 cfg0.N = Cert.DownBwdRefIdeal.Read.val_main_v20 (F := Ideal) (arrA m c) (arrW m c) (arrD m c) := by
  funext y
  obtain ⟨u, q, rfl⟩ : ∃ (u : Fin 1) (q : Fin 1024), y = ix2 u q := ⟨y 0, y 1, eq_ix2 y⟩
  exact (final_dg m c u q).trans (ref_dg _ _ _ u q).symm

theorem dy_eq :
    (Gen.dats m 0 c).arrAt 4 cfg0.N = Cert.DownBwdRefIdeal.Read.val_main_v37 (F := Ideal) (arrA m c) (arrW m c) (arrG m c) (arrD m c) := by
  funext y
  obtain ⟨p, q, rfl⟩ : ∃ (p : Fin 2048) (q : Fin 1024), y = ix2 p q := ⟨y 0, y 1, eq_ix2 y⟩
  exact (final_dy m c p q).trans (ref_dy_closed _ _ _ _ p q).symm

theorem da_eq :
    (Gen.dats m 0 c).arrAt 5 cfg0.N = Cert.DownBwdRefIdeal.Read.val_main_v39 (F := Ideal) (arrA m c) (arrW m c) (arrG m c) (arrD m c) := by
  funext y
  obtain ⟨p, q, rfl⟩ : ∃ (p : Fin 2048) (q : Fin 2816), y = ix2 p q := ⟨y 0, y 1, eq_ix2 y⟩
  exact (final_da m c p q).trans (ref_da _ _ _ _ p q).symm

/-- The kernel's run and the reference's run leave equal arrays. -/
theorem algebraic : Cert.algebraic_DownBwdIdeal_DownBwdRefIdeal := by
  intro m g m' g' _ hagree
  refine ⟨fun c => (Gen.dats m 0 c).arrAt 4 cfg0.N, fun c => (Gen.dats m 0 c).arrAt 5 cfg0.N, fun c => (Gen.dats m 0 c).arrAt 6 cfg0.N, Value.run_blocks m g, ?_⟩
  refine (θ_run _ _ _).mono (fun r h c => ?_) (Cert.DownBwdRefIdeal.Value.run (F := Ideal) m' g')
  obtain ⟨e0, e1, e2, ea⟩ := h c
  obtain ⟨a0, a1, a2, a3⟩ := hagree c
  refine ⟨e0.trans ?_, e1.trans ?_, e2.trans ?_, ea⟩
  · rw [Cert.DownBwdRefIdeal.Read.val_main_v37_eq, a0, a1, a2, a3]; exact (dy_eq m c).symm
  · rw [Cert.DownBwdRefIdeal.Read.val_main_v39_eq, a0, a1, a2, a3]; exact (da_eq m c).symm
  · rw [Cert.DownBwdRefIdeal.Read.val_main_v20_eq, a0, a1, a3]; exact (dg_eq m c).symm

end Cert.DownBwdIdeal.Hand

end
-- ==== Proof.SquareBwd.lean ====
/- The gradients of the norm after an output projection, as the kernel leaves them: the product's gradient is `normGrad` of
   the scaled output gradient, the input's gradient is its product with the weight, and the scale's gradient is the sum
   over the rows, one block of rows per grid point. The rows of the product come to the kernel from the lines before it. -/
module

public import proofs.«01_k».proof.Defs
public import proofs.«01_k».proof.Proof.Gen.SquareBwdIdeal.Value
public import proofs.«01_k».proof.Proof.Gen.SquareBwdRefIdeal.Read
public import proofs.«01_k».proof.Proof.Blocks
public import proofs.«01_k».proof.Proof.Accumulate
public import proofs.«01_k».proof.Proof.NormGrad
public import Idealize.ShloMosaic.Lib.Pipeline.ValueKit

@[expose] public section

set_option maxRecDepth 16384

noncomputable section

namespace Cert.SquareBwdIdeal.Hand

open Cert.SquareBwdIdeal Cert.SquareBwdIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

/-- The gradient of the product's rows. -/
def dyAt {M : ℕ} (d y : (⟨2, ![M, 1024]⟩ : Shape).Idx → EReal) (g : S1x1024.Idx → EReal) (p : Fin M) (q : Fin 1024) : EReal :=
  normGrad (fun k => d (ix2 p k) * g (ix2 0 k)) (fun k => y (ix2 p k)) q

/-- The gradient of the product's left operand. -/
def daAt {M : ℕ} (d y : (⟨2, ![M, 1024]⟩ : Shape).Idx → EReal) (g : S1x1024.Idx → EReal) (w : S1024x1024.Idx → EReal) (p : Fin M) (j : Fin 1024) : EReal :=
  ∑ k : Fin 1024, dyAt d y g p k * w (ix2 j k)

/-- A row's part of the scale's gradient. -/
def dgAt {M : ℕ} (d y : (⟨2, ![M, 1024]⟩ : Shape).Idx → EReal) (p : Fin M) (q : Fin 1024) : EReal :=
  d (ix2 p q) * (y (ix2 p q) * root (fun k => y (ix2 p k)))

theorem dy_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S1024x1024 .bf16) (p : Fin 256) (q : Fin 1024) :
    out0_A_4 c i arg1 harg1 arg2 harg2 arg3 harg3 arg4 harg4 arg5 harg5 arg6 harg6 arg7 harg7 hc0 x0 x1 x2 x3 (ix2 p q) = dyAt x0 x1 x2 p q := by
  unfold out0_A_4
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold dyAt normGrad root meanSq width eps
  pointwise [k0_pay1, k0_pay2, k0_pay3, k0_pay4, k0_pay5, k0_pay6, k0_pay7, dot_S256x1024_S1024x1024_S256x1024_1_1_0_0_n_n]

theorem da_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S1024x1024 .bf16) (p : Fin 256) (q : Fin 1024) :
    out0_A_5 c i arg1 harg1 arg2 harg2 arg3 harg3 arg4 harg4 arg5 harg5 arg6 harg6 arg7 harg7 hc0 x0 x1 x2 x3 (ix2 p q) = daAt x0 x1 x2 x3 p q := by
  unfold out0_A_5
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold daAt dyAt normGrad root meanSq width eps
  pointwise [k0_pay1, k0_pay2, k0_pay3, k0_pay4, k0_pay5, k0_pay6, k0_pay7, dot_S256x1024_S1024x1024_S256x1024_1_1_0_0_n_n]

theorem dg_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : cond0_0 i)
    (x0 : Vec Ideal S256x1024 .f32) (x1 : Vec Ideal S256x1024 .bf16) (x2 : Vec Ideal S1x1024 .f32) (x3 : Vec Ideal S1024x1024 .bf16) (u : Fin 1) (q : Fin 1024) :
    out0_A_6 c i arg1 harg1 arg2 harg2 arg3 harg3 arg4 harg4 arg5 harg5 arg6 harg6 arg7 harg7 hc0 x0 x1 x2 x3 (ix2 u q) = ∑ p, dgAt x0 x1 p q := by
  unfold out0_A_6
  rw [View.read_writes_junk_eq_canon]
  unfold kernelRun0_A
  dsimp only
  sl_unfold_words
  rw [View.canon_cons_unit_zero zeros]
  simp only [View.readCov_unit_zero (S := S1x1024) _ zeros, View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold dgAt root meanSq width eps
  pointwise [k0_pay1, k0_pay2, k0_pay3, k0_pay4, k0_pay5, k0_pay6, k0_pay7, dot_S256x1024_S1024x1024_S256x1024_1_1_0_0_n_n]

theorem dy_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S1024x1024 .bf16) (xo6 : Vec Ideal S1x1024 .f32) (p : Fin 256) (q : Fin 1024) :
    out0_B_4 c i arg1 harg1 arg2 harg2 arg3 harg3 arg4 harg4 arg5 harg5 arg6 harg6 arg7 harg7 hc0 x0 x1 x2 x3 xo6 (ix2 p q) = dyAt x0 x1 x2 p q := by
  unfold out0_B_4
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold dyAt normGrad root meanSq width eps
  pointwise [k0_pay1, k0_pay2, k0_pay3, k0_pay4, k0_pay5, k0_pay6, k0_pay7, dot_S256x1024_S1024x1024_S256x1024_1_1_0_0_n_n]

theorem da_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S1024x1024 .bf16) (xo6 : Vec Ideal S1x1024 .f32) (p : Fin 256) (q : Fin 1024) :
    out0_B_5 c i arg1 harg1 arg2 harg2 arg3 harg3 arg4 harg4 arg5 harg5 arg6 harg6 arg7 harg7 hc0 x0 x1 x2 x3 xo6 (ix2 p q) = daAt x0 x1 x2 x3 p q := by
  unfold out0_B_5
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold daAt dyAt normGrad root meanSq width eps
  pointwise [k0_pay1, k0_pay2, k0_pay3, k0_pay4, k0_pay5, k0_pay6, k0_pay7, dot_S256x1024_S1024x1024_S256x1024_1_1_0_0_n_n]

theorem dg_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (hc0 : ¬cond0_0 i)
    (x0 : Vec Ideal S256x1024 .f32) (x1 : Vec Ideal S256x1024 .bf16) (x2 : Vec Ideal S1x1024 .f32) (x3 : Vec Ideal S1024x1024 .bf16) (xo6 : Vec Ideal S1x1024 .f32) (u : Fin 1) (q : Fin 1024) :
    out0_B_6 c i arg1 harg1 arg2 harg2 arg3 harg3 arg4 harg4 arg5 harg5 arg6 harg6 arg7 harg7 hc0 x0 x1 x2 x3 xo6 (ix2 u q) = xo6 (ix2 u q) + ∑ p, dgAt x0 x1 p q := by
  unfold out0_B_6
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, View.ld_unit_zero (S := S256x1024) zeros, View.ld_unit_zero (S := S1x1024) zeros, View.ld_unit_zero (S := S1024x1024) zeros]
  unfold dgAt root meanSq width eps
  pointwise [k0_pay1, k0_pay2, k0_pay3, k0_pay4, k0_pay5, k0_pay6, k0_pay7, dot_S256x1024_S1024x1024_S256x1024_1_1_0_0_n_n]

/-! ## The arrays -/

variable (m : (ℓ : Loc nD τ sig) → Buf (Elt Ideal) ℓ) (c : Dev nD)

/-- The product's left operand. -/
abbrev arrA : S2048x1024.Idx → EReal := m ((c : Thread nD τ).loc main_arg0)
/-- The weight. -/
abbrev arrW : S1024x1024.Idx → EReal := m ((c : Thread nD τ).loc main_arg1)
/-- The scale. -/
abbrev arrG : S1x1024.Idx → EReal := m ((c : Thread nD τ).loc main_arg2)
/-- The output's gradient. -/
abbrev arrD : S2048x1024.Idx → EReal := m ((c : Thread nD τ).loc main_arg3)
/-- An operand times a weight. -/
def prod (x : S2048x1024.Idx → EReal) (w : S1024x1024.Idx → EReal) : S2048x1024.Idx → EReal :=
  fun i => ∑ n : Fin 1024, x (ix2 (i 0) n) * w (ix2 n (i 1))
/-- The product. -/
abbrev arrY : S2048x1024.Idx → EReal := prod (arrA m c) (arrW m c)

/-- The lines before the kernel compute the product. -/
theorem V_y (p : Fin 2048) (q : Fin 1024) : V m c main_v3 (ix2 p q) = arrY m c (ix2 p q) := by
  have e : V m c main_v3 = (truncf .bf16 (Host.dotGeneral (F := Ideal) dot_S2048x1024_S1024x1024_S2048x1024_1_0_0_1_n_n none
      (extf .f32 (arrA m c : FVec Ideal S2048x1024 .bf16) bitsLt_bf16_f32) (extf .f32 (arrW m c : FVec Ideal S1024x1024 .bf16) bitsLt_bf16_f32)) bitsLt_bf16_f32 : FVec Ideal S2048x1024 .bf16) := by
    unfold_abbrev_sides
    after_results
  rw [e]
  unfold arrY prod
  pointwise [dot_S2048x1024_S1024x1024_S2048x1024_1_0_0_1_n_n]

/-- Row `r` of grid point `t`'s block. -/
abbrev brow (t : Fin cfg0.N) (r : Fin 256) : Fin 2048 := row (a := 8) (b := 256) rfl (t.cast N_0) r

theorem index0 : ∀ t : Fin grid0.N, win0_0.index t 0 = t.val ∧ win0_0.index t 1 = 0 := by decide +kernel

theorem emb0 (t : Fin cfg0.N) (r : Fin 256) (q : Fin 1024) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 1024 + q.val = q.val
    rw [(index0 t).2]; omega

/-- The block of window 0 that a point reads. -/
def blk0 (t : Fin cfg0.N) : Vec Ideal S256x1024 .f32 := iblk m c 0 t

theorem blk0_apply (t : Fin cfg0.N) (r : Fin 256) (q : Fin 1024) : blk0 m c t (ix2 r q) = arrD m c (ix2 (brow t r) q) := by
  show V m c main_arg3 ((win0_0.rect t).emb (ix2 r q)) = _
  rw [emb0, V_main_arg3]

theorem index1 : ∀ t : Fin grid0.N, win0_1.index t 0 = t.val ∧ win0_1.index t 1 = 0 := by decide +kernel

theorem emb1 (t : Fin cfg0.N) (r : Fin 256) (q : Fin 1024) : (win0_1.rect t).emb (ix2 r q) = ix2 (brow t r) q := by
  funext a
  apply Fin.ext
  refine (win0_1.rect_emb_val t (ix2 r q) a).trans ?_
  fin_cases a
  · show win0_1.index t 0 * 256 + r.val = 256 * t.val + r.val
    rw [(index1 t).1]; omega
  · show win0_1.index t 1 * 1024 + q.val = q.val
    rw [(index1 t).2]; omega

/-- The block of window 1 that a point reads. -/
def blk1 (t : Fin cfg0.N) : Vec Ideal S256x1024 .bf16 := iblk m c 1 t

theorem blk1_apply (t : Fin cfg0.N) (r : Fin 256) (q : Fin 1024) : blk1 m c t (ix2 r q) = arrY m c (ix2 (brow t r) q) := by
  show V m c main_v3 ((win0_1.rect t).emb (ix2 r q)) = _
  rw [emb1, V_y]

theorem index4 : ∀ t : Fin grid0.N, win0_4.index t 0 = t.val ∧ win0_4.index t 1 = 0 := by decide +kernel

theorem emb4 (t : Fin cfg0.N) (r : Fin 256) (q : Fin 1024) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 1024 + q.val = q.val
    rw [(index4 t).2]; omega

theorem index5 : ∀ t : Fin grid0.N, win0_5.index t 0 = t.val ∧ win0_5.index t 1 = 0 := by decide +kernel

theorem emb5 (t : Fin cfg0.N) (r : Fin 256) (q : Fin 1024) : (win0_5.rect t).emb (ix2 r q) = ix2 (brow t r) q := by
  funext a
  apply Fin.ext
  refine (win0_5.rect_emb_val t (ix2 r q) a).trans ?_
  fin_cases a
  · show win0_5.index t 0 * 256 + r.val = 256 * t.val + r.val
    rw [(index5 t).1]; omega
  · show win0_5.index t 1 * 1024 + q.val = q.val
    rw [(index5 t).2]; omega

theorem index2 : ∀ t : Fin grid0.N, win0_2.index t 0 = 0 ∧ win0_2.index t 1 = 0 := by decide +kernel

theorem emb2 (t : Fin cfg0.N) (y : S1x1024.Idx) : (win0_2.rect t).emb y = y := by
  funext a
  apply Fin.ext
  refine (win0_2.rect_emb_val t y a).trans ?_
  fin_cases a
  · show win0_2.index t 0 * 1 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S1x1024 .f32 := iblk m c 2 t

theorem blk2_eq (t : Fin cfg0.N) : blk2 m c t = arrG m c := by
  funext y
  show V m c main_arg2 ((win0_2.rect t).emb y) = _
  rw [emb2, V_main_arg2]

theorem index3 : ∀ t : Fin grid0.N, win0_3.index t 0 = 0 ∧ win0_3.index t 1 = 0 := by decide +kernel

theorem emb3 (t : Fin cfg0.N) (y : S1024x1024.Idx) : (win0_3.rect t).emb y = y := by
  funext a
  apply Fin.ext
  refine (win0_3.rect_emb_val t y a).trans ?_
  fin_cases a
  · show win0_3.index t 0 * 1024 + (y 0).val = (y 0).val
    rw [(index3 t).1]; omega
  · show win0_3.index t 1 * 1024 + (y 1).val = (y 1).val
    rw [(index3 t).2]; omega

/-- The array of window 3, which every point reads whole. -/
def blk3 (t : Fin cfg0.N) : Vec Ideal S1024x1024 .bf16 := iblk m c 3 t

theorem blk3_eq (t : Fin cfg0.N) : blk3 m c t = arrW m c := by
  funext y
  show V m c main_arg1 ((win0_3.rect t).emb y) = _
  rw [emb3, V_main_arg1]

theorem index6 : ∀ t : Fin grid0.N, win0_6.index t 0 = 0 ∧ win0_6.index t 1 = 0 := by decide +kernel

theorem emb6 (t : Fin cfg0.N) (y : S1x1024.Idx) : (win0_6.rect t).emb y = y := by
  funext a
  apply Fin.ext
  refine (win0_6.rect_emb_val t y a).trans ?_
  fin_cases a
  · show win0_6.index t 0 * 1 + (y 0).val = (y 0).val
    rw [(index6 t).1]; omega
  · show win0_6.index t 1 * 1024 + (y 1).val = (y 1).val
    rw [(index6 t).2]; omega

theorem dy_blk (t : Fin cfg0.N) (r : Fin 256) (q : Fin 1024) :
    dyAt (blk0 m c t) (blk1 m c t) (blk2 m c t) r q = dyAt (arrD m c) (arrY m c) (arrG m c) (brow t r) q := by
  unfold dyAt
  simp only [blk0_apply, blk1_apply, blk2_eq]

theorem da_blk (t : Fin cfg0.N) (r : Fin 256) (j : Fin 1024) :
    daAt (blk0 m c t) (blk1 m c t) (blk2 m c t) (blk3 m c t) r j = daAt (arrD m c) (arrY m c) (arrG m c) (arrW m c) (brow t r) j := by
  unfold daAt
  simp only [dy_blk, blk3_eq]

theorem dg_blk (t : Fin cfg0.N) (r : Fin 256) (q : Fin 1024) :
    dgAt (blk0 m c t) (blk1 m c t) r q = dgAt (arrD m c) (arrY m c) (brow t r) q := by
  unfold dgAt
  simp only [blk0_apply, blk1_apply]

theorem outs_A (t : Fin cfg0.N) (h0 : t.val % 8 = 0) : outsAt0 m c t.val t.isLt =
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t)) :=
  outsAt0_A m c t h0

theorem outs_B (t : Fin cfg0.N) (h0 : ¬t.val % 8 = 0) : outsAt0 m c t.val t.isLt =
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t)
      (outsAt0 m c (t.val - 1) (Nat.lt_of_le_of_lt (Nat.sub_le _ _) t.isLt)).2.2) :=
  outsAt0_B m c t h0

/-- The product's gradient that a point leaves. -/
theorem outs_dy (t : Fin cfg0.N) (r : Fin 256) (q : Fin 1024) :
    (outsAt0 m c t.val t.isLt).1 (ix2 r q) = dyAt (arrD m c) (arrY m c) (arrG m c) (brow t r) q := by
  rw [← dy_blk]
  by_cases h0 : t.val % 8 = 0
  · rw [outs_A m c t h0]; dsimp only; exact dy_A ..
  · rw [outs_B m c t h0]; dsimp only; exact dy_B ..

/-- The product's gradient after the run. -/
theorem final_dy (n : Fin 2048) (q : Fin 1024) :
    (Gen.dats m 0 c).arrAt 4 cfg0.N (ix2 n q) = dyAt (arrD m c) (arrY m c) (arrG m c) n q := by
  obtain ⟨t, r, rfl⟩ := exists_row (a := 8) (b := 256) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans (outs_dy m c (t.cast N_0.symm) r q))
  exact congrArg ((Gen.dats m 0 c).arrAt 4 cfg0.N) he.symm

/-- The left operand's gradient that a point leaves. -/
theorem outs_da (t : Fin cfg0.N) (r : Fin 256) (q : Fin 1024) :
    (outsAt0 m c t.val t.isLt).2.1 (ix2 r q) = daAt (arrD m c) (arrY m c) (arrG m c) (arrW m c) (brow t r) q := by
  rw [← da_blk]
  by_cases h0 : t.val % 8 = 0
  · rw [outs_A m c t h0]; dsimp only; exact da_A ..
  · rw [outs_B m c t h0]; dsimp only; exact da_B ..

/-- The left operand's gradient after the run. -/
theorem final_da (n : Fin 2048) (q : Fin 1024) :
    (Gen.dats m 0 c).arrAt 5 cfg0.N (ix2 n q) = daAt (arrD m c) (arrY m c) (arrG m c) (arrW m c) n q := by
  obtain ⟨t, r, rfl⟩ := exists_row (a := 8) (b := 256) (N := 2048) rfl (by decide) n
  have hb := congrFun (Value.blocks5 m c (t.cast N_0.symm) (flush0_5 _)) (ix2 r q)
  rw [Value.flushed5] at hb
  have he := emb5 (t.cast N_0.symm) r q
  refine Eq.trans ?_ (hb.trans (outs_da m c (t.cast N_0.symm) r q))
  exact congrArg ((Gen.dats m 0 c).arrAt 5 cfg0.N) he.symm

theorem last_lt : 7 < cfg0.N := lt_of_lt_of_eq (by decide) N_0.symm

/-- The scale's gradient after the last point. -/
theorem outs_dg (u : Fin 1) (q : Fin 1024) :
    (outsAt0 m c 7 last_lt).2.2 (ix2 u q) = ∑ n, dgAt (arrD m c) (arrY m c) n q := by
  rw [sum_rows (a := 8) (b := 256) rfl]
  refine (sum_upto (fun n h => (outsAt0 m c n h).2.2 (ix2 u q))
    (fun t => ∑ r, dgAt (arrD m c) (arrY m c) (brow t r) q) (fun h => ?_) (fun n h => ?_) 7 last_lt).trans rfl
  · have e := outs_A m c ⟨0, h⟩ rfl
    dsimp only at e ⊢
    rw [e]
    simp only [← dg_blk]
    exact dg_A ..
  · have hn : n + 1 < 8 := lt_of_lt_of_eq h N_0
    have e := outs_B m c ⟨n + 1, h⟩ (by dsimp only; omega)
    dsimp only [Nat.add_sub_cancel] at e ⊢
    rw [e]
    simp only [← dg_blk]
    exact dg_B ..

theorem cover_dg (i : S1x1024.Idx) : ∃ t : Fin cfg0.N, (cfg0.win 6).flush t = true ∧ i ∈ ((cfg0.win 6).blk t).view.set := by
  refine ⟨⟨7, last_lt⟩, (flush0_6 _).mpr rfl, ?_⟩
  have h := ((cfg0.win 6).blk ⟨7, last_lt⟩).view.emb_mem_set i
  exact (emb6 ⟨7, last_lt⟩ i) ▸ h

/-- The scale's gradient after the run. -/
theorem final_dg (u : Fin 1) (q : Fin 1024) :
    (Gen.dats m 0 c).arrAt 6 cfg0.N (ix2 u q) = ∑ n, dgAt (arrD m c) (arrY m c) n q := by
  rw [← outs_dg m c u q]
  have hN : cfg0.N = 8 := N_0
  refine congrFun ((Gen.dats m 0 c).arrAt_eq_of_cover 6 (outsAt0 m c 7 last_lt).2.2 (fun t hf => ?_) fun i => cover_dg i) (ix2 u q)
  have h3 : t.val = 7 := by have := (flush0_6 t).mp hf; have := t.isLt; omega
  obtain rfl : t = ⟨7, last_lt⟩ := Fin.ext h3
  rw [Value.flushed6]
  funext z
  exact (congrArg (outsAt0 m c 7 last_lt).2.2 (emb6 ⟨7, last_lt⟩ z)).symm

/-! ## The reference -/

/-- The reference's product. -/
theorem ref_y (x0 : (⟨Cert.SquareBwdRefIdeal.S2048x1024, .bf16⟩ : BufTy).Contents (Elt Ideal)) (x1 : (⟨Cert.SquareBwdRefIdeal.S1024x1024, .bf16⟩ : BufTy).Contents (Elt Ideal)) (p : Fin 2048) (q : Fin 1024) : Cert.SquareBwdRefIdeal.Read.val_main_v2 (F := Ideal) x0 x1 (ix2 p q) = prod x0 x1 (ix2 p q) := by
  unfold prod
  pointwise [Cert.SquareBwdRefIdeal.Read.val_main_v2, Cert.SquareBwdRefIdeal.Read.val_main_v1, Cert.SquareBwdRefIdeal.Read.val_main_v0]

/-- The reference's gradient of the scale. -/
theorem ref_dg (x0 : (⟨Cert.SquareBwdRefIdeal.S2048x1024, .bf16⟩ : BufTy).Contents (Elt Ideal)) (x1 : (⟨Cert.SquareBwdRefIdeal.S1024x1024, .bf16⟩ : BufTy).Contents (Elt Ideal)) (x3 : (⟨Cert.SquareBwdRefIdeal.S2048x1024, .f32⟩ : BufTy).Contents (Elt Ideal)) (u : Fin 1) (q : Fin 1024) :
    Cert.SquareBwdRefIdeal.Read.val_main_v20 (F := Ideal) x0 x1 x3 (ix2 u q) = ∑ p, dgAt x3 (prod x0 x1) p q := by
  unfold dgAt root meanSq width eps
  simp only [← ref_y]
  pointwise [Cert.SquareBwdRefIdeal.Read.val_main_v20, Cert.SquareBwdRefIdeal.Read.val_main_v19, Cert.SquareBwdRefIdeal.Read.val_main_v18, Cert.SquareBwdRefIdeal.Read.val_main_v15, Cert.SquareBwdRefIdeal.Read.val_main_v14, Cert.SquareBwdRefIdeal.Read.val_main_v10, Cert.SquareBwdRefIdeal.Read.val_main_v9, Cert.SquareBwdRefIdeal.Read.val_main_v8, Cert.SquareBwdRefIdeal.Read.val_main_cst_1, Cert.SquareBwdRefIdeal.Read.val_main_v7, Cert.SquareBwdRefIdeal.Read.val_main_v6, Cert.SquareBwdRefIdeal.Read.val_main_cst_0, Cert.SquareBwdRefIdeal.Read.val_main_v5, Cert.SquareBwdRefIdeal.Read.val_main_v4, Cert.SquareBwdRefIdeal.Read.val_main_v3, Cert.SquareBwdRefIdeal.Read.val_main_v1, Cert.SquareBwdRefIdeal.Read.val_main_v0, Cert.SquareBwdRefIdeal.Read.val_main_cst, Cert.SquareBwdRefIdeal.Read.val_main_cst_3]
  exact Finset.sum_congr rfl fun p _ => mul_comm _ _

/-- The reference's gradient of the product. -/
theorem ref_dy (x0 : (⟨Cert.SquareBwdRefIdeal.S2048x1024, .bf16⟩ : BufTy).Contents (Elt Ideal)) (x1 : (⟨Cert.SquareBwdRefIdeal.S1024x1024, .bf16⟩ : BufTy).Contents (Elt Ideal)) (x2 : (⟨Cert.SquareBwdRefIdeal.S1x1024, .f32⟩ : BufTy).Contents (Elt Ideal)) (x3 : (⟨Cert.SquareBwdRefIdeal.S2048x1024, .f32⟩ : BufTy).Contents (Elt Ideal)) (p : Fin 2048) (q : Fin 1024) :
    Cert.SquareBwdRefIdeal.Read.val_main_v36 (F := Ideal) x0 x1 x2 x3 (ix2 p q) = chainGrad (fun k => x3 (ix2 p k) * x2 (ix2 0 k)) (fun k => prod x0 x1 (ix2 p k)) q := by
  unfold chainGrad meanGrad root meanSq width eps mhalf
  simp only [← ref_y]
  pointwise [Cert.SquareBwdRefIdeal.Read.val_main_v36, Cert.SquareBwdRefIdeal.Read.val_main_v35, Cert.SquareBwdRefIdeal.Read.val_main_v1, Cert.SquareBwdRefIdeal.Read.val_main_v0, Cert.SquareBwdRefIdeal.Read.val_main_v32, Cert.SquareBwdRefIdeal.Read.val_main_v31, Cert.SquareBwdRefIdeal.Read.val_main_v30, Cert.SquareBwdRefIdeal.Read.val_main_v29, Cert.SquareBwdRefIdeal.Read.val_main_cst_5, Cert.SquareBwdRefIdeal.Read.val_main_v28, Cert.SquareBwdRefIdeal.Read.val_main_v13, Cert.SquareBwdRefIdeal.Read.val_main_v11, Cert.SquareBwdRefIdeal.Read.val_main_v9, Cert.SquareBwdRefIdeal.Read.val_main_v8, Cert.SquareBwdRefIdeal.Read.val_main_cst_1, Cert.SquareBwdRefIdeal.Read.val_main_v7, Cert.SquareBwdRefIdeal.Read.val_main_v6, Cert.SquareBwdRefIdeal.Read.val_main_cst_0, Cert.SquareBwdRefIdeal.Read.val_main_v5, Cert.SquareBwdRefIdeal.Read.val_main_v4, Cert.SquareBwdRefIdeal.Read.val_main_v3, Cert.SquareBwdRefIdeal.Read.val_main_cst, Cert.SquareBwdRefIdeal.Read.val_main_v10, Cert.SquareBwdRefIdeal.Read.val_main_v12, Cert.SquareBwdRefIdeal.Read.val_main_cst_2, Cert.SquareBwdRefIdeal.Read.val_main_v25, Cert.SquareBwdRefIdeal.Read.val_main_v24, Cert.SquareBwdRefIdeal.Read.val_main_v23, Cert.SquareBwdRefIdeal.Read.val_main_v22, Cert.SquareBwdRefIdeal.Read.val_main_v21, Cert.SquareBwdRefIdeal.Read.val_main_cst_4, Cert.SquareBwdRefIdeal.Read.val_main_cst_6, Cert.SquareBwdRefIdeal.Read.val_main_v34, Cert.SquareBwdRefIdeal.Read.val_main_v33, Cert.SquareBwdRefIdeal.Read.val_main_v27, Cert.SquareBwdRefIdeal.Read.val_main_v26]
  simp only [Fin.sum_univ_one]

/-- The same, by the closed form. -/
theorem ref_dy_closed (x0 : (⟨Cert.SquareBwdRefIdeal.S2048x1024, .bf16⟩ : BufTy).Contents (Elt Ideal)) (x1 : (⟨Cert.SquareBwdRefIdeal.S1024x1024, .bf16⟩ : BufTy).Contents (Elt Ideal)) (x2 : (⟨Cert.SquareBwdRefIdeal.S1x1024, .f32⟩ : BufTy).Contents (Elt Ideal)) (x3 : (⟨Cert.SquareBwdRefIdeal.S2048x1024, .f32⟩ : BufTy).Contents (Elt Ideal)) (p : Fin 2048) (q : Fin 1024) :
    Cert.SquareBwdRefIdeal.Read.val_main_v36 (F := Ideal) x0 x1 x2 x3 (ix2 p q) = dyAt x3 (prod x0 x1) x2 p q :=
  (ref_dy x0 x1 x2 x3 p q).trans (normGrad_eq _ _ q).symm

/-- The reference's gradient of the left operand. -/
theorem ref_da (x0 : (⟨Cert.SquareBwdRefIdeal.S2048x1024, .bf16⟩ : BufTy).Contents (Elt Ideal)) (x1 : (⟨Cert.SquareBwdRefIdeal.S1024x1024, .bf16⟩ : BufTy).Contents (Elt Ideal)) (x2 : (⟨Cert.SquareBwdRefIdeal.S1x1024, .f32⟩ : BufTy).Contents (Elt Ideal)) (x3 : (⟨Cert.SquareBwdRefIdeal.S2048x1024, .f32⟩ : BufTy).Contents (Elt Ideal)) (p : Fin 2048) (q : Fin 1024) :
    Cert.SquareBwdRefIdeal.Read.val_main_v39 (F := Ideal) x0 x1 x2 x3 (ix2 p q) = daAt x3 (prod x0 x1) x2 x1 p q := by
  unfold daAt
  simp only [← ref_dy_closed x0 x1 x2 x3]
  pointwise [Cert.SquareBwdRefIdeal.Read.val_main_v39, Cert.SquareBwdRefIdeal.Read.val_main_v38, Cert.SquareBwdRefIdeal.Read.val_main_v1]

/-! ## The claim -/

theorem dg_eq : (Gen.dats m 0 c).arrAt 6 cfg0.N = Cert.SquareBwdRefIdeal.Read.val_main_v20 (F := Ideal) (arrA m c) (arrW m c) (arrD m c) := by
  funext y
  obtain ⟨u, q, rfl⟩ : ∃ (u : Fin 1) (q : Fin 1024), y = ix2 u q := ⟨y 0, y 1, eq_ix2 y⟩
  exact (final_dg m c u q).trans (ref_dg _ _ _ u q).symm

theorem dy_eq :
    (Gen.dats m 0 c).arrAt 4 cfg0.N = Cert.SquareBwdRefIdeal.Read.val_main_v37 (F := Ideal) (arrA m c) (arrW m c) (arrG m c) (arrD m c) := by
  funext y
  obtain ⟨p, q, rfl⟩ : ∃ (p : Fin 2048) (q : Fin 1024), y = ix2 p q := ⟨y 0, y 1, eq_ix2 y⟩
  exact (final_dy m c p q).trans (ref_dy_closed _ _ _ _ p q).symm

theorem da_eq :
    (Gen.dats m 0 c).arrAt 5 cfg0.N = Cert.SquareBwdRefIdeal.Read.val_main_v39 (F := Ideal) (arrA m c) (arrW m c) (arrG m c) (arrD m c) := by
  funext y
  obtain ⟨p, q, rfl⟩ : ∃ (p : Fin 2048) (q : Fin 1024), y = ix2 p q := ⟨y 0, y 1, eq_ix2 y⟩
  exact (final_da m c p q).trans (ref_da _ _ _ _ p q).symm

/-- The kernel's run and the reference's run leave equal arrays. -/
theorem algebraic : Cert.algebraic_SquareBwdIdeal_SquareBwdRefIdeal := by
  intro m g m' g' _ hagree
  refine ⟨fun c => (Gen.dats m 0 c).arrAt 4 cfg0.N, fun c => (Gen.dats m 0 c).arrAt 5 cfg0.N, fun c => (Gen.dats m 0 c).arrAt 6 cfg0.N, Value.run_blocks m g, ?_⟩
  refine (θ_run _ _ _).mono (fun r h c => ?_) (Cert.SquareBwdRefIdeal.Value.run (F := Ideal) m' g')
  obtain ⟨e0, e1, e2, ea⟩ := h c
  obtain ⟨a0, a1, a2, a3⟩ := hagree c
  refine ⟨e0.trans ?_, e1.trans ?_, e2.trans ?_, ea⟩
  · rw [Cert.SquareBwdRefIdeal.Read.val_main_v37_eq, a0, a1, a2, a3]; exact (dy_eq m c).symm
  · rw [Cert.SquareBwdRefIdeal.Read.val_main_v39_eq, a0, a1, a2, a3]; exact (da_eq m c).symm
  · rw [Cert.SquareBwdRefIdeal.Read.val_main_v20_eq, a0, a1, a3]; exact (dg_eq m c).symm

end Cert.SquareBwdIdeal.Hand

end
-- ==== Proof.NormRow.lean ====
/- A row of 1024 entries under the root-mean-square norm: each entry times the row's reciprocal root and the scale. -/
module

public import proofs.«01_k».proof.Proof.NormGrad

@[expose] public section

noncomputable section

namespace Cert.Norm

open Idealize.ShloMosaic

/-- The normed rows. -/
def normRow {M : ℕ} (x : (⟨2, ![M, 1024]⟩ : Shape).Idx → EReal) (g : (⟨2, ![1, 1024]⟩ : Shape).Idx → EReal) (p : Fin M) (k : Fin 1024) : EReal :=
  x (ix2 p k) * root (fun j => x (ix2 p j)) * g (ix2 0 k)

/-- A row of the left operand times the weight. -/
def prodAt {M K : ℕ} (x : (⟨2, ![M, K]⟩ : Shape).Idx → EReal) (w : (⟨2, ![K, 1024]⟩ : Shape).Idx → EReal) (p : Fin M) (q : Fin 1024) : EReal :=
  ∑ k : Fin K, x (ix2 p k) * w (ix2 k q)

/-- The residual's row with the normed product added. -/
def sumAt {M K : ℕ} (x : (⟨2, ![M, K]⟩ : Shape).Idx → EReal) (w : (⟨2, ![K, 1024]⟩ : Shape).Idx → EReal)
    (g : (⟨2, ![1, 1024]⟩ : Shape).Idx → EReal) (res : (⟨2, ![M, 1024]⟩ : Shape).Idx → EReal) (p : Fin M) (q : Fin 1024) : EReal :=
  res (ix2 p q) + prodAt x w p q * root (fun k => prodAt x w p k) * g (ix2 0 q)

end Cert.Norm

end
-- ==== Proof.InProj.lean ====
/- The norm before the input projection and the projection itself: every row is multiplied by the reciprocal root of its mean
   square and by the scale, and the normed row by the weight; each grid point computes one block of rows. -/
module

public import proofs.«01_k».proof.Defs
public import proofs.«01_k».proof.Proof.Gen.InProjIdeal.Value
public import proofs.«01_k».proof.Proof.Gen.InProjRefIdeal.Read
public import proofs.«01_k».proof.Proof.Blocks
public import proofs.«01_k».proof.Proof.NormRow
public import Idealize.ShloMosaic.Lib.Pipeline.ValueKit

@[expose] public section

set_option maxRecDepth 16384

noncomputable section

namespace Cert.InProjIdeal.Hand

open Cert.InProjIdeal Cert.InProjIdeal.Gen Idealize.ShloMosaic Idealize.ShloMosaic.TcCoe Idealize.SL.Sem
open Cert.Blocks Cert.Norm

theorem zeros : (![0, 0] : Fin 2 → ℕ) = fun _ => 0 := by funext a; fin_cases a <;> rfl

/-- The projection of the normed rows. -/
def projAt {M : ℕ} (x : (⟨2, ![M, 1024]⟩ : Shape).Idx → EReal) (g : S1x1024.Idx → EReal) (w : S3328x1024.Idx → EReal) (p : Fin M) (q : Fin 3328) : EReal :=
  ∑ k : Fin 1024, normRow x g p k * w (ix2 q k)

/-! ## What a point computes -/

theorem norm_out (x0 : Vec Ideal S512x1024 .f32) (x1 : Vec Ideal S1x1024 .f32) (x2 : Vec Ideal S3328x1024 .bf16) (p : Fin 512) (q : Fin 1024) :
    out0_3 x0 x1 x2 (ix2 p q) = normRow x0 x1 p q := by
  unfold out0_3
  rw [View.canon_unit_zero zeros]
  simp only [View.ld_unit_zero (S := S512x1024) zeros, View.ld_unit_zero (S := S1x1024) zeros, View.ld_unit_zero (S := S3328x1024) zeros]
  unfold normRow root meanSq width eps
  pointwise [k0_pay1, k0_pay2]

theorem proj_out (x0 : Vec Ideal S512x1024 .f32) (x1 : Vec Ideal S1x1024 .f32) (x2 : Vec Ideal S3328x1024 .bf16) (p : Fin 512) (q : Fin 3328) :
    out0_4 x0 x1 x2 (ix2 p q) = projAt x0 x1 x2 p q := by
  unfold out0_4
  rw [View.canon_unit_zero zeros]
  simp only [View.ld_unit_zero (S := S512x1024) zeros, View.ld_unit_zero (S := S1x1024) zeros, View.ld_unit_zero (S := S3328x1024) zeros]
  unfold projAt normRow root meanSq width eps
  pointwise [k0_pay1, k0_pay2, dot_S512x1024_S3328x1024_S512x3328_1_1_0_0_n_n]

/-! ## The arrays -/

variable (m : (ℓ : Loc nD τ sig) → Buf (Elt Ideal) ℓ) (c : Dev nD)

/-- The rows. -/
abbrev arr0 : S2048x1024.Idx → EReal := m ((c : Thread nD τ).loc main_arg0)
/-- The scale. -/
abbrev arr1 : S1x1024.Idx → EReal := m ((c : Thread nD τ).loc main_arg1)
/-- The weight. -/
abbrev arr2 : S3328x1024.Idx → EReal := m ((c : Thread nD τ).loc main_arg2)

/-- Row `r` of grid point `t`'s block. -/
abbrev brow (t : Fin cfg0.N) (r : Fin 512) : Fin 2048 := row (a := 4) (b := 512) rfl (t.cast N_0) r

theorem index0 : ∀ t : Fin grid0.N, win0_0.index t 0 = t.val ∧ win0_0.index t 1 = 0 := by decide +kernel

theorem emb0 (t : Fin cfg0.N) (r : Fin 512) (q : Fin 1024) : (win0_0.rect t).emb (ix2 r q) = ix2 (brow t r) q := by
  funext a
  apply Fin.ext
  refine (win0_0.rect_emb_val t (ix2 r q) a).trans ?_
  fin_cases a
  · show win0_0.index t 0 * 512 + r.val = 512 * t.val + r.val
    rw [(index0 t).1]; omega
  · show win0_0.index t 1 * 1024 + q.val = q.val
    rw [(index0 t).2]; omega

/-- The block of window 0 that a point reads. -/
def blk0 (t : Fin cfg0.N) : Vec Ideal S512x1024 .f32 := iblk m c 0 t

theorem blk0_apply (t : Fin cfg0.N) (r : Fin 512) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1x1024.Idx) : (win0_1.rect t).emb y = y := by
  funext a
  apply Fin.ext
  refine (win0_1.rect_emb_val t y a).trans ?_
  fin_cases a
  · show win0_1.index t 0 * 1 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1x1024 .f32 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S3328x1024.Idx) : (win0_2.rect t).emb y = y := by
  funext a
  apply Fin.ext
  refine (win0_2.rect_emb_val t y a).trans ?_
  fin_cases a
  · show win0_2.index t 0 * 3328 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S3328x1024 .bf16 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 512) (q : Fin 1024) : (win0_3.rect t).emb (ix2 r q) = ix2 (brow t r) q := by
  funext a
  apply Fin.ext
  refine (win0_3.rect_emb_val t (ix2 r q) a).trans ?_
  fin_cases a
  · show win0_3.index t 0 * 512 + r.val = 512 * t.val + r.val
    rw [(index3 t).1]; omega
  · show win0_3.index t 1 * 1024 + q.val = q.val
    rw [(index3 t).2]; omega

theorem index4 : ∀ t : Fin grid0.N, win0_4.index t 0 = t.val ∧ win0_4.index t 1 = 0 := by decide +kernel

theorem emb4 (t : Fin cfg0.N) (r : Fin 512) (q : Fin 3328) : (win0_4.rect t).emb (ix2 r q) = ix2 (brow t r) q := by
  funext a
  apply Fin.ext
  refine (win0_4.rect_emb_val t (ix2 r q) a).trans ?_
  fin_cases a
  · show win0_4.index t 0 * 512 + r.val = 512 * t.val + r.val
    rw [(index4 t).1]; omega
  · show win0_4.index t 1 * 3328 + q.val = q.val
    rw [(index4 t).2]; omega

theorem norm_blk (t : Fin cfg0.N) (r : Fin 512) (q : Fin 1024) :
    normRow (blk0 m c t) (blk1 m c t) r q = normRow (arr0 m c) (arr1 m c) (brow t r) q := by
  unfold normRow
  simp only [blk0_apply, blk1_eq]

theorem proj_blk (t : Fin cfg0.N) (r : Fin 512) (q : Fin 3328) :
    projAt (blk0 m c t) (blk1 m c t) (blk2 m c t) r q = projAt (arr0 m c) (arr1 m c) (arr2 m c) (brow t r) q := by
  unfold projAt
  simp only [norm_blk, blk2_eq]

/-- The normed rows after the run. -/
theorem final_norm (n : Fin 2048) (q : Fin 1024) :
    (Gen.dats m 0 c).arrAt 3 cfg0.N (ix2 n q) = normRow (arr0 m c) (arr1 m c) n q := by
  obtain ⟨t, r, rfl⟩ := exists_row (a := 4) (b := 512) (N := 2048) rfl (by decide) n
  have hb := congrFun (Value.blocks3 m c (t.cast N_0.symm) (flush0_3 _)) (ix2 r q)
  rw [Value.flushed3] at hb
  have he := emb3 (t.cast N_0.symm) r q
  refine Eq.trans ?_ (hb.trans ((norm_out (blk0 m c (t.cast N_0.symm)) (blk1 m c (t.cast N_0.symm)) (blk2 m c (t.cast N_0.symm)) r q).trans (norm_blk m c (t.cast N_0.symm) r q)))
  exact congrArg ((Gen.dats m 0 c).arrAt 3 cfg0.N) he.symm

/-- The projection after the run. -/
theorem final_proj (n : Fin 2048) (q : Fin 3328) :
    (Gen.dats m 0 c).arrAt 4 cfg0.N (ix2 n q) = projAt (arr0 m c) (arr1 m c) (arr2 m c) n q := by
  obtain ⟨t, r, rfl⟩ := exists_row (a := 4) (b := 512) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans ((proj_out (blk0 m c (t.cast N_0.symm)) (blk1 m c (t.cast N_0.symm)) (blk2 m c (t.cast N_0.symm)) r q).trans (proj_blk m c (t.cast N_0.symm) r q)))
  exact congrArg ((Gen.dats m 0 c).arrAt 4 cfg0.N) he.symm

/-! ## The reference -/

theorem ref_norm (x0 : (⟨Cert.InProjRefIdeal.S2048x1024, .f32⟩ : BufTy).Contents (Elt Ideal)) (x1 : (⟨Cert.InProjRefIdeal.S1x1024, .f32⟩ : BufTy).Contents (Elt Ideal)) (p : Fin 2048) (q : Fin 1024) :
    Cert.InProjRefIdeal.Read.val_main_v13 (F := Ideal) x0 x1 (ix2 p q) = normRow x0 x1 p q := by
  unfold normRow root meanSq width eps
  pointwise [Cert.InProjRefIdeal.Read.val_main_v13, Cert.InProjRefIdeal.Read.val_main_v12, Cert.InProjRefIdeal.Read.val_main_v11, Cert.InProjRefIdeal.Read.val_main_v10, Cert.InProjRefIdeal.Read.val_main_v9, Cert.InProjRefIdeal.Read.val_main_v8, Cert.InProjRefIdeal.Read.val_main_v7, Cert.InProjRefIdeal.Read.val_main_v6, Cert.InProjRefIdeal.Read.val_main_cst_1, Cert.InProjRefIdeal.Read.val_main_v5, Cert.InProjRefIdeal.Read.val_main_v4, Cert.InProjRefIdeal.Read.val_main_cst_0, Cert.InProjRefIdeal.Read.val_main_v3, Cert.InProjRefIdeal.Read.val_main_v2, Cert.InProjRefIdeal.Read.val_main_v1, Cert.InProjRefIdeal.Read.val_main_cst]

theorem ref_proj (x0 : (⟨Cert.InProjRefIdeal.S2048x1024, .f32⟩ : BufTy).Contents (Elt Ideal)) (x1 : (⟨Cert.InProjRefIdeal.S1x1024, .f32⟩ : BufTy).Contents (Elt Ideal)) (x2 : (⟨Cert.InProjRefIdeal.S3328x1024, .bf16⟩ : BufTy).Contents (Elt Ideal)) (p : Fin 2048) (q : Fin 3328) :
    Cert.InProjRefIdeal.Read.val_main_v28 (F := Ideal) x0 x1 x2 (ix2 p q) = projAt x0 x1 x2 p q := by
  unfold projAt normRow root meanSq width eps
  pointwise [Cert.InProjRefIdeal.Read.val_main_v28, Cert.InProjRefIdeal.Read.val_main_v27, Cert.InProjRefIdeal.Read.val_main_v26, Cert.InProjRefIdeal.Read.val_main_v0, Cert.InProjRefIdeal.Read.val_main_v25, Cert.InProjRefIdeal.Read.val_main_v24, Cert.InProjRefIdeal.Read.val_main_v23, Cert.InProjRefIdeal.Read.val_main_v22, Cert.InProjRefIdeal.Read.val_main_v21, Cert.InProjRefIdeal.Read.val_main_v20, Cert.InProjRefIdeal.Read.val_main_v19, Cert.InProjRefIdeal.Read.val_main_cst_4, Cert.InProjRefIdeal.Read.val_main_v18, Cert.InProjRefIdeal.Read.val_main_v17, Cert.InProjRefIdeal.Read.val_main_cst_3, Cert.InProjRefIdeal.Read.val_main_v16, Cert.InProjRefIdeal.Read.val_main_v15, Cert.InProjRefIdeal.Read.val_main_v14, Cert.InProjRefIdeal.Read.val_main_cst_2]

/-! ## The claim -/

theorem norm_eq : (Gen.dats m 0 c).arrAt 3 cfg0.N = Cert.InProjRefIdeal.Read.val_main_v13 (F := Ideal) (arr0 m c) (arr1 m c) := by
  funext y
  obtain ⟨p, q, rfl⟩ : ∃ (p : Fin 2048) (q : Fin 1024), y = ix2 p q := ⟨y 0, y 1, eq_ix2 y⟩
  exact (final_norm m c p q).trans (ref_norm _ _ p q).symm

theorem proj_eq : (Gen.dats m 0 c).arrAt 4 cfg0.N = Cert.InProjRefIdeal.Read.val_main_v28 (F := Ideal) (arr0 m c) (arr1 m c) (arr2 m c) := by
  funext y
  obtain ⟨p, q, rfl⟩ : ∃ (p : Fin 2048) (q : Fin 3328), y = ix2 p q := ⟨y 0, y 1, eq_ix2 y⟩
  exact (final_proj m c p q).trans (ref_proj _ _ _ p q).symm

/-- The kernel's run and the reference's run leave equal arrays. -/
theorem algebraic : Cert.algebraic_InProjIdeal_InProjRefIdeal := by
  intro m g m' g' _ hagree
  refine ⟨fun c => (Gen.dats m 0 c).arrAt 3 cfg0.N, fun c => (Gen.dats m 0 c).arrAt 4 cfg0.N, Value.run_blocks m g, ?_⟩
  refine (θ_run _ _ _).mono (fun r h c => ?_) (Cert.InProjRefIdeal.Value.run (F := Ideal) m' g')
  obtain ⟨e0, e1, ea⟩ := h c
  obtain ⟨a0, a1, a2⟩ := hagree c
  refine ⟨e0.trans ?_, e1.trans ?_, ea⟩
  · rw [Cert.InProjRefIdeal.Read.val_main_v13_eq, a0, a1]; exact (norm_eq m c).symm
  · rw [Cert.InProjRefIdeal.Read.val_main_v28_eq, a0, a1, a2]; exact (proj_eq m c).symm

end Cert.InProjIdeal.Hand

end
-- ==== Proof.UpProj.lean ====
/- The norm before the up projection and the projection itself: every row is multiplied by the reciprocal root of its mean
   square and by the scale, and the normed row by the weight; each grid point computes one block of rows. -/
module

public import proofs.«01_k».proof.Defs
public import proofs.«01_k».proof.Proof.Gen.UpProjIdeal.Value
public import proofs.«01_k».proof.Proof.Gen.UpProjRefIdeal.Read
public import proofs.«01_k».proof.Proof.Blocks
public import proofs.«01_k».proof.Proof.NormRow
public import Idealize.ShloMosaic.Lib.Pipeline.ValueKit

@[expose] public section

set_option maxRecDepth 16384

noncomputable section

namespace Cert.UpProjIdeal.Hand

open Cert.UpProjIdeal Cert.UpProjIdeal.Gen Idealize.ShloMosaic Idealize.ShloMosaic.TcCoe Idealize.SL.Sem
open Cert.Blocks Cert.Norm

theorem zeros : (![0, 0] : Fin 2 → ℕ) = fun _ => 0 := by funext a; fin_cases a <;> rfl

/-- The projection of the normed rows. -/
def projAt {M : ℕ} (x : (⟨2, ![M, 1024]⟩ : Shape).Idx → EReal) (g : S1x1024.Idx → EReal) (w : S5632x1024.Idx → EReal) (p : Fin M) (q : Fin 5632) : EReal :=
  ∑ k : Fin 1024, normRow x g p k * w (ix2 q k)

/-! ## What a point computes -/

theorem norm_out (x0 : Vec Ideal S256x1024 .f32) (x1 : Vec Ideal S1x1024 .f32) (x2 : Vec Ideal S5632x1024 .bf16) (p : Fin 256) (q : Fin 1024) :
    out0_3 x0 x1 x2 (ix2 p q) = normRow x0 x1 p q := by
  unfold out0_3
  rw [View.canon_unit_zero zeros]
  simp only [View.ld_unit_zero (S := S256x1024) zeros, View.ld_unit_zero (S := S1x1024) zeros, View.ld_unit_zero (S := S5632x1024) zeros]
  unfold normRow root meanSq width eps
  pointwise [k0_pay1, k0_pay2]

theorem proj_out (x0 : Vec Ideal S256x1024 .f32) (x1 : Vec Ideal S1x1024 .f32) (x2 : Vec Ideal S5632x1024 .bf16) (p : Fin 256) (q : Fin 5632) :
    out0_4 x0 x1 x2 (ix2 p q) = projAt x0 x1 x2 p q := by
  unfold out0_4
  rw [View.canon_unit_zero zeros]
  simp only [View.ld_unit_zero (S := S256x1024) zeros, View.ld_unit_zero (S := S1x1024) zeros, View.ld_unit_zero (S := S5632x1024) zeros]
  unfold projAt normRow root meanSq width eps
  pointwise [k0_pay1, k0_pay2, dot_S256x1024_S5632x1024_S256x5632_1_1_0_0_n_n]

/-! ## The arrays -/

variable (m : (ℓ : Loc nD τ sig) → Buf (Elt Ideal) ℓ) (c : Dev nD)

/-- The rows. -/
abbrev arr0 : S2048x1024.Idx → EReal := m ((c : Thread nD τ).loc main_arg0)
/-- The scale. -/
abbrev arr1 : S1x1024.Idx → EReal := m ((c : Thread nD τ).loc main_arg1)
/-- The weight. -/
abbrev arr2 : S5632x1024.Idx → EReal := m ((c : Thread nD τ).loc main_arg2)

/-- Row `r` of grid point `t`'s block. -/
abbrev brow (t : Fin cfg0.N) (r : Fin 256) : Fin 2048 := row (a := 8) (b := 256) rfl (t.cast N_0) r

theorem index0 : ∀ t : Fin grid0.N, win0_0.index t 0 = t.val ∧ win0_0.index t 1 = 0 := by decide +kernel

theorem emb0 (t : Fin cfg0.N) (r : Fin 256) (q : Fin 1024) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 1024 + q.val = q.val
    rw [(index0 t).2]; omega

/-- The block of window 0 that a point reads. -/
def blk0 (t : Fin cfg0.N) : Vec Ideal S256x1024 .f32 := iblk m c 0 t

theorem blk0_apply (t : Fin cfg0.N) (r : Fin 256) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1x1024.Idx) : (win0_1.rect t).emb y = y := by
  funext a
  apply Fin.ext
  refine (win0_1.rect_emb_val t y a).trans ?_
  fin_cases a
  · show win0_1.index t 0 * 1 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1x1024 .f32 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S5632x1024.Idx) : (win0_2.rect t).emb y = y := by
  funext a
  apply Fin.ext
  refine (win0_2.rect_emb_val t y a).trans ?_
  fin_cases a
  · show win0_2.index t 0 * 5632 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S5632x1024 .bf16 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 256) (q : Fin 1024) : (win0_3.rect t).emb (ix2 r q) = ix2 (brow t r) q := by
  funext a
  apply Fin.ext
  refine (win0_3.rect_emb_val t (ix2 r q) a).trans ?_
  fin_cases a
  · show win0_3.index t 0 * 256 + r.val = 256 * t.val + r.val
    rw [(index3 t).1]; omega
  · show win0_3.index t 1 * 1024 + q.val = q.val
    rw [(index3 t).2]; omega

theorem index4 : ∀ t : Fin grid0.N, win0_4.index t 0 = t.val ∧ win0_4.index t 1 = 0 := by decide +kernel

theorem emb4 (t : Fin cfg0.N) (r : Fin 256) (q : Fin 5632) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 5632 + q.val = q.val
    rw [(index4 t).2]; omega

theorem norm_blk (t : Fin cfg0.N) (r : Fin 256) (q : Fin 1024) :
    normRow (blk0 m c t) (blk1 m c t) r q = normRow (arr0 m c) (arr1 m c) (brow t r) q := by
  unfold normRow
  simp only [blk0_apply, blk1_eq]

theorem proj_blk (t : Fin cfg0.N) (r : Fin 256) (q : Fin 5632) :
    projAt (blk0 m c t) (blk1 m c t) (blk2 m c t) r q = projAt (arr0 m c) (arr1 m c) (arr2 m c) (brow t r) q := by
  unfold projAt
  simp only [norm_blk, blk2_eq]

/-- The normed rows after the run. -/
theorem final_norm (n : Fin 2048) (q : Fin 1024) :
    (Gen.dats m 0 c).arrAt 3 cfg0.N (ix2 n q) = normRow (arr0 m c) (arr1 m c) n q := by
  obtain ⟨t, r, rfl⟩ := exists_row (a := 8) (b := 256) (N := 2048) rfl (by decide) n
  have hb := congrFun (Value.blocks3 m c (t.cast N_0.symm) (flush0_3 _)) (ix2 r q)
  rw [Value.flushed3] at hb
  have he := emb3 (t.cast N_0.symm) r q
  refine Eq.trans ?_ (hb.trans ((norm_out (blk0 m c (t.cast N_0.symm)) (blk1 m c (t.cast N_0.symm)) (blk2 m c (t.cast N_0.symm)) r q).trans (norm_blk m c (t.cast N_0.symm) r q)))
  exact congrArg ((Gen.dats m 0 c).arrAt 3 cfg0.N) he.symm

/-- The projection after the run. -/
theorem final_proj (n : Fin 2048) (q : Fin 5632) :
    (Gen.dats m 0 c).arrAt 4 cfg0.N (ix2 n q) = projAt (arr0 m c) (arr1 m c) (arr2 m c) n q := by
  obtain ⟨t, r, rfl⟩ := exists_row (a := 8) (b := 256) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans ((proj_out (blk0 m c (t.cast N_0.symm)) (blk1 m c (t.cast N_0.symm)) (blk2 m c (t.cast N_0.symm)) r q).trans (proj_blk m c (t.cast N_0.symm) r q)))
  exact congrArg ((Gen.dats m 0 c).arrAt 4 cfg0.N) he.symm

/-! ## The reference -/

theorem ref_norm (x0 : (⟨Cert.UpProjRefIdeal.S2048x1024, .f32⟩ : BufTy).Contents (Elt Ideal)) (x1 : (⟨Cert.UpProjRefIdeal.S1x1024, .f32⟩ : BufTy).Contents (Elt Ideal)) (p : Fin 2048) (q : Fin 1024) :
    Cert.UpProjRefIdeal.Read.val_main_v13 (F := Ideal) x0 x1 (ix2 p q) = normRow x0 x1 p q := by
  unfold normRow root meanSq width eps
  pointwise [Cert.UpProjRefIdeal.Read.val_main_v13, Cert.UpProjRefIdeal.Read.val_main_v12, Cert.UpProjRefIdeal.Read.val_main_v11, Cert.UpProjRefIdeal.Read.val_main_v10, Cert.UpProjRefIdeal.Read.val_main_v9, Cert.UpProjRefIdeal.Read.val_main_v8, Cert.UpProjRefIdeal.Read.val_main_v7, Cert.UpProjRefIdeal.Read.val_main_v6, Cert.UpProjRefIdeal.Read.val_main_cst_1, Cert.UpProjRefIdeal.Read.val_main_v5, Cert.UpProjRefIdeal.Read.val_main_v4, Cert.UpProjRefIdeal.Read.val_main_cst_0, Cert.UpProjRefIdeal.Read.val_main_v3, Cert.UpProjRefIdeal.Read.val_main_v2, Cert.UpProjRefIdeal.Read.val_main_v1, Cert.UpProjRefIdeal.Read.val_main_cst]

theorem ref_proj (x0 : (⟨Cert.UpProjRefIdeal.S2048x1024, .f32⟩ : BufTy).Contents (Elt Ideal)) (x1 : (⟨Cert.UpProjRefIdeal.S1x1024, .f32⟩ : BufTy).Contents (Elt Ideal)) (x2 : (⟨Cert.UpProjRefIdeal.S5632x1024, .bf16⟩ : BufTy).Contents (Elt Ideal)) (p : Fin 2048) (q : Fin 5632) :
    Cert.UpProjRefIdeal.Read.val_main_v28 (F := Ideal) x0 x1 x2 (ix2 p q) = projAt x0 x1 x2 p q := by
  unfold projAt normRow root meanSq width eps
  pointwise [Cert.UpProjRefIdeal.Read.val_main_v28, Cert.UpProjRefIdeal.Read.val_main_v27, Cert.UpProjRefIdeal.Read.val_main_v26, Cert.UpProjRefIdeal.Read.val_main_v0, Cert.UpProjRefIdeal.Read.val_main_v25, Cert.UpProjRefIdeal.Read.val_main_v24, Cert.UpProjRefIdeal.Read.val_main_v23, Cert.UpProjRefIdeal.Read.val_main_v22, Cert.UpProjRefIdeal.Read.val_main_v21, Cert.UpProjRefIdeal.Read.val_main_v20, Cert.UpProjRefIdeal.Read.val_main_v19, Cert.UpProjRefIdeal.Read.val_main_cst_4, Cert.UpProjRefIdeal.Read.val_main_v18, Cert.UpProjRefIdeal.Read.val_main_v17, Cert.UpProjRefIdeal.Read.val_main_cst_3, Cert.UpProjRefIdeal.Read.val_main_v16, Cert.UpProjRefIdeal.Read.val_main_v15, Cert.UpProjRefIdeal.Read.val_main_v14, Cert.UpProjRefIdeal.Read.val_main_cst_2]

/-! ## The claim -/

theorem norm_eq : (Gen.dats m 0 c).arrAt 3 cfg0.N = Cert.UpProjRefIdeal.Read.val_main_v13 (F := Ideal) (arr0 m c) (arr1 m c) := by
  funext y
  obtain ⟨p, q, rfl⟩ : ∃ (p : Fin 2048) (q : Fin 1024), y = ix2 p q := ⟨y 0, y 1, eq_ix2 y⟩
  exact (final_norm m c p q).trans (ref_norm _ _ p q).symm

theorem proj_eq : (Gen.dats m 0 c).arrAt 4 cfg0.N = Cert.UpProjRefIdeal.Read.val_main_v28 (F := Ideal) (arr0 m c) (arr1 m c) (arr2 m c) := by
  funext y
  obtain ⟨p, q, rfl⟩ : ∃ (p : Fin 2048) (q : Fin 5632), y = ix2 p q := ⟨y 0, y 1, eq_ix2 y⟩
  exact (final_proj m c p q).trans (ref_proj _ _ _ p q).symm

/-- The kernel's run and the reference's run leave equal arrays. -/
theorem algebraic : Cert.algebraic_UpProjIdeal_UpProjRefIdeal := by
  intro m g m' g' _ hagree
  refine ⟨fun c => (Gen.dats m 0 c).arrAt 3 cfg0.N, fun c => (Gen.dats m 0 c).arrAt 4 cfg0.N, Value.run_blocks m g, ?_⟩
  refine (θ_run _ _ _).mono (fun r h c => ?_) (Cert.UpProjRefIdeal.Value.run (F := Ideal) m' g')
  obtain ⟨e0, e1, ea⟩ := h c
  obtain ⟨a0, a1, a2⟩ := hagree c
  refine ⟨e0.trans ?_, e1.trans ?_, ea⟩
  · rw [Cert.UpProjRefIdeal.Read.val_main_v13_eq, a0, a1]; exact (norm_eq m c).symm
  · rw [Cert.UpProjRefIdeal.Read.val_main_v28_eq, a0, a1, a2]; exact (proj_eq m c).symm

end Cert.UpProjIdeal.Hand

end
-- ==== Proof.XqProj.lean ====
/- The norm before the cross attention's query projection and the projection itself: every row is multiplied by the reciprocal root of its mean
   square and by the scale, and the normed row by the weight; each grid point computes one block of rows. -/
module

public import proofs.«01_k».proof.Defs
public import proofs.«01_k».proof.Proof.Gen.XqProjIdeal.Value
public import proofs.«01_k».proof.Proof.Gen.XqProjRefIdeal.Read
public import proofs.«01_k».proof.Proof.Blocks
public import proofs.«01_k».proof.Proof.NormRow
public import Idealize.ShloMosaic.Lib.Pipeline.ValueKit

@[expose] public section

set_option maxRecDepth 16384

noncomputable section

namespace Cert.XqProjIdeal.Hand

open Cert.XqProjIdeal Cert.XqProjIdeal.Gen Idealize.ShloMosaic Idealize.ShloMosaic.TcCoe Idealize.SL.Sem
open Cert.Blocks Cert.Norm

theorem zeros : (![0, 0] : Fin 2 → ℕ) = fun _ => 0 := by funext a; fin_cases a <;> rfl

/-- The projection of the normed rows. -/
def projAt {M : ℕ} (x : (⟨2, ![M, 1024]⟩ : Shape).Idx → EReal) (g : S1x1024.Idx → EReal) (w : S1024x1024.Idx → EReal) (p : Fin M) (q : Fin 1024) : EReal :=
  ∑ k : Fin 1024, normRow x g p k * w (ix2 k q)

/-! ## What a point computes -/

theorem norm_out (x0 : Vec Ideal S512x1024 .f32) (x1 : Vec Ideal S1x1024 .f32) (x2 : Vec Ideal S1024x1024 .bf16) (p : Fin 512) (q : Fin 1024) :
    out0_3 x0 x1 x2 (ix2 p q) = normRow x0 x1 p q := by
  unfold out0_3
  rw [View.canon_unit_zero zeros]
  simp only [View.ld_unit_zero (S := S512x1024) zeros, View.ld_unit_zero (S := S1x1024) zeros, View.ld_unit_zero (S := S1024x1024) zeros]
  unfold normRow root meanSq width eps
  pointwise [k0_pay1, k0_pay2]

theorem proj_out (x0 : Vec Ideal S512x1024 .f32) (x1 : Vec Ideal S1x1024 .f32) (x2 : Vec Ideal S1024x1024 .bf16) (p : Fin 512) (q : Fin 1024) :
    out0_4 x0 x1 x2 (ix2 p q) = projAt x0 x1 x2 p q := by
  unfold out0_4
  rw [View.canon_unit_zero zeros]
  simp only [View.ld_unit_zero (S := S512x1024) zeros, View.ld_unit_zero (S := S1x1024) zeros, View.ld_unit_zero (S := S1024x1024) zeros]
  unfold projAt normRow root meanSq width eps
  pointwise [k0_pay1, k0_pay2, dot_S512x1024_S1024x1024_S512x1024_1_0_0_1_n_n]

/-! ## The arrays -/

variable (m : (ℓ : Loc nD τ sig) → Buf (Elt Ideal) ℓ) (c : Dev nD)

/-- The rows. -/
abbrev arr0 : S2048x1024.Idx → EReal := m ((c : Thread nD τ).loc main_arg0)
/-- The scale. -/
abbrev arr1 : S1x1024.Idx → EReal := m ((c : Thread nD τ).loc main_arg1)
/-- The weight. -/
abbrev arr2 : S1024x1024.Idx → EReal := m ((c : Thread nD τ).loc main_arg2)

/-- Row `r` of grid point `t`'s block. -/
abbrev brow (t : Fin cfg0.N) (r : Fin 512) : Fin 2048 := row (a := 4) (b := 512) rfl (t.cast N_0) r

theorem index0 : ∀ t : Fin grid0.N, win0_0.index t 0 = t.val ∧ win0_0.index t 1 = 0 := by decide +kernel

theorem emb0 (t : Fin cfg0.N) (r : Fin 512) (q : Fin 1024) : (win0_0.rect t).emb (ix2 r q) = ix2 (brow t r) q := by
  funext a
  apply Fin.ext
  refine (win0_0.rect_emb_val t (ix2 r q) a).trans ?_
  fin_cases a
  · show win0_0.index t 0 * 512 + r.val = 512 * t.val + r.val
    rw [(index0 t).1]; omega
  · show win0_0.index t 1 * 1024 + q.val = q.val
    rw [(index0 t).2]; omega

/-- The block of window 0 that a point reads. -/
def blk0 (t : Fin cfg0.N) : Vec Ideal S512x1024 .f32 := iblk m c 0 t

theorem blk0_apply (t : Fin cfg0.N) (r : Fin 512) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1x1024.Idx) : (win0_1.rect t).emb y = y := by
  funext a
  apply Fin.ext
  refine (win0_1.rect_emb_val t y a).trans ?_
  fin_cases a
  · show win0_1.index t 0 * 1 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1x1024 .f32 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S1024x1024.Idx) : (win0_2.rect t).emb y = y := by
  funext a
  apply Fin.ext
  refine (win0_2.rect_emb_val t y a).trans ?_
  fin_cases a
  · show win0_2.index t 0 * 1024 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S1024x1024 .bf16 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 512) (q : Fin 1024) : (win0_3.rect t).emb (ix2 r q) = ix2 (brow t r) q := by
  funext a
  apply Fin.ext
  refine (win0_3.rect_emb_val t (ix2 r q) a).trans ?_
  fin_cases a
  · show win0_3.index t 0 * 512 + r.val = 512 * t.val + r.val
    rw [(index3 t).1]; omega
  · show win0_3.index t 1 * 1024 + q.val = q.val
    rw [(index3 t).2]; omega

theorem index4 : ∀ t : Fin grid0.N, win0_4.index t 0 = t.val ∧ win0_4.index t 1 = 0 := by decide +kernel

theorem emb4 (t : Fin cfg0.N) (r : Fin 512) (q : Fin 1024) : (win0_4.rect t).emb (ix2 r q) = ix2 (brow t r) q := by
  funext a
  apply Fin.ext
  refine (win0_4.rect_emb_val t (ix2 r q) a).trans ?_
  fin_cases a
  · show win0_4.index t 0 * 512 + r.val = 512 * t.val + r.val
    rw [(index4 t).1]; omega
  · show win0_4.index t 1 * 1024 + q.val = q.val
    rw [(index4 t).2]; omega

theorem norm_blk (t : Fin cfg0.N) (r : Fin 512) (q : Fin 1024) :
    normRow (blk0 m c t) (blk1 m c t) r q = normRow (arr0 m c) (arr1 m c) (brow t r) q := by
  unfold normRow
  simp only [blk0_apply, blk1_eq]

theorem proj_blk (t : Fin cfg0.N) (r : Fin 512) (q : Fin 1024) :
    projAt (blk0 m c t) (blk1 m c t) (blk2 m c t) r q = projAt (arr0 m c) (arr1 m c) (arr2 m c) (brow t r) q := by
  unfold projAt
  simp only [norm_blk, blk2_eq]

/-- The normed rows after the run. -/
theorem final_norm (n : Fin 2048) (q : Fin 1024) :
    (Gen.dats m 0 c).arrAt 3 cfg0.N (ix2 n q) = normRow (arr0 m c) (arr1 m c) n q := by
  obtain ⟨t, r, rfl⟩ := exists_row (a := 4) (b := 512) (N := 2048) rfl (by decide) n
  have hb := congrFun (Value.blocks3 m c (t.cast N_0.symm) (flush0_3 _)) (ix2 r q)
  rw [Value.flushed3] at hb
  have he := emb3 (t.cast N_0.symm) r q
  refine Eq.trans ?_ (hb.trans ((norm_out (blk0 m c (t.cast N_0.symm)) (blk1 m c (t.cast N_0.symm)) (blk2 m c (t.cast N_0.symm)) r q).trans (norm_blk m c (t.cast N_0.symm) r q)))
  exact congrArg ((Gen.dats m 0 c).arrAt 3 cfg0.N) he.symm

/-- The projection after the run. -/
theorem final_proj (n : Fin 2048) (q : Fin 1024) :
    (Gen.dats m 0 c).arrAt 4 cfg0.N (ix2 n q) = projAt (arr0 m c) (arr1 m c) (arr2 m c) n q := by
  obtain ⟨t, r, rfl⟩ := exists_row (a := 4) (b := 512) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans ((proj_out (blk0 m c (t.cast N_0.symm)) (blk1 m c (t.cast N_0.symm)) (blk2 m c (t.cast N_0.symm)) r q).trans (proj_blk m c (t.cast N_0.symm) r q)))
  exact congrArg ((Gen.dats m 0 c).arrAt 4 cfg0.N) he.symm

/-! ## The reference -/

theorem ref_norm (x0 : (⟨Cert.XqProjRefIdeal.S2048x1024, .f32⟩ : BufTy).Contents (Elt Ideal)) (x1 : (⟨Cert.XqProjRefIdeal.S1x1024, .f32⟩ : BufTy).Contents (Elt Ideal)) (p : Fin 2048) (q : Fin 1024) :
    Cert.XqProjRefIdeal.Read.val_main_v12 (F := Ideal) x0 x1 (ix2 p q) = normRow x0 x1 p q := by
  unfold normRow root meanSq width eps
  pointwise [Cert.XqProjRefIdeal.Read.val_main_v12, Cert.XqProjRefIdeal.Read.val_main_v11, Cert.XqProjRefIdeal.Read.val_main_v10, Cert.XqProjRefIdeal.Read.val_main_v9, Cert.XqProjRefIdeal.Read.val_main_v8, Cert.XqProjRefIdeal.Read.val_main_v7, Cert.XqProjRefIdeal.Read.val_main_v6, Cert.XqProjRefIdeal.Read.val_main_v5, Cert.XqProjRefIdeal.Read.val_main_cst_1, Cert.XqProjRefIdeal.Read.val_main_v4, Cert.XqProjRefIdeal.Read.val_main_v3, Cert.XqProjRefIdeal.Read.val_main_cst_0, Cert.XqProjRefIdeal.Read.val_main_v2, Cert.XqProjRefIdeal.Read.val_main_v1, Cert.XqProjRefIdeal.Read.val_main_v0, Cert.XqProjRefIdeal.Read.val_main_cst]

theorem ref_proj (x0 : (⟨Cert.XqProjRefIdeal.S2048x1024, .f32⟩ : BufTy).Contents (Elt Ideal)) (x1 : (⟨Cert.XqProjRefIdeal.S1x1024, .f32⟩ : BufTy).Contents (Elt Ideal)) (x2 : (⟨Cert.XqProjRefIdeal.S1024x1024, .bf16⟩ : BufTy).Contents (Elt Ideal)) (p : Fin 2048) (q : Fin 1024) :
    Cert.XqProjRefIdeal.Read.val_main_v27 (F := Ideal) x0 x1 x2 (ix2 p q) = projAt x0 x1 x2 p q := by
  unfold projAt normRow root meanSq width eps
  pointwise [Cert.XqProjRefIdeal.Read.val_main_v27, Cert.XqProjRefIdeal.Read.val_main_v26, Cert.XqProjRefIdeal.Read.val_main_v25, Cert.XqProjRefIdeal.Read.val_main_v24, Cert.XqProjRefIdeal.Read.val_main_v23, Cert.XqProjRefIdeal.Read.val_main_v22, Cert.XqProjRefIdeal.Read.val_main_v21, Cert.XqProjRefIdeal.Read.val_main_v20, Cert.XqProjRefIdeal.Read.val_main_v19, Cert.XqProjRefIdeal.Read.val_main_v18, Cert.XqProjRefIdeal.Read.val_main_cst_4, Cert.XqProjRefIdeal.Read.val_main_v17, Cert.XqProjRefIdeal.Read.val_main_v16, Cert.XqProjRefIdeal.Read.val_main_cst_3, Cert.XqProjRefIdeal.Read.val_main_v15, Cert.XqProjRefIdeal.Read.val_main_v14, Cert.XqProjRefIdeal.Read.val_main_v13, Cert.XqProjRefIdeal.Read.val_main_cst_2]

/-! ## The claim -/

theorem norm_eq : (Gen.dats m 0 c).arrAt 3 cfg0.N = Cert.XqProjRefIdeal.Read.val_main_v12 (F := Ideal) (arr0 m c) (arr1 m c) := by
  funext y
  obtain ⟨p, q, rfl⟩ : ∃ (p : Fin 2048) (q : Fin 1024), y = ix2 p q := ⟨y 0, y 1, eq_ix2 y⟩
  exact (final_norm m c p q).trans (ref_norm _ _ p q).symm

theorem proj_eq : (Gen.dats m 0 c).arrAt 4 cfg0.N = Cert.XqProjRefIdeal.Read.val_main_v27 (F := Ideal) (arr0 m c) (arr1 m c) (arr2 m c) := by
  funext y
  obtain ⟨p, q, rfl⟩ : ∃ (p : Fin 2048) (q : Fin 1024), y = ix2 p q := ⟨y 0, y 1, eq_ix2 y⟩
  exact (final_proj m c p q).trans (ref_proj _ _ _ p q).symm

/-- The kernel's run and the reference's run leave equal arrays. -/
theorem algebraic : Cert.algebraic_XqProjIdeal_XqProjRefIdeal := by
  intro m g m' g' _ hagree
  refine ⟨fun c => (Gen.dats m 0 c).arrAt 3 cfg0.N, fun c => (Gen.dats m 0 c).arrAt 4 cfg0.N, Value.run_blocks m g, ?_⟩
  refine (θ_run _ _ _).mono (fun r h c => ?_) (Cert.XqProjRefIdeal.Value.run (F := Ideal) m' g')
  obtain ⟨e0, e1, ea⟩ := h c
  obtain ⟨a0, a1, a2⟩ := hagree c
  refine ⟨e0.trans ?_, e1.trans ?_, ea⟩
  · rw [Cert.XqProjRefIdeal.Read.val_main_v12_eq, a0, a1]; exact (norm_eq m c).symm
  · rw [Cert.XqProjRefIdeal.Read.val_main_v27_eq, a0, a1, a2]; exact (proj_eq m c).symm

end Cert.XqProjIdeal.Hand

end
-- ==== Proof.XkvProj.lean ====
/- The norm before the memory's projection and the projection itself: every row is multiplied by the reciprocal root of its mean
   square and by the scale, and the normed row by the weight; each grid point computes one block of rows. -/
module

public import proofs.«01_k».proof.Defs
public import proofs.«01_k».proof.Proof.Gen.XkvProjIdeal.Value
public import proofs.«01_k».proof.Proof.Gen.XkvProjRefIdeal.Read
public import proofs.«01_k».proof.Proof.Blocks
public import proofs.«01_k».proof.Proof.NormRow
public import Idealize.ShloMosaic.Lib.Pipeline.ValueKit

@[expose] public section

set_option maxRecDepth 16384

noncomputable section

namespace Cert.XkvProjIdeal.Hand

open Cert.XkvProjIdeal Cert.XkvProjIdeal.Gen Idealize.ShloMosaic Idealize.ShloMosaic.TcCoe Idealize.SL.Sem
open Cert.Blocks Cert.Norm

theorem zeros : (![0, 0] : Fin 2 → ℕ) = fun _ => 0 := by funext a; fin_cases a <;> rfl

/-- The projection of the normed rows. -/
def projAt {M : ℕ} (x : (⟨2, ![M, 1024]⟩ : Shape).Idx → EReal) (g : S1x1024.Idx → EReal) (w : S2048x1024.Idx → EReal) (p : Fin M) (q : Fin 2048) : EReal :=
  ∑ k : Fin 1024, normRow x g p k * w (ix2 q k)

/-! ## What a point computes -/

theorem norm_out (x0 : Vec Ideal S256x1024 .f32) (x1 : Vec Ideal S1x1024 .f32) (x2 : Vec Ideal S2048x1024 .bf16) (p : Fin 256) (q : Fin 1024) :
    out0_3 x0 x1 x2 (ix2 p q) = normRow x0 x1 p q := by
  unfold out0_3
  rw [View.canon_unit_zero zeros]
  simp only [View.ld_unit_zero (S := S256x1024) zeros, View.ld_unit_zero (S := S1x1024) zeros, View.ld_unit_zero (S := S2048x1024) zeros]
  unfold normRow root meanSq width eps
  pointwise [k0_pay1, k0_pay2]

theorem proj_out (x0 : Vec Ideal S256x1024 .f32) (x1 : Vec Ideal S1x1024 .f32) (x2 : Vec Ideal S2048x1024 .bf16) (p : Fin 256) (q : Fin 2048) :
    out0_4 x0 x1 x2 (ix2 p q) = projAt x0 x1 x2 p q := by
  unfold out0_4
  rw [View.canon_unit_zero zeros]
  simp only [View.ld_unit_zero (S := S256x1024) zeros, View.ld_unit_zero (S := S1x1024) zeros, View.ld_unit_zero (S := S2048x1024) zeros]
  unfold projAt normRow root meanSq width eps
  pointwise [k0_pay1, k0_pay2, dot_S256x1024_S2048x1024_S256x2048_1_1_0_0_n_n]

/-! ## The arrays -/

variable (m : (ℓ : Loc nD τ sig) → Buf (Elt Ideal) ℓ) (c : Dev nD)

/-- The rows. -/
abbrev arr0 : S256x1024.Idx → EReal := m ((c : Thread nD τ).loc main_arg0)
/-- The scale. -/
abbrev arr1 : S1x1024.Idx → EReal := m ((c : Thread nD τ).loc main_arg1)
/-- The weight. -/
abbrev arr2 : S2048x1024.Idx → EReal := m ((c : Thread nD τ).loc main_arg2)

/-- Row `r` of grid point `t`'s block. -/
abbrev brow (t : Fin cfg0.N) (r : Fin 256) : Fin 256 := row (a := 1) (b := 256) rfl (t.cast N_0) r

theorem index0 : ∀ t : Fin grid0.N, win0_0.index t 0 = t.val ∧ win0_0.index t 1 = 0 := by decide +kernel

theorem emb0 (t : Fin cfg0.N) (r : Fin 256) (q : Fin 1024) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 1024 + q.val = q.val
    rw [(index0 t).2]; omega

/-- The block of window 0 that a point reads. -/
def blk0 (t : Fin cfg0.N) : Vec Ideal S256x1024 .f32 := iblk m c 0 t

theorem blk0_apply (t : Fin cfg0.N) (r : Fin 256) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1x1024.Idx) : (win0_1.rect t).emb y = y := by
  funext a
  apply Fin.ext
  refine (win0_1.rect_emb_val t y a).trans ?_
  fin_cases a
  · show win0_1.index t 0 * 1 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1x1024 .f32 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S2048x1024.Idx) : (win0_2.rect t).emb y = y := by
  funext a
  apply Fin.ext
  refine (win0_2.rect_emb_val t y a).trans ?_
  fin_cases a
  · show win0_2.index t 0 * 2048 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S2048x1024 .bf16 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 256) (q : Fin 1024) : (win0_3.rect t).emb (ix2 r q) = ix2 (brow t r) q := by
  funext a
  apply Fin.ext
  refine (win0_3.rect_emb_val t (ix2 r q) a).trans ?_
  fin_cases a
  · show win0_3.index t 0 * 256 + r.val = 256 * t.val + r.val
    rw [(index3 t).1]; omega
  · show win0_3.index t 1 * 1024 + q.val = q.val
    rw [(index3 t).2]; omega

theorem index4 : ∀ t : Fin grid0.N, win0_4.index t 0 = t.val ∧ win0_4.index t 1 = 0 := by decide +kernel

theorem emb4 (t : Fin cfg0.N) (r : Fin 256) (q : Fin 2048) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 2048 + q.val = q.val
    rw [(index4 t).2]; omega

theorem norm_blk (t : Fin cfg0.N) (r : Fin 256) (q : Fin 1024) :
    normRow (blk0 m c t) (blk1 m c t) r q = normRow (arr0 m c) (arr1 m c) (brow t r) q := by
  unfold normRow
  simp only [blk0_apply, blk1_eq]

theorem proj_blk (t : Fin cfg0.N) (r : Fin 256) (q : Fin 2048) :
    projAt (blk0 m c t) (blk1 m c t) (blk2 m c t) r q = projAt (arr0 m c) (arr1 m c) (arr2 m c) (brow t r) q := by
  unfold projAt
  simp only [norm_blk, blk2_eq]

/-- The normed rows after the run. -/
theorem final_norm (n : Fin 256) (q : Fin 1024) :
    (Gen.dats m 0 c).arrAt 3 cfg0.N (ix2 n q) = normRow (arr0 m c) (arr1 m c) n q := by
  obtain ⟨t, r, rfl⟩ := exists_row (a := 1) (b := 256) (N := 256) rfl (by decide) n
  have hb := congrFun (Value.blocks3 m c (t.cast N_0.symm) (flush0_3 _)) (ix2 r q)
  rw [Value.flushed3] at hb
  have he := emb3 (t.cast N_0.symm) r q
  refine Eq.trans ?_ (hb.trans ((norm_out (blk0 m c (t.cast N_0.symm)) (blk1 m c (t.cast N_0.symm)) (blk2 m c (t.cast N_0.symm)) r q).trans (norm_blk m c (t.cast N_0.symm) r q)))
  exact congrArg ((Gen.dats m 0 c).arrAt 3 cfg0.N) he.symm

/-- The projection after the run. -/
theorem final_proj (n : Fin 256) (q : Fin 2048) :
    (Gen.dats m 0 c).arrAt 4 cfg0.N (ix2 n q) = projAt (arr0 m c) (arr1 m c) (arr2 m c) n q := by
  obtain ⟨t, r, rfl⟩ := exists_row (a := 1) (b := 256) (N := 256) rfl (by decide) n
  have hb := congrFun (Value.blocks4 m c (t.cast N_0.symm) (flush0_4 _)) (ix2 r q)
  rw [Value.flushed4] at hb
  have he := emb4 (t.cast N_0.symm) r q
  refine Eq.trans ?_ (hb.trans ((proj_out (blk0 m c (t.cast N_0.symm)) (blk1 m c (t.cast N_0.symm)) (blk2 m c (t.cast N_0.symm)) r q).trans (proj_blk m c (t.cast N_0.symm) r q)))
  exact congrArg ((Gen.dats m 0 c).arrAt 4 cfg0.N) he.symm

/-! ## The reference -/

theorem ref_norm (x0 : (⟨Cert.XkvProjRefIdeal.S256x1024, .f32⟩ : BufTy).Contents (Elt Ideal)) (x1 : (⟨Cert.XkvProjRefIdeal.S1x1024, .f32⟩ : BufTy).Contents (Elt Ideal)) (p : Fin 256) (q : Fin 1024) :
    Cert.XkvProjRefIdeal.Read.val_main_v13 (F := Ideal) x0 x1 (ix2 p q) = normRow x0 x1 p q := by
  unfold normRow root meanSq width eps
  pointwise [Cert.XkvProjRefIdeal.Read.val_main_v13, Cert.XkvProjRefIdeal.Read.val_main_v12, Cert.XkvProjRefIdeal.Read.val_main_v11, Cert.XkvProjRefIdeal.Read.val_main_v10, Cert.XkvProjRefIdeal.Read.val_main_v9, Cert.XkvProjRefIdeal.Read.val_main_v8, Cert.XkvProjRefIdeal.Read.val_main_v7, Cert.XkvProjRefIdeal.Read.val_main_v6, Cert.XkvProjRefIdeal.Read.val_main_cst_1, Cert.XkvProjRefIdeal.Read.val_main_v5, Cert.XkvProjRefIdeal.Read.val_main_v4, Cert.XkvProjRefIdeal.Read.val_main_cst_0, Cert.XkvProjRefIdeal.Read.val_main_v3, Cert.XkvProjRefIdeal.Read.val_main_v2, Cert.XkvProjRefIdeal.Read.val_main_v1, Cert.XkvProjRefIdeal.Read.val_main_cst]

theorem ref_proj (x0 : (⟨Cert.XkvProjRefIdeal.S256x1024, .f32⟩ : BufTy).Contents (Elt Ideal)) (x1 : (⟨Cert.XkvProjRefIdeal.S1x1024, .f32⟩ : BufTy).Contents (Elt Ideal)) (x2 : (⟨Cert.XkvProjRefIdeal.S2048x1024, .bf16⟩ : BufTy).Contents (Elt Ideal)) (p : Fin 256) (q : Fin 2048) :
    Cert.XkvProjRefIdeal.Read.val_main_v27 (F := Ideal) x0 x1 x2 (ix2 p q) = projAt x0 x1 x2 p q := by
  unfold projAt normRow root meanSq width eps
  pointwise [Cert.XkvProjRefIdeal.Read.val_main_v27, Cert.XkvProjRefIdeal.Read.val_main_v26, Cert.XkvProjRefIdeal.Read.val_main_v0, Cert.XkvProjRefIdeal.Read.val_main_v25, Cert.XkvProjRefIdeal.Read.val_main_v24, Cert.XkvProjRefIdeal.Read.val_main_v23, Cert.XkvProjRefIdeal.Read.val_main_v22, Cert.XkvProjRefIdeal.Read.val_main_v21, Cert.XkvProjRefIdeal.Read.val_main_v20, Cert.XkvProjRefIdeal.Read.val_main_v19, Cert.XkvProjRefIdeal.Read.val_main_cst_4, Cert.XkvProjRefIdeal.Read.val_main_v18, Cert.XkvProjRefIdeal.Read.val_main_v17, Cert.XkvProjRefIdeal.Read.val_main_cst_3, Cert.XkvProjRefIdeal.Read.val_main_v16, Cert.XkvProjRefIdeal.Read.val_main_v15, Cert.XkvProjRefIdeal.Read.val_main_v14, Cert.XkvProjRefIdeal.Read.val_main_cst_2]

/-! ## The claim -/

theorem norm_eq : (Gen.dats m 0 c).arrAt 3 cfg0.N = Cert.XkvProjRefIdeal.Read.val_main_v13 (F := Ideal) (arr0 m c) (arr1 m c) := by
  funext y
  obtain ⟨p, q, rfl⟩ : ∃ (p : Fin 256) (q : Fin 1024), y = ix2 p q := ⟨y 0, y 1, eq_ix2 y⟩
  exact (final_norm m c p q).trans (ref_norm _ _ p q).symm

theorem proj_eq : (Gen.dats m 0 c).arrAt 4 cfg0.N = Cert.XkvProjRefIdeal.Read.val_main_v27 (F := Ideal) (arr0 m c) (arr1 m c) (arr2 m c) := by
  funext y
  obtain ⟨p, q, rfl⟩ : ∃ (p : Fin 256) (q : Fin 2048), y = ix2 p q := ⟨y 0, y 1, eq_ix2 y⟩
  exact (final_proj m c p q).trans (ref_proj _ _ _ p q).symm

/-- The kernel's run and the reference's run leave equal arrays. -/
theorem algebraic : Cert.algebraic_XkvProjIdeal_XkvProjRefIdeal := by
  intro m g m' g' _ hagree
  refine ⟨fun c => (Gen.dats m 0 c).arrAt 3 cfg0.N, fun c => (Gen.dats m 0 c).arrAt 4 cfg0.N, Value.run_blocks m g, ?_⟩
  refine (θ_run _ _ _).mono (fun r h c => ?_) (Cert.XkvProjRefIdeal.Value.run (F := Ideal) m' g')
  obtain ⟨e0, e1, ea⟩ := h c
  obtain ⟨a0, a1, a2⟩ := hagree c
  refine ⟨e0.trans ?_, e1.trans ?_, ea⟩
  · rw [Cert.XkvProjRefIdeal.Read.val_main_v13_eq, a0, a1]; exact (norm_eq m c).symm
  · rw [Cert.XkvProjRefIdeal.Read.val_main_v27_eq, a0, a1, a2]; exact (proj_eq m c).symm

end Cert.XkvProjIdeal.Hand

end
-- ==== Proof.XoProj.lean ====
/- The product of the cross attention's output projection, and the residual with the normed product added; each grid point computes one block
   of rows. -/
module

public import proofs.«01_k».proof.Defs
public import proofs.«01_k».proof.Proof.Gen.XoProjIdeal.Value
public import proofs.«01_k».proof.Proof.Gen.XoProjRefIdeal.Read
public import proofs.«01_k».proof.Proof.Blocks
public import proofs.«01_k».proof.Proof.NormRow
public import Idealize.ShloMosaic.Lib.Pipeline.ValueKit

@[expose] public section

set_option maxRecDepth 16384

noncomputable section

namespace Cert.XoProjIdeal.Hand

open Cert.XoProjIdeal Cert.XoProjIdeal.Gen Idealize.ShloMosaic Idealize.ShloMosaic.TcCoe Idealize.SL.Sem
open Cert.Blocks Cert.Norm

theorem zeros : (![0, 0] : Fin 2 → ℕ) = fun _ => 0 := by funext a; fin_cases a <;> rfl

/-! ## What a point computes -/

theorem prod_out (x0 : Vec Ideal S256x1024 .bf16) (x1 : Vec Ideal S1024x1024 .bf16) (x2 : Vec Ideal S1x1024 .f32) (x3 : Vec Ideal S256x1024 .f32) (p : Fin 256) (q : Fin 1024) :
    out0_4 x0 x1 x2 x3 (ix2 p q) = prodAt x0 x1 p q := by
  unfold out0_4
  rw [View.canon_unit_zero zeros]
  simp only [View.ld_unit_zero (S := S256x1024) zeros, View.ld_unit_zero (S := S1x1024) zeros, View.ld_unit_zero (S := S1024x1024) zeros]
  unfold prodAt
  pointwise [k0_pay1, k0_pay2, k0_pay3, dot_S256x1024_S1024x1024_S256x1024_1_0_0_1_n_n]

theorem sum_out (x0 : Vec Ideal S256x1024 .bf16) (x1 : Vec Ideal S1024x1024 .bf16) (x2 : Vec Ideal S1x1024 .f32) (x3 : Vec Ideal S256x1024 .f32) (p : Fin 256) (q : Fin 1024) :
    out0_5 x0 x1 x2 x3 (ix2 p q) = sumAt x0 x1 x2 x3 p q := by
  unfold out0_5
  rw [View.canon_unit_zero zeros]
  simp only [View.ld_unit_zero (S := S256x1024) zeros, View.ld_unit_zero (S := S1x1024) zeros, View.ld_unit_zero (S := S1024x1024) zeros]
  unfold sumAt prodAt root meanSq width eps
  pointwise [k0_pay1, k0_pay2, k0_pay3, dot_S256x1024_S1024x1024_S256x1024_1_0_0_1_n_n]

/-! ## The arrays -/

variable (m : (ℓ : Loc nD τ sig) → Buf (Elt Ideal) ℓ) (c : Dev nD)

/-- The left operand. -/
abbrev arr0 : S2048x1024.Idx → EReal := m ((c : Thread nD τ).loc main_arg0)
/-- The weight. -/
abbrev arr1 : S1024x1024.Idx → EReal := m ((c : Thread nD τ).loc main_arg1)
/-- The scale. -/
abbrev arr2 : S1x1024.Idx → EReal := m ((c : Thread nD τ).loc main_arg2)
/-- The residual. -/
abbrev arr3 : S2048x1024.Idx → EReal := m ((c : Thread nD τ).loc main_arg3)

/-- Row `r` of grid point `t`'s block. -/
abbrev brow (t : Fin cfg0.N) (r : Fin 256) : Fin 2048 := row (a := 8) (b := 256) rfl (t.cast N_0) r

theorem index0 : ∀ t : Fin grid0.N, win0_0.index t 0 = t.val ∧ win0_0.index t 1 = 0 := by decide +kernel

theorem emb0 (t : Fin cfg0.N) (r : Fin 256) (q : Fin 1024) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 1024 + q.val = q.val
    rw [(index0 t).2]; omega

/-- The block of window 0 that a point reads. -/
def blk0 (t : Fin cfg0.N) : Vec Ideal S256x1024 .bf16 := iblk m c 0 t

theorem blk0_apply (t : Fin cfg0.N) (r : Fin 256) (q : Fin 1024) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S1024x1024.Idx) : (win0_1.rect t).emb y = y := by
  funext a
  apply Fin.ext
  refine (win0_1.rect_emb_val t y a).trans ?_
  fin_cases a
  · show win0_1.index t 0 * 1024 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S1024x1024 .bf16 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S1x1024.Idx) : (win0_2.rect t).emb y = y := by
  funext a
  apply Fin.ext
  refine (win0_2.rect_emb_val t y a).trans ?_
  fin_cases a
  · show win0_2.index t 0 * 1 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S1x1024 .f32 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 256) (q : Fin 1024) : (win0_3.rect t).emb (ix2 r q) = ix2 (brow t r) q := by
  funext a
  apply Fin.ext
  refine (win0_3.rect_emb_val t (ix2 r q) a).trans ?_
  fin_cases a
  · show win0_3.index t 0 * 256 + r.val = 256 * t.val + r.val
    rw [(index3 t).1]; omega
  · show win0_3.index t 1 * 1024 + q.val = q.val
    rw [(index3 t).2]; omega

/-- The block of window 3 that a point reads. -/
def blk3 (t : Fin cfg0.N) : Vec Ideal S256x1024 .f32 := iblk m c 3 t

theorem blk3_apply (t : Fin cfg0.N) (r : Fin 256) (q : Fin 1024) : blk3 m c t (ix2 r q) = arr3 m c (ix2 (brow t r) q) := by
  show V m c main_arg3 ((win0_3.rect t).emb (ix2 r q)) = _
  rw [emb3, V_main_arg3]

theorem index4 : ∀ t : Fin grid0.N, win0_4.index t 0 = t.val ∧ win0_4.index t 1 = 0 := by decide +kernel

theorem emb4 (t : Fin cfg0.N) (r : Fin 256) (q : Fin 1024) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 1024 + q.val = q.val
    rw [(index4 t).2]; omega

theorem index5 : ∀ t : Fin grid0.N, win0_5.index t 0 = t.val ∧ win0_5.index t 1 = 0 := by decide +kernel

theorem emb5 (t : Fin cfg0.N) (r : Fin 256) (q : Fin 1024) : (win0_5.rect t).emb (ix2 r q) = ix2 (brow t r) q := by
  funext a
  apply Fin.ext
  refine (win0_5.rect_emb_val t (ix2 r q) a).trans ?_
  fin_cases a
  · show win0_5.index t 0 * 256 + r.val = 256 * t.val + r.val
    rw [(index5 t).1]; omega
  · show win0_5.index t 1 * 1024 + q.val = q.val
    rw [(index5 t).2]; omega

theorem prod_blk (t : Fin cfg0.N) (r : Fin 256) (q : Fin 1024) :
    prodAt (blk0 m c t) (blk1 m c t) r q = prodAt (arr0 m c) (arr1 m c) (brow t r) q := by
  unfold prodAt
  simp only [blk0_apply, blk1_eq]

theorem sum_blk (t : Fin cfg0.N) (r : Fin 256) (q : Fin 1024) :
    sumAt (blk0 m c t) (blk1 m c t) (blk2 m c t) (blk3 m c t) r q = sumAt (arr0 m c) (arr1 m c) (arr2 m c) (arr3 m c) (brow t r) q := by
  unfold sumAt
  simp only [prod_blk, blk2_eq, blk3_apply]

/-- The product after the run. -/
theorem final_prod (n : Fin 2048) (q : Fin 1024) :
    (Gen.dats m 0 c).arrAt 4 cfg0.N (ix2 n q) = prodAt (arr0 m c) (arr1 m c) n q := by
  obtain ⟨t, r, rfl⟩ := exists_row (a := 8) (b := 256) (N := 2048) rfl (by decide) n
  have hb := congrFun (Value.blocks4 m c (t.cast N_0.symm) (flush0_4 _)) (ix2 r q)
  rw [Value.flushed4] at hb
  have he := emb4 (t.cast N_0.symm) r q
  refine Eq.trans ?_ (hb.trans ((prod_out (blk0 m c (t.cast N_0.symm)) (blk1 m c (t.cast N_0.symm)) (blk2 m c (t.cast N_0.symm)) (blk3 m c (t.cast N_0.symm)) r q).trans (prod_blk m c (t.cast N_0.symm) r q)))
  exact congrArg ((Gen.dats m 0 c).arrAt 4 cfg0.N) he.symm

/-- The sum after the run. -/
theorem final_sum (n : Fin 2048) (q : Fin 1024) :
    (Gen.dats m 0 c).arrAt 5 cfg0.N (ix2 n q) = sumAt (arr0 m c) (arr1 m c) (arr2 m c) (arr3 m c) n q := by
  obtain ⟨t, r, rfl⟩ := exists_row (a := 8) (b := 256) (N := 2048) rfl (by decide) n
  have hb := congrFun (Value.blocks5 m c (t.cast N_0.symm) (flush0_5 _)) (ix2 r q)
  rw [Value.flushed5] at hb
  have he := emb5 (t.cast N_0.symm) r q
  refine Eq.trans ?_ (hb.trans ((sum_out (blk0 m c (t.cast N_0.symm)) (blk1 m c (t.cast N_0.symm)) (blk2 m c (t.cast N_0.symm)) (blk3 m c (t.cast N_0.symm)) r q).trans (sum_blk m c (t.cast N_0.symm) r q)))
  exact congrArg ((Gen.dats m 0 c).arrAt 5 cfg0.N) he.symm

/-! ## The reference -/

theorem ref_prod (x0 : (⟨Cert.XoProjRefIdeal.S2048x1024, .bf16⟩ : BufTy).Contents (Elt Ideal)) (x1 : (⟨Cert.XoProjRefIdeal.S1024x1024, .bf16⟩ : BufTy).Contents (Elt Ideal)) (p : Fin 2048) (q : Fin 1024) :
    Cert.XoProjRefIdeal.Read.val_main_v2 (F := Ideal) x0 x1 (ix2 p q) = prodAt x0 x1 p q := by
  unfold prodAt
  pointwise [Cert.XoProjRefIdeal.Read.val_main_v2, Cert.XoProjRefIdeal.Read.val_main_v1, Cert.XoProjRefIdeal.Read.val_main_v0]

theorem ref_sum (x0 : (⟨Cert.XoProjRefIdeal.S2048x1024, .bf16⟩ : BufTy).Contents (Elt Ideal)) (x1 : (⟨Cert.XoProjRefIdeal.S1024x1024, .bf16⟩ : BufTy).Contents (Elt Ideal)) (x2 : (⟨Cert.XoProjRefIdeal.S1x1024, .f32⟩ : BufTy).Contents (Elt Ideal)) (x3 : (⟨Cert.XoProjRefIdeal.S2048x1024, .f32⟩ : BufTy).Contents (Elt Ideal)) (p : Fin 2048) (q : Fin 1024) :
    Cert.XoProjRefIdeal.Read.val_main_v16 (F := Ideal) x0 x1 x2 x3 (ix2 p q) = sumAt x0 x1 x2 x3 p q := by
  unfold sumAt root meanSq width eps
  simp only [← ref_prod]
  pointwise [Cert.XoProjRefIdeal.Read.val_main_v16, Cert.XoProjRefIdeal.Read.val_main_v15, Cert.XoProjRefIdeal.Read.val_main_v14, Cert.XoProjRefIdeal.Read.val_main_v13, Cert.XoProjRefIdeal.Read.val_main_v12, Cert.XoProjRefIdeal.Read.val_main_v11, Cert.XoProjRefIdeal.Read.val_main_v10, Cert.XoProjRefIdeal.Read.val_main_v9, Cert.XoProjRefIdeal.Read.val_main_cst_1, Cert.XoProjRefIdeal.Read.val_main_v8, Cert.XoProjRefIdeal.Read.val_main_v7, Cert.XoProjRefIdeal.Read.val_main_cst_0, Cert.XoProjRefIdeal.Read.val_main_v6, Cert.XoProjRefIdeal.Read.val_main_v5, Cert.XoProjRefIdeal.Read.val_main_v4, Cert.XoProjRefIdeal.Read.val_main_cst]

/-! ## The claim -/

theorem prod_eq : (Gen.dats m 0 c).arrAt 4 cfg0.N = Cert.XoProjRefIdeal.Read.val_main_v3 (F := Ideal) (arr0 m c) (arr1 m c) := by
  funext y
  obtain ⟨p, q, rfl⟩ : ∃ (p : Fin 2048) (q : Fin 1024), y = ix2 p q := ⟨y 0, y 1, eq_ix2 y⟩
  exact (final_prod m c p q).trans (ref_prod _ _ p q).symm

theorem sum_eq : (Gen.dats m 0 c).arrAt 5 cfg0.N = Cert.XoProjRefIdeal.Read.val_main_v16 (F := Ideal) (arr0 m c) (arr1 m c) (arr2 m c) (arr3 m c) := by
  funext y
  obtain ⟨p, q, rfl⟩ : ∃ (p : Fin 2048) (q : Fin 1024), y = ix2 p q := ⟨y 0, y 1, eq_ix2 y⟩
  exact (final_sum m c p q).trans (ref_sum _ _ _ _ p q).symm

/-- The kernel's run and the reference's run leave equal arrays. -/
theorem algebraic : Cert.algebraic_XoProjIdeal_XoProjRefIdeal := by
  intro m g m' g' _ hagree
  refine ⟨fun c => (Gen.dats m 0 c).arrAt 4 cfg0.N, fun c => (Gen.dats m 0 c).arrAt 5 cfg0.N, Value.run_blocks m g, ?_⟩
  refine (θ_run _ _ _).mono (fun r h c => ?_) (Cert.XoProjRefIdeal.Value.run (F := Ideal) m' g')
  obtain ⟨e0, e1, ea⟩ := h c
  obtain ⟨a0, a1, a2, a3⟩ := hagree c
  refine ⟨e0.trans ?_, e1.trans ?_, ea⟩
  · rw [Cert.XoProjRefIdeal.Read.val_main_v3_eq, a0, a1]; exact (prod_eq m c).symm
  · rw [Cert.XoProjRefIdeal.Read.val_main_v16_eq, a0, a1, a2, a3]; exact (sum_eq m c).symm

end Cert.XoProjIdeal.Hand

end
-- ==== Proof.DownProj.lean ====
/- The product of the down projection, the gradient of the loss with respect to the step's output (the residual with the normed
   product added), and the loss itself: half the sum over the rows of the mean squared difference from the target,
   which the grid points accumulate block by block. -/
module

public import proofs.«01_k».proof.Defs
public import proofs.«01_k».proof.Proof.Gen.DownProjIdeal.Value
public import proofs.«01_k».proof.Proof.Gen.DownProjRefIdeal.Read
public import proofs.«01_k».proof.Proof.Blocks
public import proofs.«01_k».proof.Proof.Accumulate
public import proofs.«01_k».proof.Proof.SoftmaxGrad
public import proofs.«01_k».proof.Proof.NormRow
public import Idealize.ShloMosaic.Lib.Pipeline.ValueKit

@[expose] public section

set_option maxRecDepth 16384

noncomputable section

namespace Cert.DownProjIdeal.Hand

open Cert.DownProjIdeal Cert.DownProjIdeal.Gen Idealize.ShloMosaic Idealize.ShloMosaic.TcCoe Idealize.SL.Sem
open Cert.Blocks Cert.Norm
open Cert.Softmax (mul_sum_real)

theorem zeros : (![0, 0] : Fin 2 → ℕ) = fun _ => 0 := by funext a; fin_cases a <;> rfl

/-- One over the row's length. -/
def inv : EReal := Ideal.ofBits .f32 0x3A800000#32
/-- Half of it. -/
def half : EReal := Ideal.ofBits .f32 0x3A000000#32

theorem inv_eq : inv = ((1 / 1024 : ℝ) : EReal) := by
  simp [inv, Ideal.ofBits, Ideal.ieee, -EReal.coe_mul]; norm_num

theorem half_eq : half = ((1 / 2048 : ℝ) : EReal) := by
  simp [half, Ideal.ofBits, Ideal.ieee, -EReal.coe_mul]; norm_num

theorem one_half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- The difference of the step's output from the target. -/
def diffAt {M : ℕ} (x : (⟨2, ![M, 2816]⟩ : Shape).Idx → EReal) (w : S2816x1024.Idx → EReal) (g : S1x1024.Idx → EReal)
    (res tgt : (⟨2, ![M, 1024]⟩ : Shape).Idx → EReal) (p : Fin M) (q : Fin 1024) : EReal :=
  sumAt x w g res p q - tgt (ix2 p q)

/-- A row's sum of squared differences. -/
def rowLoss {M : ℕ} (x : (⟨2, ![M, 2816]⟩ : Shape).Idx → EReal) (w : S2816x1024.Idx → EReal) (g : S1x1024.Idx → EReal)
    (res tgt : (⟨2, ![M, 1024]⟩ : Shape).Idx → EReal) (p : Fin M) : EReal :=
  ∑ q : Fin 1024, diffAt x w g res tgt p q * diffAt x w g res tgt p q

/-! ## What a point computes -/

theorem prod_A (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : cond0_0 i)
    (x0 : Vec Ideal S256x2816 .bf16) (x1 : Vec Ideal S2816x1024 .bf16) (x2 : Vec Ideal S1x1024 .f32) (x3 : Vec Ideal S256x1024 .f32) (x4 : Vec Ideal S256x1024 .f32) (p : Fin 256) (q : Fin 1024) :
    out0_A_5 c i arg1 harg1 arg2 harg2 arg3 harg3 arg4 harg4 arg5 harg5 arg6 harg6 arg7 harg7 arg8 harg8 hc0 x0 x1 x2 x3 x4 (ix2 p q) = prodAt x0 x1 p q := by
  unfold out0_A_5
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold prodAt
  pointwise [k0_pay1, k0_pay2, k0_pay3, k0_pay4, k0_pay5, k0_pay6, k0_pay7, dot_S256x2816_S2816x1024_S256x1024_1_0_0_1_n_n]

theorem dout_A (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : cond0_0 i)
    (x0 : Vec Ideal S256x2816 .bf16) (x1 : Vec Ideal S2816x1024 .bf16) (x2 : Vec Ideal S1x1024 .f32) (x3 : Vec Ideal S256x1024 .f32) (x4 : Vec Ideal S256x1024 .f32) (p : Fin 256) (q : Fin 1024) :
    out0_A_6 c i arg1 harg1 arg2 harg2 arg3 harg3 arg4 harg4 arg5 harg5 arg6 harg6 arg7 harg7 arg8 harg8 hc0 x0 x1 x2 x3 x4 (ix2 p q) = diffAt x0 x1 x2 x3 x4 p q * inv := by
  unfold out0_A_6
  rw [View.read_writes_junk_eq_canon]
  unfold kernelRun0_A
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold inv diffAt sumAt prodAt root meanSq width eps
  pointwise [k0_pay1, k0_pay2, k0_pay3, k0_pay4, k0_pay5, k0_pay6, k0_pay7, dot_S256x2816_S2816x1024_S256x1024_1_0_0_1_n_n]

theorem loss_A (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : cond0_0 i)
    (x0 : Vec Ideal S256x2816 .bf16) (x1 : Vec Ideal S2816x1024 .bf16) (x2 : Vec Ideal S1x1024 .f32) (x3 : Vec Ideal S256x1024 .f32) (x4 : Vec Ideal S256x1024 .f32) (u : Fin 1) (q : Fin 1) :
    out0_A_7 c i arg1 harg1 arg2 harg2 arg3 harg3 arg4 harg4 arg5 harg5 arg6 harg6 arg7 harg7 arg8 harg8 hc0 x0 x1 x2 x3 x4 (ix2 u q) = half * ∑ p, rowLoss x0 x1 x2 x3 x4 p := by
  unfold out0_A_7
  rw [View.read_writes_junk_eq_canon]
  unfold kernelRun0_A
  dsimp only
  sl_unfold_words
  rw [View.canon_cons_unit_zero zeros]
  simp only [View.readCov_unit_zero (S := S1x1) _ zeros, View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold half rowLoss diffAt sumAt prodAt root meanSq width eps
  pointwise [k0_pay1, k0_pay2, k0_pay3, k0_pay4, k0_pay5, k0_pay6, k0_pay7, dot_S256x2816_S2816x1024_S256x1024_1_0_0_1_n_n]

theorem prod_B (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : ¬cond0_0 i)
    (x0 : Vec Ideal S256x2816 .bf16) (x1 : Vec Ideal S2816x1024 .bf16) (x2 : Vec Ideal S1x1024 .f32) (x3 : Vec Ideal S256x1024 .f32) (x4 : Vec Ideal S256x1024 .f32) (xo7 : Vec Ideal S1x1 .f32) (p : Fin 256) (q : Fin 1024) :
    out0_B_5 c i arg1 harg1 arg2 harg2 arg3 harg3 arg4 harg4 arg5 harg5 arg6 harg6 arg7 harg7 arg8 harg8 hc0 x0 x1 x2 x3 x4 xo7 (ix2 p q) = prodAt x0 x1 p q := by
  unfold out0_B_5
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold prodAt
  pointwise [k0_pay1, k0_pay2, k0_pay3, k0_pay4, k0_pay5, k0_pay6, k0_pay7, dot_S256x2816_S2816x1024_S256x1024_1_0_0_1_n_n]

theorem dout_B (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : ¬cond0_0 i)
    (x0 : Vec Ideal S256x2816 .bf16) (x1 : Vec Ideal S2816x1024 .bf16) (x2 : Vec Ideal S1x1024 .f32) (x3 : Vec Ideal S256x1024 .f32) (x4 : Vec Ideal S256x1024 .f32) (xo7 : Vec Ideal S1x1 .f32) (p : Fin 256) (q : Fin 1024) :
    out0_B_6 c i arg1 harg1 arg2 harg2 arg3 harg3 arg4 harg4 arg5 harg5 arg6 harg6 arg7 harg7 arg8 harg8 hc0 x0 x1 x2 x3 x4 xo7 (ix2 p q) = diffAt x0 x1 x2 x3 x4 p q * inv := by
  unfold out0_B_6
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold inv diffAt sumAt prodAt root meanSq width eps
  pointwise [k0_pay1, k0_pay2, k0_pay3, k0_pay4, k0_pay5, k0_pay6, k0_pay7, dot_S256x2816_S2816x1024_S256x1024_1_0_0_1_n_n]

theorem loss_B (c : Dev nD) (i : grid0.Coords) (arg1 : Memref sig .tc .vmem S256x2816 .bf16) (harg1 : arg1.IsWhole) (arg2 : Memref sig .tc .vmem S2816x1024 .bf16) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S256x1024 .f32) (harg7 : arg7.IsWhole) (arg8 : Memref sig .tc .vmem S1x1 .f32) (harg8 : arg8.IsWhole) (hc0 : ¬cond0_0 i)
    (x0 : Vec Ideal S256x2816 .bf16) (x1 : Vec Ideal S2816x1024 .bf16) (x2 : Vec Ideal S1x1024 .f32) (x3 : Vec Ideal S256x1024 .f32) (x4 : Vec Ideal S256x1024 .f32) (xo7 : Vec Ideal S1x1 .f32) (u : Fin 1) (q : Fin 1) :
    out0_B_7 c i arg1 harg1 arg2 harg2 arg3 harg3 arg4 harg4 arg5 harg5 arg6 harg6 arg7 harg7 arg8 harg8 hc0 x0 x1 x2 x3 x4 xo7 (ix2 u q) = xo7 (ix2 u q) + half * ∑ p, rowLoss x0 x1 x2 x3 x4 p := by
  unfold out0_B_7
  rw [View.read_writes_junk_eq_canon]
  unfold kernelRun0_B
  dsimp only
  sl_unfold_words
  rw [View.canon_unit_zero zeros]
  simp only [View.readAt_eq_ld, harg1.read_unread, harg2.read_unread, harg3.read_unread, harg4.read_unread, harg5.read_unread, harg6.read_unread, harg7.read_unread, harg8.read_unread, View.ld_unit_zero (S := S256x2816) zeros, View.ld_unit_zero (S := S256x1024) zeros, View.ld_unit_zero (S := S1x1024) zeros, View.ld_unit_zero (S := S2816x1024) zeros, View.ld_unit_zero (S := S1x1) zeros]
  unfold half rowLoss diffAt sumAt prodAt root meanSq width eps
  pointwise [k0_pay1, k0_pay2, k0_pay3, k0_pay4, k0_pay5, k0_pay6, k0_pay7, dot_S256x2816_S2816x1024_S256x1024_1_0_0_1_n_n]

/-! ## The arrays -/

variable (m : (ℓ : Loc nD τ sig) → Buf (Elt Ideal) ℓ) (c : Dev nD)

/-- The left operand. -/
abbrev arr0 : S2048x2816.Idx → EReal := m ((c : Thread nD τ).loc main_arg0)
/-- The weight. -/
abbrev arr1 : S2816x1024.Idx → EReal := m ((c : Thread nD τ).loc main_arg1)
/-- The scale. -/
abbrev arr2 : S1x1024.Idx → EReal := m ((c : Thread nD τ).loc main_arg2)
/-- The residual. -/
abbrev arr3 : S2048x1024.Idx → EReal := m ((c : Thread nD τ).loc main_arg3)
/-- The target. -/
abbrev arr4 : S2048x1024.Idx → EReal := m ((c : Thread nD τ).loc main_arg4)

/-- Row `r` of grid point `t`'s block. -/
abbrev brow (t : Fin cfg0.N) (r : Fin 256) : Fin 2048 := row (a := 8) (b := 256) rfl (t.cast N_0) r

/-- The differences over all rows. -/
abbrev diffs : Fin 2048 → Fin 1024 → EReal := diffAt (arr0 m c) (arr1 m c) (arr2 m c) (arr3 m c) (arr4 m c)
/-- Every row's sum of squared differences. -/
abbrev losses : Fin 2048 → EReal := rowLoss (arr0 m c) (arr1 m c) (arr2 m c) (arr3 m c) (arr4 m c)

theorem index0 : ∀ t : Fin grid0.N, win0_0.index t 0 = t.val ∧ win0_0.index t 1 = 0 := by decide +kernel

theorem emb0 (t : Fin cfg0.N) (r : Fin 256) (q : Fin 2816) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 2816 + q.val = q.val
    rw [(index0 t).2]; omega

/-- The block of window 0 that a point reads. -/
def blk0 (t : Fin cfg0.N) : Vec Ideal S256x2816 .bf16 := iblk m c 0 t

theorem blk0_apply (t : Fin cfg0.N) (r : Fin 256) (q : Fin 2816) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = 0 ∧ win0_1.index t 1 = 0 := by decide +kernel

theorem emb1 (t : Fin cfg0.N) (y : S2816x1024.Idx) : (win0_1.rect t).emb y = y := by
  funext a
  apply Fin.ext
  refine (win0_1.rect_emb_val t y a).trans ?_
  fin_cases a
  · show win0_1.index t 0 * 2816 + (y 0).val = (y 0).val
    rw [(index1 t).1]; omega
  · show win0_1.index t 1 * 1024 + (y 1).val = (y 1).val
    rw [(index1 t).2]; omega

/-- The array of window 1, which every point reads whole. -/
def blk1 (t : Fin cfg0.N) : Vec Ideal S2816x1024 .bf16 := iblk m c 1 t

theorem blk1_eq (t : Fin cfg0.N) : blk1 m c t = arr1 m c := by
  funext y
  show V m c main_arg1 ((win0_1.rect t).emb y) = _
  rw [emb1, V_main_arg1]

theorem index2 : ∀ t : Fin grid0.N, win0_2.index t 0 = 0 ∧ win0_2.index t 1 = 0 := by decide +kernel

theorem emb2 (t : Fin cfg0.N) (y : S1x1024.Idx) : (win0_2.rect t).emb y = y := by
  funext a
  apply Fin.ext
  refine (win0_2.rect_emb_val t y a).trans ?_
  fin_cases a
  · show win0_2.index t 0 * 1 + (y 0).val = (y 0).val
    rw [(index2 t).1]; omega
  · show win0_2.index t 1 * 1024 + (y 1).val = (y 1).val
    rw [(index2 t).2]; omega

/-- The array of window 2, which every point reads whole. -/
def blk2 (t : Fin cfg0.N) : Vec Ideal S1x1024 .f32 := iblk m c 2 t

theorem blk2_eq (t : Fin cfg0.N) : blk2 m c t = arr2 m c := by
  funext y
  show V m c main_arg2 ((win0_2.rect t).emb y) = _
  rw [emb2, V_main_arg2]

theorem index3 : ∀ t : Fin grid0.N, win0_3.index t 0 = t.val ∧ win0_3.index t 1 = 0 := by decide +kernel

theorem emb3 (t : Fin cfg0.N) (r : Fin 256) (q : Fin 1024) : (win0_3.rect t).emb (ix2 r q) = ix2 (brow t r) q := by
  funext a
  apply Fin.ext
  refine (win0_3.rect_emb_val t (ix2 r q) a).trans ?_
  fin_cases a
  · show win0_3.index t 0 * 256 + r.val = 256 * t.val + r.val
    rw [(index3 t).1]; omega
  · show win0_3.index t 1 * 1024 + q.val = q.val
    rw [(index3 t).2]; omega

/-- The block of window 3 that a point reads. -/
def blk3 (t : Fin cfg0.N) : Vec Ideal S256x1024 .f32 := iblk m c 3 t

theorem blk3_apply (t : Fin cfg0.N) (r : Fin 256) (q : Fin 1024) : blk3 m c t (ix2 r q) = arr3 m c (ix2 (brow t r) q) := by
  show V m c main_arg3 ((win0_3.rect t).emb (ix2 r q)) = _
  rw [emb3, V_main_arg3]

theorem index4 : ∀ t : Fin grid0.N, win0_4.index t 0 = t.val ∧ win0_4.index t 1 = 0 := by decide +kernel

theorem emb4 (t : Fin cfg0.N) (r : Fin 256) (q : Fin 1024) : (win0_4.rect t).emb (ix2 r q) = ix2 (brow t r) q := by
  funext a
  apply Fin.ext
  refine (win0_4.rect_emb_val t (ix2 r q) a).trans ?_
  fin_cases a
  · show win0_4.index t 0 * 256 + r.val = 256 * t.val + r.val
    rw [(index4 t).1]; omega
  · show win0_4.index t 1 * 1024 + q.val = q.val
    rw [(index4 t).2]; omega

/-- The block of window 4 that a point reads. -/
def blk4 (t : Fin cfg0.N) : Vec Ideal S256x1024 .f32 := iblk m c 4 t

theorem blk4_apply (t : Fin cfg0.N) (r : Fin 256) (q : Fin 1024) : blk4 m c t (ix2 r q) = arr4 m c (ix2 (brow t r) q) := by
  show V m c main_arg4 ((win0_4.rect t).emb (ix2 r q)) = _
  rw [emb4, V_main_arg4]

theorem index5 : ∀ t : Fin grid0.N, win0_5.index t 0 = t.val ∧ win0_5.index t 1 = 0 := by decide +kernel

theorem emb5 (t : Fin cfg0.N) (r : Fin 256) (q : Fin 1024) : (win0_5.rect t).emb (ix2 r q) = ix2 (brow t r) q := by
  funext a
  apply Fin.ext
  refine (win0_5.rect_emb_val t (ix2 r q) a).trans ?_
  fin_cases a
  · show win0_5.index t 0 * 256 + r.val = 256 * t.val + r.val
    rw [(index5 t).1]; omega
  · show win0_5.index t 1 * 1024 + q.val = q.val
    rw [(index5 t).2]; omega

theorem index6 : ∀ t : Fin grid0.N, win0_6.index t 0 = t.val ∧ win0_6.index t 1 = 0 := by decide +kernel

theorem emb6 (t : Fin cfg0.N) (r : Fin 256) (q : Fin 1024) : (win0_6.rect t).emb (ix2 r q) = ix2 (brow t r) q := by
  funext a
  apply Fin.ext
  refine (win0_6.rect_emb_val t (ix2 r q) a).trans ?_
  fin_cases a
  · show win0_6.index t 0 * 256 + r.val = 256 * t.val + r.val
    rw [(index6 t).1]; omega
  · show win0_6.index t 1 * 1024 + q.val = q.val
    rw [(index6 t).2]; omega

theorem index7 : ∀ t : Fin grid0.N, win0_7.index t 0 = 0 ∧ win0_7.index t 1 = 0 := by decide +kernel

theorem emb7 (t : Fin cfg0.N) (y : S1x1.Idx) : (win0_7.rect t).emb y = y := by
  funext a
  apply Fin.ext
  refine (win0_7.rect_emb_val t y a).trans ?_
  fin_cases a
  · show win0_7.index t 0 * 1 + (y 0).val = (y 0).val
    rw [(index7 t).1]; omega
  · show win0_7.index t 1 * 1 + (y 1).val = (y 1).val
    rw [(index7 t).2]; omega

theorem prod_blk (t : Fin cfg0.N) (r : Fin 256) (q : Fin 1024) :
    prodAt (blk0 m c t) (blk1 m c t) r q = prodAt (arr0 m c) (arr1 m c) (brow t r) q := by
  unfold prodAt
  simp only [blk0_apply, blk1_eq]

theorem diff_blk (t : Fin cfg0.N) (r : Fin 256) (q : Fin 1024) :
    diffAt (blk0 m c t) (blk1 m c t) (blk2 m c t) (blk3 m c t) (blk4 m c t) r q = diffs m c (brow t r) q := by
  unfold diffs diffAt sumAt
  simp only [prod_blk, blk2_eq, blk3_apply, blk4_apply]

theorem loss_blk (t : Fin cfg0.N) (r : Fin 256) :
    rowLoss (blk0 m c t) (blk1 m c t) (blk2 m c t) (blk3 m c t) (blk4 m c t) r = losses m c (brow t r) := by
  unfold losses rowLoss
  simp only [diff_blk]

theorem outs_A (t : Fin cfg0.N) (h0 : t.val % 8 = 0) : outsAt0 m c t.val t.isLt =
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 m c t) (blk1 m c t) (blk2 m c t) (blk3 m c t) (blk4 m c t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 m c t) (blk1 m c t) (blk2 m c t) (blk3 m c t) (blk4 m c t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blk0 m c t) (blk1 m c t) (blk2 m c t) (blk3 m c t) (blk4 m c t)) :=
  outsAt0_A m c t h0

theorem outs_B (t : Fin cfg0.N) (h0 : ¬t.val % 8 = 0) : outsAt0 m c t.val t.isLt =
    (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blk0 m c t) (blk1 m c t) (blk2 m c t) (blk3 m c t) (blk4 m c t)
      (outsAt0 m c (t.val - 1) (Nat.lt_of_le_of_lt (Nat.sub_le _ _) t.isLt)).2.2) :=
  outsAt0_B m c t h0

/-- The product that a point leaves. -/
theorem outs_prod (t : Fin cfg0.N) (r : Fin 256) (q : Fin 1024) :
    (outsAt0 m c t.val t.isLt).1 (ix2 r q) = prodAt (arr0 m c) (arr1 m c) (brow t r) q := by
  rw [← prod_blk]
  by_cases h0 : t.val % 8 = 0
  · rw [outs_A m c t h0]; dsimp only; exact prod_A ..
  · rw [outs_B m c t h0]; dsimp only; exact prod_B ..

/-- The product after the run. -/
theorem final_prod (n : Fin 2048) (q : Fin 1024) :
    (Gen.dats m 0 c).arrAt 5 cfg0.N (ix2 n q) = prodAt (arr0 m c) (arr1 m c) n q := by
  obtain ⟨t, r, rfl⟩ := exists_row (a := 8) (b := 256) (N := 2048) rfl (by decide) n
  have hb := congrFun (Value.blocks5 m c (t.cast N_0.symm) (flush0_5 _)) (ix2 r q)
  rw [Value.flushed5] at hb
  have he := emb5 (t.cast N_0.symm) r q
  refine Eq.trans ?_ (hb.trans (outs_prod m c (t.cast N_0.symm) r q))
  exact congrArg ((Gen.dats m 0 c).arrAt 5 cfg0.N) he.symm

/-- The output's gradient that a point leaves. -/
theorem outs_dout (t : Fin cfg0.N) (r : Fin 256) (q : Fin 1024) :
    (outsAt0 m c t.val t.isLt).2.1 (ix2 r q) = diffs m c (brow t r) q * inv := by
  rw [← diff_blk]
  by_cases h0 : t.val % 8 = 0
  · rw [outs_A m c t h0]; dsimp only; exact dout_A ..
  · rw [outs_B m c t h0]; dsimp only; exact dout_B ..

/-- The output's gradient after the run. -/
theorem final_dout (n : Fin 2048) (q : Fin 1024) :
    (Gen.dats m 0 c).arrAt 6 cfg0.N (ix2 n q) = diffs m c n q * inv := by
  obtain ⟨t, r, rfl⟩ := exists_row (a := 8) (b := 256) (N := 2048) rfl (by decide) n
  have hb := congrFun (Value.blocks6 m c (t.cast N_0.symm) (flush0_6 _)) (ix2 r q)
  rw [Value.flushed6] at hb
  have he := emb6 (t.cast N_0.symm) r q
  refine Eq.trans ?_ (hb.trans (outs_dout m c (t.cast N_0.symm) r q))
  exact congrArg ((Gen.dats m 0 c).arrAt 6 cfg0.N) he.symm

theorem last_lt : 7 < cfg0.N := lt_of_lt_of_eq (by decide) N_0.symm

/-- The loss after the last point. -/
theorem outs_loss (u q : Fin 1) :
    (outsAt0 m c 7 last_lt).2.2 (ix2 u q) = half * ∑ n, losses m c n := by
  rw [sum_rows (a := 8) (b := 256) rfl, half_eq, mul_sum_real (by norm_num), ← half_eq]
  refine (sum_upto (fun n h => (outsAt0 m c n h).2.2 (ix2 u q))
    (fun t => half * ∑ r, losses m c (brow t r)) (fun h => ?_) (fun n h => ?_) 7 last_lt).trans rfl
  · have e := outs_A m c ⟨0, h⟩ rfl
    dsimp only at e ⊢
    rw [e]
    simp only [← loss_blk]
    exact loss_A ..
  · have hn : n + 1 < 8 := lt_of_lt_of_eq h N_0
    have e := outs_B m c ⟨n + 1, h⟩ (by dsimp only; omega)
    dsimp only [Nat.add_sub_cancel] at e ⊢
    rw [e]
    simp only [← loss_blk]
    exact loss_B ..

theorem cover_loss (i : S1x1.Idx) : ∃ t : Fin cfg0.N, (cfg0.win 7).flush t = true ∧ i ∈ ((cfg0.win 7).blk t).view.set := by
  refine ⟨⟨7, last_lt⟩, (flush0_7 _).mpr rfl, ?_⟩
  have h := ((cfg0.win 7).blk ⟨7, last_lt⟩).view.emb_mem_set i
  exact (emb7 ⟨7, last_lt⟩ i) ▸ h

/-- The loss after the run. -/
theorem final_loss (u q : Fin 1) :
    (Gen.dats m 0 c).arrAt 7 cfg0.N (ix2 u q) = half * ∑ n, losses m c n := by
  rw [← outs_loss m c u q]
  have hN : cfg0.N = 8 := N_0
  refine congrFun ((Gen.dats m 0 c).arrAt_eq_of_cover 7 (outsAt0 m c 7 last_lt).2.2 (fun t hf => ?_) fun i => cover_loss i) (ix2 u q)
  have h3 : t.val = 7 := by have := (flush0_7 t).mp hf; have := t.isLt; omega
  obtain rfl : t = ⟨7, last_lt⟩ := Fin.ext h3
  rw [Value.flushed7]
  funext z
  exact (congrArg (outsAt0 m c 7 last_lt).2.2 (emb7 ⟨7, last_lt⟩ z)).symm

/-! ## The reference -/

theorem ref_prod (x0 : (⟨Cert.DownProjRefIdeal.S2048x2816, .bf16⟩ : BufTy).Contents (Elt Ideal)) (x1 : (⟨Cert.DownProjRefIdeal.S2816x1024, .bf16⟩ : BufTy).Contents (Elt Ideal)) (p : Fin 2048) (q : Fin 1024) :
    Cert.DownProjRefIdeal.Read.val_main_v2 (F := Ideal) x0 x1 (ix2 p q) = prodAt x0 x1 p q := by
  unfold prodAt
  pointwise [Cert.DownProjRefIdeal.Read.val_main_v2, Cert.DownProjRefIdeal.Read.val_main_v1, Cert.DownProjRefIdeal.Read.val_main_v0]

/-- The reference's difference from the target. -/
theorem ref_diff (x0 : (⟨Cert.DownProjRefIdeal.S2048x2816, .bf16⟩ : BufTy).Contents (Elt Ideal)) (x1 : (⟨Cert.DownProjRefIdeal.S2816x1024, .bf16⟩ : BufTy).Contents (Elt Ideal)) (x2 : (⟨Cert.DownProjRefIdeal.S1x1024, .f32⟩ : BufTy).Contents (Elt Ideal)) (x3 x4 : (⟨Cert.DownProjRefIdeal.S2048x1024, .f32⟩ : BufTy).Contents (Elt Ideal)) (p : Fin 2048) (q : Fin 1024) :
    Cert.DownProjRefIdeal.Read.val_main_v16 (F := Ideal) x0 x1 x2 x3 x4 (ix2 p q) = diffAt x0 x1 x2 x3 x4 p q := by
  unfold diffAt sumAt root meanSq width eps
  simp only [← ref_prod]
  pointwise [Cert.DownProjRefIdeal.Read.val_main_v16, Cert.DownProjRefIdeal.Read.val_main_v15, Cert.DownProjRefIdeal.Read.val_main_v14, Cert.DownProjRefIdeal.Read.val_main_v13, Cert.DownProjRefIdeal.Read.val_main_v12, Cert.DownProjRefIdeal.Read.val_main_v11, Cert.DownProjRefIdeal.Read.val_main_v10, Cert.DownProjRefIdeal.Read.val_main_v9, Cert.DownProjRefIdeal.Read.val_main_v8, Cert.DownProjRefIdeal.Read.val_main_cst_1, Cert.DownProjRefIdeal.Read.val_main_v7, Cert.DownProjRefIdeal.Read.val_main_v6, Cert.DownProjRefIdeal.Read.val_main_cst_0, Cert.DownProjRefIdeal.Read.val_main_v5, Cert.DownProjRefIdeal.Read.val_main_v4, Cert.DownProjRefIdeal.Read.val_main_v3, Cert.DownProjRefIdeal.Read.val_main_cst]

/-- The reference's gradient of the loss. -/
theorem ref_dout (x0 : (⟨Cert.DownProjRefIdeal.S2048x2816, .bf16⟩ : BufTy).Contents (Elt Ideal)) (x1 : (⟨Cert.DownProjRefIdeal.S2816x1024, .bf16⟩ : BufTy).Contents (Elt Ideal)) (x2 : (⟨Cert.DownProjRefIdeal.S1x1024, .f32⟩ : BufTy).Contents (Elt Ideal)) (x3 x4 : (⟨Cert.DownProjRefIdeal.S2048x1024, .f32⟩ : BufTy).Contents (Elt Ideal)) (p : Fin 2048) (q : Fin 1024) :
    Cert.DownProjRefIdeal.Read.val_main_v30 (F := Ideal) x0 x1 x2 x3 x4 (ix2 p q) = diffAt x0 x1 x2 x3 x4 p q * inv := by
  rw [← ref_diff]
  have hw : Ideal.ofBits .f32 0x44800000#32 = ((1024 : ℝ) : EReal) := width_eq
  pointwise [Cert.DownProjRefIdeal.Read.val_main_v30, Cert.DownProjRefIdeal.Read.val_main_v19, Cert.DownProjRefIdeal.Read.val_main_v18, Cert.DownProjRefIdeal.Read.val_main_cst_2, Cert.DownProjRefIdeal.Read.val_main_v29, Cert.DownProjRefIdeal.Read.val_main_v28, Cert.DownProjRefIdeal.Read.val_main_v27, Cert.DownProjRefIdeal.Read.val_main_cst_9, Cert.DownProjRefIdeal.Read.val_main_v26, Cert.DownProjRefIdeal.Read.val_main_v25, Cert.DownProjRefIdeal.Read.val_main_cst_8, Cert.DownProjRefIdeal.Read.val_main_cst_7]
  simp only [one_half_eq, two_eq, hw, inv_eq, mul_one]
  rw [Ideal.div_coe (by norm_num), ← EReal.coe_mul, ← mul_assoc, ← EReal.coe_mul, mul_comm]
  norm_num

/-- The reference's loss. -/
theorem ref_loss (x0 : (⟨Cert.DownProjRefIdeal.S2048x2816, .bf16⟩ : BufTy).Contents (Elt Ideal)) (x1 : (⟨Cert.DownProjRefIdeal.S2816x1024, .bf16⟩ : BufTy).Contents (Elt Ideal)) (x2 : (⟨Cert.DownProjRefIdeal.S1x1024, .f32⟩ : BufTy).Contents (Elt Ideal)) (x3 x4 : (⟨Cert.DownProjRefIdeal.S2048x1024, .f32⟩ : BufTy).Contents (Elt Ideal)) (u q : Fin 1) :
    Cert.DownProjRefIdeal.Read.val_main_v32 (F := Ideal) x0 x1 x2 x3 x4 (ix2 u q) = half * ∑ p, rowLoss x0 x1 x2 x3 x4 p := by
  unfold rowLoss
  simp only [← ref_diff]
  have hw : Ideal.ofBits .f32 0x44800000#32 = ((1024 : ℝ) : EReal) := width_eq
  pointwise [Cert.DownProjRefIdeal.Read.val_main_v32, Cert.DownProjRefIdeal.Read.val_main_v24, Cert.DownProjRefIdeal.Read.val_main_v23, Cert.DownProjRefIdeal.Read.val_main_v22, Cert.DownProjRefIdeal.Read.val_main_v21, Cert.DownProjRefIdeal.Read.val_main_cst_4, Cert.DownProjRefIdeal.Read.val_main_v20, Cert.DownProjRefIdeal.Read.val_main_v17, Cert.DownProjRefIdeal.Read.val_main_cst_3, Cert.DownProjRefIdeal.Read.val_main_cst_5, Cert.DownProjRefIdeal.Read.val_main_cst_6]
  simp only [one_half_eq, hw, half_eq, Ideal.div_coe (show (1024 : ℝ) ≠ 0 by norm_num)]
  simp only [mul_comm _ ((1 / 1024 : ℝ) : EReal)]
  rw [← mul_sum_real (by norm_num), ← mul_assoc, ← EReal.coe_mul]
  norm_num

/-! ## The claim -/

theorem prod_eq : (Gen.dats m 0 c).arrAt 5 cfg0.N = Cert.DownProjRefIdeal.Read.val_main_v31 (F := Ideal) (arr0 m c) (arr1 m c) := by
  funext y
  obtain ⟨p, q, rfl⟩ : ∃ (p : Fin 2048) (q : Fin 1024), y = ix2 p q := ⟨y 0, y 1, eq_ix2 y⟩
  exact (final_prod m c p q).trans (ref_prod _ _ p q).symm

theorem dout_eq : (Gen.dats m 0 c).arrAt 6 cfg0.N = Cert.DownProjRefIdeal.Read.val_main_v30 (F := Ideal) (arr0 m c) (arr1 m c) (arr2 m c) (arr3 m c) (arr4 m c) := by
  funext y
  obtain ⟨p, q, rfl⟩ : ∃ (p : Fin 2048) (q : Fin 1024), y = ix2 p q := ⟨y 0, y 1, eq_ix2 y⟩
  exact (final_dout m c p q).trans (ref_dout _ _ _ _ _ p q).symm

theorem loss_eq : (Gen.dats m 0 c).arrAt 7 cfg0.N = Cert.DownProjRefIdeal.Read.val_main_v32 (F := Ideal) (arr0 m c) (arr1 m c) (arr2 m c) (arr3 m c) (arr4 m c) := by
  funext y
  obtain ⟨u, q, rfl⟩ : ∃ (u q : Fin 1), y = ix2 u q := ⟨y 0, y 1, eq_ix2 y⟩
  exact (final_loss m c u q).trans (ref_loss _ _ _ _ _ u q).symm

/-- The kernel's run and the reference's run leave equal arrays. -/
theorem algebraic : Cert.algebraic_DownProjIdeal_DownProjRefIdeal := by
  intro m g m' g' _ hagree
  refine ⟨fun c => (Gen.dats m 0 c).arrAt 5 cfg0.N, fun c => (Gen.dats m 0 c).arrAt 6 cfg0.N, fun c => (Gen.dats m 0 c).arrAt 7 cfg0.N, Value.run_blocks m g, ?_⟩
  refine (θ_run _ _ _).mono (fun r h c => ?_) (Cert.DownProjRefIdeal.Value.run (F := Ideal) m' g')
  obtain ⟨e0, e1, e2, ea⟩ := h c
  obtain ⟨a0, a1, a2, a3, a4⟩ := hagree c
  refine ⟨e0.trans ?_, e1.trans ?_, e2.trans ?_, ea⟩
  · rw [Cert.DownProjRefIdeal.Read.val_main_v31_eq, a0, a1]; exact (prod_eq m c).symm
  · rw [Cert.DownProjRefIdeal.Read.val_main_v30_eq, a0, a1, a2, a3, a4]; exact (dout_eq m c).symm
  · rw [Cert.DownProjRefIdeal.Read.val_main_v32_eq, a0, a1, a2, a3, a4]; exact (loss_eq m c).symm

end Cert.DownProjIdeal.Hand

end
-- ==== Proof.MixOut.lean ====
/- The output projection of the mixing layer: the recurrence's two directions are added, normed head by head and gated
   by the silu of the gate's columns, laid beside the attention, multiplied by the weight, normed and added to the residual. -/
module

public import proofs.«01_k».proof.Defs
public import proofs.«01_k».proof.Proof.Gen.MixOutIdeal.Value
public import proofs.«01_k».proof.Proof.Gen.MixOutRefIdeal.Read
public import proofs.«01_k».proof.Proof.Blocks
public import proofs.«01_k».proof.Proof.Panels
public import proofs.«01_k».proof.Proof.NormRow
public import Idealize.ShloMosaic.Lib.Pipeline.ValueKit

@[expose] public section

set_option maxRecDepth 16384

noncomputable section

namespace Cert.MixOutIdeal.Hand

open Cert.MixOutIdeal Cert.MixOutIdeal.Gen Idealize.ShloMosaic Idealize.ShloMosaic.TcCoe Idealize.SL.Sem
open Cert.Blocks Cert.Norm Cert.Panels

theorem zeros : (![0, 0] : Fin 2 → ℕ) = fun _ => 0 := by funext a; fin_cases a <;> rfl

/-! ## Columns -/

/-- A column of the attention beside the heads. -/
def acol (x : Fin 512) : Fin 1024 := ⟨x.val, by omega⟩
/-- Column `d` of head `h` among the heads. -/
def hcol (h : Fin 4) (d : Fin 128) : Fin 512 := ⟨h.val * 128 + d.val, by omega⟩
/-- Column `d` of head `h` behind the attention. -/
def gcol (h : Fin 4) (d : Fin 128) : Fin 1024 := ⟨512 + 128 * h.val + d.val, by omega⟩

theorem exists_col (k : Fin 1024) : (∃ x, k = acol x) ∨ ∃ h d, k = gcol h d := by
  by_cases hk : k.val < 512
  · exact .inl ⟨⟨k.val, hk⟩, rfl⟩
  · refine .inr ⟨⟨(k.val - 512) / 128, by omega⟩, ⟨(k.val - 512) % 128, by omega⟩, Fin.ext ?_⟩
    simp only [gcol]
    omega

theorem exists_hcol (k : Fin 512) : ∃ h d, k = hcol h d :=
  ⟨⟨k.val / 128, by omega⟩, ⟨k.val % 128, by omega⟩, Fin.ext (by simp only [hcol]; omega)⟩

/-! ## The mathematics -/

/-- The reciprocal root of a head's mean square. -/
def headRoot (o : Fin 128 → EReal) : EReal :=
  Ideal.rsqrt (Ideal.div (∑ x, o x * o x) (Ideal.ofBits .f32 0x43000000#32) + Ideal.ofBits .f32 0x358637BD#32)

/-- A head's normed row times the scale and the silu of the gate `z`, at column `d`. -/
def gated (o γ : Fin 128 → EReal) (z : EReal) (d : Fin 128) : EReal :=
  o d * headRoot o * γ d * z * Ideal.div 1 (1 + Ideal.exp (0 - z))

section Spec
variable {M : ℕ} (att : (⟨2, ![M, 512]⟩ : Shape).Idx → EReal) (f b : (⟨2, ![M, 512]⟩ : Shape).Idx → EReal)
  (z : Fin M → Fin 512 → EReal) (g : (⟨2, ![1, 128]⟩ : Shape).Idx → EReal)

/-- Head `h` of row `p`, gated. -/
def headAt (p : Fin M) (h : Fin 4) (d : Fin 128) : EReal :=
  gated (fun x => f (ix2 p (hcol h x)) + b (ix2 p (hcol h x))) (fun x => g (ix2 0 x)) (z p (hcol h d)) d

/-- The attention and the gated heads side by side. -/
def catAt (p : Fin M) (k : Fin 1024) : EReal :=
  if h : k.val < 512 then att (ix2 p ⟨k.val, h⟩)
  else headAt f b z g p ⟨(k.val - 512) / 128, by omega⟩ ⟨(k.val - 512) % 128, by omega⟩

theorem catAt_acol (p : Fin M) (x : Fin 512) : catAt att f b z g p (acol x) = att (ix2 p x) := by
  unfold catAt
  rw [dif_pos (show (acol x).val < 512 from x.isLt)]
  rfl

theorem catAt_gcol (p : Fin M) (h : Fin 4) (d : Fin 128) : catAt att f b z g p (gcol h d) = headAt f b z g p h d := by
  unfold catAt
  rw [dif_neg (show ¬(gcol h d).val < 512 by simp only [gcol]; omega)]
  congr 1 <;> exact Fin.ext (by simp only [gcol]; omega)

variable (w : (⟨2, ![1024, 1024]⟩ : Shape).Idx → EReal)

/-- The output projection. -/
def outAt (p : Fin M) (q : Fin 1024) : EReal := ∑ k, catAt att f b z g p k * w (ix2 k q)

/-- The residual with the normed projection added. -/
def resAt (gp : (⟨2, ![1, 1024]⟩ : Shape).Idx → EReal) (x : (⟨2, ![M, 1024]⟩ : Shape).Idx → EReal) (p : Fin M) (q : Fin 1024) : EReal :=
  x (ix2 p q) + outAt att f b z g w p q * root (fun k => outAt att f b z g w p k) * gp (ix2 0 q)
end Spec

/-- The gate's columns out of the two blocks that hold them. -/
def gates {M : ℕ} (z0 z1 : (⟨2, ![M, 256]⟩ : Shape).Idx → EReal) (p : Fin M) (j : Fin 512) : EReal :=
  if h : j.val < 256 then z0 (ix2 p ⟨j.val, h⟩) else z1 (ix2 p ⟨j.val - 256, by omega⟩)

/-! ## What a point computes -/

section Payloads
variable {z : Vec Ideal S256x128 .bf16} {f b : Vec Ideal S256x128 .f32} {g : Vec Ideal S1x128 .f32} {r : Fin 256} {o γ : Fin 128 → EReal}
  {ζ : EReal} {d : Fin 128}
  (ho : ∀ x, f (ix2 r x) + b (ix2 r x) = o x) (hg : ∀ x, g (ix2 0 x) = γ x) (hz : z (ix2 r d) = ζ)
include ho hg hz

theorem head0_apply : k0_pay5 z f b g (ix2 r d) = gated o γ ζ d := by
  obtain rfl : (fun x => f (ix2 r x) + b (ix2 r x)) = o := funext ho
  obtain rfl : (fun x => g (ix2 0 x)) = γ := funext hg
  obtain rfl := hz
  unfold gated headRoot
  pointwise [k0_pay1, k0_pay2, k0_pay3, k0_pay4, k0_pay5, k0_pay6, k0_pay7, k0_pay8, k0_pay9, k0_pay10, k0_pay11, k0_pay12, k0_pay13, k0_pay14, k0_pay15]

theorem head1_apply : k0_pay7 (k0_pay6 z) f b g (ix2 r d) = gated o γ ζ d := by
  obtain rfl : (fun x => f (ix2 r x) + b (ix2 r x)) = o := funext ho
  obtain rfl : (fun x => g (ix2 0 x)) = γ := funext hg
  obtain rfl := hz
  unfold gated headRoot
  pointwise [k0_pay1, k0_pay2, k0_pay3, k0_pay4, k0_pay5, k0_pay6, k0_pay7, k0_pay8, k0_pay9, k0_pay10, k0_pay11, k0_pay12, k0_pay13, k0_pay14, k0_pay15]

theorem head2_apply : k0_pay12 (k0_pay8 z) (k0_pay9 f b) g (k0_pay10 f b) k0_pay11 (ix2 r d) = gated o γ ζ d := by
  obtain rfl : (fun x => f (ix2 r x) + b (ix2 r x)) = o := funext ho
  obtain rfl : (fun x => g (ix2 0 x)) = γ := funext hg
  obtain rfl := hz
  unfold gated headRoot
  pointwise [k0_pay1, k0_pay2, k0_pay3, k0_pay4, k0_pay5, k0_pay6, k0_pay7, k0_pay8, k0_pay9, k0_pay10, k0_pay11, k0_pay12, k0_pay13, k0_pay14, k0_pay15]

theorem head3_apply : k0_pay1 (k0_pay14 z f b g) (k0_pay15 z) (ix2 r d) = gated o γ ζ d := by
  obtain rfl : (fun x => f (ix2 r x) + b (ix2 r x)) = o := funext ho
  obtain rfl : (fun x => g (ix2 0 x)) = γ := funext hg
  obtain rfl := hz
  unfold gated headRoot
  pointwise [k0_pay1, k0_pay2, k0_pay3, k0_pay4, k0_pay5, k0_pay6, k0_pay7, k0_pay8, k0_pay9, k0_pay10, k0_pay11, k0_pay12, k0_pay13, k0_pay14, k0_pay15]

end Payloads

section Products
variable {x : Vec Ideal S256x1024 .bf16} {w : Vec Ideal S1024x1024 .bf16} {r : Fin 256} {C : Fin 1024 → EReal} {W : S1024x1024.Idx → EReal}
  (hx : ∀ k, x (ix2 r k) = C k) (hw : ∀ k q, w (ix2 k q) = W (ix2 k q))
include hx hw

theorem out_apply (q : Fin 1024) : k0_pay2 x w (ix2 r q) = ∑ k, C k * W (ix2 k q) := by
  obtain rfl : (fun k => x (ix2 r k)) = C := funext hx
  simp only [← hw]
  pointwise [k0_pay2, dot_S256x1024_S1024x1024_S256x1024_1_0_0_1_n_n]

theorem res_apply {X : Vec Ideal S256x1024 .f32} {gp : Vec Ideal S1x1024 .f32} {q : Fin 1024} {ξ η : EReal}
    (hX : X (ix2 r q) = ξ) (hgp : gp (ix2 0 q) = η) :
    k0_pay4 x w X gp (ix2 r q) = ξ + (∑ k, C k * W (ix2 k q)) * root (fun j => ∑ k, C k * W (ix2 k j)) * η := by
  obtain rfl := hX
  obtain rfl := hgp
  simp only [← out_apply hx hw]
  unfold root meanSq width eps
  pointwise [k0_pay4]

end Products

/-- Five stores, the attention's and then the four heads', leave the row side by side. -/
theorem cat_stores {P0 P1 P2 P3 : Vec Ideal S256x128 .bf16} {P : Vec Ideal S256x512 .bf16} {r : Fin 256}
    {x0 : S256x512.Idx → EReal} {x1 x2 : S256x512.Idx → EReal} {z : Fin 256 → Fin 512 → EReal} {g : S1x128.Idx → EReal}
    (i0 i1 i2 i3 i4)
    (hP : ∀ x, P (ix2 r x) = x0 (ix2 r x)) (h0 : ∀ d, P0 (ix2 r d) = headAt x1 x2 z g r 0 d) (h1 : ∀ d, P1 (ix2 r d) = headAt x1 x2 z g r 1 d)
    (h2 : ∀ d, P2 (ix2 r d) = headAt x1 x2 z g r 2 d) (h3 : ∀ d, P3 (ix2 r d) = headAt x1 x2 z g r 3 d) (k : Fin 1024) :
    View.canon (Val := Elt Ideal) (e := .bf16) [⟨Rect.unit (s := S256x1024) ![0, 896] S256x128.size i0, P3⟩, ⟨Rect.unit (s := S256x1024) ![0, 768] S256x128.size i1, P2⟩,
      ⟨Rect.unit (s := S256x1024) ![0, 640] S256x128.size i2, P1⟩, ⟨Rect.unit (s := S256x1024) ![0, 512] S256x128.size i3, P0⟩,
      ⟨Rect.unit (s := S256x1024) ![0, 0] S256x512.size i4, P⟩] (ix2 r k) = catAt x0 x1 x2 z g r k := by
  rcases exists_col k with ⟨x, rfl⟩ | ⟨h, d, rfl⟩
  · rw [catAt_acol, ← hP]
    refine (canon_miss _ _ _ r _ (by simp [acol] <;> omega)).trans ?_
    refine (canon_miss _ _ _ r _ (by simp [acol] <;> omega)).trans ?_
    refine (canon_miss _ _ _ r _ (by simp [acol] <;> omega)).trans ?_
    refine (canon_miss _ _ _ r _ (by simp [acol] <;> omega)).trans ?_
    exact canon_hit _ _ _ r x (acol x) (by simp [acol])
  · rw [catAt_gcol]
    fin_cases h
    · refine (canon_miss _ _ _ r _ (by simp [gcol] <;> omega)).trans ?_
      refine (canon_miss _ _ _ r _ (by simp [gcol] <;> omega)).trans ?_
      refine (canon_miss _ _ _ r _ (by simp [gcol] <;> omega)).trans ?_
      exact (canon_hit _ _ _ r d (gcol 0 d) rfl).trans (h0 d)
    · refine (canon_miss _ _ _ r _ (by simp [gcol] <;> omega)).trans ?_
      refine (canon_miss _ _ _ r _ (by simp [gcol] <;> omega)).trans ?_
      exact (canon_hit _ _ _ r d (gcol 1 d) rfl).trans (h1 d)
    · refine (canon_miss _ _ _ r _ (by simp [gcol] <;> omega)).trans ?_
      exact (canon_hit _ _ _ r d (gcol 2 d) rfl).trans (h2 d)
    · exact (canon_hit _ _ _ r d (gcol 3 d) rfl).trans (h3 d)

theorem gates_lo {M : ℕ} (z0 z1 : (⟨2, ![M, 256]⟩ : Shape).Idx → EReal) (p : Fin M) (h : Fin 4) (d : Fin 128) (hh : h.val < 2) (j : Fin 256)
    (hj : (hcol h d).val = j.val) : gates z0 z1 p (hcol h d) = z0 (ix2 p j) := by
  unfold gates
  rw [dif_pos (by simp only [hcol]; omega)]
  exact congrArg z0 (congrArg (ix2 p) (Fin.ext hj))

theorem gates_hi {M : ℕ} (z0 z1 : (⟨2, ![M, 256]⟩ : Shape).Idx → EReal) (p : Fin M) (h : Fin 4) (d : Fin 128) (hh : 2 ≤ h.val) (j : Fin 256)
    (hj : (hcol h d).val = 256 + j.val) : gates z0 z1 p (hcol h d) = z1 (ix2 p j) := by
  unfold gates
  rw [dif_neg (by simp only [hcol]; omega)]
  exact congrArg z1 (congrArg (ix2 p) (Fin.ext (by simp only; omega)))

theorem cat_A (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .f32) (harg12 : arg12.IsWhole)
    (x0 : Vec Ideal S256x512 .bf16) (x1 : Vec Ideal S256x512 .f32) (x2 : Vec Ideal S256x512 .f32) (x3 : Vec Ideal S256x256 .bf16) (x4 : Vec Ideal S256x256 .bf16) (x5 : Vec Ideal S1x128 .f32) (x6 : Vec Ideal S1024x1024 .bf16) (x7 : Vec Ideal S1x1024 .f32) (x8 : Vec Ideal S256x1024 .f32) (r : Fin 256) (q : Fin 1024) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r q) = catAt x0 x1 x2 (gates x3 x4) x5 r q := by
  unfold out0_A_9
  rw [View.read_writes_junk_eq_canon]
  unfold kernelRun0_A
  dsimp only
  sl_unfold_words
  exact cat_stores _ _ _ _ _ (fun x => load_panel harg1 x0 _ r x x (Nat.zero_add _).symm)
      (fun d => head0_apply (fun x => congrArg₂ (· + ·) (load_panel harg2 x1 _ r x (hcol 0 x) rfl) (load_panel harg3 x2 _ r x (hcol 0 x) rfl))
      (fun x => load_panel harg6 x5 _ 0 x x (Nat.zero_add _).symm) ((load_panel harg4 x3 _ r d (⟨0 + d.val, by omega⟩ : Fin 256) rfl).trans (gates_lo x3 x4 r 0 d (by decide) _ (by simp [hcol] <;> omega)).symm))
      (fun d => head1_apply (fun x => congrArg₂ (· + ·) (load_panel harg2 x1 _ r x (hcol 1 x) rfl) (load_panel harg3 x2 _ r x (hcol 1 x) rfl))
      (fun x => load_panel harg6 x5 _ 0 x x (Nat.zero_add _).symm) ((load_panel harg4 x3 _ r d (⟨128 + d.val, by omega⟩ : Fin 256) rfl).trans (gates_lo x3 x4 r 1 d (by decide) _ (by simp [hcol] <;> omega)).symm))
      (fun d => head2_apply (fun x => congrArg₂ (· + ·) (load_panel harg2 x1 _ r x (hcol 2 x) rfl) (load_panel harg3 x2 _ r x (hcol 2 x) rfl))
      (fun x => load_panel harg6 x5 _ 0 x x (Nat.zero_add _).symm) ((load_panel harg5 x4 _ r d (⟨0 + d.val, by omega⟩ : Fin 256) rfl).trans (gates_hi x3 x4 r 2 d (by decide) _ (by simp [hcol] <;> omega)).symm))
      (fun d => head3_apply (fun x => congrArg₂ (· + ·) (load_panel harg2 x1 _ r x (hcol 3 x) rfl) (load_panel harg3 x2 _ r x (hcol 3 x) rfl))
      (fun x => load_panel harg6 x5 _ 0 x x (Nat.zero_add _).symm) ((load_panel harg5 x4 _ r d (⟨128 + d.val, by omega⟩ : Fin 256) rfl).trans (gates_hi x3 x4 r 3 d (by decide) _ (by simp [hcol] <;> omega)).symm)) q

theorem out_A (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .f32) (harg12 : arg12.IsWhole)
    (x0 : Vec Ideal S256x512 .bf16) (x1 : Vec Ideal S256x512 .f32) (x2 : Vec Ideal S256x512 .f32) (x3 : Vec Ideal S256x256 .bf16) (x4 : Vec Ideal S256x256 .bf16) (x5 : Vec Ideal S1x128 .f32) (x6 : Vec Ideal S1024x1024 .bf16) (x7 : Vec Ideal S1x1024 .f32) (x8 : Vec Ideal S256x1024 .f32) (r : Fin 256) (q : Fin 1024) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r q) = outAt x0 x1 x2 (gates x3 x4) x5 x6 r q := by
  unfold out0_A_10
  rw [View.read_writes_junk_eq_canon]
  unfold kernelRun0_A
  dsimp only
  sl_unfold_words
  rw [View.canon_unit_zero zeros]
  exact out_apply (fun k => (reload_panel _ _ _ r k k (Nat.zero_add _).symm).trans
      (cat_stores _ _ _ _ _ (fun x => load_panel harg1 x0 _ r x x (Nat.zero_add _).symm)
      (fun d => head0_apply (fun x => congrArg₂ (· + ·) (load_panel harg2 x1 _ r x (hcol 0 x) rfl) (load_panel harg3 x2 _ r x (hcol 0 x) rfl))
      (fun x => load_panel harg6 x5 _ 0 x x (Nat.zero_add _).symm) ((load_panel harg4 x3 _ r d (⟨0 + d.val, by omega⟩ : Fin 256) rfl).trans (gates_lo x3 x4 r 0 d (by decide) _ (by simp [hcol] <;> omega)).symm))
      (fun d => head1_apply (fun x => congrArg₂ (· + ·) (load_panel harg2 x1 _ r x (hcol 1 x) rfl) (load_panel harg3 x2 _ r x (hcol 1 x) rfl))
      (fun x => load_panel harg6 x5 _ 0 x x (Nat.zero_add _).symm) ((load_panel harg4 x3 _ r d (⟨128 + d.val, by omega⟩ : Fin 256) rfl).trans (gates_lo x3 x4 r 1 d (by decide) _ (by simp [hcol] <;> omega)).symm))
      (fun d => head2_apply (fun x => congrArg₂ (· + ·) (load_panel harg2 x1 _ r x (hcol 2 x) rfl) (load_panel harg3 x2 _ r x (hcol 2 x) rfl))
      (fun x => load_panel harg6 x5 _ 0 x x (Nat.zero_add _).symm) ((load_panel harg5 x4 _ r d (⟨0 + d.val, by omega⟩ : Fin 256) rfl).trans (gates_hi x3 x4 r 2 d (by decide) _ (by simp [hcol] <;> omega)).symm))
      (fun d => head3_apply (fun x => congrArg₂ (· + ·) (load_panel harg2 x1 _ r x (hcol 3 x) rfl) (load_panel harg3 x2 _ r x (hcol 3 x) rfl))
      (fun x => load_panel harg6 x5 _ 0 x x (Nat.zero_add _).symm) ((load_panel harg5 x4 _ r d (⟨128 + d.val, by omega⟩ : Fin 256) rfl).trans (gates_hi x3 x4 r 3 d (by decide) _ (by simp [hcol] <;> omega)).symm)) k))
    (fun k q => load_panel harg7 x6 _ k q q (Nat.zero_add _).symm) q

theorem res_A (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .f32) (harg12 : arg12.IsWhole)
    (x0 : Vec Ideal S256x512 .bf16) (x1 : Vec Ideal S256x512 .f32) (x2 : Vec Ideal S256x512 .f32) (x3 : Vec Ideal S256x256 .bf16) (x4 : Vec Ideal S256x256 .bf16) (x5 : Vec Ideal S1x128 .f32) (x6 : Vec Ideal S1024x1024 .bf16) (x7 : Vec Ideal S1x1024 .f32) (x8 : Vec Ideal S256x1024 .f32) (r : Fin 256) (q : Fin 1024) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r q) = resAt x0 x1 x2 (gates x3 x4) x5 x6 x7 x8 r q := by
  unfold out0_A_11
  rw [View.read_writes_junk_eq_canon]
  unfold kernelRun0_A
  dsimp only
  sl_unfold_words
  rw [View.canon_unit_zero zeros]
  exact res_apply (fun k => (reload_panel _ _ _ r k k (Nat.zero_add _).symm).trans
      (cat_stores _ _ _ _ _ (fun x => load_panel harg1 x0 _ r x x (Nat.zero_add _).symm)
      (fun d => head0_apply (fun x => congrArg₂ (· + ·) (load_panel harg2 x1 _ r x (hcol 0 x) rfl) (load_panel harg3 x2 _ r x (hcol 0 x) rfl))
      (fun x => load_panel harg6 x5 _ 0 x x (Nat.zero_add _).symm) ((load_panel harg4 x3 _ r d (⟨0 + d.val, by omega⟩ : Fin 256) rfl).trans (gates_lo x3 x4 r 0 d (by decide) _ (by simp [hcol] <;> omega)).symm))
      (fun d => head1_apply (fun x => congrArg₂ (· + ·) (load_panel harg2 x1 _ r x (hcol 1 x) rfl) (load_panel harg3 x2 _ r x (hcol 1 x) rfl))
      (fun x => load_panel harg6 x5 _ 0 x x (Nat.zero_add _).symm) ((load_panel harg4 x3 _ r d (⟨128 + d.val, by omega⟩ : Fin 256) rfl).trans (gates_lo x3 x4 r 1 d (by decide) _ (by simp [hcol] <;> omega)).symm))
      (fun d => head2_apply (fun x => congrArg₂ (· + ·) (load_panel harg2 x1 _ r x (hcol 2 x) rfl) (load_panel harg3 x2 _ r x (hcol 2 x) rfl))
      (fun x => load_panel harg6 x5 _ 0 x x (Nat.zero_add _).symm) ((load_panel harg5 x4 _ r d (⟨0 + d.val, by omega⟩ : Fin 256) rfl).trans (gates_hi x3 x4 r 2 d (by decide) _ (by simp [hcol] <;> omega)).symm))
      (fun d => head3_apply (fun x => congrArg₂ (· + ·) (load_panel harg2 x1 _ r x (hcol 3 x) rfl) (load_panel harg3 x2 _ r x (hcol 3 x) rfl))
      (fun x => load_panel harg6 x5 _ 0 x x (Nat.zero_add _).symm) ((load_panel harg5 x4 _ r d (⟨128 + d.val, by omega⟩ : Fin 256) rfl).trans (gates_hi x3 x4 r 3 d (by decide) _ (by simp [hcol] <;> omega)).symm)) k))
    (fun k q => load_panel harg7 x6 _ k q q (Nat.zero_add _).symm)
    (load_panel harg9 x8 _ r q q (Nat.zero_add _).symm) (load_panel harg8 x7 _ 0 q q (Nat.zero_add _).symm)

/-! ## The arrays -/

variable (m : (ℓ : Loc nD τ sig) → Buf (Elt Ideal) ℓ) (c : Dev nD)

/-- The attention. -/
abbrev arr0 : S2048x512.Idx → EReal := m ((c : Thread nD τ).loc main_arg0)
/-- The forward direction. -/
abbrev arr1 : S2048x512.Idx → EReal := m ((c : Thread nD τ).loc main_arg1)
/-- The backward direction. -/
abbrev arr2 : S2048x512.Idx → EReal := m ((c : Thread nD τ).loc main_arg2)
/-- The input projection, whose last 512 columns are the gate's. -/
abbrev arr3 : S2048x3328.Idx → EReal := m ((c : Thread nD τ).loc main_arg3)
/-- The heads' scale. -/
abbrev arr5 : S1x128.Idx → EReal := m ((c : Thread nD τ).loc main_arg4)
/-- The weight. -/
abbrev arr6 : S1024x1024.Idx → EReal := m ((c : Thread nD τ).loc main_arg5)
/-- The output's scale. -/
abbrev arr7 : S1x1024.Idx → EReal := m ((c : Thread nD τ).loc main_arg6)
/-- The residual. -/
abbrev arr8 : S2048x1024.Idx → EReal := m ((c : Thread nD τ).loc main_arg7)

/-- Row `r` of grid point `t`'s block. -/
abbrev brow (t : Fin cfg0.N) (r : Fin 256) : Fin 2048 := row (a := 8) (b := 256) rfl (t.cast N_0) r

/-- The gate's columns of the input projection. -/
def gateCols (x : S2048x3328.Idx → EReal) (p : Fin 2048) (j : Fin 512) : EReal := x (ix2 p ⟨2816 + j.val, by omega⟩)

theorem index0 : ∀ t : Fin grid0.N, win0_0.index t 0 = t.val ∧ win0_0.index t 1 = 0 := by decide +kernel

theorem emb0 (t : Fin cfg0.N) (r : Fin 256) (q : Fin 512) : (win0_0.rect t).emb (ix2 r q) = ix2 (brow t r) q := by
  funext a
  apply Fin.ext
  refine (win0_0.rect_emb_val t (ix2 r q) a).trans ?_
  fin_cases a
  · show win0_0.index t 0 * 256 + r.val = 256 * t.val + r.val
    rw [(index0 t).1]; omega
  · show win0_0.index t 1 * 512 + q.val = q.val
    rw [(index0 t).2]; omega

/-- The block of window 0 that a point reads. -/
def blk0 (t : Fin cfg0.N) : Vec Ideal S256x512 .bf16 := iblk m c 0 t

theorem blk0_apply (t : Fin cfg0.N) (r : Fin 256) (q : Fin 512) : blk0 m c t (ix2 r q) = arr0 m c (ix2 (brow t r) q) := by
  show V m c main_arg0 ((win0_0.rect t).emb (ix2 r q)) = _
  rw [emb0, V_main_arg0]

theorem index1 : ∀ t : Fin grid0.N, win0_1.index t 0 = t.val ∧ win0_1.index t 1 = 0 := by decide +kernel

theorem emb1 (t : Fin cfg0.N) (r : Fin 256) (q : Fin 512) : (win0_1.rect t).emb (ix2 r q) = ix2 (brow t r) q := by
  funext a
  apply Fin.ext
  refine (win0_1.rect_emb_val t (ix2 r q) a).trans ?_
  fin_cases a
  · show win0_1.index t 0 * 256 + r.val = 256 * t.val + r.val
    rw [(index1 t).1]; omega
  · show win0_1.index t 1 * 512 + q.val = q.val
    rw [(index1 t).2]; omega

/-- The block of window 1 that a point reads. -/
def blk1 (t : Fin cfg0.N) : Vec Ideal S256x512 .f32 := iblk m c 1 t

theorem blk1_apply (t : Fin cfg0.N) (r : Fin 256) (q : Fin 512) : blk1 m c t (ix2 r q) = arr1 m c (ix2 (brow t r) q) := by
  show V m c main_arg1 ((win0_1.rect t).emb (ix2 r q)) = _
  rw [emb1, V_main_arg1]

theorem index2 : ∀ t : Fin grid0.N, win0_2.index t 0 = t.val ∧ win0_2.index t 1 = 0 := by decide +kernel

theorem emb2 (t : Fin cfg0.N) (r : Fin 256) (q : Fin 512) : (win0_2.rect t).emb (ix2 r q) = ix2 (brow t r) q := by
  funext a
  apply Fin.ext
  refine (win0_2.rect_emb_val t (ix2 r q) a).trans ?_
  fin_cases a
  · show win0_2.index t 0 * 256 + r.val = 256 * t.val + r.val
    rw [(index2 t).1]; omega
  · show win0_2.index t 1 * 512 + q.val = q.val
    rw [(index2 t).2]; omega

/-- The block of window 2 that a point reads. -/
def blk2 (t : Fin cfg0.N) : Vec Ideal S256x512 .f32 := iblk m c 2 t

theorem blk2_apply (t : Fin cfg0.N) (r : Fin 256) (q : Fin 512) : blk2 m c t (ix2 r q) = arr2 m c (ix2 (brow t r) q) := by
  show V m c main_arg2 ((win0_2.rect t).emb (ix2 r q)) = _
  rw [emb2, V_main_arg2]

theorem index3 : ∀ t : Fin grid0.N, win0_3.index t 0 = t.val ∧ win0_3.index t 1 = 11 := by decide +kernel

theorem emb3 (t : Fin cfg0.N) (r : Fin 256) (q : Fin 256) : (win0_3.rect t).emb (ix2 r q) = ix2 (brow t r) ⟨2816 + q.val, by omega⟩ := by
  funext a
  apply Fin.ext
  refine (win0_3.rect_emb_val t (ix2 r q) a).trans ?_
  fin_cases a
  · show win0_3.index t 0 * 256 + r.val = 256 * t.val + r.val
    rw [(index3 t).1]; omega
  · show win0_3.index t 1 * 256 + q.val = 2816 + q.val
    rw [(index3 t).2]

/-- The block of window 3 that a point reads. -/
def blk3 (t : Fin cfg0.N) : Vec Ideal S256x256 .bf16 := iblk m c 3 t

theorem blk3_apply (t : Fin cfg0.N) (r : Fin 256) (q : Fin 256) : blk3 m c t (ix2 r q) = arr3 m c (ix2 (brow t r) ⟨2816 + q.val, by omega⟩) := by
  show V m c main_arg3 ((win0_3.rect t).emb (ix2 r q)) = _
  rw [emb3, V_main_arg3]

theorem index4 : ∀ t : Fin grid0.N, win0_4.index t 0 = t.val ∧ win0_4.index t 1 = 12 := by decide +kernel

theorem emb4 (t : Fin cfg0.N) (r : Fin 256) (q : Fin 256) : (win0_4.rect t).emb (ix2 r q) = ix2 (brow t r) ⟨3072 + q.val, by omega⟩ := by
  funext a
  apply Fin.ext
  refine (win0_4.rect_emb_val t (ix2 r q) a).trans ?_
  fin_cases a
  · show win0_4.index t 0 * 256 + r.val = 256 * t.val + r.val
    rw [(index4 t).1]; omega
  · show win0_4.index t 1 * 256 + q.val = 3072 + q.val
    rw [(index4 t).2]

/-- The block of window 4 that a point reads. -/
def blk4 (t : Fin cfg0.N) : Vec Ideal S256x256 .bf16 := iblk m c 4 t

theorem blk4_apply (t : Fin cfg0.N) (r : Fin 256) (q : Fin 256) : blk4 m c t (ix2 r q) = arr3 m c (ix2 (brow t r) ⟨3072 + q.val, by omega⟩) := by
  show V m c main_arg3 ((win0_4.rect t).emb (ix2 r q)) = _
  rw [emb4, V_main_arg3]

theorem index5 : ∀ t : Fin grid0.N, win0_5.index t 0 = 0 ∧ win0_5.index t 1 = 0 := by decide +kernel

theorem emb5 (t : Fin cfg0.N) (y : S1x128.Idx) : (win0_5.rect t).emb y = y := by
  funext a
  apply Fin.ext
  refine (win0_5.rect_emb_val t y a).trans ?_
  fin_cases a
  · show win0_5.index t 0 * 1 + (y 0).val = (y 0).val
    rw [(index5 t).1]; omega
  · show win0_5.index t 1 * 128 + (y 1).val = (y 1).val
    rw [(index5 t).2]; omega

/-- The array of window 5, which every point reads whole. -/
def blk5 (t : Fin cfg0.N) : Vec Ideal S1x128 .f32 := iblk m c 5 t

theorem blk5_eq (t : Fin cfg0.N) : blk5 m c t = arr5 m c := by
  funext y
  show V m c main_arg4 ((win0_5.rect t).emb y) = _
  rw [emb5, V_main_arg4]

theorem index6 : ∀ t : Fin grid0.N, win0_6.index t 0 = 0 ∧ win0_6.index t 1 = 0 := by decide +kernel

theorem emb6 (t : Fin cfg0.N) (y : S1024x1024.Idx) : (win0_6.rect t).emb y = y := by
  funext a
  apply Fin.ext
  refine (win0_6.rect_emb_val t y a).trans ?_
  fin_cases a
  · show win0_6.index t 0 * 1024 + (y 0).val = (y 0).val
    rw [(index6 t).1]; omega
  · show win0_6.index t 1 * 1024 + (y 1).val = (y 1).val
    rw [(index6 t).2]; omega

/-- The array of window 6, which every point reads whole. -/
def blk6 (t : Fin cfg0.N) : Vec Ideal S1024x1024 .bf16 := iblk m c 6 t

theorem blk6_eq (t : Fin cfg0.N) : blk6 m c t = arr6 m c := by
  funext y
  show V m c main_arg5 ((win0_6.rect t).emb y) = _
  rw [emb6, V_main_arg5]

theorem index7 : ∀ t : Fin grid0.N, win0_7.index t 0 = 0 ∧ win0_7.index t 1 = 0 := by decide +kernel

theorem emb7 (t : Fin cfg0.N) (y : S1x1024.Idx) : (win0_7.rect t).emb y = y := by
  funext a
  apply Fin.ext
  refine (win0_7.rect_emb_val t y a).trans ?_
  fin_cases a
  · show win0_7.index t 0 * 1 + (y 0).val = (y 0).val
    rw [(index7 t).1]; omega
  · show win0_7.index t 1 * 1024 + (y 1).val = (y 1).val
    rw [(index7 t).2]; omega

/-- The array of window 7, which every point reads whole. -/
def blk7 (t : Fin cfg0.N) : Vec Ideal S1x1024 .f32 := iblk m c 7 t

theorem blk7_eq (t : Fin cfg0.N) : blk7 m c t = arr7 m c := by
  funext y
  show V m c main_arg6 ((win0_7.rect t).emb y) = _
  rw [emb7, V_main_arg6]

theorem index8 : ∀ t : Fin grid0.N, win0_8.index t 0 = t.val ∧ win0_8.index t 1 = 0 := by decide +kernel

theorem emb8 (t : Fin cfg0.N) (r : Fin 256) (q : Fin 1024) : (win0_8.rect t).emb (ix2 r q) = ix2 (brow t r) q := by
  funext a
  apply Fin.ext
  refine (win0_8.rect_emb_val t (ix2 r q) a).trans ?_
  fin_cases a
  · show win0_8.index t 0 * 256 + r.val = 256 * t.val + r.val
    rw [(index8 t).1]; omega
  · show win0_8.index t 1 * 1024 + q.val = q.val
    rw [(index8 t).2]; omega

/-- The block of window 8 that a point reads. -/
def blk8 (t : Fin cfg0.N) : Vec Ideal S256x1024 .f32 := iblk m c 8 t

theorem blk8_apply (t : Fin cfg0.N) (r : Fin 256) (q : Fin 1024) : blk8 m c t (ix2 r q) = arr8 m c (ix2 (brow t r) q) := by
  show V m c main_arg7 ((win0_8.rect t).emb (ix2 r q)) = _
  rw [emb8, V_main_arg7]

theorem index9 : ∀ t : Fin grid0.N, win0_9.index t 0 = t.val ∧ win0_9.index t 1 = 0 := by decide +kernel

theorem emb9 (t : Fin cfg0.N) (r : Fin 256) (q : Fin 1024) : (win0_9.rect t).emb (ix2 r q) = ix2 (brow t r) q := by
  funext a
  apply Fin.ext
  refine (win0_9.rect_emb_val t (ix2 r q) a).trans ?_
  fin_cases a
  · show win0_9.index t 0 * 256 + r.val = 256 * t.val + r.val
    rw [(index9 t).1]; omega
  · show win0_9.index t 1 * 1024 + q.val = q.val
    rw [(index9 t).2]; omega

theorem index10 : ∀ t : Fin grid0.N, win0_10.index t 0 = t.val ∧ win0_10.index t 1 = 0 := by decide +kernel

theorem emb10 (t : Fin cfg0.N) (r : Fin 256) (q : Fin 1024) : (win0_10.rect t).emb (ix2 r q) = ix2 (brow t r) q := by
  funext a
  apply Fin.ext
  refine (win0_10.rect_emb_val t (ix2 r q) a).trans ?_
  fin_cases a
  · show win0_10.index t 0 * 256 + r.val = 256 * t.val + r.val
    rw [(index10 t).1]; omega
  · show win0_10.index t 1 * 1024 + q.val = q.val
    rw [(index10 t).2]; omega

theorem index11 : ∀ t : Fin grid0.N, win0_11.index t 0 = t.val ∧ win0_11.index t 1 = 0 := by decide +kernel

theorem emb11 (t : Fin cfg0.N) (r : Fin 256) (q : Fin 1024) : (win0_11.rect t).emb (ix2 r q) = ix2 (brow t r) q := by
  funext a
  apply Fin.ext
  refine (win0_11.rect_emb_val t (ix2 r q) a).trans ?_
  fin_cases a
  · show win0_11.index t 0 * 256 + r.val = 256 * t.val + r.val
    rw [(index11 t).1]; omega
  · show win0_11.index t 1 * 1024 + q.val = q.val
    rw [(index11 t).2]; omega

theorem gates_blk (t : Fin cfg0.N) (r : Fin 256) (j : Fin 512) :
    gates (blk3 m c t) (blk4 m c t) r j = gateCols (arr3 m c) (brow t r) j := by
  unfold gates gateCols
  split
  · rw [blk3_apply]
  · rw [blk4_apply]
    exact congrArg (arr3 m c) (congrArg (ix2 _) (Fin.ext (by simp only; omega)))

theorem cat_blk (t : Fin cfg0.N) (r : Fin 256) (k : Fin 1024) : catAt (blk0 m c t) (blk1 m c t) (blk2 m c t) (gates (blk3 m c t) (blk4 m c t)) (blk5 m c t) r k = catAt (arr0 m c) (arr1 m c) (arr2 m c) (gateCols (arr3 m c)) (arr5 m c) (brow t r) k := by
  unfold catAt headAt
  simp only [blk0_apply, blk1_apply, blk2_apply, gates_blk, blk5_eq]

theorem out_blk (t : Fin cfg0.N) (r : Fin 256) (q : Fin 1024) :
    outAt (blk0 m c t) (blk1 m c t) (blk2 m c t) (gates (blk3 m c t) (blk4 m c t)) (blk5 m c t) (blk6 m c t) r q = outAt (arr0 m c) (arr1 m c) (arr2 m c) (gateCols (arr3 m c)) (arr5 m c) (arr6 m c) (brow t r) q := by
  unfold outAt
  simp only [cat_blk, blk6_eq]

theorem res_blk (t : Fin cfg0.N) (r : Fin 256) (q : Fin 1024) :
    resAt (blk0 m c t) (blk1 m c t) (blk2 m c t) (gates (blk3 m c t) (blk4 m c t)) (blk5 m c t) (blk6 m c t) (blk7 m c t) (blk8 m c t) r q = resAt (arr0 m c) (arr1 m c) (arr2 m c) (gateCols (arr3 m c)) (arr5 m c) (arr6 m c) (arr7 m c) (arr8 m c) (brow t r) q := by
  unfold resAt
  simp only [out_blk, blk7_eq, blk8_apply]

/-- The row side by side that a point leaves. -/
theorem outs_cat (t : Fin cfg0.N) (r : Fin 256) (q : Fin 1024) :
    (outsAt0 m c t).1 (ix2 r q) = catAt (arr0 m c) (arr1 m c) (arr2 m c) (gateCols (arr3 m c)) (arr5 m c) (brow t r) q := by
  rw [← cat_blk]
  unfold outsAt0 blk0 blk1 blk2 blk3 blk4 blk5
  dsimp only
  exact cat_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) r q

/-- The row side by side after the run. -/
theorem final_cat (n : Fin 2048) (q : Fin 1024) :
    (Gen.dats m 0 c).arrAt 9 cfg0.N (ix2 n q) = catAt (arr0 m c) (arr1 m c) (arr2 m c) (gateCols (arr3 m c)) (arr5 m c) n q := by
  obtain ⟨t, r, rfl⟩ := exists_row (a := 8) (b := 256) (N := 2048) rfl (by decide) n
  have hb := congrFun (Value.blocks9 m c (t.cast N_0.symm) (flush0_9 _)) (ix2 r q)
  rw [Value.flushed9] at hb
  have he := emb9 (t.cast N_0.symm) r q
  refine Eq.trans ?_ (hb.trans (outs_cat m c (t.cast N_0.symm) r q))
  exact congrArg ((Gen.dats m 0 c).arrAt 9 cfg0.N) he.symm

/-- The projection that a point leaves. -/
theorem outs_out (t : Fin cfg0.N) (r : Fin 256) (q : Fin 1024) :
    (outsAt0 m c t).2.1 (ix2 r q) = outAt (arr0 m c) (arr1 m c) (arr2 m c) (gateCols (arr3 m c)) (arr5 m c) (arr6 m c) (brow t r) q := by
  rw [← out_blk]
  unfold outsAt0 blk0 blk1 blk2 blk3 blk4 blk5 blk6
  dsimp only
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) r q

/-- The projection after the run. -/
theorem final_out (n : Fin 2048) (q : Fin 1024) :
    (Gen.dats m 0 c).arrAt 10 cfg0.N (ix2 n q) = outAt (arr0 m c) (arr1 m c) (arr2 m c) (gateCols (arr3 m c)) (arr5 m c) (arr6 m c) n q := by
  obtain ⟨t, r, rfl⟩ := exists_row (a := 8) (b := 256) (N := 2048) rfl (by decide) n
  have hb := congrFun (Value.blocks10 m c (t.cast N_0.symm) (flush0_10 _)) (ix2 r q)
  rw [Value.flushed10] at hb
  have he := emb10 (t.cast N_0.symm) r q
  refine Eq.trans ?_ (hb.trans (outs_out m c (t.cast N_0.symm) r q))
  exact congrArg ((Gen.dats m 0 c).arrAt 10 cfg0.N) he.symm

/-- The output that a point leaves. -/
theorem outs_res (t : Fin cfg0.N) (r : Fin 256) (q : Fin 1024) :
    (outsAt0 m c t).2.2 (ix2 r q) = resAt (arr0 m c) (arr1 m c) (arr2 m c) (gateCols (arr3 m c)) (arr5 m c) (arr6 m c) (arr7 m c) (arr8 m c) (brow t r) q := by
  rw [← res_blk]
  unfold outsAt0 blk0 blk1 blk2 blk3 blk4 blk5 blk6 blk7 blk8
  dsimp only
  exact res_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) r q

/-- The output after the run. -/
theorem final_res (n : Fin 2048) (q : Fin 1024) :
    (Gen.dats m 0 c).arrAt 11 cfg0.N (ix2 n q) = resAt (arr0 m c) (arr1 m c) (arr2 m c) (gateCols (arr3 m c)) (arr5 m c) (arr6 m c) (arr7 m c) (arr8 m c) n q := by
  obtain ⟨t, r, rfl⟩ := exists_row (a := 8) (b := 256) (N := 2048) rfl (by decide) n
  have hb := congrFun (Value.blocks11 m c (t.cast N_0.symm) (flush0_11 _)) (ix2 r q)
  rw [Value.flushed11] at hb
  have he := emb11 (t.cast N_0.symm) r q
  refine Eq.trans ?_ (hb.trans (outs_res m c (t.cast N_0.symm) r q))
  exact congrArg ((Gen.dats m 0 c).arrAt 11 cfg0.N) he.symm

/-! ## The reference -/

/-- The two directions' sum, head by head. -/
theorem ref_sum (x1 x2 : (⟨Cert.MixOutRefIdeal.S2048x512, .f32⟩ : BufTy).Contents (Elt Ideal)) (p : Fin 2048) (h : Fin 4) (d : Fin 128) :
    Cert.MixOutRefIdeal.Read.val_main_v1 (F := Ideal) x1 x2 (ix3 p h d) = x1 (ix2 p (hcol h d)) + x2 (ix2 p (hcol h d)) := by
  pointwise [Cert.MixOutRefIdeal.Read.val_main_v1, Cert.MixOutRefIdeal.Read.val_main_v0]
  rfl

/-- The reference's normed head. -/
theorem ref_norm (x1 x2 : (⟨Cert.MixOutRefIdeal.S2048x512, .f32⟩ : BufTy).Contents (Elt Ideal)) (x4 : (⟨Cert.MixOutRefIdeal.S1x128, .f32⟩ : BufTy).Contents (Elt Ideal)) (p : Fin 2048) (h : Fin 4) (d : Fin 128) :
    Cert.MixOutRefIdeal.Read.val_main_v14 (F := Ideal) x1 x2 x4 (ix3 p h d)
      = (x1 (ix2 p (hcol h d)) + x2 (ix2 p (hcol h d))) * headRoot (fun x => x1 (ix2 p (hcol h x)) + x2 (ix2 p (hcol h x))) * x4 (ix2 0 d) := by
  unfold headRoot
  pointwise [Cert.MixOutRefIdeal.Read.val_main_v14, Cert.MixOutRefIdeal.Read.val_main_v13, Cert.MixOutRefIdeal.Read.val_main_v12, Cert.MixOutRefIdeal.Read.val_main_v11, Cert.MixOutRefIdeal.Read.val_main_v10, Cert.MixOutRefIdeal.Read.val_main_v9, Cert.MixOutRefIdeal.Read.val_main_v8, Cert.MixOutRefIdeal.Read.val_main_v7, Cert.MixOutRefIdeal.Read.val_main_cst_1, Cert.MixOutRefIdeal.Read.val_main_v6, Cert.MixOutRefIdeal.Read.val_main_v5, Cert.MixOutRefIdeal.Read.val_main_cst_0, Cert.MixOutRefIdeal.Read.val_main_v4, Cert.MixOutRefIdeal.Read.val_main_v3, Cert.MixOutRefIdeal.Read.val_main_v2, Cert.MixOutRefIdeal.Read.val_main_cst]
  simp only [ref_sum]

/-- The reference's gate. -/
theorem ref_gate (x3 : (⟨Cert.MixOutRefIdeal.S2048x3328, .bf16⟩ : BufTy).Contents (Elt Ideal)) (p : Fin 2048) (j : Fin 512) :
    Cert.MixOutRefIdeal.Read.val_main_v18 (F := Ideal) x3 (ix2 p j) = gateCols x3 p j * Ideal.div 1 (1 + Ideal.exp (0 - gateCols x3 p j)) := by
  unfold gateCols
  rw [zero_sub]
  pointwise [Cert.MixOutRefIdeal.Read.val_main_v18, Cert.MixOutRefIdeal.Read.val_main_call0_v5, Cert.MixOutRefIdeal.Read.val_main_call0_v3, Cert.MixOutRefIdeal.Read.val_main_call0_v1, Cert.MixOutRefIdeal.Read.val_main_call0_v0, Cert.MixOutRefIdeal.Read.val_main_v17, Cert.MixOutRefIdeal.Read.val_main_v16, Cert.MixOutRefIdeal.Read.val_main_call0_v2, Cert.MixOutRefIdeal.Read.val_main_call0_cst, Cert.MixOutRefIdeal.Read.val_main_call0_v4, Cert.MixOutRefIdeal.Read.val_main_call0_cst_0]

/-- The reference's gated heads. -/
theorem ref_head (x1 x2 : (⟨Cert.MixOutRefIdeal.S2048x512, .f32⟩ : BufTy).Contents (Elt Ideal)) (x3 : (⟨Cert.MixOutRefIdeal.S2048x3328, .bf16⟩ : BufTy).Contents (Elt Ideal)) (x4 : (⟨Cert.MixOutRefIdeal.S1x128, .f32⟩ : BufTy).Contents (Elt Ideal)) (p : Fin 2048) (h : Fin 4) (d : Fin 128) :
    Cert.MixOutRefIdeal.Read.val_main_v20 (F := Ideal) x1 x2 x3 x4 (ix2 p (hcol h d)) = headAt x1 x2 (gateCols x3) x4 p h d := by
  have e1 : ((hcol h d).val / 128) = h.val := by simp only [hcol]; omega
  have e2 : ((hcol h d).val % 128) = d.val := by simp only [hcol]; omega
  unfold headAt gated
  rw [mul_assoc _ (gateCols x3 p (hcol h d))]
  rw [← ref_gate, ← ref_norm]
  pointwise [Cert.MixOutRefIdeal.Read.val_main_v20, Cert.MixOutRefIdeal.Read.val_main_v15]
  simp only [e1, e2, Fin.eta]

/-- The reference's row side by side. -/
theorem ref_cat (x0 : (⟨Cert.MixOutRefIdeal.S2048x512, .bf16⟩ : BufTy).Contents (Elt Ideal)) (x1 x2 : (⟨Cert.MixOutRefIdeal.S2048x512, .f32⟩ : BufTy).Contents (Elt Ideal)) (x3 : (⟨Cert.MixOutRefIdeal.S2048x3328, .bf16⟩ : BufTy).Contents (Elt Ideal)) (x4 : (⟨Cert.MixOutRefIdeal.S1x128, .f32⟩ : BufTy).Contents (Elt Ideal)) (p : Fin 2048) (k : Fin 1024) :
    Cert.MixOutRefIdeal.Read.val_main_v21 (F := Ideal) x0 x1 x2 x3 x4 (ix2 p k) = catAt x0 x1 x2 (gateCols x3) x4 p k := by
  rcases exists_col k with ⟨x, rfl⟩ | ⟨h, d, rfl⟩
  · rw [catAt_acol]
    pointwise [Cert.MixOutRefIdeal.Read.val_main_v21, Cert.MixOutRefIdeal.Read.val_main_v19]
    rw [dif_pos (show (acol x).val < 512 from x.isLt)]
    rfl
  · rw [catAt_gcol, ← ref_head]
    pointwise [Cert.MixOutRefIdeal.Read.val_main_v21]
    rw [dif_neg (show ¬(gcol h d).val < 512 by simp only [gcol]; omega)]
    exact congrArg _ (congrArg (ix2 p) (Fin.ext (by simp only [gcol, hcol]; omega)))

/-- The reference's projection. -/
theorem ref_out (x0 : (⟨Cert.MixOutRefIdeal.S2048x512, .bf16⟩ : BufTy).Contents (Elt Ideal)) (x1 x2 : (⟨Cert.MixOutRefIdeal.S2048x512, .f32⟩ : BufTy).Contents (Elt Ideal)) (x3 : (⟨Cert.MixOutRefIdeal.S2048x3328, .bf16⟩ : BufTy).Contents (Elt Ideal)) (x4 : (⟨Cert.MixOutRefIdeal.S1x128, .f32⟩ : BufTy).Contents (Elt Ideal)) (x5 : (⟨Cert.MixOutRefIdeal.S1024x1024, .bf16⟩ : BufTy).Contents (Elt Ideal)) (p : Fin 2048) (q : Fin 1024) :
    Cert.MixOutRefIdeal.Read.val_main_v23 (F := Ideal) x0 x1 x2 x3 x4 x5 (ix2 p q) = outAt x0 x1 x2 (gateCols x3) x4 x5 p q := by
  unfold outAt
  simp only [← ref_cat]
  pointwise [Cert.MixOutRefIdeal.Read.val_main_v23, Cert.MixOutRefIdeal.Read.val_main_v22]

/-- The reference's output. -/
theorem ref_res (x0 : (⟨Cert.MixOutRefIdeal.S2048x512, .bf16⟩ : BufTy).Contents (Elt Ideal)) (x1 x2 : (⟨Cert.MixOutRefIdeal.S2048x512, .f32⟩ : BufTy).Contents (Elt Ideal)) (x3 : (⟨Cert.MixOutRefIdeal.S2048x3328, .bf16⟩ : BufTy).Contents (Elt Ideal)) (x4 : (⟨Cert.MixOutRefIdeal.S1x128, .f32⟩ : BufTy).Contents (Elt Ideal)) (x5 : (⟨Cert.MixOutRefIdeal.S1024x1024, .bf16⟩ : BufTy).Contents (Elt Ideal)) (x6 : (⟨Cert.MixOutRefIdeal.S1x1024, .f32⟩ : BufTy).Contents (Elt Ideal)) (x7 : (⟨Cert.MixOutRefIdeal.S2048x1024, .f32⟩ : BufTy).Contents (Elt Ideal)) (p : Fin 2048) (q : Fin 1024) :
    Cert.MixOutRefIdeal.Read.val_main_v38 (F := Ideal) x0 x1 x2 x3 x4 x5 x6 x7 (ix2 p q) = resAt x0 x1 x2 (gateCols x3) x4 x5 x6 x7 p q := by
  unfold resAt root meanSq width eps
  simp only [← ref_out]
  pointwise [Cert.MixOutRefIdeal.Read.val_main_v38, Cert.MixOutRefIdeal.Read.val_main_v37, Cert.MixOutRefIdeal.Read.val_main_v36, Cert.MixOutRefIdeal.Read.val_main_v35, Cert.MixOutRefIdeal.Read.val_main_v34, Cert.MixOutRefIdeal.Read.val_main_v33, Cert.MixOutRefIdeal.Read.val_main_v32, Cert.MixOutRefIdeal.Read.val_main_v31, Cert.MixOutRefIdeal.Read.val_main_cst_4, Cert.MixOutRefIdeal.Read.val_main_v30, Cert.MixOutRefIdeal.Read.val_main_v29, Cert.MixOutRefIdeal.Read.val_main_cst_3, Cert.MixOutRefIdeal.Read.val_main_v28, Cert.MixOutRefIdeal.Read.val_main_v27, Cert.MixOutRefIdeal.Read.val_main_v26, Cert.MixOutRefIdeal.Read.val_main_cst_2]

/-! ## The claim -/

theorem cat_eq : (Gen.dats m 0 c).arrAt 9 cfg0.N = Cert.MixOutRefIdeal.Read.val_main_v24 (F := Ideal) (arr0 m c) (arr1 m c) (arr2 m c) (arr3 m c) (arr5 m c) := by
  funext y
  obtain ⟨p, q, rfl⟩ : ∃ (p : Fin 2048) (q : Fin 1024), y = ix2 p q := ⟨y 0, y 1, eq_ix2 y⟩
  exact (final_cat m c p q).trans (ref_cat _ _ _ _ _ p q).symm

theorem out_eq : (Gen.dats m 0 c).arrAt 10 cfg0.N = Cert.MixOutRefIdeal.Read.val_main_v25 (F := Ideal) (arr0 m c) (arr1 m c) (arr2 m c) (arr3 m c) (arr5 m c) (arr6 m c) := by
  funext y
  obtain ⟨p, q, rfl⟩ : ∃ (p : Fin 2048) (q : Fin 1024), y = ix2 p q := ⟨y 0, y 1, eq_ix2 y⟩
  exact (final_out m c p q).trans (ref_out _ _ _ _ _ _ p q).symm

theorem res_eq : (Gen.dats m 0 c).arrAt 11 cfg0.N = Cert.MixOutRefIdeal.Read.val_main_v38 (F := Ideal) (arr0 m c) (arr1 m c) (arr2 m c) (arr3 m c) (arr5 m c) (arr6 m c) (arr7 m c) (arr8 m c) := by
  funext y
  obtain ⟨p, q, rfl⟩ : ∃ (p : Fin 2048) (q : Fin 1024), y = ix2 p q := ⟨y 0, y 1, eq_ix2 y⟩
  exact (final_res m c p q).trans (ref_res _ _ _ _ _ _ _ _ p q).symm

/-- The kernel's run and the reference's run leave equal arrays. -/
theorem algebraic : Cert.algebraic_MixOutIdeal_MixOutRefIdeal := by
  intro m g m' g' _ hagree
  refine ⟨fun c => (Gen.dats m 0 c).arrAt 9 cfg0.N, fun c => (Gen.dats m 0 c).arrAt 10 cfg0.N, fun c => (Gen.dats m 0 c).arrAt 11 cfg0.N, Value.run_blocks m g, ?_⟩
  refine (θ_run _ _ _).mono (fun r h c => ?_) (Cert.MixOutRefIdeal.Value.run (F := Ideal) m' g')
  obtain ⟨e0, e1, e2, ea⟩ := h c
  obtain ⟨a0, a1, a2, a3, a4, a5, a6, a7⟩ := hagree c
  refine ⟨e0.trans ?_, e1.trans ?_, e2.trans ?_, ea⟩
  · rw [Cert.MixOutRefIdeal.Read.val_main_v24_eq, a0, a1, a2, a3, a4]; exact (cat_eq m c).symm
  · rw [Cert.MixOutRefIdeal.Read.val_main_v25_eq, a0, a1, a2, a3, a4, a5]; exact (out_eq m c).symm
  · rw [Cert.MixOutRefIdeal.Read.val_main_v38_eq, a0, a1, a2, a3, a4, a5, a6, a7]; exact (res_eq m c).symm

end Cert.MixOutIdeal.Hand

end
-- ==== Proof.XattnFwd.lean ====
/- The cross attention's forward pass: the kernel's run and the reference's run leave equal arrays. Each head of a row is the
   values weighted by the softmax of the row's scores; the kernel multiplies by the reciprocal of the exponentials' sum where
   the reference divides by it. -/
module

public import proofs.«01_k».proof.Defs
public import proofs.«01_k».proof.Proof.Gen.XattnFwdIdeal.Value
public import proofs.«01_k».proof.Proof.Gen.XattnFwdRefIdeal.Read
public import proofs.«01_k».proof.Proof.Gen.Pre_finite_memory
public import proofs.«01_k».proof.Proof.XattnClaim

@[expose] public section

set_option maxRecDepth 16384

noncomputable section

namespace Cert.XattnFwdIdeal.Hand

open Cert.XattnFwdIdeal Cert.XattnFwdIdeal.Gen Idealize.ShloMosaic Idealize.ShloMosaic.TcCoe Idealize.SL.Sem
open Cert.Softmax Cert.Panels Cert.Blocks
open Cert.XattnIdeal.Hand (hcol kcol vcol head keys vals scores exists_hcol)

/-! ## One head at an element -/

section Heads
variable {F : FTy → Type} [FloatOps F]
variable (q : Vec F S512x256 .bf16) (k v : Vec F S256x256 .f32)

theorem o1 : k0_pay5 (k0_pay3 q k) (k0_pay4 q k) v = k0_pay2 q k v := rfl
theorem o2 : k0_pay6 q k v = k0_pay2 q k v := rfl
theorem o3 : k0_pay1 q k v = k0_pay2 q k v := rfl
end Heads

section Values
variable {q : Vec Ideal S512x256 .bf16} {k v : Vec Ideal S256x256 .f32}
variable {r : Fin 512} {Q : Fin 256 → EReal} {K V : Fin 256 → Fin 256 → EReal}

theorem o_apply (hq : ∀ x, q (ix2 r x) = Q x) (hk : ∀ j x, k (ix2 j x) = K j x) (hv : ∀ j x, v (ix2 j x) = V j x) (d : Fin 256) :
    k0_pay2 q k v (ix2 r d) = ∑ j, prob (score Q K) j * V j d := by
  pointwise [k0_pay2, dot_S512x256_S256x256_S512x256_1_1_0_0_n_n, dot_S512x256_S256x256_S512x256_1_0_0_1_n_n]
  simp only [hq, hk, hv]
  rfl
end Values

/-- The result at row `r`, head `h`, column `d`. -/
def oSpec {N : ℕ} (X : (⟨2, ![N, 1024]⟩ : Shape).Idx → EReal) (M : (⟨2, ![256, 2048]⟩ : Shape).Idx → EReal) (h : Fin 4)
    (r : Fin N) (d : Fin 256) : EReal := ∑ j, prob (scores X M h r) j * vals M h j d

theorem out_eq (x0 : Vec Ideal S512x1024 .bf16) (x1 : Vec Ideal S256x2048 .f32) (h : Fin 4) (r : Fin 512) (d : Fin 256) :
    out0_2 x0 x1 (ix2 r (hcol h d)) = oSpec x0 x1 h r d := by
  unfold out0_2
  fin_cases h
  · refine (canon_miss _ _ _ r _ (by simp [hcol] <;> omega)).trans ?_
    refine (canon_miss _ _ _ r _ (by simp [hcol] <;> omega)).trans ?_
    refine (canon_miss _ _ _ r _ (by simp [hcol] <;> omega)).trans ?_
    refine (canon_hit _ _ _ r d (hcol 0 d) rfl).trans ?_
    exact o_apply (fun x => congrArg x0 (emb_panel _ r x (hcol 0 x) rfl))
      (fun j x => congrArg x1 (emb_panel _ j x (kcol 0 x) rfl)) (fun j x => congrArg x1 (emb_panel _ j x (vcol 0 x) rfl)) d
  · refine (canon_miss _ _ _ r _ (by simp [hcol] <;> omega)).trans ?_
    refine (canon_miss _ _ _ r _ (by simp [hcol] <;> omega)).trans ?_
    refine (canon_hit _ _ _ r d (hcol 1 d) rfl).trans ?_
    exact (congrFun (o1 ..) _).trans (o_apply (fun x => congrArg x0 (emb_panel _ r x (hcol 1 x) rfl))
      (fun j x => congrArg x1 (emb_panel _ j x (kcol 1 x) rfl)) (fun j x => congrArg x1 (emb_panel _ j x (vcol 1 x) rfl)) d)
  · refine (canon_miss _ _ _ r _ (by simp [hcol] <;> omega)).trans ?_
    refine (canon_hit _ _ _ r d (hcol 2 d) rfl).trans ?_
    exact (congrFun (o2 ..) _).trans (o_apply (fun x => congrArg x0 (emb_panel _ r x (hcol 2 x) rfl))
      (fun j x => congrArg x1 (emb_panel _ j x (kcol 2 x) rfl)) (fun j x => congrArg x1 (emb_panel _ j x (vcol 2 x) rfl)) d)
  · refine (canon_hit _ _ _ r d (hcol 3 d) rfl).trans ?_
    exact (congrFun (o3 ..) _).trans (o_apply (fun x => congrArg x0 (emb_panel _ r x (hcol 3 x) rfl))
      (fun j x => congrArg x1 (emb_panel _ j x (kcol 3 x) rfl)) (fun j x => congrArg x1 (emb_panel _ j x (vcol 3 x) rfl)) d)

/-! ## The array -/

variable (m : (ℓ : Loc nD τ sig) → Buf (Elt Ideal) ℓ) (c : Dev nD)

/-- The queries. -/
abbrev argQ : S2048x1024.Idx → EReal := m ((c : Thread nD τ).loc main_arg0)
/-- The memory's keys and values. -/
abbrev argM : S256x2048.Idx → EReal := m ((c : Thread nD τ).loc main_arg1)

/-- Row `r` of grid point `t`'s block. -/
abbrev brow (t : Fin cfg0.N) (r : Fin 512) : Fin 2048 := row (a := 4) (b := 512) rfl (t.cast N_0) r

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem emb0 (t : Fin cfg0.N) (r : Fin 512) (x : Fin 1024) : (win0_0.rect t).emb (ix2 r x) = ix2 (brow t r) x := by
  funext a
  apply Fin.ext
  refine (win0_0.rect_emb_val t (ix2 r x) a).trans ?_
  fin_cases a
  · show win0_0.index t 0 * 512 + r.val = 512 * t.val + r.val
    rw [(index0 t).1]; omega
  · show win0_0.index t 1 * 1024 + x.val = x.val
    rw [(index0 t).2]; omega

theorem emb1 (t : Fin cfg0.N) (j : Fin 256) (x : Fin 2048) : (win0_1.rect t).emb (ix2 j x) = ix2 j x := by
  funext a
  apply Fin.ext
  refine (win0_1.rect_emb_val t (ix2 j x) a).trans ?_
  fin_cases a
  · show win0_1.index t 0 * 256 + j.val = j.val
    rw [(index1 t).1]; omega
  · show win0_1.index t 1 * 2048 + x.val = x.val
    rw [(index1 t).2]; omega

theorem emb2 (t : Fin cfg0.N) (r : Fin 512) (x : Fin 1024) : (win0_2.rect t).emb (ix2 r x) = ix2 (brow t r) x := by
  funext a
  apply Fin.ext
  refine (win0_2.rect_emb_val t (ix2 r x) a).trans ?_
  fin_cases a
  · show win0_2.index t 0 * 512 + r.val = 512 * t.val + r.val
    rw [(index2 t).1]; omega
  · show win0_2.index t 1 * 1024 + x.val = x.val
    rw [(index2 t).2]; omega

theorem iblk0_apply (t : Fin cfg0.N) (r : Fin 512) (x : Fin 1024) : iblk m c 0 t (ix2 r x) = argQ m c (ix2 (brow t r) x) := by
  show V m c main_arg0 ((win0_0.rect t).emb (ix2 r x)) = _
  rw [emb0, V_main_arg0]

theorem iblk1_eq (t : Fin cfg0.N) : iblk m c 1 t = argM m c := by
  funext y
  obtain ⟨j, x, rfl⟩ : ∃ (j : Fin 256) (x : Fin 2048), y = ix2 j x := ⟨y 0, y 1, eq_ix2 y⟩
  show V m c main_arg1 ((win0_1.rect t).emb (ix2 j x)) = _
  rw [emb1, V_main_arg1]

/-- The point's block of the queries. -/
def blk0 (t : Fin cfg0.N) : Vec Ideal S512x1024 .bf16 := iblk m c 0 t
/-- The memory, as the point reads it. -/
def blk1 (t : Fin cfg0.N) : Vec Ideal S256x2048 .f32 := iblk m c 1 t

theorem head0 (h : Fin 4) (t : Fin cfg0.N) (r : Fin 512) : head (blk0 m c t) h r = head (argQ m c) h (brow t r) :=
  funext fun _ => iblk0_apply m c t r _

theorem blk1_eq (t : Fin cfg0.N) : blk1 m c t = argM m c := iblk1_eq m c t

theorem oSpec_blk (t : Fin cfg0.N) (h : Fin 4) (r : Fin 512) (d : Fin 256) :
    oSpec (blk0 m c t) (blk1 m c t) h r d = oSpec (argQ m c) (argM m c) h (brow t r) d := by
  unfold oSpec scores
  rw [blk1_eq, head0]

/-- The result after the run. -/
theorem final_o (h : Fin 4) (n : Fin 2048) (d : Fin 256) :
    (dats m 0 c).arrAt 2 cfg0.N (ix2 n (hcol h d)) = oSpec (argQ m c) (argM m c) h n d := by
  obtain ⟨t, r, rfl⟩ := exists_row (a := 4) (b := 512) (N := 2048) rfl (by decide) n
  have hb := congrFun (Value.blocks2 m c (t.cast N_0.symm) (flush0_2 _)) (ix2 r (hcol h d))
  rw [Value.flushed2] at hb
  have he := emb2 (t.cast N_0.symm) r (hcol h d)
  refine Eq.trans ?_ (hb.trans ((out_eq (blk0 m c (t.cast N_0.symm)) (blk1 m c (t.cast N_0.symm)) h r d).trans (oSpec_blk ..)))
  exact congrArg ((dats m 0 c).arrAt 2 cfg0.N) he.symm

end Cert.XattnFwdIdeal.Hand

namespace Cert.XattnFwdRefIdeal.Hand

open Cert.XattnFwdRefIdeal Cert.XattnFwdRefIdeal.Read Idealize.ShloMosaic Idealize.ShloMosaic.TcCoe Idealize.SL.Sem
open Cert.Softmax Cert.XattnFwdIdeal.Hand
open Cert.XattnIdeal.Hand (hcol kcol vcol head keys vals scores exists_hcol)

/-! ## The reference -/

variable (Q : S2048x1024.Idx → EReal) (M : S256x2048.Idx → EReal)

theorem q_at (h : Fin 4) (n : Fin 2048) (x : Fin 256) : val_main_v3 (F := Ideal) Q (ix3 n h x) = head Q h n x := by
  pointwise [val_main_v3, val_main_v2]
  exact congrArg Q (congrArg (ix2 n) (Fin.ext (by simp [hcol]; omega)))

theorem k_at (h : Fin 4) (j x : Fin 256) : val_main_v4 (F := Ideal) M (ix3 j h x) = keys M h j x := by
  pointwise [val_main_v4, val_main_v0]
  exact congrArg M (congrArg (ix2 j) (Fin.ext (by simp [kcol]; omega)))

theorem v_at (h : Fin 4) (j x : Fin 256) : val_main_v5 (F := Ideal) M (ix3 j h x) = vals M h j x := by
  pointwise [val_main_v5, val_main_v1]
  exact congrArg M (congrArg (ix2 j) (Fin.ext (by simp [vcol]; omega)))

theorem score_at (h : Fin 4) (n : Fin 2048) (j : Fin 256) : val_main_v8 (F := Ideal) Q M (ix3 h n j) = scores Q M h n j := by
  pointwise [val_main_v8, val_main_v7, val_main_v6, val_main_cst]
  simp only [q_at, k_at]
  rfl

theorem peak_at (h : Fin 4) (n : Fin 2048) : val_main_v9 (F := Ideal) Q M (ix2 h n) = peak (scores Q M h n) := by
  pointwise [val_main_v9, val_main_cst_0]
  simp only [score_at]
  rfl

theorem weight_at (h : Fin 4) (n : Fin 2048) (j : Fin 256) :
    val_main_v15 (F := Ideal) Q M (ix3 h n j) = weight (scores Q M h n) j := by
  pointwise [val_main_v15, val_main_v14, val_main_v13, val_main_v12, val_main_v11, val_main_v10, val_main_cst_1]
  rw [score_at, peak_at]
  show Ideal.exp (_ - max start _) = _
  rw [start_eq, max_eq_right bot_le]
  rfl

theorem total_at (h : Fin 4) (n : Fin 2048) : val_main_v17 (F := Ideal) Q M (ix3 h n 0) = total (scores Q M h n) := by
  pointwise [val_main_v17, val_main_v16, val_main_cst_2]
  simp only [weight_at]
  rfl

theorem prob_at (h : Fin 4) (n : Fin 2048) (j : Fin 256) (hs : ∀ j, IsReal (scores Q M h n j)) :
    val_main_v19 (F := Ideal) Q M (ix3 h n j) = prob (scores Q M h n) j := by
  pointwise [val_main_v19, val_main_v18]
  rw [weight_at, total_at, prob_eq_div hs]

theorem o_at (h : Fin 4) (n : Fin 2048) (d : Fin 256) (hs : ∀ j, IsReal (scores Q M h n j)) :
    val_main_v23 (F := Ideal) Q M (ix2 n (hcol h d)) = oSpec Q M h n d := by
  have e1 : ((hcol h d).val / 256) = h.val := by simp [hcol]; omega
  have e2 : ((hcol h d).val % 256) = d.val := by simp [hcol]
  pointwise [val_main_v23, val_main_v22, val_main_v21, val_main_v20]
  simp only [e1, e2, Fin.eta, prob_at Q M _ _ _ hs, v_at]
  exact Finset.sum_congr rfl fun j _ => mul_comm _ _

end Cert.XattnFwdRefIdeal.Hand

namespace Cert.XattnFwdIdeal.Hand

open Cert.XattnFwdIdeal Idealize.ShloMosaic Idealize.ShloMosaic.TcCoe Idealize.SL.Sem Cert.Softmax
open Cert.XattnIdeal.Hand (hcol kcol scores exists_hcol)

/-! ## The claim -/

theorem scores_real (Q : S2048x1024.Idx → EReal) (M : S256x2048.Idx → EReal)
    (h1 : (Cert.Pre_finite_memory.fn (F := Ideal) Q M).1 = fun _ => 1#1)
    (h2 : (Cert.Pre_finite_memory.fn (F := Ideal) Q M).2 = fun _ => 1#1)
    (h : Fin 4) (n : Fin 2048) (j : Fin 256) : IsReal (scores Q M h n j) :=
  score_real (fun x => IsReal.of_abs_lt (congrFun h1 (ix2 n (hcol h x))))
    (fun j x => IsReal.of_abs_lt (congrFun h2 (ix2 j (kcol h x)))) j

theorem first_eq (m : (ℓ : Loc nD τ sig) → Buf (Elt Ideal) ℓ) (c : Dev nD)
    (hs : ∀ h n j, IsReal (scores (argQ m c) (argM m c) h n j)) :
    (Gen.dats m 0 c).arrAt 2 cfg0.N = Cert.XattnFwdRefIdeal.Read.val_main_v23 (F := Ideal) (argQ m c) (argM m c) := by
  funext i
  obtain ⟨n, k, rfl⟩ : ∃ a b, i = ix2 a b := ⟨i 0, i 1, eq_ix2 i⟩
  obtain ⟨h, d, rfl⟩ := exists_hcol k
  exact (final_o m c h n d).trans (Cert.XattnFwdRefIdeal.Hand.o_at _ _ h n d (hs h n)).symm

theorem algebraic : Cert.algebraic_XattnFwdIdeal_XattnFwdRefIdeal_pre_finite_memory := by
  intro m g m' g' hpre hagree
  have hs : ∀ c h n j, IsReal (scores (argQ m c) (argM m c) h n j) := fun c => scores_real _ _ (hpre c).1 (hpre c).2
  refine ⟨fun c => (Gen.dats m 0 c).arrAt 2 cfg0.N, Value.run_blocks m g, ?_⟩
  refine (θ_run _ _ _).mono (fun r h c => ?_) (Cert.XattnFwdRefIdeal.Value.run (F := Ideal) m' g')
  obtain ⟨e0, ea⟩ := h c
  obtain ⟨a0, a1⟩ := hagree c
  refine ⟨e0.trans ?_, ea⟩
  rw [Cert.XattnFwdRefIdeal.Read.val_main_v23_eq, a0, a1]
  exact (first_eq m c (hs c)).symm

end Cert.XattnFwdIdeal.Hand

end
-- ==== Proof.AttnHost.lean ====
/- The lines before the kernel, as stages of the plain attention: the queries side by side, the saved result, and the saved
   logarithm of the exponentials' sum. -/
module

public import proofs.«01_k».proof.Defs
public import proofs.«01_k».proof.Proof.Gen.AttnBwdIdeal.Value
public import proofs.«01_k».proof.Proof.Gen.AttnBwdRefIdeal.Read

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.AttnBwdRefIdeal.Read

variable (m : (ℓ : Loc nD τ sig) → Buf (Elt Ideal) ℓ) (c : Dev nD)

/-- The queries. -/
abbrev argQ : S2048x512.Idx → EReal := m ((c : Thread nD τ).loc main_arg0)
/-- The keys. -/
abbrev argK : S2048x128.Idx → EReal := m ((c : Thread nD τ).loc main_arg1)
/-- The array whose columns hold the values. -/
abbrev argP : S2048x3328.Idx → EReal := m ((c : Thread nD τ).loc main_arg2)
/-- The array whose first half is the gradient of the attention's result. -/
abbrev argG : S2048x1024.Idx → EReal := m ((c : Thread nD τ).loc main_arg3)

/-- The logarithm of the sum of a row's exponentials, from the scores. -/
def lseOf (s : FVec Ideal S8x2048x2048 .f32) : FVec Ideal S8x2048x1 .f32 :=
  addf (broadcastInDim S8x2048x1 ![0, 1] bcast_S8x2048_S8x2048x1_0_1
      (Host.reduce FloatOps.maximumf s (constant S_ .f32 0xFF800000#32) reducesTo_S8x2048x2048_S8x2048_d2 h_S_))
    (Host.log (broadcastInDim S8x2048x1 ![0, 1] bcast_S8x2048_S8x2048x1_0_1
      (Host.reduceAdd (Host.exp (subf s (broadcastInDim S8x2048x2048 ![0, 1, 2] bcast_S8x2048x1_S8x2048x2048_0_1_2
        (broadcastInDim S8x2048x1 ![0, 1] bcast_S8x2048_S8x2048x1_0_1
          (Host.reduce FloatOps.maximumf s (constant S_ .f32 0xFF800000#32) reducesTo_S8x2048x2048_S8x2048_d2 h_S_)))))
        (constant S_ .f32 0x00000000#32) reducesTo_S8x2048x2048_S8x2048_d2 h_S_)))

theorem V_q : V m c main_v45 = (truncf .bf16 (shapeCast S2048x1024 (val_main_v11 (F := Ideal) (argQ m c)) shapeCasts_S2048x8x128_S2048x1024) bitsLt_bf16_f32 : FVec Ideal S2048x1024 .bf16) := by
  unfold_abbrev_sides
  after_results
  rfl

theorem V_lse : V m c main_v24 = lseOf (val_main_v15 (F := Ideal) (argQ m c) (argK m c)) := by
  unfold_abbrev_sides
  after_results
  rfl

theorem V_o : V m c main_v43 = val_main_v33 (F := Ideal) (argQ m c) (argK m c) (argP m c) := by
  unfold_abbrev_sides
  after_results
  rfl

end Cert.AttnBwdIdeal.Hand

end
-- ==== Proof.AttnBlock.lean ====
/- What the self attention's gradient computes of one head in one grid point: the probabilities from the saved logarithm of the
   exponentials' sum, the gradient of the scores, and the three products. Head by head the kernel's values are the same few
   functions of that head's columns; the two heads that share 128 columns differ in which half of them they keep, and the two
   heads of values in which half they put it in. -/
module

public import proofs.«01_k».proof.Proof.Gen.AttnBwdIdeal.Value
public import proofs.«01_k».proof.Proof.SoftmaxGrad

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.Softmax

section Heads
variable {F : FTy → Type} [FloatOps F]
variable (k v : Vec F S2048x128 .bf16) (g q : Vec F S256x128 .bf16) (o : Vec F S256x128 .f32) (l : Vec F S1x256x1 .f32)

/-- The first half of the columns, in the first half. -/
def doA : FVec F S256x128 .bf16 := k0_pay11 g
/-- The second half of the columns, in the first half. -/
def doB : FVec F S256x128 .bf16 := k0_pay16 k0_pay4 (k0_pay7 g)
/-- The first half of the columns, in the second half. -/
def doC : FVec F S256x128 .bf16 := k0_pay45 k0_pay4 g
/-- The second half of the columns, in the second half. -/
def doE : FVec F S256x128 .bf16 := k0_pay52 k0_pay4 (k0_pay41 g)
/-- A head's probabilities. -/
def pr : FVec F S256x2048 .bf16 := k0_pay13 k q l
/-- A head's gradient of the scores. -/
def ds (D : FVec F S256x1 .f32) (dO : FVec F S256x128 .bf16) : FVec F S256x2048 .bf16 :=
  k0_pay14 v D dO (pr k q l) (constant S256x2048 .f32 0x00000000#32)
/-- A head's gradient of the queries. -/
def dq (D : FVec F S256x1 .f32) (dO : FVec F S256x128 .bf16) : FVec F S256x128 .f32 :=
  k0_pay15 k v D dO (pr k q l) (constant S256x2048 .f32 0x00000000#32)
/-- A head's part of an accumulated gradient. -/
def acc (A : FVec F S2048x128 .f32) (x : FVec F S256x2048 .bf16) (y : FVec F S256x128 .bf16) : FVec F S2048x128 .f32 :=
  addf A (matmul dot_S256x2048_S256x128_S2048x128_0_0_1_1_n_n none x y (constant S2048x128 .f32 0x00000000#32))

theorem dq1 : k0_pay20 k v k0_pay4 (k0_pay7 g) (k0_pay10 g o) q l = dq k v q l (k0_pay10 g o) (doB g) := rfl
theorem dq2 : k0_pay31 k v k0_pay4 (k0_pay23 g) o q l = dq k v q l (k0_pay9 g o) (doA g) := rfl
theorem dq3 : k0_pay38 k v (k0_pay26 k0_pay4 (k0_pay23 g) o) (k0_pay34 k0_pay4 (k0_pay23 g)) q l = dq k v q l (k0_pay10 g o) (doB g) := rfl
theorem dq4 : k0_pay49 k v (k0_pay43 k0_pay4 g o) (k0_pay45 k0_pay4 g) (k0_pay46 q) l = dq k v q l (k0_pay9 g o) (doC g) := rfl
theorem dq5 : k0_pay56 k v k0_pay4 (k0_pay41 g) (k0_pay44 k0_pay4 g o) q l = dq k v q l (k0_pay10 g o) (doE g) := rfl
theorem dq6 : k0_pay67 k v k0_pay4 g o q l = dq k v q l (k0_pay9 g o) (doC g) := rfl
theorem dq7 : k0_pay73 k v k0_pay4 (k0_pay59 g) (k0_pay62 k0_pay4 g o) q l = dq k v q l (k0_pay10 g o) (doE g) := rfl

section All
variable (g0 g1 g2 g3 q0 q1 q2 q3 q4 q5 q6 q7 : Vec F S256x128 .bf16) (o0 o1 o2 o3 : Vec F S256x128 .f32)
  (l0 l1 l2 l3 l4 l5 l6 l7 : Vec F S1x256x1 .f32) (z : FVec F S2048x128 .f32) (old : Vec F S2048x128 .f32)

/-- The keys' gradient: every head's part, added to what there was. -/
theorem dk_all : k0_pay75 k v k0_pay4
    (k0_pay57 (k0_pay50 k v
        (k0_pay39 k v (k0_pay26 k0_pay4 (k0_pay23 g1) o1)
          (k0_pay32 k v k0_pay4
            (k0_pay21 k v k0_pay4 z (k0_pay7 g0) (k0_pay9 g0 o0) (k0_pay10 g0 o0) (k0_pay11 g0) (k0_pay12 q0) (k0_pay13 k q0 l0)
              (constant S256x2048 .f32 0x00000000#32) q1 l1)
            (k0_pay23 g1) o1 q2 l2)
          (k0_pay34 k0_pay4 (k0_pay23 g1)) q3 l3)
        (k0_pay43 k0_pay4 g2 o2) (k0_pay45 k0_pay4 g2) (k0_pay46 q4) l4)
      (k0_pay53 q5) (k0_pay55 k v k0_pay4 (k0_pay41 g2) (k0_pay44 k0_pay4 g2 o2) q5 l5))
    (k0_pay59 g3) (k0_pay62 k0_pay4 g3 o3) (k0_pay68 k v k0_pay4 g3 o3 q6 l6) q7 l7 old
  = addf (k0_pay76 old) (acc (acc (acc (acc (acc (acc (acc (acc z
      (ds k v q0 l0 (k0_pay9 g0 o0) (doA g0)) (k0_pay12 q0)) (ds k v q1 l1 (k0_pay10 g0 o0) (doB g0)) (k0_pay12 q1))
      (ds k v q2 l2 (k0_pay9 g1 o1) (doA g1)) (k0_pay12 q2)) (ds k v q3 l3 (k0_pay10 g1 o1) (doB g1)) (k0_pay12 q3))
      (ds k v q4 l4 (k0_pay9 g2 o2) (doC g2)) (k0_pay12 q4)) (ds k v q5 l5 (k0_pay10 g2 o2) (doE g2)) (k0_pay12 q5))
      (ds k v q6 l6 (k0_pay9 g3 o3) (doC g3)) (k0_pay12 q6)) (ds k v q7 l7 (k0_pay10 g3 o3) (doE g3)) (k0_pay12 q7)) := rfl

/-- The values' gradient: every head's part, added to what there was. -/
theorem dv_all : k0_pay1 (k0_pay74 k k0_pay4
    (k0_pay58 (k0_pay51 k
        (k0_pay40 k
          (k0_pay33 k k0_pay4 (k0_pay22 k k0_pay4 z (k0_pay7 g0) (k0_pay11 g0) (k0_pay13 k q0 l0) q1 l1) (k0_pay23 g1) q2 l2)
          (k0_pay34 k0_pay4 (k0_pay23 g1)) q3 l3)
        (k0_pay45 k0_pay4 g2) (k0_pay46 q4) l4)
      (k0_pay52 k0_pay4 (k0_pay41 g2)) (k0_pay54 k q5 l5))
    (k0_pay59 g3) (k0_pay63 k0_pay4 g3) (k0_pay65 k q6 l6) q7 l7) (k0_pay76 old)
  = addf (k0_pay76 old) (acc (acc (acc (acc (acc (acc (acc (acc z
      (pr k q0 l0) (doA g0)) (pr k q1 l1) (doB g0)) (pr k q2 l2) (doA g1)) (pr k q3 l3) (doB g1))
      (pr k q4 l4) (doC g2)) (pr k q5 l5) (doE g2)) (pr k q6 l6) (doC g3)) (pr k q7 l7) (doE g3)) := rfl
end All
end Heads

/-! ## At an element -/

/-- Column `i` of a half of 128 columns. -/
def hc (b : Fin 2) (i : Fin 64) : Fin 128 := ⟨64 * b.val + i.val, by omega⟩
/-- A half of a row, in the first 64 columns (`b` false) or the last. -/
def half (b : Bool) (G : Fin 64 → EReal) (x : Fin 128) : EReal :=
  if h : x.val < 64 then (if b then 0 else G ⟨x.val, h⟩) else (if b then G ⟨x.val - 64, by omega⟩ else 0)
/-- The exponential of a score less the saved logarithm. -/
def prB (Q : Fin 128 → EReal) (K : Fin 2048 → Fin 128 → EReal) (L : EReal) (j : Fin 2048) : EReal :=
  Ideal.exp ((∑ x, Q x * K j x) - L)
/-- The gradient of a score. -/
def dsB (Q : Fin 128 → EReal) (K V : Fin 2048 → Fin 128 → EReal) (L D : EReal) (G : Fin 128 → EReal) (j : Fin 2048) : EReal :=
  prB Q K L j * ((∑ x, G x * V j x) - D)

theorem select_if (p : Prop) [Decidable p] (a b : EReal) :
    Scalar.select (if p then 1#1 else 0#1) a b = if p then a else b := by split <;> rfl

theorem mask_apply (r : Fin 256) (x : Fin 128) : k0_pay4 (ix2 r x) = if x.val < 64 then 1#1 else 0#1 := by
  pointwise [k0_pay4]
  revert x
  decide

theorem sum_two (P : Fin 128 → EReal) : (∑ x : Fin 128, P x) = (∑ i, P (hc 0 i)) + ∑ i, P (hc 1 i) := by
  refine (Fin.sum_univ_add (a := 64) (b := 64) _).trans (congrArg₂ (· + ·) ?_ ?_) <;> refine Finset.sum_congr rfl fun i _ => congrArg P (Fin.ext ?_)
  · show i.val = 64 * 0 + i.val
    omega
  · show 64 + i.val = 64 * 1 + i.val
    omega

theorem sum_low (P : Fin 128 → EReal) : (∑ x : Fin 128, if x.val < 64 then P x else 0) = ∑ i, P (hc 0 i) := by
  rw [sum_two]
  exact (congrArg₂ (· + ·) (Finset.sum_congr rfl fun i _ => if_pos (by show 64 * 0 + i.val < 64; omega))
    (Finset.sum_eq_zero fun i _ => if_neg (by show ¬64 * 1 + i.val < 64; omega))).trans (add_zero _)

theorem sum_high (P : Fin 128 → EReal) (hP : ∀ x, IsReal (P x)) : (∑ x : Fin 128, P x) - ∑ i, P (hc 0 i) = ∑ i, P (hc 1 i) := by
  obtain ⟨a, ha⟩ : IsReal (∑ i, P (hc 0 i)) := IsReal.sum _ fun i _ => hP _
  obtain ⟨b, hb⟩ : IsReal (∑ i, P (hc 1 i)) := IsReal.sum _ fun i _ => hP _
  rw [sum_two, ha, hb, ← EReal.coe_add, ← EReal.coe_sub]
  congr 1
  ring

section Values
variable {k v : Vec Ideal S2048x128 .bf16} {g q : Vec Ideal S256x128 .bf16} {o : Vec Ideal S256x128 .f32} {l : Vec Ideal S1x256x1 .f32}
variable {r : Fin 256} {Q G O : Fin 128 → EReal} {K V : Fin 2048 → Fin 128 → EReal} {L D : EReal}

theorem doA_apply (hg : ∀ x, g (ix2 r x) = G x) (x : Fin 128) :
    doA g (ix2 r x) = half false (fun i => G (hc 0 i)) x := by
  pointwise [doA, k0_pay11, k0_pay7]
  rw [mask_apply, hg]
  unfold half
  split
  · exact congrArg G (Fin.ext (by show x.val = 64 * 0 + x.val; omega))
  · rfl

theorem doB_apply (hg : ∀ x, g (ix2 r x) = G x) (x : Fin 128) :
    doB g (ix2 r x) = half false (fun i => G (hc 1 i)) x := by
  pointwise [doB, k0_pay16, k0_pay7]
  rw [mask_apply, hg]
  unfold half
  split
  · exact congrArg G (Fin.ext (by show (x.val + 128 - 64) % 128 = 64 * 1 + x.val; omega))
  · rfl

theorem doC_apply (hg : ∀ x, g (ix2 r x) = G x) (x : Fin 128) :
    doC g (ix2 r x) = half true (fun i => G (hc 0 i)) x := by
  pointwise [doC, k0_pay45, k0_pay41]
  rw [mask_apply, hg]
  unfold half
  split
  · rfl
  · exact congrArg G (Fin.ext (by show (x.val + 128 - 64) % 128 = 64 * 0 + (x.val - 64); omega))

theorem doE_apply (hg : ∀ x, g (ix2 r x) = G x) (x : Fin 128) :
    doE g (ix2 r x) = half true (fun i => G (hc 1 i)) x := by
  pointwise [doE, k0_pay52, k0_pay41]
  rw [mask_apply, hg]
  unfold half
  split
  · rfl
  · exact congrArg G (Fin.ext (by show x.val = 64 * 1 + (x.val - 64); omega))

theorem pr_apply (hq : ∀ x, q (ix2 r x) = Q x) (hk : ∀ j x, k (ix2 j x) = K j x) (hl : l (ix3 0 r 0) = L) (j : Fin 2048) :
    pr k q l (ix2 r j) = prB Q K L j := by
  pointwise [pr, k0_pay13, k0_pay12, dot_S256x128_S2048x128_S256x2048_1_1_0_0_n_n]
  simp only [hq, hk, hl]
  rfl

theorem low_apply (hg : ∀ x, g (ix2 r x) = G x) (ho : ∀ x, o (ix2 r x) = O x) :
    k0_pay9 g o (ix2 r 0) = ∑ i, G (hc 0 i) * O (hc 0 i) := by
  pointwise [k0_pay9, k0_pay8, k0_pay7]
  simp only [mask_apply, hg, ho, select_if]
  exact sum_low fun x => G x * O x

theorem high_apply (hg : ∀ x, g (ix2 r x) = G x) (ho : ∀ x, o (ix2 r x) = O x) (hr : ∀ x, IsReal (G x * O x)) :
    k0_pay10 g o (ix2 r 0) = ∑ i, G (hc 1 i) * O (hc 1 i) := by
  have h := low_apply hg ho
  refine Eq.trans ?_ (sum_high (fun x => G x * O x) hr)
  rw [← h]
  pointwise [k0_pay10, k0_pay8, k0_pay7]
  simp only [hg, ho]

theorem ds_apply {d : FVec Ideal S256x1 .f32} {dO : FVec Ideal S256x128 .bf16} (hq : ∀ x, q (ix2 r x) = Q x)
    (hk : ∀ j x, k (ix2 j x) = K j x) (hv : ∀ j x, v (ix2 j x) = V j x) (hl : l (ix3 0 r 0) = L) (hd : d (ix2 r 0) = D)
    (hg : ∀ x, dO (ix2 r x) = G x) (j : Fin 2048) : ds k v q l d dO (ix2 r j) = dsB Q K V L D G j := by
  unfold ds dsB
  rw [← pr_apply hq hk hl]
  pointwise [k0_pay14, dot_S256x128_S2048x128_S256x2048_1_1_0_0_n_n]
  simp only [hv, hg, hd]

theorem dq_apply {d : FVec Ideal S256x1 .f32} {dO : FVec Ideal S256x128 .bf16} (hq : ∀ x, q (ix2 r x) = Q x)
    (hk : ∀ j x, k (ix2 j x) = K j x) (hv : ∀ j x, v (ix2 j x) = V j x) (hl : l (ix3 0 r 0) = L) (hd : d (ix2 r 0) = D)
    (hg : ∀ x, dO (ix2 r x) = G x) (x : Fin 128) : dq k v q l d dO (ix2 r x) = ∑ j, dsB Q K V L D G j * K j x := by
  have h : ∀ j, k0_pay14 v d dO (pr k q l) (constant S256x2048 .f32 0x00000000#32) (ix2 r j) = dsB Q K V L D G j :=
    fun j => ds_apply hq hk hv hl hd hg j
  pointwise [dq, k0_pay15, dot_S256x2048_S2048x128_S256x128_1_0_0_1_n_n]
  simp only [h, hk]

end Values

theorem acc_apply (A : FVec Ideal S2048x128 .f32) (X : FVec Ideal S256x2048 .bf16) (Y : FVec Ideal S256x128 .bf16) (j : Fin 2048)
    (x : Fin 128) : acc A X Y (ix2 j x) = A (ix2 j x) + ∑ r, X (ix2 r j) * Y (ix2 r x) := by
  pointwise [acc, dot_S256x2048_S256x128_S2048x128_0_0_1_1_n_n]

theorem same_apply (A : Vec Ideal S2048x128 .f32) (i : S2048x128.Idx) : k0_pay76 A i = A i := by
  obtain ⟨a, b, rfl⟩ : ∃ a b, i = ix2 a b := ⟨i 0, i 1, eq_ix2 i⟩
  pointwise [k0_pay76]

theorem same_q (A : Vec Ideal S256x128 .bf16) (r : Fin 256) (x : Fin 128) : k0_pay12 A (ix2 r x) = A (ix2 r x) := by
  pointwise [k0_pay12]

/-! ## All the heads -/

/-- The half of the 128 columns that head `h` has. -/
def side (h : Fin 8) : Fin 2 := ⟨h.val % 2, by omega⟩
/-- The pair of heads that head `h` is in. -/
def pair (h : Fin 8) : Fin 4 := ⟨h.val / 2, by omega⟩
/-- Head `h`'s columns of the incoming gradient, in the half of its head of values. -/
def halfOf {N : ℕ} (G : Fin 4 → Fin N → Fin 128 → EReal) (h : Fin 8) (r : Fin N) : Fin 128 → EReal :=
  half (decide (4 ≤ h.val)) fun i => G (pair h) r (hc (side h) i)
/-- Head `h`'s product of the incoming gradient with the saved result. -/
def inner {N : ℕ} (G O : Fin 4 → Fin N → Fin 128 → EReal) (h : Fin 8) (r : Fin N) : EReal :=
  ∑ i, G (pair h) r (hc (side h) i) * O (pair h) r (hc (side h) i)

section Sums
variable {k v : Vec Ideal S2048x128 .bf16} {g0 g1 g2 g3 q0 q1 q2 q3 q4 q5 q6 q7 : Vec Ideal S256x128 .bf16}
  {o0 o1 o2 o3 : Vec Ideal S256x128 .f32} {l0 l1 l2 l3 l4 l5 l6 l7 : Vec Ideal S1x256x1 .f32}
  {Q : Fin 8 → Fin 256 → Fin 128 → EReal} {L : Fin 8 → Fin 256 → EReal} {G O : Fin 4 → Fin 256 → Fin 128 → EReal}
  {K V : Fin 2048 → Fin 128 → EReal} {z : FVec Ideal S2048x128 .f32} (hz : ∀ i, z i = 0)
  (hk : ∀ j x, k (ix2 j x) = K j x) (hv : ∀ j x, v (ix2 j x) = V j x)
  (hq0 : ∀ r x, q0 (ix2 r x) = Q 0 r x) (hl0 : ∀ r, l0 (ix3 0 r 0) = L 0 r) (hq1 : ∀ r x, q1 (ix2 r x) = Q 1 r x) (hl1 : ∀ r, l1 (ix3 0 r 0) = L 1 r) (hq2 : ∀ r x, q2 (ix2 r x) = Q 2 r x) (hl2 : ∀ r, l2 (ix3 0 r 0) = L 2 r) (hq3 : ∀ r x, q3 (ix2 r x) = Q 3 r x) (hl3 : ∀ r, l3 (ix3 0 r 0) = L 3 r) (hq4 : ∀ r x, q4 (ix2 r x) = Q 4 r x) (hl4 : ∀ r, l4 (ix3 0 r 0) = L 4 r) (hq5 : ∀ r x, q5 (ix2 r x) = Q 5 r x) (hl5 : ∀ r, l5 (ix3 0 r 0) = L 5 r) (hq6 : ∀ r x, q6 (ix2 r x) = Q 6 r x) (hl6 : ∀ r, l6 (ix3 0 r 0) = L 6 r) (hq7 : ∀ r x, q7 (ix2 r x) = Q 7 r x) (hl7 : ∀ r, l7 (ix3 0 r 0) = L 7 r) (hg0 : ∀ r x, g0 (ix2 r x) = G 0 r x) (hg1 : ∀ r x, g1 (ix2 r x) = G 1 r x) (hg2 : ∀ r x, g2 (ix2 r x) = G 2 r x) (hg3 : ∀ r x, g3 (ix2 r x) = G 3 r x)
include hz hk hq0 hl0 hq1 hl1 hq2 hl2 hq3 hl3 hq4 hl4 hq5 hl5 hq6 hl6 hq7 hl7 hg0 hg1 hg2 hg3

theorem dv_sum (j : Fin 2048) (x : Fin 128) :
    acc (acc (acc (acc (acc (acc (acc (acc z (pr k q0 l0) (doA g0)) (pr k q1 l1) (doB g0)) (pr k q2 l2) (doA g1)) (pr k q3 l3) (doB g1)) (pr k q4 l4) (doC g2)) (pr k q5 l5) (doE g2)) (pr k q6 l6) (doC g3)) (pr k q7 l7) (doE g3) (ix2 j x)
      = ∑ h, ∑ r, prB (Q h r) K (L h r) j * halfOf G h r x := by
  have h0 : ∀ r, pr k q0 l0 (ix2 r j) = prB (Q 0 r) K (L 0 r) j := fun r => pr_apply (hq0 r) hk (hl0 r) j
  have d0 : ∀ r, doA g0 (ix2 r x) = halfOf G 0 r x := fun r => doA_apply (G := G 0 r) (hg0 r) x
  have h1 : ∀ r, pr k q1 l1 (ix2 r j) = prB (Q 1 r) K (L 1 r) j := fun r => pr_apply (hq1 r) hk (hl1 r) j
  have d1 : ∀ r, doB g0 (ix2 r x) = halfOf G 1 r x := fun r => doB_apply (G := G 0 r) (hg0 r) x
  have h2 : ∀ r, pr k q2 l2 (ix2 r j) = prB (Q 2 r) K (L 2 r) j := fun r => pr_apply (hq2 r) hk (hl2 r) j
  have d2 : ∀ r, doA g1 (ix2 r x) = halfOf G 2 r x := fun r => doA_apply (G := G 1 r) (hg1 r) x
  have h3 : ∀ r, pr k q3 l3 (ix2 r j) = prB (Q 3 r) K (L 3 r) j := fun r => pr_apply (hq3 r) hk (hl3 r) j
  have d3 : ∀ r, doB g1 (ix2 r x) = halfOf G 3 r x := fun r => doB_apply (G := G 1 r) (hg1 r) x
  have h4 : ∀ r, pr k q4 l4 (ix2 r j) = prB (Q 4 r) K (L 4 r) j := fun r => pr_apply (hq4 r) hk (hl4 r) j
  have d4 : ∀ r, doC g2 (ix2 r x) = halfOf G 4 r x := fun r => doC_apply (G := G 2 r) (hg2 r) x
  have h5 : ∀ r, pr k q5 l5 (ix2 r j) = prB (Q 5 r) K (L 5 r) j := fun r => pr_apply (hq5 r) hk (hl5 r) j
  have d5 : ∀ r, doE g2 (ix2 r x) = halfOf G 5 r x := fun r => doE_apply (G := G 2 r) (hg2 r) x
  have h6 : ∀ r, pr k q6 l6 (ix2 r j) = prB (Q 6 r) K (L 6 r) j := fun r => pr_apply (hq6 r) hk (hl6 r) j
  have d6 : ∀ r, doC g3 (ix2 r x) = halfOf G 6 r x := fun r => doC_apply (G := G 3 r) (hg3 r) x
  have h7 : ∀ r, pr k q7 l7 (ix2 r j) = prB (Q 7 r) K (L 7 r) j := fun r => pr_apply (hq7 r) hk (hl7 r) j
  have d7 : ∀ r, doE g3 (ix2 r x) = halfOf G 7 r x := fun r => doE_apply (G := G 3 r) (hg3 r) x
  simp only [acc_apply, hz, h0, h1, h2, h3, h4, h5, h6, h7, d0, d1, d2, d3, d4, d5, d6, d7, zero_add, Fin.sum_univ_eight]

include hv
theorem dk_sum (ho0 : ∀ r x, o0 (ix2 r x) = O 0 r x) (ho1 : ∀ r x, o1 (ix2 r x) = O 1 r x) (ho2 : ∀ r x, o2 (ix2 r x) = O 2 r x) (ho3 : ∀ r x, o3 (ix2 r x) = O 3 r x) (hr : ∀ p r x, IsReal (G p r x * O p r x)) (j : Fin 2048) (x : Fin 128) :
    acc (acc (acc (acc (acc (acc (acc (acc z (ds k v q0 l0 (k0_pay9 g0 o0) (doA g0)) (k0_pay12 q0)) (ds k v q1 l1 (k0_pay10 g0 o0) (doB g0)) (k0_pay12 q1)) (ds k v q2 l2 (k0_pay9 g1 o1) (doA g1)) (k0_pay12 q2)) (ds k v q3 l3 (k0_pay10 g1 o1) (doB g1)) (k0_pay12 q3)) (ds k v q4 l4 (k0_pay9 g2 o2) (doC g2)) (k0_pay12 q4)) (ds k v q5 l5 (k0_pay10 g2 o2) (doE g2)) (k0_pay12 q5)) (ds k v q6 l6 (k0_pay9 g3 o3) (doC g3)) (k0_pay12 q6)) (ds k v q7 l7 (k0_pay10 g3 o3) (doE g3)) (k0_pay12 q7) (ix2 j x)
      = ∑ h, ∑ r, dsB (Q h r) K V (L h r) (inner G O h r) (halfOf G h r) j * Q h r x := by
  have h0 : ∀ r, ds k v q0 l0 (k0_pay9 g0 o0) (doA g0) (ix2 r j) = dsB (Q 0 r) K V (L 0 r) (inner G O 0 r) (halfOf G 0 r) j := fun r =>
    ds_apply (hq0 r) hk hv (hl0 r) (low_apply (G := G 0 r) (O := O 0 r) (hg0 r) (ho0 r)) (doA_apply (G := G 0 r) (hg0 r)) j
  have h1 : ∀ r, ds k v q1 l1 (k0_pay10 g0 o0) (doB g0) (ix2 r j) = dsB (Q 1 r) K V (L 1 r) (inner G O 1 r) (halfOf G 1 r) j := fun r =>
    ds_apply (hq1 r) hk hv (hl1 r) (high_apply (G := G 0 r) (O := O 0 r) (hg0 r) (ho0 r) (hr 0 r)) (doB_apply (G := G 0 r) (hg0 r)) j
  have h2 : ∀ r, ds k v q2 l2 (k0_pay9 g1 o1) (doA g1) (ix2 r j) = dsB (Q 2 r) K V (L 2 r) (inner G O 2 r) (halfOf G 2 r) j := fun r =>
    ds_apply (hq2 r) hk hv (hl2 r) (low_apply (G := G 1 r) (O := O 1 r) (hg1 r) (ho1 r)) (doA_apply (G := G 1 r) (hg1 r)) j
  have h3 : ∀ r, ds k v q3 l3 (k0_pay10 g1 o1) (doB g1) (ix2 r j) = dsB (Q 3 r) K V (L 3 r) (inner G O 3 r) (halfOf G 3 r) j := fun r =>
    ds_apply (hq3 r) hk hv (hl3 r) (high_apply (G := G 1 r) (O := O 1 r) (hg1 r) (ho1 r) (hr 1 r)) (doB_apply (G := G 1 r) (hg1 r)) j
  have h4 : ∀ r, ds k v q4 l4 (k0_pay9 g2 o2) (doC g2) (ix2 r j) = dsB (Q 4 r) K V (L 4 r) (inner G O 4 r) (halfOf G 4 r) j := fun r =>
    ds_apply (hq4 r) hk hv (hl4 r) (low_apply (G := G 2 r) (O := O 2 r) (hg2 r) (ho2 r)) (doC_apply (G := G 2 r) (hg2 r)) j
  have h5 : ∀ r, ds k v q5 l5 (k0_pay10 g2 o2) (doE g2) (ix2 r j) = dsB (Q 5 r) K V (L 5 r) (inner G O 5 r) (halfOf G 5 r) j := fun r =>
    ds_apply (hq5 r) hk hv (hl5 r) (high_apply (G := G 2 r) (O := O 2 r) (hg2 r) (ho2 r) (hr 2 r)) (doE_apply (G := G 2 r) (hg2 r)) j
  have h6 : ∀ r, ds k v q6 l6 (k0_pay9 g3 o3) (doC g3) (ix2 r j) = dsB (Q 6 r) K V (L 6 r) (inner G O 6 r) (halfOf G 6 r) j := fun r =>
    ds_apply (hq6 r) hk hv (hl6 r) (low_apply (G := G 3 r) (O := O 3 r) (hg3 r) (ho3 r)) (doC_apply (G := G 3 r) (hg3 r)) j
  have h7 : ∀ r, ds k v q7 l7 (k0_pay10 g3 o3) (doE g3) (ix2 r j) = dsB (Q 7 r) K V (L 7 r) (inner G O 7 r) (halfOf G 7 r) j := fun r =>
    ds_apply (hq7 r) hk hv (hl7 r) (high_apply (G := G 3 r) (O := O 3 r) (hg3 r) (ho3 r) (hr 3 r)) (doE_apply (G := G 3 r) (hg3 r)) j
  simp only [acc_apply, hz, same_q, h0, h1, h2, h3, h4, h5, h6, h7, hq0, hq1, hq2, hq3, hq4, hq5, hq6, hq7, zero_add, Fin.sum_univ_eight]

end Sums

end Cert.AttnBwdIdeal.Hand

end
-- ==== Proof.AttnOut.lean ====
/- What one grid point of the self attention's gradient leaves in its three output blocks: the block of the queries' gradient,
   head by head, and what it adds to the keys' and the values' gradient, which sum over the heads and the point's rows. -/
module

public import proofs.«01_k».proof.Proof.AttnBlock
public import proofs.«01_k».proof.Proof.Panels

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.Softmax Cert.Panels

/-! ## Columns of a head -/

/-- Column `x` of head `h` among the queries. -/
def qcol (h : Fin 8) (x : Fin 128) : Fin 1024 := ⟨128 * h.val + x.val, by omega⟩
/-- Column `x` of the pair `p` of heads in the result. -/
def pcol (p : Fin 4) (x : Fin 128) : Fin 512 := ⟨128 * p.val + x.val, by omega⟩

section Spec
variable {N : ℕ} (X0 : (⟨2, ![N, 1024]⟩ : Shape).Idx → EReal) (X1 X2 : (⟨2, ![2048, 128]⟩ : Shape).Idx → EReal)
  (X3 X4 : (⟨2, ![N, 512]⟩ : Shape).Idx → EReal) (X5 : (⟨3, ![8, N, 1]⟩ : Shape).Idx → EReal)

/-- Head `h` of row `r`'s queries. -/
def qRow (h : Fin 8) (r : Fin N) (x : Fin 128) : EReal := X0 (ix2 r (qcol h x))
/-- The pair `p` of heads of row `r`'s result. -/
def gRow (p : Fin 4) (r : Fin N) (x : Fin 128) : EReal := X3 (ix2 r (pcol p x))
/-- A matrix as a function of the row and the column. -/
def mat (j : Fin 2048) (x : Fin 128) : EReal := X1 (ix2 j x)
/-- The saved logarithm of head `h`, row `r`. -/
def lRow (h : Fin 8) (r : Fin N) : EReal := X5 (ix3 h r 0)
/-- The gradient of the scores, head `h`, row `r`. -/
def dsS (h : Fin 8) (r : Fin N) (j : Fin 2048) : EReal :=
  dsB (qRow X0 h r) (mat X1) (mat X2) (lRow X5 h r) (inner (gRow X3) (gRow X4) h r) (halfOf (gRow X3) h r) j
/-- The gradient of the queries at row `r`, head `h`, column `x`. -/
def dqS (h : Fin 8) (r : Fin N) (x : Fin 128) : EReal := ∑ j, dsS X0 X1 X2 X3 X4 X5 h r j * mat X1 j x
/-- Row `r`'s and head `h`'s part of the gradient of the keys. -/
def dkS (j : Fin 2048) (x : Fin 128) (h : Fin 8) (r : Fin N) : EReal := dsS X0 X1 X2 X3 X4 X5 h r j * qRow X0 h r x
/-- Row `r`'s and head `h`'s part of the gradient of the values. -/
def dvS (j : Fin 2048) (x : Fin 128) (h : Fin 8) (r : Fin N) : EReal :=
  prB (qRow X0 h r) (mat X1) (lRow X5 h r) j * halfOf (gRow X3) h r x
end Spec

/-! ## Loads -/

/-- A load of one head's saved logarithms. -/
theorem load_head {M : Memref sig .tc .vmem S8x256x1 .f32} (hM : M.IsWhole) (X : Vec Ideal S8x256x1 .f32) (o : ℕ)
    (inb : ∀ a, (![o, 0, 0] : Fin 3 → ℕ) a + S1x256x1.size a ≤ S8x256x1.size a) (h : Fin 8) (ho : h.val = o) (r : Fin 256) :
    View.readAt (Elt Ideal) M.view (Rect.unit (s := S8x256x1) ![o, 0, 0] S1x256x1.size inb).toLoadRect (hM.unread X) (ix3 0 r 0)
      = X (ix3 h r 0) := by
  rw [Memref.IsWhole.readAt_unread]
  refine congrArg X ?_
  funext a
  apply Fin.ext
  refine (Rect.emb_apply _ _ _).trans ?_
  fin_cases a
  · show o + 1 * 0 = h.val
    omega
  · show 0 + 1 * r.val = r.val
    omega
  · rfl

theorem add_at (A B : FVec Ideal S2048x128 .f32) (i : S2048x128.Idx) : addf A B i = A i + B i := rfl

theorem zero_5 (i : S2048x128.Idx) : (k0_pay5 : FVec Ideal S2048x128 .f32) i = 0 := by
  pointwise [k0_pay5]
theorem zero_6 (i : S2048x128.Idx) : (k0_pay6 : FVec Ideal S2048x128 .f32) i = 0 := by
  pointwise [k0_pay6]
theorem zero_2 (i : S2048x128.Idx) : (k0_pay2 : FVec Ideal S2048x128 .f32) i = 0 := by
  pointwise [k0_pay2]
theorem zero_3 (i : S2048x128.Idx) : (k0_pay3 : FVec Ideal S2048x128 .f32) i = 0 := by
  pointwise [k0_pay3]

/-! ## The blocks -/

theorem dq_A (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32)
    (hr : ∀ p r x, IsReal (gRow x3 p r x * gRow x4 p r x)) (h : Fin 8) (r : Fin 256) (x : Fin 128) :
    out0_A_6 c i arg1 harg1 arg2 harg2 arg3 harg3 arg4 harg4 arg5 harg5 arg6 harg6 arg7 harg7 arg8 harg8 arg9 harg9 hc0 x0 x1 x2 x3 x4 x5 (ix2 r (qcol h x)) = dqS x0 x1 x2 x3 x4 x5 h r x := by
  unfold out0_A_6
  rw [View.read_writes_junk_eq_canon]
  unfold kernelRun0_A
  dsimp only
  sl_unfold_words
  unfold dqS dsS
  fin_cases h
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 0 x) rfl).trans ?_
    exact dq_apply (Q := qRow x0 0 r) (K := mat x1) (V := mat x2) (L := lRow x5 0 r) (fun x => load_panel harg1 x0 _ r x (qcol 0 x) rfl)
      (fun j x => load_panel harg2 x1 _ j x x (Nat.zero_add _).symm)
      (fun j x => load_panel harg3 x2 _ j x x (Nat.zero_add _).symm)
      (load_head harg6 x5 0 _ 0 rfl r)
      (low_apply (G := gRow x3 0 r) (O := gRow x4 0 r) (fun x => load_panel harg4 x3 _ r x (pcol 0 x) rfl) (fun x => load_panel harg5 x4 _ r x (pcol 0 x) rfl))
      (doA_apply (G := gRow x3 0 r) (fun x => load_panel harg4 x3 _ r x (pcol 0 x) rfl)) x
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 1 x) rfl).trans ?_
    exact (congrFun (dq1 ..) _).trans (dq_apply (Q := qRow x0 1 r) (K := mat x1) (V := mat x2) (L := lRow x5 1 r) (fun x => load_panel harg1 x0 _ r x (qcol 1 x) rfl)
      (fun j x => load_panel harg2 x1 _ j x x (Nat.zero_add _).symm)
      (fun j x => load_panel harg3 x2 _ j x x (Nat.zero_add _).symm)
      (load_head harg6 x5 1 _ 1 rfl r)
      (high_apply (G := gRow x3 0 r) (O := gRow x4 0 r) (fun x => load_panel harg4 x3 _ r x (pcol 0 x) rfl) (fun x => load_panel harg5 x4 _ r x (pcol 0 x) rfl) (hr 0 r))
      (doB_apply (G := gRow x3 0 r) (fun x => load_panel harg4 x3 _ r x (pcol 0 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 2 x) rfl).trans ?_
    exact (congrFun (dq2 ..) _).trans (dq_apply (Q := qRow x0 2 r) (K := mat x1) (V := mat x2) (L := lRow x5 2 r) (fun x => load_panel harg1 x0 _ r x (qcol 2 x) rfl)
      (fun j x => load_panel harg2 x1 _ j x x (Nat.zero_add _).symm)
      (fun j x => load_panel harg3 x2 _ j x x (Nat.zero_add _).symm)
      (load_head harg6 x5 2 _ 2 rfl r)
      (low_apply (G := gRow x3 1 r) (O := gRow x4 1 r) (fun x => load_panel harg4 x3 _ r x (pcol 1 x) rfl) (fun x => load_panel harg5 x4 _ r x (pcol 1 x) rfl))
      (doA_apply (G := gRow x3 1 r) (fun x => load_panel harg4 x3 _ r x (pcol 1 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 3 x) rfl).trans ?_
    exact (congrFun (dq3 ..) _).trans (dq_apply (Q := qRow x0 3 r) (K := mat x1) (V := mat x2) (L := lRow x5 3 r) (fun x => load_panel harg1 x0 _ r x (qcol 3 x) rfl)
      (fun j x => load_panel harg2 x1 _ j x x (Nat.zero_add _).symm)
      (fun j x => load_panel harg3 x2 _ j x x (Nat.zero_add _).symm)
      (load_head harg6 x5 3 _ 3 rfl r)
      (high_apply (G := gRow x3 1 r) (O := gRow x4 1 r) (fun x => load_panel harg4 x3 _ r x (pcol 1 x) rfl) (fun x => load_panel harg5 x4 _ r x (pcol 1 x) rfl) (hr 1 r))
      (doB_apply (G := gRow x3 1 r) (fun x => load_panel harg4 x3 _ r x (pcol 1 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 4 x) rfl).trans ?_
    exact (congrFun (dq4 ..) _).trans (dq_apply (Q := qRow x0 4 r) (K := mat x1) (V := mat x2) (L := lRow x5 4 r) (fun x => load_panel harg1 x0 _ r x (qcol 4 x) rfl)
      (fun j x => load_panel harg2 x1 _ j x x (Nat.zero_add _).symm)
      (fun j x => load_panel harg3 x2 _ j x x (Nat.zero_add _).symm)
      (load_head harg6 x5 4 _ 4 rfl r)
      (low_apply (G := gRow x3 2 r) (O := gRow x4 2 r) (fun x => load_panel harg4 x3 _ r x (pcol 2 x) rfl) (fun x => load_panel harg5 x4 _ r x (pcol 2 x) rfl))
      (doC_apply (G := gRow x3 2 r) (fun x => load_panel harg4 x3 _ r x (pcol 2 x) rfl)) x)
  · refine (canon_miss _ _ _ r _ (by simp [qcol] <;> omega)).trans ?_
    refine (canon_miss _ _ _ r _ (by simp [qcol] <;> omega)).trans ?_
    refine (canon_hit _ _ _ r x (qcol 5 x) rfl).trans ?_
    exact (congrFun (dq5 ..) _).trans (dq_apply (Q := qRow x0 5 r) (K := mat x1) (V := mat x2) (L := lRow x5 5 r) (fun x => load_panel harg1 x0 _ r x (qcol 5 x) rfl)
      (fun j x => load_panel harg2 x1 _ j x x (Nat.zero_add _).symm)
      (fun j x => load_panel harg3 x2 _ j x x (Nat.zero_add _).symm)
      (load_head harg6 x5 5 _ 5 rfl r)
      (high_apply (G := gRow x3 2 r) (O := gRow x4 2 r) (fun x => load_panel harg4 x3 _ r x (pcol 2 x) rfl) (fun x => load_panel harg5 x4 _ r x (pcol 2 x) rfl) (hr 2 r))
      (doE_apply (G := gRow x3 2 r) (fun x => load_panel harg4 x3 _ r x (pcol 2 x) rfl)) x)
  · refine (canon_miss _ _ _ r _ (by simp [qcol] <;> omega)).trans ?_
    refine (canon_hit _ _ _ r x (qcol 6 x) rfl).trans ?_
    exact (congrFun (dq6 ..) _).trans (dq_apply (Q := qRow x0 6 r) (K := mat x1) (V := mat x2) (L := lRow x5 6 r) (fun x => load_panel harg1 x0 _ r x (qcol 6 x) rfl)
      (fun j x => load_panel harg2 x1 _ j x x (Nat.zero_add _).symm)
      (fun j x => load_panel harg3 x2 _ j x x (Nat.zero_add _).symm)
      (load_head harg6 x5 6 _ 6 rfl r)
      (low_apply (G := gRow x3 3 r) (O := gRow x4 3 r) (fun x => load_panel harg4 x3 _ r x (pcol 3 x) rfl) (fun x => load_panel harg5 x4 _ r x (pcol 3 x) rfl))
      (doC_apply (G := gRow x3 3 r) (fun x => load_panel harg4 x3 _ r x (pcol 3 x) rfl)) x)
  · refine (canon_hit _ _ _ r x (qcol 7 x) rfl).trans ?_
    exact (congrFun (dq7 ..) _).trans (dq_apply (Q := qRow x0 7 r) (K := mat x1) (V := mat x2) (L := lRow x5 7 r) (fun x => load_panel harg1 x0 _ r x (qcol 7 x) rfl)
      (fun j x => load_panel harg2 x1 _ j x x (Nat.zero_add _).symm)
      (fun j x => load_panel harg3 x2 _ j x x (Nat.zero_add _).symm)
      (load_head harg6 x5 7 _ 7 rfl r)
      (high_apply (G := gRow x3 3 r) (O := gRow x4 3 r) (fun x => load_panel harg4 x3 _ r x (pcol 3 x) rfl) (fun x => load_panel harg5 x4 _ r x (pcol 3 x) rfl) (hr 3 r))
      (doE_apply (G := gRow x3 3 r) (fun x => load_panel harg4 x3 _ r x (pcol 3 x) rfl)) x)

theorem dk_A (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32)
    (hr : ∀ p r x, IsReal (gRow x3 p r x * gRow x4 p r x)) (j : Fin 2048) (x : Fin 128) :
    out0_A_7 c i arg1 harg1 arg2 harg2 arg3 harg3 arg4 harg4 arg5 harg5 arg6 harg6 arg7 harg7 arg8 harg8 arg9 harg9 hc0 x0 x1 x2 x3 x4 x5 (ix2 j x) = ∑ h, ∑ r, dkS x0 x1 x2 x3 x4 x5 j x h r := by
  unfold out0_A_7
  rw [View.read_writes_junk_eq_canon]
  unfold kernelRun0_A
  dsimp only
  sl_unfold_words
  refine (canon_hit _ _ _ j x x (Nat.zero_add _).symm).trans ?_
  refine (congrFun (dk_all ..) _).trans ((add_at _ _ _).trans ?_)
  refine Eq.trans ?_ (zero_add _)
  refine congrArg₂ (· + ·) ((same_apply _ _).trans ((reload_panel _ _ _ j x x (Nat.zero_add _).symm).trans ((canon_hit _ _ _ j x x (Nat.zero_add _).symm).trans (zero_2 _)))) ?_
  exact (dk_sum (Q := qRow x0) (L := lRow x5) (G := gRow x3) (O := gRow x4) (V := mat x2) (K := mat x1) zero_5 (fun j x => load_panel harg2 x1 _ j x x (Nat.zero_add _).symm) (fun j x => load_panel harg3 x2 _ j x x (Nat.zero_add _).symm)
      (fun r x => load_panel harg1 x0 _ r x (qcol 0 x) rfl) (fun r => load_head harg6 x5 0 _ 0 rfl r)
       (fun r x => load_panel harg1 x0 _ r x (qcol 1 x) rfl) (fun r => load_head harg6 x5 1 _ 1 rfl r)
       (fun r x => load_panel harg1 x0 _ r x (qcol 2 x) rfl) (fun r => load_head harg6 x5 2 _ 2 rfl r)
       (fun r x => load_panel harg1 x0 _ r x (qcol 3 x) rfl) (fun r => load_head harg6 x5 3 _ 3 rfl r)
       (fun r x => load_panel harg1 x0 _ r x (qcol 4 x) rfl) (fun r => load_head harg6 x5 4 _ 4 rfl r)
       (fun r x => load_panel harg1 x0 _ r x (qcol 5 x) rfl) (fun r => load_head harg6 x5 5 _ 5 rfl r)
       (fun r x => load_panel harg1 x0 _ r x (qcol 6 x) rfl) (fun r => load_head harg6 x5 6 _ 6 rfl r)
       (fun r x => load_panel harg1 x0 _ r x (qcol 7 x) rfl) (fun r => load_head harg6 x5 7 _ 7 rfl r)
      (fun r x => load_panel harg4 x3 _ r x (pcol 0 x) rfl) (fun r x => load_panel harg4 x3 _ r x (pcol 1 x) rfl) (fun r x => load_panel harg4 x3 _ r x (pcol 2 x) rfl) (fun r x => load_panel harg4 x3 _ r x (pcol 3 x) rfl)
      (fun r x => load_panel harg5 x4 _ r x (pcol 0 x) rfl) (fun r x => load_panel harg5 x4 _ r x (pcol 1 x) rfl) (fun r x => load_panel harg5 x4 _ r x (pcol 2 x) rfl) (fun r x => load_panel harg5 x4 _ r x (pcol 3 x) rfl) hr j x)

theorem dv_A (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32)
     (j : Fin 2048) (x : Fin 128) :
    out0_A_8 c i arg1 harg1 arg2 harg2 arg3 harg3 arg4 harg4 arg5 harg5 arg6 harg6 arg7 harg7 arg8 harg8 arg9 harg9 hc0 x0 x1 x2 x3 x4 x5 (ix2 j x) = ∑ h, ∑ r, dvS x0 x1 x3 x5 j x h r := by
  unfold out0_A_8
  rw [View.read_writes_junk_eq_canon]
  unfold kernelRun0_A
  dsimp only
  sl_unfold_words
  refine (canon_hit _ _ _ j x x (Nat.zero_add _).symm).trans ?_
  refine (congrFun (dv_all ..) _).trans ((add_at _ _ _).trans ?_)
  refine Eq.trans ?_ (zero_add _)
  refine congrArg₂ (· + ·) ((same_apply _ _).trans ((reload_panel _ _ _ j x x (Nat.zero_add _).symm).trans ((canon_hit _ _ _ j x x (Nat.zero_add _).symm).trans (zero_3 _)))) ?_
  exact (dv_sum (Q := qRow x0) (L := lRow x5) (G := gRow x3) (K := mat x1) zero_6 (fun j x => load_panel harg2 x1 _ j x x (Nat.zero_add _).symm)
      (fun r x => load_panel harg1 x0 _ r x (qcol 0 x) rfl) (fun r => load_head harg6 x5 0 _ 0 rfl r)
       (fun r x => load_panel harg1 x0 _ r x (qcol 1 x) rfl) (fun r => load_head harg6 x5 1 _ 1 rfl r)
       (fun r x => load_panel harg1 x0 _ r x (qcol 2 x) rfl) (fun r => load_head harg6 x5 2 _ 2 rfl r)
       (fun r x => load_panel harg1 x0 _ r x (qcol 3 x) rfl) (fun r => load_head harg6 x5 3 _ 3 rfl r)
       (fun r x => load_panel harg1 x0 _ r x (qcol 4 x) rfl) (fun r => load_head harg6 x5 4 _ 4 rfl r)
       (fun r x => load_panel harg1 x0 _ r x (qcol 5 x) rfl) (fun r => load_head harg6 x5 5 _ 5 rfl r)
       (fun r x => load_panel harg1 x0 _ r x (qcol 6 x) rfl) (fun r => load_head harg6 x5 6 _ 6 rfl r)
       (fun r x => load_panel harg1 x0 _ r x (qcol 7 x) rfl) (fun r => load_head harg6 x5 7 _ 7 rfl r)
      (fun r x => load_panel harg4 x3 _ r x (pcol 0 x) rfl) (fun r x => load_panel harg4 x3 _ r x (pcol 1 x) rfl) (fun r x => load_panel harg4 x3 _ r x (pcol 2 x) rfl) (fun r x => load_panel harg4 x3 _ r x (pcol 3 x) rfl)
       j x)

theorem dq_B (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32) (xo7 : Vec Ideal S2048x128 .f32) (xo8 : Vec Ideal S2048x128 .f32)
    (hr : ∀ p r x, IsReal (gRow x3 p r x * gRow x4 p r x)) (h : Fin 8) (r : Fin 256) (x : Fin 128) :
    out0_B_6 c i arg1 harg1 arg2 harg2 arg3 harg3 arg4 harg4 arg5 harg5 arg6 harg6 arg7 harg7 arg8 harg8 arg9 harg9 hc0 x0 x1 x2 x3 x4 x5 xo7 xo8 (ix2 r (qcol h x)) = dqS x0 x1 x2 x3 x4 x5 h r x := by
  unfold out0_B_6
  rw [View.read_writes_junk_eq_canon]
  unfold kernelRun0_B
  dsimp only
  sl_unfold_words
  unfold dqS dsS
  fin_cases h
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 0 x) rfl).trans ?_
    exact dq_apply (Q := qRow x0 0 r) (K := mat x1) (V := mat x2) (L := lRow x5 0 r) (fun x => load_panel harg1 x0 _ r x (qcol 0 x) rfl)
      (fun j x => load_panel harg2 x1 _ j x x (Nat.zero_add _).symm)
      (fun j x => load_panel harg3 x2 _ j x x (Nat.zero_add _).symm)
      (load_head harg6 x5 0 _ 0 rfl r)
      (low_apply (G := gRow x3 0 r) (O := gRow x4 0 r) (fun x => load_panel harg4 x3 _ r x (pcol 0 x) rfl) (fun x => load_panel harg5 x4 _ r x (pcol 0 x) rfl))
      (doA_apply (G := gRow x3 0 r) (fun x => load_panel harg4 x3 _ r x (pcol 0 x) rfl)) x
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 1 x) rfl).trans ?_
    exact (congrFun (dq1 ..) _).trans (dq_apply (Q := qRow x0 1 r) (K := mat x1) (V := mat x2) (L := lRow x5 1 r) (fun x => load_panel harg1 x0 _ r x (qcol 1 x) rfl)
      (fun j x => load_panel harg2 x1 _ j x x (Nat.zero_add _).symm)
      (fun j x => load_panel harg3 x2 _ j x x (Nat.zero_add _).symm)
      (load_head harg6 x5 1 _ 1 rfl r)
      (high_apply (G := gRow x3 0 r) (O := gRow x4 0 r) (fun x => load_panel harg4 x3 _ r x (pcol 0 x) rfl) (fun x => load_panel harg5 x4 _ r x (pcol 0 x) rfl) (hr 0 r))
      (doB_apply (G := gRow x3 0 r) (fun x => load_panel harg4 x3 _ r x (pcol 0 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 2 x) rfl).trans ?_
    exact (congrFun (dq2 ..) _).trans (dq_apply (Q := qRow x0 2 r) (K := mat x1) (V := mat x2) (L := lRow x5 2 r) (fun x => load_panel harg1 x0 _ r x (qcol 2 x) rfl)
      (fun j x => load_panel harg2 x1 _ j x x (Nat.zero_add _).symm)
      (fun j x => load_panel harg3 x2 _ j x x (Nat.zero_add _).symm)
      (load_head harg6 x5 2 _ 2 rfl r)
      (low_apply (G := gRow x3 1 r) (O := gRow x4 1 r) (fun x => load_panel harg4 x3 _ r x (pcol 1 x) rfl) (fun x => load_panel harg5 x4 _ r x (pcol 1 x) rfl))
      (doA_apply (G := gRow x3 1 r) (fun x => load_panel harg4 x3 _ r x (pcol 1 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 3 x) rfl).trans ?_
    exact (congrFun (dq3 ..) _).trans (dq_apply (Q := qRow x0 3 r) (K := mat x1) (V := mat x2) (L := lRow x5 3 r) (fun x => load_panel harg1 x0 _ r x (qcol 3 x) rfl)
      (fun j x => load_panel harg2 x1 _ j x x (Nat.zero_add _).symm)
      (fun j x => load_panel harg3 x2 _ j x x (Nat.zero_add _).symm)
      (load_head harg6 x5 3 _ 3 rfl r)
      (high_apply (G := gRow x3 1 r) (O := gRow x4 1 r) (fun x => load_panel harg4 x3 _ r x (pcol 1 x) rfl) (fun x => load_panel harg5 x4 _ r x (pcol 1 x) rfl) (hr 1 r))
      (doB_apply (G := gRow x3 1 r) (fun x => load_panel harg4 x3 _ r x (pcol 1 x) rfl)) x)
  · refine (canon_miss _ _ _ r _ (by simp [qcol] <;> omega)).trans ?_
    refine (canon_miss _ _ _ r _ (by simp [qcol] <;> omega)).trans ?_
    refine (canon_miss _ _ _ r _ (by simp [qcol] <;> omega)).trans ?_
    refine (canon_hit _ _ _ r x (qcol 4 x) rfl).trans ?_
    exact (congrFun (dq4 ..) _).trans (dq_apply (Q := qRow x0 4 r) (K := mat x1) (V := mat x2) (L := lRow x5 4 r) (fun x => load_panel harg1 x0 _ r x (qcol 4 x) rfl)
      (fun j x => load_panel harg2 x1 _ j x x (Nat.zero_add _).symm)
      (fun j x => load_panel harg3 x2 _ j x x (Nat.zero_add _).symm)
      (load_head harg6 x5 4 _ 4 rfl r)
      (low_apply (G := gRow x3 2 r) (O := gRow x4 2 r) (fun x => load_panel harg4 x3 _ r x (pcol 2 x) rfl) (fun x => load_panel harg5 x4 _ r x (pcol 2 x) rfl))
      (doC_apply (G := gRow x3 2 r) (fun x => load_panel harg4 x3 _ r x (pcol 2 x) rfl)) x)
  · refine (canon_miss _ _ _ r _ (by simp [qcol] <;> omega)).trans ?_
    refine (canon_miss _ _ _ r _ (by simp [qcol] <;> omega)).trans ?_
    refine (canon_hit _ _ _ r x (qcol 5 x) rfl).trans ?_
    exact (congrFun (dq5 ..) _).trans (dq_apply (Q := qRow x0 5 r) (K := mat x1) (V := mat x2) (L := lRow x5 5 r) (fun x => load_panel harg1 x0 _ r x (qcol 5 x) rfl)
      (fun j x => load_panel harg2 x1 _ j x x (Nat.zero_add _).symm)
      (fun j x => load_panel harg3 x2 _ j x x (Nat.zero_add _).symm)
      (load_head harg6 x5 5 _ 5 rfl r)
      (high_apply (G := gRow x3 2 r) (O := gRow x4 2 r) (fun x => load_panel harg4 x3 _ r x (pcol 2 x) rfl) (fun x => load_panel harg5 x4 _ r x (pcol 2 x) rfl) (hr 2 r))
      (doE_apply (G := gRow x3 2 r) (fun x => load_panel harg4 x3 _ r x (pcol 2 x) rfl)) x)
  · refine (canon_miss _ _ _ r _ (by simp [qcol] <;> omega)).trans ?_
    refine (canon_hit _ _ _ r x (qcol 6 x) rfl).trans ?_
    exact (congrFun (dq6 ..) _).trans (dq_apply (Q := qRow x0 6 r) (K := mat x1) (V := mat x2) (L := lRow x5 6 r) (fun x => load_panel harg1 x0 _ r x (qcol 6 x) rfl)
      (fun j x => load_panel harg2 x1 _ j x x (Nat.zero_add _).symm)
      (fun j x => load_panel harg3 x2 _ j x x (Nat.zero_add _).symm)
      (load_head harg6 x5 6 _ 6 rfl r)
      (low_apply (G := gRow x3 3 r) (O := gRow x4 3 r) (fun x => load_panel harg4 x3 _ r x (pcol 3 x) rfl) (fun x => load_panel harg5 x4 _ r x (pcol 3 x) rfl))
      (doC_apply (G := gRow x3 3 r) (fun x => load_panel harg4 x3 _ r x (pcol 3 x) rfl)) x)
  · refine (canon_hit _ _ _ r x (qcol 7 x) rfl).trans ?_
    exact (congrFun (dq7 ..) _).trans (dq_apply (Q := qRow x0 7 r) (K := mat x1) (V := mat x2) (L := lRow x5 7 r) (fun x => load_panel harg1 x0 _ r x (qcol 7 x) rfl)
      (fun j x => load_panel harg2 x1 _ j x x (Nat.zero_add _).symm)
      (fun j x => load_panel harg3 x2 _ j x x (Nat.zero_add _).symm)
      (load_head harg6 x5 7 _ 7 rfl r)
      (high_apply (G := gRow x3 3 r) (O := gRow x4 3 r) (fun x => load_panel harg4 x3 _ r x (pcol 3 x) rfl) (fun x => load_panel harg5 x4 _ r x (pcol 3 x) rfl) (hr 3 r))
      (doE_apply (G := gRow x3 3 r) (fun x => load_panel harg4 x3 _ r x (pcol 3 x) rfl)) x)

theorem dk_B (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32) (xo7 : Vec Ideal S2048x128 .f32) (xo8 : Vec Ideal S2048x128 .f32)
    (hr : ∀ p r x, IsReal (gRow x3 p r x * gRow x4 p r x)) (j : Fin 2048) (x : Fin 128) :
    out0_B_7 c i arg1 harg1 arg2 harg2 arg3 harg3 arg4 harg4 arg5 harg5 arg6 harg6 arg7 harg7 arg8 harg8 arg9 harg9 hc0 x0 x1 x2 x3 x4 x5 xo7 xo8 (ix2 j x) = xo7 (ix2 j x) + ∑ h, ∑ r, dkS x0 x1 x2 x3 x4 x5 j x h r := by
  unfold out0_B_7
  rw [View.read_writes_junk_eq_canon]
  unfold kernelRun0_B
  dsimp only
  sl_unfold_words
  refine (canon_hit _ _ _ j x x (Nat.zero_add _).symm).trans ?_
  refine (congrFun (dk_all ..) _).trans ((add_at _ _ _).trans ?_)

  refine congrArg₂ (· + ·) ((same_apply _ _).trans (load_panel harg8 xo7 _ j x x (Nat.zero_add _).symm)) ?_
  exact (dk_sum (Q := qRow x0) (L := lRow x5) (G := gRow x3) (O := gRow x4) (V := mat x2) (K := mat x1) zero_5 (fun j x => load_panel harg2 x1 _ j x x (Nat.zero_add _).symm) (fun j x => load_panel harg3 x2 _ j x x (Nat.zero_add _).symm)
      (fun r x => load_panel harg1 x0 _ r x (qcol 0 x) rfl) (fun r => load_head harg6 x5 0 _ 0 rfl r)
       (fun r x => load_panel harg1 x0 _ r x (qcol 1 x) rfl) (fun r => load_head harg6 x5 1 _ 1 rfl r)
       (fun r x => load_panel harg1 x0 _ r x (qcol 2 x) rfl) (fun r => load_head harg6 x5 2 _ 2 rfl r)
       (fun r x => load_panel harg1 x0 _ r x (qcol 3 x) rfl) (fun r => load_head harg6 x5 3 _ 3 rfl r)
       (fun r x => load_panel harg1 x0 _ r x (qcol 4 x) rfl) (fun r => load_head harg6 x5 4 _ 4 rfl r)
       (fun r x => load_panel harg1 x0 _ r x (qcol 5 x) rfl) (fun r => load_head harg6 x5 5 _ 5 rfl r)
       (fun r x => load_panel harg1 x0 _ r x (qcol 6 x) rfl) (fun r => load_head harg6 x5 6 _ 6 rfl r)
       (fun r x => load_panel harg1 x0 _ r x (qcol 7 x) rfl) (fun r => load_head harg6 x5 7 _ 7 rfl r)
      (fun r x => load_panel harg4 x3 _ r x (pcol 0 x) rfl) (fun r x => load_panel harg4 x3 _ r x (pcol 1 x) rfl) (fun r x => load_panel harg4 x3 _ r x (pcol 2 x) rfl) (fun r x => load_panel harg4 x3 _ r x (pcol 3 x) rfl)
      (fun r x => load_panel harg5 x4 _ r x (pcol 0 x) rfl) (fun r x => load_panel harg5 x4 _ r x (pcol 1 x) rfl) (fun r x => load_panel harg5 x4 _ r x (pcol 2 x) rfl) (fun r x => load_panel harg5 x4 _ r x (pcol 3 x) rfl) hr j x)

theorem dv_B (c : Dev nD) (i : grid0.Coords) (arg1 : Memref sig .tc .vmem S256x1024 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S256x512 .bf16) (harg4 : arg4.IsWhole) (arg5 : Memref sig .tc .vmem S256x512 .f32) (harg5 : arg5.IsWhole) (arg6 : Memref sig .tc .vmem S8x256x1 .f32) (harg6 : arg6.IsWhole) (arg7 : Memref sig .tc .vmem S256x1024 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i)
    (x0 : Vec Ideal S256x1024 .bf16) (x1 : Vec Ideal S2048x128 .bf16) (x2 : Vec Ideal S2048x128 .bf16) (x3 : Vec Ideal S256x512 .bf16) (x4 : Vec Ideal S256x512 .f32) (x5 : Vec Ideal S8x256x1 .f32) (xo7 : Vec Ideal S2048x128 .f32) (xo8 : Vec Ideal S2048x128 .f32)
     (j : Fin 2048) (x : Fin 128) :
    out0_B_8 c i arg1 harg1 arg2 harg2 arg3 harg3 arg4 harg4 arg5 harg5 arg6 harg6 arg7 harg7 arg8 harg8 arg9 harg9 hc0 x0 x1 x2 x3 x4 x5 xo7 xo8 (ix2 j x) = xo8 (ix2 j x) + ∑ h, ∑ r, dvS x0 x1 x3 x5 j x h r := by
  unfold out0_B_8
  rw [View.read_writes_junk_eq_canon]
  unfold kernelRun0_B
  dsimp only
  sl_unfold_words
  refine (canon_hit _ _ _ j x x (Nat.zero_add _).symm).trans ?_
  refine (congrFun (dv_all ..) _).trans ((add_at _ _ _).trans ?_)

  refine congrArg₂ (· + ·) ((same_apply _ _).trans (load_panel harg9 xo8 _ j x x (Nat.zero_add _).symm)) ?_
  exact (dv_sum (Q := qRow x0) (L := lRow x5) (G := gRow x3) (K := mat x1) zero_6 (fun j x => load_panel harg2 x1 _ j x x (Nat.zero_add _).symm)
      (fun r x => load_panel harg1 x0 _ r x (qcol 0 x) rfl) (fun r => load_head harg6 x5 0 _ 0 rfl r)
       (fun r x => load_panel harg1 x0 _ r x (qcol 1 x) rfl) (fun r => load_head harg6 x5 1 _ 1 rfl r)
       (fun r x => load_panel harg1 x0 _ r x (qcol 2 x) rfl) (fun r => load_head harg6 x5 2 _ 2 rfl r)
       (fun r x => load_panel harg1 x0 _ r x (qcol 3 x) rfl) (fun r => load_head harg6 x5 3 _ 3 rfl r)
       (fun r x => load_panel harg1 x0 _ r x (qcol 4 x) rfl) (fun r => load_head harg6 x5 4 _ 4 rfl r)
       (fun r x => load_panel harg1 x0 _ r x (qcol 5 x) rfl) (fun r => load_head harg6 x5 5 _ 5 rfl r)
       (fun r x => load_panel harg1 x0 _ r x (qcol 6 x) rfl) (fun r => load_head harg6 x5 6 _ 6 rfl r)
       (fun r x => load_panel harg1 x0 _ r x (qcol 7 x) rfl) (fun r => load_head harg6 x5 7 _ 7 rfl r)
      (fun r x => load_panel harg4 x3 _ r x (pcol 0 x) rfl) (fun r x => load_panel harg4 x3 _ r x (pcol 1 x) rfl) (fun r x => load_panel harg4 x3 _ r x (pcol 2 x) rfl) (fun r x => load_panel harg4 x3 _ r x (pcol 3 x) rfl)
       j x)

end Cert.AttnBwdIdeal.Hand

end
-- ==== Proof.AttnRef.lean ====
/- What the reference of the self attention's gradient computes, element by element: differentiating the plain softmax
   attention gives, for real scores, the probability times the probability's gradient less its mean. -/
module

public import proofs.«01_k».proof.Proof.Gen.AttnBwdRefIdeal.Read
public import proofs.«01_k».proof.Proof.AttnOut
public import proofs.«01_k».proof.Proof.SoftmaxGrad

@[expose] public section

set_option maxRecDepth 16384

noncomputable section

namespace Cert.AttnBwdRefIdeal.Hand

open Cert.AttnBwdRefIdeal Cert.AttnBwdRefIdeal.Read Idealize.ShloMosaic Idealize.ShloMosaic.TcCoe Idealize.SL.Sem
open Cert.Softmax Cert.AttnBwdIdeal.Hand

variable (Q : S2048x512.Idx → EReal) (K : S2048x128.Idx → EReal) (P : S2048x3328.Idx → EReal) (G : S2048x1024.Idx → EReal)

/-! ## What the stages are made of -/

/-- Column `i` of head `h`. -/
def ocol (h : Fin 8) (i : Fin 64) : Fin 512 := ⟨64 * h.val + i.val, by omega⟩
/-- The head of values that head `h` sees. -/
def kv (h : Fin 8) : Fin 2 := ⟨h.val / 4, by omega⟩
/-- The padded queries. -/
def pq (h : Fin 8) (n : Fin 2048) (x : Fin 128) : EReal := val_main_v11 (F := Ideal) Q (ix3 n h x)
/-- The scores. -/
def sc (h : Fin 8) (n : Fin 2048) (j : Fin 2048) : EReal := ∑ x, pq Q h n x * K (ix2 j x)
/-- The values. -/
def vals (j : Fin 2048) (x : Fin 128) : EReal := P (ix2 j ⟨640 + x.val, by omega⟩)
/-- The gradient of head `h`'s result. -/
def gr (h : Fin 8) (n : Fin 2048) (i : Fin 64) : EReal := G (ix2 n ⟨64 * h.val + i.val, by omega⟩)
/-- The gradient of the probabilities. -/
def dp (h : Fin 8) (n : Fin 2048) (j : Fin 2048) : EReal := ∑ i, gr G h n i * vals P j (hc (kv h) i)
/-- The gradient of the scores. -/
def gs (h : Fin 8) (n : Fin 2048) (j : Fin 2048) : EReal :=
  prob (sc Q K h n) j * (dp P G h n j - ∑ i, prob (sc Q K h n) i * dp P G h n i)

/-- The gradient of the quotient, for scores that are not scaled. -/
theorem grad_quotient {n : ℕ} {s : Fin n → EReal} (hs : ∀ j, IsReal (s j)) (d : Fin n → EReal) (j : Fin n) :
    (Ideal.div (d j) (total s) + -∑ i, d i * Ideal.div 1 (total s * total s) * weight s i) * weight s j
      = prob s j * (d j - ∑ i, prob s i * d i) := by
  obtain ⟨E, L, hE, hL, hw, ht⟩ := weights_real hs (lt_of_le_of_lt (Nat.zero_le _) j.isLt)
  have hc : (0 : ℝ) ≤ 1 / L := by positivity
  have hp : ∀ i, prob s i = ((E i * (1 / L) : ℝ) : EReal) := fun i => by
    rw [prob, ht, hw, Ideal.div_coe hL.ne', one_mul, ← EReal.coe_mul]
  have hsum : ∑ i, d i * Ideal.div 1 (total s * total s) * weight s i = ((1 / L : ℝ) : EReal) * ∑ i, prob s i * d i := by
    rw [mul_sum_real hc]
    refine Finset.sum_congr rfl fun i _ => ?_
    rw [hp, hw, ht, ← EReal.coe_mul, Ideal.div_coe (mul_pos hL hL).ne', one_mul, mul_assoc, ← EReal.coe_mul, mul_comm,
      ← mul_assoc, ← EReal.coe_mul]
    congr 2
    field_simp
  rw [hsum, ht, Ideal.div_coe hL.ne', mul_comm (d j), ← mul_neg,
    ← EReal.left_distrib_of_nonneg_of_ne_top (EReal.coe_nonneg.mpr hc) (EReal.coe_ne_top _), hp, hw, mul_comm _ (E j : EReal),
    ← mul_assoc, ← EReal.coe_mul]
  rfl

/-! ## The forward pass -/

theorem k_at (h : Fin 8) (j : Fin 2048) (x : Fin 128) : val_main_v14 (F := Ideal) K (ix3 j h x) = K (ix2 j x) := by
  pointwise [val_main_v14, val_main_v13, val_main_v12]

theorem score_at (h : Fin 8) (n j : Fin 2048) : val_main_v15 (F := Ideal) Q K (ix3 h n j) = sc Q K h n j := by
  pointwise [val_main_v15]
  simp only [k_at]
  rfl

theorem peak_at (h : Fin 8) (n : Fin 2048) : val_main_v16 (F := Ideal) Q K (ix2 h n) = peak (sc Q K h n) := by
  pointwise [val_main_v16, val_main_cst_1]
  simp only [score_at]
  rfl

theorem weight_at (h : Fin 8) (n j : Fin 2048) : val_main_v20 (F := Ideal) Q K (ix3 h n j) = weight (sc Q K h n) j := by
  pointwise [val_main_v20, val_main_v19, val_main_v18, val_main_v17]
  rw [score_at, peak_at]
  rfl

theorem total_at (h : Fin 8) (n : Fin 2048) : val_main_v22 (F := Ideal) Q K (ix3 h n 0) = total (sc Q K h n) := by
  pointwise [val_main_v22, val_main_v21, val_main_cst_2]
  simp only [weight_at]
  rfl

theorem prob_at (h : Fin 8) (n j : Fin 2048) (hs : ∀ j, IsReal (sc Q K h n j)) :
    val_main_v24 (F := Ideal) Q K (ix3 h n j) = prob (sc Q K h n) j := by
  pointwise [val_main_v24, val_main_v23]
  rw [weight_at, total_at, prob_eq_div hs]

theorem v_at (h : Fin 8) (j : Fin 2048) (i : Fin 64) : val_main_v30 (F := Ideal) P (ix3 j h i) = vals P j (hc (kv h) i) := by
  pointwise [val_main_v30, val_main_v29, val_main_v28, val_main_v1, val_main_v0]
  exact congrArg P (congrArg₂ ix2 (Fin.ext (by simp)) (Fin.ext (by simp [hc, kv]; omega)))

theorem g_at (h : Fin 8) (n : Fin 2048) (i : Fin 64) : val_main_v37 (F := Ideal) G (ix3 h i n) = gr G h n i := by
  pointwise [val_main_v37, val_main_v36, val_main_v35, val_main_v34]
  exact congrArg G (congrArg₂ ix2 (Fin.ext (by simp)) (Fin.ext (by simp; omega)))

theorem o_at (h : Fin 8) (n : Fin 2048) (i : Fin 64) (hs : ∀ j, IsReal (sc Q K h n j)) :
    val_main_v33 (F := Ideal) Q K P (ix2 n (ocol h i)) = ∑ j, vals P j (hc (kv h) i) * prob (sc Q K h n) j := by
  have e1 : ((ocol h i).val / 64) = h.val := by simp [ocol]; omega
  have e2 : ((ocol h i).val % 64) = i.val := by simp [ocol]
  pointwise [val_main_v33, val_main_v32, val_main_v31]
  simp only [e1, e2, Fin.eta, prob_at Q K _ _ _ hs, v_at]

/-- Finite queries leave finite padded queries: an entry is a scaled query or zero. -/
theorem pq_real (hQ : ∀ y, IsReal (Q y)) (h : Fin 8) (n : Fin 2048) (x : Fin 128) : IsReal (pq Q h n x) := by
  show IsReal (val_main_v11 (F := Ideal) Q (ix3 n h x))
  pointwise [val_main_v11, val_main_v10, val_main_v9, val_main_v8, val_main_v7, val_main_v6, val_main_v5, val_main_v4, val_main_v3, val_main_v2]
  have hc : IsReal (val_main_cst (F := Ideal) ix0) := by
    show IsReal (Ideal.ofBits .f32 0x3E000000#32)
    refine ⟨1 / 8, ?_⟩
    simp [Ideal.ofBits, Ideal.ieee, -EReal.coe_mul]
    norm_num
  have hz : IsReal (val_main_cst_0 (F := Ideal) ix0) := by
    show IsReal (Ideal.ofBits .f32 0x00000000#32)
    refine ⟨0, ?_⟩
    simp [Ideal.ofBits, Ideal.ieee]
  split <;> split
  · exact (hQ _).mul hc
  · exact hz
  · exact hz
  · exact (hQ _).mul hc

/-! ## The backward pass -/

theorem dprob_at (h : Fin 8) (n j : Fin 2048) : val_main_v38 (F := Ideal) P G (ix3 h n j) = dp P G h n j := by
  pointwise [val_main_v38]
  simp only [g_at, v_at]
  rfl

theorem inner_at (h : Fin 8) (n : Fin 2048) : val_main_v50 (F := Ideal) Q K P G (ix3 h n 0)
    = -∑ i, dp P G h n i * Ideal.div 1 (total (sc Q K h n) * total (sc Q K h n)) * weight (sc Q K h n) i := by
  pointwise [val_main_v50, val_main_v49, val_main_v48, val_main_v47, val_main_v46, val_main_v45, val_main_v27, val_main_v26, val_main_v25, val_main_cst_3, val_main_cst_5]
  simp only [dprob_at, total_at, weight_at]

theorem grad_at (h : Fin 8) (n j : Fin 2048) (hs : ∀ j, IsReal (sc Q K h n j)) :
    val_main_v56 (F := Ideal) Q K P G (ix3 h n j) = gs Q K P G h n j := by
  unfold gs
  rw [← grad_quotient hs]
  pointwise [val_main_v56, val_main_v55, val_main_v54, val_main_v53, val_main_v52, val_main_v51, val_main_cst_6]
  simp only [Fin.sum_univ_one, Finset.univ_unique, Finset.sum_singleton, Fin.default_eq_zero, inner_at, dprob_at, total_at, weight_at]

/-! ## The results -/

section Results
variable (hs : ∀ h n j, IsReal (sc Q K h n j))
include hs

theorem dq_at (h : Fin 8) (n : Fin 2048) (x : Fin 128) :
    val_main_v64 (F := Ideal) Q K P G (ix2 n (qcol h x)) = ∑ j, gs Q K P G h n j * K (ix2 j x) := by
  have e1 : ((qcol h x).val / 128) = h.val := by simp [qcol]; omega
  have e2 : ((qcol h x).val % 128) = x.val := by simp [qcol]
  pointwise [val_main_v64, val_main_v60, val_main_v59]
  simp only [e1, e2, Fin.eta, grad_at Q K P G _ _ _ (hs _ _), k_at]

theorem dk_at (j : Fin 2048) (x : Fin 128) :
    val_main_v63 (F := Ideal) Q K P G (ix2 j x) = ∑ h, ∑ n, gs Q K P G h n j * pq Q h n x := by
  pointwise [val_main_v63, val_main_v62, val_main_v61, val_main_v58, val_main_v57, val_main_cst_7]
  simp only [grad_at Q K P G _ _ _ (hs _ _)]
  rfl

theorem dv_at (b : Fin 2) (j : Fin 2048) (i : Fin 64) :
    val_main_v44 (F := Ideal) Q K G (ix2 j (hc b i))
      = ∑ g : Fin 4, ∑ n, gr G ⟨4 * b.val + g.val, by omega⟩ n i * prob (sc Q K ⟨4 * b.val + g.val, by omega⟩ n) j := by
  pointwise [val_main_v44, val_main_v43, val_main_v42, val_main_v41, val_main_v40, val_main_v39, val_main_cst_4]
  simp only [prob_at Q K _ _ _ (hs _ _), g_at]
  refine Finset.sum_congr rfl fun g _ => Finset.sum_congr rfl fun n _ => ?_
  exact congrArg₂ (fun h i => gr G h n i * prob (sc Q K h n) j) (Fin.ext (by show (64 * b.val + i.val) / 64 * 4 + g.val = 4 * b.val + g.val; omega))
    (Fin.ext (by show (64 * b.val + i.val) % 64 = i.val; omega))

end Results

end Cert.AttnBwdRefIdeal.Hand

end
-- ==== Proof.AttnLog.lean ====
/- The saved logarithm of a row, as the row's largest score and the logarithm of the sum of its exponentials. -/
module

public import proofs.«01_k».proof.Proof.AttnHost
public import proofs.«01_k».proof.Proof.AttnRef

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.Softmax
open Cert.AttnBwdRefIdeal.Hand

theorem lseOf_eq (Q : S2048x512.Idx → EReal) (K : S2048x128.Idx → EReal) : lseOf (Cert.AttnBwdRefIdeal.Read.val_main_v15 (F := Ideal) Q K)
    = addf (Cert.AttnBwdRefIdeal.Read.val_main_v17 (F := Ideal) Q K) (Host.log (Cert.AttnBwdRefIdeal.Read.val_main_v22 (F := Ideal) Q K)) := by
  unfold lseOf Cert.AttnBwdRefIdeal.Read.val_main_v22 Cert.AttnBwdRefIdeal.Read.val_main_v21 Cert.AttnBwdRefIdeal.Read.val_main_v20 Cert.AttnBwdRefIdeal.Read.val_main_v19 Cert.AttnBwdRefIdeal.Read.val_main_v18 Cert.AttnBwdRefIdeal.Read.val_main_v17 Cert.AttnBwdRefIdeal.Read.val_main_v16
    Cert.AttnBwdRefIdeal.Read.val_main_cst_1 Cert.AttnBwdRefIdeal.Read.val_main_cst_2
  generalize Cert.AttnBwdRefIdeal.Read.val_main_v15 (F := Ideal) Q K = s
  rfl

theorem lRow_add (A B : FVec Ideal S8x2048x1 .f32) (h : Fin 8) (n : Fin 2048) :
    lRow (addf A (Host.log B)) h n = A (ix3 h n 0) + Ideal.log (B (ix3 h n 0)) := rfl

theorem max_at (Q : S2048x512.Idx → EReal) (K : S2048x128.Idx → EReal) (h : Fin 8) (n : Fin 2048) :
    Cert.AttnBwdRefIdeal.Read.val_main_v17 (F := Ideal) Q K (ix3 h n 0) = peak (sc Q K h n) := by
  pointwise [Cert.AttnBwdRefIdeal.Read.val_main_v17]
  exact peak_at Q K h n

theorem lRow_lse (Q : S2048x512.Idx → EReal) (K : S2048x128.Idx → EReal) (h : Fin 8) (n : Fin 2048) :
    lRow (lseOf (Cert.AttnBwdRefIdeal.Read.val_main_v15 (F := Ideal) Q K)) h n = peak (sc Q K h n) + Ideal.log (total (sc Q K h n)) := by
  rw [lseOf_eq, lRow_add, max_at, total_at]

end Cert.AttnBwdIdeal.Hand

end
-- ==== Proof.AttnRows.lean ====
/- The blocks that the self attention's gradient reads at a grid point, as rows of the whole arrays. -/
module

public import proofs.«01_k».proof.Proof.AttnOut
public import proofs.«01_k».proof.Proof.AttnHost
public import proofs.«01_k».proof.Proof.Blocks

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.Softmax Cert.Panels Cert.Blocks
open Idealize.ShloMosaic.Pipeline (Dat)

variable (m : (ℓ : Loc nD τ sig) → Buf (Elt Ideal) ℓ) (c : Dev nD)

/-- The padded queries, as the region finds them. -/
abbrev arrQ : S2048x1024.Idx → EReal := V m c main_v45
/-- The values: their columns of the array they are packed in. -/
def arrV : S2048x128.Idx → EReal := fun y => argP m c (ix2 (n0 := 2048) (n1 := 3328) (y 0) ⟨640 + (y 1).val, by have h : (y 1).val < 128 := (y 1).isLt; omega⟩)
/-- The gradient of the attention's result: the first half of the array it is packed in. -/
def arrG : S2048x512.Idx → EReal := fun y => argG m c (ix2 (n0 := 2048) (n1 := 1024) (y 0) ⟨(y 1).val, by have h : (y 1).val < 512 := (y 1).isLt; omega⟩)
/-- The saved result. -/
abbrev arrO : S2048x512.Idx → EReal := V m c main_v43
/-- The saved logarithms. -/
abbrev arrL : S8x2048x1.Idx → EReal := V m c main_v24

/-- Row `r` of grid point `t`'s block. -/
abbrev brow (t : Fin cfg0.N) (r : Fin 256) : Fin 2048 := row (a := 8) (b := 256) rfl (t.cast N_0) r

theorem lt8 {n : ℕ} (h : n < 8) : n < cfg0.N := lt_of_lt_of_eq h N_0.symm

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 5 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index5 : ∀ t : Fin grid0.N, win0_5.index t 0 = 0 ∧ win0_5.index t 1 = t.val ∧ win0_5.index t 2 = 0 := by decide +kernel

theorem emb0 (t : Fin cfg0.N) (r : Fin 256) (x : Fin 1024) : (win0_0.rect t).emb (ix2 r x) = ix2 (n0 := 2048) (n1 := 1024) (brow t r) x := by
  funext a
  apply Fin.ext
  refine (win0_0.rect_emb_val t (ix2 r x) a).trans ?_
  fin_cases a
  · show win0_0.index t 0 * 256 + r.val = 256 * t.val + r.val
    rw [(index0 t).1]; omega
  · show win0_0.index t 1 * 1024 + x.val = x.val
    rw [(index0 t).2]; omega

theorem emb1 (t : Fin cfg0.N) (j : Fin 2048) (x : Fin 128) : (win0_1.rect t).emb (ix2 j x) = ix2 (n0 := 2048) (n1 := 128) j x := by
  funext a
  apply Fin.ext
  refine (win0_1.rect_emb_val t (ix2 j x) a).trans ?_
  fin_cases a
  · show win0_1.index t 0 * 2048 + j.val = j.val
    rw [(index1 t).1]; omega
  · show win0_1.index t 1 * 128 + x.val = x.val
    rw [(index1 t).2]; omega

theorem emb2 (t : Fin cfg0.N) (j : Fin 2048) (x : Fin 128) : (win0_2.rect t).emb (ix2 j x) = ix2 (n0 := 2048) (n1 := 3328) j ⟨640 + x.val, by omega⟩ := by
  funext a
  apply Fin.ext
  refine (win0_2.rect_emb_val t (ix2 j x) a).trans ?_
  fin_cases a
  · show win0_2.index t 0 * 2048 + j.val = j.val
    rw [(index2 t).1]; omega
  · show win0_2.index t 1 * 128 + x.val = 640 + x.val
    rw [(index2 t).2]

theorem emb3 (t : Fin cfg0.N) (r : Fin 256) (x : Fin 512) : (win0_3.rect t).emb (ix2 r x) = ix2 (n0 := 2048) (n1 := 1024) (brow t r) ⟨x.val, by omega⟩ := by
  funext a
  apply Fin.ext
  refine (win0_3.rect_emb_val t (ix2 r x) a).trans ?_
  fin_cases a
  · show win0_3.index t 0 * 256 + r.val = 256 * t.val + r.val
    rw [(index3 t).1]; omega
  · show win0_3.index t 1 * 512 + x.val = x.val
    rw [(index3 t).2]; omega

theorem emb4 (t : Fin cfg0.N) (r : Fin 256) (x : Fin 512) : (win0_4.rect t).emb (ix2 r x) = ix2 (n0 := 2048) (n1 := 512) (brow t r) x := by
  funext a
  apply Fin.ext
  refine (win0_4.rect_emb_val t (ix2 r x) a).trans ?_
  fin_cases a
  · show win0_4.index t 0 * 256 + r.val = 256 * t.val + r.val
    rw [(index4 t).1]; omega
  · show win0_4.index t 1 * 512 + x.val = x.val
    rw [(index4 t).2]; omega

theorem emb6 (t : Fin cfg0.N) (r : Fin 256) (x : Fin 1024) : (win0_6.rect t).emb (ix2 r x) = ix2 (n0 := 2048) (n1 := 1024) (brow t r) x := by
  funext a
  apply Fin.ext
  refine (win0_6.rect_emb_val t (ix2 r x) a).trans ?_
  fin_cases a
  · show win0_6.index t 0 * 256 + r.val = 256 * t.val + r.val
    rw [(index6 t).1]; omega
  · show win0_6.index t 1 * 1024 + x.val = x.val
    rw [(index6 t).2]; omega

theorem emb7 (t : Fin cfg0.N) (y : S2048x128.Idx) : (win0_7.rect t).emb y = y := by
  funext a
  apply Fin.ext
  refine (win0_7.rect_emb_val t y a).trans ?_
  fin_cases a
  · show win0_7.index t 0 * 2048 + (y 0).val = (y 0).val
    rw [(index7 t).1]; omega
  · show win0_7.index t 1 * 128 + (y 1).val = (y 1).val
    rw [(index7 t).2]; omega

theorem emb8 (t : Fin cfg0.N) (y : S2048x128.Idx) : (win0_8.rect t).emb y = y := by
  funext a
  apply Fin.ext
  refine (win0_8.rect_emb_val t y a).trans ?_
  fin_cases a
  · show win0_8.index t 0 * 2048 + (y 0).val = (y 0).val
    rw [(index8 t).1]; omega
  · show win0_8.index t 1 * 128 + (y 1).val = (y 1).val
    rw [(index8 t).2]; omega

theorem emb5 (t : Fin cfg0.N) (h : Fin 8) (r : Fin 256) (z : Fin 1) : (win0_5.rect t).emb (ix3 h r z) = ix3 (n0 := 8) (n1 := 2048) (n2 := 1) h (brow t r) z := by
  funext a
  apply Fin.ext
  refine (win0_5.rect_emb_val t (ix3 h r z) a).trans ?_
  fin_cases a
  · show win0_5.index t 0 * 8 + h.val = h.val
    rw [(index5 t).1]; omega
  · show win0_5.index t 1 * 256 + r.val = 256 * t.val + r.val
    rw [(index5 t).2.1]; omega
  · show win0_5.index t 2 * 1 + z.val = z.val
    rw [(index5 t).2.2]; omega

/-! ## The blocks the body reads -/

/-- The point's block of the padded queries. -/
def blk0 (t : Fin cfg0.N) : Vec Ideal S256x1024 .bf16 := iblk m c 0 t
/-- The keys, as the point reads them. -/
def blk1 (t : Fin cfg0.N) : Vec Ideal S2048x128 .bf16 := iblk m c 1 t
/-- The values, as the point reads them. -/
def blk2 (t : Fin cfg0.N) : Vec Ideal S2048x128 .bf16 := iblk m c 2 t
/-- The point's block of the result's gradient. -/
def blk3 (t : Fin cfg0.N) : Vec Ideal S256x512 .bf16 := iblk m c 3 t
/-- The point's block of the saved result. -/
def blk4 (t : Fin cfg0.N) : Vec Ideal S256x512 .f32 := iblk m c 4 t
/-- The point's block of the saved logarithms. -/
def blk5 (t : Fin cfg0.N) : Vec Ideal S8x256x1 .f32 := iblk m c 5 t

theorem qRow_blk (t : Fin cfg0.N) (h : Fin 8) (r : Fin 256) : qRow (blk0 m c t) h r = qRow (arrQ m c) h (brow t r) := by
  funext x
  show V m c main_v45 ((win0_0.rect t).emb (ix2 r (qcol h x))) = _
  rw [emb0]
  rfl

theorem mat_blk1 (t : Fin cfg0.N) : mat (blk1 m c t) = mat (argK m c) := by
  funext j x
  show V m c main_arg1 ((win0_1.rect t).emb (ix2 j x)) = _
  rw [emb1, V_main_arg1]
  rfl

theorem mat_blk2 (t : Fin cfg0.N) : mat (blk2 m c t) = mat (arrV m c) := by
  funext j x
  show V m c main_arg2 ((win0_2.rect t).emb (ix2 j x)) = _
  rw [emb2, V_main_arg2]
  rfl

theorem gRow_blk3 (t : Fin cfg0.N) (p : Fin 4) (r : Fin 256) : gRow (blk3 m c t) p r = gRow (arrG m c) p (brow t r) := by
  funext x
  show V m c main_arg3 ((win0_3.rect t).emb (ix2 r (pcol p x))) = _
  rw [emb3, V_main_arg3]
  rfl

theorem gRow_blk4 (t : Fin cfg0.N) (p : Fin 4) (r : Fin 256) : gRow (blk4 m c t) p r = gRow (arrO m c) p (brow t r) := by
  funext x
  show V m c main_v43 ((win0_4.rect t).emb (ix2 r (pcol p x))) = _
  rw [emb4]
  rfl

end Cert.AttnBwdIdeal.Hand

end
-- ==== Proof.AttnLse.lean ====
/- The block of saved logarithms that the self attention's gradient reads at a grid point, as entries of the whole array. -/
module

public import proofs.«01_k».proof.Proof.AttnRows

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.Softmax Cert.Panels Cert.Blocks

variable (m : (ℓ : Loc nD τ sig) → Buf (Elt Ideal) ℓ) (c : Dev nD)

/-- A block of an array shaped as the logarithms are holds the rows of its grid point. -/
theorem read5 (X : S8x2048x1.Idx → EReal) (t : Fin cfg0.N) (h : Fin 8) (r : Fin 256) (z : Fin 1) :
    ((cfg0.win 5).blk t).view.read (Elt Ideal) X (ix3 h r z) = X (ix3 h (brow t r) z) :=
  congrArg X (emb5 t h r z)

theorem lRow_blk (t : Fin cfg0.N) (h : Fin 8) (r : Fin 256) : lRow (blk5 m c t) h r = lRow (arrL m c) h (brow t r) :=
  read5 (V m c main_v24) t h r 0

end Cert.AttnBwdIdeal.Hand

end
-- ==== Proof.AttnArray.lean ====
/- What the self attention's gradient leaves in its three result arrays, from the grid points' blocks: the queries'
   gradient row by row, and the keys' and the values' gradients summed over all rows. -/
module

public import proofs.«01_k».proof.Proof.AttnLse

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Cert.Softmax Cert.Panels Cert.Blocks
open Idealize.ShloMosaic.Pipeline (Dat)

variable (m : (ℓ : Loc nD τ sig) → Buf (Elt Ideal) ℓ) (c : Dev nD)

theorem half_blk (t : Fin cfg0.N) (h : Fin 8) (r : Fin 256) : halfOf (gRow (blk3 m c t)) h r = halfOf (gRow (arrG m c)) h (brow t r) := by
  unfold halfOf
  rw [gRow_blk3]

theorem inner_blk (t : Fin cfg0.N) (h : Fin 8) (r : Fin 256) :
    inner (gRow (blk3 m c t)) (gRow (blk4 m c t)) h r = inner (gRow (arrG m c)) (gRow (arrO m c)) h (brow t r) := by
  unfold inner
  rw [gRow_blk3, gRow_blk4]

theorem dsS_blk (t : Fin cfg0.N) (h : Fin 8) (r : Fin 256) (j : Fin 2048) :
    dsS (blk0 m c t) (blk1 m c t) (blk2 m c t) (blk3 m c t) (blk4 m c t) (blk5 m c t) h r j
      = dsS (arrQ m c) (argK m c) (arrV m c) (arrG m c) (arrO m c) (arrL m c) h (brow t r) j := by
  unfold dsS
  rw [qRow_blk, mat_blk1, mat_blk2, lRow_blk, inner_blk, half_blk]

theorem dqS_blk (t : Fin cfg0.N) (h : Fin 8) (r : Fin 256) (x : Fin 128) :
    dqS (blk0 m c t) (blk1 m c t) (blk2 m c t) (blk3 m c t) (blk4 m c t) (blk5 m c t) h r x
      = dqS (arrQ m c) (argK m c) (arrV m c) (arrG m c) (arrO m c) (arrL m c) h (brow t r) x := by
  unfold dqS
  rw [mat_blk1]
  simp only [dsS_blk]

theorem dkS_blk (t : Fin cfg0.N) (j : Fin 2048) (x : Fin 128) (h : Fin 8) (r : Fin 256) :
    dkS (blk0 m c t) (blk1 m c t) (blk2 m c t) (blk3 m c t) (blk4 m c t) (blk5 m c t) j x h r
      = dkS (arrQ m c) (argK m c) (arrV m c) (arrG m c) (arrO m c) (arrL m c) j x h (brow t r) := by
  unfold dkS
  rw [qRow_blk, dsS_blk]

theorem dvS_blk (t : Fin cfg0.N) (j : Fin 2048) (x : Fin 128) (h : Fin 8) (r : Fin 256) :
    dvS (blk0 m c t) (blk1 m c t) (blk3 m c t) (blk5 m c t) j x h r
      = dvS (arrQ m c) (argK m c) (arrG m c) (arrL m c) j x h (brow t r) := by
  unfold dvS
  rw [qRow_blk, mat_blk1, lRow_blk, half_blk]

theorem real_blk (hr : ∀ p n x, IsReal (gRow (arrG m c) p n x * gRow (arrO m c) p n x)) (t : Fin cfg0.N) (p : Fin 4) (r : Fin 256) (x : Fin 128) :
    IsReal (gRow (blk3 m c t) p r x * gRow (blk4 m c t) p r x) := by
  rw [gRow_blk3, gRow_blk4]
  exact hr ..

/-! ## What a point leaves, by the case that runs there -/

theorem outs_A (t : Fin cfg0.N) (h0 : t.val % 8 = 0) : outsAt0 m c t.val t.isLt =
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 m c t) (blk1 m c t) (blk2 m c t) (blk3 m c t) (blk4 m c t) (blk5 m c t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 m c t) (blk1 m c t) (blk2 m c t) (blk3 m c t) (blk4 m c t) (blk5 m c t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (blk0 m c t) (blk1 m c t) (blk2 m c t) (blk3 m c t) (blk4 m c t) (blk5 m c t)) :=
  outsAt0_A m c t h0

theorem outs_B (t : Fin cfg0.N) (h0 : ¬t.val % 8 = 0) : outsAt0 m c t.val t.isLt =
    (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 m c t) (blk1 m c t) (blk2 m c t) (blk3 m c t) (blk4 m c t) (blk5 m c t) (outsAt0 m c (t.val - 1) (Nat.lt_of_le_of_lt (Nat.sub_le _ _) t.isLt)).2.1 (outsAt0 m c (t.val - 1) (Nat.lt_of_le_of_lt (Nat.sub_le _ _) t.isLt)).2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 m c t) (blk1 m c t) (blk2 m c t) (blk3 m c t) (blk4 m c t) (blk5 m c t) (outsAt0 m c (t.val - 1) (Nat.lt_of_le_of_lt (Nat.sub_le _ _) t.isLt)).2.1 (outsAt0 m c (t.val - 1) (Nat.lt_of_le_of_lt (Nat.sub_le _ _) t.isLt)).2.2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (blk0 m c t) (blk1 m c t) (blk2 m c t) (blk3 m c t) (blk4 m c t) (blk5 m c t) (outsAt0 m c (t.val - 1) (Nat.lt_of_le_of_lt (Nat.sub_le _ _) t.isLt)).2.1 (outsAt0 m c (t.val - 1) (Nat.lt_of_le_of_lt (Nat.sub_le _ _) t.isLt)).2.2) :=
  outsAt0_B m c t h0

section Final
variable (hr : ∀ p n x, IsReal (gRow (arrG m c) p n x * gRow (arrO m c) p n x))

/-! ## The queries' gradient -/

include hr in
theorem outs_dq (t : Fin cfg0.N) (h : Fin 8) (r : Fin 256) (x : Fin 128) :
    (outsAt0 m c t.val t.isLt).1 (ix2 r (qcol h x))
      = dqS (arrQ m c) (argK m c) (arrV m c) (arrG m c) (arrO m c) (arrL m c) h (brow t r) x := by
  rw [← dqS_blk]
  by_cases h0 : t.val % 8 = 0
  · rw [outs_A m c t h0]; dsimp only; exact dq_A (hr := real_blk m c hr t) ..
  · rw [outs_B m c t h0]; dsimp only; exact dq_B (hr := real_blk m c hr t) ..

include hr in
/-- The queries' gradient after the run. -/
theorem final_dq (h : Fin 8) (n : Fin 2048) (x : Fin 128) :
    (dats m 0 c).arrAt 6 cfg0.N (ix2 n (qcol h x))
      = dqS (arrQ m c) (argK m c) (arrV m c) (arrG m c) (arrO m c) (arrL m c) h n x := by
  obtain ⟨t, r, rfl⟩ := exists_row (a := 8) (b := 256) (N := 2048) rfl (by decide) n
  have hb := congrFun (Value.blocks6 m c (t.cast N_0.symm) (flush0_6 _)) (ix2 r (qcol h x))
  rw [Value.flushed6] at hb
  have he := emb6 (t.cast N_0.symm) r (qcol h x)
  refine Eq.trans ?_ (hb.trans (outs_dq m c hr (t.cast N_0.symm) h r x))
  exact congrArg ((dats m 0 c).arrAt 6 cfg0.N) he.symm

/-! ## The keys' and the values' gradients -/

/-- The last point's contents of an accumulator, from what each point adds. -/
theorem total_of {β : Type} [AddCommMonoid β] (o : ∀ n, n < cfg0.N → β) (K : Fin cfg0.N → β)
    (hA : ∀ (t : Fin cfg0.N), t.val % 8 = 0 → o t.val t.isLt = K t)
    (hB : ∀ (t : Fin cfg0.N), ¬t.val % 8 = 0 → o t.val t.isLt
      = o (t.val - 1) (Nat.lt_of_le_of_lt (Nat.sub_le _ _) t.isLt) + K t) :
    o 7 (lt8 (by decide)) = ∑ t : Fin 8, K (t.cast N_0.symm) := by
  have h0 := hA ⟨0, lt8 (by decide)⟩ rfl
  have h1 := hB ⟨1, lt8 (by decide)⟩ (by decide)
  have h2 := hB ⟨2, lt8 (by decide)⟩ (by decide)
  have h3 := hB ⟨3, lt8 (by decide)⟩ (by decide)
  have h4 := hB ⟨4, lt8 (by decide)⟩ (by decide)
  have h5 := hB ⟨5, lt8 (by decide)⟩ (by decide)
  have h6 := hB ⟨6, lt8 (by decide)⟩ (by decide)
  have h7 := hB ⟨7, lt8 (by decide)⟩ (by decide)
  dsimp only [Nat.add_one_sub_one, Nat.reduceSub] at h0 h1 h2 h3 h4 h5 h6 h7
  rw [Fin.sum_univ_eight, h7, h6, h5, h4, h3, h2, h1, h0]
  rfl

/-- The points' sums over their rows, one head after another, are the sums over all rows. -/
theorem sum_heads (f : Fin 8 → Fin 2048 → EReal) :
    ∑ t : Fin 8, ∑ h : Fin 8, ∑ r : Fin 256, f h (brow (t.cast N_0.symm) r) = ∑ h : Fin 8, ∑ n, f h n := by
  rw [Finset.sum_comm]
  exact Finset.sum_congr rfl fun h _ => (sum_rows (a := 8) (b := 256) rfl (f h)).symm

theorem cover7 (i : main_v46_1.ty.Idx) : ∃ t : Fin cfg0.N, (cfg0.win 7).flush t = true ∧ i ∈ ((cfg0.win 7).blk t).view.set := by
  refine ⟨⟨7, lt8 (by decide)⟩, (flush0_7 _).mpr rfl, ?_⟩
  have h := ((cfg0.win 7).blk ⟨7, lt8 (by decide)⟩).view.emb_mem_set i
  exact (emb7 ⟨7, lt8 (by decide)⟩ i) ▸ h

theorem final_block7 (y : S2048x128.Idx) :
    (dats m 0 c).arrAt 7 cfg0.N y = (outsAt0 m c 7 (lt8 (by decide))).2.1 y := by
  have hN : cfg0.N = 8 := N_0
  refine congrFun ((dats m 0 c).arrAt_eq_of_cover 7 (outsAt0 m c 7 (lt8 (by decide))).2.1 (fun t hf => ?_) fun i => cover7 i) y
  have h7 : t.val = 7 := by have := (flush0_7 t).mp hf; have := t.isLt; omega
  obtain rfl : t = ⟨7, lt8 (by decide)⟩ := Fin.ext h7
  rw [Value.flushed7]
  funext z
  exact (congrArg (outsAt0 m c 7 (lt8 (by decide))).2.1 (emb7 ⟨7, lt8 (by decide)⟩ z)).symm

theorem cover8 (i : main_v46_2.ty.Idx) : ∃ t : Fin cfg0.N, (cfg0.win 8).flush t = true ∧ i ∈ ((cfg0.win 8).blk t).view.set := by
  refine ⟨⟨7, lt8 (by decide)⟩, (flush0_8 _).mpr rfl, ?_⟩
  have h := ((cfg0.win 8).blk ⟨7, lt8 (by decide)⟩).view.emb_mem_set i
  exact (emb8 ⟨7, lt8 (by decide)⟩ i) ▸ h

theorem final_block8 (y : S2048x128.Idx) :
    (dats m 0 c).arrAt 8 cfg0.N y = (outsAt0 m c 7 (lt8 (by decide))).2.2 y := by
  have hN : cfg0.N = 8 := N_0
  refine congrFun ((dats m 0 c).arrAt_eq_of_cover 8 (outsAt0 m c 7 (lt8 (by decide))).2.2 (fun t hf => ?_) fun i => cover8 i) y
  have h7 : t.val = 7 := by have := (flush0_8 t).mp hf; have := t.isLt; omega
  obtain rfl : t = ⟨7, lt8 (by decide)⟩ := Fin.ext h7
  rw [Value.flushed8]
  funext z
  exact (congrArg (outsAt0 m c 7 (lt8 (by decide))).2.2 (emb8 ⟨7, lt8 (by decide)⟩ z)).symm

include hr in
/-- The keys' gradient after the run. -/
theorem final_dk (j : Fin 2048) (x : Fin 128) :
    (dats m 0 c).arrAt 7 cfg0.N (ix2 j x) = ∑ h, ∑ n, dkS (arrQ m c) (argK m c) (arrV m c) (arrG m c) (arrO m c) (arrL m c) j x h n := by
  rw [final_block7, ← sum_heads]
  refine total_of (fun n hn => (outsAt0 m c n hn).2.1 (ix2 j x))
    (fun t => ∑ h, ∑ r, dkS (arrQ m c) (argK m c) (arrV m c) (arrG m c) (arrO m c) (arrL m c) j x h (brow t r)) (fun t h0 => ?_) fun t h0 => ?_
  · have e := Finset.sum_congr (s₁ := Finset.univ) rfl fun h _ => Finset.sum_congr (s₁ := Finset.univ) rfl fun r _ => dkS_blk m c t j x h r
    refine Eq.trans ?_ e
    show (outsAt0 m c t.val t.isLt).2.1 (ix2 j x) = _
    rw [outs_A m c t h0]; dsimp only; exact dk_A (hr := real_blk m c hr t) ..
  · have e := Finset.sum_congr (s₁ := Finset.univ) rfl fun h _ => Finset.sum_congr (s₁ := Finset.univ) rfl fun r _ => dkS_blk m c t j x h r
    refine Eq.trans ?_ (congrArg ((outsAt0 m c (t.val - 1) (Nat.lt_of_le_of_lt (Nat.sub_le _ _) t.isLt)).2.1 (ix2 j x) + ·) e)
    show (outsAt0 m c t.val t.isLt).2.1 (ix2 j x) = _
    rw [outs_B m c t h0]; dsimp only; exact dk_B (hr := real_blk m c hr t) ..

/-- The values' gradient after the run. -/
theorem final_dv (j : Fin 2048) (x : Fin 128) :
    (dats m 0 c).arrAt 8 cfg0.N (ix2 j x) = ∑ h, ∑ n, dvS (arrQ m c) (argK m c) (arrG m c) (arrL m c) j x h n := by
  rw [final_block8, ← sum_heads]
  refine total_of (fun n hn => (outsAt0 m c n hn).2.2 (ix2 j x))
    (fun t => ∑ h, ∑ r, dvS (arrQ m c) (argK m c) (arrG m c) (arrL m c) j x h (brow t r)) (fun t h0 => ?_) fun t h0 => ?_
  · have e := Finset.sum_congr (s₁ := Finset.univ) rfl fun h _ => Finset.sum_congr (s₁ := Finset.univ) rfl fun r _ => dvS_blk m c t j x h r
    refine Eq.trans ?_ e
    show (outsAt0 m c t.val t.isLt).2.2 (ix2 j x) = _
    rw [outs_A m c t h0]; dsimp only; exact dv_A ..
  · have e := Finset.sum_congr (s₁ := Finset.univ) rfl fun h _ => Finset.sum_congr (s₁ := Finset.univ) rfl fun r _ => dvS_blk m c t j x h r
    refine Eq.trans ?_ (congrArg ((outsAt0 m c (t.val - 1) (Nat.lt_of_le_of_lt (Nat.sub_le _ _) t.isLt)).2.2 (ix2 j x) + ·) e)
    show (outsAt0 m c t.val t.isLt).2.2 (ix2 j x) = _
    rw [outs_B m c t h0]; dsimp only; exact dv_B ..

end Final

end Cert.AttnBwdIdeal.Hand

end
-- ==== Proof.AttnMath.lean ====
/- The two facts that let the self attention's backward pass start from saved arrays: the exponential of a score less the
   saved logarithm is the softmax's probability, and the gradient's product with the saved result is the mean of the
   probabilities' gradient. -/
module

public import proofs.«01_k».proof.Proof.AttnBlock

@[expose] public section

noncomputable section

namespace Cert.AttnBwdIdeal.Hand

open Idealize.ShloMosaic Cert.Softmax

/-- The exponential of a score less the peak and the logarithm of the sum is the probability. -/
theorem exp_sub_log {n : ℕ} {s : Fin n → EReal} (hs : ∀ j, IsReal (s j)) (j : Fin n) :
    Ideal.exp (s j - (peak s + Ideal.log (total s))) = prob s j := by
  have hn : 0 < n := lt_of_le_of_lt (Nat.zero_le _) j.isLt
  obtain ⟨E, L, hE, hL, hw, ht⟩ := weights_real hs hn
  obtain ⟨p, hp⟩ := peak_real hs hn
  obtain ⟨a, ha⟩ := hs j
  have hlog : Ideal.log (L : EReal) = (Real.log L : EReal) := if_neg (not_le.mpr hL)
  have hE' : E j = Real.exp (a - p) := by
    have h := hw j
    rw [weight, ha, hp, ← EReal.coe_sub, Ideal.exp_coe] at h
    exact (EReal.coe_eq_coe_iff.mp h).symm
  rw [prob, hw, ht, Ideal.div_coe hL.ne', one_mul, ← EReal.coe_mul, hlog, ha, hp, ← EReal.coe_add, ← EReal.coe_sub,
    Ideal.exp_coe, hE']
  congr 1
  rw [← sub_sub, Real.exp_sub, Real.exp_log hL, div_eq_mul_one_div]

/-- A probability is a real number. -/
theorem prob_real {n : ℕ} {s : Fin n → EReal} (hs : ∀ j, IsReal (s j)) (j : Fin n) : IsReal (prob s j) := by
  obtain ⟨E, L, hE, hL, hw, ht⟩ := weights_real hs (lt_of_le_of_lt (Nat.zero_le _) j.isLt)
  rw [prob, hw, ht, Ideal.div_coe hL.ne', one_mul, ← EReal.coe_mul]
  exact IsReal.coe _

/-- The product of a gradient with a weighted sum of rows is the weighted sum of its products with the rows. -/
theorem sum_swap {ι κ : Type} [Fintype ι] [Fintype κ] {g : ι → EReal} {p : κ → EReal} {v : κ → ι → EReal}
    (hg : ∀ i, IsReal (g i)) (hp : ∀ j, IsReal (p j)) (hv : ∀ j i, IsReal (v j i)) :
    ∑ i, g i * ∑ j, v j i * p j = ∑ j, p j * ∑ i, g i * v j i := by
  choose g' hg' using hg
  choose p' hp' using hp
  choose v' hv' using hv
  simp only [hg', hp', hv', ← EReal.coe_mul, ← coe_sum]
  congr 1
  simp only [Finset.mul_sum]
  rw [Finset.sum_comm]
  exact Finset.sum_congr rfl fun j _ => Finset.sum_congr rfl fun i _ => by ring

/-- A product with a row that is one half of another is the product with that half. -/
theorem sum_half (b : Fin 2) (t : Bool) (ht : t = decide (b = 1)) (G : Fin 64 → EReal) (V : Fin 128 → EReal) :
    ∑ x, half t G x * V x = ∑ i, G i * V (hc b i) := by
  subst ht
  have lo : ∀ t i, half t G (hc 0 i) = if t then 0 else G i := fun t i => by
    have h : (hc 0 i).val < 64 := by show 64 * 0 + i.val < 64; omega
    unfold half
    rw [dif_pos h]
    exact congrArg (fun y => if t then 0 else G y) (Fin.ext (by show 64 * 0 + i.val = i.val; omega))
  have hi : ∀ t i, half t G (hc 1 i) = if t then G i else 0 := fun t i => by
    have h : ¬(hc 1 i).val < 64 := by show ¬64 * 1 + i.val < 64; omega
    unfold half
    rw [dif_neg h]
    exact congrArg (fun y => if t then G y else 0) (Fin.ext (by show 64 * 1 + i.val - 64 = i.val; omega))
  rw [sum_two]
  simp only [lo, hi]
  fin_cases b <;> simp

theorem half_at (b : Fin 2) (t : Bool) (G : Fin 64 → EReal) (i : Fin 64) :
    half t G (hc b i) = if t = decide (b = 1) then G i else 0 := by
  fin_cases b
  · have h : (hc 0 i).val < 64 := by show 64 * 0 + i.val < 64; omega
    show half t G (hc 0 i) = _
    unfold half
    rw [dif_pos h]
    have e : (⟨(hc 0 i).val, h⟩ : Fin 64) = i := Fin.ext (by show 64 * 0 + i.val = i.val; omega)
    rw [e]
    cases t <;> simp
  · have h : ¬(hc 1 i).val < 64 := by show ¬64 * 1 + i.val < 64; omega
    show half t G (hc 1 i) = _
    unfold half
    rw [dif_neg h]
    have e : (⟨(hc 1 i).val - 64, by have := (hc 1 i).isLt; omega⟩ : Fin 64) = i := Fin.ext (by show 64 * 1 + i.val - 64 = i.val; omega)
    rw [e]
    cases t <;> simp

/-- A sum over the heads that see one head of values. -/
theorem sum_group (b : Fin 2) (f : Fin 8 → EReal) :
    (∑ h : Fin 8, if decide (4 ≤ h.val) = decide (b = 1) then f h else 0) = ∑ g : Fin 4, f ⟨4 * b.val + g.val, by omega⟩ := by
  rw [Fin.sum_univ_eight, Fin.sum_univ_four]
  fin_cases b <;> simp

end Cert.AttnBwdIdeal.Hand

end
-- ==== Proof.AttnSaved.lean ====
/- The saved arrays that the self attention's gradient starts from, in terms of the plain attention's scores and probabilities. -/
module

public import proofs.«01_k».proof.Proof.AttnLog
public import proofs.«01_k».proof.Proof.AttnArray
public import proofs.«01_k».proof.Proof.AttnMath

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.Softmax
open Cert.AttnBwdRefIdeal.Hand

/-! ## The columns -/

theorem exists_qcol (k : Fin 1024) : ∃ h x, k = qcol h x :=
  ⟨⟨k.val / 128, by omega⟩, ⟨k.val % 128, by omega⟩, Fin.ext (by simp [qcol]; omega)⟩

theorem exists_hc (x : Fin 128) : ∃ b i, x = hc b i :=
  ⟨⟨x.val / 64, by omega⟩, ⟨x.val % 64, by omega⟩, Fin.ext (by simp [hc]; omega)⟩

theorem exists_ocol (k : Fin 512) : ∃ h i, k = ocol h i :=
  ⟨⟨k.val / 64, by omega⟩, ⟨k.val % 64, by omega⟩, Fin.ext (by simp [ocol]; omega)⟩

theorem pcol_eq (h : Fin 8) (i : Fin 64) : pcol (pair h) (hc (side h) i) = ocol h i :=
  Fin.ext (by show 128 * (h.val / 2) + (64 * (h.val % 2) + i.val) = 64 * h.val + i.val; omega)

/-! ## The saved arrays -/

variable (m : (ℓ : Loc nD τ sig) → Buf (Elt Ideal) ℓ) (c : Dev nD)

theorem qRow_cast (Q : S2048x512.Idx → EReal) (h : Fin 8) (n : Fin 2048) :
    qRow (truncf (F := Ideal) .bf16 (shapeCast S2048x1024 (Cert.AttnBwdRefIdeal.Read.val_main_v11 (F := Ideal) Q) shapeCasts_S2048x8x128_S2048x1024) bitsLt_bf16_f32 : FVec Ideal S2048x1024 .bf16) h n = pq Q h n := by
  funext x
  have e1 : ((qcol h x).val / 128) = h.val := by simp [qcol]; omega
  have e2 : ((qcol h x).val % 128) = x.val := by simp [qcol]
  unfold qRow pq
  pointwise []
  simp only [e1, e2, Fin.eta]

theorem qRow_eq (h : Fin 8) (n : Fin 2048) : qRow (arrQ m c) h n = pq (argQ m c) h n :=
  (congrArg (fun X => qRow X h n) (V_q m c)).trans (qRow_cast (argQ m c) h n)

theorem lRow_eq (h : Fin 8) (n : Fin 2048) :
    lRow (arrL m c) h n = peak (sc (argQ m c) (argK m c) h n) + Ideal.log (total (sc (argQ m c) (argK m c) h n)) :=
  (congrArg (fun X => lRow X h n) (V_lse m c)).trans (lRow_lse (argQ m c) (argK m c) h n)

theorem gRow_ocol {N : ℕ} (X : (⟨2, ![N, 512]⟩ : Shape).Idx → EReal) (h : Fin 8) (n : Fin N) (i : Fin 64) :
    gRow X (pair h) n (hc (side h) i) = X (ix2 n (ocol h i)) := congrArg (fun k => X (ix2 n k)) (pcol_eq h i)

theorem prod_gRow {N : ℕ} {X Y : (⟨2, ![N, 512]⟩ : Shape).Idx → EReal} {p : Fin 4} {n : Fin N} {x : Fin 128}
    (hX : IsReal (X (ix2 n (pcol p x)))) (hY : IsReal (Y (ix2 n (pcol p x)))) : IsReal (gRow X p n x * gRow Y p n x) := hX.mul hY

section Real
variable (hQ : ∀ y, IsReal (argQ m c y)) (hK : ∀ y, IsReal (argK m c y))
include hQ hK

theorem sc_real (h : Fin 8) (n j : Fin 2048) : IsReal (sc (argQ m c) (argK m c) h n j) :=
  IsReal.sum _ fun x _ => (pq_real _ hQ h n x).mul (hK _)

theorem prB_eq (h : Fin 8) (n j : Fin 2048) :
    prB (qRow (arrQ m c) h n) (mat (argK m c)) (lRow (arrL m c) h n) j = prob (sc (argQ m c) (argK m c) h n) j := by
  rw [qRow_eq, lRow_eq]
  exact exp_sub_log (sc_real m c hQ hK h n) j

theorem oRow_eq (h : Fin 8) (n : Fin 2048) (i : Fin 64) : arrO m c (ix2 n (ocol h i))
    = ∑ j, vals (argP m c) j (hc (kv h) i) * prob (sc (argQ m c) (argK m c) h n) j :=
  (congrFun (V_o m c) (ix2 n (ocol h i))).trans (o_at (argQ m c) (argK m c) (argP m c) h n i (sc_real m c hQ hK h n))

variable (hV : ∀ j x, IsReal (vals (argP m c) j x)) (hG : ∀ n (k : Fin 512), IsReal (arrG m c (ix2 n k)))
include hV

theorem o_real (n : Fin 2048) (k : Fin 512) : IsReal (arrO m c (ix2 n k)) := by
  obtain ⟨h, i, rfl⟩ := exists_ocol k
  rw [oRow_eq m c hQ hK]
  exact IsReal.sum _ fun j _ => (hV _ _).mul (prob_real (sc_real m c hQ hK h n) j)

include hG

theorem prod_real (p : Fin 4) (n : Fin 2048) (x : Fin 128) : IsReal (gRow (arrG m c) p n x * gRow (arrO m c) p n x) :=
  prod_gRow (hG _ _) (o_real m c hQ hK hV _ _)

omit hQ hK hV hG in
theorem gr_eq (h : Fin 8) (n : Fin 2048) (i : Fin 64) : gRow (arrG m c) (pair h) n (hc (side h) i) = gr (argG m c) h n i := by
  rw [gRow_ocol]
  rfl

theorem inner_eq (h : Fin 8) (n : Fin 2048) : inner (gRow (arrG m c)) (gRow (arrO m c)) h n
    = ∑ j, prob (sc (argQ m c) (argK m c) h n) j * dp (argP m c) (argG m c) h n j := by
  have e : ∀ i, gRow (arrO m c) (pair h) n (hc (side h) i) = ∑ j, vals (argP m c) j (hc (kv h) i) * prob (sc (argQ m c) (argK m c) h n) j := fun i =>
    (gRow_ocol (arrO m c) h n i).trans (oRow_eq m c hQ hK h n i)
  unfold inner
  simp only [gr_eq, e]
  refine sum_swap (fun i => ?_) (prob_real (sc_real m c hQ hK h n)) fun j i => hV _ _
  rw [← gr_eq]
  exact hG _ _

theorem halfSum_eq (h : Fin 8) (n j : Fin 2048) : ∑ x, halfOf (gRow (arrG m c)) h n x * mat (arrV m c) j x
    = dp (argP m c) (argG m c) h n j := by
  unfold halfOf
  refine (sum_half (kv h) _ ?_ _ _).trans ?_
  · have : kv h = 1 ↔ 4 ≤ h.val := by
      rw [Fin.ext_iff]
      show h.val / 4 = 1 ↔ _
      omega
    simp only [this]
  · simp only [gr_eq]
    rfl

theorem dsS_eq (h : Fin 8) (n j : Fin 2048) :
    dsS (arrQ m c) (argK m c) (arrV m c) (arrG m c) (arrO m c) (arrL m c) h n j = gs (argQ m c) (argK m c) (argP m c) (argG m c) h n j := by
  unfold dsS dsB gs
  rw [prB_eq m c hQ hK, inner_eq m c hQ hK hV hG, halfSum_eq m c hQ hK hV hG]

end Real

end Cert.AttnBwdIdeal.Hand

end
-- ==== Proof.AttnBwd.lean ====
/- The self attention's gradient: the kernel's run and the reference's run leave equal arrays. -/
module

public import proofs.«01_k».proof.Defs
public import proofs.«01_k».proof.Proof.Gen.Pre_finite_attn
public import proofs.«01_k».proof.Proof.Gen.AttnBwdRefIdeal.Run
public import proofs.«01_k».proof.Proof.AttnSaved
public import proofs.«01_k».proof.Proof.Finite

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.Softmax
open Cert.AttnBwdRefIdeal.Hand

/-! ## The precondition -/

section Pre
variable (Q : S2048x512.Idx → EReal) (K : S2048x128.Idx → EReal) (P : S2048x3328.Idx → EReal) (G : S2048x1024.Idx → EReal)
  (hpre : (Cert.Pre_finite_attn.fn (F := Ideal) Q K P G).1 = (fun _ => 1#1) ∧ (Cert.Pre_finite_attn.fn (F := Ideal) Q K P G).2.1 = (fun _ => 1#1)
    ∧ (Cert.Pre_finite_attn.fn (F := Ideal) Q K P G).2.2.1 = (fun _ => 1#1) ∧ (Cert.Pre_finite_attn.fn (F := Ideal) Q K P G).2.2.2 = (fun _ => 1#1))
include hpre

theorem q_real (y : S2048x512.Idx) : IsReal (Q y) := IsReal.of_abs_lt (congrFun hpre.1 y)

theorem k_real (y : S2048x128.Idx) : IsReal (K y) := IsReal.of_abs_lt (congrFun hpre.2.1 y)

theorem v_real (j : Fin 2048) (x : Fin 128) : IsReal (vals P j x) := by
  have h := congrFun hpre.2.2.1 (ix2 j x)
  refine IsReal.of_abs_lt (Eq.trans ?_ h)
  unfold Cert.Pre_finite_attn.fn
  pointwise []
  rfl

theorem g_real (n : Fin 2048) (k : Fin 512) : IsReal (G (ix2 n ⟨k.val, by omega⟩)) := by
  have h := congrFun hpre.2.2.2 (ix2 n k)
  refine IsReal.of_abs_lt (Eq.trans ?_ h)
  unfold Cert.Pre_finite_attn.fn
  pointwise []
  rfl

end Pre

/-! ## The results in terms of the scores' gradient and the probabilities -/

section Terms
variable {X0 : S2048x1024.Idx → EReal} {X1 X2 : S2048x128.Idx → EReal} {X3 X4 : S2048x512.Idx → EReal} {X5 : S8x2048x1.Idx → EReal}

theorem dqS_of (g : Fin 8 → Fin 2048 → Fin 2048 → EReal) (hg : ∀ h n j, dsS X0 X1 X2 X3 X4 X5 h n j = g h n j)
    (h : Fin 8) (n : Fin 2048) (x : Fin 128) : dqS X0 X1 X2 X3 X4 X5 h n x = ∑ j, g h n j * X1 (ix2 j x) := by
  unfold dqS
  simp only [hg]
  rfl

theorem dkS_of (g : Fin 8 → Fin 2048 → Fin 2048 → EReal) (q : Fin 8 → Fin 2048 → Fin 128 → EReal)
    (hg : ∀ h n j, dsS X0 X1 X2 X3 X4 X5 h n j = g h n j) (hq : ∀ h n, qRow X0 h n = q h n) (j : Fin 2048) (x : Fin 128) :
    ∑ h, ∑ n, dkS X0 X1 X2 X3 X4 X5 j x h n = ∑ h, ∑ n, g h n j * q h n x := by
  unfold dkS
  simp only [hg, hq]

theorem dvS_of (p : Fin 8 → Fin 2048 → Fin 2048 → EReal) (r : Fin 8 → Fin 2048 → Fin 64 → EReal)
    (hp : ∀ h n j, prB (qRow X0 h n) (mat X1) (lRow X5 h n) j = p h n j)
    (hg : ∀ h n i, gRow X3 (pair h) n (hc (side h) i) = r h n i) (b : Fin 2) (j : Fin 2048) (i : Fin 64) :
    ∑ h, ∑ n, dvS X0 X1 X3 X5 j (hc b i) h n
      = ∑ g : Fin 4, ∑ n, r ⟨4 * b.val + g.val, by omega⟩ n i * p ⟨4 * b.val + g.val, by omega⟩ n j := by
  refine Eq.trans (Finset.sum_congr rfl fun h _ => ?_) (sum_group b fun h => ∑ n, r h n i * p h n j)
  unfold dvS halfOf
  simp only [hp, half_at, hg]
  split
  · exact Finset.sum_congr rfl fun n _ => mul_comm _ _
  · exact Finset.sum_eq_zero fun n _ => mul_zero _

end Terms

/-! ## The results -/

variable (m : (ℓ : Loc nD τ sig) → Buf (Elt Ideal) ℓ) (c : Dev nD)

section Real
variable (hQ : ∀ y, IsReal (argQ m c y)) (hK : ∀ y, IsReal (argK m c y)) (hV : ∀ j x, IsReal (vals (argP m c) j x))
  (hG : ∀ n (k : Fin 512), IsReal (arrG m c (ix2 n k)))
include hQ hK hV hG

theorem first_eq : (dats m 0 c).arrAt 6 cfg0.N
    = Cert.AttnBwdRefIdeal.Read.val_main_v64 (F := Ideal) (argQ m c) (argK m c) (argP m c) (argG m c) := by
  funext y
  obtain ⟨n, k, rfl⟩ : ∃ a b, y = ix2 a b := ⟨y 0, y 1, eq_ix2 y⟩
  obtain ⟨h, x, rfl⟩ := exists_qcol k
  exact (final_dq m c (prod_real m c hQ hK hV hG) h n x).trans ((dqS_of _ (dsS_eq m c hQ hK hV hG) h n x).trans
    (dq_at _ _ _ _ (sc_real m c hQ hK) h n x).symm)

theorem second_eq : (dats m 0 c).arrAt 7 cfg0.N
    = Cert.AttnBwdRefIdeal.Read.val_main_v63 (F := Ideal) (argQ m c) (argK m c) (argP m c) (argG m c) := by
  funext y
  obtain ⟨j, x, rfl⟩ : ∃ a b, y = ix2 a b := ⟨y 0, y 1, eq_ix2 y⟩
  exact (final_dk m c (prod_real m c hQ hK hV hG) j x).trans ((dkS_of _ _ (dsS_eq m c hQ hK hV hG) (qRow_eq m c) j x).trans
    (dk_at _ _ _ _ (sc_real m c hQ hK) j x).symm)

omit hV hG in
theorem third_eq : (dats m 0 c).arrAt 8 cfg0.N
    = Cert.AttnBwdRefIdeal.Read.val_main_v44 (F := Ideal) (argQ m c) (argK m c) (argG m c) := by
  funext y
  obtain ⟨j, x, rfl⟩ : ∃ a b, y = ix2 a b := ⟨y 0, y 1, eq_ix2 y⟩
  obtain ⟨b, i, rfl⟩ := exists_hc x
  exact (final_dv m c j _).trans ((dvS_of _ _ (prB_eq m c hQ hK) (gr_eq m c) b j i).trans
    (dv_at _ _ _ (sc_real m c hQ hK) b j i).symm)

end Real

/-! ## The claim -/

theorem algebraic : Cert.algebraic_AttnBwdIdeal_AttnBwdRefIdeal_pre_finite_attn := by
  intro m g m' g' hpre hagree
  have hQ : ∀ c y, IsReal (argQ m c y) := fun c => q_real _ _ _ _ (hpre c)
  have hK : ∀ c y, IsReal (argK m c y) := fun c => k_real _ _ _ _ (hpre c)
  have hV : ∀ c j x, IsReal (vals (argP m c) j x) := fun c => v_real _ _ _ _ (hpre c)
  have hG : ∀ c n (k : Fin 512), IsReal (arrG m c (ix2 n k)) := fun c => g_real _ _ _ _ (hpre c)
  refine ⟨fun c => (dats m 0 c).arrAt 6 cfg0.N, fun c => (dats m 0 c).arrAt 7 cfg0.N, fun c => (dats m 0 c).arrAt 8 cfg0.N, Value.run_blocks m g, ?_⟩
  refine (θ_run _ _ _).mono (fun r h c => ?_) (Cert.AttnBwdRefIdeal.Value.run (F := Ideal) m' g')
  obtain ⟨e0, e1, e2, ea⟩ := h c
  obtain ⟨a0, a1, a2, a3⟩ := hagree c
  refine ⟨e0.trans ?_, e1.trans ?_, e2.trans ?_, ea⟩
  · rw [Cert.AttnBwdRefIdeal.Read.val_main_v64_eq, a0, a1, a2, a3]; exact (first_eq m c (hQ c) (hK c) (hV c) (hG c)).symm
  · rw [Cert.AttnBwdRefIdeal.Read.val_main_v63_eq, a0, a1, a2, a3]; exact (second_eq m c (hQ c) (hK c) (hV c) (hG c)).symm
  · rw [Cert.AttnBwdRefIdeal.Read.val_main_v44_eq, a0, a1, a3]; exact (third_eq m c (hQ c) (hK c)).symm

end Cert.AttnBwdIdeal.Hand

end
-- ==== Proof.lean ====
/- The claims, assembled: each program's run leaves its arguments unchanged and every counter at zero (the generated frames),
   and the kernel's results equal the reference's. -/
module

public import proofs.«01_k».proof.Defs
public import proofs.«01_k».proof.Proof.Gen.XattnIdeal.Value
public import proofs.«01_k».proof.Proof.Gen.XattnRefIdeal.Run
public import proofs.«01_k».proof.Proof.Gen.XattnRefIdeal.Read
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.Pre_finite
public import proofs.«01_k».proof.Proof.Gen.Pre_finite_memory
public import proofs.«01_k».proof.Proof.Gen.Pre_finite_attn
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwSquare
public import proofs.«01_k».proof.Proof.Gen.DwSquare.Skeleton
public import proofs.«01_k».proof.Proof.Gen.DwSquare.Launch
public import proofs.«01_k».proof.Proof.Gen.DwSquare.Points
public import proofs.«01_k».proof.Proof.Gen.DwSquare.Frame
public import proofs.«01_k».proof.Proof.Gen.DwSquareIdeal
public import proofs.«01_k».proof.Proof.Gen.DwSquareIdeal.Skeleton
public import proofs.«01_k».proof.Proof.Gen.DwSquareIdeal.Launch
public import proofs.«01_k».proof.Proof.Gen.DwSquareIdeal.Points
public import proofs.«01_k».proof.Proof.Gen.DwSquareIdeal.Frame
public import proofs.«01_k».proof.Proof.Gen.DwSquareIdeal.Value
public import proofs.«01_k».proof.Proof.Gen.DwSquareRefIdeal
public import proofs.«01_k».proof.Proof.Gen.DwSquareRefIdeal.Run
public import proofs.«01_k».proof.Proof.Gen.DwSquareRefIdeal.Read
public import proofs.«01_k».proof.Proof.Gen.DwXkv
public import proofs.«01_k».proof.Proof.Gen.DwXkv.Skeleton
public import proofs.«01_k».proof.Proof.Gen.DwXkv.Launch
public import proofs.«01_k».proof.Proof.Gen.DwXkv.Points
public import proofs.«01_k».proof.Proof.Gen.DwXkv.Frame
public import proofs.«01_k».proof.Proof.Gen.DwXkvIdeal
public import proofs.«01_k».proof.Proof.Gen.DwXkvIdeal.Skeleton
public import proofs.«01_k».proof.Proof.Gen.DwXkvIdeal.Launch
public import proofs.«01_k».proof.Proof.Gen.DwXkvIdeal.Points
public import proofs.«01_k».proof.Proof.Gen.DwXkvIdeal.Frame
public import proofs.«01_k».proof.Proof.Gen.DwXkvIdeal.Value
public import proofs.«01_k».proof.Proof.Gen.DwXkvRefIdeal
public import proofs.«01_k».proof.Proof.Gen.DwXkvRefIdeal.Run
public import proofs.«01_k».proof.Proof.Gen.DwXkvRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.Gen.UpBwdRefIdeal.Read
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.XqBwd
public import proofs.«01_k».proof.Proof.Gen.XqBwd.Skeleton
public import proofs.«01_k».proof.Proof.Gen.XqBwd.Launch
public import proofs.«01_k».proof.Proof.Gen.XqBwd.Points
public import proofs.«01_k».proof.Proof.Gen.XqBwd.Frame
public import proofs.«01_k».proof.Proof.Gen.XqBwdIdeal
public import proofs.«01_k».proof.Proof.Gen.XqBwdIdeal.Skeleton
public import proofs.«01_k».proof.Proof.Gen.XqBwdIdeal.Launch
public import proofs.«01_k».proof.Proof.Gen.XqBwdIdeal.Points
public import proofs.«01_k».proof.Proof.Gen.XqBwdIdeal.Frame
public import proofs.«01_k».proof.Proof.Gen.XqBwdIdeal.Value
public import proofs.«01_k».proof.Proof.Gen.XqBwdRefIdeal
public import proofs.«01_k».proof.Proof.Gen.XqBwdRefIdeal.Run
public import proofs.«01_k».proof.Proof.Gen.XqBwdRefIdeal.Read
public import proofs.«01_k».proof.Proof.Gen.XkvBwd
public import proofs.«01_k».proof.Proof.Gen.XkvBwd.Skeleton
public import proofs.«01_k».proof.Proof.Gen.XkvBwd.Launch
public import proofs.«01_k».proof.Proof.Gen.XkvBwd.Points
public import proofs.«01_k».proof.Proof.Gen.XkvBwd.Frame
public import proofs.«01_k».proof.Proof.Gen.XkvBwdIdeal
public import proofs.«01_k».proof.Proof.Gen.XkvBwdIdeal.Skeleton
public import proofs.«01_k».proof.Proof.Gen.XkvBwdIdeal.Launch
public import proofs.«01_k».proof.Proof.Gen.XkvBwdIdeal.Points
public import proofs.«01_k».proof.Proof.Gen.XkvBwdIdeal.Frame
public import proofs.«01_k».proof.Proof.Gen.XkvBwdIdeal.Value
public import proofs.«01_k».proof.Proof.Gen.XkvBwdRefIdeal
public import proofs.«01_k».proof.Proof.Gen.XkvBwdRefIdeal.Run
public import proofs.«01_k».proof.Proof.Gen.XkvBwdRefIdeal.Read
public import proofs.«01_k».proof.Proof.Gen.DownBwd
public import proofs.«01_k».proof.Proof.Gen.DownBwd.Skeleton
public import proofs.«01_k».proof.Proof.Gen.DownBwd.Launch
public import proofs.«01_k».proof.Proof.Gen.DownBwd.Points
public import proofs.«01_k».proof.Proof.Gen.DownBwd.Frame
public import proofs.«01_k».proof.Proof.Gen.DownBwdIdeal
public import proofs.«01_k».proof.Proof.Gen.DownBwdIdeal.Skeleton
public import proofs.«01_k».proof.Proof.Gen.DownBwdIdeal.Launch
public import proofs.«01_k».proof.Proof.Gen.DownBwdIdeal.Points
public import proofs.«01_k».proof.Proof.Gen.DownBwdIdeal.Frame
public import proofs.«01_k».proof.Proof.Gen.DownBwdIdeal.Value
public import proofs.«01_k».proof.Proof.Gen.DownBwdRefIdeal
public import proofs.«01_k».proof.Proof.Gen.DownBwdRefIdeal.Run
public import proofs.«01_k».proof.Proof.Gen.DownBwdRefIdeal.Read
public import proofs.«01_k».proof.Proof.Gen.SquareBwd
public import proofs.«01_k».proof.Proof.Gen.SquareBwd.Skeleton
public import proofs.«01_k».proof.Proof.Gen.SquareBwd.Launch
public import proofs.«01_k».proof.Proof.Gen.SquareBwd.Points
public import proofs.«01_k».proof.Proof.Gen.SquareBwd.Frame
public import proofs.«01_k».proof.Proof.Gen.SquareBwdIdeal
public import proofs.«01_k».proof.Proof.Gen.SquareBwdIdeal.Skeleton
public import proofs.«01_k».proof.Proof.Gen.SquareBwdIdeal.Launch
public import proofs.«01_k».proof.Proof.Gen.SquareBwdIdeal.Points
public import proofs.«01_k».proof.Proof.Gen.SquareBwdIdeal.Frame
public import proofs.«01_k».proof.Proof.Gen.SquareBwdIdeal.Value
public import proofs.«01_k».proof.Proof.Gen.SquareBwdRefIdeal
public import proofs.«01_k».proof.Proof.Gen.SquareBwdRefIdeal.Run
public import proofs.«01_k».proof.Proof.Gen.SquareBwdRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjIdeal.Value
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Gen.XqProj
public import proofs.«01_k».proof.Proof.Gen.XqProj.Skeleton
public import proofs.«01_k».proof.Proof.Gen.XqProj.Launch
public import proofs.«01_k».proof.Proof.Gen.XqProj.Points
public import proofs.«01_k».proof.Proof.Gen.XqProj.Frame
public import proofs.«01_k».proof.Proof.Gen.XqProjIdeal
public import proofs.«01_k».proof.Proof.Gen.XqProjIdeal.Skeleton
public import proofs.«01_k».proof.Proof.Gen.XqProjIdeal.Launch
public import proofs.«01_k».proof.Proof.Gen.XqProjIdeal.Points
public import proofs.«01_k».proof.Proof.Gen.XqProjIdeal.Frame
public import proofs.«01_k».proof.Proof.Gen.XqProjIdeal.Value
public import proofs.«01_k».proof.Proof.Gen.XqProjRefIdeal
public import proofs.«01_k».proof.Proof.Gen.XqProjRefIdeal.Run
public import proofs.«01_k».proof.Proof.Gen.XqProjRefIdeal.Read
public import proofs.«01_k».proof.Proof.Gen.XkvProj
public import proofs.«01_k».proof.Proof.Gen.XkvProj.Skeleton
public import proofs.«01_k».proof.Proof.Gen.XkvProj.Launch
public import proofs.«01_k».proof.Proof.Gen.XkvProj.Points
public import proofs.«01_k».proof.Proof.Gen.XkvProj.Frame
public import proofs.«01_k».proof.Proof.Gen.XkvProjIdeal
public import proofs.«01_k».proof.Proof.Gen.XkvProjIdeal.Skeleton
public import proofs.«01_k».proof.Proof.Gen.XkvProjIdeal.Launch
public import proofs.«01_k».proof.Proof.Gen.XkvProjIdeal.Points
public import proofs.«01_k».proof.Proof.Gen.XkvProjIdeal.Frame
public import proofs.«01_k».proof.Proof.Gen.XkvProjIdeal.Value
public import proofs.«01_k».proof.Proof.Gen.XkvProjRefIdeal
public import proofs.«01_k».proof.Proof.Gen.XkvProjRefIdeal.Run
public import proofs.«01_k».proof.Proof.Gen.XkvProjRefIdeal.Read
public import proofs.«01_k».proof.Proof.Gen.XoProj
public import proofs.«01_k».proof.Proof.Gen.XoProj.Skeleton
public import proofs.«01_k».proof.Proof.Gen.XoProj.Launch
public import proofs.«01_k».proof.Proof.Gen.XoProj.Points
public import proofs.«01_k».proof.Proof.Gen.XoProj.Frame
public import proofs.«01_k».proof.Proof.Gen.XoProjIdeal
public import proofs.«01_k».proof.Proof.Gen.XoProjIdeal.Skeleton
public import proofs.«01_k».proof.Proof.Gen.XoProjIdeal.Launch
public import proofs.«01_k».proof.Proof.Gen.XoProjIdeal.Points
public import proofs.«01_k».proof.Proof.Gen.XoProjIdeal.Frame
public import proofs.«01_k».proof.Proof.Gen.XoProjIdeal.Value
public import proofs.«01_k».proof.Proof.Gen.XoProjRefIdeal
public import proofs.«01_k».proof.Proof.Gen.XoProjRefIdeal.Run
public import proofs.«01_k».proof.Proof.Gen.XoProjRefIdeal.Read
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.DownProjRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.XattnFwd
public import proofs.«01_k».proof.Proof.Gen.XattnFwd.Skeleton
public import proofs.«01_k».proof.Proof.Gen.XattnFwd.Launch
public import proofs.«01_k».proof.Proof.Gen.XattnFwd.Points
public import proofs.«01_k».proof.Proof.Gen.XattnFwd.Frame
public import proofs.«01_k».proof.Proof.Gen.XattnFwdIdeal
public import proofs.«01_k».proof.Proof.Gen.XattnFwdIdeal.Skeleton
public import proofs.«01_k».proof.Proof.Gen.XattnFwdIdeal.Launch
public import proofs.«01_k».proof.Proof.Gen.XattnFwdIdeal.Points
public import proofs.«01_k».proof.Proof.Gen.XattnFwdIdeal.Frame
public import proofs.«01_k».proof.Proof.Gen.XattnFwdIdeal.Value
public import proofs.«01_k».proof.Proof.Gen.XattnFwdRefIdeal
public import proofs.«01_k».proof.Proof.Gen.XattnFwdRefIdeal.Run
public import proofs.«01_k».proof.Proof.Gen.XattnFwdRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.XattnClaim
public import proofs.«01_k».proof.Proof.DwDown
public import proofs.«01_k».proof.Proof.DwUp
public import proofs.«01_k».proof.Proof.DwSquare
public import proofs.«01_k».proof.Proof.DwXkv
public import proofs.«01_k».proof.Proof.DwIn
public import proofs.«01_k».proof.Proof.UpBwd
public import proofs.«01_k».proof.Proof.InBwd
public import proofs.«01_k».proof.Proof.XqBwd
public import proofs.«01_k».proof.Proof.XkvBwd
public import proofs.«01_k».proof.Proof.DownBwd
public import proofs.«01_k».proof.Proof.SquareBwd
public import proofs.«01_k».proof.Proof.InProj
public import proofs.«01_k».proof.Proof.UpProj
public import proofs.«01_k».proof.Proof.XqProj
public import proofs.«01_k».proof.Proof.XkvProj
public import proofs.«01_k».proof.Proof.XoProj
public import proofs.«01_k».proof.Proof.DownProj
public import proofs.«01_k».proof.Proof.MixOut
public import proofs.«01_k».proof.Proof.XattnFwd
public import proofs.«01_k».proof.Proof.AttnBwd
public import Idealize.ShloMosaic.Adequacy
public import Idealize.ShloMosaic.Init

@[expose] public section

noncomputable section

namespace Cert.Proof

open Idealize.ShloMosaic Idealize.SL.Sem

/-- The reference is host operations only and has no semaphore. -/
theorem frame_XattnRefIdeal : Cert.quiescent_XattnRefIdeal := fun m ρ _ =>
  (θ_run _ _ _).mono (fun r h => ⟨fun c => (h c).2.2, sem_eq_zero_of_no_sems rfl r.2⟩) (Cert.XattnRefIdeal.Value.run (F := Ideal) m ρ)

/-- The reference is host operations only and has no semaphore. -/
theorem frame_XattnFwdRefIdeal : Cert.quiescent_XattnFwdRefIdeal := fun m ρ _ =>
  (θ_run _ _ _).mono (fun r h => ⟨fun c => (h c).2, sem_eq_zero_of_no_sems rfl r.2⟩) (Cert.XattnFwdRefIdeal.Value.run (F := Ideal) m ρ)

/-- The reference is host operations only and has no semaphore. -/
theorem frame_AttnBwdRefIdeal : Cert.quiescent_AttnBwdRefIdeal := fun m ρ _ =>
  (θ_run _ _ _).mono (fun r h => ⟨fun c => (h c).2.2.2, sem_eq_zero_of_no_sems rfl r.2⟩) (Cert.AttnBwdRefIdeal.Value.run (F := Ideal) m ρ)

/-- The reference is host operations only and has no semaphore. -/
theorem frame_DwDownRefIdeal : Cert.quiescent_DwDownRefIdeal := fun m ρ _ =>
  (θ_run _ _ _).mono (fun r h => ⟨fun c => (h c).2, sem_eq_zero_of_no_sems rfl r.2⟩) (Cert.DwDownRefIdeal.Value.run (F := Ideal) m ρ)

/-- The reference is host operations only and has no semaphore. -/
theorem frame_DwUpRefIdeal : Cert.quiescent_DwUpRefIdeal := fun m ρ _ =>
  (θ_run _ _ _).mono (fun r h => ⟨fun c => (h c).2, sem_eq_zero_of_no_sems rfl r.2⟩) (Cert.DwUpRefIdeal.Value.run (F := Ideal) m ρ)

/-- The reference is host operations only and has no semaphore. -/
theorem frame_DwSquareRefIdeal : Cert.quiescent_DwSquareRefIdeal := fun m ρ _ =>
  (θ_run _ _ _).mono (fun r h => ⟨fun c => (h c).2, sem_eq_zero_of_no_sems rfl r.2⟩) (Cert.DwSquareRefIdeal.Value.run (F := Ideal) m ρ)

/-- The reference is host operations only and has no semaphore. -/
theorem frame_DwXkvRefIdeal : Cert.quiescent_DwXkvRefIdeal := fun m ρ _ =>
  (θ_run _ _ _).mono (fun r h => ⟨fun c => (h c).2, sem_eq_zero_of_no_sems rfl r.2⟩) (Cert.DwXkvRefIdeal.Value.run (F := Ideal) m ρ)

/-- The reference is host operations only and has no semaphore. -/
theorem frame_DwInRefIdeal : Cert.quiescent_DwInRefIdeal := fun m ρ _ =>
  (θ_run _ _ _).mono (fun r h => ⟨fun c => (h c).2, sem_eq_zero_of_no_sems rfl r.2⟩) (Cert.DwInRefIdeal.Value.run (F := Ideal) m ρ)

/-- The reference is host operations only and has no semaphore. -/
theorem frame_UpBwdRefIdeal : Cert.quiescent_UpBwdRefIdeal := fun m ρ _ =>
  (θ_run _ _ _).mono (fun r h => ⟨fun c => (h c).2.2, sem_eq_zero_of_no_sems rfl r.2⟩) (Cert.UpBwdRefIdeal.Value.run (F := Ideal) m ρ)

/-- The reference is host operations only and has no semaphore. -/
theorem frame_InBwdRefIdeal : Cert.quiescent_InBwdRefIdeal := fun m ρ _ =>
  (θ_run _ _ _).mono (fun r h => ⟨fun c => (h c).2.2, sem_eq_zero_of_no_sems rfl r.2⟩) (Cert.InBwdRefIdeal.Value.run (F := Ideal) m ρ)

/-- The reference is host operations only and has no semaphore. -/
theorem frame_XqBwdRefIdeal : Cert.quiescent_XqBwdRefIdeal := fun m ρ _ =>
  (θ_run _ _ _).mono (fun r h => ⟨fun c => (h c).2.2, sem_eq_zero_of_no_sems rfl r.2⟩) (Cert.XqBwdRefIdeal.Value.run (F := Ideal) m ρ)

/-- The reference is host operations only and has no semaphore. -/
theorem frame_XkvBwdRefIdeal : Cert.quiescent_XkvBwdRefIdeal := fun m ρ _ =>
  (θ_run _ _ _).mono (fun r h => ⟨fun c => (h c).2, sem_eq_zero_of_no_sems rfl r.2⟩) (Cert.XkvBwdRefIdeal.Value.run (F := Ideal) m ρ)

/-- The reference is host operations only and has no semaphore. -/
theorem frame_DownBwdRefIdeal : Cert.quiescent_DownBwdRefIdeal := fun m ρ _ =>
  (θ_run _ _ _).mono (fun r h => ⟨fun c => (h c).2.2.2, sem_eq_zero_of_no_sems rfl r.2⟩) (Cert.DownBwdRefIdeal.Value.run (F := Ideal) m ρ)

/-- The reference is host operations only and has no semaphore. -/
theorem frame_SquareBwdRefIdeal : Cert.quiescent_SquareBwdRefIdeal := fun m ρ _ =>
  (θ_run _ _ _).mono (fun r h => ⟨fun c => (h c).2.2.2, sem_eq_zero_of_no_sems rfl r.2⟩) (Cert.SquareBwdRefIdeal.Value.run (F := Ideal) m ρ)

/-- The reference is host operations only and has no semaphore. -/
theorem frame_InProjRefIdeal : Cert.quiescent_InProjRefIdeal := fun m ρ _ =>
  (θ_run _ _ _).mono (fun r h => ⟨fun c => (h c).2.2, sem_eq_zero_of_no_sems rfl r.2⟩) (Cert.InProjRefIdeal.Value.run (F := Ideal) m ρ)

/-- The reference is host operations only and has no semaphore. -/
theorem frame_UpProjRefIdeal : Cert.quiescent_UpProjRefIdeal := fun m ρ _ =>
  (θ_run _ _ _).mono (fun r h => ⟨fun c => (h c).2.2, sem_eq_zero_of_no_sems rfl r.2⟩) (Cert.UpProjRefIdeal.Value.run (F := Ideal) m ρ)

/-- The reference is host operations only and has no semaphore. -/
theorem frame_XqProjRefIdeal : Cert.quiescent_XqProjRefIdeal := fun m ρ _ =>
  (θ_run _ _ _).mono (fun r h => ⟨fun c => (h c).2.2, sem_eq_zero_of_no_sems rfl r.2⟩) (Cert.XqProjRefIdeal.Value.run (F := Ideal) m ρ)

/-- The reference is host operations only and has no semaphore. -/
theorem frame_XkvProjRefIdeal : Cert.quiescent_XkvProjRefIdeal := fun m ρ _ =>
  (θ_run _ _ _).mono (fun r h => ⟨fun c => (h c).2.2, sem_eq_zero_of_no_sems rfl r.2⟩) (Cert.XkvProjRefIdeal.Value.run (F := Ideal) m ρ)

/-- The reference is host operations only and has no semaphore. -/
theorem frame_XoProjRefIdeal : Cert.quiescent_XoProjRefIdeal := fun m ρ _ =>
  (θ_run _ _ _).mono (fun r h => ⟨fun c => (h c).2.2, sem_eq_zero_of_no_sems rfl r.2⟩) (Cert.XoProjRefIdeal.Value.run (F := Ideal) m ρ)

/-- The reference is host operations only and has no semaphore. -/
theorem frame_DownProjRefIdeal : Cert.quiescent_DownProjRefIdeal := fun m ρ _ =>
  (θ_run _ _ _).mono (fun r h => ⟨fun c => (h c).2.2.2, sem_eq_zero_of_no_sems rfl r.2⟩) (Cert.DownProjRefIdeal.Value.run (F := Ideal) m ρ)

/-- The reference is host operations only and has no semaphore. -/
theorem frame_MixOutRefIdeal : Cert.quiescent_MixOutRefIdeal := fun m ρ _ =>
  (θ_run _ _ _).mono (fun r h => ⟨fun c => (h c).2.2.2, sem_eq_zero_of_no_sems rfl r.2⟩) (Cert.MixOutRefIdeal.Value.run (F := Ideal) m ρ)

theorem claim : Cert.Claim :=
  ⟨Cert.Xattn.Gen.facts, Cert.XattnIdeal.Gen.facts, Cert.XattnRefIdeal.Gen.facts, Cert.XattnFwd.Gen.facts, Cert.XattnFwdIdeal.Gen.facts, Cert.XattnFwdRefIdeal.Gen.facts, Cert.AttnBwd.Gen.facts, Cert.AttnBwdIdeal.Gen.facts, Cert.AttnBwdRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DwSquare.Gen.facts, Cert.DwSquareIdeal.Gen.facts, Cert.DwSquareRefIdeal.Gen.facts, Cert.DwXkv.Gen.facts, Cert.DwXkvIdeal.Gen.facts, Cert.DwXkvRefIdeal.Gen.facts, Cert.DwIn.Gen.facts, Cert.DwInIdeal.Gen.facts, Cert.DwInRefIdeal.Gen.facts, Cert.UpBwd.Gen.facts, Cert.UpBwdIdeal.Gen.facts, Cert.UpBwdRefIdeal.Gen.facts, Cert.InBwd.Gen.facts, Cert.InBwdIdeal.Gen.facts, Cert.InBwdRefIdeal.Gen.facts, Cert.XqBwd.Gen.facts, Cert.XqBwdIdeal.Gen.facts, Cert.XqBwdRefIdeal.Gen.facts, Cert.XkvBwd.Gen.facts, Cert.XkvBwdIdeal.Gen.facts, Cert.XkvBwdRefIdeal.Gen.facts, Cert.DownBwd.Gen.facts, Cert.DownBwdIdeal.Gen.facts, Cert.DownBwdRefIdeal.Gen.facts, Cert.SquareBwd.Gen.facts, Cert.SquareBwdIdeal.Gen.facts, Cert.SquareBwdRefIdeal.Gen.facts, Cert.InProj.Gen.facts, Cert.InProjIdeal.Gen.facts, Cert.InProjRefIdeal.Gen.facts, Cert.UpProj.Gen.facts, Cert.UpProjIdeal.Gen.facts, Cert.UpProjRefIdeal.Gen.facts, Cert.XqProj.Gen.facts, Cert.XqProjIdeal.Gen.facts, Cert.XqProjRefIdeal.Gen.facts, Cert.XkvProj.Gen.facts, Cert.XkvProjIdeal.Gen.facts, Cert.XkvProjRefIdeal.Gen.facts, Cert.XoProj.Gen.facts, Cert.XoProjIdeal.Gen.facts, Cert.XoProjRefIdeal.Gen.facts, Cert.DownProj.Gen.facts, Cert.DownProjIdeal.Gen.facts, Cert.DownProjRefIdeal.Gen.facts, Cert.MixOut.Gen.facts, Cert.MixOutIdeal.Gen.facts, Cert.MixOutRefIdeal.Gen.facts, Cert.Pre_finite.Gen.facts, Cert.Pre_finite_memory.Gen.facts, Cert.Pre_finite_attn.Gen.facts,
    fun m ρ _ => Cert.Xattn.Gen.frame m ρ,
    fun m ρ _ => Cert.XattnIdeal.Gen.frame m ρ,
    fun m ρ _ => Cert.XattnIdeal.Gen.frame m ρ,
    frame_XattnRefIdeal,
    fun m ρ _ => frame_XattnRefIdeal m ρ trivial,
    fun m ρ _ => Cert.XattnFwd.Gen.frame m ρ,
    fun m ρ _ => Cert.XattnFwdIdeal.Gen.frame m ρ,
    fun m ρ _ => Cert.XattnFwdIdeal.Gen.frame m ρ,
    frame_XattnFwdRefIdeal,
    fun m ρ _ => frame_XattnFwdRefIdeal m ρ trivial,
    fun m ρ _ => Cert.AttnBwd.Gen.frame m ρ,
    fun m ρ _ => Cert.AttnBwdIdeal.Gen.frame m ρ,
    fun m ρ _ => Cert.AttnBwdIdeal.Gen.frame m ρ,
    frame_AttnBwdRefIdeal,
    fun m ρ _ => frame_AttnBwdRefIdeal m ρ trivial,
    fun m ρ _ => Cert.DwDown.Gen.frame m ρ,
    fun m ρ _ => Cert.DwDownIdeal.Gen.frame m ρ,
    frame_DwDownRefIdeal,
    fun m ρ _ => Cert.DwUp.Gen.frame m ρ,
    fun m ρ _ => Cert.DwUpIdeal.Gen.frame m ρ,
    frame_DwUpRefIdeal,
    fun m ρ _ => Cert.DwSquare.Gen.frame m ρ,
    fun m ρ _ => Cert.DwSquareIdeal.Gen.frame m ρ,
    frame_DwSquareRefIdeal,
    fun m ρ _ => Cert.DwXkv.Gen.frame m ρ,
    fun m ρ _ => Cert.DwXkvIdeal.Gen.frame m ρ,
    frame_DwXkvRefIdeal,
    fun m ρ _ => Cert.DwIn.Gen.frame m ρ,
    fun m ρ _ => Cert.DwInIdeal.Gen.frame m ρ,
    frame_DwInRefIdeal,
    fun m ρ _ => Cert.UpBwd.Gen.frame m ρ,
    fun m ρ _ => Cert.UpBwdIdeal.Gen.frame m ρ,
    frame_UpBwdRefIdeal,
    fun m ρ _ => Cert.InBwd.Gen.frame m ρ,
    fun m ρ _ => Cert.InBwdIdeal.Gen.frame m ρ,
    frame_InBwdRefIdeal,
    fun m ρ _ => Cert.XqBwd.Gen.frame m ρ,
    fun m ρ _ => Cert.XqBwdIdeal.Gen.frame m ρ,
    frame_XqBwdRefIdeal,
    fun m ρ _ => Cert.XkvBwd.Gen.frame m ρ,
    fun m ρ _ => Cert.XkvBwdIdeal.Gen.frame m ρ,
    frame_XkvBwdRefIdeal,
    fun m ρ _ => Cert.DownBwd.Gen.frame m ρ,
    fun m ρ _ => Cert.DownBwdIdeal.Gen.frame m ρ,
    frame_DownBwdRefIdeal,
    fun m ρ _ => Cert.SquareBwd.Gen.frame m ρ,
    fun m ρ _ => Cert.SquareBwdIdeal.Gen.frame m ρ,
    frame_SquareBwdRefIdeal,
    fun m ρ _ => Cert.InProj.Gen.frame m ρ,
    fun m ρ _ => Cert.InProjIdeal.Gen.frame m ρ,
    frame_InProjRefIdeal,
    fun m ρ _ => Cert.UpProj.Gen.frame m ρ,
    fun m ρ _ => Cert.UpProjIdeal.Gen.frame m ρ,
    frame_UpProjRefIdeal,
    fun m ρ _ => Cert.XqProj.Gen.frame m ρ,
    fun m ρ _ => Cert.XqProjIdeal.Gen.frame m ρ,
    frame_XqProjRefIdeal,
    fun m ρ _ => Cert.XkvProj.Gen.frame m ρ,
    fun m ρ _ => Cert.XkvProjIdeal.Gen.frame m ρ,
    frame_XkvProjRefIdeal,
    fun m ρ _ => Cert.XoProj.Gen.frame m ρ,
    fun m ρ _ => Cert.XoProjIdeal.Gen.frame m ρ,
    frame_XoProjRefIdeal,
    fun m ρ _ => Cert.DownProj.Gen.frame m ρ,
    fun m ρ _ => Cert.DownProjIdeal.Gen.frame m ρ,
    frame_DownProjRefIdeal,
    fun m ρ _ => Cert.MixOut.Gen.frame m ρ,
    fun m ρ _ => Cert.MixOutIdeal.Gen.frame m ρ,
    frame_MixOutRefIdeal,
    trivial,
    Cert.XattnIdeal.Hand.algebraic,
    trivial,
    Cert.XattnFwdIdeal.Hand.algebraic,
    trivial,
    Cert.AttnBwdIdeal.Hand.algebraic,
    trivial,
    Cert.DwDownIdeal.Hand.algebraic,
    trivial,
    Cert.DwUpIdeal.Hand.algebraic,
    trivial,
    Cert.DwSquareIdeal.Hand.algebraic,
    trivial,
    Cert.DwXkvIdeal.Hand.algebraic,
    trivial,
    Cert.DwInIdeal.Hand.algebraic,
    trivial,
    Cert.UpBwdIdeal.Hand.algebraic,
    trivial,
    Cert.InBwdIdeal.Hand.algebraic,
    trivial,
    Cert.XqBwdIdeal.Hand.algebraic,
    trivial,
    Cert.XkvBwdIdeal.Hand.algebraic,
    trivial,
    Cert.DownBwdIdeal.Hand.algebraic,
    trivial,
    Cert.SquareBwdIdeal.Hand.algebraic,
    trivial,
    Cert.InProjIdeal.Hand.algebraic,
    trivial,
    Cert.UpProjIdeal.Hand.algebraic,
    trivial,
    Cert.XqProjIdeal.Hand.algebraic,
    trivial,
    Cert.XkvProjIdeal.Hand.algebraic,
    trivial,
    Cert.XoProjIdeal.Hand.algebraic,
    trivial,
    Cert.DownProjIdeal.Hand.algebraic,
    trivial,
    Cert.MixOutIdeal.Hand.algebraic⟩

end Cert.Proof

end
